-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3)
      ∧ r.2.mem ((c.tc : Thread Cert.Kernel18.nD Cert.Kernel18.τ).loc Cert.Kernel18.main_arg4) = m ((c.tc : Thread Cert.Kernel18.nD Cert.Kernel18.τ).loc Cert.Kernel18.main_arg4))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
      ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3)
      ∧ r.2.mem ((c.tc : Thread Cert.Reference18Ideal.nD Cert.Reference18Ideal.τ).loc Cert.Reference18Ideal.main_arg4) = m ((c.tc : Thread Cert.Reference18Ideal.nD Cert.Reference18Ideal.τ).loc Cert.Reference18Ideal.main_arg4))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3)
      ∧ r.2.mem ((c.tc : Thread Cert.Kernel19.nD Cert.Kernel19.τ).loc Cert.Kernel19.main_arg4) = m ((c.tc : Thread Cert.Kernel19.nD Cert.Kernel19.τ).loc Cert.Kernel19.main_arg4))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
      ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3)
      ∧ r.2.mem ((c.tc : Thread Cert.Reference19Ideal.nD Cert.Reference19Ideal.τ).loc Cert.Reference19Ideal.main_arg4) = m ((c.tc : Thread Cert.Reference19Ideal.nD Cert.Reference19Ideal.τ).loc Cert.Reference19Ideal.main_arg4))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3)
      ∧ r.2.mem ((c.tc : Thread Cert.Kernel21.nD Cert.Kernel21.τ).loc Cert.Kernel21.main_arg4) = m ((c.tc : Thread Cert.Kernel21.nD Cert.Kernel21.τ).loc Cert.Kernel21.main_arg4))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3)
      ∧ r.2.mem ((c.tc : Thread Cert.Kernel21Ideal.nD Cert.Kernel21Ideal.τ).loc Cert.Kernel21Ideal.main_arg4) = m ((c.tc : Thread Cert.Kernel21Ideal.nD Cert.Kernel21Ideal.τ).loc Cert.Kernel21Ideal.main_arg4))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3)
      ∧ r.2.mem ((c.tc : Thread Cert.Reference21Ideal.nD Cert.Reference21Ideal.τ).loc Cert.Reference21Ideal.main_arg4) = m ((c.tc : Thread Cert.Reference21Ideal.nD Cert.Reference21Ideal.τ).loc Cert.Reference21Ideal.main_arg4))
      ∧ r.2.sem = fun _ => 0)

def preserves_Kernel_KernelIdeal : Prop :=
  IdealRules.named_const.Statement Cert.KernelIdeal.κ "gelu_cubic" .f32 0x3D372713#32 ((8943 / 200000 : ℝ) : EReal)
  ∧ IdealRules.named_const.Statement Cert.KernelIdeal.κ "gelu_cubic_slope" .f32 0x3E095D4F#32 ((26829 / 200000 : ℝ) : EReal)

def algebraic_KernelIdeal_ReferenceIdeal_on_gmlp_columns_pre_finite [hKernelIdeal : Cert.KernelIdeal.Facts] [hReferenceIdeal : Cert.ReferenceIdeal.Facts] [hPre_finite : Cert.Pre_finite.Facts] [hOn_gmlp_columns : Cert.On_gmlp_columns.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![4096, 3200]⟩ : Shape).Idx, (Cert.On_gmlp_columns.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 i = 1#1 → r.2.mem ((c.tc : Thread Cert.KernelIdeal.nD Cert.KernelIdeal.τ).loc Cert.KernelIdeal.main_v0_0) i = v0 c i)
          ∧ (∀ i : (⟨2, ![1, 512]⟩ : Shape).Idx, (Cert.On_gmlp_columns.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 i = 1#1 → r.2.mem ((c.tc : Thread Cert.KernelIdeal.nD Cert.KernelIdeal.τ).loc Cert.KernelIdeal.main_v0_1) i = v1 c i)
          ∧ (∀ i : (⟨3, ![4, 128, 128]⟩ : Shape).Idx, (Cert.On_gmlp_columns.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 i = 1#1 → r.2.mem ((c.tc : Thread Cert.KernelIdeal.nD Cert.KernelIdeal.τ).loc Cert.KernelIdeal.main_v0_2) i = v2 c i)
          ∧ (∀ i : (⟨2, ![128, 128]⟩ : Shape).Idx, (Cert.On_gmlp_columns.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2 i = 1#1 → r.2.mem ((c.tc : Thread Cert.KernelIdeal.nD Cert.KernelIdeal.τ).loc Cert.KernelIdeal.main_v0_3) i = v3 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![4096, 3200]⟩ : Shape).Idx, (Cert.On_gmlp_columns.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 i = 1#1 → r.2.mem ((c.tc : Thread Cert.ReferenceIdeal.nD Cert.ReferenceIdeal.τ).loc Cert.ReferenceIdeal.main_v158) i = v0 c i)
          ∧ (∀ i : (⟨2, ![1, 512]⟩ : Shape).Idx, (Cert.On_gmlp_columns.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 i = 1#1 → r.2.mem ((c.tc : Thread Cert.ReferenceIdeal.nD Cert.ReferenceIdeal.τ).loc Cert.ReferenceIdeal.main_v159) i = v1 c i)
          ∧ (∀ i : (⟨3, ![4, 128, 128]⟩ : Shape).Idx, (Cert.On_gmlp_columns.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 i = 1#1 → r.2.mem ((c.tc : Thread Cert.ReferenceIdeal.nD Cert.ReferenceIdeal.τ).loc Cert.ReferenceIdeal.main_v103) i = v2 c i)
          ∧ (∀ i : (⟨2, ![128, 128]⟩ : Shape).Idx, (Cert.On_gmlp_columns.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2 i = 1#1 → r.2.mem ((c.tc : Thread Cert.ReferenceIdeal.nD Cert.ReferenceIdeal.τ).loc Cert.ReferenceIdeal.main_v161) i = v3 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v6) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v7) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v8) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v6) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v7) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v8) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)) →
    ∃ (v0 : (c : Dev Cert.Kernel8Ideal.nD) → Buf (Elt Ideal) ((c.tc : Thread Cert.Kernel8Ideal.nD Cert.Kernel8Ideal.τ).loc Cert.Kernel8Ideal.main_v8_0)) (v1 : (c : Dev Cert.Kernel8Ideal.nD) → Buf (Elt Ideal) ((c.tc : Thread Cert.Kernel8Ideal.nD Cert.Kernel8Ideal.τ).loc Cert.Kernel8Ideal.main_v8_1)) (v2 : (c : Dev Cert.Kernel8Ideal.nD) → Buf (Elt Ideal) ((c.tc : Thread Cert.Kernel8Ideal.nD Cert.Kernel8Ideal.τ).loc Cert.Kernel8Ideal.main_v8_2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v8_0) = v0 c
          ∧ r.2.mem ((c.tc : Thread Cert.Kernel8Ideal.nD Cert.Kernel8Ideal.τ).loc Cert.Kernel8Ideal.main_v8_1) = v1 c
          ∧ r.2.mem ((c.tc : Thread Cert.Kernel8Ideal.nD Cert.Kernel8Ideal.τ).loc Cert.Kernel8Ideal.main_v8_2) = v2 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v39) = v0 c
          ∧ r.2.mem ((c.tc : Thread Cert.Reference8Ideal.nD Cert.Reference8Ideal.τ).loc Cert.Reference8Ideal.main_v41) = v1 c
          ∧ r.2.mem ((c.tc : Thread Cert.Reference8Ideal.nD Cert.Reference8Ideal.τ).loc Cert.Reference8Ideal.main_v22) = v2 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)) →
    ∃ (v0 : (c : Dev Cert.Kernel9Ideal.nD) → Buf (Elt Ideal) ((c.tc : Thread Cert.Kernel9Ideal.nD Cert.Kernel9Ideal.τ).loc Cert.Kernel9Ideal.main_v10_0)) (v1 : (c : Dev Cert.Kernel9Ideal.nD) → Buf (Elt Ideal) ((c.tc : Thread Cert.Kernel9Ideal.nD Cert.Kernel9Ideal.τ).loc Cert.Kernel9Ideal.main_v10_1)) (v2 : (c : Dev Cert.Kernel9Ideal.nD) → Buf (Elt Ideal) ((c.tc : Thread Cert.Kernel9Ideal.nD Cert.Kernel9Ideal.τ).loc Cert.Kernel9Ideal.main_v10_2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v10_0) = v0 c
          ∧ r.2.mem ((c.tc : Thread Cert.Kernel9Ideal.nD Cert.Kernel9Ideal.τ).loc Cert.Kernel9Ideal.main_v10_1) = v1 c
          ∧ r.2.mem ((c.tc : Thread Cert.Kernel9Ideal.nD Cert.Kernel9Ideal.τ).loc Cert.Kernel9Ideal.main_v10_2) = v2 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v40) = v0 c
          ∧ r.2.mem ((c.tc : Thread Cert.Reference9Ideal.nD Cert.Reference9Ideal.τ).loc Cert.Reference9Ideal.main_v42) = v1 c
          ∧ r.2.mem ((c.tc : Thread Cert.Reference9Ideal.nD Cert.Reference9Ideal.τ).loc Cert.Reference9Ideal.main_v23) = v2 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v2_0)) (v1 : (c : Dev Cert.Kernel10Ideal.nD) → Buf (Elt Ideal) ((c.tc : Thread Cert.Kernel10Ideal.nD Cert.Kernel10Ideal.τ).loc Cert.Kernel10Ideal.main_v2_1)) (v2 : (c : Dev Cert.Kernel10Ideal.nD) → Buf (Elt Ideal) ((c.tc : Thread Cert.Kernel10Ideal.nD Cert.Kernel10Ideal.τ).loc Cert.Kernel10Ideal.main_v2_2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v2_0) = v0 c
          ∧ r.2.mem ((c.tc : Thread Cert.Kernel10Ideal.nD Cert.Kernel10Ideal.τ).loc Cert.Kernel10Ideal.main_v2_1) = v1 c
          ∧ r.2.mem ((c.tc : Thread Cert.Kernel10Ideal.nD Cert.Kernel10Ideal.τ).loc Cert.Kernel10Ideal.main_v2_2) = v2 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v15) = v0 c
          ∧ r.2.mem ((c.tc : Thread Cert.Reference10Ideal.nD Cert.Reference10Ideal.τ).loc Cert.Reference10Ideal.main_v16) = v1 c
          ∧ r.2.mem ((c.tc : Thread Cert.Reference10Ideal.nD Cert.Reference10Ideal.τ).loc Cert.Reference10Ideal.main_v24) = v2 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v3) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)) →
    ∃ (v0 : (c : Dev Cert.Kernel12Ideal.nD) → Buf (Elt Ideal) ((c.tc : Thread Cert.Kernel12Ideal.nD Cert.Kernel12Ideal.τ).loc Cert.Kernel12Ideal.main_v0_0)) (v1 : (c : Dev Cert.Kernel12Ideal.nD) → Buf (Elt Ideal) ((c.tc : Thread Cert.Kernel12Ideal.nD Cert.Kernel12Ideal.τ).loc Cert.Kernel12Ideal.main_v0_1)) (v2 : (c : Dev Cert.Kernel12Ideal.nD) → Buf (Elt Ideal) ((c.tc : Thread Cert.Kernel12Ideal.nD Cert.Kernel12Ideal.τ).loc Cert.Kernel12Ideal.main_v0_2)) (v3 : (c : Dev Cert.Kernel12Ideal.nD) → Buf (Elt Ideal) ((c.tc : Thread Cert.Kernel12Ideal.nD Cert.Kernel12Ideal.τ).loc Cert.Kernel12Ideal.main_v0_3)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_0) = v0 c
          ∧ r.2.mem ((c.tc : Thread Cert.Kernel12Ideal.nD Cert.Kernel12Ideal.τ).loc Cert.Kernel12Ideal.main_v0_1) = v1 c
          ∧ r.2.mem ((c.tc : Thread Cert.Kernel12Ideal.nD Cert.Kernel12Ideal.τ).loc Cert.Kernel12Ideal.main_v0_2) = v2 c
          ∧ r.2.mem ((c.tc : Thread Cert.Kernel12Ideal.nD Cert.Kernel12Ideal.τ).loc Cert.Kernel12Ideal.main_v0_3) = v3 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v2) = v0 c
          ∧ r.2.mem ((c.tc : Thread Cert.Reference12Ideal.nD Cert.Reference12Ideal.τ).loc Cert.Reference12Ideal.main_v26) = v1 c
          ∧ r.2.mem ((c.tc : Thread Cert.Reference12Ideal.nD Cert.Reference12Ideal.τ).loc Cert.Reference12Ideal.main_v7) = v2 c
          ∧ r.2.mem ((c.tc : Thread Cert.Reference12Ideal.nD Cert.Reference12Ideal.τ).loc Cert.Reference12Ideal.main_v13) = v3 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)) →
    ∃ (v0 : (c : Dev Cert.Kernel13Ideal.nD) → Buf (Elt Ideal) ((c.tc : Thread Cert.Kernel13Ideal.nD Cert.Kernel13Ideal.τ).loc Cert.Kernel13Ideal.main_v0_0)) (v1 : (c : Dev Cert.Kernel13Ideal.nD) → Buf (Elt Ideal) ((c.tc : Thread Cert.Kernel13Ideal.nD Cert.Kernel13Ideal.τ).loc Cert.Kernel13Ideal.main_v0_1)) (v2 : (c : Dev Cert.Kernel13Ideal.nD) → Buf (Elt Ideal) ((c.tc : Thread Cert.Kernel13Ideal.nD Cert.Kernel13Ideal.τ).loc Cert.Kernel13Ideal.main_v0_2)) (v3 : (c : Dev Cert.Kernel13Ideal.nD) → Buf (Elt Ideal) ((c.tc : Thread Cert.Kernel13Ideal.nD Cert.Kernel13Ideal.τ).loc Cert.Kernel13Ideal.main_v0_3)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0_0) = v0 c
          ∧ r.2.mem ((c.tc : Thread Cert.Kernel13Ideal.nD Cert.Kernel13Ideal.τ).loc Cert.Kernel13Ideal.main_v0_1) = v1 c
          ∧ r.2.mem ((c.tc : Thread Cert.Kernel13Ideal.nD Cert.Kernel13Ideal.τ).loc Cert.Kernel13Ideal.main_v0_2) = v2 c
          ∧ r.2.mem ((c.tc : Thread Cert.Kernel13Ideal.nD Cert.Kernel13Ideal.τ).loc Cert.Kernel13Ideal.main_v0_3) = v3 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v2) = v0 c
          ∧ r.2.mem ((c.tc : Thread Cert.Reference13Ideal.nD Cert.Reference13Ideal.τ).loc Cert.Reference13Ideal.main_v26) = v1 c
          ∧ r.2.mem ((c.tc : Thread Cert.Reference13Ideal.nD Cert.Reference13Ideal.τ).loc Cert.Reference13Ideal.main_v7) = v2 c
          ∧ r.2.mem ((c.tc : Thread Cert.Reference13Ideal.nD Cert.Reference13Ideal.τ).loc Cert.Reference13Ideal.main_v13) = v3 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)) (v2 : (c : Dev Cert.Kernel14Ideal.nD) → Buf (Elt Ideal) ((c.tc : Thread Cert.Kernel14Ideal.nD Cert.Kernel14Ideal.τ).loc Cert.Kernel14Ideal.main_v0_2)) (v3 : (c : Dev Cert.Kernel14Ideal.nD) → Buf (Elt Ideal) ((c.tc : Thread Cert.Kernel14Ideal.nD Cert.Kernel14Ideal.τ).loc Cert.Kernel14Ideal.main_v0_3)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_v0_2) = v2 c
          ∧ r.2.mem ((c.tc : Thread Cert.Kernel14Ideal.nD Cert.Kernel14Ideal.τ).loc Cert.Kernel14Ideal.main_v0_3) = v3 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v2) = v0 c
          ∧ r.2.mem ((c.tc : Thread Cert.Reference14Ideal.nD Cert.Reference14Ideal.τ).loc Cert.Reference14Ideal.main_v26) = v1 c
          ∧ r.2.mem ((c.tc : Thread Cert.Reference14Ideal.nD Cert.Reference14Ideal.τ).loc Cert.Reference14Ideal.main_v7) = v2 c
          ∧ r.2.mem ((c.tc : Thread Cert.Reference14Ideal.nD Cert.Reference14Ideal.τ).loc Cert.Reference14Ideal.main_v13) = v3 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)) (v2 : (c : Dev Cert.Kernel15Ideal.nD) → Buf (Elt Ideal) ((c.tc : Thread Cert.Kernel15Ideal.nD Cert.Kernel15Ideal.τ).loc Cert.Kernel15Ideal.main_v0_2)) (v3 : (c : Dev Cert.Kernel15Ideal.nD) → Buf (Elt Ideal) ((c.tc : Thread Cert.Kernel15Ideal.nD Cert.Kernel15Ideal.τ).loc Cert.Kernel15Ideal.main_v0_3)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_v0_2) = v2 c
          ∧ r.2.mem ((c.tc : Thread Cert.Kernel15Ideal.nD Cert.Kernel15Ideal.τ).loc Cert.Kernel15Ideal.main_v0_3) = v3 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v2) = v0 c
          ∧ r.2.mem ((c.tc : Thread Cert.Reference15Ideal.nD Cert.Reference15Ideal.τ).loc Cert.Reference15Ideal.main_v26) = v1 c
          ∧ r.2.mem ((c.tc : Thread Cert.Reference15Ideal.nD Cert.Reference15Ideal.τ).loc Cert.Reference15Ideal.main_v7) = v2 c
          ∧ r.2.mem ((c.tc : Thread Cert.Reference15Ideal.nD Cert.Reference15Ideal.τ).loc Cert.Reference15Ideal.main_v13) = v3 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)) →
    ∃ (v0 : (c : Dev Cert.Kernel16Ideal.nD) → Buf (Elt Ideal) ((c.tc : Thread Cert.Kernel16Ideal.nD Cert.Kernel16Ideal.τ).loc Cert.Kernel16Ideal.main_v0_0)) (v1 : (c : Dev Cert.Kernel16Ideal.nD) → Buf (Elt Ideal) ((c.tc : Thread Cert.Kernel16Ideal.nD Cert.Kernel16Ideal.τ).loc Cert.Kernel16Ideal.main_v0_1)) (v2 : (c : Dev Cert.Kernel16Ideal.nD) → Buf (Elt Ideal) ((c.tc : Thread Cert.Kernel16Ideal.nD Cert.Kernel16Ideal.τ).loc Cert.Kernel16Ideal.main_v0_2)) (v3 : (c : Dev Cert.Kernel16Ideal.nD) → Buf (Elt Ideal) ((c.tc : Thread Cert.Kernel16Ideal.nD Cert.Kernel16Ideal.τ).loc Cert.Kernel16Ideal.main_v0_3)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0_0) = v0 c
          ∧ r.2.mem ((c.tc : Thread Cert.Kernel16Ideal.nD Cert.Kernel16Ideal.τ).loc Cert.Kernel16Ideal.main_v0_1) = v1 c
          ∧ r.2.mem ((c.tc : Thread Cert.Kernel16Ideal.nD Cert.Kernel16Ideal.τ).loc Cert.Kernel16Ideal.main_v0_2) = v2 c
          ∧ r.2.mem ((c.tc : Thread Cert.Kernel16Ideal.nD Cert.Kernel16Ideal.τ).loc Cert.Kernel16Ideal.main_v0_3) = v3 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v0) = v0 c
          ∧ r.2.mem ((c.tc : Thread Cert.Reference16Ideal.nD Cert.Reference16Ideal.τ).loc Cert.Reference16Ideal.main_v24) = v1 c
          ∧ r.2.mem ((c.tc : Thread Cert.Reference16Ideal.nD Cert.Reference16Ideal.τ).loc Cert.Reference16Ideal.main_v5) = v2 c
          ∧ r.2.mem ((c.tc : Thread Cert.Reference16Ideal.nD Cert.Reference16Ideal.τ).loc Cert.Reference16Ideal.main_v11) = v3 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)) →
    ∃ (v0 : (c : Dev Cert.Kernel17Ideal.nD) → Buf (Elt Ideal) ((c.tc : Thread Cert.Kernel17Ideal.nD Cert.Kernel17Ideal.τ).loc Cert.Kernel17Ideal.main_v0_0)) (v1 : (c : Dev Cert.Kernel17Ideal.nD) → Buf (Elt Ideal) ((c.tc : Thread Cert.Kernel17Ideal.nD Cert.Kernel17Ideal.τ).loc Cert.Kernel17Ideal.main_v0_1)) (v2 : (c : Dev Cert.Kernel17Ideal.nD) → Buf (Elt Ideal) ((c.tc : Thread Cert.Kernel17Ideal.nD Cert.Kernel17Ideal.τ).loc Cert.Kernel17Ideal.main_v0_2)) (v3 : (c : Dev Cert.Kernel17Ideal.nD) → Buf (Elt Ideal) ((c.tc : Thread Cert.Kernel17Ideal.nD Cert.Kernel17Ideal.τ).loc Cert.Kernel17Ideal.main_v0_3)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0_0) = v0 c
          ∧ r.2.mem ((c.tc : Thread Cert.Kernel17Ideal.nD Cert.Kernel17Ideal.τ).loc Cert.Kernel17Ideal.main_v0_1) = v1 c
          ∧ r.2.mem ((c.tc : Thread Cert.Kernel17Ideal.nD Cert.Kernel17Ideal.τ).loc Cert.Kernel17Ideal.main_v0_2) = v2 c
          ∧ r.2.mem ((c.tc : Thread Cert.Kernel17Ideal.nD Cert.Kernel17Ideal.τ).loc Cert.Kernel17Ideal.main_v0_3) = v3 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v0) = v0 c
          ∧ r.2.mem ((c.tc : Thread Cert.Reference17Ideal.nD Cert.Reference17Ideal.τ).loc Cert.Reference17Ideal.main_v24) = v1 c
          ∧ r.2.mem ((c.tc : Thread Cert.Reference17Ideal.nD Cert.Reference17Ideal.τ).loc Cert.Reference17Ideal.main_v5) = v2 c
          ∧ r.2.mem ((c.tc : Thread Cert.Reference17Ideal.nD Cert.Reference17Ideal.τ).loc Cert.Reference17Ideal.main_v11) = v3 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)
      ∧ m' ((c.tc : Thread Cert.Reference18Ideal.nD Cert.Reference18Ideal.τ).loc Cert.Reference18Ideal.main_arg4) = m ((c.tc : Thread Cert.Kernel18Ideal.nD Cert.Kernel18Ideal.τ).loc Cert.Kernel18Ideal.main_arg4)) →
    ∃ (v0 : (c : Dev Cert.Kernel18Ideal.nD) → Buf (Elt Ideal) ((c.tc : Thread Cert.Kernel18Ideal.nD Cert.Kernel18Ideal.τ).loc Cert.Kernel18Ideal.main_v0_0)) (v1 : (c : Dev Cert.Kernel18Ideal.nD) → Buf (Elt Ideal) ((c.tc : Thread Cert.Kernel18Ideal.nD Cert.Kernel18Ideal.τ).loc Cert.Kernel18Ideal.main_v0_1)) (v2 : (c : Dev Cert.Kernel18Ideal.nD) → Buf (Elt Ideal) ((c.tc : Thread Cert.Kernel18Ideal.nD Cert.Kernel18Ideal.τ).loc Cert.Kernel18Ideal.main_v0_2)) (v3 : (c : Dev Cert.Kernel18Ideal.nD) → Buf (Elt Ideal) ((c.tc : Thread Cert.Kernel18Ideal.nD Cert.Kernel18Ideal.τ).loc Cert.Kernel18Ideal.main_v0_3)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_0) = v0 c
          ∧ r.2.mem ((c.tc : Thread Cert.Kernel18Ideal.nD Cert.Kernel18Ideal.τ).loc Cert.Kernel18Ideal.main_v0_1) = v1 c
          ∧ r.2.mem ((c.tc : Thread Cert.Kernel18Ideal.nD Cert.Kernel18Ideal.τ).loc Cert.Kernel18Ideal.main_v0_2) = v2 c
          ∧ r.2.mem ((c.tc : Thread Cert.Kernel18Ideal.nD Cert.Kernel18Ideal.τ).loc Cert.Kernel18Ideal.main_v0_3) = v3 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
          ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v53) = v0 c
          ∧ r.2.mem ((c.tc : Thread Cert.Reference18Ideal.nD Cert.Reference18Ideal.τ).loc Cert.Reference18Ideal.main_v52) = v1 c
          ∧ r.2.mem ((c.tc : Thread Cert.Reference18Ideal.nD Cert.Reference18Ideal.τ).loc Cert.Reference18Ideal.main_v54) = v2 c
          ∧ r.2.mem ((c.tc : Thread Cert.Reference18Ideal.nD Cert.Reference18Ideal.τ).loc Cert.Reference18Ideal.main_v36) = v3 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3)
          ∧ r.2.mem ((c.tc : Thread Cert.Reference18Ideal.nD Cert.Reference18Ideal.τ).loc Cert.Reference18Ideal.main_arg4) = m' ((c.tc : Thread Cert.Reference18Ideal.nD Cert.Reference18Ideal.τ).loc Cert.Reference18Ideal.main_arg4))

def preserves_Kernel19_Kernel19Ideal : Prop :=
  IdealRules.named_const.Statement Cert.Kernel19Ideal.κ "gelu_cubic" .f32 0x3D372713#32 ((8943 / 200000 : ℝ) : EReal)

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)
      ∧ m' ((c.tc : Thread Cert.Reference19Ideal.nD Cert.Reference19Ideal.τ).loc Cert.Reference19Ideal.main_arg4) = m ((c.tc : Thread Cert.Kernel19Ideal.nD Cert.Kernel19Ideal.τ).loc Cert.Kernel19Ideal.main_arg4)) →
    ∃ (v0 : (c : Dev Cert.Kernel19Ideal.nD) → Buf (Elt Ideal) ((c.tc : Thread Cert.Kernel19Ideal.nD Cert.Kernel19Ideal.τ).loc Cert.Kernel19Ideal.main_v0)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
          ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v71) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3)
          ∧ r.2.mem ((c.tc : Thread Cert.Reference19Ideal.nD Cert.Reference19Ideal.τ).loc Cert.Reference19Ideal.main_arg4) = m' ((c.tc : Thread Cert.Reference19Ideal.nD Cert.Reference19Ideal.τ).loc Cert.Reference19Ideal.main_arg4))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)) →
    ∃ (v0 : (c : Dev Cert.Kernel20Ideal.nD) → Buf (Elt Ideal) ((c.tc : Thread Cert.Kernel20Ideal.nD Cert.Kernel20Ideal.τ).loc Cert.Kernel20Ideal.main_v0)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v69) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2))

def preserves_Kernel21_Kernel21Ideal : Prop :=
  True

def algebraic_Kernel21Ideal_Reference21Ideal_on_up_results [hKernel21Ideal : Cert.Kernel21Ideal.Facts] [hReference21Ideal : Cert.Reference21Ideal.Facts] [hOn_up_results : Cert.On_up_results.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)
      ∧ m' ((c.tc : Thread Cert.Reference21Ideal.nD Cert.Reference21Ideal.τ).loc Cert.Reference21Ideal.main_arg4) = m ((c.tc : Thread Cert.Kernel21Ideal.nD Cert.Kernel21Ideal.τ).loc Cert.Kernel21Ideal.main_arg4)) →
    ∃ (v0 : (c : Dev Cert.Kernel21Ideal.nD) → Buf (Elt Ideal) ((c.tc : Thread Cert.Kernel21Ideal.nD Cert.Kernel21Ideal.τ).loc Cert.Kernel21Ideal.main_v0_0)) (v1 : (c : Dev Cert.Kernel21Ideal.nD) → Buf (Elt Ideal) ((c.tc : Thread Cert.Kernel21Ideal.nD Cert.Kernel21Ideal.τ).loc Cert.Kernel21Ideal.main_v0_1)) (v2 : (c : Dev Cert.Kernel21Ideal.nD) → Buf (Elt Ideal) ((c.tc : Thread Cert.Kernel21Ideal.nD Cert.Kernel21Ideal.τ).loc Cert.Kernel21Ideal.main_v0_2)) (v3 : (c : Dev Cert.Kernel21Ideal.nD) → Buf (Elt Ideal) ((c.tc : Thread Cert.Kernel21Ideal.nD Cert.Kernel21Ideal.τ).loc Cert.Kernel21Ideal.main_v0_3)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          (∀ i : (⟨2, ![4096, 5632]⟩ : Shape).Idx, (Cert.On_up_results.fn (F := Ideal) (m ((c.tc : Thread Cert.Kernel21Ideal.nD Cert.Kernel21Ideal.τ).loc Cert.Kernel21Ideal.main_arg0)) (m ((c.tc : Thread Cert.Kernel21Ideal.nD Cert.Kernel21Ideal.τ).loc Cert.Kernel21Ideal.main_arg1)) (m ((c.tc : Thread Cert.Kernel21Ideal.nD Cert.Kernel21Ideal.τ).loc Cert.Kernel21Ideal.main_arg2)) (m ((c.tc : Thread Cert.Kernel21Ideal.nD Cert.Kernel21Ideal.τ).loc Cert.Kernel21Ideal.main_arg3)) (m ((c.tc : Thread Cert.Kernel21Ideal.nD Cert.Kernel21Ideal.τ).loc Cert.Kernel21Ideal.main_arg4))).1 i = 1#1 → r.2.mem ((c.tc : Thread Cert.Kernel21Ideal.nD Cert.Kernel21Ideal.τ).loc Cert.Kernel21Ideal.main_v0_0) i = v0 c i)
          ∧ (∀ i : (⟨2, ![4096, 2816]⟩ : Shape).Idx, (Cert.On_up_results.fn (F := Ideal) (m ((c.tc : Thread Cert.Kernel21Ideal.nD Cert.Kernel21Ideal.τ).loc Cert.Kernel21Ideal.main_arg0)) (m ((c.tc : Thread Cert.Kernel21Ideal.nD Cert.Kernel21Ideal.τ).loc Cert.Kernel21Ideal.main_arg1)) (m ((c.tc : Thread Cert.Kernel21Ideal.nD Cert.Kernel21Ideal.τ).loc Cert.Kernel21Ideal.main_arg2)) (m ((c.tc : Thread Cert.Kernel21Ideal.nD Cert.Kernel21Ideal.τ).loc Cert.Kernel21Ideal.main_arg3)) (m ((c.tc : Thread Cert.Kernel21Ideal.nD Cert.Kernel21Ideal.τ).loc Cert.Kernel21Ideal.main_arg4))).2.1 i = 1#1 → r.2.mem ((c.tc : Thread Cert.Kernel21Ideal.nD Cert.Kernel21Ideal.τ).loc Cert.Kernel21Ideal.main_v0_1) i = v1 c i)
          ∧ (∀ i : (⟨2, ![4096, 1024]⟩ : Shape).Idx, (Cert.On_up_results.fn (F := Ideal) (m ((c.tc : Thread Cert.Kernel21Ideal.nD Cert.Kernel21Ideal.τ).loc Cert.Kernel21Ideal.main_arg0)) (m ((c.tc : Thread Cert.Kernel21Ideal.nD Cert.Kernel21Ideal.τ).loc Cert.Kernel21Ideal.main_arg1)) (m ((c.tc : Thread Cert.Kernel21Ideal.nD Cert.Kernel21Ideal.τ).loc Cert.Kernel21Ideal.main_arg2)) (m ((c.tc : Thread Cert.Kernel21Ideal.nD Cert.Kernel21Ideal.τ).loc Cert.Kernel21Ideal.main_arg3)) (m ((c.tc : Thread Cert.Kernel21Ideal.nD Cert.Kernel21Ideal.τ).loc Cert.Kernel21Ideal.main_arg4))).2.2.1 i = 1#1 → r.2.mem ((c.tc : Thread Cert.Kernel21Ideal.nD Cert.Kernel21Ideal.τ).loc Cert.Kernel21Ideal.main_v0_2) i = v2 c i)
          ∧ (∀ i : (⟨2, ![4096, 1]⟩ : Shape).Idx, (Cert.On_up_results.fn (F := Ideal) (m ((c.tc : Thread Cert.Kernel21Ideal.nD Cert.Kernel21Ideal.τ).loc Cert.Kernel21Ideal.main_arg0)) (m ((c.tc : Thread Cert.Kernel21Ideal.nD Cert.Kernel21Ideal.τ).loc Cert.Kernel21Ideal.main_arg1)) (m ((c.tc : Thread Cert.Kernel21Ideal.nD Cert.Kernel21Ideal.τ).loc Cert.Kernel21Ideal.main_arg2)) (m ((c.tc : Thread Cert.Kernel21Ideal.nD Cert.Kernel21Ideal.τ).loc Cert.Kernel21Ideal.main_arg3)) (m ((c.tc : Thread Cert.Kernel21Ideal.nD Cert.Kernel21Ideal.τ).loc Cert.Kernel21Ideal.main_arg4))).2.2.2 i = 1#1 → r.2.mem ((c.tc : Thread Cert.Kernel21Ideal.nD Cert.Kernel21Ideal.τ).loc Cert.Kernel21Ideal.main_v0_3) i = v3 c i)
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3)
          ∧ r.2.mem ((c.tc : Thread Cert.Kernel21Ideal.nD Cert.Kernel21Ideal.τ).loc Cert.Kernel21Ideal.main_arg4) = m ((c.tc : Thread Cert.Kernel21Ideal.nD Cert.Kernel21Ideal.τ).loc Cert.Kernel21Ideal.main_arg4))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          (∀ i : (⟨2, ![4096, 5632]⟩ : Shape).Idx, (Cert.On_up_results.fn (F := Ideal) (m ((c.tc : Thread Cert.Kernel21Ideal.nD Cert.Kernel21Ideal.τ).loc Cert.Kernel21Ideal.main_arg0)) (m ((c.tc : Thread Cert.Kernel21Ideal.nD Cert.Kernel21Ideal.τ).loc Cert.Kernel21Ideal.main_arg1)) (m ((c.tc : Thread Cert.Kernel21Ideal.nD Cert.Kernel21Ideal.τ).loc Cert.Kernel21Ideal.main_arg2)) (m ((c.tc : Thread Cert.Kernel21Ideal.nD Cert.Kernel21Ideal.τ).loc Cert.Kernel21Ideal.main_arg3)) (m ((c.tc : Thread Cert.Kernel21Ideal.nD Cert.Kernel21Ideal.τ).loc Cert.Kernel21Ideal.main_arg4))).1 i = 1#1 → r.2.mem ((c.tc : Thread Cert.Reference21Ideal.nD Cert.Reference21Ideal.τ).loc Cert.Reference21Ideal.main_v14) i = v0 c i)
          ∧ (∀ i : (⟨2, ![4096, 2816]⟩ : Shape).Idx, (Cert.On_up_results.fn (F := Ideal) (m ((c.tc : Thread Cert.Kernel21Ideal.nD Cert.Kernel21Ideal.τ).loc Cert.Kernel21Ideal.main_arg0)) (m ((c.tc : Thread Cert.Kernel21Ideal.nD Cert.Kernel21Ideal.τ).loc Cert.Kernel21Ideal.main_arg1)) (m ((c.tc : Thread Cert.Kernel21Ideal.nD Cert.Kernel21Ideal.τ).loc Cert.Kernel21Ideal.main_arg2)) (m ((c.tc : Thread Cert.Kernel21Ideal.nD Cert.Kernel21Ideal.τ).loc Cert.Kernel21Ideal.main_arg3)) (m ((c.tc : Thread Cert.Kernel21Ideal.nD Cert.Kernel21Ideal.τ).loc Cert.Kernel21Ideal.main_arg4))).2.1 i = 1#1 → r.2.mem ((c.tc : Thread Cert.Reference21Ideal.nD Cert.Reference21Ideal.τ).loc Cert.Reference21Ideal.main_v43) i = v1 c i)
          ∧ (∀ i : (⟨2, ![4096, 1024]⟩ : Shape).Idx, (Cert.On_up_results.fn (F := Ideal) (m ((c.tc : Thread Cert.Kernel21Ideal.nD Cert.Kernel21Ideal.τ).loc Cert.Kernel21Ideal.main_arg0)) (m ((c.tc : Thread Cert.Kernel21Ideal.nD Cert.Kernel21Ideal.τ).loc Cert.Kernel21Ideal.main_arg1)) (m ((c.tc : Thread Cert.Kernel21Ideal.nD Cert.Kernel21Ideal.τ).loc Cert.Kernel21Ideal.main_arg2)) (m ((c.tc : Thread Cert.Kernel21Ideal.nD Cert.Kernel21Ideal.τ).loc Cert.Kernel21Ideal.main_arg3)) (m ((c.tc : Thread Cert.Kernel21Ideal.nD Cert.Kernel21Ideal.τ).loc Cert.Kernel21Ideal.main_arg4))).2.2.1 i = 1#1 → r.2.mem ((c.tc : Thread Cert.Reference21Ideal.nD Cert.Reference21Ideal.τ).loc Cert.Reference21Ideal.main_v44) i = v2 c i)
          ∧ (∀ i : (⟨2, ![4096, 1]⟩ : Shape).Idx, (Cert.On_up_results.fn (F := Ideal) (m ((c.tc : Thread Cert.Kernel21Ideal.nD Cert.Kernel21Ideal.τ).loc Cert.Kernel21Ideal.main_arg0)) (m ((c.tc : Thread Cert.Kernel21Ideal.nD Cert.Kernel21Ideal.τ).loc Cert.Kernel21Ideal.main_arg1)) (m ((c.tc : Thread Cert.Kernel21Ideal.nD Cert.Kernel21Ideal.τ).loc Cert.Kernel21Ideal.main_arg2)) (m ((c.tc : Thread Cert.Kernel21Ideal.nD Cert.Kernel21Ideal.τ).loc Cert.Kernel21Ideal.main_arg3)) (m ((c.tc : Thread Cert.Kernel21Ideal.nD Cert.Kernel21Ideal.τ).loc Cert.Kernel21Ideal.main_arg4))).2.2.2 i = 1#1 → r.2.mem ((c.tc : Thread Cert.Reference21Ideal.nD Cert.Reference21Ideal.τ).loc Cert.Reference21Ideal.main_v52) i = v3 c i)
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3)
          ∧ r.2.mem ((c.tc : Thread Cert.Reference21Ideal.nD Cert.Reference21Ideal.τ).loc Cert.Reference21Ideal.main_arg4) = m' ((c.tc : Thread Cert.Reference21Ideal.nD Cert.Reference21Ideal.τ).loc Cert.Reference21Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hPre_finite : Cert.Pre_finite.Facts) (hOn_gmlp_columns : Cert.On_gmlp_columns.Facts) (hOn_up_results : Cert.On_up_results.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ preserves_Kernel_KernelIdeal
    ∧ algebraic_KernelIdeal_ReferenceIdeal_on_gmlp_columns_pre_finite (hKernelIdeal := hKernelIdeal) (hReferenceIdeal := hReferenceIdeal) (hPre_finite := hPre_finite) (hOn_gmlp_columns := hOn_gmlp_columns)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal_on_up_results (hKernel21Ideal := hKernel21Ideal) (hReference21Ideal := hReference21Ideal) (hOn_up_results := hOn_up_results)
-- ==== On_gmlp_columns.lean ====
abbrev S4096x3200 : Shape := ⟨2, ![4096, 3200]⟩
abbrev S1x512 : Shape := ⟨2, ![1, 512]⟩
abbrev S4x128x128 : Shape := ⟨3, ![4, 128, 128]⟩
abbrev S128x4 : Shape := ⟨2, ![128, 4]⟩
abbrev S4096x1024 : Shape := ⟨2, ![4096, 1024]⟩
abbrev S_ : Shape := ⟨0, ![]⟩
abbrev S128x128 : Shape := ⟨2, ![128, 128]⟩

class Facts : Prop where
  bcast_S_S4096x3200 : S_.BroadcastsInDim S4096x3200 (![] : Fin 0 → Fin S4096x3200.rank)
  bcast_S_S1x512 : S_.BroadcastsInDim S1x512 (![] : Fin 0 → Fin S1x512.rank)
  bcast_S_S4x128x128 : S_.BroadcastsInDim S4x128x128 (![] : Fin 0 → Fin S4x128x128.rank)
  bcast_S_S128x128 : S_.BroadcastsInDim S128x128 (![] : Fin 0 → Fin S128x128.rank)

variable [Facts]

def fn {F : FTy → Type} [FloatOps F] (main_arg0 : FVec F S4096x3200 .f32) (main_arg1 : FVec F S1x512 .f32) (main_arg2 : FVec F S4x128x128 .f32) (main_arg3 : FVec F S128x4 .f32) (main_arg4 : FVec F S4096x1024 .f32) : IVec S4096x3200 1 × IVec S1x512 1 × IVec S4x128x128 1 × IVec S128x128 1 :=
  let main_v0 : IVec S4096x3200 32 := iotaInDim S4096x3200 32 1
  let main_c : IVec S_ 32 := constantI S_ 32 2048#32
  let main_v1 : IVec S4096x3200 32 := broadcastInDim S4096x3200 ![] bcast_S_S4096x3200 main_c
  let main_v2 : IVec S4096x3200 1 := cmpi .sge main_v0 main_v1
  let main_c_0 : IVec S_ 32 := constantI S_ 32 3072#32
  let main_v3 : IVec S4096x3200 32 := broadcastInDim S4096x3200 ![] bcast_S_S4096x3200 main_c_0
  let main_v4 : IVec S4096x3200 1 := cmpi .slt main_v0 main_v3
  let main_v5 : IVec S4096x3200 1 := andi main_v2 main_v4
  let main_c_1 : IVec S_ 1 := constantI S_ 1 1#1
  let main_v6 : IVec S1x512 1 := broadcastInDim S1x512 ![] bcast_S_S1x512 main_c_1
  let main_c_2 : IVec S_ 1 := constantI S_ 1 1#1
  let main_v7 : IVec S4x128x128 1 := broadcastInDim S4x128x128 ![] bcast_S_S4x128x128 main_c_2
  let main_c_3 : IVec S_ 1 := constantI S_ 1 1#1
  let main_v8 : IVec S128x128 1 := broadcastInDim S128x128 ![] bcast_S_S128x128 main_c_3
  (main_v5, main_v6, main_v7, main_v8)
-- ==== On_up_results.lean ====
abbrev S4096x1024 : Shape := ⟨2, ![4096, 1024]⟩
abbrev S1x1024 : Shape := ⟨2, ![1, 1024]⟩
abbrev S5632x1024 : Shape := ⟨2, ![5632, 1024]⟩
abbrev S3x5632 : Shape := ⟨2, ![3, 5632]⟩
abbrev S1x5632 : Shape := ⟨2, ![1, 5632]⟩
abbrev S_ : Shape := ⟨0, ![]⟩
abbrev S4096x5632 : Shape := ⟨2, ![4096, 5632]⟩
abbrev S4096x2816 : Shape := ⟨2, ![4096, 2816]⟩
abbrev S4096x1 : Shape := ⟨2, ![4096, 1]⟩

class Facts : Prop where
  bcast_S_S4096x5632 : S_.BroadcastsInDim S4096x5632 (![] : Fin 0 → Fin S4096x5632.rank)
  bcast_S_S4096x2816 : S_.BroadcastsInDim S4096x2816 (![] : Fin 0 → Fin S4096x2816.rank)
  bcast_S_S4096x1024 : S_.BroadcastsInDim S4096x1024 (![] : Fin 0 → Fin S4096x1024.rank)
  bcast_S_S4096x1 : S_.BroadcastsInDim S4096x1 (![] : Fin 0 → Fin S4096x1.rank)

variable [Facts]

def fn {F : FTy → Type} [FloatOps F] (main_arg0 : FVec F S4096x1024 .f32) (main_arg1 : FVec F S1x1024 .f32) (main_arg2 : FVec F S5632x1024 .bf16) (main_arg3 : FVec F S3x5632 .f32) (main_arg4 : FVec F S1x5632 .f32) : IVec S4096x5632 1 × IVec S4096x2816 1 × IVec S4096x1024 1 × IVec S4096x1 1 :=
  let main_c : IVec S_ 1 := constantI S_ 1 1#1
  let main_v0 : IVec S4096x5632 1 := broadcastInDim S4096x5632 ![] bcast_S_S4096x5632 main_c
  let main_c_0 : IVec S_ 1 := constantI S_ 1 0#1
  let main_v1 : IVec S4096x2816 1 := broadcastInDim S4096x2816 ![] bcast_S_S4096x2816 main_c_0
  let main_c_1 : IVec S_ 1 := constantI S_ 1 1#1
  let main_v2 : IVec S4096x1024 1 := broadcastInDim S4096x1024 ![] bcast_S_S4096x1024 main_c_1
  let main_c_2 : IVec S_ 1 := constantI S_ 1 1#1
  let main_v3 : IVec S4096x1 1 := broadcastInDim S4096x1 ![] bcast_S_S4096x1 main_c_2
  (main_v0, main_v1, main_v2, main_v3)
-- ==== Pre_finite.lean ====
abbrev S4096x3200 : Shape := ⟨2, ![4096, 3200]⟩
abbrev S1x512 : Shape := ⟨2, ![1, 512]⟩
abbrev S4x128x128 : Shape := ⟨3, ![4, 128, 128]⟩
abbrev S128x4 : Shape := ⟨2, ![128, 4]⟩
abbrev S4096x1024 : Shape := ⟨2, ![4096, 1024]⟩
abbrev S_ : Shape := ⟨0, ![]⟩

class Facts : Prop where
  bcast_S_S4096x3200 : S_.BroadcastsInDim S4096x3200 (![] : Fin 0 → Fin S4096x3200.rank)
  bcast_S_S1x512 : S_.BroadcastsInDim S1x512 (![] : Fin 0 → Fin S1x512.rank)
  bcast_S_S4x128x128 : S_.BroadcastsInDim S4x128x128 (![] : Fin 0 → Fin S4x128x128.rank)
  bcast_S_S128x4 : S_.BroadcastsInDim S128x4 (![] : Fin 0 → Fin S128x4.rank)
  bcast_S_S4096x1024 : S_.BroadcastsInDim S4096x1024 (![] : Fin 0 → Fin S4096x1024.rank)

variable [Facts]

def fn {F : FTy → Type} [FloatOps F] (main_arg0 : FVec F S4096x3200 .f32) (main_arg1 : FVec F S1x512 .f32) (main_arg2 : FVec F S4x128x128 .f32) (main_arg3 : FVec F S128x4 .f32) (main_arg4 : FVec F S4096x1024 .f32) : IVec S4096x3200 1 × IVec S1x512 1 × IVec S4x128x128 1 × IVec S128x4 1 × IVec S4096x1024 1 :=
  let main_v0 : FVec F S4096x3200 .f32 := Host.absf main_arg0
  let main_cst : FVec F S_ .f32 := constant S_ .f32 0x7F800000#32
  let main_v1 : FVec F S4096x3200 .f32 := broadcastInDim S4096x3200 ![] bcast_S_S4096x3200 main_cst
  let main_v2 : IVec S4096x3200 1 := cmpf .olt main_v0 main_v1
  let main_v3 : FVec F S1x512 .f32 := Host.absf main_arg1
  let main_cst_0 : FVec F S_ .f32 := constant S_ .f32 0x7F800000#32
  let main_v4 : FVec F S1x512 .f32 := broadcastInDim S1x512 ![] bcast_S_S1x512 main_cst_0
  let main_v5 : IVec S1x512 1 := cmpf .olt main_v3 main_v4
  let main_v6 : FVec F S4x128x128 .f32 := Host.absf main_arg2
  let main_cst_1 : FVec F S_ .f32 := constant S_ .f32 0x7F800000#32
  let main_v7 : FVec F S4x128x128 .f32 := broadcastInDim S4x128x128 ![] bcast_S_S4x128x128 main_cst_1
  let main_v8 : IVec S4x128x128 1 := cmpf .olt main_v6 main_v7
  let main_v9 : FVec F S128x4 .f32 := Host.absf main_arg3
  let main_cst_2 : FVec F S_ .f32 := constant S_ .f32 0x7F800000#32
  let main_v10 : FVec F S128x4 .f32 := broadcastInDim S128x4 ![] bcast_S_S128x4 main_cst_2
  let main_v11 : IVec S128x4 1 := cmpf .olt main_v9 main_v10
  let main_v12 : FVec F S4096x1024 .f32 := Host.absf main_arg4
  let main_cst_3 : FVec F S_ .f32 := constant S_ .f32 0x7F800000#32
  let main_v13 : FVec F S4096x1024 .f32 := broadcastInDim S4096x1024 ![] bcast_S_S4096x1024 main_cst_3
  let main_v14 : IVec S4096x1024 1 := cmpf .olt main_v12 main_v13
  (main_v2, main_v5, main_v8, main_v11, main_v14)
-- ==== Kernel.lean ====
abbrev S4096x3200 : Shape := ⟨2, ![4096, 3200]⟩
abbrev S1x512 : Shape := ⟨2, ![1, 512]⟩
abbrev S4x128x128 : Shape := ⟨3, ![4, 128, 128]⟩
abbrev S128x4 : Shape := ⟨2, ![128, 4]⟩
abbrev S4096x1024 : Shape := ⟨2, ![4096, 1024]⟩
abbrev S128x128 : Shape := ⟨2, ![128, 128]⟩
abbrev S512x512 : Shape := ⟨2, ![512, 512]⟩
abbrev S512x1024 : Shape := ⟨2, ![512, 1024]⟩
abbrev S1x128x128 : Shape := ⟨3, ![1, 128, 128]⟩
abbrev S1x128 : Shape := ⟨2, ![1, 128]⟩
abbrev S128 : Shape := ⟨1, ![128]⟩
abbrev S128x1 : Shape := ⟨2, ![128, 1]⟩

abbrev nBuf : Space → Nat
  | .hbm => 9
  | .vmem => 14
  | .smem => 0
  | _ => 0

abbrev bufTy : (tb : Table) → Fin (tcTables nBuf tb) → BufTy
  | .hbm, ⟨0, _⟩ => ⟨S4096x3200, .f32⟩
  | .hbm, ⟨1, _⟩ => ⟨S1x512, .f32⟩
  | .hbm, ⟨2, _⟩ => ⟨S4x128x128, .f32⟩
  | .hbm, ⟨3, _⟩ => ⟨S128x4, .f32⟩
  | .hbm, ⟨4, _⟩ => ⟨S4096x1024, .f32⟩
  | .hbm, ⟨5, _⟩ => ⟨S4096x3200, .bf16⟩
  | .hbm, ⟨6, _⟩ => ⟨S1x512, .f32⟩
  | .hbm, ⟨7, _⟩ => ⟨S4x128x128, .f32⟩
  | .hbm, ⟨8, _⟩ => ⟨S128x128, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S1x512, .f32⟩
  | .local _ .vmem, ⟨5, _⟩ => ⟨S4x128x128, .f32⟩
  | .local _ .vmem, ⟨6, _⟩ => ⟨S128x4, .f32⟩
  | .local _ .vmem, ⟨7, _⟩ => ⟨S512x512, .f32⟩
  | .local _ .vmem, ⟨8, _⟩ => ⟨S512x512, .f32⟩
  | .local _ .vmem, ⟨9, _⟩ => ⟨S512x1024, .bf16⟩
  | .local _ .vmem, ⟨10, _⟩ => ⟨S512x1024, .bf16⟩
  | .local _ .vmem, ⟨11, _⟩ => ⟨S1x512, .f32⟩
  | .local _ .vmem, ⟨12, _⟩ => ⟨S4x128x128, .f32⟩
  | .local _ .vmem, ⟨13, _⟩ => ⟨S128x128, .f32⟩
  | _, _ => ⟨S4096x3200, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem9_0 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_1 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_6 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x4 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4x128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== KernelIdeal.lean ====
variable {F : FTy → Type} [FloatOps F] [Named F]
def κ : String → Option EReal := fun
  | "gelu_cubic" => some ((8943 / 200000 : ℝ) : EReal)
  | "gelu_cubic_slope" => some ((26829 / 200000 : ℝ) : EReal)
  | _ => none
-- ==== ReferenceIdeal.lean ====
abbrev S4096x3200 : Shape := ⟨2, ![4096, 3200]⟩
abbrev S1x512 : Shape := ⟨2, ![1, 512]⟩
abbrev S4x128x128 : Shape := ⟨3, ![4, 128, 128]⟩
abbrev S128x4 : Shape := ⟨2, ![128, 4]⟩
abbrev S4096x1024 : Shape := ⟨2, ![4096, 1024]⟩
abbrev S4096x512 : Shape := ⟨2, ![4096, 512]⟩
abbrev S512 : Shape := ⟨1, ![512]⟩
abbrev S4x128 : Shape := ⟨2, ![4, 128]⟩
abbrev S_ : Shape := ⟨0, ![]⟩
abbrev S4096x4x128 : Shape := ⟨3, ![4096, 4, 128]⟩
abbrev S4096x4 : Shape := ⟨2, ![4096, 4]⟩
abbrev S4096x4x1 : Shape := ⟨3, ![4096, 4, 1]⟩
abbrev S1x4x128 : Shape := ⟨3, ![1, 4, 128]⟩
abbrev S32x128x4x128 : Shape := ⟨4, ![32, 128, 4, 128]⟩
abbrev S128 : Shape := ⟨1, ![128]⟩
abbrev S1x128 : Shape := ⟨2, ![1, 128]⟩
abbrev S128x1 : Shape := ⟨2, ![128, 1]⟩
abbrev S128x128 : Shape := ⟨2, ![128, 128]⟩
abbrev S4x32x128x128 : Shape := ⟨4, ![4, 32, 128, 128]⟩
abbrev S128x4x1 : Shape := ⟨3, ![128, 4, 1]⟩
abbrev S128x4x128 : Shape := ⟨3, ![128, 4, 128]⟩
abbrev S1x128x4x128 : Shape := ⟨4, ![1, 128, 4, 128]⟩
abbrev S4096x2048 : Shape := ⟨2, ![4096, 2048]⟩
abbrev S4096x128 : Shape := ⟨2, ![4096, 128]⟩

abbrev nBuf : Space → Nat
  | .hbm => 217
  | .vmem => 0
  | .smem => 0
  | _ => 0

abbrev hbmTy0_0 (i : Nat) : BufTy := match i % 128 with
  | 0 => ⟨S4096x3200, .f32⟩
  | 1 => ⟨S1x512, .f32⟩
  | 2 => ⟨S4x128x128, .f32⟩
  | 3 => ⟨S128x4, .f32⟩
  | 4 => ⟨S4096x1024, .f32⟩
  | 5 => ⟨S4096x512, .f32⟩
  | 6 => ⟨S4096x512, .f32⟩
  | 7 => ⟨S512, .f32⟩
  | 8 => ⟨S4x128, .f32⟩
  | 9 => ⟨S4096x512, .f32⟩
  | 10 => ⟨S4096x512, .f32⟩
  | 11 => ⟨S4096x512, .f32⟩
  | 12 => ⟨S_, .f32⟩
  | 13 => ⟨S4096x512, .f32⟩
  | 14 => ⟨S4096x512, .f32⟩
  | 15 => ⟨S_, .f32⟩
  | 16 => ⟨S4096x512, .f32⟩
  | 17 => ⟨S4096x512, .f32⟩
  | 18 => ⟨S_, .f32⟩
  | 19 => ⟨S4096x512, .f32⟩
  | 20 => ⟨S4096x512, .f32⟩
  | 21 => ⟨S4096x512, .f32⟩
  | 22 => ⟨S_, .f32⟩
  | 23 => ⟨S4096x512, .f32⟩
  | 24 => ⟨S4096x512, .f32⟩
  | 25 => ⟨S4096x512, .f32⟩
  | 26 => ⟨S_, .f32⟩
  | 27 => ⟨S4096x512, .f32⟩
  | 28 => ⟨S4096x512, .f32⟩
  | 29 => ⟨S_, .f32⟩
  | 30 => ⟨S4096x512, .f32⟩
  | 31 => ⟨S4096x512, .f32⟩
  | 32 => ⟨S4096x512, .f32⟩
  | 33 => ⟨S_, .f32⟩
  | 34 => ⟨S4096x512, .f32⟩
  | 35 => ⟨S4096x512, .f32⟩
  | 36 => ⟨S_, .f32⟩
  | 37 => ⟨S4096x512, .f32⟩
  | 38 => ⟨S4096x512, .f32⟩
  | 39 => ⟨S4096x512, .f32⟩
  | 40 => ⟨S4096x512, .f32⟩
  | 41 => ⟨S4096x512, .f32⟩
  | 42 => ⟨S4096x512, .f32⟩
  | 43 => ⟨S_, .f32⟩
  | 44 => ⟨S4096x512, .f32⟩
  | 45 => ⟨S4096x512, .f32⟩
  | 46 => ⟨S_, .f32⟩
  | 47 => ⟨S4096x512, .f32⟩
  | 48 => ⟨S4096x512, .f32⟩
  | 49 => ⟨S_, .f32⟩
  | 50 => ⟨S4096x512, .f32⟩
  | 51 => ⟨S4096x512, .f32⟩
  | 52 => ⟨S4096x512, .f32⟩
  | 53 => ⟨S_, .f32⟩
  | 54 => ⟨S4096x512, .f32⟩
  | 55 => ⟨S4096x512, .f32⟩
  | 56 => ⟨S4096x512, .f32⟩
  | 57 => ⟨S_, .f32⟩
  | 58 => ⟨S4096x512, .f32⟩
  | 59 => ⟨S4096x512, .f32⟩
  | 60 => ⟨S_, .f32⟩
  | 61 => ⟨S4096x512, .f32⟩
  | 62 => ⟨S4096x512, .f32⟩
  | 63 => ⟨S4096x512, .f32⟩
  | 64 => ⟨S_, .f32⟩
  | 65 => ⟨S4096x512, .f32⟩
  | 66 => ⟨S4096x512, .f32⟩
  | 67 => ⟨S_, .f32⟩
  | 68 => ⟨S4096x512, .f32⟩
  | 69 => ⟨S4096x512, .f32⟩
  | 70 => ⟨S4096x512, .f32⟩
  | 71 => ⟨S4096x4x128, .f32⟩
  | 72 => ⟨S4096x4x128, .f32⟩
  | 73 => ⟨S_, .f32⟩
  | 74 => ⟨S4096x4, .f32⟩
  | 75 => ⟨S4096x4x1, .f32⟩
  | 76 => ⟨S_, .f32⟩
  | 77 => ⟨S4096x4x1, .f32⟩
  | 78 => ⟨S4096x4x1, .f32⟩
  | 79 => ⟨S_, .f32⟩
  | 80 => ⟨S4096x4x1, .f32⟩
  | 81 => ⟨S4096x4x1, .f32⟩
  | 82 => ⟨S4096x4x1, .f32⟩
  | 83 => ⟨S4096x4x1, .f32⟩
  | 84 => ⟨S_, .f32⟩
  | 85 => ⟨S4096x4x1, .f32⟩
  | 86 => ⟨S4096x4x1, .f32⟩
  | 87 => ⟨S4096x4x128, .f32⟩
  | 88 => ⟨S4096x4x128, .f32⟩
  | 89 => ⟨S4x128, .f32⟩
  | 90 => ⟨S1x4x128, .f32⟩
  | 91 => ⟨S4096x4x128, .f32⟩
  | 92 => ⟨S4096x4x128, .f32⟩
  | 93 => ⟨S32x128x4x128, .f32⟩
  | 94 => ⟨S128, .i32⟩
  | 95 => ⟨S_, .i32⟩
  | 96 => ⟨S128, .i32⟩
  | 97 => ⟨S128, .i32⟩
  | 98 => ⟨S1x128, .i32⟩
  | 99 => ⟨S128x1, .i32⟩
  | 100 => ⟨S128x128, .i32⟩
  | 101 => ⟨S128x128, .i32⟩
  | 102 => ⟨S128x128, .i1⟩
  | 103 => ⟨S_, .f32⟩
  | 104 => ⟨S_, .f32⟩
  | 105 => ⟨S4x128x128, .i1⟩
  | 106 => ⟨S4x128x128, .f32⟩
  | 107 => ⟨S4x128x128, .f32⟩
  | 108 => ⟨S_, .f32⟩
  | 109 => ⟨S4x128x128, .f32⟩
  | 110 => ⟨S4x32x128x128, .f32⟩
  | 111 => ⟨S32x128x4x128, .f32⟩
  | 112 => ⟨S128x4, .f32⟩
  | 113 => ⟨S128x4x1, .f32⟩
  | 114 => ⟨S128x4x128, .f32⟩
  | 115 => ⟨S1x128x4x128, .f32⟩
  | 116 => ⟨S32x128x4x128, .f32⟩
  | 117 => ⟨S32x128x4x128, .f32⟩
  | 118 => ⟨S4096x512, .f32⟩
  | 119 => ⟨S4096x512, .f32⟩
  | 120 => ⟨S4096x512, .f32⟩
  | 121 => ⟨S4096x512, .f32⟩
  | 122 => ⟨S4096x512, .f32⟩
  | 123 => ⟨S32x128x4x128, .f32⟩
  | 124 => ⟨S_, .f32⟩
  | 125 => ⟨S128x4x128, .f32⟩
  | 126 => ⟨S1x128x4x128, .f32⟩
  | 127 => ⟨S_, .f32⟩
  | _ => ⟨S4096x3200, .f32⟩

abbrev hbmTy0_1 (i : Nat) : BufTy := match i % 128 with
  | 0 => ⟨S128x4x128, .f32⟩
  | 1 => ⟨S_, .f32⟩
  | 2 => ⟨S128x4, .f32⟩
  | 3 => ⟨S128x4x1, .f32⟩
  | 4 => ⟨S_, .f32⟩
  | 5 => ⟨S128x4, .f32⟩
  | 6 => ⟨S4x128, .f32⟩
  | 7 => ⟨S4x32x128x128, .f32⟩
  | 8 => ⟨S4x128x128, .f32⟩
  | 9 => ⟨S4x32x128x128, .f32⟩
  | 10 => ⟨S32x128x4x128, .f32⟩
  | 11 => ⟨S_, .f32⟩
  | 12 => ⟨S4x128x128, .f32⟩
  | 13 => ⟨S4x128x128, .f32⟩
  | 14 => ⟨S4096x4x128, .f32⟩
  | 15 => ⟨S4096x4x128, .f32⟩
  | 16 => ⟨S_, .f32⟩
  | 17 => ⟨S4x128, .f32⟩
  | 18 => ⟨S1x4x128, .f32⟩
  | 19 => ⟨S4096x4x128, .f32⟩
  | 20 => ⟨S4096x4x128, .f32⟩
  | 21 => ⟨S_, .f32⟩
  | 22 => ⟨S4x128, .f32⟩
  | 23 => ⟨S512, .f32⟩
  | 24 => ⟨S4096x4x128, .f32⟩
  | 25 => ⟨S_, .f32⟩
  | 26 => ⟨S4096x4, .f32⟩
  | 27 => ⟨S4096x4x1, .f32⟩
  | 28 => ⟨S4096x4x128, .f32⟩
  | 29 => ⟨S4096x4x128, .f32⟩
  | 30 => ⟨S4096x4x1, .f32⟩
  | 31 => ⟨S_, .f32⟩
  | 32 => ⟨S4096x4x1, .f32⟩
  | 33 => ⟨S4096x4x1, .f32⟩
  | 34 => ⟨S_, .f32⟩
  | 35 => ⟨S4096x4, .f32⟩
  | 36 => ⟨S4096x4x128, .f32⟩
  | 37 => ⟨S4096x4x128, .f32⟩
  | 38 => ⟨S4096x4x128, .f32⟩
  | 39 => ⟨S4096x4x128, .f32⟩
  | 40 => ⟨S4096x4x128, .f32⟩
  | 41 => ⟨S4096x512, .f32⟩
  | 42 => ⟨S4096x512, .f32⟩
  | 43 => ⟨S4096x512, .f32⟩
  | 44 => ⟨S_, .f32⟩
  | 45 => ⟨S4096x512, .f32⟩
  | 46 => ⟨S4096x512, .f32⟩
  | 47 => ⟨S4096x512, .f32⟩
  | 48 => ⟨S_, .f32⟩
  | 49 => ⟨S4096x512, .f32⟩
  | 50 => ⟨S4096x512, .f32⟩
  | 51 => ⟨S4096x512, .f32⟩
  | 52 => ⟨S_, .f32⟩
  | 53 => ⟨S4096x512, .f32⟩
  | 54 => ⟨S4096x512, .f32⟩
  | 55 => ⟨S_, .f32⟩
  | 56 => ⟨S4096x512, .f32⟩
  | 57 => ⟨S4096x512, .f32⟩
  | 58 => ⟨S4096x512, .f32⟩
  | 59 => ⟨S4096x512, .f32⟩
  | 60 => ⟨S4096x512, .f32⟩
  | 61 => ⟨S4096x512, .f32⟩
  | 62 => ⟨S_, .f32⟩
  | 63 => ⟨S4096x512, .f32⟩
  | 64 => ⟨S4096x512, .f32⟩
  | 65 => ⟨S4096x512, .f32⟩
  | 66 => ⟨S_, .f32⟩
  | 67 => ⟨S4096x512, .f32⟩
  | 68 => ⟨S4096x512, .f32⟩
  | 69 => ⟨S4096x512, .f32⟩
  | 70 => ⟨S_, .f32⟩
  | 71 => ⟨S4096x512, .f32⟩
  | 72 => ⟨S4096x512, .f32⟩
  | 73 => ⟨S_, .f32⟩
  | 74 => ⟨S4096x512, .f32⟩
  | 75 => ⟨S4096x512, .f32⟩
  | 76 => ⟨S4096x512, .f32⟩
  | 77 => ⟨S4096x512, .f32⟩
  | 78 => ⟨S_, .f32⟩
  | 79 => ⟨S4096x2048, .f32⟩
  | 80 => ⟨S_, .f32⟩
  | 81 => ⟨S4096x128, .f32⟩
  | 82 => ⟨S4096x3200, .f32⟩
  | 83 => ⟨S4096x3200, .bf16⟩
  | 84 => ⟨S1x512, .f32⟩
  | 85 => ⟨S128x4, .f32⟩
  | 86 => ⟨S_, .i32⟩
  | 87 => ⟨S_, .f32⟩
  | 88 => ⟨S128x128, .f32⟩
  | _ => ⟨S4096x3200, .f32⟩

abbrev hbmTy (i : Nat) : BufTy := match i / 128 with
  | 0 => hbmTy0_0 i
  | 1 => hbmTy0_1 i
  | _ => ⟨S4096x3200, .f32⟩

abbrev bufTy : (tb : Table) → Fin (tcTables nBuf tb) → BufTy
  | .hbm, ⟨i, _⟩ => hbmTy i
  | _, _ => ⟨S4096x3200, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_5 : Ref sig .tc := ⟨.hbm, 33, rfl⟩
abbrev main_v22 : Ref sig .tc := ⟨.hbm, 34, rfl⟩
abbrev main_v23 : Ref sig .tc := ⟨.hbm, 35, rfl⟩
abbrev main_cst_6 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_7 : Ref sig .tc := ⟨.hbm, 43, rfl⟩
abbrev main_v30 : Ref sig .tc := ⟨.hbm, 44, rfl⟩
abbrev main_v31 : Ref sig .tc := ⟨.hbm, 45, rfl⟩
abbrev main_cst_8 : Ref sig .tc := ⟨.hbm, 46, rfl⟩
abbrev main_v32 : Ref sig .tc := ⟨.hbm, 47, rfl⟩
abbrev main_v33 : Ref sig .tc := ⟨.hbm, 48, rfl⟩
abbrev main_cst_9 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_10 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_11 : Ref sig .tc := ⟨.hbm, 57, rfl⟩
abbrev main_v40 : Ref sig .tc := ⟨.hbm, 58, rfl⟩
abbrev main_v41 : Ref sig .tc := ⟨.hbm, 59, rfl⟩
abbrev main_cst_12 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_13 : Ref sig .tc := ⟨.hbm, 64, rfl⟩
abbrev main_v45 : Ref sig .tc := ⟨.hbm, 65, rfl⟩
abbrev main_v46 : Ref sig .tc := ⟨.hbm, 66, rfl⟩
abbrev main_cst_14 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_15 : Ref sig .tc := ⟨.hbm, 73, rfl⟩
abbrev main_v52 : Ref sig .tc := ⟨.hbm, 74, rfl⟩
abbrev main_v53 : Ref sig .tc := ⟨.hbm, 75, rfl⟩
abbrev main_cst_16 : Ref sig .tc := ⟨.hbm, 76, rfl⟩
abbrev main_v54 : Ref sig .tc := ⟨.hbm, 77, rfl⟩
abbrev main_v55 : Ref sig .tc := ⟨.hbm, 78, rfl⟩
abbrev main_cst_17 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_cst_18 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_c : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_cst_19 : Ref sig .tc := ⟨.hbm, 103, rfl⟩
abbrev main_call0_v0 : Ref sig .tc := ⟨.hbm, 104, rfl⟩
abbrev main_v77_1 : Ref sig .tc := ⟨.hbm, 105, rfl⟩
abbrev main_call0_v2 : Ref sig .tc := ⟨.hbm, 106, rfl⟩
abbrev main_v77_0 : Ref sig .tc := ⟨.hbm, 107, rfl⟩
abbrev main_call0_cst : Ref sig .tc := ⟨.hbm, 108, rfl⟩
abbrev main_v77_2 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_cst_20 : Ref sig .tc := ⟨.hbm, 124, rfl⟩
abbrev main_v92 : Ref sig .tc := ⟨.hbm, 125, rfl⟩
abbrev main_v93 : Ref sig .tc := ⟨.hbm, 126, rfl⟩
abbrev main_cst_21 : Ref sig .tc := ⟨.hbm, 127, rfl⟩
abbrev main_v94 : Ref sig .tc := ⟨.hbm, 128, rfl⟩
abbrev main_cst_22 : Ref sig .tc := ⟨.hbm, 129, rfl⟩
abbrev main_v95 : Ref sig .tc := ⟨.hbm, 130, rfl⟩
abbrev main_v96 : Ref sig .tc := ⟨.hbm, 131, rfl⟩
abbrev main_cst_23 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_call1_cst : Ref sig .tc := ⟨.hbm, 139, rfl⟩
abbrev main_call1_v0 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_cst_24 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_cst_25 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_cst_26 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_cst_27 : Ref sig .tc := ⟨.hbm, 159, rfl⟩
abbrev main_v118 : Ref sig .tc := ⟨.hbm, 160, rfl⟩
abbrev main_v119 : Ref sig .tc := ⟨.hbm, 161, rfl⟩
abbrev main_cst_28 : Ref sig .tc := ⟨.hbm, 162, rfl⟩
abbrev main_v120 : Ref sig .tc := ⟨.hbm, 163, rfl⟩
abbrev main_v121 : Ref sig .tc := ⟨.hbm, 164, rfl⟩
abbrev main_v122 : Ref sig .tc := ⟨.hbm, 165, rfl⟩
abbrev main_v123 : Ref sig .tc := ⟨.hbm, 166, rfl⟩
abbrev main_v124 : Ref sig .tc := ⟨.hbm, 167, rfl⟩
abbrev main_v125 : Ref sig .tc := ⟨.hbm, 168, rfl⟩
abbrev main_v126 : Ref sig .tc := ⟨.hbm, 169, rfl⟩
abbrev main_v127 : Ref sig .tc := ⟨.hbm, 170, rfl⟩
abbrev main_v128 : Ref sig .tc := ⟨.hbm, 171, rfl⟩
abbrev main_cst_29 : Ref sig .tc := ⟨.hbm, 172, rfl⟩
abbrev main_v129 : Ref sig .tc := ⟨.hbm, 173, rfl⟩
abbrev main_v130 : Ref sig .tc := ⟨.hbm, 174, rfl⟩
abbrev main_v131 : Ref sig .tc := ⟨.hbm, 175, rfl⟩
abbrev main_cst_30 : Ref sig .tc := ⟨.hbm, 176, rfl⟩
abbrev main_v132 : Ref sig .tc := ⟨.hbm, 177, rfl⟩
abbrev main_v133 : Ref sig .tc := ⟨.hbm, 178, rfl⟩
abbrev main_v134 : Ref sig .tc := ⟨.hbm, 179, rfl⟩
abbrev main_cst_31 : Ref sig .tc := ⟨.hbm, 180, rfl⟩
abbrev main_v135 : Ref sig .tc := ⟨.hbm, 181, rfl⟩
abbrev main_v136 : Ref sig .tc := ⟨.hbm, 182, rfl⟩
abbrev main_cst_32 : Ref sig .tc := ⟨.hbm, 183, rfl⟩
abbrev main_v137 : Ref sig .tc := ⟨.hbm, 184, rfl⟩
abbrev main_v138 : Ref sig .tc := ⟨.hbm, 185, rfl⟩
abbrev main_v139 : Ref sig .tc := ⟨.hbm, 186, rfl⟩
abbrev main_v140 : Ref sig .tc := ⟨.hbm, 187, rfl⟩
abbrev main_v141 : Ref sig .tc := ⟨.hbm, 188, rfl⟩
abbrev main_v142 : Ref sig .tc := ⟨.hbm, 189, rfl⟩
abbrev main_cst_33 : Ref sig .tc := ⟨.hbm, 190, rfl⟩
abbrev main_v143 : Ref sig .tc := ⟨.hbm, 191, rfl⟩
abbrev main_v144 : Ref sig .tc := ⟨.hbm, 192, rfl⟩
abbrev main_v145 : Ref sig .tc := ⟨.hbm, 193, rfl⟩
abbrev main_cst_34 : Ref sig .tc := ⟨.hbm, 194, rfl⟩
abbrev main_v146 : Ref sig .tc := ⟨.hbm, 195, rfl⟩
abbrev main_v147 : Ref sig .tc := ⟨.hbm, 196, rfl⟩
abbrev main_v148 : Ref sig .tc := ⟨.hbm, 197, rfl⟩
abbrev main_cst_35 : Ref sig .tc := ⟨.hbm, 198, rfl⟩
abbrev main_v149 : Ref sig .tc := ⟨.hbm, 199, rfl⟩
abbrev main_v150 : Ref sig .tc := ⟨.hbm, 200, rfl⟩
abbrev main_cst_36 : Ref sig .tc := ⟨.hbm, 201, rfl⟩
abbrev main_v151 : Ref sig .tc := ⟨.hbm, 202, rfl⟩
abbrev main_v152 : Ref sig .tc := ⟨.hbm, 203, rfl⟩
abbrev main_v153 : Ref sig .tc := ⟨.hbm, 204, rfl⟩
abbrev main_v154 : Ref sig .tc := ⟨.hbm, 205, rfl⟩
abbrev main_cst_37 : Ref sig .tc := ⟨.hbm, 206, rfl⟩
abbrev main_v155 : Ref sig .tc := ⟨.hbm, 207, rfl⟩
abbrev main_cst_38 : Ref sig .tc := ⟨.hbm, 208, rfl⟩
abbrev main_v156 : Ref sig .tc := ⟨.hbm, 209, rfl⟩
abbrev main_v157 : Ref sig .tc := ⟨.hbm, 210, rfl⟩
abbrev main_v158 : Ref sig .tc := ⟨.hbm, 211, rfl⟩
abbrev main_v159 : Ref sig .tc := ⟨.hbm, 212, rfl⟩
abbrev main_v160 : Ref sig .tc := ⟨.hbm, 213, rfl⟩
abbrev main_c_39 : Ref sig .tc := ⟨.hbm, 214, rfl⟩
abbrev main_call2_v0 : Ref sig .tc := ⟨.hbm, 215, rfl⟩
abbrev main_v161 : Ref sig .tc := ⟨.hbm, 216, rfl⟩

abbrev nD : Nat := 1
abbrev τ : Topo := Topo.v7x

variable {F : FTy → Type} [FloatOps F]
-- ==== Kernel2.lean ====
abbrev S4096x1024 : Shape := ⟨2, ![4096, 1024]⟩
abbrev S2816x1024 : Shape := ⟨2, ![2816, 1024]⟩
abbrev S4096x2816 : Shape := ⟨2, ![4096, 2816]⟩
abbrev S512x1024 : Shape := ⟨2, ![512, 1024]⟩
abbrev S512x2816 : Shape := ⟨2, ![512, 2816]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S2816x1024, .bf16⟩
  | .hbm, ⟨2, _⟩ => ⟨S4096x2816, .f32⟩
  | .local _ .vmem, ⟨0, _⟩ => ⟨S512x1024, .bf16⟩
  | .local _ .vmem, ⟨1, _⟩ => ⟨S512x1024, .bf16⟩
  | .local _ .vmem, ⟨2, _⟩ => ⟨S2816x1024, .bf16⟩
  | .local _ .vmem, ⟨3, _⟩ => ⟨S512x2816, .f32⟩
  | .local _ .vmem, ⟨4, _⟩ => ⟨S512x2816, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S512x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S4096x1024 : Shape := ⟨2, ![4096, 1024]⟩
abbrev S2816x1024 : Shape := ⟨2, ![2816, 1024]⟩
abbrev S_ : Shape := ⟨0, ![]⟩
abbrev S4096x2816 : Shape := ⟨2, ![4096, 2816]⟩
abbrev S1024x2816 : Shape := ⟨2, ![1024, 2816]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S2816x1024, .bf16⟩
  | .hbm, ⟨2, _⟩ => ⟨S_, .f32⟩
  | .hbm, ⟨3, _⟩ => ⟨S4096x2816, .f32⟩
  | .hbm, ⟨4, _⟩ => ⟨S2816x1024, .f32⟩
  | .hbm, ⟨5, _⟩ => ⟨S4096x1024, .f32⟩
  | .hbm, ⟨6, _⟩ => ⟨S4096x1024, .f32⟩
  | .hbm, ⟨7, _⟩ => ⟨S1024x2816, .f32⟩
  | .hbm, ⟨8, _⟩ => ⟨S2816x1024, .f32⟩
  | .hbm, ⟨9, _⟩ => ⟨S4096x2816, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel3.lean ====
abbrev S4096x2816 : Shape := ⟨2, ![4096, 2816]⟩
abbrev S4096x1024 : Shape := ⟨2, ![4096, 1024]⟩
abbrev S2816x1024 : Shape := ⟨2, ![2816, 1024]⟩
abbrev S4096x256 : Shape := ⟨2, ![4096, 256]⟩
abbrev S256x1024 : Shape := ⟨2, ![256, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S2816x1024, .bf16⟩
  | .local _ .vmem, ⟨0, _⟩ => ⟨S4096x256, .bf16⟩
  | .local _ .vmem, ⟨1, _⟩ => ⟨S4096x256, .bf16⟩
  | .local _ .vmem, ⟨2, _⟩ => ⟨S4096x1024, .bf16⟩
  | .local _ .vmem, ⟨3, _⟩ => ⟨S256x1024, .bf16⟩
  | .local _ .vmem, ⟨4, _⟩ => ⟨S256x1024, .bf16⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 11
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S4096x2816, .f32⟩
  | .hbm, ⟨3, _⟩ => ⟨S_, .f32⟩
  | .hbm, ⟨4, _⟩ => ⟨S2816x1024, .f32⟩
  | .hbm, ⟨5, _⟩ => ⟨S4096x1024, .f32⟩
  | .hbm, ⟨6, _⟩ => ⟨S4096x1024, .f32⟩
  | .hbm, ⟨7, _⟩ => ⟨S1024x2816, .f32⟩
  | .hbm, ⟨8, _⟩ => ⟨S2816x1024, .f32⟩
  | .hbm, ⟨9, _⟩ => ⟨S4096x2816, .f32⟩
  | .hbm, ⟨10, _⟩ => ⟨S2816x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel4.lean ====
abbrev S4096x5632 : Shape := ⟨2, ![4096, 5632]⟩
abbrev S4096x1024 : Shape := ⟨2, ![4096, 1024]⟩
abbrev S5632x1024 : Shape := ⟨2, ![5632, 1024]⟩
abbrev S4096x512 : Shape := ⟨2, ![4096, 512]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x5632, .bf16⟩
  | .hbm, ⟨1, _⟩ => ⟨S4096x1024, .bf16⟩
  | .hbm, ⟨2, _⟩ => ⟨S5632x1024, .bf16⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S512x1024, .bf16⟩
  | .local _ .vmem, ⟨4, _⟩ => ⟨S512x1024, .bf16⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S4096x5632 : Shape := ⟨2, ![4096, 5632]⟩
abbrev S4096x1024 : Shape := ⟨2, ![4096, 1024]⟩
abbrev S_ : Shape := ⟨0, ![]⟩
abbrev S1024x5632 : Shape := ⟨2, ![1024, 5632]⟩
abbrev S5632x1024 : Shape := ⟨2, ![5632, 1024]⟩

abbrev nBuf : Space → Nat
  | .hbm => 12
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S4096x1024, .bf16⟩
  | .hbm, ⟨2, _⟩ => ⟨S4096x1024, .f32⟩
  | .hbm, ⟨3, _⟩ => ⟨S_, .f32⟩
  | .hbm, ⟨4, _⟩ => ⟨S1024x5632, .f32⟩
  | .hbm, ⟨5, _⟩ => ⟨S4096x5632, .f32⟩
  | .hbm, ⟨6, _⟩ => ⟨S4096x5632, .f32⟩
  | .hbm, ⟨7, _⟩ => ⟨S5632x1024, .f32⟩
  | .hbm, ⟨8, _⟩ => ⟨S1024x5632, .f32⟩
  | .hbm, ⟨9, _⟩ => ⟨S4096x1024, .f32⟩
  | .hbm, ⟨10, _⟩ => ⟨S5632x1024, .f32⟩
  | .hbm, ⟨11, _⟩ => ⟨S5632x1024, .bf16⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel5.lean ====
abbrev S4096x1024 : Shape := ⟨2, ![4096, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S4096x1024 : Shape := ⟨2, ![4096, 1024]⟩
abbrev S1024x1024 : Shape := ⟨2, ![1024, 1024]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S_, .f32⟩
  | .hbm, ⟨3, _⟩ => ⟨S4096x1024, .f32⟩
  | .hbm, ⟨4, _⟩ => ⟨S1024x1024, .f32⟩
  | .hbm, ⟨5, _⟩ => ⟨S4096x1024, .f32⟩
  | .hbm, ⟨6, _⟩ => ⟨S4096x1024, .f32⟩
  | .hbm, ⟨7, _⟩ => ⟨S1024x1024, .f32⟩
  | .hbm, ⟨8, _⟩ => ⟨S1024x1024, .f32⟩
  | .hbm, ⟨9, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel6.lean ====
abbrev S4096x1024 : Shape := ⟨2, ![4096, 1024]⟩
abbrev S1024x1024 : Shape := ⟨2, ![1024, 1024]⟩
abbrev S4096x512 : Shape := ⟨2, ![4096, 512]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .bf16⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S512x1024, .bf16⟩
  | .local _ .vmem, ⟨4, _⟩ => ⟨S512x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .f32⟩
  | .hbm, ⟨3, _⟩ => ⟨S_, .f32⟩
  | .hbm, ⟨4, _⟩ => ⟨S1024x1024, .f32⟩
  | .hbm, ⟨5, _⟩ => ⟨S4096x1024, .f32⟩
  | .hbm, ⟨6, _⟩ => ⟨S4096x1024, .f32⟩
  | .hbm, ⟨7, _⟩ => ⟨S1024x1024, .f32⟩
  | .hbm, ⟨8, _⟩ => ⟨S1024x1024, .f32⟩
  | .hbm, ⟨9, _⟩ => ⟨S4096x1024, .f32⟩
  | .hbm, ⟨10, _⟩ => ⟨S1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel7.lean ====
abbrev S4096x3200 : Shape := ⟨2, ![4096, 3200]⟩
abbrev S4096x1024 : Shape := ⟨2, ![4096, 1024]⟩
abbrev S3200x1024 : Shape := ⟨2, ![3200, 1024]⟩
abbrev S4096x640 : Shape := ⟨2, ![4096, 640]⟩
abbrev S640x1024 : Shape := ⟨2, ![640, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x3200, .bf16⟩
  | .hbm, ⟨1, _⟩ => ⟨S4096x1024, .bf16⟩
  | .hbm, ⟨2, _⟩ => ⟨S3200x1024, .bf16⟩
  | .local _ .vmem, ⟨0, _⟩ => ⟨S4096x640, .bf16⟩
  | .local _ .vmem, ⟨1, _⟩ => ⟨S4096x640, .bf16⟩
  | .local _ .vmem, ⟨2, _⟩ => ⟨S4096x1024, .bf16⟩
  | .local _ .vmem, ⟨3, _⟩ => ⟨S640x1024, .bf16⟩
  | .local _ .vmem, ⟨4, _⟩ => ⟨S640x1024, .bf16⟩
  | _, _ => ⟨S4096x3200, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 5, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S4096x640 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S640x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S4096x3200 : Shape := ⟨2, ![4096, 3200]⟩
abbrev S4096x1024 : Shape := ⟨2, ![4096, 1024]⟩
abbrev S_ : Shape := ⟨0, ![]⟩
abbrev S1024x3200 : Shape := ⟨2, ![1024, 3200]⟩
abbrev S3200x1024 : Shape := ⟨2, ![3200, 1024]⟩

abbrev nBuf : Space → Nat
  | .hbm => 12
  | .vmem => 0
  | .smem => 0
  | _ => 0

abbrev bufTy : (tb : Table) → Fin (tcTables nBuf tb) → BufTy
  | .hbm, ⟨0, _⟩ => ⟨S4096x3200, .bf16⟩
  | .hbm, ⟨1, _⟩ => ⟨S4096x1024, .bf16⟩
  | .hbm, ⟨2, _⟩ => ⟨S4096x1024, .f32⟩
  | .hbm, ⟨3, _⟩ => ⟨S_, .f32⟩
  | .hbm, ⟨4, _⟩ => ⟨S1024x3200, .f32⟩
  | .hbm, ⟨5, _⟩ => ⟨S4096x3200, .f32⟩
  | .hbm, ⟨6, _⟩ => ⟨S4096x3200, .f32⟩
  | .hbm, ⟨7, _⟩ => ⟨S3200x1024, .f32⟩
  | .hbm, ⟨8, _⟩ => ⟨S1024x3200, .f32⟩
  | .hbm, ⟨9, _⟩ => ⟨S4096x1024, .f32⟩
  | .hbm, ⟨10, _⟩ => ⟨S3200x1024, .f32⟩
  | .hbm, ⟨11, _⟩ => ⟨S3200x1024, .bf16⟩
  | _, _ => ⟨S4096x3200, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel8.lean ====
abbrev S4096x5632 : Shape := ⟨2, ![4096, 5632]⟩
abbrev S5632x1024 : Shape := ⟨2, ![5632, 1024]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S256x5632 : Shape := ⟨2, ![256, 5632]⟩
abbrev S256x1024 : Shape := ⟨2, ![256, 1024]⟩
abbrev S256x1 : Shape := ⟨2, ![256, 1]⟩
abbrev S256 : Shape := ⟨1, ![256]⟩
abbrev S1024 : Shape := ⟨1, ![1024]⟩

abbrev nBuf : Space → Nat
  | .hbm => 19
  | .vmem => 15
  | .smem => 0
  | _ => 0

abbrev bufTy : (tb : Table) → Fin (tcTables nBuf tb) → BufTy
  | .hbm, ⟨0, _⟩ => ⟨S4096x5632, .bf16⟩
  | .hbm, ⟨1, _⟩ => ⟨S5632x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .bf16⟩
  | .hbm, ⟨18, _⟩ => ⟨S1x1024, .f32⟩
  | .local _ .vmem, ⟨0, _⟩ => ⟨S256x5632, .bf16⟩
  | .local _ .vmem, ⟨1, _⟩ => ⟨S256x5632, .bf16⟩
  | .local _ .vmem, ⟨2, _⟩ => ⟨S5632x1024, .bf16⟩
  | .local _ .vmem, ⟨3, _⟩ => ⟨S256x1024, .f32⟩
  | .local _ .vmem, ⟨4, _⟩ => ⟨S256x1024, .f32⟩
  | .local _ .vmem, ⟨5, _⟩ => ⟨S256x1, .f32⟩
  | .local _ .vmem, ⟨6, _⟩ => ⟨S256x1, .f32⟩
  | .local _ .vmem, ⟨7, _⟩ => ⟨S1x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .bf16⟩
  | .local _ .vmem, ⟨13, _⟩ => ⟨S256x1024, .bf16⟩
  | .local _ .vmem, ⟨14, _⟩ => ⟨S1x1024, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8_0 : Ref sig .tc := ⟨.hbm, 16, rfl⟩
abbrev main_v8_1 : Ref sig .tc := ⟨.hbm, 17, rfl⟩
abbrev main_v8_2 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S5632x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference8Ideal.lean ====
abbrev S4096x5632 : Shape := ⟨2, ![4096, 5632]⟩
abbrev S5632x1024 : Shape := ⟨2, ![5632, 1024]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024x5632 : Shape := ⟨2, ![1024, 5632]⟩
abbrev S1024 : Shape := ⟨1, ![1024]⟩

abbrev nBuf : Space → Nat
  | .hbm => 55
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S5632x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S5632x1024, .f32⟩
  | .hbm, ⟨25, _⟩ => ⟨S1024x5632, .f32⟩
  | .hbm, ⟨26, _⟩ => ⟨S4096x5632, .f32⟩
  | .hbm, ⟨27, _⟩ => ⟨S4096x5632, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S1024, .f32⟩
  | .hbm, ⟨32, _⟩ => ⟨S1x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S_, .f32⟩
  | .hbm, ⟨37, _⟩ => ⟨S4096, .f32⟩
  | .hbm, ⟨38, _⟩ => ⟨S4096x1, .f32⟩
  | .hbm, ⟨39, _⟩ => ⟨S4096x1024, .f32⟩
  | .hbm, ⟨40, _⟩ => ⟨S4096x1024, .f32⟩
  | .hbm, ⟨41, _⟩ => ⟨S4096x1, .f32⟩
  | .hbm, ⟨42, _⟩ => ⟨S_, .f32⟩
  | .hbm, ⟨43, _⟩ => ⟨S4096x1, .f32⟩
  | .hbm, ⟨44, _⟩ => ⟨S4096x1, .f32⟩
  | .hbm, ⟨45, _⟩ => ⟨S_, .f32⟩
  | .hbm, ⟨46, _⟩ => ⟨S4096, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .bf16⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩

abbrev nD : Nat := 1
abbrev τ : Topo := Topo.v7x

variable {F : FTy → Type} [FloatOps F]
-- ==== Kernel9.lean ====
abbrev S4096x3200 : Shape := ⟨2, ![4096, 3200]⟩
abbrev S3080x1024 : Shape := ⟨2, ![3080, 1024]⟩
abbrev S4096x1024 : Shape := ⟨2, ![4096, 1024]⟩
abbrev S1x1024 : Shape := ⟨2, ![1, 1024]⟩
abbrev S8x1024 : Shape := ⟨2, ![8, 1024]⟩
abbrev S_ : Shape := ⟨0, ![]⟩
abbrev S128x1024 : Shape := ⟨2, ![128, 1024]⟩
abbrev S4096 : Shape := ⟨1, ![4096]⟩
abbrev S4096x1 : Shape := ⟨2, ![4096, 1]⟩
abbrev S512x3200 : Shape := ⟨2, ![512, 3200]⟩
abbrev S3072x1024 : Shape := ⟨2, ![3072, 1024]⟩
abbrev S512x1024 : Shape := ⟨2, ![512, 1024]⟩
abbrev S512x1 : Shape := ⟨2, ![512, 1]⟩
abbrev S512x3072 : Shape := ⟨2, ![512, 3072]⟩
abbrev S512x128 : Shape := ⟨2, ![512, 128]⟩
abbrev S512 : Shape := ⟨1, ![512]⟩
abbrev S1024 : Shape := ⟨1, ![1024]⟩

abbrev nBuf : Space → Nat
  | .hbm => 23
  | .vmem => 16
  | .smem => 0
  | _ => 0

abbrev bufTy : (tb : Table) → Fin (tcTables nBuf tb) → BufTy
  | .hbm, ⟨0, _⟩ => ⟨S4096x3200, .bf16⟩
  | .hbm, ⟨1, _⟩ => ⟨S3080x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S8x1024, .bf16⟩
  | .hbm, ⟨6, _⟩ => ⟨S_, .i32⟩
  | .hbm, ⟨7, _⟩ => ⟨S_, .bf16⟩
  | .hbm, ⟨8, _⟩ => ⟨S128x1024, .bf16⟩
  | .hbm, ⟨9, _⟩ => ⟨S4096x1024, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .bf16⟩
  | .hbm, ⟨22, _⟩ => ⟨S1x1024, .f32⟩
  | .local _ .vmem, ⟨0, _⟩ => ⟨S512x3200, .bf16⟩
  | .local _ .vmem, ⟨1, _⟩ => ⟨S512x3200, .bf16⟩
  | .local _ .vmem, ⟨2, _⟩ => ⟨S3072x1024, .bf16⟩
  | .local _ .vmem, ⟨3, _⟩ => ⟨S128x1024, .bf16⟩
  | .local _ .vmem, ⟨4, _⟩ => ⟨S512x1024, .f32⟩
  | .local _ .vmem, ⟨5, _⟩ => ⟨S512x1024, .f32⟩
  | .local _ .vmem, ⟨6, _⟩ => ⟨S512x1, .f32⟩
  | .local _ .vmem, ⟨7, _⟩ => ⟨S512x1, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .bf16⟩
  | .local _ .vmem, ⟨14, _⟩ => ⟨S512x1024, .bf16⟩
  | .local _ .vmem, ⟨15, _⟩ => ⟨S1x1024, .f32⟩
  | _, _ => ⟨S4096x3200, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10_0 : Ref sig .tc := ⟨.hbm, 20, rfl⟩
abbrev main_v10_1 : Ref sig .tc := ⟨.hbm, 21, rfl⟩
abbrev main_v10_2 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x3200 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3072x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference9Ideal.lean ====
abbrev S4096x3200 : Shape := ⟨2, ![4096, 3200]⟩
abbrev S3080x1024 : Shape := ⟨2, ![3080, 1024]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024x3080 : Shape := ⟨2, ![1024, 3080]⟩
abbrev S4096x3080 : Shape := ⟨2, ![4096, 3080]⟩
abbrev S1024 : Shape := ⟨1, ![1024]⟩

abbrev nBuf : Space → Nat
  | .hbm => 56
  | .vmem => 0
  | .smem => 0
  | _ => 0

abbrev bufTy : (tb : Table) → Fin (tcTables nBuf tb) → BufTy
  | .hbm, ⟨0, _⟩ => ⟨S4096x3200, .bf16⟩
  | .hbm, ⟨1, _⟩ => ⟨S3080x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S3080x1024, .f32⟩
  | .hbm, ⟨25, _⟩ => ⟨S1024x3080, .f32⟩
  | .hbm, ⟨26, _⟩ => ⟨S4096x3080, .f32⟩
  | .hbm, ⟨27, _⟩ => ⟨S4096x3080, .bf16⟩
  | .hbm, ⟨28, _⟩ => ⟨S4096x3080, .f32⟩
  | .hbm, ⟨29, _⟩ => ⟨S4096x1024, .f32⟩
  | .hbm, ⟨30, _⟩ => ⟨S4096x1024, .f32⟩
  | .hbm, ⟨31, _⟩ => ⟨S_, .f32⟩
  | .hbm, ⟨32, _⟩ => ⟨S1024, .f32⟩
  | .hbm, ⟨33, _⟩ => ⟨S1x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S_, .f32⟩
  | .hbm, ⟨38, _⟩ => ⟨S4096, .f32⟩
  | .hbm, ⟨39, _⟩ => ⟨S4096x1, .f32⟩
  | .hbm, ⟨40, _⟩ => ⟨S4096x1024, .f32⟩
  | .hbm, ⟨41, _⟩ => ⟨S4096x1024, .f32⟩
  | .hbm, ⟨42, _⟩ => ⟨S4096x1, .f32⟩
  | .hbm, ⟨43, _⟩ => ⟨S_, .f32⟩
  | .hbm, ⟨44, _⟩ => ⟨S4096x1, .f32⟩
  | .hbm, ⟨45, _⟩ => ⟨S4096x1, .f32⟩
  | .hbm, ⟨46, _⟩ => ⟨S_, .f32⟩
  | .hbm, ⟨47, _⟩ => ⟨S4096, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .bf16⟩
  | _, _ => ⟨S4096x3200, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_5 : Ref sig .tc := ⟨.hbm, 43, rfl⟩
abbrev main_v32 : Ref sig .tc := ⟨.hbm, 44, rfl⟩
abbrev main_v33 : Ref sig .tc := ⟨.hbm, 45, rfl⟩
abbrev main_cst_6 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩

abbrev nD : Nat := 1
abbrev τ : Topo := Topo.v7x

variable {F : FTy → Type} [FloatOps F]
-- ==== Kernel10.lean ====
abbrev S4096x1024 : Shape := ⟨2, ![4096, 1024]⟩
abbrev S1x1024 : Shape := ⟨2, ![1, 1024]⟩
abbrev S3080x1024 : Shape := ⟨2, ![3080, 1024]⟩
abbrev S8x1024 : Shape := ⟨2, ![8, 1024]⟩
abbrev S_ : Shape := ⟨0, ![]⟩
abbrev S128x1024 : Shape := ⟨2, ![128, 1024]⟩
abbrev S4096x3200 : Shape := ⟨2, ![4096, 3200]⟩
abbrev S4096x1 : Shape := ⟨2, ![4096, 1]⟩
abbrev S512x1024 : Shape := ⟨2, ![512, 1024]⟩
abbrev S3072x1024 : Shape := ⟨2, ![3072, 1024]⟩
abbrev S512x3200 : Shape := ⟨2, ![512, 3200]⟩
abbrev S512x1 : Shape := ⟨2, ![512, 1]⟩
abbrev S512 : Shape := ⟨1, ![512]⟩
abbrev S512x3072 : Shape := ⟨2, ![512, 3072]⟩
abbrev S512x128 : Shape := ⟨2, ![512, 128]⟩

abbrev nBuf : Space → Nat
  | .hbm => 10
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S3080x1024, .bf16⟩
  | .hbm, ⟨3, _⟩ => ⟨S8x1024, .bf16⟩
  | .hbm, ⟨4, _⟩ => ⟨S_, .i32⟩
  | .hbm, ⟨5, _⟩ => ⟨S_, .bf16⟩
  | .hbm, ⟨6, _⟩ => ⟨S128x1024, .bf16⟩
  | .hbm, ⟨7, _⟩ => ⟨S4096x3200, .f32⟩
  | .hbm, ⟨8, _⟩ => ⟨S4096x1024, .bf16⟩
  | .hbm, ⟨9, _⟩ => ⟨S4096x1, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S3072x1024, .bf16⟩
  | .local _ .vmem, ⟨4, _⟩ => ⟨S128x1024, .bf16⟩
  | .local _ .vmem, ⟨5, _⟩ => ⟨S512x3200, .f32⟩
  | .local _ .vmem, ⟨6, _⟩ => ⟨S512x3200, .f32⟩
  | .local _ .vmem, ⟨7, _⟩ => ⟨S512x1024, .bf16⟩
  | .local _ .vmem, ⟨8, _⟩ => ⟨S512x1024, .bf16⟩
  | .local _ .vmem, ⟨9, _⟩ => ⟨S512x1, .f32⟩
  | .local _ .vmem, ⟨10, _⟩ => ⟨S512x1, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3072x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x3200 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference10Ideal.lean ====
abbrev S4096x1024 : Shape := ⟨2, ![4096, 1024]⟩
abbrev S1x1024 : Shape := ⟨2, ![1, 1024]⟩
abbrev S3080x1024 : Shape := ⟨2, ![3080, 1024]⟩
abbrev S_ : Shape := ⟨0, ![]⟩
abbrev S4096 : Shape := ⟨1, ![4096]⟩
abbrev S4096x1 : Shape := ⟨2, ![4096, 1]⟩
abbrev S1024x3080 : Shape := ⟨2, ![1024, 3080]⟩
abbrev S4096x3080 : Shape := ⟨2, ![4096, 3080]⟩
abbrev S4096x3200 : Shape := ⟨2, ![4096, 3200]⟩

abbrev nBuf : Space → Nat
  | .hbm => 36
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S3080x1024, .bf16⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S3080x1024, .f32⟩
  | .hbm, ⟨19, _⟩ => ⟨S1024x3080, .f32⟩
  | .hbm, ⟨20, _⟩ => ⟨S4096x3080, .f32⟩
  | .hbm, ⟨21, _⟩ => ⟨S_, .i32⟩
  | .hbm, ⟨22, _⟩ => ⟨S_, .f32⟩
  | .hbm, ⟨23, _⟩ => ⟨S4096x3200, .f32⟩
  | .hbm, ⟨24, _⟩ => ⟨S4096x1024, .bf16⟩
  | .hbm, ⟨25, _⟩ => ⟨S4096x1024, .f32⟩
  | .hbm, ⟨26, _⟩ => ⟨S_, .f32⟩
  | .hbm, ⟨27, _⟩ => ⟨S4096, .f32⟩
  | .hbm, ⟨28, _⟩ => ⟨S4096x1, .f32⟩
  | .hbm, ⟨29, _⟩ => ⟨S_, .f32⟩
  | .hbm, ⟨30, _⟩ => ⟨S4096x1, .f32⟩
  | .hbm, ⟨31, _⟩ => ⟨S4096x1, .f32⟩
  | .hbm, ⟨32, _⟩ => ⟨S_, .f32⟩
  | .hbm, ⟨33, _⟩ => ⟨S4096x1, .f32⟩
  | .hbm, ⟨34, _⟩ => ⟨S4096x1, .f32⟩
  | .hbm, ⟨35, _⟩ => ⟨S4096x1, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_c : Ref sig .tc := ⟨.hbm, 21, rfl⟩
abbrev main_call0_v0 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩

abbrev nD : Nat := 1
abbrev τ : Topo := Topo.v7x

variable {F : FTy → Type} [FloatOps F]
-- ==== Kernel11.lean ====
abbrev S4096x1024 : Shape := ⟨2, ![4096, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference11Ideal.lean ====
abbrev S4096x1024 : Shape := ⟨2, ![4096, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S4096x1024, .f32⟩
  | .hbm, ⟨4, _⟩ => ⟨S1024x1024, .f32⟩
  | .hbm, ⟨5, _⟩ => ⟨S4096x1024, .f32⟩
  | .hbm, ⟨6, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel12.lean ====
abbrev S8x352x1024 : Shape := ⟨3, ![8, 352, 1024]⟩
abbrev S1x352x1024 : Shape := ⟨3, ![1, 352, 1024]⟩
abbrev S8x176x1024 : Shape := ⟨3, ![8, 176, 1024]⟩
abbrev S1x176x1024 : Shape := ⟨3, ![1, 176, 1024]⟩
abbrev S176x1024 : Shape := ⟨2, ![176, 1024]⟩

abbrev nBuf : Space → Nat
  | .hbm => 8
  | .vmem => 16
  | .smem => 0
  | _ => 0

abbrev bufTy : (tb : Table) → Fin (tcTables nBuf tb) → BufTy
  | .hbm, ⟨0, _⟩ => ⟨S8x352x1024, .bf16⟩
  | .hbm, ⟨1, _⟩ => ⟨S1x352x1024, .f32⟩
  | .hbm, ⟨2, _⟩ => ⟨S1x352x1024, .f32⟩
  | .hbm, ⟨3, _⟩ => ⟨S1x352x1024, .f32⟩
  | .hbm, ⟨4, _⟩ => ⟨S1x352x1024, .f32⟩
  | .hbm, ⟨5, _⟩ => ⟨S1x352x1024, .f32⟩
  | .hbm, ⟨6, _⟩ => ⟨S1x352x1024, .f32⟩
  | .hbm, ⟨7, _⟩ => ⟨S1x352x1024, .f32⟩
  | .local _ .vmem, ⟨0, _⟩ => ⟨S8x176x1024, .bf16⟩
  | .local _ .vmem, ⟨1, _⟩ => ⟨S8x176x1024, .bf16⟩
  | .local _ .vmem, ⟨2, _⟩ => ⟨S1x176x1024, .f32⟩
  | .local _ .vmem, ⟨3, _⟩ => ⟨S1x176x1024, .f32⟩
  | .local _ .vmem, ⟨4, _⟩ => ⟨S1x176x1024, .f32⟩
  | .local _ .vmem, ⟨5, _⟩ => ⟨S1x176x1024, .f32⟩
  | .local _ .vmem, ⟨6, _⟩ => ⟨S1x176x1024, .f32⟩
  | .local _ .vmem, ⟨7, _⟩ => ⟨S1x176x1024, .f32⟩
  | .local _ .vmem, ⟨8, _⟩ => ⟨S1x176x1024, .f32⟩
  | .local _ .vmem, ⟨9, _⟩ => ⟨S1x176x1024, .f32⟩
  | .local _ .vmem, ⟨10, _⟩ => ⟨S1x176x1024, .f32⟩
  | .local _ .vmem, ⟨11, _⟩ => ⟨S1x176x1024, .f32⟩
  | .local _ .vmem, ⟨12, _⟩ => ⟨S1x176x1024, .f32⟩
  | .local _ .vmem, ⟨13, _⟩ => ⟨S1x176x1024, .f32⟩
  | .local _ .vmem, ⟨14, _⟩ => ⟨S1x176x1024, .f32⟩
  | .local _ .vmem, ⟨15, _⟩ => ⟨S1x176x1024, .f32⟩
  | _, _ => ⟨S8x352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S8x176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference12Ideal.lean ====
abbrev S8x352x1024 : Shape := ⟨3, ![8, 352, 1024]⟩
abbrev S1x352x1024 : Shape := ⟨3, ![1, 352, 1024]⟩
abbrev S_ : Shape := ⟨0, ![]⟩
abbrev S352x1024 : Shape := ⟨2, ![352, 1024]⟩

abbrev nBuf : Space → Nat
  | .hbm => 41
  | .vmem => 0
  | .smem => 0
  | _ => 0

abbrev bufTy : (tb : Table) → Fin (tcTables nBuf tb) → BufTy
  | .hbm, ⟨0, _⟩ => ⟨S8x352x1024, .bf16⟩
  | .hbm, ⟨1, _⟩ => ⟨S1x352x1024, .f32⟩
  | .hbm, ⟨2, _⟩ => ⟨S1x352x1024, .f32⟩
  | .hbm, ⟨3, _⟩ => ⟨S1x352x1024, .f32⟩
  | .hbm, ⟨4, _⟩ => ⟨S8x352x1024, .f32⟩
  | .hbm, ⟨5, _⟩ => ⟨S_, .f32⟩
  | .hbm, ⟨6, _⟩ => ⟨S352x1024, .f32⟩
  | .hbm, ⟨7, _⟩ => ⟨S1x352x1024, .f32⟩
  | .hbm, ⟨8, _⟩ => ⟨S_, .f32⟩
  | .hbm, ⟨9, _⟩ => ⟨S1x352x1024, .f32⟩
  | .hbm, ⟨10, _⟩ => ⟨S1x352x1024, .f32⟩
  | .hbm, ⟨11, _⟩ => ⟨S_, .f32⟩
  | .hbm, ⟨12, _⟩ => ⟨S1x352x1024, .f32⟩
  | .hbm, ⟨13, _⟩ => ⟨S1x352x1024, .f32⟩
  | .hbm, ⟨14, _⟩ => ⟨S1x352x1024, .f32⟩
  | .hbm, ⟨15, _⟩ => ⟨S_, .f32⟩
  | .hbm, ⟨16, _⟩ => ⟨S1x352x1024, .f32⟩
  | .hbm, ⟨17, _⟩ => ⟨S1x352x1024, .f32⟩
  | .hbm, ⟨18, _⟩ => ⟨S1x352x1024, .f32⟩
  | .hbm, ⟨19, _⟩ => ⟨S_, .f32⟩
  | .hbm, ⟨20, _⟩ => ⟨S1x352x1024, .f32⟩
  | .hbm, ⟨21, _⟩ => ⟨S1x352x1024, .f32⟩
  | .hbm, ⟨22, _⟩ => ⟨S1x352x1024, .f32⟩
  | .hbm, ⟨23, _⟩ => ⟨S_, .f32⟩
  | .hbm, ⟨24, _⟩ => ⟨S1x352x1024, .f32⟩
  | .hbm, ⟨25, _⟩ => ⟨S1x352x1024, .f32⟩
  | .hbm, ⟨26, _⟩ => ⟨S_, .f32⟩
  | .hbm, ⟨27, _⟩ => ⟨S1x352x1024, .f32⟩
  | .hbm, ⟨28, _⟩ => ⟨S1x352x1024, .f32⟩
  | .hbm, ⟨29, _⟩ => ⟨S1x352x1024, .f32⟩
  | .hbm, ⟨30, _⟩ => ⟨S_, .f32⟩
  | .hbm, ⟨31, _⟩ => ⟨S1x352x1024, .f32⟩
  | .hbm, ⟨32, _⟩ => ⟨S1x352x1024, .f32⟩
  | .hbm, ⟨33, _⟩ => ⟨S1x352x1024, .f32⟩
  | .hbm, ⟨34, _⟩ => ⟨S_, .f32⟩
  | .hbm, ⟨35, _⟩ => ⟨S1x352x1024, .f32⟩
  | .hbm, ⟨36, _⟩ => ⟨S1x352x1024, .f32⟩
  | .hbm, ⟨37, _⟩ => ⟨S1x352x1024, .f32⟩
  | .hbm, ⟨38, _⟩ => ⟨S_, .f32⟩
  | .hbm, ⟨39, _⟩ => ⟨S1x352x1024, .f32⟩
  | .hbm, ⟨40, _⟩ => ⟨S1x352x1024, .f32⟩
  | _, _ => ⟨S8x352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== Kernel13.lean ====
abbrev S8x704x1024 : Shape := ⟨3, ![8, 704, 1024]⟩
abbrev S1x704x1024 : Shape := ⟨3, ![1, 704, 1024]⟩
abbrev S8x176x1024 : Shape := ⟨3, ![8, 176, 1024]⟩
abbrev S1x176x1024 : Shape := ⟨3, ![1, 176, 1024]⟩
abbrev S176x1024 : Shape := ⟨2, ![176, 1024]⟩

abbrev nBuf : Space → Nat
  | .hbm => 8
  | .vmem => 16
  | .smem => 0
  | _ => 0

abbrev bufTy : (tb : Table) → Fin (tcTables nBuf tb) → BufTy
  | .hbm, ⟨0, _⟩ => ⟨S8x704x1024, .bf16⟩
  | .hbm, ⟨1, _⟩ => ⟨S1x704x1024, .f32⟩
  | .hbm, ⟨2, _⟩ => ⟨S1x704x1024, .f32⟩
  | .hbm, ⟨3, _⟩ => ⟨S1x704x1024, .f32⟩
  | .hbm, ⟨4, _⟩ => ⟨S1x704x1024, .f32⟩
  | .hbm, ⟨5, _⟩ => ⟨S1x704x1024, .f32⟩
  | .hbm, ⟨6, _⟩ => ⟨S1x704x1024, .f32⟩
  | .hbm, ⟨7, _⟩ => ⟨S1x704x1024, .f32⟩
  | .local _ .vmem, ⟨0, _⟩ => ⟨S8x176x1024, .bf16⟩
  | .local _ .vmem, ⟨1, _⟩ => ⟨S8x176x1024, .bf16⟩
  | .local _ .vmem, ⟨2, _⟩ => ⟨S1x176x1024, .f32⟩
  | .local _ .vmem, ⟨3, _⟩ => ⟨S1x176x1024, .f32⟩
  | .local _ .vmem, ⟨4, _⟩ => ⟨S1x176x1024, .f32⟩
  | .local _ .vmem, ⟨5, _⟩ => ⟨S1x176x1024, .f32⟩
  | .local _ .vmem, ⟨6, _⟩ => ⟨S1x176x1024, .f32⟩
  | .local _ .vmem, ⟨7, _⟩ => ⟨S1x176x1024, .f32⟩
  | .local _ .vmem, ⟨8, _⟩ => ⟨S1x176x1024, .f32⟩
  | .local _ .vmem, ⟨9, _⟩ => ⟨S1x176x1024, .f32⟩
  | .local _ .vmem, ⟨10, _⟩ => ⟨S1x176x1024, .f32⟩
  | .local _ .vmem, ⟨11, _⟩ => ⟨S1x176x1024, .f32⟩
  | .local _ .vmem, ⟨12, _⟩ => ⟨S1x176x1024, .f32⟩
  | .local _ .vmem, ⟨13, _⟩ => ⟨S1x176x1024, .f32⟩
  | .local _ .vmem, ⟨14, _⟩ => ⟨S1x176x1024, .f32⟩
  | .local _ .vmem, ⟨15, _⟩ => ⟨S1x176x1024, .f32⟩
  | _, _ => ⟨S8x704x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S8x176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference13Ideal.lean ====
abbrev S8x704x1024 : Shape := ⟨3, ![8, 704, 1024]⟩
abbrev S1x704x1024 : Shape := ⟨3, ![1, 704, 1024]⟩
abbrev S_ : Shape := ⟨0, ![]⟩
abbrev S704x1024 : Shape := ⟨2, ![704, 1024]⟩

abbrev nBuf : Space → Nat
  | .hbm => 41
  | .vmem => 0
  | .smem => 0
  | _ => 0

abbrev bufTy : (tb : Table) → Fin (tcTables nBuf tb) → BufTy
  | .hbm, ⟨0, _⟩ => ⟨S8x704x1024, .bf16⟩
  | .hbm, ⟨1, _⟩ => ⟨S1x704x1024, .f32⟩
  | .hbm, ⟨2, _⟩ => ⟨S1x704x1024, .f32⟩
  | .hbm, ⟨3, _⟩ => ⟨S1x704x1024, .f32⟩
  | .hbm, ⟨4, _⟩ => ⟨S8x704x1024, .f32⟩
  | .hbm, ⟨5, _⟩ => ⟨S_, .f32⟩
  | .hbm, ⟨6, _⟩ => ⟨S704x1024, .f32⟩
  | .hbm, ⟨7, _⟩ => ⟨S1x704x1024, .f32⟩
  | .hbm, ⟨8, _⟩ => ⟨S_, .f32⟩
  | .hbm, ⟨9, _⟩ => ⟨S1x704x1024, .f32⟩
  | .hbm, ⟨10, _⟩ => ⟨S1x704x1024, .f32⟩
  | .hbm, ⟨11, _⟩ => ⟨S_, .f32⟩
  | .hbm, ⟨12, _⟩ => ⟨S1x704x1024, .f32⟩
  | .hbm, ⟨13, _⟩ => ⟨S1x704x1024, .f32⟩
  | .hbm, ⟨14, _⟩ => ⟨S1x704x1024, .f32⟩
  | .hbm, ⟨15, _⟩ => ⟨S_, .f32⟩
  | .hbm, ⟨16, _⟩ => ⟨S1x704x1024, .f32⟩
  | .hbm, ⟨17, _⟩ => ⟨S1x704x1024, .f32⟩
  | .hbm, ⟨18, _⟩ => ⟨S1x704x1024, .f32⟩
  | .hbm, ⟨19, _⟩ => ⟨S_, .f32⟩
  | .hbm, ⟨20, _⟩ => ⟨S1x704x1024, .f32⟩
  | .hbm, ⟨21, _⟩ => ⟨S1x704x1024, .f32⟩
  | .hbm, ⟨22, _⟩ => ⟨S1x704x1024, .f32⟩
  | .hbm, ⟨23, _⟩ => ⟨S_, .f32⟩
  | .hbm, ⟨24, _⟩ => ⟨S1x704x1024, .f32⟩
  | .hbm, ⟨25, _⟩ => ⟨S1x704x1024, .f32⟩
  | .hbm, ⟨26, _⟩ => ⟨S_, .f32⟩
  | .hbm, ⟨27, _⟩ => ⟨S1x704x1024, .f32⟩
  | .hbm, ⟨28, _⟩ => ⟨S1x704x1024, .f32⟩
  | .hbm, ⟨29, _⟩ => ⟨S1x704x1024, .f32⟩
  | .hbm, ⟨30, _⟩ => ⟨S_, .f32⟩
  | .hbm, ⟨31, _⟩ => ⟨S1x704x1024, .f32⟩
  | .hbm, ⟨32, _⟩ => ⟨S1x704x1024, .f32⟩
  | .hbm, ⟨33, _⟩ => ⟨S1x704x1024, .f32⟩
  | .hbm, ⟨34, _⟩ => ⟨S_, .f32⟩
  | .hbm, ⟨35, _⟩ => ⟨S1x704x1024, .f32⟩
  | .hbm, ⟨36, _⟩ => ⟨S1x704x1024, .f32⟩
  | .hbm, ⟨37, _⟩ => ⟨S1x704x1024, .f32⟩
  | .hbm, ⟨38, _⟩ => ⟨S_, .f32⟩
  | .hbm, ⟨39, _⟩ => ⟨S1x704x1024, .f32⟩
  | .hbm, ⟨40, _⟩ => ⟨S1x704x1024, .f32⟩
  | _, _ => ⟨S8x704x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== Kernel14.lean ====
abbrev S8x128x1024 : Shape := ⟨3, ![8, 128, 1024]⟩
abbrev S1x128x1024 : Shape := ⟨3, ![1, 128, 1024]⟩
abbrev S128x1024 : Shape := ⟨2, ![128, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8x128x1024, .bf16⟩
  | .hbm, ⟨1, _⟩ => ⟨S1x128x1024, .f32⟩
  | .hbm, ⟨2, _⟩ => ⟨S1x128x1024, .f32⟩
  | .hbm, ⟨3, _⟩ => ⟨S1x128x1024, .f32⟩
  | .hbm, ⟨4, _⟩ => ⟨S1x128x1024, .f32⟩
  | .hbm, ⟨5, _⟩ => ⟨S1x128x1024, .f32⟩
  | .hbm, ⟨6, _⟩ => ⟨S1x128x1024, .f32⟩
  | .hbm, ⟨7, _⟩ => ⟨S1x128x1024, .f32⟩
  | .local _ .vmem, ⟨0, _⟩ => ⟨S8x128x1024, .bf16⟩
  | .local _ .vmem, ⟨1, _⟩ => ⟨S1x128x1024, .f32⟩
  | .local _ .vmem, ⟨2, _⟩ => ⟨S1x128x1024, .f32⟩
  | .local _ .vmem, ⟨3, _⟩ => ⟨S1x128x1024, .f32⟩
  | .local _ .vmem, ⟨4, _⟩ => ⟨S1x128x1024, .f32⟩
  | .local _ .vmem, ⟨5, _⟩ => ⟨S1x128x1024, .f32⟩
  | .local _ .vmem, ⟨6, _⟩ => ⟨S1x128x1024, .f32⟩
  | .local _ .vmem, ⟨7, _⟩ => ⟨S1x128x1024, .f32⟩
  | _, _ => ⟨S8x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S8x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference14Ideal.lean ====
abbrev S8x128x1024 : Shape := ⟨3, ![8, 128, 1024]⟩
abbrev S1x128x1024 : Shape := ⟨3, ![1, 128, 1024]⟩
abbrev S_ : Shape := ⟨0, ![]⟩
abbrev S128x1024 : Shape := ⟨2, ![128, 1024]⟩

abbrev nBuf : Space → Nat
  | .hbm => 41
  | .vmem => 0
  | .smem => 0
  | _ => 0

abbrev bufTy : (tb : Table) → Fin (tcTables nBuf tb) → BufTy
  | .hbm, ⟨0, _⟩ => ⟨S8x128x1024, .bf16⟩
  | .hbm, ⟨1, _⟩ => ⟨S1x128x1024, .f32⟩
  | .hbm, ⟨2, _⟩ => ⟨S1x128x1024, .f32⟩
  | .hbm, ⟨3, _⟩ => ⟨S1x128x1024, .f32⟩
  | .hbm, ⟨4, _⟩ => ⟨S8x128x1024, .f32⟩
  | .hbm, ⟨5, _⟩ => ⟨S_, .f32⟩
  | .hbm, ⟨6, _⟩ => ⟨S128x1024, .f32⟩
  | .hbm, ⟨7, _⟩ => ⟨S1x128x1024, .f32⟩
  | .hbm, ⟨8, _⟩ => ⟨S_, .f32⟩
  | .hbm, ⟨9, _⟩ => ⟨S1x128x1024, .f32⟩
  | .hbm, ⟨10, _⟩ => ⟨S1x128x1024, .f32⟩
  | .hbm, ⟨11, _⟩ => ⟨S_, .f32⟩
  | .hbm, ⟨12, _⟩ => ⟨S1x128x1024, .f32⟩
  | .hbm, ⟨13, _⟩ => ⟨S1x128x1024, .f32⟩
  | .hbm, ⟨14, _⟩ => ⟨S1x128x1024, .f32⟩
  | .hbm, ⟨15, _⟩ => ⟨S_, .f32⟩
  | .hbm, ⟨16, _⟩ => ⟨S1x128x1024, .f32⟩
  | .hbm, ⟨17, _⟩ => ⟨S1x128x1024, .f32⟩
  | .hbm, ⟨18, _⟩ => ⟨S1x128x1024, .f32⟩
  | .hbm, ⟨19, _⟩ => ⟨S_, .f32⟩
  | .hbm, ⟨20, _⟩ => ⟨S1x128x1024, .f32⟩
  | .hbm, ⟨21, _⟩ => ⟨S1x128x1024, .f32⟩
  | .hbm, ⟨22, _⟩ => ⟨S1x128x1024, .f32⟩
  | .hbm, ⟨23, _⟩ => ⟨S_, .f32⟩
  | .hbm, ⟨24, _⟩ => ⟨S1x128x1024, .f32⟩
  | .hbm, ⟨25, _⟩ => ⟨S1x128x1024, .f32⟩
  | .hbm, ⟨26, _⟩ => ⟨S_, .f32⟩
  | .hbm, ⟨27, _⟩ => ⟨S1x128x1024, .f32⟩
  | .hbm, ⟨28, _⟩ => ⟨S1x128x1024, .f32⟩
  | .hbm, ⟨29, _⟩ => ⟨S1x128x1024, .f32⟩
  | .hbm, ⟨30, _⟩ => ⟨S_, .f32⟩
  | .hbm, ⟨31, _⟩ => ⟨S1x128x1024, .f32⟩
  | .hbm, ⟨32, _⟩ => ⟨S1x128x1024, .f32⟩
  | .hbm, ⟨33, _⟩ => ⟨S1x128x1024, .f32⟩
  | .hbm, ⟨34, _⟩ => ⟨S_, .f32⟩
  | .hbm, ⟨35, _⟩ => ⟨S1x128x1024, .f32⟩
  | .hbm, ⟨36, _⟩ => ⟨S1x128x1024, .f32⟩
  | .hbm, ⟨37, _⟩ => ⟨S1x128x1024, .f32⟩
  | .hbm, ⟨38, _⟩ => ⟨S_, .f32⟩
  | .hbm, ⟨39, _⟩ => ⟨S1x128x1024, .f32⟩
  | .hbm, ⟨40, _⟩ => ⟨S1x128x1024, .f32⟩
  | _, _ => ⟨S8x128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== Kernel15.lean ====
abbrev S8x385x1024 : Shape := ⟨3, ![8, 385, 1024]⟩
abbrev S1x385x1024 : Shape := ⟨3, ![1, 385, 1024]⟩
abbrev S385x1024 : Shape := ⟨2, ![385, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8x385x1024, .bf16⟩
  | .hbm, ⟨1, _⟩ => ⟨S1x385x1024, .f32⟩
  | .hbm, ⟨2, _⟩ => ⟨S1x385x1024, .f32⟩
  | .hbm, ⟨3, _⟩ => ⟨S1x385x1024, .f32⟩
  | .hbm, ⟨4, _⟩ => ⟨S1x385x1024, .f32⟩
  | .hbm, ⟨5, _⟩ => ⟨S1x385x1024, .f32⟩
  | .hbm, ⟨6, _⟩ => ⟨S1x385x1024, .f32⟩
  | .hbm, ⟨7, _⟩ => ⟨S1x385x1024, .f32⟩
  | .local _ .vmem, ⟨0, _⟩ => ⟨S8x385x1024, .bf16⟩
  | .local _ .vmem, ⟨1, _⟩ => ⟨S1x385x1024, .f32⟩
  | .local _ .vmem, ⟨2, _⟩ => ⟨S1x385x1024, .f32⟩
  | .local _ .vmem, ⟨3, _⟩ => ⟨S1x385x1024, .f32⟩
  | .local _ .vmem, ⟨4, _⟩ => ⟨S1x385x1024, .f32⟩
  | .local _ .vmem, ⟨5, _⟩ => ⟨S1x385x1024, .f32⟩
  | .local _ .vmem, ⟨6, _⟩ => ⟨S1x385x1024, .f32⟩
  | .local _ .vmem, ⟨7, _⟩ => ⟨S1x385x1024, .f32⟩
  | _, _ => ⟨S8x385x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S8x385x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x385x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x385x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x385x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x385x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x385x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x385x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x385x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference15Ideal.lean ====
abbrev S8x385x1024 : Shape := ⟨3, ![8, 385, 1024]⟩
abbrev S1x385x1024 : Shape := ⟨3, ![1, 385, 1024]⟩
abbrev S_ : Shape := ⟨0, ![]⟩
abbrev S385x1024 : Shape := ⟨2, ![385, 1024]⟩

abbrev nBuf : Space → Nat
  | .hbm => 41
  | .vmem => 0
  | .smem => 0
  | _ => 0

abbrev bufTy : (tb : Table) → Fin (tcTables nBuf tb) → BufTy
  | .hbm, ⟨0, _⟩ => ⟨S8x385x1024, .bf16⟩
  | .hbm, ⟨1, _⟩ => ⟨S1x385x1024, .f32⟩
  | .hbm, ⟨2, _⟩ => ⟨S1x385x1024, .f32⟩
  | .hbm, ⟨3, _⟩ => ⟨S1x385x1024, .f32⟩
  | .hbm, ⟨4, _⟩ => ⟨S8x385x1024, .f32⟩
  | .hbm, ⟨5, _⟩ => ⟨S_, .f32⟩
  | .hbm, ⟨6, _⟩ => ⟨S385x1024, .f32⟩
  | .hbm, ⟨7, _⟩ => ⟨S1x385x1024, .f32⟩
  | .hbm, ⟨8, _⟩ => ⟨S_, .f32⟩
  | .hbm, ⟨9, _⟩ => ⟨S1x385x1024, .f32⟩
  | .hbm, ⟨10, _⟩ => ⟨S1x385x1024, .f32⟩
  | .hbm, ⟨11, _⟩ => ⟨S_, .f32⟩
  | .hbm, ⟨12, _⟩ => ⟨S1x385x1024, .f32⟩
  | .hbm, ⟨13, _⟩ => ⟨S1x385x1024, .f32⟩
  | .hbm, ⟨14, _⟩ => ⟨S1x385x1024, .f32⟩
  | .hbm, ⟨15, _⟩ => ⟨S_, .f32⟩
  | .hbm, ⟨16, _⟩ => ⟨S1x385x1024, .f32⟩
  | .hbm, ⟨17, _⟩ => ⟨S1x385x1024, .f32⟩
  | .hbm, ⟨18, _⟩ => ⟨S1x385x1024, .f32⟩
  | .hbm, ⟨19, _⟩ => ⟨S_, .f32⟩
  | .hbm, ⟨20, _⟩ => ⟨S1x385x1024, .f32⟩
  | .hbm, ⟨21, _⟩ => ⟨S1x385x1024, .f32⟩
  | .hbm, ⟨22, _⟩ => ⟨S1x385x1024, .f32⟩
  | .hbm, ⟨23, _⟩ => ⟨S_, .f32⟩
  | .hbm, ⟨24, _⟩ => ⟨S1x385x1024, .f32⟩
  | .hbm, ⟨25, _⟩ => ⟨S1x385x1024, .f32⟩
  | .hbm, ⟨26, _⟩ => ⟨S_, .f32⟩
  | .hbm, ⟨27, _⟩ => ⟨S1x385x1024, .f32⟩
  | .hbm, ⟨28, _⟩ => ⟨S1x385x1024, .f32⟩
  | .hbm, ⟨29, _⟩ => ⟨S1x385x1024, .f32⟩
  | .hbm, ⟨30, _⟩ => ⟨S_, .f32⟩
  | .hbm, ⟨31, _⟩ => ⟨S1x385x1024, .f32⟩
  | .hbm, ⟨32, _⟩ => ⟨S1x385x1024, .f32⟩
  | .hbm, ⟨33, _⟩ => ⟨S1x385x1024, .f32⟩
  | .hbm, ⟨34, _⟩ => ⟨S_, .f32⟩
  | .hbm, ⟨35, _⟩ => ⟨S1x385x1024, .f32⟩
  | .hbm, ⟨36, _⟩ => ⟨S1x385x1024, .f32⟩
  | .hbm, ⟨37, _⟩ => ⟨S1x385x1024, .f32⟩
  | .hbm, ⟨38, _⟩ => ⟨S_, .f32⟩
  | .hbm, ⟨39, _⟩ => ⟨S1x385x1024, .f32⟩
  | .hbm, ⟨40, _⟩ => ⟨S1x385x1024, .f32⟩
  | _, _ => ⟨S8x385x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== Kernel16.lean ====
abbrev S8x80x1024 : Shape := ⟨3, ![8, 80, 1024]⟩
abbrev S80x1024 : Shape := ⟨2, ![80, 1024]⟩
abbrev S1x80x1024 : Shape := ⟨3, ![1, 80, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8x80x1024, .f32⟩
  | .hbm, ⟨1, _⟩ => ⟨S80x1024, .f32⟩
  | .hbm, ⟨2, _⟩ => ⟨S80x1024, .f32⟩
  | .hbm, ⟨3, _⟩ => ⟨S80x1024, .f32⟩
  | .hbm, ⟨4, _⟩ => ⟨S80x1024, .f32⟩
  | .hbm, ⟨5, _⟩ => ⟨S80x1024, .f32⟩
  | .hbm, ⟨6, _⟩ => ⟨S80x1024, .f32⟩
  | .hbm, ⟨7, _⟩ => ⟨S80x1024, .f32⟩
  | .local _ .vmem, ⟨0, _⟩ => ⟨S8x80x1024, .f32⟩
  | .local _ .vmem, ⟨1, _⟩ => ⟨S80x1024, .f32⟩
  | .local _ .vmem, ⟨2, _⟩ => ⟨S80x1024, .f32⟩
  | .local _ .vmem, ⟨3, _⟩ => ⟨S80x1024, .f32⟩
  | .local _ .vmem, ⟨4, _⟩ => ⟨S80x1024, .f32⟩
  | .local _ .vmem, ⟨5, _⟩ => ⟨S80x1024, .f32⟩
  | .local _ .vmem, ⟨6, _⟩ => ⟨S80x1024, .f32⟩
  | .local _ .vmem, ⟨7, _⟩ => ⟨S80x1024, .f32⟩
  | _, _ => ⟨S8x80x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x80x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S80x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S80x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S80x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S80x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S80x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S80x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S80x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference16Ideal.lean ====
abbrev S8x80x1024 : Shape := ⟨3, ![8, 80, 1024]⟩
abbrev S80x1024 : Shape := ⟨2, ![80, 1024]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x80x1024, .f32⟩
  | .hbm, ⟨1, _⟩ => ⟨S80x1024, .f32⟩
  | .hbm, ⟨2, _⟩ => ⟨S80x1024, .f32⟩
  | .hbm, ⟨3, _⟩ => ⟨S80x1024, .f32⟩
  | .hbm, ⟨4, _⟩ => ⟨S_, .f32⟩
  | .hbm, ⟨5, _⟩ => ⟨S80x1024, .f32⟩
  | .hbm, ⟨6, _⟩ => ⟨S_, .f32⟩
  | .hbm, ⟨7, _⟩ => ⟨S80x1024, .f32⟩
  | .hbm, ⟨8, _⟩ => ⟨S80x1024, .f32⟩
  | .hbm, ⟨9, _⟩ => ⟨S_, .f32⟩
  | .hbm, ⟨10, _⟩ => ⟨S80x1024, .f32⟩
  | .hbm, ⟨11, _⟩ => ⟨S80x1024, .f32⟩
  | .hbm, ⟨12, _⟩ => ⟨S80x1024, .f32⟩
  | .hbm, ⟨13, _⟩ => ⟨S_, .f32⟩
  | .hbm, ⟨14, _⟩ => ⟨S80x1024, .f32⟩
  | .hbm, ⟨15, _⟩ => ⟨S80x1024, .f32⟩
  | .hbm, ⟨16, _⟩ => ⟨S80x1024, .f32⟩
  | .hbm, ⟨17, _⟩ => ⟨S_, .f32⟩
  | .hbm, ⟨18, _⟩ => ⟨S80x1024, .f32⟩
  | .hbm, ⟨19, _⟩ => ⟨S80x1024, .f32⟩
  | .hbm, ⟨20, _⟩ => ⟨S80x1024, .f32⟩
  | .hbm, ⟨21, _⟩ => ⟨S_, .f32⟩
  | .hbm, ⟨22, _⟩ => ⟨S80x1024, .f32⟩
  | .hbm, ⟨23, _⟩ => ⟨S80x1024, .f32⟩
  | .hbm, ⟨24, _⟩ => ⟨S_, .f32⟩
  | .hbm, ⟨25, _⟩ => ⟨S80x1024, .f32⟩
  | .hbm, ⟨26, _⟩ => ⟨S80x1024, .f32⟩
  | .hbm, ⟨27, _⟩ => ⟨S80x1024, .f32⟩
  | .hbm, ⟨28, _⟩ => ⟨S_, .f32⟩
  | .hbm, ⟨29, _⟩ => ⟨S80x1024, .f32⟩
  | .hbm, ⟨30, _⟩ => ⟨S80x1024, .f32⟩
  | .hbm, ⟨31, _⟩ => ⟨S80x1024, .f32⟩
  | .hbm, ⟨32, _⟩ => ⟨S_, .f32⟩
  | .hbm, ⟨33, _⟩ => ⟨S80x1024, .f32⟩
  | .hbm, ⟨34, _⟩ => ⟨S80x1024, .f32⟩
  | .hbm, ⟨35, _⟩ => ⟨S80x1024, .f32⟩
  | .hbm, ⟨36, _⟩ => ⟨S_, .f32⟩
  | .hbm, ⟨37, _⟩ => ⟨S80x1024, .f32⟩
  | .hbm, ⟨38, _⟩ => ⟨S80x1024, .f32⟩
  | _, _ => ⟨S8x80x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel17.lean ====
abbrev S8x8x128 : Shape := ⟨3, ![8, 8, 128]⟩
abbrev S8x128 : Shape := ⟨2, ![8, 128]⟩
abbrev S1x8x128 : Shape := ⟨3, ![1, 8, 128]⟩

abbrev nBuf : Space → Nat
  | .hbm => 8
  | .vmem => 8
  | .smem => 0
  | _ => 0

abbrev bufTy : (tb : Table) → Fin (tcTables nBuf tb) → BufTy
  | .hbm, ⟨0, _⟩ => ⟨S8x8x128, .f32⟩
  | .hbm, ⟨1, _⟩ => ⟨S8x128, .f32⟩
  | .hbm, ⟨2, _⟩ => ⟨S8x128, .f32⟩
  | .hbm, ⟨3, _⟩ => ⟨S8x128, .f32⟩
  | .hbm, ⟨4, _⟩ => ⟨S8x128, .f32⟩
  | .hbm, ⟨5, _⟩ => ⟨S8x128, .f32⟩
  | .hbm, ⟨6, _⟩ => ⟨S8x128, .f32⟩
  | .hbm, ⟨7, _⟩ => ⟨S8x128, .f32⟩
  | .local _ .vmem, ⟨0, _⟩ => ⟨S8x8x128, .f32⟩
  | .local _ .vmem, ⟨1, _⟩ => ⟨S8x128, .f32⟩
  | .local _ .vmem, ⟨2, _⟩ => ⟨S8x128, .f32⟩
  | .local _ .vmem, ⟨3, _⟩ => ⟨S8x128, .f32⟩
  | .local _ .vmem, ⟨4, _⟩ => ⟨S8x128, .f32⟩
  | .local _ .vmem, ⟨5, _⟩ => ⟨S8x128, .f32⟩
  | .local _ .vmem, ⟨6, _⟩ => ⟨S8x128, .f32⟩
  | .local _ .vmem, ⟨7, _⟩ => ⟨S8x128, .f32⟩
  | _, _ => ⟨S8x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x8x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S8x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference17Ideal.lean ====
abbrev S8x8x128 : Shape := ⟨3, ![8, 8, 128]⟩
abbrev S8x128 : Shape := ⟨2, ![8, 128]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x8x128, .f32⟩
  | .hbm, ⟨1, _⟩ => ⟨S8x128, .f32⟩
  | .hbm, ⟨2, _⟩ => ⟨S8x128, .f32⟩
  | .hbm, ⟨3, _⟩ => ⟨S8x128, .f32⟩
  | .hbm, ⟨4, _⟩ => ⟨S_, .f32⟩
  | .hbm, ⟨5, _⟩ => ⟨S8x128, .f32⟩
  | .hbm, ⟨6, _⟩ => ⟨S_, .f32⟩
  | .hbm, ⟨7, _⟩ => ⟨S8x128, .f32⟩
  | .hbm, ⟨8, _⟩ => ⟨S8x128, .f32⟩
  | .hbm, ⟨9, _⟩ => ⟨S_, .f32⟩
  | .hbm, ⟨10, _⟩ => ⟨S8x128, .f32⟩
  | .hbm, ⟨11, _⟩ => ⟨S8x128, .f32⟩
  | .hbm, ⟨12, _⟩ => ⟨S8x128, .f32⟩
  | .hbm, ⟨13, _⟩ => ⟨S_, .f32⟩
  | .hbm, ⟨14, _⟩ => ⟨S8x128, .f32⟩
  | .hbm, ⟨15, _⟩ => ⟨S8x128, .f32⟩
  | .hbm, ⟨16, _⟩ => ⟨S8x128, .f32⟩
  | .hbm, ⟨17, _⟩ => ⟨S_, .f32⟩
  | .hbm, ⟨18, _⟩ => ⟨S8x128, .f32⟩
  | .hbm, ⟨19, _⟩ => ⟨S8x128, .f32⟩
  | .hbm, ⟨20, _⟩ => ⟨S8x128, .f32⟩
  | .hbm, ⟨21, _⟩ => ⟨S_, .f32⟩
  | .hbm, ⟨22, _⟩ => ⟨S8x128, .f32⟩
  | .hbm, ⟨23, _⟩ => ⟨S8x128, .f32⟩
  | .hbm, ⟨24, _⟩ => ⟨S_, .f32⟩
  | .hbm, ⟨25, _⟩ => ⟨S8x128, .f32⟩
  | .hbm, ⟨26, _⟩ => ⟨S8x128, .f32⟩
  | .hbm, ⟨27, _⟩ => ⟨S8x128, .f32⟩
  | .hbm, ⟨28, _⟩ => ⟨S_, .f32⟩
  | .hbm, ⟨29, _⟩ => ⟨S8x128, .f32⟩
  | .hbm, ⟨30, _⟩ => ⟨S8x128, .f32⟩
  | .hbm, ⟨31, _⟩ => ⟨S8x128, .f32⟩
  | .hbm, ⟨32, _⟩ => ⟨S_, .f32⟩
  | .hbm, ⟨33, _⟩ => ⟨S8x128, .f32⟩
  | .hbm, ⟨34, _⟩ => ⟨S8x128, .f32⟩
  | .hbm, ⟨35, _⟩ => ⟨S8x128, .f32⟩
  | .hbm, ⟨36, _⟩ => ⟨S_, .f32⟩
  | .hbm, ⟨37, _⟩ => ⟨S8x128, .f32⟩
  | .hbm, ⟨38, _⟩ => ⟨S8x128, .f32⟩
  | _, _ => ⟨S8x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel18.lean ====
abbrev S4096x2816 : Shape := ⟨2, ![4096, 2816]⟩
abbrev S2816x1024 : Shape := ⟨2, ![2816, 1024]⟩
abbrev S4096x1024 : Shape := ⟨2, ![4096, 1024]⟩
abbrev S1x1024 : Shape := ⟨2, ![1, 1024]⟩
abbrev S1x128 : Shape := ⟨2, ![1, 128]⟩
abbrev S512x2816 : Shape := ⟨2, ![512, 2816]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩
abbrev S1024 : Shape := ⟨1, ![1024]⟩

abbrev nBuf : Space → Nat
  | .hbm => 9
  | .vmem => 14
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S1x128, .f32⟩
  | .hbm, ⟨6, _⟩ => ⟨S4096x1024, .f32⟩
  | .hbm, ⟨7, _⟩ => ⟨S4096x1024, .bf16⟩
  | .hbm, ⟨8, _⟩ => ⟨S1x1024, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S1x128, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | .local _ .vmem, ⟨13, _⟩ => ⟨S1x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference18Ideal.lean ====
abbrev S4096x2816 : Shape := ⟨2, ![4096, 2816]⟩
abbrev S2816x1024 : Shape := ⟨2, ![2816, 1024]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩
abbrev S1x128 : Shape := ⟨2, ![1, 128]⟩

abbrev nBuf : Space → Nat
  | .hbm => 76
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S4096x2816, .f32⟩
  | .hbm, ⟨6, _⟩ => ⟨S2816x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S4096, .f32⟩
  | .hbm, ⟨35, _⟩ => ⟨S_, .f32⟩
  | .hbm, ⟨36, _⟩ => ⟨S4096, .f32⟩
  | .hbm, ⟨37, _⟩ => ⟨S4096, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S4096, .f32⟩
  | .hbm, ⟨46, _⟩ => ⟨S_, .f32⟩
  | .hbm, ⟨47, _⟩ => ⟨S4096, .f32⟩
  | .hbm, ⟨48, _⟩ => ⟨S4096, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S_, .f32⟩
  | .hbm, ⟨53, _⟩ => ⟨S1024, .f32⟩
  | .hbm, ⟨54, _⟩ => ⟨S1x1024, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S_, .f32⟩
  | .hbm, ⟨59, _⟩ => ⟨S4096, .f32⟩
  | .hbm, ⟨60, _⟩ => ⟨S4096x1, .f32⟩
  | .hbm, ⟨61, _⟩ => ⟨S4096x1024, .f32⟩
  | .hbm, ⟨62, _⟩ => ⟨S4096x1024, .f32⟩
  | .hbm, ⟨63, _⟩ => ⟨S4096x1, .f32⟩
  | .hbm, ⟨64, _⟩ => ⟨S_, .f32⟩
  | .hbm, ⟨65, _⟩ => ⟨S4096x1, .f32⟩
  | .hbm, ⟨66, _⟩ => ⟨S4096x1, .f32⟩
  | .hbm, ⟨67, _⟩ => ⟨S_, .f32⟩
  | .hbm, ⟨68, _⟩ => ⟨S4096, .f32⟩
  | .hbm, ⟨69, _⟩ => ⟨S4096x1024, .f32⟩
  | .hbm, ⟨70, _⟩ => ⟨S4096x1024, .f32⟩
  | .hbm, ⟨71, _⟩ => ⟨S4096x1024, .f32⟩
  | .hbm, ⟨72, _⟩ => ⟨S4096x1024, .f32⟩
  | .hbm, ⟨73, _⟩ => ⟨S4096x1024, .f32⟩
  | .hbm, ⟨74, _⟩ => ⟨S1x128, .f32⟩
  | .hbm, ⟨75, _⟩ => ⟨S4096x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_cst_5 : Ref sig .tc := ⟨.hbm, 35, rfl⟩
abbrev main_v24 : Ref sig .tc := ⟨.hbm, 36, rfl⟩
abbrev main_v25 : Ref sig .tc := ⟨.hbm, 37, rfl⟩
abbrev main_cst_6 : Ref sig .tc := ⟨.hbm, 38, rfl⟩
abbrev main_v26 : Ref sig .tc := ⟨.hbm, 39, rfl⟩
abbrev main_cst_7 : Ref sig .tc := ⟨.hbm, 40, rfl⟩
abbrev main_v27 : Ref sig .tc := ⟨.hbm, 41, rfl⟩
abbrev main_cst_8 : Ref sig .tc := ⟨.hbm, 42, rfl⟩
abbrev main_cst_9 : Ref sig .tc := ⟨.hbm, 43, rfl⟩
abbrev main_v28 : Ref sig .tc := ⟨.hbm, 44, rfl⟩
abbrev main_v29 : Ref sig .tc := ⟨.hbm, 45, rfl⟩
abbrev main_cst_10 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_11 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_12 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_13 : Ref sig .tc := ⟨.hbm, 64, rfl⟩
abbrev main_v45 : Ref sig .tc := ⟨.hbm, 65, rfl⟩
abbrev main_v46 : Ref sig .tc := ⟨.hbm, 66, rfl⟩
abbrev main_cst_14 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩

abbrev nD : Nat := 1
abbrev τ : Topo := Topo.v7x

variable {F : FTy → Type} [FloatOps F]
-- ==== Kernel19.lean ====
abbrev S4096x3200 : Shape := ⟨2, ![4096, 3200]⟩
abbrev S1x512 : Shape := ⟨2, ![1, 512]⟩
abbrev S4x128x128 : Shape := ⟨3, ![4, 128, 128]⟩
abbrev S128x4 : Shape := ⟨2, ![128, 4]⟩
abbrev S4096x1024 : Shape := ⟨2, ![4096, 1024]⟩
abbrev S512x512 : Shape := ⟨2, ![512, 512]⟩
abbrev S128x128 : Shape := ⟨2, ![128, 128]⟩
abbrev S1x128x128 : Shape := ⟨3, ![1, 128, 128]⟩
abbrev S1x128 : Shape := ⟨2, ![1, 128]⟩
abbrev S128 : Shape := ⟨1, ![128]⟩
abbrev S128x1 : Shape := ⟨2, ![128, 1]⟩

abbrev nBuf : Space → Nat
  | .hbm => 6
  | .vmem => 9
  | .smem => 0
  | _ => 0

abbrev bufTy : (tb : Table) → Fin (tcTables nBuf tb) → BufTy
  | .hbm, ⟨0, _⟩ => ⟨S4096x3200, .f32⟩
  | .hbm, ⟨1, _⟩ => ⟨S1x512, .f32⟩
  | .hbm, ⟨2, _⟩ => ⟨S4x128x128, .f32⟩
  | .hbm, ⟨3, _⟩ => ⟨S128x4, .f32⟩
  | .hbm, ⟨4, _⟩ => ⟨S4096x1024, .bf16⟩
  | .hbm, ⟨5, _⟩ => ⟨S4096x1024, .bf16⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S1x512, .f32⟩
  | .local _ .vmem, ⟨5, _⟩ => ⟨S4x128x128, .f32⟩
  | .local _ .vmem, ⟨6, _⟩ => ⟨S128x4, .f32⟩
  | .local _ .vmem, ⟨7, _⟩ => ⟨S512x512, .bf16⟩
  | .local _ .vmem, ⟨8, _⟩ => ⟨S512x512, .bf16⟩
  | _, _ => ⟨S4096x3200, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_1 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x4 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Kernel19Ideal.lean ====
variable {F : FTy → Type} [FloatOps F] [Named F]
def κ : String → Option EReal := fun
  | "gelu_cubic" => some ((8943 / 200000 : ℝ) : EReal)
  | _ => none
-- ==== Reference19Ideal.lean ====
abbrev S4096x3200 : Shape := ⟨2, ![4096, 3200]⟩
abbrev S1x512 : Shape := ⟨2, ![1, 512]⟩
abbrev S4x128x128 : Shape := ⟨3, ![4, 128, 128]⟩
abbrev S128x4 : Shape := ⟨2, ![128, 4]⟩
abbrev S4096x1024 : Shape := ⟨2, ![4096, 1024]⟩
abbrev S4096x512 : Shape := ⟨2, ![4096, 512]⟩
abbrev S512 : Shape := ⟨1, ![512]⟩
abbrev S4x128 : Shape := ⟨2, ![4, 128]⟩
abbrev S_ : Shape := ⟨0, ![]⟩
abbrev S4096x4x128 : Shape := ⟨3, ![4096, 4, 128]⟩
abbrev S4096x4 : Shape := ⟨2, ![4096, 4]⟩
abbrev S4096x4x1 : Shape := ⟨3, ![4096, 4, 1]⟩
abbrev S1x4x128 : Shape := ⟨3, ![1, 4, 128]⟩
abbrev S32x128x4x128 : Shape := ⟨4, ![32, 128, 4, 128]⟩
abbrev S128 : Shape := ⟨1, ![128]⟩
abbrev S1x128 : Shape := ⟨2, ![1, 128]⟩
abbrev S128x1 : Shape := ⟨2, ![128, 1]⟩
abbrev S128x128 : Shape := ⟨2, ![128, 128]⟩
abbrev S4x32x128x128 : Shape := ⟨4, ![4, 32, 128, 128]⟩
abbrev S128x4x1 : Shape := ⟨3, ![128, 4, 1]⟩
abbrev S128x4x128 : Shape := ⟨3, ![128, 4, 128]⟩
abbrev S1x128x4x128 : Shape := ⟨4, ![1, 128, 4, 128]⟩

abbrev nBuf : Space → Nat
  | .hbm => 95
  | .vmem => 0
  | .smem => 0
  | _ => 0

abbrev bufTy : (tb : Table) → Fin (tcTables nBuf tb) → BufTy
  | .hbm, ⟨0, _⟩ => ⟨S4096x3200, .f32⟩
  | .hbm, ⟨1, _⟩ => ⟨S1x512, .f32⟩
  | .hbm, ⟨2, _⟩ => ⟨S4x128x128, .f32⟩
  | .hbm, ⟨3, _⟩ => ⟨S128x4, .f32⟩
  | .hbm, ⟨4, _⟩ => ⟨S4096x1024, .bf16⟩
  | .hbm, ⟨5, _⟩ => ⟨S4096x512, .f32⟩
  | .hbm, ⟨6, _⟩ => ⟨S4096x512, .f32⟩
  | .hbm, ⟨7, _⟩ => ⟨S512, .f32⟩
  | .hbm, ⟨8, _⟩ => ⟨S4x128, .f32⟩
  | .hbm, ⟨9, _⟩ => ⟨S4096x512, .f32⟩
  | .hbm, ⟨10, _⟩ => ⟨S4096x512, .f32⟩
  | .hbm, ⟨11, _⟩ => ⟨S_, .f32⟩
  | .hbm, ⟨12, _⟩ => ⟨S4096x512, .f32⟩
  | .hbm, ⟨13, _⟩ => ⟨S4096x512, .f32⟩
  | .hbm, ⟨14, _⟩ => ⟨S_, .f32⟩
  | .hbm, ⟨15, _⟩ => ⟨S4096x512, .f32⟩
  | .hbm, ⟨16, _⟩ => ⟨S4096x512, .f32⟩
  | .hbm, ⟨17, _⟩ => ⟨S4096x512, .f32⟩
  | .hbm, ⟨18, _⟩ => ⟨S_, .f32⟩
  | .hbm, ⟨19, _⟩ => ⟨S4096x512, .f32⟩
  | .hbm, ⟨20, _⟩ => ⟨S4096x512, .f32⟩
  | .hbm, ⟨21, _⟩ => ⟨S4096x512, .f32⟩
  | .hbm, ⟨22, _⟩ => ⟨S_, .f32⟩
  | .hbm, ⟨23, _⟩ => ⟨S4096x512, .f32⟩
  | .hbm, ⟨24, _⟩ => ⟨S4096x512, .f32⟩
  | .hbm, ⟨25, _⟩ => ⟨S_, .f32⟩
  | .hbm, ⟨26, _⟩ => ⟨S4096x512, .f32⟩
  | .hbm, ⟨27, _⟩ => ⟨S4096x512, .f32⟩
  | .hbm, ⟨28, _⟩ => ⟨S4096x512, .f32⟩
  | .hbm, ⟨29, _⟩ => ⟨S4096x512, .f32⟩
  | .hbm, ⟨30, _⟩ => ⟨S4096x512, .f32⟩
  | .hbm, ⟨31, _⟩ => ⟨S_, .f32⟩
  | .hbm, ⟨32, _⟩ => ⟨S4096x512, .f32⟩
  | .hbm, ⟨33, _⟩ => ⟨S4096x512, .f32⟩
  | .hbm, ⟨34, _⟩ => ⟨S_, .f32⟩
  | .hbm, ⟨35, _⟩ => ⟨S4096x512, .f32⟩
  | .hbm, ⟨36, _⟩ => ⟨S4096x512, .f32⟩
  | .hbm, ⟨37, _⟩ => ⟨S4096x512, .f32⟩
  | .hbm, ⟨38, _⟩ => ⟨S_, .f32⟩
  | .hbm, ⟨39, _⟩ => ⟨S4096x512, .f32⟩
  | .hbm, ⟨40, _⟩ => ⟨S4096x512, .f32⟩
  | .hbm, ⟨41, _⟩ => ⟨S4096x512, .f32⟩
  | .hbm, ⟨42, _⟩ => ⟨S_, .f32⟩
  | .hbm, ⟨43, _⟩ => ⟨S4096x512, .f32⟩
  | .hbm, ⟨44, _⟩ => ⟨S4096x512, .f32⟩
  | .hbm, ⟨45, _⟩ => ⟨S_, .f32⟩
  | .hbm, ⟨46, _⟩ => ⟨S4096x512, .f32⟩
  | .hbm, ⟨47, _⟩ => ⟨S4096x512, .f32⟩
  | .hbm, ⟨48, _⟩ => ⟨S4096x512, .f32⟩
  | .hbm, ⟨49, _⟩ => ⟨S4096x4x128, .f32⟩
  | .hbm, ⟨50, _⟩ => ⟨S4096x4x128, .f32⟩
  | .hbm, ⟨51, _⟩ => ⟨S_, .f32⟩
  | .hbm, ⟨52, _⟩ => ⟨S4096x4, .f32⟩
  | .hbm, ⟨53, _⟩ => ⟨S4096x4x1, .f32⟩
  | .hbm, ⟨54, _⟩ => ⟨S_, .f32⟩
  | .hbm, ⟨55, _⟩ => ⟨S4096x4x1, .f32⟩
  | .hbm, ⟨56, _⟩ => ⟨S4096x4x1, .f32⟩
  | .hbm, ⟨57, _⟩ => ⟨S_, .f32⟩
  | .hbm, ⟨58, _⟩ => ⟨S4096x4x1, .f32⟩
  | .hbm, ⟨59, _⟩ => ⟨S4096x4x1, .f32⟩
  | .hbm, ⟨60, _⟩ => ⟨S4096x4x1, .f32⟩
  | .hbm, ⟨61, _⟩ => ⟨S4096x4x128, .f32⟩
  | .hbm, ⟨62, _⟩ => ⟨S4096x4x128, .f32⟩
  | .hbm, ⟨63, _⟩ => ⟨S4x128, .f32⟩
  | .hbm, ⟨64, _⟩ => ⟨S1x4x128, .f32⟩
  | .hbm, ⟨65, _⟩ => ⟨S4096x4x128, .f32⟩
  | .hbm, ⟨66, _⟩ => ⟨S4096x4x128, .f32⟩
  | .hbm, ⟨67, _⟩ => ⟨S32x128x4x128, .f32⟩
  | .hbm, ⟨68, _⟩ => ⟨S128, .i32⟩
  | .hbm, ⟨69, _⟩ => ⟨S_, .i32⟩
  | .hbm, ⟨70, _⟩ => ⟨S128, .i32⟩
  | .hbm, ⟨71, _⟩ => ⟨S128, .i32⟩
  | .hbm, ⟨72, _⟩ => ⟨S1x128, .i32⟩
  | .hbm, ⟨73, _⟩ => ⟨S128x1, .i32⟩
  | .hbm, ⟨74, _⟩ => ⟨S128x128, .i32⟩
  | .hbm, ⟨75, _⟩ => ⟨S128x128, .i32⟩
  | .hbm, ⟨76, _⟩ => ⟨S128x128, .i1⟩
  | .hbm, ⟨77, _⟩ => ⟨S_, .f32⟩
  | .hbm, ⟨78, _⟩ => ⟨S_, .f32⟩
  | .hbm, ⟨79, _⟩ => ⟨S4x128x128, .i1⟩
  | .hbm, ⟨80, _⟩ => ⟨S4x128x128, .f32⟩
  | .hbm, ⟨81, _⟩ => ⟨S4x128x128, .f32⟩
  | .hbm, ⟨82, _⟩ => ⟨S4x32x128x128, .f32⟩
  | .hbm, ⟨83, _⟩ => ⟨S32x128x4x128, .f32⟩
  | .hbm, ⟨84, _⟩ => ⟨S128x4, .f32⟩
  | .hbm, ⟨85, _⟩ => ⟨S128x4x1, .f32⟩
  | .hbm, ⟨86, _⟩ => ⟨S128x4x128, .f32⟩
  | .hbm, ⟨87, _⟩ => ⟨S1x128x4x128, .f32⟩
  | .hbm, ⟨88, _⟩ => ⟨S32x128x4x128, .f32⟩
  | .hbm, ⟨89, _⟩ => ⟨S32x128x4x128, .f32⟩
  | .hbm, ⟨90, _⟩ => ⟨S4096x512, .f32⟩
  | .hbm, ⟨91, _⟩ => ⟨S4096x512, .f32⟩
  | .hbm, ⟨92, _⟩ => ⟨S4096x512, .bf16⟩
  | .hbm, ⟨93, _⟩ => ⟨S4096x512, .bf16⟩
  | .hbm, ⟨94, _⟩ => ⟨S4096x1024, .bf16⟩
  | _, _ => ⟨S4096x3200, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_cst_5 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_6 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_7 : Ref sig .tc := ⟨.hbm, 42, rfl⟩
abbrev main_v29 : Ref sig .tc := ⟨.hbm, 43, rfl⟩
abbrev main_v30 : Ref sig .tc := ⟨.hbm, 44, rfl⟩
abbrev main_cst_8 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_9 : Ref sig .tc := ⟨.hbm, 51, rfl⟩
abbrev main_v36 : Ref sig .tc := ⟨.hbm, 52, rfl⟩
abbrev main_v37 : Ref sig .tc := ⟨.hbm, 53, rfl⟩
abbrev main_cst_10 : Ref sig .tc := ⟨.hbm, 54, rfl⟩
abbrev main_v38 : Ref sig .tc := ⟨.hbm, 55, rfl⟩
abbrev main_v39 : Ref sig .tc := ⟨.hbm, 56, rfl⟩
abbrev main_cst_11 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_c : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_cst_12 : Ref sig .tc := ⟨.hbm, 77, rfl⟩
abbrev main_call0_v0 : Ref sig .tc := ⟨.hbm, 78, rfl⟩
abbrev main_call0_v1 : Ref sig .tc := ⟨.hbm, 79, rfl⟩
abbrev main_call0_v2 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩

abbrev nD : Nat := 1
abbrev τ : Topo := Topo.v7x

variable {F : FTy → Type} [FloatOps F]
-- ==== Kernel20.lean ====
abbrev S4096x1536 : Shape := ⟨2, ![4096, 1536]⟩
abbrev S4x1536 : Shape := ⟨2, ![4, 1536]⟩
abbrev S4096x3200 : Shape := ⟨2, ![4096, 3200]⟩
abbrev S256x1536 : Shape := ⟨2, ![256, 1536]⟩
abbrev S8x1536 : Shape := ⟨2, ![8, 1536]⟩
abbrev S4x128 : Shape := ⟨2, ![4, 128]⟩
abbrev S40x128 : Shape := ⟨2, ![40, 128]⟩
abbrev S32x128 : Shape := ⟨2, ![32, 128]⟩
abbrev S1x128 : Shape := ⟨2, ![1, 128]⟩
abbrev S8x128 : Shape := ⟨2, ![8, 128]⟩

abbrev nBuf : Space → Nat
  | .hbm => 4
  | .vmem => 7
  | .smem => 0
  | _ => 0

abbrev bufTy : (tb : Table) → Fin (tcTables nBuf tb) → BufTy
  | .hbm, ⟨0, _⟩ => ⟨S4096x1536, .f32⟩
  | .hbm, ⟨1, _⟩ => ⟨S4x1536, .f32⟩
  | .hbm, ⟨2, _⟩ => ⟨S4096x3200, .bf16⟩
  | .hbm, ⟨3, _⟩ => ⟨S4096x3200, .bf16⟩
  | .local _ .vmem, ⟨0, _⟩ => ⟨S256x1536, .f32⟩
  | .local _ .vmem, ⟨1, _⟩ => ⟨S256x1536, .f32⟩
  | .local _ .vmem, ⟨2, _⟩ => ⟨S8x1536, .f32⟩
  | .local _ .vmem, ⟨3, _⟩ => ⟨S8x1536, .f32⟩
  | .local _ .vmem, ⟨4, _⟩ => ⟨S4x1536, .f32⟩
  | .local _ .vmem, ⟨5, _⟩ => ⟨S256x1536, .bf16⟩
  | .local _ .vmem, ⟨6, _⟩ => ⟨S256x1536, .bf16⟩
  | _, _ => ⟨S4096x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![16, 1], ![false, false]⟩

@[reducible] def k0_t1_loop : Scf.Loop 32 :=
  let c0_i32 : BitVec 32 := 0#32
  let c7_i32 : BitVec 32 := 7#32
  let v1 : BitVec 32 := Scalar.addi c0_i32 c7_i32
  let c1_i32 : BitVec 32 := 1#32
  ⟨c0_i32, v1, c1_i32⟩
def k0_mult1 (k0_t1 : Fin k0_t1_loop.trips) : BitVec 32 :=
  let c0_i32 : BitVec 32 := 0#32
  let c1_i32 : BitVec 32 := 1#32
  let arg7 : BitVec 32 := Scf.iv c0_i32 c1_i32 k0_t1
  let c32_i32 : BitVec 32 := 32#32
  let v362 : BitVec 32 := Scalar.muli arg7 c32_i32
  v362
def k0_off1 (k0_t1 : Fin k0_t1_loop.trips) : Fin 2 → Nat :=
  let c0_i32 : BitVec 32 := 0#32
  let c1_i32 : BitVec 32 := 1#32
  let arg7 : BitVec 32 := Scf.iv c0_i32 c1_i32 k0_t1
  let c32_i32 : BitVec 32 := 32#32
  let v362 : BitVec 32 := Scalar.muli arg7 c32_i32
  let v363 : BitVec 32 := v362
  let v365 : Index := Scalar.indexCast v363
  let c0_130 : Index := 0#32
  ![v365.toNat, 0]
def k0_off2 (k0_t1 : Fin k0_t1_loop.trips) : Fin 2 → Nat :=
  let c0_i32 : BitVec 32 := 0#32
  let c1_i32 : BitVec 32 := 1#32
  let arg7 : BitVec 32 := Scf.iv c0_i32 c1_i32 k0_t1
  let c32_i32 : BitVec 32 := 32#32
  let v362 : BitVec 32 := Scalar.muli arg7 c32_i32
  let v363 : BitVec 32 := v362
  let v390 : Index := Scalar.indexCast v363
  let c0_134 : Index := 0#32
  ![v390.toNat, 0]
def k0_off3 (k0_t1 : Fin k0_t1_loop.trips) : Fin 2 → Nat :=
  let c0_i32 : BitVec 32 := 0#32
  let c1_i32 : BitVec 32 := 1#32
  let arg7 : BitVec 32 := Scf.iv c0_i32 c1_i32 k0_t1
  let c32_i32 : BitVec 32 := 32#32
  let v362 : BitVec 32 := Scalar.muli arg7 c32_i32
  let v363 : BitVec 32 := v362
  let v393 : Index := Scalar.indexCast v363
  let c128_137 : Index := 128#32
  ![v393.toNat, 128]
def k0_off4 (k0_t1 : Fin k0_t1_loop.trips) : Fin 2 → Nat :=
  let c0_i32 : BitVec 32 := 0#32
  let c1_i32 : BitVec 32 := 1#32
  let arg7 : BitVec 32 := Scf.iv c0_i32 c1_i32 k0_t1
  let c32_i32 : BitVec 32 := 32#32
  let v362 : BitVec 32 := Scalar.muli arg7 c32_i32
  let v363 : BitVec 32 := v362
  let v418 : Index := Scalar.indexCast v363
  let c128_141 : Index := 128#32
  ![v418.toNat, 128]
def k0_off5 (k0_t1 : Fin k0_t1_loop.trips) : Fin 2 → Nat :=
  let c0_i32 : BitVec 32 := 0#32
  let c1_i32 : BitVec 32 := 1#32
  let arg7 : BitVec 32 := Scf.iv c0_i32 c1_i32 k0_t1
  let c32_i32 : BitVec 32 := 32#32
  let v362 : BitVec 32 := Scalar.muli arg7 c32_i32
  let v363 : BitVec 32 := v362
  let v421 : Index := Scalar.indexCast v363
  let c256_144 : Index := 256#32
  ![v421.toNat, 256]
def k0_off6 (k0_t1 : Fin k0_t1_loop.trips) : Fin 2 → Nat :=
  let c0_i32 : BitVec 32 := 0#32
  let c1_i32 : BitVec 32 := 1#32
  let arg7 : BitVec 32 := Scf.iv c0_i32 c1_i32 k0_t1
  let c32_i32 : BitVec 32 := 32#32
  let v362 : BitVec 32 := Scalar.muli arg7 c32_i32
  let v363 : BitVec 32 := v362
  let v446 : Index := Scalar.indexCast v363
  let c256_148 : Index := 256#32
  ![v446.toNat, 256]
def k0_off7 (k0_t1 : Fin k0_t1_loop.trips) : Fin 2 → Nat :=
  let c0_i32 : BitVec 32 := 0#32
  let c1_i32 : BitVec 32 := 1#32
  let arg7 : BitVec 32 := Scf.iv c0_i32 c1_i32 k0_t1
  let c32_i32 : BitVec 32 := 32#32
  let v362 : BitVec 32 := Scalar.muli arg7 c32_i32
  let v363 : BitVec 32 := v362
  let v449 : Index := Scalar.indexCast v363
  let c384_151 : Index := 384#32
  ![v449.toNat, 384]
def k0_off8 (k0_t1 : Fin k0_t1_loop.trips) : Fin 2 → Nat :=
  let c0_i32 : BitVec 32 := 0#32
  let c1_i32 : BitVec 32 := 1#32
  let arg7 : BitVec 32 := Scf.iv c0_i32 c1_i32 k0_t1
  let c32_i32 : BitVec 32 := 32#32
  let v362 : BitVec 32 := Scalar.muli arg7 c32_i32
  let v363 : BitVec 32 := v362
  let v474 : Index := Scalar.indexCast v363
  let c384_155 : Index := 384#32
  ![v474.toNat, 384]
def k0_off9 (k0_t1 : Fin k0_t1_loop.trips) : Fin 2 → Nat :=
  let c0_i32 : BitVec 32 := 0#32
  let c1_i32 : BitVec 32 := 1#32
  let arg7 : BitVec 32 := Scf.iv c0_i32 c1_i32 k0_t1
  let c32_i32 : BitVec 32 := 32#32
  let v362 : BitVec 32 := Scalar.muli arg7 c32_i32
  let v363 : BitVec 32 := v362
  let v477 : Index := Scalar.indexCast v363
  let c512_158 : Index := 512#32
  ![v477.toNat, 512]
def k0_off10 (k0_t1 : Fin k0_t1_loop.trips) : Fin 2 → Nat :=
  let c0_i32 : BitVec 32 := 0#32
  let c1_i32 : BitVec 32 := 1#32
  let arg7 : BitVec 32 := Scf.iv c0_i32 c1_i32 k0_t1
  let c32_i32 : BitVec 32 := 32#32
  let v362 : BitVec 32 := Scalar.muli arg7 c32_i32
  let v363 : BitVec 32 := v362
  let v502 : Index := Scalar.indexCast v363
  let c512_162 : Index := 512#32
  ![v502.toNat, 512]
def k0_off11 (k0_t1 : Fin k0_t1_loop.trips) : Fin 2 → Nat :=
  let c0_i32 : BitVec 32 := 0#32
  let c1_i32 : BitVec 32 := 1#32
  let arg7 : BitVec 32 := Scf.iv c0_i32 c1_i32 k0_t1
  let c32_i32 : BitVec 32 := 32#32
  let v362 : BitVec 32 := Scalar.muli arg7 c32_i32
  let v363 : BitVec 32 := v362
  let v505 : Index := Scalar.indexCast v363
  let c640_165 : Index := 640#32
  ![v505.toNat, 640]
def k0_off12 (k0_t1 : Fin k0_t1_loop.trips) : Fin 2 → Nat :=
  let c0_i32 : BitVec 32 := 0#32
  let c1_i32 : BitVec 32 := 1#32
  let arg7 : BitVec 32 := Scf.iv c0_i32 c1_i32 k0_t1
  let c32_i32 : BitVec 32 := 32#32
  let v362 : BitVec 32 := Scalar.muli arg7 c32_i32
  let v363 : BitVec 32 := v362
  let v530 : Index := Scalar.indexCast v363
  let c640_169 : Index := 640#32
  ![v530.toNat, 640]
def k0_off13 (k0_t1 : Fin k0_t1_loop.trips) : Fin 2 → Nat :=
  let c0_i32 : BitVec 32 := 0#32
  let c1_i32 : BitVec 32 := 1#32
  let arg7 : BitVec 32 := Scf.iv c0_i32 c1_i32 k0_t1
  let c32_i32 : BitVec 32 := 32#32
  let v362 : BitVec 32 := Scalar.muli arg7 c32_i32
  let v363 : BitVec 32 := v362
  let v533 : Index := Scalar.indexCast v363
  let c768_172 : Index := 768#32
  ![v533.toNat, 768]
def k0_off14 (k0_t1 : Fin k0_t1_loop.trips) : Fin 2 → Nat :=
  let c0_i32 : BitVec 32 := 0#32
  let c1_i32 : BitVec 32 := 1#32
  let arg7 : BitVec 32 := Scf.iv c0_i32 c1_i32 k0_t1
  let c32_i32 : BitVec 32 := 32#32
  let v362 : BitVec 32 := Scalar.muli arg7 c32_i32
  let v363 : BitVec 32 := v362
  let v558 : Index := Scalar.indexCast v363
  let c768_176 : Index := 768#32
  ![v558.toNat, 768]
def k0_off15 (k0_t1 : Fin k0_t1_loop.trips) : Fin 2 → Nat :=
  let c0_i32 : BitVec 32 := 0#32
  let c1_i32 : BitVec 32 := 1#32
  let arg7 : BitVec 32 := Scf.iv c0_i32 c1_i32 k0_t1
  let c32_i32 : BitVec 32 := 32#32
  let v362 : BitVec 32 := Scalar.muli arg7 c32_i32
  let v363 : BitVec 32 := v362
  let v561 : Index := Scalar.indexCast v363
  let c896_179 : Index := 896#32
  ![v561.toNat, 896]
def k0_off16 (k0_t1 : Fin k0_t1_loop.trips) : Fin 2 → Nat :=
  let c0_i32 : BitVec 32 := 0#32
  let c1_i32 : BitVec 32 := 1#32
  let arg7 : BitVec 32 := Scf.iv c0_i32 c1_i32 k0_t1
  let c32_i32 : BitVec 32 := 32#32
  let v362 : BitVec 32 := Scalar.muli arg7 c32_i32
  let v363 : BitVec 32 := v362
  let v586 : Index := Scalar.indexCast v363
  let c896_183 : Index := 896#32
  ![v586.toNat, 896]
def k0_off17 (k0_t1 : Fin k0_t1_loop.trips) : Fin 2 → Nat :=
  let c0_i32 : BitVec 32 := 0#32
  let c1_i32 : BitVec 32 := 1#32
  let arg7 : BitVec 32 := Scf.iv c0_i32 c1_i32 k0_t1
  let c32_i32 : BitVec 32 := 32#32
  let v362 : BitVec 32 := Scalar.muli arg7 c32_i32
  let v363 : BitVec 32 := v362
  let v589 : Index := Scalar.indexCast v363
  let c1024_186 : Index := 1024#32
  ![v589.toNat, 1024]
def k0_off18 (k0_t1 : Fin k0_t1_loop.trips) : Fin 2 → Nat :=
  let c0_i32 : BitVec 32 := 0#32
  let c1_i32 : BitVec 32 := 1#32
  let arg7 : BitVec 32 := Scf.iv c0_i32 c1_i32 k0_t1
  let c32_i32 : BitVec 32 := 32#32
  let v362 : BitVec 32 := Scalar.muli arg7 c32_i32
  let v363 : BitVec 32 := v362
  let v614 : Index := Scalar.indexCast v363
  let c1024_190 : Index := 1024#32
  ![v614.toNat, 1024]
def k0_off19 (k0_t1 : Fin k0_t1_loop.trips) : Fin 2 → Nat :=
  let c0_i32 : BitVec 32 := 0#32
  let c1_i32 : BitVec 32 := 1#32
  let arg7 : BitVec 32 := Scf.iv c0_i32 c1_i32 k0_t1
  let c32_i32 : BitVec 32 := 32#32
  let v362 : BitVec 32 := Scalar.muli arg7 c32_i32
  let v363 : BitVec 32 := v362
  let v617 : Index := Scalar.indexCast v363
  let c1152_193 : Index := 1152#32
  ![v617.toNat, 1152]
def k0_off20 (k0_t1 : Fin k0_t1_loop.trips) : Fin 2 → Nat :=
  let c0_i32 : BitVec 32 := 0#32
  let c1_i32 : BitVec 32 := 1#32
  let arg7 : BitVec 32 := Scf.iv c0_i32 c1_i32 k0_t1
  let c32_i32 : BitVec 32 := 32#32
  let v362 : BitVec 32 := Scalar.muli arg7 c32_i32
  let v363 : BitVec 32 := v362
  let v642 : Index := Scalar.indexCast v363
  let c1152_197 : Index := 1152#32
  ![v642.toNat, 1152]
def k0_off21 (k0_t1 : Fin k0_t1_loop.trips) : Fin 2 → Nat :=
  let c0_i32 : BitVec 32 := 0#32
  let c1_i32 : BitVec 32 := 1#32
  let arg7 : BitVec 32 := Scf.iv c0_i32 c1_i32 k0_t1
  let c32_i32 : BitVec 32 := 32#32
  let v362 : BitVec 32 := Scalar.muli arg7 c32_i32
  let v363 : BitVec 32 := v362
  let v645 : Index := Scalar.indexCast v363
  let c1280_200 : Index := 1280#32
  ![v645.toNat, 1280]
def k0_off22 (k0_t1 : Fin k0_t1_loop.trips) : Fin 2 → Nat :=
  let c0_i32 : BitVec 32 := 0#32
  let c1_i32 : BitVec 32 := 1#32
  let arg7 : BitVec 32 := Scf.iv c0_i32 c1_i32 k0_t1
  let c32_i32 : BitVec 32 := 32#32
  let v362 : BitVec 32 := Scalar.muli arg7 c32_i32
  let v363 : BitVec 32 := v362
  let v670 : Index := Scalar.indexCast v363
  let c1280_204 : Index := 1280#32
  ![v670.toNat, 1280]
def k0_off23 (k0_t1 : Fin k0_t1_loop.trips) : Fin 2 → Nat :=
  let c0_i32 : BitVec 32 := 0#32
  let c1_i32 : BitVec 32 := 1#32
  let arg7 : BitVec 32 := Scf.iv c0_i32 c1_i32 k0_t1
  let c32_i32 : BitVec 32 := 32#32
  let v362 : BitVec 32 := Scalar.muli arg7 c32_i32
  let v363 : BitVec 32 := v362
  let v673 : Index := Scalar.indexCast v363
  let c1408_207 : Index := 1408#32
  ![v673.toNat, 1408]
def k0_off24 (k0_t1 : Fin k0_t1_loop.trips) : Fin 2 → Nat :=
  let c0_i32 : BitVec 32 := 0#32
  let c1_i32 : BitVec 32 := 1#32
  let arg7 : BitVec 32 := Scf.iv c0_i32 c1_i32 k0_t1
  let c32_i32 : BitVec 32 := 32#32
  let v362 : BitVec 32 := Scalar.muli arg7 c32_i32
  let v363 : BitVec 32 := v362
  let v698 : Index := Scalar.indexCast v363
  let c1408_211 : Index := 1408#32
  ![v698.toNat, 1408]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c32_i32 : BitVec 32 := 32#32
  let v1 : BitVec 32 := Scalar.muli v0 c32_i32
  let c511_i32 : BitVec 32 := 511#32
  let v2 : BitVec 32 := Scalar.minsi v1 c511_i32
  let c0_i32 : BitVec 32 := 0#32
  ![v2.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  ![arg0.toNat, v0.toNat]

abbrev stage0_0 : Fin 2 → Memref sig .tc .vmem S256x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S4x1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S256x1536 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference20Ideal.lean ====
abbrev S4096x1536 : Shape := ⟨2, ![4096, 1536]⟩
abbrev S4x1536 : Shape := ⟨2, ![4, 1536]⟩
abbrev S4096x3200 : Shape := ⟨2, ![4096, 3200]⟩
abbrev S_ : Shape := ⟨0, ![]⟩
abbrev S3x1536 : Shape := ⟨2, ![3, 1536]⟩
abbrev S4099x1536 : Shape := ⟨2, ![4099, 1536]⟩
abbrev S1x1536 : Shape := ⟨2, ![1, 1536]⟩
abbrev S1536 : Shape := ⟨1, ![1536]⟩
abbrev S4096x1664 : Shape := ⟨2, ![4096, 1664]⟩

abbrev nBuf : Space → Nat
  | .hbm => 87
  | .vmem => 0
  | .smem => 0
  | _ => 0

abbrev bufTy : (tb : Table) → Fin (tcTables nBuf tb) → BufTy
  | .hbm, ⟨0, _⟩ => ⟨S4096x1536, .f32⟩
  | .hbm, ⟨1, _⟩ => ⟨S4x1536, .f32⟩
  | .hbm, ⟨2, _⟩ => ⟨S4096x3200, .bf16⟩
  | .hbm, ⟨3, _⟩ => ⟨S_, .f32⟩
  | .hbm, ⟨4, _⟩ => ⟨S4096x1536, .f32⟩
  | .hbm, ⟨5, _⟩ => ⟨S_, .f32⟩
  | .hbm, ⟨6, _⟩ => ⟨S3x1536, .f32⟩
  | .hbm, ⟨7, _⟩ => ⟨S4099x1536, .f32⟩
  | .hbm, ⟨8, _⟩ => ⟨S_, .f32⟩
  | .hbm, ⟨9, _⟩ => ⟨S3x1536, .f32⟩
  | .hbm, ⟨10, _⟩ => ⟨S4096x1536, .f32⟩
  | .hbm, ⟨11, _⟩ => ⟨S1x1536, .f32⟩
  | .hbm, ⟨12, _⟩ => ⟨S1536, .f32⟩
  | .hbm, ⟨13, _⟩ => ⟨S1x1536, .f32⟩
  | .hbm, ⟨14, _⟩ => ⟨S4096x1536, .f32⟩
  | .hbm, ⟨15, _⟩ => ⟨S4096x1536, .f32⟩
  | .hbm, ⟨16, _⟩ => ⟨S_, .f32⟩
  | .hbm, ⟨17, _⟩ => ⟨S4096x1536, .f32⟩
  | .hbm, ⟨18, _⟩ => ⟨S4096x1536, .f32⟩
  | .hbm, ⟨19, _⟩ => ⟨S_, .f32⟩
  | .hbm, ⟨20, _⟩ => ⟨S3x1536, .f32⟩
  | .hbm, ⟨21, _⟩ => ⟨S4099x1536, .f32⟩
  | .hbm, ⟨22, _⟩ => ⟨S_, .f32⟩
  | .hbm, ⟨23, _⟩ => ⟨S3x1536, .f32⟩
  | .hbm, ⟨24, _⟩ => ⟨S4096x1536, .f32⟩
  | .hbm, ⟨25, _⟩ => ⟨S1x1536, .f32⟩
  | .hbm, ⟨26, _⟩ => ⟨S1536, .f32⟩
  | .hbm, ⟨27, _⟩ => ⟨S1x1536, .f32⟩
  | .hbm, ⟨28, _⟩ => ⟨S4096x1536, .f32⟩
  | .hbm, ⟨29, _⟩ => ⟨S4096x1536, .f32⟩
  | .hbm, ⟨30, _⟩ => ⟨S4096x1536, .f32⟩
  | .hbm, ⟨31, _⟩ => ⟨S_, .f32⟩
  | .hbm, ⟨32, _⟩ => ⟨S3x1536, .f32⟩
  | .hbm, ⟨33, _⟩ => ⟨S4099x1536, .f32⟩
  | .hbm, ⟨34, _⟩ => ⟨S_, .f32⟩
  | .hbm, ⟨35, _⟩ => ⟨S3x1536, .f32⟩
  | .hbm, ⟨36, _⟩ => ⟨S4096x1536, .f32⟩
  | .hbm, ⟨37, _⟩ => ⟨S1x1536, .f32⟩
  | .hbm, ⟨38, _⟩ => ⟨S1536, .f32⟩
  | .hbm, ⟨39, _⟩ => ⟨S1x1536, .f32⟩
  | .hbm, ⟨40, _⟩ => ⟨S4096x1536, .f32⟩
  | .hbm, ⟨41, _⟩ => ⟨S4096x1536, .f32⟩
  | .hbm, ⟨42, _⟩ => ⟨S4096x1536, .f32⟩
  | .hbm, ⟨43, _⟩ => ⟨S_, .f32⟩
  | .hbm, ⟨44, _⟩ => ⟨S3x1536, .f32⟩
  | .hbm, ⟨45, _⟩ => ⟨S4099x1536, .f32⟩
  | .hbm, ⟨46, _⟩ => ⟨S_, .f32⟩
  | .hbm, ⟨47, _⟩ => ⟨S3x1536, .f32⟩
  | .hbm, ⟨48, _⟩ => ⟨S4096x1536, .f32⟩
  | .hbm, ⟨49, _⟩ => ⟨S1x1536, .f32⟩
  | .hbm, ⟨50, _⟩ => ⟨S1536, .f32⟩
  | .hbm, ⟨51, _⟩ => ⟨S1x1536, .f32⟩
  | .hbm, ⟨52, _⟩ => ⟨S4096x1536, .f32⟩
  | .hbm, ⟨53, _⟩ => ⟨S4096x1536, .f32⟩
  | .hbm, ⟨54, _⟩ => ⟨S4096x1536, .f32⟩
  | .hbm, ⟨55, _⟩ => ⟨S4096x1536, .f32⟩
  | .hbm, ⟨56, _⟩ => ⟨S4096x1536, .f32⟩
  | .hbm, ⟨57, _⟩ => ⟨S4096x1536, .f32⟩
  | .hbm, ⟨58, _⟩ => ⟨S4096x1536, .f32⟩
  | .hbm, ⟨59, _⟩ => ⟨S_, .f32⟩
  | .hbm, ⟨60, _⟩ => ⟨S4099x1536, .f32⟩
  | .hbm, ⟨61, _⟩ => ⟨S3x1536, .f32⟩
  | .hbm, ⟨62, _⟩ => ⟨S4096x1536, .f32⟩
  | .hbm, ⟨63, _⟩ => ⟨S4096x1536, .f32⟩
  | .hbm, ⟨64, _⟩ => ⟨S4096x1536, .f32⟩
  | .hbm, ⟨65, _⟩ => ⟨S_, .f32⟩
  | .hbm, ⟨66, _⟩ => ⟨S4099x1536, .f32⟩
  | .hbm, ⟨67, _⟩ => ⟨S3x1536, .f32⟩
  | .hbm, ⟨68, _⟩ => ⟨S4096x1536, .f32⟩
  | .hbm, ⟨69, _⟩ => ⟨S4096x1536, .f32⟩
  | .hbm, ⟨70, _⟩ => ⟨S4096x1536, .f32⟩
  | .hbm, ⟨71, _⟩ => ⟨S4096x1536, .f32⟩
  | .hbm, ⟨72, _⟩ => ⟨S_, .f32⟩
  | .hbm, ⟨73, _⟩ => ⟨S4099x1536, .f32⟩
  | .hbm, ⟨74, _⟩ => ⟨S3x1536, .f32⟩
  | .hbm, ⟨75, _⟩ => ⟨S4096x1536, .f32⟩
  | .hbm, ⟨76, _⟩ => ⟨S4096x1536, .f32⟩
  | .hbm, ⟨77, _⟩ => ⟨S4096x1536, .f32⟩
  | .hbm, ⟨78, _⟩ => ⟨S4096x1536, .f32⟩
  | .hbm, ⟨79, _⟩ => ⟨S_, .f32⟩
  | .hbm, ⟨80, _⟩ => ⟨S4099x1536, .f32⟩
  | .hbm, ⟨81, _⟩ => ⟨S3x1536, .f32⟩
  | .hbm, ⟨82, _⟩ => ⟨S4096x1536, .f32⟩
  | .hbm, ⟨83, _⟩ => ⟨S4096x1536, .f32⟩
  | .hbm, ⟨84, _⟩ => ⟨S4096x1536, .bf16⟩
  | .hbm, ⟨85, _⟩ => ⟨S4096x1664, .bf16⟩
  | .hbm, ⟨86, _⟩ => ⟨S4096x3200, .bf16⟩
  | _, _ => ⟨S4096x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_cst_3 : Ref sig .tc := ⟨.hbm, 19, rfl⟩
abbrev main_v12 : Ref sig .tc := ⟨.hbm, 20, rfl⟩
abbrev main_v13 : Ref sig .tc := ⟨.hbm, 21, rfl⟩
abbrev main_cst_4 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_5 : Ref sig .tc := ⟨.hbm, 31, rfl⟩
abbrev main_v22 : Ref sig .tc := ⟨.hbm, 32, rfl⟩
abbrev main_v23 : Ref sig .tc := ⟨.hbm, 33, rfl⟩
abbrev main_cst_6 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_7 : Ref sig .tc := ⟨.hbm, 43, rfl⟩
abbrev main_v32 : Ref sig .tc := ⟨.hbm, 44, rfl⟩
abbrev main_v33 : Ref sig .tc := ⟨.hbm, 45, rfl⟩
abbrev main_cst_8 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_cst_9 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_cst_10 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_cst_11 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_cst_12 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩

abbrev nD : Nat := 1
abbrev τ : Topo := Topo.v7x

variable {F : FTy → Type} [FloatOps F]
-- ==== Kernel21.lean ====
abbrev S4096x1024 : Shape := ⟨2, ![4096, 1024]⟩
abbrev S1x1024 : Shape := ⟨2, ![1, 1024]⟩
abbrev S5632x1024 : Shape := ⟨2, ![5632, 1024]⟩
abbrev S3x5632 : Shape := ⟨2, ![3, 5632]⟩
abbrev S1x5632 : Shape := ⟨2, ![1, 5632]⟩
abbrev S4096x5632 : Shape := ⟨2, ![4096, 5632]⟩
abbrev S4096x2816 : Shape := ⟨2, ![4096, 2816]⟩
abbrev S4096x1 : Shape := ⟨2, ![4096, 1]⟩
abbrev S256x1024 : Shape := ⟨2, ![256, 1024]⟩
abbrev S256x5632 : Shape := ⟨2, ![256, 5632]⟩
abbrev S256x2816 : Shape := ⟨2, ![256, 2816]⟩
abbrev S256x1 : Shape := ⟨2, ![256, 1]⟩
abbrev S8x5632 : Shape := ⟨2, ![8, 5632]⟩
abbrev S256 : Shape := ⟨1, ![256]⟩
abbrev S256x256 : Shape := ⟨2, ![256, 256]⟩
abbrev S8x256 : Shape := ⟨2, ![8, 256]⟩
abbrev S8x128 : Shape := ⟨2, ![8, 128]⟩
abbrev S32x128 : Shape := ⟨2, ![32, 128]⟩
abbrev S40x128 : Shape := ⟨2, ![40, 128]⟩
abbrev S3x128 : Shape := ⟨2, ![3, 128]⟩
abbrev S1x128 : Shape := ⟨2, ![1, 128]⟩

abbrev nBuf : Space → Nat
  | .hbm => 9
  | .vmem => 16
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S5632x1024, .bf16⟩
  | .hbm, ⟨3, _⟩ => ⟨S3x5632, .f32⟩
  | .hbm, ⟨4, _⟩ => ⟨S1x5632, .f32⟩
  | .hbm, ⟨5, _⟩ => ⟨S4096x5632, .f32⟩
  | .hbm, ⟨6, _⟩ => ⟨S4096x2816, .bf16⟩
  | .hbm, ⟨7, _⟩ => ⟨S4096x1024, .bf16⟩
  | .hbm, ⟨8, _⟩ => ⟨S4096x1, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S5632x1024, .bf16⟩
  | .local _ .vmem, ⟨4, _⟩ => ⟨S3x5632, .f32⟩
  | .local _ .vmem, ⟨5, _⟩ => ⟨S1x5632, .f32⟩
  | .local _ .vmem, ⟨6, _⟩ => ⟨S256x5632, .f32⟩
  | .local _ .vmem, ⟨7, _⟩ => ⟨S256x5632, .f32⟩
  | .local _ .vmem, ⟨8, _⟩ => ⟨S256x2816, .bf16⟩
  | .local _ .vmem, ⟨9, _⟩ => ⟨S256x2816, .bf16⟩
  | .local _ .vmem, ⟨10, _⟩ => ⟨S256x1024, .bf16⟩
  | .local _ .vmem, ⟨11, _⟩ => ⟨S256x1024, .bf16⟩
  | .local _ .vmem, ⟨12, _⟩ => ⟨S256x1, .f32⟩
  | .local _ .vmem, ⟨13, _⟩ => ⟨S256x1, .f32⟩
  | .local _ .vmem, ⟨14, _⟩ => ⟨S8x5632, .f32⟩
  | .local _ .vmem, ⟨15, _⟩ => ⟨S8x5632, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S5632x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3x5632 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x5632 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x5632 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2816 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference21Ideal.lean ====
abbrev S4096x1024 : Shape := ⟨2, ![4096, 1024]⟩
abbrev S1x1024 : Shape := ⟨2, ![1, 1024]⟩
abbrev S5632x1024 : Shape := ⟨2, ![5632, 1024]⟩
abbrev S3x5632 : Shape := ⟨2, ![3, 5632]⟩
abbrev S1x5632 : Shape := ⟨2, ![1, 5632]⟩
abbrev S_ : Shape := ⟨0, ![]⟩
abbrev S4096 : Shape := ⟨1, ![4096]⟩
abbrev S4096x1 : Shape := ⟨2, ![4096, 1]⟩
abbrev S1024x5632 : Shape := ⟨2, ![1024, 5632]⟩
abbrev S4096x5632 : Shape := ⟨2, ![4096, 5632]⟩
abbrev S2x5632 : Shape := ⟨2, ![2, 5632]⟩
abbrev S4098x5632 : Shape := ⟨2, ![4098, 5632]⟩
abbrev S5632 : Shape := ⟨1, ![5632]⟩
abbrev S4096x2816 : Shape := ⟨2, ![4096, 2816]⟩

abbrev nBuf : Space → Nat
  | .hbm => 73
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S5632x1024, .bf16⟩
  | .hbm, ⟨3, _⟩ => ⟨S3x5632, .f32⟩
  | .hbm, ⟨4, _⟩ => ⟨S1x5632, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S5632x1024, .f32⟩
  | .hbm, ⟨21, _⟩ => ⟨S1024x5632, .f32⟩
  | .hbm, ⟨22, _⟩ => ⟨S4096x5632, .f32⟩
  | .hbm, ⟨23, _⟩ => ⟨S_, .f32⟩
  | .hbm, ⟨24, _⟩ => ⟨S2x5632, .f32⟩
  | .hbm, ⟨25, _⟩ => ⟨S4098x5632, .f32⟩
  | .hbm, ⟨26, _⟩ => ⟨S4096x5632, .f32⟩
  | .hbm, ⟨27, _⟩ => ⟨S1x5632, .f32⟩
  | .hbm, ⟨28, _⟩ => ⟨S5632, .f32⟩
  | .hbm, ⟨29, _⟩ => ⟨S1x5632, .f32⟩
  | .hbm, ⟨30, _⟩ => ⟨S4096x5632, .f32⟩
  | .hbm, ⟨31, _⟩ => ⟨S4096x5632, .f32⟩
  | .hbm, ⟨32, _⟩ => ⟨S4096x5632, .f32⟩
  | .hbm, ⟨33, _⟩ => ⟨S1x5632, .f32⟩
  | .hbm, ⟨34, _⟩ => ⟨S5632, .f32⟩
  | .hbm, ⟨35, _⟩ => ⟨S1x5632, .f32⟩
  | .hbm, ⟨36, _⟩ => ⟨S4096x5632, .f32⟩
  | .hbm, ⟨37, _⟩ => ⟨S4096x5632, .f32⟩
  | .hbm, ⟨38, _⟩ => ⟨S4096x5632, .f32⟩
  | .hbm, ⟨39, _⟩ => ⟨S4096x5632, .f32⟩
  | .hbm, ⟨40, _⟩ => ⟨S1x5632, .f32⟩
  | .hbm, ⟨41, _⟩ => ⟨S5632, .f32⟩
  | .hbm, ⟨42, _⟩ => ⟨S1x5632, .f32⟩
  | .hbm, ⟨43, _⟩ => ⟨S4096x5632, .f32⟩
  | .hbm, ⟨44, _⟩ => ⟨S4096x5632, .f32⟩
  | .hbm, ⟨45, _⟩ => ⟨S4096x5632, .f32⟩
  | .hbm, ⟨46, _⟩ => ⟨S4096x5632, .f32⟩
  | .hbm, ⟨47, _⟩ => ⟨S4096x5632, .f32⟩
  | .hbm, ⟨48, _⟩ => ⟨S4096x2816, .f32⟩
  | .hbm, ⟨49, _⟩ => ⟨S4096x2816, .f32⟩
  | .hbm, ⟨50, _⟩ => ⟨S4096x2816, .f32⟩
  | .hbm, ⟨51, _⟩ => ⟨S_, .f32⟩
  | .hbm, ⟨52, _⟩ => ⟨S4096x2816, .f32⟩
  | .hbm, ⟨53, _⟩ => ⟨S4096x2816, .f32⟩
  | .hbm, ⟨54, _⟩ => ⟨S_, .f32⟩
  | .hbm, ⟨55, _⟩ => ⟨S4096x2816, .f32⟩
  | .hbm, ⟨56, _⟩ => ⟨S4096x2816, .f32⟩
  | .hbm, ⟨57, _⟩ => ⟨S4096x2816, .f32⟩
  | .hbm, ⟨58, _⟩ => ⟨S4096x2816, .f32⟩
  | .hbm, ⟨59, _⟩ => ⟨S4096x2816, .f32⟩
  | .hbm, ⟨60, _⟩ => ⟨S4096x2816, .bf16⟩
  | .hbm, ⟨61, _⟩ => ⟨S4096x1024, .bf16⟩
  | .hbm, ⟨62, _⟩ => ⟨S4096x1024, .f32⟩
  | .hbm, ⟨63, _⟩ => ⟨S_, .f32⟩
  | .hbm, ⟨64, _⟩ => ⟨S4096, .f32⟩
  | .hbm, ⟨65, _⟩ => ⟨S4096x1, .f32⟩
  | .hbm, ⟨66, _⟩ => ⟨S_, .f32⟩
  | .hbm, ⟨67, _⟩ => ⟨S4096x1, .f32⟩
  | .hbm, ⟨68, _⟩ => ⟨S4096x1, .f32⟩
  | .hbm, ⟨69, _⟩ => ⟨S_, .f32⟩
  | .hbm, ⟨70, _⟩ => ⟨S4096x1, .f32⟩
  | .hbm, ⟨71, _⟩ => ⟨S4096x1, .f32⟩
  | .hbm, ⟨72, _⟩ => ⟨S4096x1, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_call0_v0 : Ref sig .tc := ⟨.hbm, 49, rfl⟩
abbrev main_call0_v1 : Ref sig .tc := ⟨.hbm, 50, rfl⟩
abbrev main_call0_cst : Ref sig .tc := ⟨.hbm, 51, rfl⟩
abbrev main_call0_v2 : Ref sig .tc := ⟨.hbm, 52, rfl⟩
abbrev main_call0_v3 : Ref sig .tc := ⟨.hbm, 53, rfl⟩
abbrev main_call0_cst_0 : Ref sig .tc := ⟨.hbm, 54, rfl⟩
abbrev main_call0_v4 : Ref sig .tc := ⟨.hbm, 55, rfl⟩
abbrev main_call0_v5 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_3 : Ref sig .tc := ⟨.hbm, 63, rfl⟩
abbrev main_v46 : Ref sig .tc := ⟨.hbm, 64, rfl⟩
abbrev main_v47 : Ref sig .tc := ⟨.hbm, 65, rfl⟩
abbrev main_cst_4 : Ref sig .tc := ⟨.hbm, 66, rfl⟩
abbrev main_v48 : Ref sig .tc := ⟨.hbm, 67, rfl⟩
abbrev main_v49 : Ref sig .tc := ⟨.hbm, 68, rfl⟩
abbrev main_cst_5 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩

abbrev nD : Nat := 1
abbrev τ : Topo := Topo.v7x

variable {F : FTy → Type} [FloatOps F]
-- ==== Proof.SgTiles.lean ====
/- The gMLP gradient kernel's stores, read as ONE list built from tile functions: what each store of the body writes is
   one of a dozen functions of the tile's operands, the same for all 16 pairs (block, group). -/
module

public import proofs.«01_k».proof.Proof.Gen.KernelIdeal.Frame
public import Idealize.ShloMosaic.Lib.Pipeline.Value

@[expose] public section

set_option maxRecDepth 16384

noncomputable section

namespace Cert.KernelIdeal.Sg

open Cert.KernelIdeal Cert.KernelIdeal.Gen Idealize.ShloMosaic Idealize.ShloMosaic.TcCoe Idealize.SL.Sem

variable {F : FTy → Type} [FloatOps F] [Named F]

/-! ## The functions of one tile -/

abbrev half : FVec F S128x128 .f32 := broadcast S128x128 (Scalar.ofBits .f32 0x3F000000#32)
abbrev one : FVec F S128x128 .f32 := broadcast S128x128 (Scalar.ofBits .f32 0x3F800000#32)
abbrev zero : FVec F S128x128 .f32 := broadcast S128x128 (Scalar.ofBits .f32 0x00000000#32)
abbrev slope : FVec F S128x128 .f32 := broadcast S128x128 (Scalar.ofBits .f32 0x3F4C422A#32)
abbrev cubic : FVec F S128x128 .f32 := broadcast S128x128 (Named.named κ "gelu_cubic" 0x3D372713#32)
abbrev cubicSlope : FVec F S128x128 .f32 := broadcast S128x128 (Named.named κ "gelu_cubic_slope" 0x3E095D4F#32)
abbrev zeros : FVec F S128x128 .f32 := constant S128x128 .f32 0x00000000#32

/-- The hyperbolic tangent inside the gelu. -/
def tTanh (x : FVec F S128x128 .f32) : FVec F S128x128 .f32 :=
  tanh (mulf slope (addf x (mulf (mulf (mulf cubic x) x) x)))
def tGelu (x : FVec F S128x128 .f32) : FVec F S128x128 .f32 := mulf (mulf half x) (addf one (tTanh x))
/-- The gelu's derivative. -/
def tGrad (x : FVec F S128x128 .f32) : FVec F S128x128 .f32 :=
  addf (mulf half (addf one (tTanh x)))
    (mulf (mulf (mulf (mulf half x) (subf one (mulf (tTanh x) (tTanh x)))) slope) (addf one (mulf (mulf cubicSlope x) x)))
/-- The reciprocal root of a row's mean square. -/
def tRs (v : FVec F S128x128 .f32) : FVec F S128x1 .f32 :=
  rsqrt (addf (divf (shapeCast S128x1 (multiReduction .add [1] S128 (mulf v v) 0x00000000#32 reduces_S128x128_S128 (.inl rfl) rfl) shapeCasts_S128_S128x1)
    (broadcast S128x1 (Scalar.ofBits .f32 0x43000000#32))) (broadcast S128x1 (Scalar.ofBits .f32 0x358637BD#32)))
def tXr (v : FVec F S128x128 .f32) (r : FVec F S128x1 .f32) : FVec F S128x128 .f32 :=
  mulf v (broadcastTo S128x128 r broadcasts_S128x1_S128x128)
def tVn (v : FVec F S128x128 .f32) (ng : FVec F S1x128 .f32) : FVec F S128x128 .f32 :=
  mulf (tXr v (tRs v)) (broadcastTo S128x128 ng broadcasts_S1x128_S128x128)
/-- The block-causal mask. -/
def tMask : IVec S128x128 1 :=
  k0_pay10 (iota .tc S128x128 32 [0] iota_S128x128_d0_w32) k0_pay6 64#32 k0_pay7 k0_pay8 k0_pay9
def tW (w : FVec F S1x128x128 .f32) : FVec F S128x128 .f32 :=
  select tMask (shapeCast S128x128 w shapeCasts_S1x128x128_S128x128) zero
def tS (w vn : FVec F S128x128 .f32) (b : FVec F S128x1 .f32) : FVec F S128x128 .f32 :=
  addf (matmul dot_S128x128_S128x128_S128x128_1_0_0_1_n_n none (truncf .bf16 w bitsLt_bf16_f32) (truncf .bf16 vn bitsLt_bf16_f32) zeros)
    (broadcastTo S128x128 b broadcasts_S128x1_S128x128)
def tDs (d u : FVec F S128x128 .f32) : FVec F S128x128 .f32 := mulf d (tGelu u)
def tDu (d s u : FVec F S128x128 .f32) : FVec F S128x128 .bf16 := truncf .bf16 (mulf (mulf d s) (tGrad u)) bitsLt_bf16_f32
def tDb (g : Fin 4) (ds : FVec F S128x128 .f32) : FVec F S128x128 .f32 :=
  select (cmpi .eq (iota .tc S128x128 32 [1] iota_S128x128_d1_w32) (broadcast S128x128 (BitVec.ofNat 32 g.val)))
    (broadcastTo S128x128 (shapeCast S128x1 (shapeCast S128x1 (multiReduction .add [1] S128 ds 0x00000000#32 reduces_S128x128_S128 (.inl rfl) rfl) shapeCasts_S128_S128x1) shapeCasts_S128x1_S128x1) broadcasts_S128x1_S128x128) zero
def tDw (ds vn : FVec F S128x128 .f32) : FVec F S128x128 .f32 :=
  select tMask (matmul dot_S128x128_S128x128_S128x128_1_1_0_0_n_n none (truncf .bf16 ds bitsLt_bf16_f32) (truncf .bf16 vn bitsLt_bf16_f32) zeros) zero
def tDvn (w ds : FVec F S128x128 .f32) : FVec F S128x128 .f32 :=
  matmul dot_S128x128_S128x128_S128x128_0_0_1_1_n_n none (truncf .bf16 w bitsLt_bf16_f32) (truncf .bf16 ds bitsLt_bf16_f32) zeros
/-- The norm's gradient, to its argument and to its scale. -/
def tDvg (v dvn : FVec F S128x128 .f32) (ng : FVec F S1x128 .f32) : FVec F S128x128 .f32 :=
  mulf (broadcastTo S128x128 (tRs v) broadcasts_S128x1_S128x128)
    (subf (mulf dvn (broadcastTo S128x128 ng broadcasts_S1x128_S128x128))
      (mulf (tXr v (tRs v)) (broadcastTo S128x128 (divf (shapeCast S128x1 (multiReduction .add [1] S128
        (mulf (mulf dvn (broadcastTo S128x128 ng broadcasts_S1x128_S128x128)) (tXr v (tRs v))) 0x00000000#32 reduces_S128x128_S128 (.inl rfl) rfl) shapeCasts_S128_S128x1)
        (broadcast S128x1 (Scalar.ofBits .f32 0x43000000#32))) broadcasts_S128x1_S128x128)))
def tDng (v dvn : FVec F S128x128 .f32) : FVec F S1x128 .f32 :=
  shapeCast S1x128 (multiReduction .add [0] S128 (mulf dvn (tXr v (tRs v))) 0x00000000#32 reduces_S128x128_S128_2 (.inl rfl) rfl) shapeCasts_S128_S1x128
def tDv (v dvg : FVec F S128x128 .f32) : FVec F S128x128 .bf16 := truncf .bf16 (mulf dvg (tGrad v)) bitsLt_bf16_f32

/-! ## The tiles of one grid point -/

/-- What the body loads: the tiles (block, group) of the two inputs and of the cotangent, and per group the scale, the
    mixing matrix and the bias. -/
structure Leaves (F : FTy → Type) [FloatOps F] where
  U : Fin 4 → Fin 4 → FVec F S128x128 .f32
  V : Fin 4 → Fin 4 → FVec F S128x128 .f32
  D : Fin 4 → Fin 4 → FVec F S128x128 .f32
  NG : Fin 4 → FVec F S1x128 .f32
  W : Fin 4 → FVec F S1x128x128 .f32
  B : Fin 4 → FVec F S128x1 .f32

variable (L : Leaves F) (p : Fin 4 × Fin 4)

def vg : FVec F S128x128 .f32 := tGelu (L.V p.1 p.2)
def vn : FVec F S128x128 .f32 := tVn (vg L p) (L.NG p.2)
def ss : FVec F S128x128 .f32 := tS (tW (L.W p.2)) (vn L p) (L.B p.2)
def ds : FVec F S128x128 .f32 := tDs (L.D p.1 p.2) (L.U p.1 p.2)
def dvn : FVec F S128x128 .f32 := tDvn (tW (L.W p.2)) (ds L p)
def du : FVec F S128x128 .bf16 := tDu (L.D p.1 p.2) (ss L p) (L.U p.1 p.2)
def dv : FVec F S128x128 .bf16 := tDv (L.V p.1 p.2) (tDvg (vg L p) (dvn L p) (L.NG p.2))
def dng : FVec F S1x128 .f32 := tDng (vg L p) (dvn L p)
def dw : FVec F S128x128 .f32 := tDw (ds L p) (vn L p)

/-- The pairs (block, group), last first. -/
def pairs : List (Fin 4 × Fin 4) :=
  [(3,3),(3,2),(3,1),(3,0),(2,3),(2,2),(2,1),(2,0),(1,3),(1,2),(1,1),(1,0),(0,3),(0,2),(0,1),(0,0)]

theorem inbU (p : Fin 4 × Fin 4) : ∀ a, (![128 * p.1.val, 128 * p.2.val] : Fin S512x1024.rank → ℕ) a + S128x128.size a ≤ S512x1024.size a := by
  intro a; fin_cases a <;> simp [S128x128, S512x1024] <;> omega
theorem inbV (p : Fin 4 × Fin 4) : ∀ a, (![128 * p.1.val, 512 + 128 * p.2.val] : Fin S512x1024.rank → ℕ) a + S128x128.size a ≤ S512x1024.size a := by
  intro a; fin_cases a <;> simp [S128x128, S512x1024] <;> omega
theorem inbG (g : Fin 4) : ∀ a, (![0, 128 * g.val] : Fin S1x512.rank → ℕ) a + S1x128.size a ≤ S1x512.size a := by
  intro a; fin_cases a <;> simp [S1x128, S1x512] <;> omega
theorem inbW (g : Fin 4) : ∀ a, (![g.val, 0, 0] : Fin S4x128x128.rank → ℕ) a + S1x128x128.size a ≤ S4x128x128.size a := by
  intro a; fin_cases a <;> simp [S1x128x128, S4x128x128] <;> omega
theorem inbB (g : Fin 4) : ∀ a, (![0, g.val] : Fin S128x4.rank → ℕ) a + S128x1.size a ≤ S128x4.size a := by
  intro a; fin_cases a <;> simp [S128x1, S128x4] <;> omega
theorem inbT (b g : Fin 4) : ∀ a, (![128 * b.val, 128 * g.val] : Fin S512x512.rank → ℕ) a + S128x128.size a ≤ S512x512.size a := by
  intro a; fin_cases a <;> simp [S128x128, S512x512] <;> omega

abbrev rectG (g : Fin 4) : Rect S1x512 := Rect.unit ![0, 128 * g.val] S1x128.size (inbG g)
abbrev rectT (b g : Fin 4) : Rect S512x512 := Rect.unit ![128 * b.val, 128 * g.val] S128x128.size (inbT b g)
abbrev rectB (g : Fin 4) : Rect S128x4 := Rect.unit ![0, g.val] S128x1.size (inbB g)
abbrev rectW (g : Fin 4) : Rect S4x128x128 := Rect.unit ![g.val, 0, 0] S1x128x128.size (inbW g)

/-- The stores of the two inputs' gradients. -/
def pieces6 : List (View.Piece (Elt F) S512x1024 .bf16) :=
  pairs.map (fun p => ⟨Rect.unit ![128 * p.1.val, 512 + 128 * p.2.val] S128x128.size (inbV p), dv L p⟩)
    ++ pairs.map (fun p => ⟨Rect.unit ![128 * p.1.val, 128 * p.2.val] S128x128.size (inbU p), du L p⟩)

/-- An accumulator's stores: each pair in turn adds its tile to what it reads back. `base` is what the first block
    reads in the case that keeps the sums of the point before. -/
def acc {S : Shape} (size : Fin S.rank → ℕ) (off : Fin 4 → Fin S.rank → ℕ) (inb : ∀ g a, off g a + size a ≤ S.size a)
    (v : View sig .tc .vmem S .f32) (upd : Vec F ⟨S.rank, size⟩ .f32 → Fin 4 × Fin 4 → Vec F ⟨S.rank, size⟩ .f32)
    (start : List (View.Piece (Elt F) S .f32)) (base : Option (v.ty.Contents (Elt F))) :
    List (Fin 4 × Fin 4) → List (View.Piece (Elt F) S .f32)
  | [] => start
  | p :: ps => ⟨Rect.unit (off p.2) size (inb p.2), upd
      (match base, p.1.val with
        | some f, 0 => View.readAt (Elt F) v (Rect.unit (off p.2) size (inb p.2)).toLoadRect f
        | _, _ => v.readCov (acc size off inb v upd start base ps) (Rect.unit (off p.2) size (inb p.2)).toLoadRect) p⟩ ::
      acc size off inb v upd start base ps

def updG (x : Vec F S1x128 .f32) (p : Fin 4 × Fin 4) : Vec F S1x128 .f32 :=
  addf (shapeCast S1x128 x shapeCasts_S1x128_S1x128) (dng L p)
def updW (x : Vec F S1x128x128 .f32) (p : Fin 4 × Fin 4) : Vec F S1x128x128 .f32 :=
  shapeCast S1x128x128 (addf (shapeCast S128x128 x shapeCasts_S1x128x128_S128x128) (dw L p)) shapeCasts_S128x128_S1x128x128

/-- The bias gradient of one point, summed pair by pair. -/
def dbSum : List (Fin 4 × Fin 4) → FVec F S128x128 .f32
  | [] => zero
  | p :: ps => addf (dbSum ps) (tDb p.2 (ds L p))

section
variable (arg1 : Memref sig .tc .vmem S512x512 .f32) (harg1 : arg1.IsWhole) (arg2 : Memref sig .tc .vmem S512x512 .f32) (harg2 : arg2.IsWhole) (arg3 : Memref sig .tc .vmem S1x512 .f32) (harg3 : arg3.IsWhole) (arg4 : Memref sig .tc .vmem S4x128x128 .f32) (harg4 : arg4.IsWhole) (arg5 : Memref sig .tc .vmem S128x4 .f32) (harg5 : arg5.IsWhole) (arg6 : Memref sig .tc .vmem S512x512 .f32) (harg6 : arg6.IsWhole)
  (x0 : Vec F S512x512 .f32) (x1 : Vec F S512x512 .f32) (x2 : Vec F S1x512 .f32) (x3 : Vec F S4x128x128 .f32) (x4 : Vec F S128x4 .f32) (x5 : Vec F S512x512 .f32)

/-- What the body loads of buffers holding `x0` … `x5`. -/
def loads : Leaves F where
  U b g := View.readAt (Elt F) arg1.view (rectT b g).toLoadRect (harg1.unread x0)
  V b g := View.readAt (Elt F) arg2.view (rectT b g).toLoadRect (harg2.unread x1)
  D b g := View.readAt (Elt F) arg6.view (rectT b g).toLoadRect (harg6.unread x5)
  NG g := View.readAt (Elt F) arg3.view (rectG g).toLoadRect (harg3.unread x2)
  W g := View.readAt (Elt F) arg4.view (rectW g).toLoadRect (harg4.unread x3)
  B g := View.readAt (Elt F) arg5.view (rectB g).toLoadRect (harg5.unread x4)

variable (c : Dev nD) (i : grid0.Coords) (arg7 : Memref sig .tc .vmem S512x1024 .bf16) (harg7 : arg7.IsWhole) (arg8 : Memref sig .tc .vmem S1x512 .f32) (harg8 : arg8.IsWhole) (arg9 : Memref sig .tc .vmem S4x128x128 .f32) (harg9 : arg9.IsWhole) (arg10 : Memref sig .tc .vmem S128x128 .f32) (harg10 : arg10.IsWhole)

theorem mask_word : (kernelRun0_A.sl.r : IVec S128x128 1) = tMask := rfl

section
variable (hc0 : cond0_0 i)

theorem runA6 : (kernelRun0_A c i arg1 harg1 arg2 harg2 arg3 harg3 arg4 harg4 arg5 harg5 arg6 harg6 arg7 harg7 arg8 harg8 arg9 harg9 arg10 harg10 hc0 x0 x1 x2 x3 x4 x5).1 = pieces6 (loads arg1 harg1 arg2 harg2 arg3 harg3 arg4 harg4 arg5 harg5 arg6 harg6 x0 x1 x2 x3 x4 x5) := by sl_kernel_rfl

theorem runA7 : (kernelRun0_A c i arg1 harg1 arg2 harg2 arg3 harg3 arg4 harg4 arg5 harg5 arg6 harg6 arg7 harg7 arg8 harg8 arg9 harg9 arg10 harg10 hc0 x0 x1 x2 x3 x4 x5).2.1
    = acc (S := S1x512) S1x128.size (fun g => ![0, 128 * g.val]) inbG arg8.view (updG (loads arg1 harg1 arg2 harg2 arg3 harg3 arg4 harg4 arg5 harg5 arg6 harg6 x0 x1 x2 x3 x4 x5)) [⟨Rect.unit ![0, 0] S1x512.size inb_S1x512_S1x512_0_0, k0_pay3⟩] none pairs := by sl_kernel_rfl

theorem runA8 : (kernelRun0_A c i arg1 harg1 arg2 harg2 arg3 harg3 arg4 harg4 arg5 harg5 arg6 harg6 arg7 harg7 arg8 harg8 arg9 harg9 arg10 harg10 hc0 x0 x1 x2 x3 x4 x5).2.2.1
    = acc (S := S4x128x128) S1x128x128.size (fun g => ![g.val, 0, 0]) inbW arg9.view (updW (loads arg1 harg1 arg2 harg2 arg3 harg3 arg4 harg4 arg5 harg5 arg6 harg6 x0 x1 x2 x3 x4 x5)) [⟨Rect.unit ![0, 0, 0] S4x128x128.size inb_S4x128x128_S4x128x128_0_0_0, k0_pay4⟩] none pairs := by sl_kernel_rfl

theorem runA9 : (kernelRun0_A c i arg1 harg1 arg2 harg2 arg3 harg3 arg4 harg4 arg5 harg5 arg6 harg6 arg7 harg7 arg8 harg8 arg9 harg9 arg10 harg10 hc0 x0 x1 x2 x3 x4 x5).2.2.2.1
    = [⟨Rect.unit ![0, 0] S128x128.size inb_S128x128_S128x128_0_0, k0_pay2 (dbSum (loads arg1 harg1 arg2 harg2 arg3 harg3 arg4 harg4 arg5 harg5 arg6 harg6 x0 x1 x2 x3 x4 x5) pairs) (arg10.view.readCov [⟨Rect.unit ![0, 0] S128x128.size inb_S128x128_S128x128_0_0, k0_pay5⟩] (Rect.unit ![0, 0] S128x128.size inb_S128x128_S128x128_0_0).toLoadRect)⟩, ⟨Rect.unit ![0, 0] S128x128.size inb_S128x128_S128x128_0_0, k0_pay5⟩] := by sl_kernel_rfl
end

section
variable (hc0 : ¬cond0_0 i) (xo7 : Vec F S1x512 .f32) (xo8 : Vec F S4x128x128 .f32) (xo9 : Vec F S128x128 .f32)

theorem runB6 : (kernelRun0_B c i arg1 harg1 arg2 harg2 arg3 harg3 arg4 harg4 arg5 harg5 arg6 harg6 arg7 harg7 arg8 harg8 arg9 harg9 arg10 harg10 hc0 x0 x1 x2 x3 x4 x5 xo7 xo8 xo9).1 = pieces6 (loads arg1 harg1 arg2 harg2 arg3 harg3 arg4 harg4 arg5 harg5 arg6 harg6 x0 x1 x2 x3 x4 x5) := by sl_kernel_rfl

theorem runB7 : (kernelRun0_B c i arg1 harg1 arg2 harg2 arg3 harg3 arg4 harg4 arg5 harg5 arg6 harg6 arg7 harg7 arg8 harg8 arg9 harg9 arg10 harg10 hc0 x0 x1 x2 x3 x4 x5 xo7 xo8 xo9).2.1
    = acc (S := S1x512) S1x128.size (fun g => ![0, 128 * g.val]) inbG arg8.view (updG (loads arg1 harg1 arg2 harg2 arg3 harg3 arg4 harg4 arg5 harg5 arg6 harg6 x0 x1 x2 x3 x4 x5)) [] (some (harg8.unread xo7)) pairs := by sl_kernel_rfl

theorem runB8 : (kernelRun0_B c i arg1 harg1 arg2 harg2 arg3 harg3 arg4 harg4 arg5 harg5 arg6 harg6 arg7 harg7 arg8 harg8 arg9 harg9 arg10 harg10 hc0 x0 x1 x2 x3 x4 x5 xo7 xo8 xo9).2.2.1
    = acc (S := S4x128x128) S1x128x128.size (fun g => ![g.val, 0, 0]) inbW arg9.view (updW (loads arg1 harg1 arg2 harg2 arg3 harg3 arg4 harg4 arg5 harg5 arg6 harg6 x0 x1 x2 x3 x4 x5)) [] (some (harg9.unread xo8)) pairs := by sl_kernel_rfl

theorem runB9 : (kernelRun0_B c i arg1 harg1 arg2 harg2 arg3 harg3 arg4 harg4 arg5 harg5 arg6 harg6 arg7 harg7 arg8 harg8 arg9 harg9 arg10 harg10 hc0 x0 x1 x2 x3 x4 x5 xo7 xo8 xo9).2.2.2.1
    = [⟨Rect.unit ![0, 0] S128x128.size inb_S128x128_S128x128_0_0, k0_pay2 (dbSum (loads arg1 harg1 arg2 harg2 arg3 harg3 arg4 harg4 arg5 harg5 arg6 harg6 x0 x1 x2 x3 x4 x5) pairs) (View.readAt (Elt F) arg10.view (Rect.unit ![0, 0] S128x128.size inb_S128x128_S128x128_0_0).toLoadRect (harg10.unread xo9))⟩] := by sl_kernel_rfl
end
end

end Cert.KernelIdeal.Sg
-- ==== Proof.SgReal.lean ====
/- The tile functions of the gMLP gradient kernel on tiles of real numbers: each is the real function one would write
   down. -/
module

public import proofs.«01_k».proof.Proof.SgTiles
public import Idealize.ShloMosaic.Lib.Pointwise
public import Mathlib.Analysis.SpecialFunctions.Trigonometric.DerivHyp

@[expose] public section

noncomputable section

namespace Cert.Real

open Idealize.ShloMosaic

theorem coe_sum {ι : Type} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- A matrix of reals as an array of extended reals. -/
def mat {n m : ℕ} (a : Fin n → Fin m → ℝ) : (⟨2, ![n, m]⟩ : Shape).Idx → EReal := fun j => ((a (j 0) (j 1) : ℝ) : EReal)

/-! ## The real functions -/

/-- The gelu's slope constant, the word's own value, and the norm's. -/
def slopeC : ℝ := 6693141 / 8388608
def epsC : ℝ := 8796093 / 8796093022208
def tanhArg (x : ℝ) : ℝ := Real.tanh (slopeC * (x + 8943 / 200000 * x * x * x))
def gelu (x : ℝ) : ℝ := 1 / 2 * x * (1 + tanhArg x)
def gelu' (x : ℝ) : ℝ :=
  1 / 2 * (1 + tanhArg x) + 1 / 2 * x * (1 - tanhArg x * tanhArg x) * slopeC * (1 + 26829 / 200000 * x * x)

theorem epsC_pos : 0 < epsC := by norm_num [epsC]

theorem ofBits_half : Ideal.ofBits .f32 0x3F000000#32 = ((1 / 2 : ℝ) : EReal) := by
  simp [Ideal.ofBits, Ideal.ieee]; rw [← EReal.coe_mul]; norm_num
theorem ofBits_one : Ideal.ofBits .f32 0x3F800000#32 = ((1 : ℝ) : EReal) := by
  simp [Ideal.ofBits, Ideal.ieee]; norm_cast; norm_num
theorem ofBits_zero : Ideal.ofBits .f32 0x00000000#32 = ((0 : ℝ) : EReal) := by
  simp [Ideal.ofBits, Ideal.ieee]
theorem ofBits_slope : Ideal.ofBits .f32 0x3F4C422A#32 = (slopeC : EReal) := by
  simp [Ideal.ofBits, Ideal.ieee, slopeC]; rw [← EReal.coe_mul]; norm_num
theorem ofBits_eps : Ideal.ofBits .f32 0x358637BD#32 = (epsC : EReal) := by
  simp [Ideal.ofBits, Ideal.ieee, epsC]; rw [← EReal.coe_mul]; norm_num
theorem ofBits_128 : Ideal.ofBits .f32 0x43000000#32 = ((128 : ℝ) : EReal) := by
  simp [Ideal.ofBits, Ideal.ieee]; rw [← EReal.coe_mul]; norm_num

theorem rsqrt_pos {x : ℝ} (h : 0 < x) : Ideal.rsqrt (x : EReal) = (((Real.sqrt x)⁻¹ : ℝ) : EReal) := by
  rw [Ideal.rsqrt_coe, if_neg (not_lt.mpr h.le), if_neg h.ne']

theorem div_128 (x : ℝ) : Ideal.div (x : EReal) ((128 : ℝ) : EReal) = ((x / 128 : ℝ) : EReal) := by
  rw [Ideal.div_coe (by norm_num), ← EReal.coe_mul]; congr 1; ring

/-! ## One tile -/

abbrev Tile := Fin 128 → Fin 128 → ℝ
def rs (v : Tile) (i : Fin 128) : ℝ := (Real.sqrt ((∑ k, v i k * v i k) / 128 + epsC))⁻¹
def vnR (v : Tile) (g : Fin 128 → ℝ) : Tile := fun i k => v i k * rs v i * g k
def msk (i j : Fin 128) : Prop := j.val / 64 ≤ i.val / 64
instance (i j : Fin 128) : Decidable (msk i j) := by unfold msk; infer_instance
def wm (w : Tile) : Tile := fun i j => if msk i j then w i j else 0
def ssR (w vn : Tile) (b : Fin 128 → ℝ) : Tile := fun i k => (∑ j, w i j * vn j k) + b i
def dwR (ds vn : Tile) : Tile := fun i j => if msk i j then ∑ k, ds i k * vn j k else 0
def dvnR (w ds : Tile) : Tile := fun j k => ∑ i, w i j * ds i k
def dvgR (v dvn : Tile) (g : Fin 128 → ℝ) : Tile := fun i k =>
  rs v i * (dvn i k * g k - v i k * rs v i * ((∑ l, dvn i l * g l * (v i l * rs v i)) / 128))
def dngR (v dvn : Tile) (k : Fin 128) : ℝ := ∑ i, dvn i k * (v i k * rs v i)

end Cert.Real

namespace Cert.KernelIdeal.Sg

open Cert.KernelIdeal Cert.KernelIdeal.Gen Idealize.ShloMosaic Idealize.ShloMosaic.TcCoe Idealize.SL.Sem
open Cert.Real

theorem named_cubic : Named.named (F := Ideal) κ "gelu_cubic" (φ := .f32) 0x3D372713#32 = ((8943 / 200000 : ℝ) : EReal) := by
  simp [Named.named, κ]
theorem named_slope : Named.named (F := Ideal) κ "gelu_cubic_slope" (φ := .f32) 0x3E095D4F#32 = ((26829 / 200000 : ℝ) : EReal) := by
  simp [Named.named, κ]

theorem tTanh_mat (x : Tile) : tTanh (F := Ideal) (mat x) = mat fun i k => tanhArg (x i k) := by
  funext j
  pointwise [tTanh]
  simp only [mat, named_cubic, ofBits_slope, ← EReal.coe_mul, ← EReal.coe_add, Ideal.tanh_coe, tanhArg]

theorem tGelu_mat (x : Tile) : tGelu (F := Ideal) (mat x) = mat fun i k => gelu (x i k) := by
  funext j
  pointwise [tGelu]
  rw [tTanh_mat]
  simp only [mat, ofBits_half, ← EReal.coe_one, ← EReal.coe_mul, ← EReal.coe_add, gelu]

theorem tGrad_mat (x : Tile) : tGrad (F := Ideal) (mat x) = mat fun i k => gelu' (x i k) := by
  funext j
  pointwise [tGrad]
  rw [tTanh_mat]
  simp only [mat, ofBits_half, ← EReal.coe_one, ofBits_slope, named_slope, ← EReal.coe_mul, ← EReal.coe_add, ← EReal.coe_sub, gelu']

theorem rs_arg_pos (v : Tile) (i : Fin 128) : 0 < (∑ k, v i k * v i k) / 128 + epsC :=
  add_pos_of_nonneg_of_pos (div_nonneg (Finset.sum_nonneg fun k _ => mul_self_nonneg _) (by norm_num)) epsC_pos

theorem tRs_mat (v : Tile) : tRs (F := Ideal) (mat v) = mat fun i (_ : Fin 1) => rs v i := by
  funext j
  pointwise [tRs]
  simp only [mat, ofBits_eps, ofBits_128, ← EReal.coe_mul, ← EReal.coe_add, ← coe_sum, div_128]
  exact rsqrt_pos (rs_arg_pos v (j 0))

theorem tXr_mat (v : Tile) (r : Fin 128 → ℝ) : tXr (F := Ideal) (mat v) (mat fun i (_ : Fin 1) => r i) = mat fun i k => v i k * r i := by
  funext j
  pointwise [tXr]
  simp only [mat, ← EReal.coe_mul]
  rfl

theorem tVn_mat (v : Tile) (g : Fin 128 → ℝ) : tVn (F := Ideal) (mat v) (mat fun (_ : Fin 1) k => g k) = mat (vnR v g) := by
  funext j
  unfold tVn
  rw [tRs_mat, tXr_mat]
  pointwise
  simp only [mat, ← EReal.coe_mul]
  rfl

/-- The row's quotient by 64 as the mask computes it. -/
def rowQ : IVec S128x128 32 :=
  select (andi (cmpi .ne k0_pay8 k0_pay9) (cmpi .ne (remsi (iota .tc S128x128 32 [0] iota_S128x128_d0_w32) (broadcast S128x128 64#32)) (broadcast S128x128 0#32)))
    (subi k0_pay7 (broadcast S128x128 1#32)) k0_pay7

theorem rowQ_apply : ∀ i : Fin 128, rowQ (ix2 i (0 : Fin 128)) = BitVec.ofNat 32 (i.val / 64) := by decide +kernel
theorem colQ_apply : ∀ j : Fin 128, k0_pay6 (ix2 (0 : Fin 128) j) = BitVec.ofNat 32 (j.val / 64) := by decide +kernel

theorem cmpi_quot : ∀ a b : Fin 2, IntOp.cmpi .sle (BitVec.ofNat 32 b.val) (BitVec.ofNat 32 a.val) = if b.val ≤ a.val then 1#1 else 0#1 := by
  decide +kernel

theorem tMask_apply (i j : Fin 128) : tMask (ix2 i j) = if msk i j then 1#1 else 0#1 := by
  have h : tMask (ix2 i j) = IntOp.cmpi .sle (k0_pay6 (ix2 (0 : Fin 128) j)) (rowQ (ix2 i (0 : Fin 128))) := rfl
  rw [h, rowQ_apply, colQ_apply]
  exact cmpi_quot ⟨i.val / 64, by omega⟩ ⟨j.val / 64, by omega⟩

theorem select_mask (i j : Fin 128) (x : EReal) : Scalar.select (if msk i j then 1#1 else 0#1) x 0 = if msk i j then x else 0 := by
  split <;> rfl

theorem tW_mat (w : Fin 1 → Tile) : tW (F := Ideal) (fun j => ((w (j 0) (j 1) (j 2) : ℝ) : EReal)) = mat (wm (w 0)) := by
  funext j
  idx_vars j
  pointwise [tW]
  rw [tMask_apply, select_mask]
  show _ = ((if msk j0 j1 then w 0 j0 j1 else 0 : ℝ) : EReal)
  split <;> rfl

theorem tS_mat (w v : Tile) (b : Fin 128 → ℝ) :
    tS (F := Ideal) (mat w) (mat v) (mat fun i (_ : Fin 1) => b i) = mat (ssR w v b) := by
  funext j
  pointwise [tS]
  simp only [mat, ← EReal.coe_mul, ← EReal.coe_add, ← coe_sum]
  rfl

theorem tDs_mat (d u : Tile) : tDs (F := Ideal) (mat d) (mat u) = mat fun i k => d i k * gelu (u i k) := by
  funext j
  unfold tDs
  rw [tGelu_mat]
  pointwise
  simp only [mat, ← EReal.coe_mul]

theorem tDu_mat (d s u : Tile) : tDu (F := Ideal) (mat d) (mat s) (mat u) = mat fun i k => d i k * s i k * gelu' (u i k) := by
  funext j
  unfold tDu
  rw [tGrad_mat]
  pointwise
  simp only [mat, ← EReal.coe_mul]

theorem tDv_mat (v d : Tile) : tDv (F := Ideal) (mat v) (mat d) = mat fun i k => d i k * gelu' (v i k) := by
  funext j
  unfold tDv
  rw [tGrad_mat]
  pointwise
  simp only [mat, ← EReal.coe_mul]

theorem lane_eq : ∀ (k : Fin 128) (g : Fin 4),
    IntOp.cmpi .eq (BitVec.ofNat 32 k.val) (BitVec.ofNat 32 g.val) = if k.val = g.val then 1#1 else 0#1 := by decide +kernel

theorem tDb_mat (g : Fin 4) (x : Tile) : tDb (F := Ideal) g (mat x) = mat fun i k => if k.val = g.val then ∑ l, x i l else 0 := by
  funext j
  idx_vars j
  pointwise [tDb]
  rw [lane_eq]
  simp only [mat, ← coe_sum]
  show _ = ((if j1.val = g.val then ∑ l, x j0 l else 0 : ℝ) : EReal)
  split <;> rfl

theorem tDng_mat (v d : Tile) : tDng (F := Ideal) (mat v) (mat d) = mat fun (_ : Fin 1) k => dngR v d k := by
  funext j
  unfold tDng
  rw [tRs_mat, tXr_mat]
  pointwise
  simp only [mat, ← EReal.coe_mul, ← coe_sum]
  rfl

theorem tDvn_mat (w d : Tile) : tDvn (F := Ideal) (mat w) (mat d) = mat (dvnR w d) := by
  funext j
  pointwise [tDvn]
  simp only [mat, ← EReal.coe_mul, ← coe_sum]
  rfl

theorem tDw_mat (d v : Tile) : tDw (F := Ideal) (mat d) (mat v) = mat (dwR d v) := by
  funext j
  idx_vars j
  pointwise [tDw]
  rw [tMask_apply, select_mask]
  show _ = ((if msk j0 j1 then ∑ k, d j0 k * v j1 k else 0 : ℝ) : EReal)
  simp only [mat, ← EReal.coe_mul, ← coe_sum]
  split <;> rfl

theorem tDvg_mat (v d : Tile) (g : Fin 128 → ℝ) :
    tDvg (F := Ideal) (mat v) (mat d) (mat fun (_ : Fin 1) k => g k) = mat (dvgR v d g) := by
  funext j
  unfold tDvg
  rw [tRs_mat, tXr_mat]
  pointwise
  simp only [mat, ofBits_128, ← EReal.coe_mul, ← EReal.coe_sub, ← coe_sum, div_128]
  rfl

end Cert.KernelIdeal.Sg
-- ==== Proof.SgAcc.lean ====
/- The running sums a grid point of the gMLP gradient kernel leaves: what the stores of an accumulator, each adding to
   what it reads back, leave at an index. -/
module

public import proofs.«01_k».proof.Proof.SgReal

@[expose] public section

set_option maxRecDepth 16384

noncomputable section

namespace Cert.KernelIdeal.Sg

open Cert.KernelIdeal Cert.KernelIdeal.Gen Idealize.ShloMosaic Idealize.ShloMosaic.TcCoe Idealize.SL.Sem
open Cert.Real

/-- The sum over the pairs of group `g`, on top of `s`. -/
def accVal (s : EReal) (val : Fin 4 × Fin 4 → EReal) (g : Fin 4) : List (Fin 4 × Fin 4) → EReal
  | [] => s
  | p :: ps => if p.2 = g then accVal s val g ps + val p else accVal s val g ps

theorem accVal_pairs (s : EReal) (val : Fin 4 × Fin 4 → EReal) (g : Fin 4) :
    accVal s val g pairs = s + val (0, g) + val (1, g) + val (2, g) + val (3, g) := by
  fin_cases g <;> simp [accVal, pairs]

section
variable {S : Shape} {size : Fin S.rank → ℕ} {off : Fin 4 → Fin S.rank → ℕ} {inb : ∀ g a, off g a + size a ≤ S.size a}
  {v : View sig .tc .vmem S .f32} {upd : Vec Ideal ⟨S.rank, size⟩ .f32 → Fin 4 × Fin 4 → Vec Ideal ⟨S.rank, size⟩ .f32}
  {start : List (View.Piece (Elt Ideal) S .f32)} {val : Fin 4 × Fin 4 → (⟨S.rank, size⟩ : Shape).Idx → EReal}

/-- The accumulator zeroed first: every read is of the stores before. -/
theorem acc_apply_start (hdisj : ∀ g g', g ≠ g' → ∀ x, (Rect.unit (off g) size (inb g)).emb x ∉ (Rect.unit (off g') size (inb g')).set)
    (hupd : ∀ y p x, upd y p x = y x + val p x) (g : Fin 4) (x : (⟨S.rank, size⟩ : Shape).Idx) :
    ∀ ps, View.canon (acc size off inb v upd start none ps) ((Rect.unit (off g) size (inb g)).emb x)
      = accVal (View.canon start ((Rect.unit (off g) size (inb g)).emb x)) (fun p => val p x) g ps
  | [] => rfl
  | p :: ps => by
    have ih := acc_apply_start hdisj hupd g x ps
    unfold acc accVal
    by_cases h : p.2 = g
    · subst h
      rw [if_pos rfl, View.canon_cons_emb, hupd, View.readCov_eq_canon', ← ih]
      rfl
    · rw [if_neg h, View.canon_cons_of_not_mem _ _ (hdisj g p.2 (Ne.symm h) x), ih]

/-- Whether each group's first pair, and only it, is of block 0. -/
def okPairs : List (Fin 4 × Fin 4) → Bool
  | [] => true
  | p :: ps => okPairs ps && ((p.1.val == 0) == !(ps.any fun q => q.2 == p.2))

theorem accVal_none (s : EReal) (f : Fin 4 × Fin 4 → EReal) (g : Fin 4) : ∀ ps : List (Fin 4 × Fin 4), (ps.any fun q => q.2 == g) = false →
    accVal s f g ps = s
  | [], _ => rfl
  | p :: ps, h => by
    rw [List.any_cons, Bool.or_eq_false_iff] at h
    unfold accVal
    rw [if_neg (by simpa using h.1), accVal_none s f g ps h.2]

/-- The accumulator kept from the point before: the first block reads that. -/
theorem acc_apply_base (f : v.ty.Contents (Elt Ideal)) (hdisj : ∀ g g', g ≠ g' → ∀ x, (Rect.unit (off g) size (inb g)).emb x ∉ (Rect.unit (off g') size (inb g')).set)
    (hupd : ∀ y p x, upd y p x = y x + val p x) (g : Fin 4) (x : (⟨S.rank, size⟩ : Shape).Idx) :
    ∀ ps, okPairs ps = true → (ps.any fun q => q.2 == g) = true →
      View.canon (acc size off inb v upd start (some f) ps) ((Rect.unit (off g) size (inb g)).emb x)
      = accVal (v.read (Elt Ideal) f ((Rect.unit (off g) size (inb g)).emb x)) (fun p => val p x) g ps
  | [], _, h => by simp at h
  | p :: ps, ho, ha => by
    unfold okPairs at ho
    rw [Bool.and_eq_true] at ho
    by_cases h : p.2 = g
    · subst h
      unfold acc accVal
      rw [if_pos rfl, View.canon_cons_emb, hupd]
      congr 1
      rcases hb : p.1.val with _ | k
      · have hn : (ps.any fun q => q.2 == p.2) = false := by simpa [hb] using ho.2
        rw [accVal_none _ _ _ _ hn]
        rfl
      · have hn : (ps.any fun q => q.2 == p.2) = true := by simpa [hb] using ho.2
        rw [← acc_apply_base f hdisj hupd p.2 x ps ho.1 hn]
        rw [View.readCov_eq_canon']
        rfl
    · have hn : (ps.any fun q => q.2 == g) = true := by
        rw [List.any_cons, Bool.or_eq_true] at ha
        exact ha.resolve_left (by simpa using h)
      unfold acc accVal
      rw [if_neg h, View.canon_cons_of_not_mem _ _ (hdisj g p.2 (Ne.symm h) x), acc_apply_base f hdisj hupd g x ps ho.1 hn]

end

theorem okPairs_pairs : okPairs pairs = true := by decide
theorem pairs_any (g : Fin 4) : (pairs.any fun q => q.2 == g) = true := by revert g; decide

theorem disjG (g g' : Fin 4) (h : g ≠ g') (x : S1x128.Idx) : (rectG g).emb x ∉ (rectG g').set := by
  rw [Rect.mem_set_unit]
  intro hm
  have h1 := hm 1
  have hx : (x 1).val < 128 := (x 1).isLt
  have e : ((rectG g).emb x 1).val = 128 * g.val + 1 * (x 1).val := rfl
  have : g.val ≠ g'.val := fun e => h (Fin.ext e)
  rw [e] at h1
  change 128 * g'.val ≤ _ ∧ _ < 128 * g'.val + 128 at h1
  omega

theorem disjW (g g' : Fin 4) (h : g ≠ g') (x : S1x128x128.Idx) : (rectW g).emb x ∉ (rectW g').set := by
  rw [Rect.mem_set_unit]
  intro hm
  have h1 := hm 0
  have hx : (x 0).val < 1 := (x 0).isLt
  have e : ((rectW g).emb x 0).val = g.val + 1 * (x 0).val := rfl
  have : g.val ≠ g'.val := fun e => h (Fin.ext e)
  rw [e] at h1
  change g'.val ≤ _ ∧ _ < g'.val + 1 at h1
  omega

end Cert.KernelIdeal.Sg
-- ==== Proof.SgPoint.lean ====
/- What one grid point of the gMLP gradient kernel leaves, on real inputs. -/
module

public import proofs.«01_k».proof.Proof.SgAcc

@[expose] public section

set_option maxRecDepth 16384

noncomputable section

namespace Cert.Real

/-- Real inputs of the step's gMLP gradient: the projection, the norm's gain, the mixing matrices, the transposed bias and
    the gradient of the mixed output. -/
structure Inp where
  P : ℕ → ℕ → ℝ
  G : ℕ → ℝ
  W : ℕ → ℕ → ℕ → ℝ
  B : ℕ → ℕ → ℝ
  D : ℕ → ℕ → ℝ

namespace Inp

variable (I : Inp) (n g : ℕ)

/-- The tile of `u` of block `n` and group `g`. -/
def tu : Tile := fun i k => I.P (128 * n + i) (2048 + (128 * g + k))
def tv : Tile := fun i k => I.P (128 * n + i) (2560 + (128 * g + k))
def td : Tile := fun i k => I.D (128 * n + i) (512 + (128 * g + k))
def tg : Fin 128 → ℝ := fun k => I.G (128 * g + k)
def tw : Tile := fun i j => I.W g i j
def tb : Fin 128 → ℝ := fun i => I.B i g
def vg : Tile := fun i k => gelu (I.tv n g i k)
def vn : Tile := vnR (I.vg n g) (I.tg g)
def ss : Tile := ssR (wm (I.tw g)) (I.vn n g) (I.tb g)
def ds : Tile := fun i k => I.td n g i k * gelu (I.tu n g i k)
def dvn : Tile := dvnR (wm (I.tw g)) (I.ds n g)
def du : Tile := fun i k => I.td n g i k * I.ss n g i k * gelu' (I.tu n g i k)
def dv : Tile := fun i k => dvgR (I.vg n g) (I.dvn n g) (I.tg g) i k * gelu' (I.tv n g i k)
def dng (k : Fin 128) : ℝ := dngR (I.vg n g) (I.dvn n g) k
def dw : Tile := dwR (I.ds n g) (I.vn n g)
def db (i : Fin 128) : ℝ := ∑ l, I.ds n g i l

end Inp

end Cert.Real

namespace Cert.KernelIdeal.Sg

open Cert.KernelIdeal Cert.KernelIdeal.Gen Idealize.ShloMosaic Idealize.ShloMosaic.TcCoe Idealize.SL.Sem
open Cert.Real

/-- The leaves of the point `t`. -/
structure IsPoint (L : Leaves Ideal) (I : Inp) (t : ℕ) : Prop where
  U : ∀ b g : Fin 4, L.U b g = mat (I.tu (4 * t + b.val) g.val)
  V : ∀ b g : Fin 4, L.V b g = mat (I.tv (4 * t + b.val) g.val)
  D : ∀ b g : Fin 4, L.D b g = mat (I.td (4 * t + b.val) g.val)
  NG : ∀ g : Fin 4, L.NG g = mat fun (_ : Fin 1) k => I.tg g.val k
  W : ∀ g : Fin 4, L.W g = fun j => ((I.tw g.val (j 1) (j 2) : ℝ) : EReal)
  B : ∀ g : Fin 4, L.B g = mat fun i (_ : Fin 1) => I.tb g.val i

section
variable {L : Leaves Ideal} {I : Inp} {t : ℕ} (h : IsPoint L I t) (p : Fin 4 × Fin 4)
include h

theorem vg_real : vg L p = mat (I.vg (4 * t + p.1.val) p.2.val) := by
  unfold vg; rw [h.V, tGelu_mat]; rfl
theorem vn_real : vn L p = mat (I.vn (4 * t + p.1.val) p.2.val) := by
  unfold vn; rw [vg_real h, h.NG, tVn_mat]; rfl
theorem w_real (g : Fin 4) : tW (L.W g) = mat (wm (I.tw g.val)) := by
  rw [h.W]; exact tW_mat fun _ => I.tw g.val
theorem ss_real : ss L p = mat (I.ss (4 * t + p.1.val) p.2.val) := by
  unfold ss; rw [vn_real h, w_real h, h.B, tS_mat]; rfl
theorem ds_real : ds L p = mat (I.ds (4 * t + p.1.val) p.2.val) := by
  unfold ds; rw [h.D, h.U, tDs_mat]; rfl
theorem dvn_real : dvn L p = mat (I.dvn (4 * t + p.1.val) p.2.val) := by
  unfold dvn; rw [w_real h, ds_real h, tDvn_mat]; rfl
theorem du_real : du L p = mat (I.du (4 * t + p.1.val) p.2.val) := by
  unfold du; rw [h.D, ss_real h, h.U, tDu_mat]; rfl
theorem dv_real : dv L p = mat (I.dv (4 * t + p.1.val) p.2.val) := by
  unfold dv; rw [vg_real h, dvn_real h, h.NG, tDvg_mat, h.V, tDv_mat]; rfl
theorem dng_real : dng L p = mat fun (_ : Fin 1) k => I.dng (4 * t + p.1.val) p.2.val k := by
  unfold dng; rw [vg_real h, dvn_real h, tDng_mat]; rfl
theorem dw_real : dw L p = mat (I.dw (4 * t + p.1.val) p.2.val) := by
  unfold dw; rw [ds_real h, vn_real h, tDw_mat]; rfl

theorem updG_real (y : Vec Ideal S1x128 .f32) (x : S1x128.Idx) :
    updG L y p x = y x + ((I.dng (4 * t + p.1.val) p.2.val (x 1) : ℝ) : EReal) := by
  unfold updG; rw [dng_real h]; idx_vars x; pointwise; rfl

theorem updW_real (y : Vec Ideal S1x128x128 .f32) (x : S1x128x128.Idx) :
    updW L y p x = y x + ((I.dw (4 * t + p.1.val) p.2.val (x 1) (x 2) : ℝ) : EReal) := by
  unfold updW; rw [dw_real h]; idx_vars x; pointwise; rw [Subsingleton.elim x0 (0 : Fin 1)]; rfl

theorem dbSum_real (i k : Fin 128) : ∀ ps, dbSum L ps (ix2 i k)
    = (((ps.map fun p => if k.val = p.2.val then I.db (4 * t + p.1.val) p.2.val i else 0).sum : ℝ) : EReal)
  | [] => by
    rw [List.map_nil, List.sum_nil, EReal.coe_zero]
    unfold dbSum
    pointwise [zero]
  | p :: ps => by
    rw [List.map_cons, List.sum_cons, add_comm, EReal.coe_add, ← dbSum_real i k ps, dbSum, ds_real h, tDb_mat]
    rfl

end

end Cert.KernelIdeal.Sg
-- ==== Proof.SgOut.lean ====
/- What the body of the gMLP gradient kernel leaves in its four outputs at one grid point, on real inputs. -/
module

public import proofs.«01_k».proof.Proof.SgPoint

@[expose] public section

set_option maxRecDepth 16384

noncomputable section

namespace Cert.Real

/-- A position within its tile. -/
def fm (n : ℕ) : Fin 128 := ⟨n % 128, Nat.mod_lt _ (by norm_num)⟩

namespace Inp

variable (I : Inp)

/-- The gradient of the two inputs side by side, at row `r` and column `c` of the 4096 x 1024 array. -/
def duv (r c : ℕ) : ℝ :=
  if c < 512 then I.du (r / 128) (c / 128) (fm r) (fm c) else I.dv (r / 128) ((c - 512) / 128) (fm r) (fm c)

end Inp

end Cert.Real

namespace Cert.KernelIdeal.Sg

open Cert.KernelIdeal Cert.KernelIdeal.Gen Idealize.ShloMosaic Idealize.ShloMosaic.TcCoe Idealize.SL.Sem
open Cert.Real

variable {L : Leaves Ideal} {I : Inp} {t : ℕ} (h : IsPoint L I t)
include h

theorem pieces6_apply (y : S512x1024.Idx) (hy : ∃ p ∈ pieces6 L, y ∈ p.1.set) :
    View.canon (pieces6 L) y = ((I.duv (512 * t + (y 0).val) (y 1).val : ℝ) : EReal) := by
  refine View.canon_apply_of_pieces (fun y => ((I.duv (512 * t + (y 0).val) (y 1).val : ℝ) : EReal)) _ ?_ y hy
  intro p hp
  unfold pieces6 at hp
  rw [List.mem_append, List.mem_map, List.mem_map] at hp
  rcases hp with ⟨q, _, rfl⟩ | ⟨q, _, rfl⟩
  · intro x
    have h0 : (x 0).val < 128 := (x 0).isLt
    have h1 : (x 1).val < 128 := (x 1).isLt
    have hq := q.2.isLt
    have e0 : ((Rect.unit (s := S512x1024) ![128 * q.1.val, 512 + 128 * q.2.val] S128x128.size (inbV q)).emb x 0).val = 128 * q.1.val + 1 * (x 0).val := rfl
    have e1 : ((Rect.unit (s := S512x1024) ![128 * q.1.val, 512 + 128 * q.2.val] S128x128.size (inbV q)).emb x 1).val = 512 + 128 * q.2.val + 1 * (x 1).val := rfl
    show dv L q x = _
    rw [dv_real h, e0, e1]
    unfold Inp.duv mat
    rw [if_neg (by omega), show (512 * t + (128 * q.1.val + 1 * (x 0).val)) / 128 = 4 * t + q.1.val by omega,
      show (512 + 128 * q.2.val + 1 * (x 1).val - 512) / 128 = q.2.val by omega,
      show fm (512 * t + (128 * q.1.val + 1 * (x 0).val)) = x 0 from Fin.ext (by show _ % 128 = _; omega),
      show fm (512 + 128 * q.2.val + 1 * (x 1).val) = x 1 from Fin.ext (by show _ % 128 = _; omega)]
  · intro x
    have h0 : (x 0).val < 128 := (x 0).isLt
    have h1 : (x 1).val < 128 := (x 1).isLt
    have hq := q.2.isLt
    have e0 : ((Rect.unit (s := S512x1024) ![128 * q.1.val, 128 * q.2.val] S128x128.size (inbU q)).emb x 0).val = 128 * q.1.val + 1 * (x 0).val := rfl
    have e1 : ((Rect.unit (s := S512x1024) ![128 * q.1.val, 128 * q.2.val] S128x128.size (inbU q)).emb x 1).val = 128 * q.2.val + 1 * (x 1).val := rfl
    show du L q x = _
    rw [du_real h, e0, e1]
    unfold Inp.duv mat
    rw [if_pos (by omega), show (512 * t + (128 * q.1.val + 1 * (x 0).val)) / 128 = 4 * t + q.1.val by omega,
      show (128 * q.2.val + 1 * (x 1).val) / 128 = q.2.val by omega,
      show fm (512 * t + (128 * q.1.val + 1 * (x 0).val)) = x 0 from Fin.ext (by show _ % 128 = _; omega),
      show fm (128 * q.2.val + 1 * (x 1).val) = x 1 from Fin.ext (by show _ % 128 = _; omega)]

omit h in
theorem idxG (y : S1x512.Idx) : ∃ (g : Fin 4) (x : S1x128.Idx), y = (rectG g).emb x ∧ g.val = (y 1).val / 128 ∧ x 1 = fm (y 1).val := by
  have h0 : (y 0).val < 1 := (y 0).isLt
  have h1 : (y 1).val < 512 := (y 1).isLt
  refine ⟨⟨(y 1).val / 128, by omega⟩, ix2 0 (fm (y 1).val), funext fun a => Fin.ext ?_, rfl, rfl⟩
  match a with
  | ⟨0, _⟩ => show (y 0).val = 0 + 1 * 0; omega
  | ⟨1, _⟩ => show (y 1).val = 128 * ((y 1).val / 128) + 1 * ((y 1).val % 128); omega

omit h in
theorem idxW (y : S4x128x128.Idx) : ∃ (g : Fin 4) (x : S1x128x128.Idx), y = (rectW g).emb x ∧ g.val = (y 0).val ∧ x 1 = y 1 ∧ x 2 = y 2 := by
  refine ⟨y 0, ix3 0 (y 1) (y 2), funext fun a => Fin.ext ?_, rfl, rfl, rfl⟩
  match a with
  | ⟨0, _⟩ => show (y 0).val = (y 0).val + 1 * 0; omega
  | ⟨1, _⟩ => show (y 1).val = 0 + 1 * (y 1).val; omega
  | ⟨2, _⟩ => show (y 2).val = 0 + 1 * (y 2).val; omega

omit h in
theorem coe_four (s : EReal) (a b c d : ℝ) : s + (a : EReal) + (b : EReal) + (c : EReal) + (d : EReal) = s + ((a + b + c + d : ℝ) : EReal) := by
  rw [EReal.coe_add, EReal.coe_add, EReal.coe_add, add_assoc, add_assoc, add_assoc, add_assoc, add_assoc]

omit h in
theorem sum_four (f : ℕ → ℝ) : ∑ b ∈ Finset.range 4, f b = f (0 : Fin 4).val + f (1 : Fin 4).val + f (2 : Fin 4).val + f (3 : Fin 4).val := by
  simp [Finset.sum_range_succ]

theorem accG_start (v : View sig .tc .vmem S1x512 .f32) (st) (y : S1x512.Idx) :
    View.canon (acc (S := S1x512) S1x128.size (fun g => ![0, 128 * g.val]) inbG v (updG L) st none pairs) y
      = View.canon st y + ((∑ b ∈ Finset.range 4, I.dng (4 * t + b) ((y 1).val / 128) (fm (y 1).val) : ℝ) : EReal) := by
  obtain ⟨g, x, hy, hg, hx⟩ := idxG y
  have key : View.canon (acc (S := S1x512) S1x128.size (fun g => ![0, 128 * g.val]) inbG v (updG L) st none pairs) ((rectG g).emb x) = View.canon st ((rectG g).emb x) + ((I.dng (4 * t + (0 : Fin 4).val) g.val (x 1) : ℝ) : EReal) + ((I.dng (4 * t + (1 : Fin 4).val) g.val (x 1) : ℝ) : EReal) + ((I.dng (4 * t + (2 : Fin 4).val) g.val (x 1) : ℝ) : EReal) + ((I.dng (4 * t + (3 : Fin 4).val) g.val (x 1) : ℝ) : EReal) :=
    (acc_apply_start (S := S1x512) (size := S1x128.size) (off := (fun g => ![0, 128 * g.val])) (inb := inbG) (v := v) (upd := updG L) (start := st) (val := fun p x => ((I.dng (4 * t + p.1.val) p.2.val (x 1) : ℝ) : EReal)) disjG (fun y p x => updG_real h p y x) g x pairs).trans (accVal_pairs _ _ g)
  rw [← hy, coe_four, hg, hx] at key
  rw [key, sum_four]

theorem accG_base (v : View sig .tc .vmem S1x512 .f32) (f) (y : S1x512.Idx) :
    View.canon (acc (S := S1x512) S1x128.size (fun g => ![0, 128 * g.val]) inbG v (updG L) [] (some f) pairs) y
      = v.read (Elt Ideal) f y + ((∑ b ∈ Finset.range 4, I.dng (4 * t + b) ((y 1).val / 128) (fm (y 1).val) : ℝ) : EReal) := by
  obtain ⟨g, x, hy, hg, hx⟩ := idxG y
  have key : View.canon (acc (S := S1x512) S1x128.size (fun g => ![0, 128 * g.val]) inbG v (updG L) [] (some f) pairs) ((rectG g).emb x) = v.read (Elt Ideal) f ((rectG g).emb x) + ((I.dng (4 * t + (0 : Fin 4).val) g.val (x 1) : ℝ) : EReal) + ((I.dng (4 * t + (1 : Fin 4).val) g.val (x 1) : ℝ) : EReal) + ((I.dng (4 * t + (2 : Fin 4).val) g.val (x 1) : ℝ) : EReal) + ((I.dng (4 * t + (3 : Fin 4).val) g.val (x 1) : ℝ) : EReal) :=
    (acc_apply_base (S := S1x512) (size := S1x128.size) (off := (fun g => ![0, 128 * g.val])) (inb := inbG) (v := v) (upd := updG L) (start := []) (val := fun p x => ((I.dng (4 * t + p.1.val) p.2.val (x 1) : ℝ) : EReal)) f disjG (fun y p x => updG_real h p y x) g x pairs okPairs_pairs (pairs_any g)).trans (accVal_pairs _ _ g)
  rw [← hy, coe_four, hg, hx] at key
  rw [key, sum_four]

theorem accW_start (v : View sig .tc .vmem S4x128x128 .f32) (st) (y : S4x128x128.Idx) :
    View.canon (acc (S := S4x128x128) S1x128x128.size (fun g => ![g.val, 0, 0]) inbW v (updW L) st none pairs) y
      = View.canon st y + ((∑ b ∈ Finset.range 4, I.dw (4 * t + b) (y 0).val (y 1) (y 2) : ℝ) : EReal) := by
  obtain ⟨g, x, hy, hg, hx, hx'⟩ := idxW y
  have key : View.canon (acc (S := S4x128x128) S1x128x128.size (fun g => ![g.val, 0, 0]) inbW v (updW L) st none pairs) ((rectW g).emb x) = View.canon st ((rectW g).emb x) + ((I.dw (4 * t + (0 : Fin 4).val) g.val (x 1) (x 2) : ℝ) : EReal) + ((I.dw (4 * t + (1 : Fin 4).val) g.val (x 1) (x 2) : ℝ) : EReal) + ((I.dw (4 * t + (2 : Fin 4).val) g.val (x 1) (x 2) : ℝ) : EReal) + ((I.dw (4 * t + (3 : Fin 4).val) g.val (x 1) (x 2) : ℝ) : EReal) :=
    (acc_apply_start (S := S4x128x128) (size := S1x128x128.size) (off := (fun g => ![g.val, 0, 0])) (inb := inbW) (v := v) (upd := updW L) (start := st) (val := fun p x => ((I.dw (4 * t + p.1.val) p.2.val (x 1) (x 2) : ℝ) : EReal)) disjW (fun y p x => updW_real h p y x) g x pairs).trans (accVal_pairs _ _ g)
  rw [← hy, coe_four, hg, hx, hx'] at key
  rw [key, sum_four]

theorem accW_base (v : View sig .tc .vmem S4x128x128 .f32) (f) (y : S4x128x128.Idx) :
    View.canon (acc (S := S4x128x128) S1x128x128.size (fun g => ![g.val, 0, 0]) inbW v (updW L) [] (some f) pairs) y
      = v.read (Elt Ideal) f y + ((∑ b ∈ Finset.range 4, I.dw (4 * t + b) (y 0).val (y 1) (y 2) : ℝ) : EReal) := by
  obtain ⟨g, x, hy, hg, hx, hx'⟩ := idxW y
  have key : View.canon (acc (S := S4x128x128) S1x128x128.size (fun g => ![g.val, 0, 0]) inbW v (updW L) [] (some f) pairs) ((rectW g).emb x) = v.read (Elt Ideal) f ((rectW g).emb x) + ((I.dw (4 * t + (0 : Fin 4).val) g.val (x 1) (x 2) : ℝ) : EReal) + ((I.dw (4 * t + (1 : Fin 4).val) g.val (x 1) (x 2) : ℝ) : EReal) + ((I.dw (4 * t + (2 : Fin 4).val) g.val (x 1) (x 2) : ℝ) : EReal) + ((I.dw (4 * t + (3 : Fin 4).val) g.val (x 1) (x 2) : ℝ) : EReal) :=
    (acc_apply_base (S := S4x128x128) (size := S1x128x128.size) (off := (fun g => ![g.val, 0, 0])) (inb := inbW) (v := v) (upd := updW L) (start := []) (val := fun p x => ((I.dw (4 * t + p.1.val) p.2.val (x 1) (x 2) : ℝ) : EReal)) f disjW (fun y p x => updW_real h p y x) g x pairs okPairs_pairs (pairs_any g)).trans (accVal_pairs _ _ g)
  rw [← hy, coe_four, hg, hx, hx'] at key
  rw [key, sum_four]

/-- A point's bias gradient, at a lane `k`: of group `k`, and 0 beyond the groups. -/
theorem dbSum_pairs (y : S128x128.Idx) : dbSum L pairs y
    = ((if (y 1).val < 4 then ∑ b ∈ Finset.range 4, I.db (4 * t + b) (y 1).val (y 0) else 0 : ℝ) : EReal) := by
  have key : ∀ i k : Fin 128, dbSum L pairs (ix2 i k)
      = ((if k.val < 4 then ∑ b ∈ Finset.range 4, I.db (4 * t + b) k.val i else 0 : ℝ) : EReal) := by
    intro i k
    rw [dbSum_real h]
    congr 1
    by_cases hk : k.val < 4
    · obtain ⟨k, hk'⟩ := k
      dsimp only at hk ⊢
      interval_cases k <;> simp [pairs, Finset.sum_range_succ] <;> ring
    · have h0 : k.val ≠ 0 := by omega
      have h1 : k.val ≠ 1 := by omega
      have h2 : k.val ≠ 2 := by omega
      have h3 : k.val ≠ 3 := by omega
      simp [pairs, hk, h0, h1, h2, h3]
  have e : y = (ix2 (n0 := 128) (n1 := 128) (y 0) (y 1) : S128x128.Idx) := funext fun a => match a with | ⟨0, _⟩ => rfl | ⟨1, _⟩ => rfl
  exact (congrArg _ e).trans (key (y 0) (y 1))

end Cert.KernelIdeal.Sg
-- ==== Proof.SgBody.lean ====
/- What the gMLP gradient kernel's four output buffers hold after a point, on real inputs. -/
module

public import proofs.«01_k».proof.Proof.SgOut

@[expose] public section

set_option maxRecDepth 16384

noncomputable section

namespace Cert.KernelIdeal.Sg

open Cert.KernelIdeal Cert.KernelIdeal.Gen Idealize.ShloMosaic Idealize.ShloMosaic.TcCoe Idealize.SL.Sem
open Cert.Real

theorem ld_tile {k : Kind} {sp : Space} {S : Shape} (a : Memref sig k sp S .f32) (h : a.IsWhole) (X : Vec Ideal S .f32) (r : Rect S) (x : r.shape.Idx) :
    View.readAt (Elt Ideal) a.view r.toLoadRect (h.unread X) x = X (r.emb x) := by
  show a.view.read (Elt Ideal) (h.unread X) (r.emb x) = _
  rw [h.read_unread]

section
variable (arg1 : Memref sig .tc .vmem S512x512 .f32) (harg1 : arg1.IsWhole) (arg2 : Memref sig .tc .vmem S512x512 .f32) (harg2 : arg2.IsWhole) (arg3 : Memref sig .tc .vmem S1x512 .f32) (harg3 : arg3.IsWhole) (arg4 : Memref sig .tc .vmem S4x128x128 .f32) (harg4 : arg4.IsWhole) (arg5 : Memref sig .tc .vmem S128x4 .f32) (harg5 : arg5.IsWhole) (arg6 : Memref sig .tc .vmem S512x512 .f32) (harg6 : arg6.IsWhole)
  (x0 : Vec Ideal S512x512 .f32) (x1 : Vec Ideal S512x512 .f32) (x2 : Vec Ideal S1x512 .f32) (x3 : Vec Ideal S4x128x128 .f32) (x4 : Vec Ideal S128x4 .f32) (x5 : Vec Ideal S512x512 .f32)

theorem loads_isPoint (I : Inp) (t : ℕ)
    (h0 : ∀ j : S512x512.Idx, x0 j = ((I.P (512 * t + (j 0).val) (2048 + (j 1).val) : ℝ) : EReal))
    (h1 : ∀ j : S512x512.Idx, x1 j = ((I.P (512 * t + (j 0).val) (2560 + (j 1).val) : ℝ) : EReal))
    (h2 : ∀ j : S1x512.Idx, x2 j = ((I.G (j 1).val : ℝ) : EReal))
    (h3 : ∀ j : S4x128x128.Idx, x3 j = ((I.W (j 0).val (j 1).val (j 2).val : ℝ) : EReal))
    (h4 : ∀ j : S128x4.Idx, x4 j = ((I.B (j 0).val (j 1).val : ℝ) : EReal))
    (h5 : ∀ j : S512x512.Idx, x5 j = ((I.D (512 * t + (j 0).val) (512 + (j 1).val) : ℝ) : EReal)) :
    IsPoint (loads arg1 harg1 arg2 harg2 arg3 harg3 arg4 harg4 arg5 harg5 arg6 harg6 x0 x1 x2 x3 x4 x5) I t where
  U b g := by
    funext j
    have e0 : ((rectT b g).emb j 0).val = 128 * b.val + 1 * (j 0).val := rfl
    have e1 : ((rectT b g).emb j 1).val = 128 * g.val + 1 * (j 1).val := rfl
    refine (ld_tile arg1 harg1 x0 (rectT b g) j).trans ?_
    rw [h0, e0, e1, one_mul, one_mul]
    show _ = ((I.P (128 * (4 * t + b.val) + (j 0).val) (2048 + (128 * g.val + (j 1).val)) : ℝ) : EReal)
    rw [show 512 * t + (128 * b.val + (j 0).val) = 128 * (4 * t + b.val) + (j 0).val by ring]
  V b g := by
    funext j
    have e0 : ((rectT b g).emb j 0).val = 128 * b.val + 1 * (j 0).val := rfl
    have e1 : ((rectT b g).emb j 1).val = 128 * g.val + 1 * (j 1).val := rfl
    refine (ld_tile arg2 harg2 x1 (rectT b g) j).trans ?_
    rw [h1, e0, e1, one_mul, one_mul]
    show _ = ((I.P (128 * (4 * t + b.val) + (j 0).val) (2560 + (128 * g.val + (j 1).val)) : ℝ) : EReal)
    rw [show 512 * t + (128 * b.val + (j 0).val) = 128 * (4 * t + b.val) + (j 0).val by ring]
  D b g := by
    funext j
    have e0 : ((rectT b g).emb j 0).val = 128 * b.val + 1 * (j 0).val := rfl
    have e1 : ((rectT b g).emb j 1).val = 128 * g.val + 1 * (j 1).val := rfl
    refine (ld_tile arg6 harg6 x5 (rectT b g) j).trans ?_
    rw [h5, e0, e1, one_mul, one_mul]
    show _ = ((I.D (128 * (4 * t + b.val) + (j 0).val) (512 + (128 * g.val + (j 1).val)) : ℝ) : EReal)
    rw [show 512 * t + (128 * b.val + (j 0).val) = 128 * (4 * t + b.val) + (j 0).val by ring]
  NG g := by
    funext j
    have e1 : ((rectG g).emb j 1).val = 128 * g.val + 1 * (j 1).val := rfl
    refine (ld_tile arg3 harg3 x2 (rectG g) j).trans ?_
    rw [h2, e1, one_mul]
    rfl
  W g := by
    funext j
    have e0 : ((rectW g).emb j 0).val = g.val + 1 * (j 0).val := rfl
    have e1 : ((rectW g).emb j 1).val = 0 + 1 * (j 1).val := rfl
    have e2 : ((rectW g).emb j 2).val = 0 + 1 * (j 2).val := rfl
    have hj : (j 0).val < 1 := (j 0).isLt
    refine (ld_tile arg4 harg4 x3 (rectW g) j).trans ?_
    rw [h3, e0, e1, e2, one_mul, one_mul, one_mul, zero_add, zero_add, show (j 0).val = 0 by omega, add_zero]
    rfl
  B g := by
    funext j
    have e0 : ((rectB g).emb j 0).val = 0 + 1 * (j 0).val := rfl
    have e1 : ((rectB g).emb j 1).val = g.val + 1 * (j 1).val := rfl
    have hj : (j 1).val < 1 := (j 1).isLt
    refine (ld_tile arg5 harg5 x4 (rectB g) j).trans ?_
    rw [h4, e0, e1, one_mul, one_mul, zero_add, show (j 1).val = 0 by omega, add_zero]
    rfl

variable (c : Dev nD) (i : grid0.Coords) (arg7 : Memref sig .tc .vmem S512x1024 .bf16) (harg7 : arg7.IsWhole) (arg8 : Memref sig .tc .vmem S1x512 .f32) (harg8 : arg8.IsWhole) (arg9 : Memref sig .tc .vmem S4x128x128 .f32) (harg9 : arg9.IsWhole) (arg10 : Memref sig .tc .vmem S128x128 .f32) (harg10 : arg10.IsWhole)
variable {I : Inp} {t : ℕ} (h : IsPoint (loads arg1 harg1 arg2 harg2 arg3 harg3 arg4 harg4 arg5 harg5 arg6 harg6 x0 x1 x2 x3 x4 x5) I t)

theorem hz2 : (![0, 0] : Fin 2 → ℕ) = fun _ => 0 := funext fun a => by fin_cases a <;> rfl
theorem hz3 : (![0, 0, 0] : Fin 3 → ℕ) = fun _ => 0 := funext fun a => by fin_cases a <;> rfl

section
variable (hc0 : cond0_0 i)
include h

theorem outA6 (y : S512x1024.Idx) : out0_A_6 c i arg1 harg1 arg2 harg2 arg3 harg3 arg4 harg4 arg5 harg5 arg6 harg6 arg7 harg7 arg8 harg8 arg9 harg9 arg10 harg10 hc0 x0 x1 x2 x3 x4 x5 y = ((I.duv (512 * t + (y 0).val) (y 1).val : ℝ) : EReal) := by
  unfold out0_A_6
  rw [View.read_writes_eq_canon _ _ _ (cover0_A_6 c i arg1 harg1 arg2 harg2 arg3 harg3 arg4 harg4 arg5 harg5 arg6 harg6 arg7 harg7 arg8 harg8 arg9 harg9 arg10 harg10 hc0 x0 x1 x2 x3 x4 x5)]
  have hy := cover0_A_6 c i arg1 harg1 arg2 harg2 arg3 harg3 arg4 harg4 arg5 harg5 arg6 harg6 arg7 harg7 arg8 harg8 arg9 harg9 arg10 harg10 hc0 x0 x1 x2 x3 x4 x5 y
  rw [runA6] at hy ⊢
  exact pieces6_apply h y hy

theorem outA7 (y : S1x512.Idx) : out0_A_7 c i arg1 harg1 arg2 harg2 arg3 harg3 arg4 harg4 arg5 harg5 arg6 harg6 arg7 harg7 arg8 harg8 arg9 harg9 arg10 harg10 hc0 x0 x1 x2 x3 x4 x5 y = ((∑ b ∈ Finset.range 4, I.dng (4 * t + b) ((y 1).val / 128) (fm (y 1).val) : ℝ) : EReal) := by
  unfold out0_A_7
  rw [View.read_writes_eq_canon _ _ _ (cover0_A_7 c i arg1 harg1 arg2 harg2 arg3 harg3 arg4 harg4 arg5 harg5 arg6 harg6 arg7 harg7 arg8 harg8 arg9 harg9 arg10 harg10 hc0 x0 x1 x2 x3 x4 x5)]
  rw [runA7, accG_start h, View.canon_unit_zero hz2]
  show k0_pay3 (F := Ideal) y + _ = _
  have e : k0_pay3 (F := Ideal) y = 0 := by pointwise [k0_pay3]
  rw [e, zero_add]

theorem outA8 (y : S4x128x128.Idx) : out0_A_8 c i arg1 harg1 arg2 harg2 arg3 harg3 arg4 harg4 arg5 harg5 arg6 harg6 arg7 harg7 arg8 harg8 arg9 harg9 arg10 harg10 hc0 x0 x1 x2 x3 x4 x5 y = ((∑ b ∈ Finset.range 4, I.dw (4 * t + b) (y 0).val (y 1) (y 2) : ℝ) : EReal) := by
  unfold out0_A_8
  rw [View.read_writes_eq_canon _ _ _ (cover0_A_8 c i arg1 harg1 arg2 harg2 arg3 harg3 arg4 harg4 arg5 harg5 arg6 harg6 arg7 harg7 arg8 harg8 arg9 harg9 arg10 harg10 hc0 x0 x1 x2 x3 x4 x5)]
  rw [runA8, accW_start h, View.canon_unit_zero hz3]
  show k0_pay4 (F := Ideal) y + _ = _
  have e : k0_pay4 (F := Ideal) y = 0 := by pointwise [k0_pay4]
  rw [e, zero_add]

theorem outA9 (y : S128x128.Idx) : out0_A_9 c i arg1 harg1 arg2 harg2 arg3 harg3 arg4 harg4 arg5 harg5 arg6 harg6 arg7 harg7 arg8 harg8 arg9 harg9 arg10 harg10 hc0 x0 x1 x2 x3 x4 x5 y = ((if (y 1).val < 4 then ∑ b ∈ Finset.range 4, I.db (4 * t + b) (y 1).val (y 0) else 0 : ℝ) : EReal) := by
  unfold out0_A_9
  rw [View.read_writes_eq_canon _ _ _ (cover0_A_9 c i arg1 harg1 arg2 harg2 arg3 harg3 arg4 harg4 arg5 harg5 arg6 harg6 arg7 harg7 arg8 harg8 arg9 harg9 arg10 harg10 hc0 x0 x1 x2 x3 x4 x5)]
  rw [runA9, View.canon_cons_unit_zero hz2, View.readCov_unit_zero _ hz2]
  show shapeCast S128x128 (k0_pay5 (F := Ideal)) shapeCasts_S128x128_S128x128 y + dbSum (loads arg1 harg1 arg2 harg2 arg3 harg3 arg4 harg4 arg5 harg5 arg6 harg6 x0 x1 x2 x3 x4 x5) pairs y = _
  have e : shapeCast S128x128 (k0_pay5 (F := Ideal)) shapeCasts_S128x128_S128x128 y = 0 := by pointwise [k0_pay5]
  rw [e, zero_add, dbSum_pairs h]

end

section
variable (hc0 : ¬cond0_0 i) (xo7 : Vec Ideal S1x512 .f32) (xo8 : Vec Ideal S4x128x128 .f32) (xo9 : Vec Ideal S128x128 .f32)
include h

theorem outB6 (y : S512x1024.Idx) : out0_B_6 c i arg1 harg1 arg2 harg2 arg3 harg3 arg4 harg4 arg5 harg5 arg6 harg6 arg7 harg7 arg8 harg8 arg9 harg9 arg10 harg10 hc0 x0 x1 x2 x3 x4 x5 xo7 xo8 xo9 y = ((I.duv (512 * t + (y 0).val) (y 1).val : ℝ) : EReal) := by
  unfold out0_B_6
  rw [View.read_writes_eq_canon _ _ _ (cover0_B_6 c i arg1 harg1 arg2 harg2 arg3 harg3 arg4 harg4 arg5 harg5 arg6 harg6 arg7 harg7 arg8 harg8 arg9 harg9 arg10 harg10 hc0 x0 x1 x2 x3 x4 x5 xo7 xo8 xo9)]
  have hy := cover0_B_6 c i arg1 harg1 arg2 harg2 arg3 harg3 arg4 harg4 arg5 harg5 arg6 harg6 arg7 harg7 arg8 harg8 arg9 harg9 arg10 harg10 hc0 x0 x1 x2 x3 x4 x5 xo7 xo8 xo9 y
  rw [runB6] at hy ⊢
  exact pieces6_apply h y hy

theorem outB7 (y : S1x512.Idx) : out0_B_7 c i arg1 harg1 arg2 harg2 arg3 harg3 arg4 harg4 arg5 harg5 arg6 harg6 arg7 harg7 arg8 harg8 arg9 harg9 arg10 harg10 hc0 x0 x1 x2 x3 x4 x5 xo7 xo8 xo9 y = xo7 y + ((∑ b ∈ Finset.range 4, I.dng (4 * t + b) ((y 1).val / 128) (fm (y 1).val) : ℝ) : EReal) := by
  unfold out0_B_7
  rw [View.read_writes_eq_canon _ _ _ (cover0_B_7 c i arg1 harg1 arg2 harg2 arg3 harg3 arg4 harg4 arg5 harg5 arg6 harg6 arg7 harg7 arg8 harg8 arg9 harg9 arg10 harg10 hc0 x0 x1 x2 x3 x4 x5 xo7 xo8 xo9)]
  rw [runB7, accG_base h, harg8.read_unread]

theorem outB8 (y : S4x128x128.Idx) : out0_B_8 c i arg1 harg1 arg2 harg2 arg3 harg3 arg4 harg4 arg5 harg5 arg6 harg6 arg7 harg7 arg8 harg8 arg9 harg9 arg10 harg10 hc0 x0 x1 x2 x3 x4 x5 xo7 xo8 xo9 y = xo8 y + ((∑ b ∈ Finset.range 4, I.dw (4 * t + b) (y 0).val (y 1) (y 2) : ℝ) : EReal) := by
  unfold out0_B_8
  rw [View.read_writes_eq_canon _ _ _ (cover0_B_8 c i arg1 harg1 arg2 harg2 arg3 harg3 arg4 harg4 arg5 harg5 arg6 harg6 arg7 harg7 arg8 harg8 arg9 harg9 arg10 harg10 hc0 x0 x1 x2 x3 x4 x5 xo7 xo8 xo9)]
  rw [runB8, accW_base h, harg9.read_unread]

theorem outB9 (y : S128x128.Idx) : out0_B_9 c i arg1 harg1 arg2 harg2 arg3 harg3 arg4 harg4 arg5 harg5 arg6 harg6 arg7 harg7 arg8 harg8 arg9 harg9 arg10 harg10 hc0 x0 x1 x2 x3 x4 x5 xo7 xo8 xo9 y = xo9 y + ((if (y 1).val < 4 then ∑ b ∈ Finset.range 4, I.db (4 * t + b) (y 1).val (y 0) else 0 : ℝ) : EReal) := by
  unfold out0_B_9
  rw [View.read_writes_eq_canon _ _ _ (cover0_B_9 c i arg1 harg1 arg2 harg2 arg3 harg3 arg4 harg4 arg5 harg5 arg6 harg6 arg7 harg7 arg8 harg8 arg9 harg9 arg10 harg10 hc0 x0 x1 x2 x3 x4 x5 xo7 xo8 xo9)]
  rw [runB9, View.canon_unit_zero hz2]
  show shapeCast S128x128 (View.readAt (Elt Ideal) arg10.view (Rect.unit (s := S128x128) ![0, 0] S128x128.size inb_S128x128_S128x128_0_0).toLoadRect (harg10.unread xo9)) shapeCasts_S128x128_S128x128 y + dbSum (loads arg1 harg1 arg2 harg2 arg3 harg3 arg4 harg4 arg5 harg5 arg6 harg6 x0 x1 x2 x3 x4 x5) pairs y = _
  rw [dbSum_pairs h]
  congr 1
  have e : View.readAt (Elt Ideal) arg10.view (Rect.unit (s := S128x128) ![0, 0] S128x128.size inb_S128x128_S128x128_0_0).toLoadRect (harg10.unread xo9) = xo9 := by
    refine (View.readAt_eq_ld ..).trans ?_
    rw [harg10.read_unread, View.ld_unit_zero hz2]
  refine (congrArg (fun z => shapeCast S128x128 z shapeCasts_S128x128_S128x128 y) e).trans ?_
  pointwise

end

end

end Cert.KernelIdeal.Sg
-- ==== Proof.SgAfter.lean ====
/- The run of the gMLP gradient kernel on real arguments: what its four results hold. -/
module

public import proofs.«01_k».proof.Proof.SgBody
public import proofs.«01_k».proof.Proof.Gen.KernelIdeal.Value

@[expose] public section

set_option maxRecDepth 16384
set_option maxHeartbeats 2000000

noncomputable section

namespace Cert.KernelIdeal.Sg

open Cert.KernelIdeal Cert.KernelIdeal.Gen Idealize.ShloMosaic Idealize.ShloMosaic.TcCoe Idealize.SL.Sem
open Cert.Real

variable (m : (ℓ : Loc nD τ sig) → Buf (Elt Ideal) ℓ)

/-- The arguments on device `c` are the real inputs `I`. -/
structure RealArgs (I : Inp) (c : Dev nD) : Prop where
  P : ∀ j : S4096x3200.Idx, m ((c : Thread nD τ).loc main_arg0) j = ((I.P (j 0).val (j 1).val : ℝ) : EReal)
  G : ∀ j : S1x512.Idx, m ((c : Thread nD τ).loc main_arg1) j = ((I.G (j 1).val : ℝ) : EReal)
  W : ∀ j : S4x128x128.Idx, m ((c : Thread nD τ).loc main_arg2) j = ((I.W (j 0).val (j 1).val (j 2).val : ℝ) : EReal)
  B : ∀ j : S128x4.Idx, m ((c : Thread nD τ).loc main_arg3) j = ((I.B (j 0).val (j 1).val : ℝ) : EReal)
  D : ∀ j : S4096x1024.Idx, m ((c : Thread nD τ).loc main_arg4) j = ((I.D (j 0).val (j 1).val : ℝ) : EReal)

theorem index0 : ∀ t : Fin cfg0.N, win0_0.index t = ![t.val, 4] :=
  (by decide +kernel : ∀ t : Fin grid0.N, win0_0.index t = ![t.val, 4])
theorem index1 : ∀ t : Fin cfg0.N, win0_1.index t = ![t.val, 5] :=
  (by decide +kernel : ∀ t : Fin grid0.N, win0_1.index t = ![t.val, 5])
theorem index2 : ∀ t : Fin cfg0.N, win0_2.index t = ![0, 0] :=
  (by decide +kernel : ∀ t : Fin grid0.N, win0_2.index t = ![0, 0])
theorem index3 : ∀ t : Fin cfg0.N, win0_3.index t = ![0, 0, 0] :=
  (by decide +kernel : ∀ t : Fin grid0.N, win0_3.index t = ![0, 0, 0])
theorem index4 : ∀ t : Fin cfg0.N, win0_4.index t = ![0, 0] :=
  (by decide +kernel : ∀ t : Fin grid0.N, win0_4.index t = ![0, 0])
theorem index5 : ∀ t : Fin cfg0.N, win0_5.index t = ![t.val, 1] :=
  (by decide +kernel : ∀ t : Fin grid0.N, win0_5.index t = ![t.val, 1])
theorem index6 : ∀ t : Fin cfg0.N, win0_6.index t = ![t.val, 2] :=
  (by decide +kernel : ∀ t : Fin grid0.N, win0_6.index t = ![t.val, 2])
theorem index7 : ∀ t : Fin cfg0.N, win0_7.index t = ![0, 0] :=
  (by decide +kernel : ∀ t : Fin grid0.N, win0_7.index t = ![0, 0])
theorem index8 : ∀ t : Fin cfg0.N, win0_8.index t = ![0, 0, 0] :=
  (by decide +kernel : ∀ t : Fin grid0.N, win0_8.index t = ![0, 0, 0])
theorem index9 : ∀ t : Fin cfg0.N, win0_9.index t = ![0, 0] :=
  (by decide +kernel : ∀ t : Fin grid0.N, win0_9.index t = ![0, 0])

variable {m} {I : Inp} {c : Dev nD} (h : RealArgs m I c) (t : Fin cfg0.N)
include h

theorem blk0 (j : S512x512.Idx) : X0_0 m c t j = ((I.P (512 * t.val + (j 0).val) (2048 + (j 1).val) : ℝ) : EReal) := by
  have e : X0_0 m c t j = iblk m c 0 t (fun a => ⟨(j a).val, ((cfg0.win 0).moved_iff _ j).mp (moved0_0 t j) a⟩) := dif_pos (moved0_0 t j)
  rw [e]
  generalize hy : (fun a => (⟨(j a).val, ((cfg0.win 0).moved_iff _ j).mp (moved0_0 t j) a⟩ : Fin _)) = y
  have hy0 : (y 0 : ℕ) = (j 0).val := by rw [← hy]
  have hy1 : (y 1 : ℕ) = (j 1).val := by rw [← hy]
  have e0 : ((win0_0.rect t).emb y 0 : ℕ) = 512 * t.val + (j 0).val := by
    rw [Pipeline.Window.rect_emb_val win0_0 t y 0 rfl, index0, hy0]
    show t.val * 512 + _ = _
    omega
  have e1 : ((win0_0.rect t).emb y 1 : ℕ) = 2048 + (j 1).val := by
    rw [Pipeline.Window.rect_emb_val win0_0 t y 1 rfl, index0, hy1]
    show 4 * 512 + _ = _
    omega
  refine (h.P ((win0_0.rect t).emb y)).trans ?_
  rw [e0, e1]

theorem blk1 (j : S512x512.Idx) : X0_1 m c t j = ((I.P (512 * t.val + (j 0).val) (2560 + (j 1).val) : ℝ) : EReal) := by
  have e : X0_1 m c t j = iblk m c 1 t (fun a => ⟨(j a).val, ((cfg0.win 1).moved_iff _ j).mp (moved0_1 t j) a⟩) := dif_pos (moved0_1 t j)
  rw [e]
  generalize hy : (fun a => (⟨(j a).val, ((cfg0.win 1).moved_iff _ j).mp (moved0_1 t j) a⟩ : Fin _)) = y
  have hy0 : (y 0 : ℕ) = (j 0).val := by rw [← hy]
  have hy1 : (y 1 : ℕ) = (j 1).val := by rw [← hy]
  have e0 : ((win0_1.rect t).emb y 0 : ℕ) = 512 * t.val + (j 0).val := by
    rw [Pipeline.Window.rect_emb_val win0_1 t y 0 rfl, index1, hy0]
    show t.val * 512 + _ = _
    omega
  have e1 : ((win0_1.rect t).emb y 1 : ℕ) = 2560 + (j 1).val := by
    rw [Pipeline.Window.rect_emb_val win0_1 t y 1 rfl, index1, hy1]
    show 5 * 512 + _ = _
    omega
  refine (h.P ((win0_1.rect t).emb y)).trans ?_
  rw [e0, e1]

theorem blk2 (j : S1x512.Idx) : iblk m c 2 t j = ((I.G (j 1).val : ℝ) : EReal) := by
  have e0 : ((win0_2.rect t).emb j 0 : ℕ) = 0 + (j 0).val := by
    rw [Pipeline.Window.rect_emb_val win0_2 t j 0 rfl, index2]
    show 0 * 1 + _ = _
    omega
  have e1 : ((win0_2.rect t).emb j 1 : ℕ) = 0 + (j 1).val := by
    rw [Pipeline.Window.rect_emb_val win0_2 t j 1 rfl, index2]
    show 0 * 512 + _ = _
    omega
  refine (h.G ((win0_2.rect t).emb j)).trans ?_
  rw [e1]
  simp only [Nat.zero_add]

theorem blk3 (j : S4x128x128.Idx) : iblk m c 3 t j = ((I.W (j 0).val (j 1).val (j 2).val : ℝ) : EReal) := by
  have e0 : ((win0_3.rect t).emb j 0 : ℕ) = 0 + (j 0).val := by
    rw [Pipeline.Window.rect_emb_val win0_3 t j 0 rfl, index3]
    show 0 * 4 + _ = _
    omega
  have e1 : ((win0_3.rect t).emb j 1 : ℕ) = 0 + (j 1).val := by
    rw [Pipeline.Window.rect_emb_val win0_3 t j 1 rfl, index3]
    show 0 * 128 + _ = _
    omega
  have e2 : ((win0_3.rect t).emb j 2 : ℕ) = 0 + (j 2).val := by
    rw [Pipeline.Window.rect_emb_val win0_3 t j 2 rfl, index3]
    show 0 * 128 + _ = _
    omega
  refine (h.W ((win0_3.rect t).emb j)).trans ?_
  rw [e0, e1, e2]
  simp only [Nat.zero_add]

theorem blk4 (j : S128x4.Idx) : iblk m c 4 t j = ((I.B (j 0).val (j 1).val : ℝ) : EReal) := by
  have e0 : ((win0_4.rect t).emb j 0 : ℕ) = 0 + (j 0).val := by
    rw [Pipeline.Window.rect_emb_val win0_4 t j 0 rfl, index4]
    show 0 * 128 + _ = _
    omega
  have e1 : ((win0_4.rect t).emb j 1 : ℕ) = 0 + (j 1).val := by
    rw [Pipeline.Window.rect_emb_val win0_4 t j 1 rfl, index4]
    show 0 * 4 + _ = _
    omega
  refine (h.B ((win0_4.rect t).emb j)).trans ?_
  rw [e0, e1]
  simp only [Nat.zero_add]

theorem blk5 (j : S512x512.Idx) : iblk m c 5 t j = ((I.D (512 * t.val + (j 0).val) (512 + (j 1).val) : ℝ) : EReal) := by
  have e0 : ((win0_5.rect t).emb j 0 : ℕ) = 512 * t.val + (j 0).val := by
    rw [Pipeline.Window.rect_emb_val win0_5 t j 0 rfl, index5]
    show t.val * 512 + _ = _
    omega
  have e1 : ((win0_5.rect t).emb j 1 : ℕ) = 512 + (j 1).val := by
    rw [Pipeline.Window.rect_emb_val win0_5 t j 1 rfl, index5]
    show 1 * 512 + _ = _
    omega
  refine (h.D ((win0_5.rect t).emb j)).trans ?_
  rw [e0, e1]

theorem point (t : Fin cfg0.N) : IsPoint (loads (ms0_0 t) (hs0_0 t) (ms0_1 t) (hs0_1 t) (ms0_2 t) (hs0_2 t) (ms0_3 t) (hs0_3 t) (ms0_4 t) (hs0_4 t) (ms0_5 t) (hs0_5 t)
    (X0_0 m c t) (X0_1 m c t) (iblk m c 2 t) (iblk m c 3 t) (iblk m c 4 t) (iblk m c 5 t)) I t.val :=
  loads_isPoint _ _ _ _ _ _ _ _ _ _ _ _ _ _ _ _ _ _ I t.val (blk0 h t) (blk1 h t) (blk2 h t) (blk3 h t) (blk4 h t) (blk5 h t)

omit h in
theorem range_split (f : ℕ → ℝ) (n : ℕ) : (∑ b ∈ Finset.range (4 * n), f b) + ∑ b ∈ Finset.range 4, f (4 * n + b) = ∑ b ∈ Finset.range (4 * (n + 1)), f b := by
  rw [show 4 * (n + 1) = 4 * n + 4 by ring, Finset.sum_range_add]

/-- What the four buffers hold after point `n`. -/
structure After (I : Inp) (n : ℕ) (o : Vec Ideal S512x1024 .bf16 × Vec Ideal S1x512 .f32 × Vec Ideal S4x128x128 .f32 × Vec Ideal S128x128 .f32) : Prop where
  duv : ∀ y : S512x1024.Idx, o.1 y = ((I.duv (512 * n + (y 0).val) (y 1).val : ℝ) : EReal)
  dng : ∀ y : S1x512.Idx, o.2.1 y = ((∑ b ∈ Finset.range (4 * (n + 1)), I.dng b ((y 1).val / 128) (fm (y 1).val) : ℝ) : EReal)
  dw : ∀ y : S4x128x128.Idx, o.2.2.1 y = ((∑ b ∈ Finset.range (4 * (n + 1)), I.dw b (y 0).val (y 1) (y 2) : ℝ) : EReal)
  db : ∀ y : S128x128.Idx, o.2.2.2 y = ((if (y 1).val < 4 then ∑ b ∈ Finset.range (4 * (n + 1)), I.db b (y 1).val (y 0) else 0 : ℝ) : EReal)

theorem after_A (t : Fin cfg0.N) (h0 : t.val % 8 = 0) (h0' : t.val = 0) : After I t.val (outsAt0 m c t.val t.isLt) := by
  rw [outsAt0_A m c t h0]
  constructor
  · intro y; exact (outA6 (ms0_0 t) (hs0_0 t) (ms0_1 t) (hs0_1 t) (ms0_2 t) (hs0_2 t) (ms0_3 t) (hs0_3 t) (ms0_4 t) (hs0_4 t) (ms0_5 t) (hs0_5 t) (X0_0 m c t) (X0_1 m c t) (iblk m c 2 t) (iblk m c 3 t) (iblk m c 4 t) (iblk m c 5 t) c (grid0.coords t) (ms0_6 t) (hs0_6 t) (ms0_7 t) (hs0_7 t) (ms0_8 t) (hs0_8 t) (ms0_9 t) (hs0_9 t) (point h t) ((hcond0_0 t).mpr h0) y)
  · intro y; refine (outA7 (ms0_0 t) (hs0_0 t) (ms0_1 t) (hs0_1 t) (ms0_2 t) (hs0_2 t) (ms0_3 t) (hs0_3 t) (ms0_4 t) (hs0_4 t) (ms0_5 t) (hs0_5 t) (X0_0 m c t) (X0_1 m c t) (iblk m c 2 t) (iblk m c 3 t) (iblk m c 4 t) (iblk m c 5 t) c (grid0.coords t) (ms0_6 t) (hs0_6 t) (ms0_7 t) (hs0_7 t) (ms0_8 t) (hs0_8 t) (ms0_9 t) (hs0_9 t) (point h t) ((hcond0_0 t).mpr h0) y).trans ?_; simp [h0']
  · intro y; refine (outA8 (ms0_0 t) (hs0_0 t) (ms0_1 t) (hs0_1 t) (ms0_2 t) (hs0_2 t) (ms0_3 t) (hs0_3 t) (ms0_4 t) (hs0_4 t) (ms0_5 t) (hs0_5 t) (X0_0 m c t) (X0_1 m c t) (iblk m c 2 t) (iblk m c 3 t) (iblk m c 4 t) (iblk m c 5 t) c (grid0.coords t) (ms0_6 t) (hs0_6 t) (ms0_7 t) (hs0_7 t) (ms0_8 t) (hs0_8 t) (ms0_9 t) (hs0_9 t) (point h t) ((hcond0_0 t).mpr h0) y).trans ?_; simp [h0']
  · intro y; refine (outA9 (ms0_0 t) (hs0_0 t) (ms0_1 t) (hs0_1 t) (ms0_2 t) (hs0_2 t) (ms0_3 t) (hs0_3 t) (ms0_4 t) (hs0_4 t) (ms0_5 t) (hs0_5 t) (X0_0 m c t) (X0_1 m c t) (iblk m c 2 t) (iblk m c 3 t) (iblk m c 4 t) (iblk m c 5 t) c (grid0.coords t) (ms0_6 t) (hs0_6 t) (ms0_7 t) (hs0_7 t) (ms0_8 t) (hs0_8 t) (ms0_9 t) (hs0_9 t) (point h t) ((hcond0_0 t).mpr h0) y).trans ?_; simp [h0']

theorem after_B (t : Fin cfg0.N) (h0 : ¬t.val % 8 = 0) (ih : After I (t.val - 1) (outsAt0 m c (t.val - 1) (Nat.lt_of_le_of_lt (Nat.sub_le _ _) t.isLt))) : After I t.val (outsAt0 m c t.val t.isLt) := by
  have ht : t.val - 1 + 1 = t.val := by omega
  rw [outsAt0_B m c t h0]
  constructor
  · intro y; exact (outB6 (ms0_0 t) (hs0_0 t) (ms0_1 t) (hs0_1 t) (ms0_2 t) (hs0_2 t) (ms0_3 t) (hs0_3 t) (ms0_4 t) (hs0_4 t) (ms0_5 t) (hs0_5 t) (X0_0 m c t) (X0_1 m c t) (iblk m c 2 t) (iblk m c 3 t) (iblk m c 4 t) (iblk m c 5 t) c (grid0.coords t) (ms0_6 t) (hs0_6 t) (ms0_7 t) (hs0_7 t) (ms0_8 t) (hs0_8 t) (ms0_9 t) (hs0_9 t) (point h t) (fun h => h0 ((hcond0_0 t).mp h)) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 y)
  · intro y
    refine (outB7 (ms0_0 t) (hs0_0 t) (ms0_1 t) (hs0_1 t) (ms0_2 t) (hs0_2 t) (ms0_3 t) (hs0_3 t) (ms0_4 t) (hs0_4 t) (ms0_5 t) (hs0_5 t) (X0_0 m c t) (X0_1 m c t) (iblk m c 2 t) (iblk m c 3 t) (iblk m c 4 t) (iblk m c 5 t) c (grid0.coords t) (ms0_6 t) (hs0_6 t) (ms0_7 t) (hs0_7 t) (ms0_8 t) (hs0_8 t) (ms0_9 t) (hs0_9 t) (point h t) (fun h => h0 ((hcond0_0 t).mp h)) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 y).trans ?_
    rw [ih.dng, ← EReal.coe_add, ht, range_split]
  · intro y
    refine (outB8 (ms0_0 t) (hs0_0 t) (ms0_1 t) (hs0_1 t) (ms0_2 t) (hs0_2 t) (ms0_3 t) (hs0_3 t) (ms0_4 t) (hs0_4 t) (ms0_5 t) (hs0_5 t) (X0_0 m c t) (X0_1 m c t) (iblk m c 2 t) (iblk m c 3 t) (iblk m c 4 t) (iblk m c 5 t) c (grid0.coords t) (ms0_6 t) (hs0_6 t) (ms0_7 t) (hs0_7 t) (ms0_8 t) (hs0_8 t) (ms0_9 t) (hs0_9 t) (point h t) (fun h => h0 ((hcond0_0 t).mp h)) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 y).trans ?_
    rw [ih.dw, ← EReal.coe_add, ht, range_split]
  · intro y
    refine (outB9 (ms0_0 t) (hs0_0 t) (ms0_1 t) (hs0_1 t) (ms0_2 t) (hs0_2 t) (ms0_3 t) (hs0_3 t) (ms0_4 t) (hs0_4 t) (ms0_5 t) (hs0_5 t) (X0_0 m c t) (X0_1 m c t) (iblk m c 2 t) (iblk m c 3 t) (iblk m c 4 t) (iblk m c 5 t) c (grid0.coords t) (ms0_6 t) (hs0_6 t) (ms0_7 t) (hs0_7 t) (ms0_8 t) (hs0_8 t) (ms0_9 t) (hs0_9 t) (point h t) (fun h => h0 ((hcond0_0 t).mp h)) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 y).trans ?_
    rw [ih.db, ← EReal.coe_add, ht]
    by_cases hk : (y 1).val < 4
    · rw [if_pos hk, if_pos hk, if_pos hk, range_split]
    · rw [if_neg hk, if_neg hk, if_neg hk, add_zero]

theorem after_outs : ∀ (n : ℕ) (hn : n < cfg0.N), After I n (outsAt0 m c n hn)
  | 0, hn => after_A h ⟨0, hn⟩ (Nat.zero_mod _) rfl
  | n + 1, hn => after_B h ⟨n + 1, hn⟩ (by have hN : cfg0.N = 8 := N_0; dsimp only; omega) (after_outs n (by omega))

end Cert.KernelIdeal.Sg
-- ==== Proof.SgRun.lean ====
/- The four results of the gMLP gradient kernel on real arguments. -/
module

public import proofs.«01_k».proof.Proof.SgAfter

@[expose] public section

set_option maxRecDepth 16384
set_option maxHeartbeats 2000000

noncomputable section

namespace Cert.KernelIdeal.Sg

open Cert.KernelIdeal Cert.KernelIdeal.Gen Idealize.ShloMosaic Idealize.ShloMosaic.TcCoe Idealize.SL.Sem
open Cert.Real

variable {m : (ℓ : Loc nD τ sig) → Buf (Elt Ideal) ℓ}

variable {I : Inp} {c : Dev nD}

/-- The last point. -/
def lastPt : Fin cfg0.N := ⟨7, by show 7 < grid0.N; rw [N_0]; norm_num⟩

theorem xsize6 : ∀ t : Fin cfg0.N, ∀ a, win0_6.xsize (grid0.coords t) a = S512x1024.size a :=
  (by decide +kernel : ∀ t : Fin grid0.N, ∀ a, win0_6.xsize (grid0.coords t) a = S512x1024.size a)

theorem mem6 (t : Fin cfg0.N) (i : S4096x3200.Idx) (h0 : t.val = (i 0).val / 512) (hi : 2048 ≤ (i 1).val ∧ (i 1).val < 3072) :
    i ∈ ((cfg0.win 6).blk t).view.set := by
  show i ∈ ((View.whole main_v0_0).slice (win0_6.rect t)).set
  rw [View.set_slice_whole, Rect.mem_set_unit]
  intro a
  rw [xsize6]
  match a with
  | ⟨0, _⟩ =>
    show win0_6.index t 0 * 512 ≤ (i 0).val ∧ (i 0).val < win0_6.index t 0 * 512 + 512
    rw [index6]
    show t.val * 512 ≤ (i 0).val ∧ (i 0).val < t.val * 512 + 512
    omega
  | ⟨1, _⟩ =>
    show win0_6.index t 1 * 1024 ≤ (i 1).val ∧ (i 1).val < win0_6.index t 1 * 1024 + 1024
    rw [index6]
    show 2 * 1024 ≤ (i 1).val ∧ (i 1).val < 2 * 1024 + 1024
    omega

theorem res6 (h : RealArgs m I c) (i : S4096x3200.Idx) (hi : 2048 ≤ (i 1).val ∧ (i 1).val < 3072) :
    (dats m 0 c).arrAt 6 cfg0.N i = ((I.duv (i 0).val ((i 1).val - 2048) : ℝ) : EReal) := by
  have h0 : (i 0).val < 4096 := (i 0).isLt
  have hN : cfg0.N = 8 := N_0
  refine (dats m 0 c).arrAt_apply_of_mem 6 (fun i : S4096x3200.Idx => ((I.duv (i 0).val ((i 1).val - 2048) : ℝ) : EReal)) ?_ cfg0.N ⟨(i 0).val / 512, by omega⟩ i (by show (i 0).val / 512 < _; omega) (flush0_6 _) (mem6 _ i rfl hi)
  intro t _
  rw [Value.flushed6]
  funext y
  have e0 : ((win0_6.rect t).emb y 0 : ℕ) = 512 * t.val + (y 0).val := by
    rw [Pipeline.Window.rect_emb_val win0_6 t y 0 rfl, index6]
    show t.val * 512 + _ = _
    omega
  have e1 : ((win0_6.rect t).emb y 1 : ℕ) - 2048 = (y 1).val := by
    rw [Pipeline.Window.rect_emb_val win0_6 t y 1 rfl, index6]
    show 2 * 1024 + (y 1).val - 2048 = _
    omega
  show _ = ((I.duv ((win0_6.rect t).emb y 0).val (((win0_6.rect t).emb y 1).val - 2048) : ℝ) : EReal)
  rw [e0, e1]
  exact (after_outs h t.val t.isLt).duv _

theorem emb7 (t : Fin cfg0.N) (y : S1x512.Idx) : (win0_7.rect t).emb y = y := by
  funext a
  refine Fin.ext (Pipeline.Window.rect_emb_val_of_index_zero win0_7 t a ?_ y)
  rw [index7]
  fin_cases a <;> rfl

theorem res7 (h : RealArgs m I c) (y : S1x512.Idx) : (dats m 0 c).arrAt 7 cfg0.N y = ((∑ b ∈ Finset.range 32, I.dng b ((y 1).val / 128) (fm (y 1).val) : ℝ) : EReal) := by
  have hN : cfg0.N = 8 := N_0
  refine (dats m 0 c).arrAt_apply_of_mem 7 (fun y : S1x512.Idx => ((∑ b ∈ Finset.range 32, I.dng b ((y 1).val / 128) (fm (y 1).val) : ℝ) : EReal)) ?_ cfg0.N lastPt y (by show 7 < _; omega) ((flush0_7 _).mpr rfl) ?_
  · intro t ht
    have ht7 : t.val = 7 := by have h1 := (flush0_7 t).mp ht; have h2 := t.isLt; omega
    rw [Value.flushed7]
    funext y
    have key := (after_outs h t.val t.isLt).dng y
    rw [show 4 * (t.val + 1) = 32 by rw [ht7]] at key
    refine Eq.trans ?_ (key.trans ?_)
    · rfl
    · show _ = (fun y : S1x512.Idx => ((∑ b ∈ Finset.range 32, I.dng b ((y 1).val / 128) (fm (y 1).val) : ℝ) : EReal)) ((win0_7.rect t).emb y)
      rw [emb7]
  · have e := ((cfg0.win 7).blk lastPt).view.emb_mem_set y
    exact (emb7 lastPt y) ▸ e

theorem emb8 (t : Fin cfg0.N) (y : S4x128x128.Idx) : (win0_8.rect t).emb y = y := by
  funext a
  refine Fin.ext (Pipeline.Window.rect_emb_val_of_index_zero win0_8 t a ?_ y)
  rw [index8]
  fin_cases a <;> rfl

theorem res8 (h : RealArgs m I c) (y : S4x128x128.Idx) : (dats m 0 c).arrAt 8 cfg0.N y = ((∑ b ∈ Finset.range 32, I.dw b (y 0).val (y 1) (y 2) : ℝ) : EReal) := by
  have hN : cfg0.N = 8 := N_0
  refine (dats m 0 c).arrAt_apply_of_mem 8 (fun y : S4x128x128.Idx => ((∑ b ∈ Finset.range 32, I.dw b (y 0).val (y 1) (y 2) : ℝ) : EReal)) ?_ cfg0.N lastPt y (by show 7 < _; omega) ((flush0_8 _).mpr rfl) ?_
  · intro t ht
    have ht7 : t.val = 7 := by have h1 := (flush0_8 t).mp ht; have h2 := t.isLt; omega
    rw [Value.flushed8]
    funext y
    have key := (after_outs h t.val t.isLt).dw y
    rw [show 4 * (t.val + 1) = 32 by rw [ht7]] at key
    refine Eq.trans ?_ (key.trans ?_)
    · rfl
    · show _ = (fun y : S4x128x128.Idx => ((∑ b ∈ Finset.range 32, I.dw b (y 0).val (y 1) (y 2) : ℝ) : EReal)) ((win0_8.rect t).emb y)
      rw [emb8]
  · have e := ((cfg0.win 8).blk lastPt).view.emb_mem_set y
    exact (emb8 lastPt y) ▸ e

theorem emb9 (t : Fin cfg0.N) (y : S128x128.Idx) : (win0_9.rect t).emb y = y := by
  funext a
  refine Fin.ext (Pipeline.Window.rect_emb_val_of_index_zero win0_9 t a ?_ y)
  rw [index9]
  fin_cases a <;> rfl

theorem res9 (h : RealArgs m I c) (y : S128x128.Idx) : (dats m 0 c).arrAt 9 cfg0.N y = ((if (y 1).val < 4 then ∑ b ∈ Finset.range 32, I.db b (y 1).val (y 0) else 0 : ℝ) : EReal) := by
  have hN : cfg0.N = 8 := N_0
  refine (dats m 0 c).arrAt_apply_of_mem 9 (fun y : S128x128.Idx => ((if (y 1).val < 4 then ∑ b ∈ Finset.range 32, I.db b (y 1).val (y 0) else 0 : ℝ) : EReal)) ?_ cfg0.N lastPt y (by show 7 < _; omega) ((flush0_9 _).mpr rfl) ?_
  · intro t ht
    have ht7 : t.val = 7 := by have h1 := (flush0_9 t).mp ht; have h2 := t.isLt; omega
    rw [Value.flushed9]
    funext y
    have key := (after_outs h t.val t.isLt).db y
    rw [show 4 * (t.val + 1) = 32 by rw [ht7]] at key
    refine Eq.trans ?_ (key.trans ?_)
    · rfl
    · show _ = (fun y : S128x128.Idx => ((if (y 1).val < 4 then ∑ b ∈ Finset.range 32, I.db b (y 1).val (y 0) else 0 : ℝ) : EReal)) ((win0_9.rect t).emb y)
      rw [emb9]
  · have e := ((cfg0.win 9).blk lastPt).view.emb_mem_set y
    exact (emb9 lastPt y) ▸ e

end Cert.KernelIdeal.Sg
-- ==== Proof.SgRef.lean ====
/-
The reference of the gated unit's gradient, read at an index on real arguments.
-/
module

public import proofs.«01_k».proof.Proof.Gen.ReferenceIdeal.Read
public import proofs.«01_k».proof.Proof.SgOut
public import Idealize.ShloMosaic.Lib.TwoAxisContraction
public import Idealize.ShloMosaic.Lib.KernelVsHost

@[expose] public section

noncomputable section

namespace Cert.Real

theorem div_real {y : ℝ} (h : y ≠ 0) (x : ℝ) : Idealize.ShloMosaic.Ideal.div (x : EReal) (y : EReal) = ((x / y : ℝ) : EReal) := by
  rw [Idealize.ShloMosaic.Ideal.div_coe h, ← EReal.coe_mul]
  exact congrArg _ (by ring)
theorem ofBits_three : Idealize.ShloMosaic.Ideal.ofBits .f32 0x40400000#32 = ((3 : ℝ) : EReal) := by
  simp [Idealize.ShloMosaic.Ideal.ofBits, Idealize.ShloMosaic.Ideal.ieee]; rw [← EReal.coe_mul]; norm_num
theorem ofBits_num : Idealize.ShloMosaic.Ideal.ofBits .f32 0x472EAB00#32 = ((44715 : ℝ) : EReal) := by
  simp [Idealize.ShloMosaic.Ideal.ofBits, Idealize.ShloMosaic.Ideal.ieee]; rw [← EReal.coe_mul]; norm_num
theorem ofBits_den : Idealize.ShloMosaic.Ideal.ofBits .f32 0x49742400#32 = ((1000000 : ℝ) : EReal) := by
  simp [Idealize.ShloMosaic.Ideal.ofBits, Idealize.ShloMosaic.Ideal.ieee]; rw [← EReal.coe_mul]; norm_num
theorem ofBits_neg_half : Idealize.ShloMosaic.Ideal.ofBits .f32 0xBF000000#32 = ((-(1 / 2) : ℝ) : EReal) := by
  simp [Idealize.ShloMosaic.Ideal.ofBits, Idealize.ShloMosaic.Ideal.ieee]; rw [← EReal.coe_mul]; norm_num
theorem div_den (x : ℝ) : Idealize.ShloMosaic.Ideal.div (x : EReal) ((1000000 : ℝ) : EReal) = ((x / 1000000 : ℝ) : EReal) :=
  div_real (by norm_num) x

theorem fm_of_lt {n : ℕ} (h : n < 128) : (fm n).val = n := Nat.mod_eq_of_lt h
theorem fm_val (k : Fin 128) : fm k.val = k := Fin.ext (Nat.mod_eq_of_lt k.isLt)

namespace Inp

variable (I : Inp)

/-- The columns of the two inputs and of the output's gradient. -/
def fu (r c : ℕ) : ℝ := I.P r (2048 + c)
def fv (r c : ℕ) : ℝ := I.P r (2560 + c)
def fd (r c : ℕ) : ℝ := I.D r (512 + c)
/-- The mean square of a row's group, the norm's offset added. -/
def ms (r g : ℕ) : ℝ := (∑ k : Fin 128, gelu (I.fv r (128 * g + k.val)) * gelu (I.fv r (128 * g + k.val))) / 128 + epsC
/-- The normalised entry. -/
def xr (r g k : ℕ) : ℝ := gelu (I.fv r (128 * g + k)) * (Real.sqrt (I.ms r g))⁻¹

theorem ms_pos (r g : ℕ) : 0 < I.ms r g :=
  add_pos_of_nonneg_of_pos (div_nonneg (Finset.sum_nonneg fun k _ => mul_self_nonneg _) (by norm_num)) epsC_pos

theorem rs_at (n g i : ℕ) (hi : i < 128) : rs (I.vg n g) (fm i) = (Real.sqrt (I.ms (128 * n + i) g))⁻¹ := by
  simp only [rs, vg, tv, ms, fv, fm_of_lt hi]
theorem xr_at (n g i k : ℕ) (hi : i < 128) (hk : k < 128) :
    I.xr (128 * n + i) g k = I.vg n g (fm i) (fm k) * rs (I.vg n g) (fm i) := by
  rw [rs_at I n g i hi]; simp only [xr, vg, tv, fv, fm_of_lt hi, fm_of_lt hk]
theorem vn_at (n g i k : ℕ) (hi : i < 128) (hk : k < 128) :
    I.vn n g (fm i) (fm k) = I.xr (128 * n + i) g k * I.G (128 * g + k) := by
  rw [xr_at I n g i k hi hk]; simp only [vn, vnR, tg, fm_of_lt hk]
theorem ds_at (n g i k : ℕ) (hi : i < 128) (hk : k < 128) :
    I.ds n g (fm i) (fm k) = gelu (I.fu (128 * n + i) (128 * g + k)) * I.fd (128 * n + i) (128 * g + k) := by
  simp only [ds, td, tu, fu, fd, fm_of_lt hi, fm_of_lt hk]; ring

end Inp

end Cert.Real

namespace Cert.ReferenceIdeal.Sg

open Cert.ReferenceIdeal Cert.ReferenceIdeal.Gen Cert.ReferenceIdeal.Read Idealize.ShloMosaic Idealize.ShloMosaic.TcCoe Idealize.SL.Sem
open Cert.Real

/-- The reference's arguments are the inputs. -/
structure RefArgs (I : Inp) (x0 : (⟨S4096x3200, .f32⟩ : BufTy).Contents (Elt Ideal)) (x1 : (⟨S1x512, .f32⟩ : BufTy).Contents (Elt Ideal))
    (x2 : (⟨S4x128x128, .f32⟩ : BufTy).Contents (Elt Ideal)) (x3 : (⟨S128x4, .f32⟩ : BufTy).Contents (Elt Ideal))
    (x4 : (⟨S4096x1024, .f32⟩ : BufTy).Contents (Elt Ideal)) : Prop where
  P : ∀ j, x0 j = ((I.P (j 0).val (j 1).val : ℝ) : EReal)
  G : ∀ j, x1 j = ((I.G (j 1).val : ℝ) : EReal)
  W : ∀ j, x2 j = ((I.W (j 0).val (j 1).val (j 2).val : ℝ) : EReal)
  B : ∀ j, x3 j = ((I.B (j 0).val (j 1).val : ℝ) : EReal)
  D : ∀ j, x4 j = ((I.D (j 0).val (j 1).val : ℝ) : EReal)

variable {I : Inp} {x0 : (⟨S4096x3200, .f32⟩ : BufTy).Contents (Elt Ideal)} {x1 : (⟨S1x512, .f32⟩ : BufTy).Contents (Elt Ideal)}
  {x2 : (⟨S4x128x128, .f32⟩ : BufTy).Contents (Elt Ideal)} {x3 : (⟨S128x4, .f32⟩ : BufTy).Contents (Elt Ideal)}
  {x4 : (⟨S4096x1024, .f32⟩ : BufTy).Contents (Elt Ideal)} (h : RefArgs I x0 x1 x2 x3 x4)

include h

theorem s0 (i : S4096x512.Idx) : val_main_v0 x0 i = ((I.fu (i 0).val (i 1).val : ℝ) : EReal) := by
  rw [val_main_v0_apply, h.P]; rfl
theorem s1 (i : S4096x512.Idx) : val_main_v1 x0 i = ((I.fv (i 0).val (i 1).val : ℝ) : EReal) := by
  rw [val_main_v1_apply, h.P]; rfl
theorem s88 (i : S4096x512.Idx) : val_main_v88 x4 i = ((I.fd (i 0).val (i 1).val : ℝ) : EReal) := by
  rw [val_main_v88_apply, h.D]; rfl

theorem s16 (i : S4096x512.Idx) : val_main_v16 x0 i = ((tanhArg (I.fu (i 0).val (i 1).val) : ℝ) : EReal) := by
  simp only [val_main_v4_apply, val_main_v5_apply, val_main_v9_apply, val_main_v10_apply, val_main_v11_apply, val_main_v12_apply, val_main_v13_apply, val_main_v14_apply, val_main_v15_apply, val_main_v16_apply, val_main_cst_0_apply, val_main_cst_1_apply, val_main_cst_2_apply, s0 h, Ideal.mulf_def, Ideal.addf_def, Ideal.subf_def, Ideal.hostDivf_def, Ideal.hostUnary_tanh_def, Ideal.hostUnary_rsqrt_def, Ideal.ofBits_def, ofBits_three, ofBits_num, ofBits_den, ofBits_half, ofBits_neg_half, ofBits_one, ofBits_slope, ofBits_eps, ofBits_128, div_den, div_128, Ideal.tanh_coe, ← EReal.coe_mul, ← EReal.coe_add, ← EReal.coe_sub, ← coe_sum]
  exact congrArg (fun x : ℝ => ((Real.tanh x : ℝ) : EReal)) (by ring)
theorem s39 (i : S4096x512.Idx) : val_main_v39 x0 i = ((tanhArg (I.fv (i 0).val (i 1).val) : ℝ) : EReal) := by
  simp only [val_main_v27_apply, val_main_v28_apply, val_main_v32_apply, val_main_v33_apply, val_main_v34_apply, val_main_v35_apply, val_main_v36_apply, val_main_v37_apply, val_main_v38_apply, val_main_v39_apply, val_main_cst_8_apply, val_main_cst_9_apply, val_main_cst_10_apply, s1 h, Ideal.mulf_def, Ideal.addf_def, Ideal.subf_def, Ideal.hostDivf_def, Ideal.hostUnary_tanh_def, Ideal.hostUnary_rsqrt_def, Ideal.ofBits_def, ofBits_three, ofBits_num, ofBits_den, ofBits_half, ofBits_neg_half, ofBits_one, ofBits_slope, ofBits_eps, ofBits_128, div_den, div_128, Ideal.tanh_coe, ← EReal.coe_mul, ← EReal.coe_add, ← EReal.coe_sub, ← coe_sum]
  exact congrArg (fun x : ℝ => ((Real.tanh x : ℝ) : EReal)) (by ring)
theorem s25 (i : S4096x512.Idx) : val_main_v25 x0 i = ((1 / 2 * (1 + tanhArg (I.fu (i 0).val (i 1).val)) : ℝ) : EReal) := by
  simp only [val_main_v22_apply, val_main_v23_apply, val_main_v24_apply, val_main_v25_apply, val_main_cst_5_apply, val_main_cst_6_apply, s16 h, Ideal.mulf_def, Ideal.addf_def, Ideal.subf_def, Ideal.hostDivf_def, Ideal.hostUnary_tanh_def, Ideal.hostUnary_rsqrt_def, Ideal.ofBits_def, ofBits_three, ofBits_num, ofBits_den, ofBits_half, ofBits_neg_half, ofBits_one, ofBits_slope, ofBits_eps, ofBits_128, div_den, div_128, Ideal.tanh_coe, ← EReal.coe_mul, ← EReal.coe_add, ← EReal.coe_sub, ← coe_sum]
theorem s48 (i : S4096x512.Idx) : val_main_v48 x0 i = ((1 / 2 * (1 + tanhArg (I.fv (i 0).val (i 1).val)) : ℝ) : EReal) := by
  simp only [val_main_v45_apply, val_main_v46_apply, val_main_v47_apply, val_main_v48_apply, val_main_cst_13_apply, val_main_cst_14_apply, s39 h, Ideal.mulf_def, Ideal.addf_def, Ideal.subf_def, Ideal.hostDivf_def, Ideal.hostUnary_tanh_def, Ideal.hostUnary_rsqrt_def, Ideal.ofBits_def, ofBits_three, ofBits_num, ofBits_den, ofBits_half, ofBits_neg_half, ofBits_one, ofBits_slope, ofBits_eps, ofBits_128, div_den, div_128, Ideal.tanh_coe, ← EReal.coe_mul, ← EReal.coe_add, ← EReal.coe_sub, ← coe_sum]
theorem s26 (i : S4096x512.Idx) : val_main_v26 x0 i = ((gelu (I.fu (i 0).val (i 1).val) : ℝ) : EReal) := by
  simp only [val_main_v26_apply, s25 h, s0 h, Ideal.mulf_def, Ideal.addf_def, Ideal.subf_def, Ideal.hostDivf_def, Ideal.hostUnary_tanh_def, Ideal.hostUnary_rsqrt_def, Ideal.ofBits_def, ofBits_three, ofBits_num, ofBits_den, ofBits_half, ofBits_neg_half, ofBits_one, ofBits_slope, ofBits_eps, ofBits_128, div_den, div_128, Ideal.tanh_coe, ← EReal.coe_mul, ← EReal.coe_add, ← EReal.coe_sub, ← coe_sum]
  exact congrArg (fun x : ℝ => (x : EReal)) (by unfold gelu; ring)
theorem s49 (i : S4096x512.Idx) : val_main_v49 x0 i = ((gelu (I.fv (i 0).val (i 1).val) : ℝ) : EReal) := by
  simp only [val_main_v49_apply, s48 h, s1 h, Ideal.mulf_def, Ideal.addf_def, Ideal.subf_def, Ideal.hostDivf_def, Ideal.hostUnary_tanh_def, Ideal.hostUnary_rsqrt_def, Ideal.ofBits_def, ofBits_three, ofBits_num, ofBits_den, ofBits_half, ofBits_neg_half, ofBits_one, ofBits_slope, ofBits_eps, ofBits_128, div_den, div_128, Ideal.tanh_coe, ← EReal.coe_mul, ← EReal.coe_add, ← EReal.coe_sub, ← coe_sum]
  exact congrArg (fun x : ℝ => (x : EReal)) (by unfold gelu; ring)

theorem s50 (i : S4096x4x128.Idx) : val_main_v50 x0 i = ((gelu (I.fv (i 0).val (128 * (i 1).val + (i 2).val)) : ℝ) : EReal) := by
  rw [val_main_v50_apply, s49 h]
  have h1 : (i 1).val < 4 := (i 1).isLt
  have h2 : (i 2).val < 128 := (i 2).isLt
  refine congrArg₂ (fun r c => ((gelu (I.fv r c) : ℝ) : EReal)) ?_ ?_
  · show (((i 0).val * 4 + (i 1).val) * 128 + (i 2).val) / 512 = _; omega
  · show (((i 0).val * 4 + (i 1).val) * 128 + (i 2).val) % 512 = _; omega
theorem s57 (i : S4096x4x1.Idx) : val_main_v57 x0 i = ((I.ms (i 0).val (i 1).val : ℝ) : EReal) := by
  simp only [val_main_v51_apply, val_main_v52_apply, val_main_v53_apply, val_main_v54_apply, val_main_v55_apply, val_main_v56_apply, val_main_v57_apply, val_main_cst_15_apply, val_main_cst_16_apply, val_main_cst_17_apply, s50 h, Ideal.ofBits_zero_f32, zero_add, Ideal.mulf_def, Ideal.addf_def, Ideal.subf_def, Ideal.hostDivf_def, Ideal.hostUnary_tanh_def, Ideal.hostUnary_rsqrt_def, Ideal.ofBits_def, ofBits_three, ofBits_num, ofBits_den, ofBits_half, ofBits_neg_half, ofBits_one, ofBits_slope, ofBits_eps, ofBits_128, div_den, div_128, Ideal.tanh_coe, ← EReal.coe_mul, ← EReal.coe_add, ← EReal.coe_sub, ← coe_sum]
  rfl
theorem s58 (i : S4096x4x1.Idx) : val_main_v58 x0 i = (((Real.sqrt (I.ms (i 0).val (i 1).val))⁻¹ : ℝ) : EReal) := by
  rw [val_main_v58_apply, s57 h, Ideal.hostUnary_rsqrt_def, rsqrt_pos (I.ms_pos _ _)]
theorem s61 (i : S4096x4x1.Idx) : val_main_v61 x0 i
    = ((-(1 / 2) * ((Real.sqrt (I.ms (i 0).val (i 1).val))⁻¹ / I.ms (i 0).val (i 1).val) : ℝ) : EReal) := by
  simp only [val_main_v59_apply, val_main_v60_apply, val_main_v61_apply, val_main_cst_18_apply, s58 h, s57 h, Ideal.mulf_def, Ideal.addf_def, Ideal.subf_def, Ideal.hostDivf_def, Ideal.hostUnary_tanh_def, Ideal.hostUnary_rsqrt_def, Ideal.ofBits_def, ofBits_three, ofBits_num, ofBits_den, ofBits_half, ofBits_neg_half, ofBits_one, ofBits_slope, ofBits_eps, ofBits_128, div_den, div_128, Ideal.tanh_coe, div_real (I.ms_pos _ _).ne', ← EReal.coe_mul, ← EReal.coe_add, ← EReal.coe_sub, ← coe_sum]
theorem s63 (i : S4096x4x128.Idx) : val_main_v63 x0 i = ((I.xr (i 0).val (i 1).val (i 2).val : ℝ) : EReal) := by
  simp only [val_main_v62_apply, val_main_v63_apply, s58 h, s50 h, Ideal.mulf_def, Ideal.addf_def, Ideal.subf_def, Ideal.hostDivf_def, Ideal.hostUnary_tanh_def, Ideal.hostUnary_rsqrt_def, Ideal.ofBits_def, ofBits_three, ofBits_num, ofBits_den, ofBits_half, ofBits_neg_half, ofBits_one, ofBits_slope, ofBits_eps, ofBits_128, div_den, div_128, Ideal.tanh_coe, ← EReal.coe_mul, ← EReal.coe_add, ← EReal.coe_sub, ← coe_sum]
  rfl
theorem s65 (i : S1x4x128.Idx) : val_main_v65 x1 i = ((I.G (128 * (i 1).val + (i 2).val) : ℝ) : EReal) := by
  rw [val_main_v65_apply, val_main_v64_apply, val_main_v2_apply, h.G]
  have h1 : (i 1).val < 4 := (i 1).isLt
  have h2 : (i 2).val < 128 := (i 2).isLt
  refine congrArg (fun c => ((I.G c : ℝ) : EReal)) ?_
  show ((i 1).val * 128 + (i 2).val) % 512 = _
  omega
theorem s67 (i : S4096x4x128.Idx) : val_main_v67 x0 x1 i
    = ((I.xr (i 0).val (i 1).val (i 2).val * I.G (128 * (i 1).val + (i 2).val) : ℝ) : EReal) := by
  simp only [val_main_v66_apply, val_main_v67_apply, s63 h, s65 h, Ideal.mulf_def, Ideal.addf_def, Ideal.subf_def, Ideal.hostDivf_def, Ideal.hostUnary_tanh_def, Ideal.hostUnary_rsqrt_def, Ideal.ofBits_def, ofBits_three, ofBits_num, ofBits_den, ofBits_half, ofBits_neg_half, ofBits_one, ofBits_slope, ofBits_eps, ofBits_128, div_den, div_128, Ideal.tanh_coe, ← EReal.coe_mul, ← EReal.coe_add, ← EReal.coe_sub, ← coe_sum]
theorem s68 (i : S32x128x4x128.Idx) : val_main_v68 x0 x1 i = ((I.vn (i 0).val (i 2).val (fm (i 1).val) (fm (i 3).val) : ℝ) : EReal) := by
  rw [val_main_v68_apply, s67 h]
  have h1 : (i 1).val < 128 := (i 1).isLt
  have h2 : (i 2).val < 4 := (i 2).isLt
  have h3 : (i 3).val < 128 := (i 3).isLt
  rw [I.vn_at _ _ _ _ h1 h3]
  have e0 : (idx_main_v68 i 0).val = 128 * (i 0).val + (i 1).val := by
    show ((((i 0).val * 128 + (i 1).val) * 4 + (i 2).val) * 128 + (i 3).val) / 512 = _; omega
  have e1 : (idx_main_v68 i 1).val = (i 2).val := by
    show ((((i 0).val * 128 + (i 1).val) * 4 + (i 2).val) * 128 + (i 3).val) / 128 % 4 = _; omega
  have e2 : (idx_main_v68 i 2).val = (i 3).val := by
    show ((((i 0).val * 128 + (i 1).val) * 4 + (i 2).val) * 128 + (i 3).val) % 128 = _; omega
  rw [e0, e1, e2]

omit h in
theorem quot_word : ∀ a : Fin 128, IntOp.divsi .host (BitVec.ofNat 32 a.val) 64#32 = BitVec.ofNat 32 (a.val / 64) := by decide +kernel
omit h in
theorem s71 (k : S128.Idx) : val_main_v71 (F := Ideal) k = BitVec.ofNat 32 ((k 0).val / 64) := by
  rw [val_main_v71_apply]
  exact quot_word (k 0)
omit h in
theorem s76 (i : S128x128.Idx) : val_main_v76 (F := Ideal) i = if msk (fm (i 0).val) (fm (i 1).val) then 1#1 else 0#1 := by
  rw [val_main_v76_apply, val_main_v74_apply, val_main_v75_apply, val_main_v72_apply, val_main_v73_apply, s71, s71]
  have h0 : (i 0).val < 128 := (i 0).isLt
  have h1 : (i 1).val < 128 := (i 1).isLt
  have := Cert.KernelIdeal.Sg.cmpi_quot ⟨(i 0).val / 64, by omega⟩ ⟨(i 1).val / 64, by omega⟩
  refine Eq.trans this ?_
  simp only [msk, fm_of_lt h0, fm_of_lt h1]
omit h in
theorem s77_1 (i : S4x128x128.Idx) : val_main_v77_1 (F := Ideal) i = if msk (fm (i 1).val) (fm (i 2).val) then 1#1 else 0#1 := by
  rw [val_main_v77_1_apply, s76]

theorem s77_0 (i : S4x128x128.Idx) : val_main_v77_0 x2 i = ((wm (I.tw (i 0).val) (fm (i 1).val) (fm (i 2).val) : ℝ) : EReal) := by
  have h1 : (i 1).val < 128 := (i 1).isLt
  have h2 : (i 2).val < 128 := (i 2).isLt
  have hz : val_main_call0_v2 (F := Ideal) i = 0 := by
    rw [val_main_call0_v2_apply, val_main_call0_v0_apply, val_main_cst_19_apply]; exact Ideal.ofBits_zero_f32
  rw [val_main_v77_0_apply, s77_1, h.W, hz, Cert.KernelIdeal.Sg.select_mask]
  simp only [wm, Inp.tw, fm_of_lt h1, fm_of_lt h2]
  split <;> simp
theorem s78 (i : S4x32x128x128.Idx) : val_main_v78 x0 x1 x2 i
    = ((∑ j : Fin 128, I.vn (i 1).val (i 0).val j (fm (i 2).val) * wm (I.tw (i 0).val) (fm (i 3).val) j : ℝ) : EReal) := by
  simp only [val_main_v78_apply, s68 h, s77_0 h, ← EReal.coe_mul, ← EReal.coe_add, ← EReal.coe_sub, ← coe_sum]
  refine congrArg (fun x : ℝ => (x : EReal)) (Finset.sum_congr rfl fun j _ => ?_)
  show I.vn (i 1).val (i 0).val (fm j.val) (fm (i 2).val) * wm (I.tw (i 0).val) (fm (i 3).val) (fm j.val) = _
  rw [fm_val]
theorem s84 (i : S32x128x4x128.Idx) : val_main_v84 x3 i = ((I.B (i 1).val (i 2).val : ℝ) : EReal) := by
  rw [val_main_v84_apply, val_main_v83_apply, val_main_v82_apply, val_main_v81_apply, val_main_v80_apply, val_main_v3_apply, h.B]
theorem s85 (i : S32x128x4x128.Idx) : val_main_v85 x0 x1 x2 x3 i = ((I.ss (i 0).val (i 2).val (fm (i 1).val) (fm (i 3).val) : ℝ) : EReal) := by
  rw [val_main_v85_apply, val_main_v79_apply, s78 h, s84 h, Ideal.addf_def, ← EReal.coe_add]
  have h1 : (i 1).val < 128 := (i 1).isLt
  refine congrArg (fun x : ℝ => (x : EReal)) ?_
  simp only [Inp.ss, ssR, Inp.tb, fm_of_lt h1]
  refine congrArg (· + _) (Finset.sum_congr rfl fun j _ => mul_comm _ _)
theorem s86 (i : S4096x512.Idx) : val_main_v86 x0 x1 x2 x3 i
    = ((I.ss ((i 0).val / 128) ((i 1).val / 128) (fm (i 0).val) (fm (i 1).val) : ℝ) : EReal) := by
  rw [val_main_v86_apply, s85 h]
  have h0 : (i 0).val < 4096 := (i 0).isLt
  have h1 : (i 1).val < 512 := (i 1).isLt
  have e0 : (idx_main_v86 i 0).val = (i 0).val / 128 := by show ((i 0).val * 512 + (i 1).val) / 65536 = _; omega
  have e1 : fm (idx_main_v86 i 1).val = fm (i 0).val := Fin.ext (by show (((i 0).val * 512 + (i 1).val) / 512 % 128) % 128 = (i 0).val % 128; omega)
  have e2 : (idx_main_v86 i 2).val = (i 1).val / 128 := by show ((i 0).val * 512 + (i 1).val) / 128 % 4 = _; omega
  have e3 : fm (idx_main_v86 i 3).val = fm (i 1).val := Fin.ext (by show (((i 0).val * 512 + (i 1).val) % 128) % 128 = (i 1).val % 128; omega)
  rw [e0, e1, e2, e3]
theorem s91 (i : S32x128x4x128.Idx) : val_main_v91 x0 x4 i = ((I.ds (i 0).val (i 2).val (fm (i 1).val) (fm (i 3).val) : ℝ) : EReal) := by
  rw [val_main_v91_apply, val_main_v89_apply, s26 h, s88 h, Ideal.mulf_def, ← EReal.coe_mul]
  have h1 : (i 1).val < 128 := (i 1).isLt
  have h2 : (i 2).val < 4 := (i 2).isLt
  have h3 : (i 3).val < 128 := (i 3).isLt
  rw [I.ds_at _ _ _ _ h1 h3]
  have e0 : (idx_main_v91 i 0).val = 128 * (i 0).val + (i 1).val := by
    show ((((i 0).val * 128 + (i 1).val) * 4 + (i 2).val) * 128 + (i 3).val) / 512 = _; omega
  have e1 : (idx_main_v91 i 1).val = 128 * (i 2).val + (i 3).val := by
    show ((((i 0).val * 128 + (i 1).val) * 4 + (i 2).val) * 128 + (i 3).val) % 512 = _; omega
  rw [e0, e1]
theorem s99 (i : S4x32x128x128.Idx) : val_main_v99 x0 x4 i = ((I.ds (i 1).val (i 0).val (fm (i 3).val) (fm (i 2).val) : ℝ) : EReal) := by
  rw [val_main_v99_apply, s91 h]
theorem s101 (i : S4x32x128x128.Idx) : val_main_v101 x0 x2 x4 i
    = ((I.dvn (i 1).val (i 0).val (fm (i 3).val) (fm (i 2).val) : ℝ) : EReal) := by
  simp only [val_main_v101_apply, s99 h, s77_0 h, Inp.dvn, dvnR, ← EReal.coe_mul, ← EReal.coe_add, ← EReal.coe_sub, ← coe_sum]
  refine congrArg (fun x : ℝ => (x : EReal)) (Finset.sum_congr rfl fun j _ => ?_)
  show I.ds (i 1).val (i 0).val (fm j.val) (fm (i 2).val) * wm (I.tw (i 0).val) (fm j.val) (fm (i 3).val) = _
  rw [fm_val, mul_comm]
theorem s104 (i : S4096x4x128.Idx) : val_main_v104 x0 x2 x4 i
    = ((I.dvn ((i 0).val / 128) (i 1).val (fm (i 0).val) (fm (i 2).val) : ℝ) : EReal) := by
  rw [val_main_v104_apply, val_main_v102_apply, s101 h]
  have h0 : (i 0).val < 4096 := (i 0).isLt
  have h1 : (i 1).val < 4 := (i 1).isLt
  have h2 : (i 2).val < 128 := (i 2).isLt
  have e0 : (idx_main_v104 i 0).val = (i 0).val / 128 := by
    show (((i 0).val * 4 + (i 1).val) * 128 + (i 2).val) / 65536 = _; omega
  have e1 : fm (idx_main_v104 i 1).val = fm (i 0).val := Fin.ext (by
    show ((((i 0).val * 4 + (i 1).val) * 128 + (i 2).val) / 512 % 128) % 128 = (i 0).val % 128; omega)
  have e2 : (idx_main_v104 i 2).val = (i 1).val := by
    show (((i 0).val * 4 + (i 1).val) * 128 + (i 2).val) / 128 % 4 = _; omega
  have e3 : fm (idx_main_v104 i 3).val = fm (i 2).val := Fin.ext (by
    show ((((i 0).val * 4 + (i 1).val) * 128 + (i 2).val) % 128) % 128 = (i 2).val % 128; omega)
  show ((I.dvn (idx_main_v104 i 0).val (idx_main_v104 i 2).val (fm (idx_main_v104 i 1).val) (fm (idx_main_v104 i 3).val) : ℝ) : EReal) = _
  rw [e0, e1, e2, e3]

abbrev DW := dot_S4x32x128x128_S32x128x4x128_S4x128x128_12_03_3_1_0_2
omit h in
theorem dwl (i : S4x128x128.Idx) (q : DW.contr.Idx) : (DW.lhsIdx i q 0).val = (i 0).val ∧ (DW.lhsIdx i q 1).val = (q ⟨0, by decide⟩).val
    ∧ (DW.lhsIdx i q 2).val = (q ⟨1, by decide⟩).val ∧ (DW.lhsIdx i q 3).val = (i 1).val := by
  refine ⟨?_, ?_, ?_, ?_⟩
  · unfold DotDims.lhsIdx
    rw [dif_pos (show (0 : Fin S4x32x128x128.rank) ∈ DW.lhsBatch by decide)]; rfl
  · unfold DotDims.lhsIdx
    rw [dif_neg (show ¬(1 : Fin S4x32x128x128.rank) ∈ DW.lhsBatch by decide), dif_neg (show ¬(1 : Fin S4x32x128x128.rank) ∈ DW.lhsNonContracting by decide)]; rfl
  · unfold DotDims.lhsIdx
    rw [dif_neg (show ¬(2 : Fin S4x32x128x128.rank) ∈ DW.lhsBatch by decide), dif_neg (show ¬(2 : Fin S4x32x128x128.rank) ∈ DW.lhsNonContracting by decide)]; rfl
  · unfold DotDims.lhsIdx
    rw [dif_neg (show ¬(3 : Fin S4x32x128x128.rank) ∈ DW.lhsBatch by decide), dif_pos (show (3 : Fin S4x32x128x128.rank) ∈ DW.lhsNonContracting by decide)]; rfl
omit h in
theorem dwr (i : S4x128x128.Idx) (q : DW.contr.Idx) : (DW.rhsIdx i q 0).val = (q ⟨0, by decide⟩).val ∧ (DW.rhsIdx i q 1).val = (i 2).val
    ∧ (DW.rhsIdx i q 2).val = (i 0).val ∧ (DW.rhsIdx i q 3).val = (q ⟨1, by decide⟩).val := by
  refine ⟨?_, ?_, ?_, ?_⟩
  · unfold DotDims.rhsIdx
    rw [dif_neg (show ¬(0 : Fin S32x128x4x128.rank) ∈ DW.rhsBatch by decide), dif_neg (show ¬(0 : Fin S32x128x4x128.rank) ∈ DW.rhsNonContracting by decide)]; rfl
  · unfold DotDims.rhsIdx
    rw [dif_neg (show ¬(1 : Fin S32x128x4x128.rank) ∈ DW.rhsBatch by decide), dif_pos (show (1 : Fin S32x128x4x128.rank) ∈ DW.rhsNonContracting by decide)]; rfl
  · unfold DotDims.rhsIdx
    rw [dif_pos (show (2 : Fin S32x128x4x128.rank) ∈ DW.rhsBatch by decide)]; rfl
  · unfold DotDims.rhsIdx
    rw [dif_neg (show ¬(3 : Fin S32x128x4x128.rank) ∈ DW.rhsBatch by decide), dif_neg (show ¬(3 : Fin S32x128x4x128.rank) ∈ DW.rhsNonContracting by decide)]; rfl
theorem s100 (i : S4x128x128.Idx) : val_main_v100 x0 x1 x4 i
    = ((∑ n : Fin 32, ∑ k : Fin 128, I.ds n.val (i 0).val (fm (i 1).val) k * I.vn n.val (i 0).val (fm (i 2).val) k : ℝ) : EReal) := by
  unfold val_main_v100
  simp only [Host.dotGeneral]
  rw [Ideal.dotGeneral_apply, ValueIdx.sum_contr2 DW 32 128 rfl rfl rfl]
  simp only [s99 h, s68 h, ← EReal.coe_mul, ← EReal.coe_add, ← EReal.coe_sub, ← coe_sum]
  refine congrArg (fun x : ℝ => (x : EReal)) (Finset.sum_congr rfl fun n _ => Finset.sum_congr rfl fun k _ => ?_)
  have q0 := ValueIdx.contrEquiv2_symm_val0 DW 32 128 rfl rfl rfl (n, k)
  have q1 := ValueIdx.contrEquiv2_symm_val1 DW 32 128 rfl rfl rfl (n, k)
  obtain ⟨l0, l1, l2, l3⟩ := dwl i ((ValueIdx.contrEquiv2 DW 32 128 rfl rfl rfl).symm (n, k))
  obtain ⟨r0, r1, r2, r3⟩ := dwr i ((ValueIdx.contrEquiv2 DW 32 128 rfl rfl rfl).symm (n, k))
  rw [l0, l1, l2, l3, r0, r1, r2, r3, q0, q1]
  show I.ds n.val (i 0).val _ (fm k.val) * I.vn n.val (i 0).val _ (fm k.val) = _
  rw [fm_val]
theorem s103 (i : S4x128x128.Idx) : val_main_v103 x0 x1 x4 i
    = ((∑ n ∈ Finset.range 32, I.dw n (i 0).val (fm (i 1).val) (fm (i 2).val) : ℝ) : EReal) := by
  have hz : val_main_call1_v0 (F := Ideal) i = 0 := by
    rw [val_main_call1_v0_apply, val_main_call1_cst_apply]; exact Ideal.ofBits_zero_f32
  rw [val_main_v103_apply, s77_1, s100 h, hz, Cert.KernelIdeal.Sg.select_mask, Finset.sum_range]
  simp only [Inp.dw, dwR]
  split
  · rfl
  · simp

theorem s106 (i : S4x128.Idx) : val_main_v106 x0 x2 x4 i
    = ((∑ r : Fin 4096, I.xr r.val (i 0).val (i 1).val * I.dvn (r.val / 128) (i 0).val (fm r.val) (fm (i 1).val) : ℝ) : EReal) := by
  simp only [val_main_v106_apply, val_main_v105_apply, val_main_cst_24_apply, s63 h, s104 h, Ideal.ofBits_zero_f32, zero_add, Ideal.mulf_def, Ideal.addf_def, Ideal.subf_def, Ideal.hostDivf_def, Ideal.hostUnary_tanh_def, Ideal.hostUnary_rsqrt_def, Ideal.ofBits_def, ofBits_three, ofBits_num, ofBits_den, ofBits_half, ofBits_neg_half, ofBits_one, ofBits_slope, ofBits_eps, ofBits_128, div_den, div_128, Ideal.tanh_coe, ← EReal.coe_mul, ← EReal.coe_add, ← EReal.coe_sub, ← coe_sum]
omit h in
theorem sum_rows (f : ℕ → ℝ) : ∑ r : Fin 4096, f r.val = ∑ b ∈ Finset.range 32, ∑ i : Fin 128, f (128 * b + i.val) := by
  rw [Finset.sum_range, ← (finProdFinEquiv (m := 32) (n := 128)).sum_comp, Fintype.sum_prod_type]
  exact Finset.sum_congr rfl fun b _ => Finset.sum_congr rfl fun i _ => congrArg f (by rw [finProdFinEquiv_apply_val]; ring)
theorem s159 (i : S1x512.Idx) : val_main_v159 x0 x2 x4 i
    = ((∑ b ∈ Finset.range 32, I.dng b ((i 1).val / 128) (fm (i 1).val) : ℝ) : EReal) := by
  have h1 : (i 1).val < 512 := (i 1).isLt
  simp only [val_main_v159_apply, val_main_v111_apply, val_main_v110_apply, val_main_v107_apply, val_main_cst_25_apply, s106 h,
    Ideal.ofBits_zero_f32, zero_add, Ideal.ofBits_def, Finset.univ_unique, Finset.sum_singleton]
  refine congrArg (fun x : ℝ => (x : EReal)) ?_
  have e0 : ((0 * 4 + (i 1).val / 128) * 128 + (i 1).val % 128) / 128 = (i 1).val / 128 := by omega
  have e1 : ((0 * 4 + (i 1).val / 128) * 128 + (i 1).val % 128) % 128 = (i 1).val % 128 := by omega
  show ∑ r : Fin 4096, I.xr r.val (((0 * 4 + (i 1).val / 128) * 128 + (i 1).val % 128) / 128) (((0 * 4 + (i 1).val / 128) * 128 + (i 1).val % 128) % 128)
    * I.dvn (r.val / 128) (((0 * 4 + (i 1).val / 128) * 128 + (i 1).val % 128) / 128) (fm r.val) (fm (((0 * 4 + (i 1).val / 128) * 128 + (i 1).val % 128) % 128)) = _
  rw [e0, e1, sum_rows fun r => I.xr r ((i 1).val / 128) ((i 1).val % 128) * I.dvn (r / 128) ((i 1).val / 128) (fm r) (fm ((i 1).val % 128))]
  refine Finset.sum_congr rfl fun b _ => ?_
  simp only [Inp.dng, dngR]
  refine Finset.sum_congr rfl fun k _ => ?_
  have ek : fm (128 * b + k.val) = k := Fin.ext (by show (128 * b + k.val) % 128 = k.val; have := k.isLt; omega)
  have eb : (128 * b + k.val) / 128 = b := by have := k.isLt; omega
  have em : fm ((i 1).val % 128) = fm (i 1).val := Fin.ext (Nat.mod_mod _ _)
  rw [I.xr_at b _ k.val _ k.isLt (Nat.mod_lt _ (by norm_num)), ek, eb, em, fm_val, mul_comm]

theorem s92 (i : S128x4x128.Idx) : val_main_v92 x0 x4 i
    = ((∑ n : Fin 32, I.ds n.val (i 1).val (fm (i 0).val) (fm (i 2).val) : ℝ) : EReal) := by
  simp only [val_main_v92_apply, val_main_cst_20_apply, s91 h, Ideal.ofBits_zero_f32, zero_add, Ideal.ofBits_def, ← EReal.coe_mul, ← EReal.coe_add, ← EReal.coe_sub, ← coe_sum]
theorem s94 (i : S128x4x128.Idx) : val_main_v94 x0 x4 i
    = ((∑ n : Fin 32, I.ds n.val (i 1).val (fm (i 0).val) (fm (i 2).val) : ℝ) : EReal) := by
  have h0 : (i 0).val < 128 := (i 0).isLt
  have h1 : (i 1).val < 4 := (i 1).isLt
  have h2 : (i 2).val < 128 := (i 2).isLt
  simp only [val_main_v94_apply, val_main_v93_apply, val_main_cst_21_apply, s92 h, Ideal.ofBits_zero_f32, zero_add, Ideal.ofBits_def,
    Finset.univ_unique, Finset.sum_singleton]
  refine congrArg (fun x : ℝ => (x : EReal)) (Finset.sum_congr rfl fun n _ => ?_)
  have e0 : (((0 * 128 + (i 0).val) * 4 + (i 1).val) * 128 + (i 2).val) / 512 = (i 0).val := by omega
  have e1 : (((0 * 128 + (i 0).val) * 4 + (i 1).val) * 128 + (i 2).val) / 128 % 4 = (i 1).val := by omega
  have e2 : (((0 * 128 + (i 0).val) * 4 + (i 1).val) * 128 + (i 2).val) % 128 = (i 2).val := by omega
  show I.ds n.val ((((0 * 128 + (i 0).val) * 4 + (i 1).val) * 128 + (i 2).val) / 128 % 4)
    (fm ((((0 * 128 + (i 0).val) * 4 + (i 1).val) * 128 + (i 2).val) / 512)) (fm ((((0 * 128 + (i 0).val) * 4 + (i 1).val) * 128 + (i 2).val) % 128)) = _
  rw [e0, e1, e2]
theorem s160 (i : S128x4.Idx) : val_main_v160 x0 x4 i
    = ((∑ b ∈ Finset.range 32, I.db b (i 1).val (fm (i 0).val) : ℝ) : EReal) := by
  simp only [val_main_v160_apply, val_main_v98_apply, val_main_v97_apply, val_main_v96_apply, val_main_v95_apply, val_main_cst_22_apply,
    val_main_cst_23_apply, s94 h, Ideal.ofBits_zero_f32, zero_add, Ideal.ofBits_def, Finset.univ_unique, Finset.sum_singleton, ← EReal.coe_mul, ← EReal.coe_add, ← EReal.coe_sub, ← coe_sum]
  refine congrArg (fun x : ℝ => (x : EReal)) ?_
  rw [Finset.sum_comm, Finset.sum_range]
  refine Finset.sum_congr rfl fun n _ => Finset.sum_congr rfl fun l _ => ?_
  show I.ds n.val (i 1).val (fm (i 0).val) (fm l.val) = _
  rw [fm_val]
theorem s161 (i : S128x128.Idx) : val_main_v161 x0 x4 i
    = ((if (i 1).val < 4 then ∑ b ∈ Finset.range 32, I.db b (i 1).val (fm (i 0).val) else 0 : ℝ) : EReal) := by
  unfold val_main_v161
  by_cases hc : (i 1).val < 4
  · rw [if_pos hc]
    let j : S128x4.Idx := fun a => match a with
      | ⟨0, _⟩ => ⟨(i 0).val, (i 0).isLt⟩
      | ⟨1, _⟩ => ⟨(i 1).val, hc⟩
    rw [pad_apply_of_inside _ _ _ _ _ _ _ i j (fun a => match a with
      | ⟨0, _⟩ => by show (i 0).val = 0 + (i 0).val * (0 + 1); omega
      | ⟨1, _⟩ => by show (i 1).val = 0 + (i 1).val * (0 + 1); omega), s160 h]
  · rw [if_neg hc, pad_apply_of_not_inside _ _ _ _ _ _ _ i 1 (fun hh => hc (by
      have := hh.2.2
      have e : ((i 1).val - 0) / (0 + 1) < 4 := this
      omega))]
    show ((((0#32 : BitVec 32).toInt : ℝ)) : EReal) = _
    simp

theorem s113 (i : S4096x4.Idx) : val_main_v113 x0 x1 x2 x4 i
    = ((∑ k : Fin 128, gelu (I.fv (i 0).val (128 * (i 1).val + k.val))
        * (I.dvn ((i 0).val / 128) (i 1).val (fm (i 0).val) (fm k.val) * I.G (128 * (i 1).val + k.val)) : ℝ) : EReal) := by
  simp only [val_main_v113_apply, val_main_v112_apply, val_main_v109_apply, val_main_v108_apply, val_main_cst_26_apply, s50 h, s104 h, s65 h,
    Ideal.ofBits_zero_f32, zero_add, Ideal.mulf_def, Ideal.addf_def, Ideal.subf_def, Ideal.hostDivf_def, Ideal.hostUnary_tanh_def, Ideal.hostUnary_rsqrt_def, Ideal.ofBits_def, ofBits_three, ofBits_num, ofBits_den, ofBits_half, ofBits_neg_half, ofBits_one, ofBits_slope, ofBits_eps, ofBits_128, div_den, div_128, Ideal.tanh_coe, ← EReal.coe_mul, ← EReal.coe_add, ← EReal.coe_sub, ← coe_sum]
/-- The factor of the mean's gradient. -/
def mg (I : Inp) (r g : ℕ) : ℝ :=
  (∑ k : Fin 128, gelu (I.fv r (128 * g + k.val)) * (I.dvn (r / 128) g (fm r) (fm k.val) * I.G (128 * g + k.val)))
    * (-(1 / 2) * ((Real.sqrt (I.ms r g))⁻¹ / I.ms r g)) / 128
theorem s119 (i : S4096x4x1.Idx) : val_main_v119 x0 x1 x2 x4 i = ((mg I (i 0).val (i 1).val : ℝ) : EReal) := by
  have h1 : (i 1).val < 4 := (i 1).isLt
  have h2 : (i 2).val < 1 := (i 2).isLt
  simp only [val_main_v119_apply, val_main_v118_apply, val_main_v117_apply, val_main_v114_apply, val_main_cst_27_apply, s61 h, s113 h,
    Ideal.mulf_def, Ideal.addf_def, Ideal.subf_def, Ideal.hostDivf_def, Ideal.hostUnary_tanh_def, Ideal.hostUnary_rsqrt_def, Ideal.ofBits_def, ofBits_three, ofBits_num, ofBits_den, ofBits_half, ofBits_neg_half, ofBits_one, ofBits_slope, ofBits_eps, ofBits_128, div_den, div_128, Ideal.tanh_coe, ← EReal.coe_mul, ← EReal.coe_add, ← EReal.coe_sub, ← coe_sum]
  have e0 : (((i 0).val * 4 + (i 1).val) * 1 + (i 2).val) / 4 = (i 0).val := by omega
  have e1 : (((i 0).val * 4 + (i 1).val) * 1 + (i 2).val) % 4 = (i 1).val := by omega
  rw [e0, e1]; rfl
theorem s120 (i : S4096x4.Idx) : val_main_v120 x0 x1 x2 x4 i = ((mg I (i 0).val (i 1).val : ℝ) : EReal) := by
  simp only [val_main_v120_apply, val_main_cst_28_apply, s119 h, Ideal.ofBits_zero_f32, zero_add, Ideal.ofBits_def,
    Finset.univ_unique, Finset.sum_singleton]
theorem s125 (i : S4096x4x128.Idx) : val_main_v125 x0 x1 x2 x4 i
    = ((I.dvn ((i 0).val / 128) (i 1).val (fm (i 0).val) (fm (i 2).val) * I.G (128 * (i 1).val + (i 2).val) * (Real.sqrt (I.ms (i 0).val (i 1).val))⁻¹
        + gelu (I.fv (i 0).val (128 * (i 1).val + (i 2).val)) * mg I (i 0).val (i 1).val
        + mg I (i 0).val (i 1).val * gelu (I.fv (i 0).val (128 * (i 1).val + (i 2).val)) : ℝ) : EReal) := by
  simp only [val_main_v108_apply, val_main_v109_apply, val_main_v115_apply, val_main_v116_apply, val_main_v121_apply, val_main_v122_apply, val_main_v123_apply, val_main_v124_apply, val_main_v125_apply, s50 h, s58 h, s65 h, s104 h, s120 h, Ideal.mulf_def, Ideal.addf_def, Ideal.subf_def, Ideal.hostDivf_def, Ideal.hostUnary_tanh_def, Ideal.hostUnary_rsqrt_def, Ideal.ofBits_def, ofBits_three, ofBits_num, ofBits_den, ofBits_half, ofBits_neg_half, ofBits_one, ofBits_slope, ofBits_eps, ofBits_128, div_den, div_128, Ideal.tanh_coe, ← EReal.coe_mul, ← EReal.coe_add, ← EReal.coe_sub, ← coe_sum]
omit h in
theorem norm_back (x v S m : ℝ) (hm : 0 < m) :
    x * (Real.sqrt m)⁻¹ + v * (S * (-(1 / 2) * ((Real.sqrt m)⁻¹ / m)) / 128) + S * (-(1 / 2) * ((Real.sqrt m)⁻¹ / m)) / 128 * v
      = (Real.sqrt m)⁻¹ * (x - v * (Real.sqrt m)⁻¹ * (S * (Real.sqrt m)⁻¹ / 128)) := by
  have hs : 0 < Real.sqrt m := Real.sqrt_pos.mpr hm
  have hq : Real.sqrt m * Real.sqrt m = m := Real.mul_self_sqrt hm.le
  generalize Real.sqrt m = s at hs hq
  subst hq
  have := hs.ne'
  field_simp
  ring
omit h in
theorem dvg_at (r c : ℕ) :
    I.dvn (r / 128) (c / 128) (fm r) (fm c) * I.G (128 * (c / 128) + c % 128) * (Real.sqrt (I.ms r (c / 128)))⁻¹
      + gelu (I.fv r (128 * (c / 128) + c % 128)) * mg I r (c / 128) + mg I r (c / 128) * gelu (I.fv r (128 * (c / 128) + c % 128))
      = dvgR (I.vg (r / 128) (c / 128)) (I.dvn (r / 128) (c / 128)) (I.tg (c / 128)) (fm r) (fm c) := by
  unfold mg
  rw [norm_back _ _ _ _ (I.ms_pos _ _)]
  have hr : rs (I.vg (r / 128) (c / 128)) (fm r) = (Real.sqrt (I.ms r (c / 128)))⁻¹ := by
    have := I.rs_at (r / 128) (c / 128) (r % 128) (Nat.mod_lt _ (by norm_num))
    rw [Nat.div_add_mod] at this
    rw [← this]
    exact congrArg _ (Fin.ext (Nat.mod_mod _ _).symm)
  have hv (k : Fin 128) : I.vg (r / 128) (c / 128) (fm r) k = gelu (I.fv r (128 * (c / 128) + k.val)) := by
    show gelu (I.P (128 * (r / 128) + r % 128) _) = _
    rw [Nat.div_add_mod]; rfl
  simp only [dvgR, hr, hv, Inp.tg]
  show _ = _ * (_ * _ - gelu (I.fv r (128 * (c / 128) + c % 128)) * _ * _)
  have hS : ∀ (s x v z z' : ℝ), z = z' → s * (x - v * s * (z / 128)) = s * (x - v * s * (z' / 128)) := fun _ _ _ _ _ hz => by rw [hz]
  refine hS _ _ _ _ _ ?_
  rw [Finset.sum_mul]
  refine Finset.sum_congr rfl fun k _ => ?_
  rw [fm_val]; ring
theorem s126 (i : S4096x512.Idx) : val_main_v126 x0 x1 x2 x4 i
    = ((dvgR (I.vg ((i 0).val / 128) ((i 1).val / 128)) (I.dvn ((i 0).val / 128) ((i 1).val / 128)) (I.tg ((i 1).val / 128))
        (fm (i 0).val) (fm (i 1).val) : ℝ) : EReal) := by
  rw [val_main_v126_apply, s125 h, ← dvg_at]
  have h0 : (i 0).val < 4096 := (i 0).isLt
  have h1 : (i 1).val < 512 := (i 1).isLt
  have e0 : (idx_main_v126 i 0).val = (i 0).val := by show ((i 0).val * 512 + (i 1).val) / 512 = _; omega
  have e1 : (idx_main_v126 i 1).val = (i 1).val / 128 := by show ((i 0).val * 512 + (i 1).val) / 128 % 4 = _; omega
  have e2 : (idx_main_v126 i 2).val = (i 1).val % 128 := by show ((i 0).val * 512 + (i 1).val) % 128 = _; omega
  have em : fm ((i 1).val % 128) = fm (i 1).val := Fin.ext (Nat.mod_mod _ _)
  rw [e0, e1, e2, em]

omit h in
theorem flat (f : ℕ → ℕ → ℝ) (r c o : ℕ) : f (128 * (r / 128) + (fm r).val) (o + (128 * (c / 128) + (fm c).val)) = f r (o + c) := by
  show f (128 * (r / 128) + r % 128) (o + (128 * (c / 128) + c % 128)) = _
  rw [Nat.div_add_mod, Nat.div_add_mod]
theorem s140 (i : S4096x512.Idx) : val_main_v140 x0 x1 x2 x4 i
    = ((I.dv ((i 0).val / 128) ((i 1).val / 128) (fm (i 0).val) (fm (i 1).val) : ℝ) : EReal) := by
  simp only [val_main_v29_apply, val_main_v30_apply, val_main_v31_apply, val_main_v40_apply, val_main_v41_apply, val_main_v42_apply, val_main_v43_apply, val_main_v44_apply, val_main_v127_apply, val_main_v128_apply, val_main_v129_apply, val_main_v130_apply, val_main_v131_apply, val_main_v132_apply, val_main_v133_apply, val_main_v134_apply, val_main_v135_apply, val_main_v136_apply, val_main_v137_apply, val_main_v138_apply, val_main_v139_apply, val_main_v140_apply, val_main_cst_7_apply, val_main_cst_11_apply, val_main_cst_12_apply, val_main_cst_29_apply, val_main_cst_30_apply, val_main_cst_31_apply, val_main_cst_32_apply, s1 h, s39 h, s48 h, s126 h, Ideal.mulf_def, Ideal.addf_def, Ideal.subf_def, Ideal.hostDivf_def, Ideal.hostUnary_tanh_def, Ideal.hostUnary_rsqrt_def, Ideal.ofBits_def, ofBits_three, ofBits_num, ofBits_den, ofBits_half, ofBits_neg_half, ofBits_one, ofBits_slope, ofBits_eps, ofBits_128, div_den, div_128, Ideal.tanh_coe, ← EReal.coe_mul, ← EReal.coe_add, ← EReal.coe_sub, ← coe_sum]
  refine congrArg (fun x : ℝ => (x : EReal)) ?_
  have ev : I.tv ((i 0).val / 128) ((i 1).val / 128) (fm (i 0).val) (fm (i 1).val) = I.fv (i 0).val (i 1).val := flat _ _ _ _
  simp only [Inp.dv, ev]
  unfold gelu'
  ring
theorem s154 (i : S4096x512.Idx) : val_main_v154 x0 x1 x2 x3 x4 i
    = ((I.du ((i 0).val / 128) ((i 1).val / 128) (fm (i 0).val) (fm (i 1).val) : ℝ) : EReal) := by
  simp only [val_main_v6_apply, val_main_v7_apply, val_main_v8_apply, val_main_v17_apply, val_main_v18_apply, val_main_v19_apply, val_main_v20_apply, val_main_v21_apply, val_main_v90_apply, val_main_v141_apply, val_main_v142_apply, val_main_v143_apply, val_main_v144_apply, val_main_v145_apply, val_main_v146_apply, val_main_v147_apply, val_main_v148_apply, val_main_v149_apply, val_main_v150_apply, val_main_v151_apply, val_main_v152_apply, val_main_v153_apply, val_main_v154_apply, val_main_cst_apply, val_main_cst_3_apply, val_main_cst_4_apply, val_main_cst_33_apply, val_main_cst_34_apply, val_main_cst_35_apply, val_main_cst_36_apply, s0 h, s16 h, s25 h, s86 h, s88 h, Ideal.mulf_def, Ideal.addf_def, Ideal.subf_def, Ideal.hostDivf_def, Ideal.hostUnary_tanh_def, Ideal.hostUnary_rsqrt_def, Ideal.ofBits_def, ofBits_three, ofBits_num, ofBits_den, ofBits_half, ofBits_neg_half, ofBits_one, ofBits_slope, ofBits_eps, ofBits_128, div_den, div_128, Ideal.tanh_coe, ← EReal.coe_mul, ← EReal.coe_add, ← EReal.coe_sub, ← coe_sum]
  refine congrArg (fun x : ℝ => (x : EReal)) ?_
  have eu : I.tu ((i 0).val / 128) ((i 1).val / 128) (fm (i 0).val) (fm (i 1).val) = I.fu (i 0).val (i 1).val := flat _ _ _ _
  have ed : I.td ((i 0).val / 128) ((i 1).val / 128) (fm (i 0).val) (fm (i 1).val) = I.fd (i 0).val (i 1).val := flat _ _ _ _
  simp only [Inp.du, eu, ed]
  unfold gelu'
  ring
theorem s158 (i : S4096x3200.Idx) (hi : 2048 ≤ (i 1).val ∧ (i 1).val < 3072) : val_main_v158 x0 x1 x2 x3 x4 i
    = ((I.duv (i 0).val ((i 1).val - 2048) : ℝ) : EReal) := by
  rw [val_main_v158_apply, Ideal.truncf_def]
  unfold val_main_v157
  by_cases hc : (i 1).val < 2560
  · let j : S4096x512.Idx := fun a => match a with
      | ⟨0, _⟩ => ⟨(i 0).val, (i 0).isLt⟩
      | ⟨1, _⟩ => ⟨(i 1).val - 2048, by show (i 1).val - 2048 < 512; omega⟩
    rw [concatenate_apply_piece 1 _ _ i 1 (by show 1 < 4; omega) S4096x512 (val_main_v154 x0 x1 x2 x3 x4) rfl rfl 2048 rfl j
      (fun b hb => match b, hb with
        | ⟨0, _⟩, _ => rfl
        | ⟨1, _⟩, hb => absurd rfl hb)
      (by show 2048 + ((i 1).val - 2048) = (i 1).val; omega), s154 h]
    have : (i 1).val - 2048 < 512 := by omega
    simp only [Inp.duv, if_pos this]
    rfl
  · let j : S4096x512.Idx := fun a => match a with
      | ⟨0, _⟩ => ⟨(i 0).val, (i 0).isLt⟩
      | ⟨1, _⟩ => ⟨(i 1).val - 2560, by show (i 1).val - 2560 < 512; omega⟩
    rw [concatenate_apply_piece 1 _ _ i 2 (by show 2 < 4; omega) S4096x512 (val_main_v140 x0 x1 x2 x4) rfl rfl 2560 rfl j
      (fun b hb => match b, hb with
        | ⟨0, _⟩, _ => rfl
        | ⟨1, _⟩, hb => absurd rfl hb)
      (by show 2560 + ((i 1).val - 2560) = (i 1).val; omega), s140 h]
    have : ¬(i 1).val - 2048 < 512 := by omega
    have e : (i 1).val - 2048 - 512 = (i 1).val - 2560 := by omega
    have em : fm ((i 1).val - 2048) = fm ((i 1).val - 2560) := Fin.ext (by
      show ((i 1).val - 2048) % 128 = ((i 1).val - 2560) % 128; omega)
    simp only [Inp.duv, if_neg this, e, em]
    rfl

end Cert.ReferenceIdeal.Sg
-- ==== Proof.SgClaim.lean ====
/- The gMLP gradient kernel against its reference: both end holding the same real gradients. -/
module

public import proofs.«01_k».proof.Defs
public import proofs.«01_k».proof.Proof.SgRun
public import proofs.«01_k».proof.Proof.SgRef

@[expose] public section

set_option maxRecDepth 16384

noncomputable section

open Idealize.ShloMosaic Idealize.ShloMosaic.TcCoe Idealize.ShloMosaic.StableHlo Idealize.SL.Sem

instance Cert.Pre_finite.Sg.facts : Cert.Pre_finite.Facts := ⟨by decide, by decide, by decide, by decide, by decide⟩
instance Cert.On_gmlp_columns.Sg.facts : Cert.On_gmlp_columns.Facts := ⟨by decide, by decide, by decide, by decide⟩

namespace Cert.Proof.Sg

open Cert.Real

/-- An extended real whose magnitude the comparison puts below infinity is a real number. -/
theorem real_of_finite (x : Ideal .f32)
    (h : Scalar.cmpf .olt (FloatOps.hostAbsf x) (Scalar.ofBits (F := Ideal) .f32 0x7F800000#32) = 1#1) : x = (((x : EReal).toReal : ℝ) : EReal) := by
  have htop : Ideal.ofBits .f32 0x7F800000#32 = ⊤ := by simp [Ideal.ofBits, Ideal.ieee]
  have h' : BitVec.ofBool (decide (max (x : EReal) (-(x : EReal)) < Ideal.ofBits .f32 0x7F800000#32)) = 1#1 := h
  rw [htop] at h'
  have hlt : max (x : EReal) (-(x : EReal)) < ⊤ := by
    by_contra hn
    rw [decide_eq_false hn] at h'
    exact absurd h' (by decide)
  rw [max_lt_iff] at hlt
  refine (EReal.coe_toReal hlt.1.ne ?_).symm
  intro hb
  rw [hb] at hlt
  simp at hlt

section
open Cert.KernelIdeal

/-- The real inputs of a device's arguments. -/
def inp (m : (ℓ : Loc nD τ sig) → Buf (Elt Ideal) ℓ) (c : Dev nD) : Inp where
  P r k := if h : r < 4096 ∧ k < 3200 then EReal.toReal (m ((c : Thread nD τ).loc main_arg0) (fun a => match a with | ⟨0, _⟩ => ⟨r, h.1⟩ | ⟨1, _⟩ => ⟨k, h.2⟩)) else 0
  G k := if h : k < 512 then EReal.toReal (m ((c : Thread nD τ).loc main_arg1) (fun a => match a with | ⟨0, _⟩ => ⟨0, Nat.one_pos⟩ | ⟨1, _⟩ => ⟨k, h⟩)) else 0
  W g i j := if h : g < 4 ∧ i < 128 ∧ j < 128 then EReal.toReal (m ((c : Thread nD τ).loc main_arg2) (fun a => match a with | ⟨0, _⟩ => ⟨g, h.1⟩ | ⟨1, _⟩ => ⟨i, h.2.1⟩ | ⟨2, _⟩ => ⟨j, h.2.2⟩)) else 0
  B i g := if h : i < 128 ∧ g < 4 then EReal.toReal (m ((c : Thread nD τ).loc main_arg3) (fun a => match a with | ⟨0, _⟩ => ⟨i, h.1⟩ | ⟨1, _⟩ => ⟨g, h.2⟩)) else 0
  D r k := if h : r < 4096 ∧ k < 1024 then EReal.toReal (m ((c : Thread nD τ).loc main_arg4) (fun a => match a with | ⟨0, _⟩ => ⟨r, h.1⟩ | ⟨1, _⟩ => ⟨k, h.2⟩)) else 0

theorem real_args (m : (ℓ : Loc nD τ sig) → Buf (Elt Ideal) ℓ) (hm : Pre_KernelIdeal_finite m) (c : Dev nD) :
    Cert.KernelIdeal.Sg.RealArgs m (inp m c) c := by
  obtain ⟨h0, h1, h2, h3, h4⟩ := hm c
  constructor
  · intro j
    refine (real_of_finite _ (congrFun h0 j)).trans (congrArg (fun x : ℝ => (x : EReal)) ?_)
    have e : (j 0).val < 4096 ∧ (j 1).val < 3200 := ⟨(j 0).isLt, (j 1).isLt⟩
    simp only [inp, dif_pos e]
    refine congrArg (fun k => EReal.toReal (m ((c : Thread nD τ).loc main_arg0) k)) ?_
    funext a; fin_cases a <;> rfl
  · intro j
    refine (real_of_finite _ (congrFun h1 j)).trans (congrArg (fun x : ℝ => (x : EReal)) ?_)
    have e : (j 1).val < 512 := (j 1).isLt
    simp only [inp, dif_pos e]
    refine congrArg (fun k => EReal.toReal (m ((c : Thread nD τ).loc main_arg1) k)) ?_
    have z : (j 0).val < 1 := (j 0).isLt
    funext a; fin_cases a
    · exact Fin.ext (by show (j 0).val = 0; omega)
    · rfl
  · intro j
    refine (real_of_finite _ (congrFun h2 j)).trans (congrArg (fun x : ℝ => (x : EReal)) ?_)
    have e : (j 0).val < 4 ∧ (j 1).val < 128 ∧ (j 2).val < 128 := ⟨(j 0).isLt, (j 1).isLt, (j 2).isLt⟩
    simp only [inp, dif_pos e]
    refine congrArg (fun k => EReal.toReal (m ((c : Thread nD τ).loc main_arg2) k)) ?_
    funext a; fin_cases a <;> rfl
  · intro j
    refine (real_of_finite _ (congrFun h3 j)).trans (congrArg (fun x : ℝ => (x : EReal)) ?_)
    have e : (j 0).val < 128 ∧ (j 1).val < 4 := ⟨(j 0).isLt, (j 1).isLt⟩
    simp only [inp, dif_pos e]
    refine congrArg (fun k => EReal.toReal (m ((c : Thread nD τ).loc main_arg3) k)) ?_
    funext a; fin_cases a <;> rfl
  · intro j
    refine (real_of_finite _ (congrFun h4 j)).trans (congrArg (fun x : ℝ => (x : EReal)) ?_)
    have e : (j 0).val < 4096 ∧ (j 1).val < 1024 := ⟨(j 0).isLt, (j 1).isLt⟩
    simp only [inp, dif_pos e]
    refine congrArg (fun k => EReal.toReal (m ((c : Thread nD τ).loc main_arg4) k)) ?_
    funext a; fin_cases a <;> rfl

end

theorem column_words : ∀ a : Fin 3200, IntOp.andi (IntOp.cmpi .sge (BitVec.ofNat 32 a.val) 2048#32) (IntOp.cmpi .slt (BitVec.ofNat 32 a.val) 3072#32) = 1#1 →
    2048 ≤ a.val ∧ a.val < 3072 := by decide +kernel

theorem frame_reference : Cert.quiescent_ReferenceIdeal := by
  intro m ρ _
  exact (θ_run Cert.ReferenceIdeal.defs _ _).mono (fun r h => ⟨fun c => (h c).2.2.2.2, sem_eq_zero_of_no_sems (by decide) r.2⟩)
    (Cert.ReferenceIdeal.Value.run (F := Ideal) m ρ)

theorem preserves : Cert.preserves_Kernel_KernelIdeal :=
  ⟨IdealRules.named_const.statement _ _ _ _ _ rfl, IdealRules.named_const.statement _ _ _ _ _ rfl⟩

theorem fm_self (a : Fin 128) : fm a.val = a := Fin.ext (Nat.mod_eq_of_lt a.isLt)

theorem algebraic : Cert.algebraic_KernelIdeal_ReferenceIdeal_on_gmlp_columns_pre_finite := by
  intro m g m' g' hm ha
  refine ⟨fun c (i : Cert.KernelIdeal.S4096x3200.Idx) => (((inp m c).duv (i 0).val ((i 1).val - 2048) : ℝ) : EReal),
    fun c (y : Cert.KernelIdeal.S1x512.Idx) => ((∑ b ∈ Finset.range 32, (inp m c).dng b ((y 1).val / 128) (fm (y 1).val) : ℝ) : EReal),
    fun c (y : Cert.KernelIdeal.S4x128x128.Idx) => ((∑ b ∈ Finset.range 32, (inp m c).dw b (y 0).val (y 1) (y 2) : ℝ) : EReal),
    fun c (y : Cert.KernelIdeal.S128x128.Idx) => ((if (y 1).val < 4 then ∑ b ∈ Finset.range 32, (inp m c).db b (y 1).val (y 0) else 0 : ℝ) : EReal), ?_, ?_⟩
  · refine (θ_run Cert.KernelIdeal.defs _ _).mono (fun r h c => ?_) (Cert.KernelIdeal.Value.run_blocks (F := Ideal) m g)
    obtain ⟨r6, r7, r8, r9, hargs⟩ := h c
    have hr := real_args m hm c
    refine ⟨fun i hi => ?_, fun i _ => ?_, fun i _ => ?_, fun i _ => ?_, hargs⟩
    · exact (congrFun r6 i).trans (Cert.KernelIdeal.Sg.res6 hr i (column_words (i 1) hi))
    · exact (congrFun r7 i).trans (Cert.KernelIdeal.Sg.res7 hr i)
    · exact (congrFun r8 i).trans (Cert.KernelIdeal.Sg.res8 hr i)
    · exact (congrFun r9 i).trans (Cert.KernelIdeal.Sg.res9 hr i)
  · refine (θ_run Cert.ReferenceIdeal.defs _ _).mono (fun r h c => ?_) (Cert.ReferenceIdeal.Value.run (F := Ideal) m' g')
    obtain ⟨r6, r7, r8, r9, hargs⟩ := h c
    obtain ⟨a0, a1, a2, a3, a4⟩ := ha c
    have hr := real_args m hm c
    have hx : Cert.ReferenceIdeal.Sg.RefArgs (inp m c) (launchContents m' c (Proc.devRef .tc Cert.ReferenceIdeal.main_arg0))
        (launchContents m' c (Proc.devRef .tc Cert.ReferenceIdeal.main_arg1)) (launchContents m' c (Proc.devRef .tc Cert.ReferenceIdeal.main_arg2))
        (launchContents m' c (Proc.devRef .tc Cert.ReferenceIdeal.main_arg3)) (launchContents m' c (Proc.devRef .tc Cert.ReferenceIdeal.main_arg4)) :=
      ⟨fun j => (congrFun a0 j).trans (hr.P j), fun j => (congrFun a1 j).trans (hr.G j), fun j => (congrFun a2 j).trans (hr.W j),
        fun j => (congrFun a3 j).trans (hr.B j), fun j => (congrFun a4 j).trans (hr.D j)⟩
    refine ⟨fun i hi => ?_, fun i _ => ?_, fun i _ => ?_, fun i _ => ?_, hargs⟩
    · exact (congrFun (r6.trans (Cert.ReferenceIdeal.Read.val_main_v158_eq (launchContents m' c))) i).trans
        (Cert.ReferenceIdeal.Sg.s158 hx i (column_words (i 1) hi))
    · exact (congrFun (r7.trans (Cert.ReferenceIdeal.Read.val_main_v159_eq (launchContents m' c))) i).trans (Cert.ReferenceIdeal.Sg.s159 hx i)
    · have e := Cert.ReferenceIdeal.Sg.s103 hx i
      rw [show fm (i 1).val = i 1 from fm_self (i 1), show fm (i 2).val = i 2 from fm_self (i 2)] at e
      exact (congrFun (r8.trans (Cert.ReferenceIdeal.Read.val_main_v103_eq (launchContents m' c))) i).trans e
    · have e := Cert.ReferenceIdeal.Sg.s161 hx i
      rw [show fm (i 0).val = i 0 from fm_self (i 0)] at e
      exact (congrFun (r9.trans (Cert.ReferenceIdeal.Read.val_main_v161_eq (launchContents m' c))) i).trans e

end Cert.Proof.Sg

end
-- ==== Proof.Mm.lean ====
/- Matrix products read at an index: the three layouts of the step's products, over the extended reals. -/
module

public import Idealize.ShloMosaic.Lib.MatmulPlain

@[expose] public section

noncomputable section

namespace Cert.Mm

open Idealize.ShloMosaic ValueIdx

/-- The product of two matrices, `A · B`. -/
def nn {M K N : ℕ} (A : (⟨2, ![M, K]⟩ : Shape).Idx → EReal) (B : (⟨2, ![K, N]⟩ : Shape).Idx → EReal) (i : Fin M) (j : Fin N) : EReal :=
  ∑ k : Fin K, A (ix2 i k) * B (ix2 k j)
/-- The product with the right matrix transposed, `A · Bᵀ`. -/
def nt {M K N : ℕ} (A : (⟨2, ![M, K]⟩ : Shape).Idx → EReal) (B : (⟨2, ![N, K]⟩ : Shape).Idx → EReal) (i : Fin M) (j : Fin N) : EReal :=
  ∑ k : Fin K, A (ix2 i k) * B (ix2 j k)
/-- The product with the left matrix transposed, `Aᵀ · B`. -/
def tn {M K N : ℕ} (A : (⟨2, ![K, M]⟩ : Shape).Idx → EReal) (B : (⟨2, ![K, N]⟩ : Shape).Idx → EReal) (i : Fin M) (j : Fin N) : EReal :=
  ∑ k : Fin K, A (ix2 k i) * B (ix2 k j)

/-- The dimension numbers of `Aᵀ · B`. -/
abbrev tnDims {M K N : ℕ} (wf : DotDims.WF ⟨2, ![K, M]⟩ ⟨2, ![K, N]⟩ ⟨2, ![M, N]⟩ [0] [0] [1] [1] [] []) :
    DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := wf
/-- The dimension numbers of `A · Bᵀ`. -/
abbrev ntDims {M K N : ℕ} (wf : DotDims.WF ⟨2, ![M, K]⟩ ⟨2, ![N, K]⟩ ⟨2, ![M, N]⟩ [1] [1] [0] [0] [] []) :
    DotDims ⟨2, ![M, K]⟩ ⟨2, ![N, K]⟩ ⟨2, ![M, N]⟩ where
  lhsContracting := [1]
  rhsContracting := [1]
  lhsNonContracting := [0]
  rhsNonContracting := [0]
  lhsBatch := []
  rhsBatch := []
  wf := wf
/-- The dimension numbers of `A · B`. -/
abbrev nnDims {M K N : ℕ} (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

variable {M K N : ℕ} {φ₁ φ₂ : FTy}

theorem tn_matmul (wf : DotDims.WF ⟨2, ![K, M]⟩ ⟨2, ![K, N]⟩ ⟨2, ![M, N]⟩ [0] [0] [1] [1] [] []) (prec : Option ContractPrecision)
    (lhs : FVec Ideal ⟨2, ![K, M]⟩ φ₁) (rhs : FVec Ideal ⟨2, ![K, N]⟩ φ₂) (acc : FVec Ideal ⟨2, ![M, N]⟩ .f32) (j : (⟨2, ![M, N]⟩ : Shape).Idx) :
    FloatOps.matmul (tnDims wf) prec lhs rhs acc j = acc j + tn (M := M) (K := K) (N := N) lhs rhs (j 0) (j 1) := by
  rw [Ideal.matmul_apply, ← Equiv.sum_comp (contrEquiv1 (tnDims wf) K rfl rfl).symm]
  refine congrArg (acc j + ·) (Finset.sum_congr rfl fun k _ => ?_)
  have hk := contrEquiv1_symm_val (tnDims wf) K rfl rfl k
  have el : (tnDims wf).lhsIdx j ((contrEquiv1 (tnDims wf) K rfl rfl).symm k) = ix2 k (j 0) := by
    funext a; apply Fin.ext
    match a with
    | ⟨0, _⟩ => exact hk
    | ⟨1, _⟩ => rfl
  have er : (tnDims wf).rhsIdx j ((contrEquiv1 (tnDims wf) K rfl rfl).symm k) = ix2 k (j 1) := by
    funext a; apply Fin.ext
    match a with
    | ⟨0, _⟩ => exact hk
    | ⟨1, _⟩ => rfl
  rw [el, er]; rfl

theorem nt_matmul (wf : DotDims.WF ⟨2, ![M, K]⟩ ⟨2, ![N, K]⟩ ⟨2, ![M, N]⟩ [1] [1] [0] [0] [] []) (prec : Option ContractPrecision)
    (lhs : FVec Ideal ⟨2, ![M, K]⟩ φ₁) (rhs : FVec Ideal ⟨2, ![N, K]⟩ φ₂) (acc : FVec Ideal ⟨2, ![M, N]⟩ .f32) (j : (⟨2, ![M, N]⟩ : Shape).Idx) :
    FloatOps.matmul (ntDims wf) prec lhs rhs acc j = acc j + nt (M := M) (K := K) (N := N) lhs rhs (j 0) (j 1) := by
  rw [Ideal.matmul_apply, ← Equiv.sum_comp (contrEquiv1 (ntDims wf) K rfl rfl).symm]
  refine congrArg (acc j + ·) (Finset.sum_congr rfl fun k _ => ?_)
  have hk := contrEquiv1_symm_val (ntDims wf) K rfl rfl k
  have el : (ntDims wf).lhsIdx j ((contrEquiv1 (ntDims wf) K rfl rfl).symm k) = ix2 (j 0) k := by
    funext a; apply Fin.ext
    match a with
    | ⟨0, _⟩ => rfl
    | ⟨1, _⟩ => exact hk
  have er : (ntDims wf).rhsIdx j ((contrEquiv1 (ntDims wf) K rfl rfl).symm k) = ix2 (j 1) k := by
    funext a; apply Fin.ext
    match a with
    | ⟨0, _⟩ => rfl
    | ⟨1, _⟩ => exact hk
  rw [el, er]; rfl

theorem nn_matmul (wf : DotDims.WF ⟨2, ![M, K]⟩ ⟨2, ![K, N]⟩ ⟨2, ![M, N]⟩ [1] [0] [0] [1] [] []) (prec : Option ContractPrecision)
    (lhs : FVec Ideal ⟨2, ![M, K]⟩ φ₁) (rhs : FVec Ideal ⟨2, ![K, N]⟩ φ₂) (acc : FVec Ideal ⟨2, ![M, N]⟩ .f32) (j : (⟨2, ![M, N]⟩ : Shape).Idx) :
    FloatOps.matmul (nnDims wf) prec lhs rhs acc j = acc j + nn (M := M) (K := K) (N := N) lhs rhs (j 0) (j 1) := by
  rw [Ideal.matmul_apply, ← Equiv.sum_comp (contrEquiv1 (nnDims wf) K rfl rfl).symm]
  refine congrArg (acc j + ·) (Finset.sum_congr rfl fun k _ => ?_)
  have hk := contrEquiv1_symm_val (nnDims wf) K rfl rfl k
  have el : (nnDims wf).lhsIdx j ((contrEquiv1 (nnDims wf) K rfl rfl).symm k) = ix2 (j 0) k := by
    funext a; apply Fin.ext
    match a with
    | ⟨0, _⟩ => rfl
    | ⟨1, _⟩ => exact hk
  have er : (nnDims wf).rhsIdx j ((contrEquiv1 (nnDims wf) K rfl rfl).symm k) = ix2 k (j 1) := by
    funext a; apply Fin.ext
    match a with
    | ⟨0, _⟩ => exact hk
    | ⟨1, _⟩ => rfl
  rw [el, er]; rfl

/-- The corner of a matrix. -/
theorem zero2 : (![0, 0] : Fin 2 → ℕ) = fun _ => 0 := by funext a; fin_cases a <;> rfl

/-- A product tile whose accumulator starts at zero. -/
theorem zero_constant {S : Shape} (j : S.Idx) : constant (F := Ideal) S .f32 0x00000000#32 j = 0 := Ideal.ofBits_zero_f32

end Cert.Mm

end
-- ==== Proof.Mm2.lean ====
/- The gradient of the activation behind the feed-forward output product: the tiled product and its reference are the same sums. -/
module

public import proofs.«01_k».proof.Defs
public import proofs.«01_k».proof.Proof.Gen.Kernel2Ideal.Value
public import proofs.«01_k».proof.Proof.Gen.Reference2Ideal.Run
public import proofs.«01_k».proof.Proof.Gen.Reference2Ideal.Read
public import proofs.«01_k».proof.Proof.Mm

@[expose] public section

set_option maxRecDepth 16384

noncomputable section

namespace Cert.Kernel2Ideal.Mm

open Cert.Kernel2Ideal Cert.Kernel2Ideal.Gen Idealize.ShloMosaic Idealize.ShloMosaic.TcCoe Idealize.SL.Sem ValueIdx
open Cert.Mm

variable (m : (ℓ : Loc nD τ sig) → Buf (Elt Ideal) ℓ) (c : Dev nD)

theorem index0 : ∀ t : Fin cfg0.N, win0_0.index t = ![t.val, 0] :=
  (by decide +kernel : ∀ t : Fin grid0.N, win0_0.index t = ![t.val, 0])
theorem index1 : ∀ t : Fin cfg0.N, win0_1.index t = ![0, 0] :=
  (by decide +kernel : ∀ t : Fin grid0.N, win0_1.index t = ![0, 0])
theorem index2 : ∀ t : Fin cfg0.N, win0_2.index t = ![t.val, 0] :=
  (by decide +kernel : ∀ t : Fin grid0.N, win0_2.index t = ![t.val, 0])
theorem xsize2 : ∀ t : Fin cfg0.N, ∀ a, win0_2.xsize (grid0.coords t) a = S512x2816.size a :=
  (by decide +kernel : ∀ t : Fin grid0.N, ∀ a, win0_2.xsize (grid0.coords t) a = S512x2816.size a)

/-- The left operand. -/
abbrev lhs : S4096x1024.Idx → EReal := V m c main_arg0
/-- The right operand. -/
abbrev rhs : S2816x1024.Idx → EReal := V m c main_arg1

theorem blk0 (t : Fin cfg0.N) (j : S512x1024.Idx) : iblk m c 0 t j = lhs m c (ix2 ⟨512 * t.val + (j 0).val, by have := t.isLt; have h0 : (j 0).val < 512 := (j 0).isLt; have hN : cfg0.N = 8 := N_0; omega⟩ (j 1)) := by
  have e0 : ((win0_0.rect t).emb j 0 : ℕ) = 512 * t.val + (j 0).val := by
    rw [Pipeline.Window.rect_emb_val win0_0 t j 0 rfl, index0]
    show t.val * 512 + _ = _
    omega
  have e1 : ((win0_0.rect t).emb j 1 : ℕ) = (j 1).val := by
    rw [Pipeline.Window.rect_emb_val win0_0 t j 1 rfl, index0]
    show 0 * 1024 + _ = _
    omega
  refine congrArg (lhs m c) (funext fun a => Fin.ext ?_)
  match a with
  | ⟨0, _⟩ => exact e0
  | ⟨1, _⟩ => exact e1

theorem blk1 (t : Fin cfg0.N) (j : S2816x1024.Idx) : iblk m c 1 t j = rhs m c j := by
  refine congrArg (rhs m c) (funext fun a => Fin.ext (Pipeline.Window.rect_emb_val_of_index_zero win0_1 t a ?_ j))
  rw [index1]
  fin_cases a <;> rfl

/-- One tile: the product of its blocks. -/
theorem tile (x0 : Vec Ideal S512x1024 .bf16) (x1 : Vec Ideal S2816x1024 .bf16) (j : S512x2816.Idx) :
    out0_2 x0 x1 j = nt (M := 512) (K := 1024) (N := 2816) x0 x1 (j 0) (j 1) := by
  unfold out0_2
  refine (congrFun (View.canon_cons_unit_zero (S := S512x2816) zero2 _ _ _) j).trans ?_
  rw [show View.ld x0 r0_0 = x0 from View.ld_unit_zero (S := S512x1024) zero2 _ x0, show View.ld x1 r0_1 = x1 from View.ld_unit_zero (S := S2816x1024) zero2 _ x1]
  refine (nt_matmul (M := 512) (K := 1024) (N := 2816) (φ₁ := .bf16) (φ₂ := .bf16) dot_S512x1024_S2816x1024_S512x2816_1_1_0_0_n_n_wf none x0 x1 (constant S512x2816 .f32 0x00000000#32) j).trans ?_
  rw [zero_constant, zero_add]

theorem mem2 (t : Fin cfg0.N) (i : S4096x2816.Idx) (h0 : t.val = (i 0).val / 512) : i ∈ ((cfg0.win 2).blk t).view.set := by
  show i ∈ ((View.whole main_v0).slice (win0_2.rect t)).set
  rw [View.set_slice_whole, Rect.mem_set_unit]
  intro a
  rw [xsize2]
  match a with
  | ⟨0, _⟩ =>
    show win0_2.index t 0 * 512 ≤ (i 0).val ∧ (i 0).val < win0_2.index t 0 * 512 + 512
    rw [index2]
    show t.val * 512 ≤ (i 0).val ∧ (i 0).val < t.val * 512 + 512
    omega
  | ⟨1, _⟩ =>
    have h1 : (i 1).val < 2816 := (i 1).isLt
    show win0_2.index t 1 * 2816 ≤ (i 1).val ∧ (i 1).val < win0_2.index t 1 * 2816 + 2816
    rw [index2]
    show 0 * 2816 ≤ (i 1).val ∧ (i 1).val < 0 * 2816 + 2816
    omega

/-- The whole result: the product of the operands. -/
theorem res2 (i : S4096x2816.Idx) : (dats m 0 c).arrAt 2 cfg0.N i = nt (M := 4096) (K := 1024) (N := 2816) (lhs m c) (rhs m c) (i 0) (i 1) := by
  have h0 : (i 0).val < 4096 := (i 0).isLt
  have hN : cfg0.N = 8 := N_0
  refine (dats m 0 c).arrAt_apply_of_mem 2 (fun i : S4096x2816.Idx => nt (M := 4096) (K := 1024) (N := 2816) (lhs m c) (rhs m c) (i 0) (i 1)) ?_ cfg0.N ⟨(i 0).val / 512, by omega⟩ i (by show (i 0).val / 512 < _; omega) (flush0_2 _) (mem2 _ i rfl)
  intro t _
  rw [Value.flushed2]
  funext y
  have e0 : ((win0_2.rect t).emb y 0 : ℕ) = 512 * t.val + (y 0).val := by
    rw [Pipeline.Window.rect_emb_val win0_2 t y 0 rfl, index2]
    show t.val * 512 + _ = _
    omega
  have e1 : (win0_2.rect t).emb y 1 = y 1 := by
    apply Fin.ext
    rw [Pipeline.Window.rect_emb_val win0_2 t y 1 rfl, index2]
    show 0 * 2816 + _ = _
    omega
  refine (tile (iblk m c 0 t) (iblk m c 1 t) y).trans ?_
  show _ = nt (M := 4096) (K := 1024) (N := 2816) (lhs m c) (rhs m c) ((win0_2.rect t).emb y 0) ((win0_2.rect t).emb y 1)
  rw [e1]
  refine Finset.sum_congr rfl fun k _ => congrArg₂ (· * ·) ((blk0 m c t _).trans (congrArg (lhs m c) ?_)) (blk1 m c t _)
  funext a
  apply Fin.ext
  match a with
  | ⟨0, _⟩ => exact e0.symm
  | ⟨1, _⟩ => rfl

end Cert.Kernel2Ideal.Mm

namespace Cert.Proof.Mm2

open Idealize.ShloMosaic Idealize.ShloMosaic.TcCoe Idealize.ShloMosaic.StableHlo Idealize.SL.Sem ValueIdx
open Cert.Mm

/-- The reference at an index. -/
theorem reference_apply (x0 : Cert.Reference2Ideal.S4096x1024.Idx → EReal) (x1 : Cert.Reference2Ideal.S2816x1024.Idx → EReal) (i : Cert.Reference2Ideal.S4096x2816.Idx) :
    Cert.Reference2Ideal.Read.val_main_v6 (F := Ideal) x0 x1 i = nt (M := 4096) (K := 1024) (N := 2816) x0 x1 (i 0) (i 1) := by
  rw [Cert.Reference2Ideal.Read.val_main_v6_apply]
  refine Finset.sum_congr rfl fun k _ => congrArg₂ (· * ·) (congrArg x0 ?_) (congrArg x1 ?_) <;>
  · funext a; fin_cases a <;> rfl

theorem frame_reference : Cert.quiescent_Reference2Ideal := by
  intro m ρ _
  exact (θ_run Cert.Reference2Ideal.defs _ _).mono (fun r h => ⟨fun c => (h c).2, sem_eq_zero_of_no_sems (by decide) r.2⟩)
    (Cert.Reference2Ideal.Value.run (F := Ideal) m ρ)

theorem algebraic : Cert.algebraic_Kernel2Ideal_Reference2Ideal := by
  intro m g m' g' _ ha
  refine ⟨fun c (i : Cert.Kernel2Ideal.S4096x2816.Idx) => nt (M := 4096) (K := 1024) (N := 2816) (Cert.Kernel2Ideal.Mm.lhs m c) (Cert.Kernel2Ideal.Mm.rhs m c) (i 0) (i 1), ?_, ?_⟩
  · refine (θ_run Cert.Kernel2Ideal.defs _ _).mono (fun r h c => ?_) (Cert.Kernel2Ideal.Value.run_blocks (F := Ideal) m g)
    obtain ⟨r2, hargs⟩ := h c
    exact ⟨r2.trans (funext fun i => Cert.Kernel2Ideal.Mm.res2 m c i), hargs⟩
  · refine (θ_run Cert.Reference2Ideal.defs _ _).mono (fun r h c => ?_) (Cert.Reference2Ideal.Value.run (F := Ideal) m' g')
    obtain ⟨r2, hargs⟩ := h c
    obtain ⟨a0, a1⟩ := ha c
    refine ⟨r2.trans ((Cert.Reference2Ideal.Read.val_main_v6_eq _ _).trans (funext fun i => ?_)), hargs⟩
    refine (reference_apply _ _ i).trans ?_
    rw [a0, a1]

end Cert.Proof.Mm2

end
-- ==== Proof.Mm3.lean ====
/- The gradient of the feed-forward output weights: the tiled product and its reference are the same sums. -/
module

public import proofs.«01_k».proof.Defs
public import proofs.«01_k».proof.Proof.Gen.Kernel3Ideal.Value
public import proofs.«01_k».proof.Proof.Gen.Reference3Ideal.Run
public import proofs.«01_k».proof.Proof.Gen.Reference3Ideal.Read
public import proofs.«01_k».proof.Proof.Mm

@[expose] public section

set_option maxRecDepth 16384

noncomputable section

namespace Cert.Kernel3Ideal.Mm

open Cert.Kernel3Ideal Cert.Kernel3Ideal.Gen Idealize.ShloMosaic Idealize.ShloMosaic.TcCoe Idealize.SL.Sem ValueIdx
open Cert.Mm

variable (m : (ℓ : Loc nD τ sig) → Buf (Elt Ideal) ℓ) (c : Dev nD)

theorem index0 : ∀ t : Fin cfg0.N, win0_0.index t = ![0, t.val] :=
  (by decide +kernel : ∀ t : Fin grid0.N, win0_0.index t = ![0, t.val])
theorem index1 : ∀ t : Fin cfg0.N, win0_1.index t = ![0, 0] :=
  (by decide +kernel : ∀ t : Fin grid0.N, win0_1.index t = ![0, 0])
theorem index2 : ∀ t : Fin cfg0.N, win0_2.index t = ![t.val, 0] :=
  (by decide +kernel : ∀ t : Fin grid0.N, win0_2.index t = ![t.val, 0])
theorem xsize2 : ∀ t : Fin cfg0.N, ∀ a, win0_2.xsize (grid0.coords t) a = S256x1024.size a :=
  (by decide +kernel : ∀ t : Fin grid0.N, ∀ a, win0_2.xsize (grid0.coords t) a = S256x1024.size a)

/-- The left operand. -/
abbrev lhs : S4096x2816.Idx → EReal := V m c main_arg0
/-- The right operand. -/
abbrev rhs : S4096x1024.Idx → EReal := V m c main_arg1

theorem blk0 (t : Fin cfg0.N) (j : S4096x256.Idx) : iblk m c 0 t j = lhs m c (ix2 (j 0) ⟨256 * t.val + (j 1).val, by have := t.isLt; have h0 : (j 1).val < 256 := (j 1).isLt; have hN : cfg0.N = 11 := N_0; omega⟩) := by
  have e0 : ((win0_0.rect t).emb j 0 : ℕ) = (j 0).val := by
    rw [Pipeline.Window.rect_emb_val win0_0 t j 0 rfl, index0]
    show 0 * 4096 + _ = _
    omega
  have e1 : ((win0_0.rect t).emb j 1 : ℕ) = 256 * t.val + (j 1).val := by
    rw [Pipeline.Window.rect_emb_val win0_0 t j 1 rfl, index0]
    show t.val * 256 + _ = _
    omega
  refine congrArg (lhs m c) (funext fun a => Fin.ext ?_)
  match a with
  | ⟨0, _⟩ => exact e0
  | ⟨1, _⟩ => exact e1

theorem blk1 (t : Fin cfg0.N) (j : S4096x1024.Idx) : iblk m c 1 t j = rhs m c j := by
  refine congrArg (rhs m c) (funext fun a => Fin.ext (Pipeline.Window.rect_emb_val_of_index_zero win0_1 t a ?_ j))
  rw [index1]
  fin_cases a <;> rfl

/-- One tile: the product of its blocks. -/
theorem tile (x0 : Vec Ideal S4096x256 .bf16) (x1 : Vec Ideal S4096x1024 .bf16) (j : S256x1024.Idx) :
    out0_2 x0 x1 j = tn (M := 256) (K := 4096) (N := 1024) x0 x1 (j 0) (j 1) := by
  unfold out0_2
  refine (congrFun (View.canon_cons_unit_zero (S := S256x1024) zero2 _ _ _) j).trans ?_
  rw [show View.ld x0 r0_0 = x0 from View.ld_unit_zero (S := S4096x256) zero2 _ x0, show View.ld x1 r0_1 = x1 from View.ld_unit_zero (S := S4096x1024) zero2 _ x1]
  refine (tn_matmul (M := 256) (K := 4096) (N := 1024) (φ₁ := .bf16) (φ₂ := .bf16) dot_S4096x256_S4096x1024_S256x1024_0_0_1_1_n_n_wf none x0 x1 (constant S256x1024 .f32 0x00000000#32) j).trans ?_
  rw [zero_constant, zero_add]

theorem mem2 (t : Fin cfg0.N) (i : S2816x1024.Idx) (h0 : t.val = (i 0).val / 256) : i ∈ ((cfg0.win 2).blk t).view.set := by
  show i ∈ ((View.whole main_v0).slice (win0_2.rect t)).set
  rw [View.set_slice_whole, Rect.mem_set_unit]
  intro a
  rw [xsize2]
  match a with
  | ⟨0, _⟩ =>
    show win0_2.index t 0 * 256 ≤ (i 0).val ∧ (i 0).val < win0_2.index t 0 * 256 + 256
    rw [index2]
    show t.val * 256 ≤ (i 0).val ∧ (i 0).val < t.val * 256 + 256
    omega
  | ⟨1, _⟩ =>
    have h1 : (i 1).val < 1024 := (i 1).isLt
    show win0_2.index t 1 * 1024 ≤ (i 1).val ∧ (i 1).val < win0_2.index t 1 * 1024 + 1024
    rw [index2]
    show 0 * 1024 ≤ (i 1).val ∧ (i 1).val < 0 * 1024 + 1024
    omega

/-- The whole result: the product of the operands. -/
theorem res2 (i : S2816x1024.Idx) : (dats m 0 c).arrAt 2 cfg0.N i = tn (M := 2816) (K := 4096) (N := 1024) (lhs m c) (rhs m c) (i 0) (i 1) := by
  have h0 : (i 0).val < 2816 := (i 0).isLt
  have hN : cfg0.N = 11 := N_0
  refine (dats m 0 c).arrAt_apply_of_mem 2 (fun i : S2816x1024.Idx => tn (M := 2816) (K := 4096) (N := 1024) (lhs m c) (rhs m c) (i 0) (i 1)) ?_ cfg0.N ⟨(i 0).val / 256, by omega⟩ i (by show (i 0).val / 256 < _; omega) (flush0_2 _) (mem2 _ i rfl)
  intro t _
  rw [Value.flushed2]
  funext y
  have e0 : ((win0_2.rect t).emb y 0 : ℕ) = 256 * t.val + (y 0).val := by
    rw [Pipeline.Window.rect_emb_val win0_2 t y 0 rfl, index2]
    show t.val * 256 + _ = _
    omega
  have e1 : (win0_2.rect t).emb y 1 = y 1 := by
    apply Fin.ext
    rw [Pipeline.Window.rect_emb_val win0_2 t y 1 rfl, index2]
    show 0 * 1024 + _ = _
    omega
  refine (tile (iblk m c 0 t) (iblk m c 1 t) y).trans ?_
  show _ = tn (M := 2816) (K := 4096) (N := 1024) (lhs m c) (rhs m c) ((win0_2.rect t).emb y 0) ((win0_2.rect t).emb y 1)
  rw [e1]
  refine Finset.sum_congr rfl fun k _ => congrArg₂ (· * ·) ((blk0 m c t _).trans (congrArg (lhs m c) ?_)) (blk1 m c t _)
  funext a
  apply Fin.ext
  match a with
  | ⟨0, _⟩ => rfl
  | ⟨1, _⟩ => exact e0.symm

end Cert.Kernel3Ideal.Mm

namespace Cert.Proof.Mm3

open Idealize.ShloMosaic Idealize.ShloMosaic.TcCoe Idealize.ShloMosaic.StableHlo Idealize.SL.Sem ValueIdx
open Cert.Mm

/-- The reference at an index. -/
theorem reference_apply (x0 : Cert.Reference3Ideal.S4096x2816.Idx → EReal) (x1 : Cert.Reference3Ideal.S4096x1024.Idx → EReal) (i : Cert.Reference3Ideal.S2816x1024.Idx) :
    Cert.Reference3Ideal.Read.val_main_v7 (F := Ideal) x0 x1 i = tn (M := 2816) (K := 4096) (N := 1024) x0 x1 (i 0) (i 1) := by
  rw [Cert.Reference3Ideal.Read.val_main_v7_apply, Ideal.truncf_def, Cert.Reference3Ideal.Read.val_main_v5_apply, Cert.Reference3Ideal.Read.val_main_v4_apply]
  refine Finset.sum_congr rfl fun k _ => ?_
  refine (mul_comm _ _).trans (congrArg₂ (· * ·) (congrArg x0 ?_) (congrArg x1 ?_)) <;>
  · funext a; fin_cases a <;> rfl

theorem frame_reference : Cert.quiescent_Reference3Ideal := by
  intro m ρ _
  exact (θ_run Cert.Reference3Ideal.defs _ _).mono (fun r h => ⟨fun c => (h c).2, sem_eq_zero_of_no_sems (by decide) r.2⟩)
    (Cert.Reference3Ideal.Value.run (F := Ideal) m ρ)

theorem algebraic : Cert.algebraic_Kernel3Ideal_Reference3Ideal := by
  intro m g m' g' _ ha
  refine ⟨fun c (i : Cert.Kernel3Ideal.S2816x1024.Idx) => tn (M := 2816) (K := 4096) (N := 1024) (Cert.Kernel3Ideal.Mm.lhs m c) (Cert.Kernel3Ideal.Mm.rhs m c) (i 0) (i 1), ?_, ?_⟩
  · refine (θ_run Cert.Kernel3Ideal.defs _ _).mono (fun r h c => ?_) (Cert.Kernel3Ideal.Value.run_blocks (F := Ideal) m g)
    obtain ⟨r2, hargs⟩ := h c
    exact ⟨r2.trans (funext fun i => Cert.Kernel3Ideal.Mm.res2 m c i), hargs⟩
  · refine (θ_run Cert.Reference3Ideal.defs _ _).mono (fun r h c => ?_) (Cert.Reference3Ideal.Value.run (F := Ideal) m' g')
    obtain ⟨r2, hargs⟩ := h c
    obtain ⟨a0, a1⟩ := ha c
    refine ⟨r2.trans ((Cert.Reference3Ideal.Read.val_main_v7_eq _ _).trans (funext fun i => ?_)), hargs⟩
    refine (reference_apply _ _ i).trans ?_
    rw [a0, a1]

end Cert.Proof.Mm3

end
-- ==== Proof.Mm4.lean ====
/- The gradient of the feed-forward input weights: the tiled product and its reference are the same sums. -/
module

public import proofs.«01_k».proof.Defs
public import proofs.«01_k».proof.Proof.Gen.Kernel4Ideal.Value
public import proofs.«01_k».proof.Proof.Gen.Reference4Ideal.Run
public import proofs.«01_k».proof.Proof.Gen.Reference4Ideal.Read
public import proofs.«01_k».proof.Proof.Mm

@[expose] public section

set_option maxRecDepth 16384

noncomputable section

namespace Cert.Kernel4Ideal.Mm

open Cert.Kernel4Ideal Cert.Kernel4Ideal.Gen Idealize.ShloMosaic Idealize.ShloMosaic.TcCoe Idealize.SL.Sem ValueIdx
open Cert.Mm

variable (m : (ℓ : Loc nD τ sig) → Buf (Elt Ideal) ℓ) (c : Dev nD)

theorem index0 : ∀ t : Fin cfg0.N, win0_0.index t = ![0, t.val] :=
  (by decide +kernel : ∀ t : Fin grid0.N, win0_0.index t = ![0, t.val])
theorem index1 : ∀ t : Fin cfg0.N, win0_1.index t = ![0, 0] :=
  (by decide +kernel : ∀ t : Fin grid0.N, win0_1.index t = ![0, 0])
theorem index2 : ∀ t : Fin cfg0.N, win0_2.index t = ![t.val, 0] :=
  (by decide +kernel : ∀ t : Fin grid0.N, win0_2.index t = ![t.val, 0])
theorem xsize2 : ∀ t : Fin cfg0.N, ∀ a, win0_2.xsize (grid0.coords t) a = S512x1024.size a :=
  (by decide +kernel : ∀ t : Fin grid0.N, ∀ a, win0_2.xsize (grid0.coords t) a = S512x1024.size a)

/-- The left operand. -/
abbrev lhs : S4096x5632.Idx → EReal := V m c main_arg0
/-- The right operand. -/
abbrev rhs : S4096x1024.Idx → EReal := V m c main_arg1

theorem blk0 (t : Fin cfg0.N) (j : S4096x512.Idx) : iblk m c 0 t j = lhs m c (ix2 (j 0) ⟨512 * t.val + (j 1).val, by have := t.isLt; have h0 : (j 1).val < 512 := (j 1).isLt; have hN : cfg0.N = 11 := N_0; omega⟩) := by
  have e0 : ((win0_0.rect t).emb j 0 : ℕ) = (j 0).val := by
    rw [Pipeline.Window.rect_emb_val win0_0 t j 0 rfl, index0]
    show 0 * 4096 + _ = _
    omega
  have e1 : ((win0_0.rect t).emb j 1 : ℕ) = 512 * t.val + (j 1).val := by
    rw [Pipeline.Window.rect_emb_val win0_0 t j 1 rfl, index0]
    show t.val * 512 + _ = _
    omega
  refine congrArg (lhs m c) (funext fun a => Fin.ext ?_)
  match a with
  | ⟨0, _⟩ => exact e0
  | ⟨1, _⟩ => exact e1

theorem blk1 (t : Fin cfg0.N) (j : S4096x1024.Idx) : iblk m c 1 t j = rhs m c j := by
  refine congrArg (rhs m c) (funext fun a => Fin.ext (Pipeline.Window.rect_emb_val_of_index_zero win0_1 t a ?_ j))
  rw [index1]
  fin_cases a <;> rfl

/-- One tile: the product of its blocks. -/
theorem tile (x0 : Vec Ideal S4096x512 .bf16) (x1 : Vec Ideal S4096x1024 .bf16) (j : S512x1024.Idx) :
    out0_2 x0 x1 j = tn (M := 512) (K := 4096) (N := 1024) x0 x1 (j 0) (j 1) := by
  unfold out0_2
  refine (congrFun (View.canon_cons_unit_zero (S := S512x1024) zero2 _ _ _) j).trans ?_
  rw [show View.ld x0 r0_0 = x0 from View.ld_unit_zero (S := S4096x512) zero2 _ x0, show View.ld x1 r0_1 = x1 from View.ld_unit_zero (S := S4096x1024) zero2 _ x1]
  refine (tn_matmul (M := 512) (K := 4096) (N := 1024) (φ₁ := .bf16) (φ₂ := .bf16) dot_S4096x512_S4096x1024_S512x1024_0_0_1_1_n_n_wf none x0 x1 (constant S512x1024 .f32 0x00000000#32) j).trans ?_
  rw [zero_constant, zero_add]

theorem mem2 (t : Fin cfg0.N) (i : S5632x1024.Idx) (h0 : t.val = (i 0).val / 512) : i ∈ ((cfg0.win 2).blk t).view.set := by
  show i ∈ ((View.whole main_v0).slice (win0_2.rect t)).set
  rw [View.set_slice_whole, Rect.mem_set_unit]
  intro a
  rw [xsize2]
  match a with
  | ⟨0, _⟩ =>
    show win0_2.index t 0 * 512 ≤ (i 0).val ∧ (i 0).val < win0_2.index t 0 * 512 + 512
    rw [index2]
    show t.val * 512 ≤ (i 0).val ∧ (i 0).val < t.val * 512 + 512
    omega
  | ⟨1, _⟩ =>
    have h1 : (i 1).val < 1024 := (i 1).isLt
    show win0_2.index t 1 * 1024 ≤ (i 1).val ∧ (i 1).val < win0_2.index t 1 * 1024 + 1024
    rw [index2]
    show 0 * 1024 ≤ (i 1).val ∧ (i 1).val < 0 * 1024 + 1024
    omega

/-- The whole result: the product of the operands. -/
theorem res2 (i : S5632x1024.Idx) : (dats m 0 c).arrAt 2 cfg0.N i = tn (M := 5632) (K := 4096) (N := 1024) (lhs m c) (rhs m c) (i 0) (i 1) := by
  have h0 : (i 0).val < 5632 := (i 0).isLt
  have hN : cfg0.N = 11 := N_0
  refine (dats m 0 c).arrAt_apply_of_mem 2 (fun i : S5632x1024.Idx => tn (M := 5632) (K := 4096) (N := 1024) (lhs m c) (rhs m c) (i 0) (i 1)) ?_ cfg0.N ⟨(i 0).val / 512, by omega⟩ i (by show (i 0).val / 512 < _; omega) (flush0_2 _) (mem2 _ i rfl)
  intro t _
  rw [Value.flushed2]
  funext y
  have e0 : ((win0_2.rect t).emb y 0 : ℕ) = 512 * t.val + (y 0).val := by
    rw [Pipeline.Window.rect_emb_val win0_2 t y 0 rfl, index2]
    show t.val * 512 + _ = _
    omega
  have e1 : (win0_2.rect t).emb y 1 = y 1 := by
    apply Fin.ext
    rw [Pipeline.Window.rect_emb_val win0_2 t y 1 rfl, index2]
    show 0 * 1024 + _ = _
    omega
  refine (tile (iblk m c 0 t) (iblk m c 1 t) y).trans ?_
  show _ = tn (M := 5632) (K := 4096) (N := 1024) (lhs m c) (rhs m c) ((win0_2.rect t).emb y 0) ((win0_2.rect t).emb y 1)
  rw [e1]
  refine Finset.sum_congr rfl fun k _ => congrArg₂ (· * ·) ((blk0 m c t _).trans (congrArg (lhs m c) ?_)) (blk1 m c t _)
  funext a
  apply Fin.ext
  match a with
  | ⟨0, _⟩ => rfl
  | ⟨1, _⟩ => exact e0.symm

end Cert.Kernel4Ideal.Mm

namespace Cert.Proof.Mm4

open Idealize.ShloMosaic Idealize.ShloMosaic.TcCoe Idealize.ShloMosaic.StableHlo Idealize.SL.Sem ValueIdx
open Cert.Mm

/-- The reference at an index. -/
theorem reference_apply (x0 : Cert.Reference4Ideal.S4096x5632.Idx → EReal) (x1 : Cert.Reference4Ideal.S4096x1024.Idx → EReal) (i : Cert.Reference4Ideal.S5632x1024.Idx) :
    Cert.Reference4Ideal.Read.val_main_v8 (F := Ideal) x0 x1 i = tn (M := 5632) (K := 4096) (N := 1024) x0 x1 (i 0) (i 1) := by
  rw [Cert.Reference4Ideal.Read.val_main_v8_apply, Ideal.truncf_def, Cert.Reference4Ideal.Read.val_main_v7_apply, Cert.Reference4Ideal.Read.val_main_v5_apply, Cert.Reference4Ideal.Read.val_main_v4_apply]
  refine Finset.sum_congr rfl fun k _ => congrArg₂ (· * ·) (congrArg x0 ?_) (congrArg x1 ?_) <;>
  · funext a; fin_cases a <;> rfl

theorem frame_reference : Cert.quiescent_Reference4Ideal := by
  intro m ρ _
  exact (θ_run Cert.Reference4Ideal.defs _ _).mono (fun r h => ⟨fun c => (h c).2, sem_eq_zero_of_no_sems (by decide) r.2⟩)
    (Cert.Reference4Ideal.Value.run (F := Ideal) m ρ)

theorem algebraic : Cert.algebraic_Kernel4Ideal_Reference4Ideal := by
  intro m g m' g' _ ha
  refine ⟨fun c (i : Cert.Kernel4Ideal.S5632x1024.Idx) => tn (M := 5632) (K := 4096) (N := 1024) (Cert.Kernel4Ideal.Mm.lhs m c) (Cert.Kernel4Ideal.Mm.rhs m c) (i 0) (i 1), ?_, ?_⟩
  · refine (θ_run Cert.Kernel4Ideal.defs _ _).mono (fun r h c => ?_) (Cert.Kernel4Ideal.Value.run_blocks (F := Ideal) m g)
    obtain ⟨r2, hargs⟩ := h c
    exact ⟨r2.trans (funext fun i => Cert.Kernel4Ideal.Mm.res2 m c i), hargs⟩
  · refine (θ_run Cert.Reference4Ideal.defs _ _).mono (fun r h c => ?_) (Cert.Reference4Ideal.Value.run (F := Ideal) m' g')
    obtain ⟨r2, hargs⟩ := h c
    obtain ⟨a0, a1⟩ := ha c
    refine ⟨r2.trans ((Cert.Reference4Ideal.Read.val_main_v8_eq _ _).trans (funext fun i => ?_)), hargs⟩
    refine (reference_apply _ _ i).trans ?_
    rw [a0, a1]

end Cert.Proof.Mm4

end
-- ==== Proof.Mm5.lean ====
/- The gradient of the mixed features behind the output projection: the tiled product and its reference are the same sums. -/
module

public import proofs.«01_k».proof.Defs
public import proofs.«01_k».proof.Proof.Gen.Kernel5Ideal.Value
public import proofs.«01_k».proof.Proof.Gen.Reference5Ideal.Run
public import proofs.«01_k».proof.Proof.Gen.Reference5Ideal.Read
public import proofs.«01_k».proof.Proof.Mm

@[expose] public section

set_option maxRecDepth 16384

noncomputable section

namespace Cert.Kernel5Ideal.Mm

open Cert.Kernel5Ideal Cert.Kernel5Ideal.Gen Idealize.ShloMosaic Idealize.ShloMosaic.TcCoe Idealize.SL.Sem ValueIdx
open Cert.Mm

variable (m : (ℓ : Loc nD τ sig) → Buf (Elt Ideal) ℓ) (c : Dev nD)

theorem index0 : ∀ t : Fin cfg0.N, win0_0.index t = ![t.val, 0] :=
  (by decide +kernel : ∀ t : Fin grid0.N, win0_0.index t = ![t.val, 0])
theorem index1 : ∀ t : Fin cfg0.N, win0_1.index t = ![0, 0] :=
  (by decide +kernel : ∀ t : Fin grid0.N, win0_1.index t = ![0, 0])
theorem index2 : ∀ t : Fin cfg0.N, win0_2.index t = ![t.val, 0] :=
  (by decide +kernel : ∀ t : Fin grid0.N, win0_2.index t = ![t.val, 0])
theorem xsize2 : ∀ t : Fin cfg0.N, ∀ a, win0_2.xsize (grid0.coords t) a = S1024x1024.size a :=
  (by decide +kernel : ∀ t : Fin grid0.N, ∀ a, win0_2.xsize (grid0.coords t) a = S1024x1024.size a)

/-- The left operand. -/
abbrev lhs : S4096x1024.Idx → EReal := V m c main_arg0
/-- The right operand. -/
abbrev rhs : S1024x1024.Idx → EReal := V m c main_arg1

theorem blk0 (t : Fin cfg0.N) (j : S1024x1024.Idx) : iblk m c 0 t j = lhs m c (ix2 ⟨1024 * t.val + (j 0).val, by have := t.isLt; have h0 : (j 0).val < 1024 := (j 0).isLt; have hN : cfg0.N = 4 := N_0; omega⟩ (j 1)) := by
  have e0 : ((win0_0.rect t).emb j 0 : ℕ) = 1024 * t.val + (j 0).val := by
    rw [Pipeline.Window.rect_emb_val win0_0 t j 0 rfl, index0]
    show t.val * 1024 + _ = _
    omega
  have e1 : ((win0_0.rect t).emb j 1 : ℕ) = (j 1).val := by
    rw [Pipeline.Window.rect_emb_val win0_0 t j 1 rfl, index0]
    show 0 * 1024 + _ = _
    omega
  refine congrArg (lhs m c) (funext fun a => Fin.ext ?_)
  match a with
  | ⟨0, _⟩ => exact e0
  | ⟨1, _⟩ => exact e1

theorem blk1 (t : Fin cfg0.N) (j : S1024x1024.Idx) : iblk m c 1 t j = rhs m c j := by
  refine congrArg (rhs m c) (funext fun a => Fin.ext (Pipeline.Window.rect_emb_val_of_index_zero win0_1 t a ?_ j))
  rw [index1]
  fin_cases a <;> rfl

/-- One tile: the product of its blocks. -/
theorem tile (x0 : Vec Ideal S1024x1024 .bf16) (x1 : Vec Ideal S1024x1024 .bf16) (j : S1024x1024.Idx) :
    out0_2 x0 x1 j = nt (M := 1024) (K := 1024) (N := 1024) x0 x1 (j 0) (j 1) := by
  unfold out0_2
  refine (congrFun (View.canon_cons_unit_zero (S := S1024x1024) zero2 _ _ _) j).trans ?_
  rw [show View.ld x0 r0_0 = x0 from View.ld_unit_zero (S := S1024x1024) zero2 _ x0, show View.ld x1 r0_0 = x1 from View.ld_unit_zero (S := S1024x1024) zero2 _ x1]
  refine (nt_matmul (M := 1024) (K := 1024) (N := 1024) (φ₁ := .bf16) (φ₂ := .bf16) dot_S1024x1024_S1024x1024_S1024x1024_1_1_0_0_n_n_wf none x0 x1 (constant S1024x1024 .f32 0x00000000#32) j).trans ?_
  rw [zero_constant, zero_add]

theorem mem2 (t : Fin cfg0.N) (i : S4096x1024.Idx) (h0 : t.val = (i 0).val / 1024) : i ∈ ((cfg0.win 2).blk t).view.set := by
  show i ∈ ((View.whole main_v0).slice (win0_2.rect t)).set
  rw [View.set_slice_whole, Rect.mem_set_unit]
  intro a
  rw [xsize2]
  match a with
  | ⟨0, _⟩ =>
    show win0_2.index t 0 * 1024 ≤ (i 0).val ∧ (i 0).val < win0_2.index t 0 * 1024 + 1024
    rw [index2]
    show t.val * 1024 ≤ (i 0).val ∧ (i 0).val < t.val * 1024 + 1024
    omega
  | ⟨1, _⟩ =>
    have h1 : (i 1).val < 1024 := (i 1).isLt
    show win0_2.index t 1 * 1024 ≤ (i 1).val ∧ (i 1).val < win0_2.index t 1 * 1024 + 1024
    rw [index2]
    show 0 * 1024 ≤ (i 1).val ∧ (i 1).val < 0 * 1024 + 1024
    omega

/-- The whole result: the product of the operands. -/
theorem res2 (i : S4096x1024.Idx) : (dats m 0 c).arrAt 2 cfg0.N i = nt (M := 4096) (K := 1024) (N := 1024) (lhs m c) (rhs m c) (i 0) (i 1) := by
  have h0 : (i 0).val < 4096 := (i 0).isLt
  have hN : cfg0.N = 4 := N_0
  refine (dats m 0 c).arrAt_apply_of_mem 2 (fun i : S4096x1024.Idx => nt (M := 4096) (K := 1024) (N := 1024) (lhs m c) (rhs m c) (i 0) (i 1)) ?_ cfg0.N ⟨(i 0).val / 1024, by omega⟩ i (by show (i 0).val / 1024 < _; omega) (flush0_2 _) (mem2 _ i rfl)
  intro t _
  rw [Value.flushed2]
  funext y
  have e0 : ((win0_2.rect t).emb y 0 : ℕ) = 1024 * t.val + (y 0).val := by
    rw [Pipeline.Window.rect_emb_val win0_2 t y 0 rfl, index2]
    show t.val * 1024 + _ = _
    omega
  have e1 : (win0_2.rect t).emb y 1 = y 1 := by
    apply Fin.ext
    rw [Pipeline.Window.rect_emb_val win0_2 t y 1 rfl, index2]
    show 0 * 1024 + _ = _
    omega
  refine (tile (iblk m c 0 t) (iblk m c 1 t) y).trans ?_
  show _ = nt (M := 4096) (K := 1024) (N := 1024) (lhs m c) (rhs m c) ((win0_2.rect t).emb y 0) ((win0_2.rect t).emb y 1)
  rw [e1]
  refine Finset.sum_congr rfl fun k _ => congrArg₂ (· * ·) ((blk0 m c t _).trans (congrArg (lhs m c) ?_)) (blk1 m c t _)
  funext a
  apply Fin.ext
  match a with
  | ⟨0, _⟩ => exact e0.symm
  | ⟨1, _⟩ => rfl

end Cert.Kernel5Ideal.Mm

namespace Cert.Proof.Mm5

open Idealize.ShloMosaic Idealize.ShloMosaic.TcCoe Idealize.ShloMosaic.StableHlo Idealize.SL.Sem ValueIdx
open Cert.Mm

/-- The reference at an index. -/
theorem reference_apply (x0 : Cert.Reference5Ideal.S4096x1024.Idx → EReal) (x1 : Cert.Reference5Ideal.S1024x1024.Idx → EReal) (i : Cert.Reference5Ideal.S4096x1024.Idx) :
    Cert.Reference5Ideal.Read.val_main_v6 (F := Ideal) x0 x1 i = nt (M := 4096) (K := 1024) (N := 1024) x0 x1 (i 0) (i 1) := by
  rw [Cert.Reference5Ideal.Read.val_main_v6_apply]
  refine Finset.sum_congr rfl fun k _ => congrArg₂ (· * ·) (congrArg x0 ?_) (congrArg x1 ?_) <;>
  · funext a; fin_cases a <;> rfl

theorem frame_reference : Cert.quiescent_Reference5Ideal := by
  intro m ρ _
  exact (θ_run Cert.Reference5Ideal.defs _ _).mono (fun r h => ⟨fun c => (h c).2, sem_eq_zero_of_no_sems (by decide) r.2⟩)
    (Cert.Reference5Ideal.Value.run (F := Ideal) m ρ)

theorem algebraic : Cert.algebraic_Kernel5Ideal_Reference5Ideal := by
  intro m g m' g' _ ha
  refine ⟨fun c (i : Cert.Kernel5Ideal.S4096x1024.Idx) => nt (M := 4096) (K := 1024) (N := 1024) (Cert.Kernel5Ideal.Mm.lhs m c) (Cert.Kernel5Ideal.Mm.rhs m c) (i 0) (i 1), ?_, ?_⟩
  · refine (θ_run Cert.Kernel5Ideal.defs _ _).mono (fun r h c => ?_) (Cert.Kernel5Ideal.Value.run_blocks (F := Ideal) m g)
    obtain ⟨r2, hargs⟩ := h c
    exact ⟨r2.trans (funext fun i => Cert.Kernel5Ideal.Mm.res2 m c i), hargs⟩
  · refine (θ_run Cert.Reference5Ideal.defs _ _).mono (fun r h c => ?_) (Cert.Reference5Ideal.Value.run (F := Ideal) m' g')
    obtain ⟨r2, hargs⟩ := h c
    obtain ⟨a0, a1⟩ := ha c
    refine ⟨r2.trans ((Cert.Reference5Ideal.Read.val_main_v6_eq _ _).trans (funext fun i => ?_)), hargs⟩
    refine (reference_apply _ _ i).trans ?_
    rw [a0, a1]

end Cert.Proof.Mm5

end
-- ==== Proof.Mm6.lean ====
/- The gradient of the output projection weights: the tiled product and its reference are the same sums. -/
module

public import proofs.«01_k».proof.Defs
public import proofs.«01_k».proof.Proof.Gen.Kernel6Ideal.Value
public import proofs.«01_k».proof.Proof.Gen.Reference6Ideal.Run
public import proofs.«01_k».proof.Proof.Gen.Reference6Ideal.Read
public import proofs.«01_k».proof.Proof.Mm

@[expose] public section

set_option maxRecDepth 16384

noncomputable section

namespace Cert.Kernel6Ideal.Mm

open Cert.Kernel6Ideal Cert.Kernel6Ideal.Gen Idealize.ShloMosaic Idealize.ShloMosaic.TcCoe Idealize.SL.Sem ValueIdx
open Cert.Mm

variable (m : (ℓ : Loc nD τ sig) → Buf (Elt Ideal) ℓ) (c : Dev nD)

theorem index0 : ∀ t : Fin cfg0.N, win0_0.index t = ![0, t.val] :=
  (by decide +kernel : ∀ t : Fin grid0.N, win0_0.index t = ![0, t.val])
theorem index1 : ∀ t : Fin cfg0.N, win0_1.index t = ![0, 0] :=
  (by decide +kernel : ∀ t : Fin grid0.N, win0_1.index t = ![0, 0])
theorem index2 : ∀ t : Fin cfg0.N, win0_2.index t = ![t.val, 0] :=
  (by decide +kernel : ∀ t : Fin grid0.N, win0_2.index t = ![t.val, 0])
theorem xsize2 : ∀ t : Fin cfg0.N, ∀ a, win0_2.xsize (grid0.coords t) a = S512x1024.size a :=
  (by decide +kernel : ∀ t : Fin grid0.N, ∀ a, win0_2.xsize (grid0.coords t) a = S512x1024.size a)

/-- The left operand. -/
abbrev lhs : S4096x1024.Idx → EReal := V m c main_arg0
/-- The right operand. -/
abbrev rhs : S4096x1024.Idx → EReal := V m c main_arg1

theorem blk0 (t : Fin cfg0.N) (j : S4096x512.Idx) : iblk m c 0 t j = lhs m c (ix2 (j 0) ⟨512 * t.val + (j 1).val, by have := t.isLt; have h0 : (j 1).val < 512 := (j 1).isLt; have hN : cfg0.N = 2 := N_0; omega⟩) := by
  have e0 : ((win0_0.rect t).emb j 0 : ℕ) = (j 0).val := by
    rw [Pipeline.Window.rect_emb_val win0_0 t j 0 rfl, index0]
    show 0 * 4096 + _ = _
    omega
  have e1 : ((win0_0.rect t).emb j 1 : ℕ) = 512 * t.val + (j 1).val := by
    rw [Pipeline.Window.rect_emb_val win0_0 t j 1 rfl, index0]
    show t.val * 512 + _ = _
    omega
  refine congrArg (lhs m c) (funext fun a => Fin.ext ?_)
  match a with
  | ⟨0, _⟩ => exact e0
  | ⟨1, _⟩ => exact e1

theorem blk1 (t : Fin cfg0.N) (j : S4096x1024.Idx) : iblk m c 1 t j = rhs m c j := by
  refine congrArg (rhs m c) (funext fun a => Fin.ext (Pipeline.Window.rect_emb_val_of_index_zero win0_1 t a ?_ j))
  rw [index1]
  fin_cases a <;> rfl

/-- One tile: the product of its blocks. -/
theorem tile (x0 : Vec Ideal S4096x512 .bf16) (x1 : Vec Ideal S4096x1024 .bf16) (j : S512x1024.Idx) :
    out0_2 x0 x1 j = tn (M := 512) (K := 4096) (N := 1024) x0 x1 (j 0) (j 1) := by
  unfold out0_2
  refine (congrFun (View.canon_cons_unit_zero (S := S512x1024) zero2 _ _ _) j).trans ?_
  rw [show View.ld x0 r0_0 = x0 from View.ld_unit_zero (S := S4096x512) zero2 _ x0, show View.ld x1 r0_1 = x1 from View.ld_unit_zero (S := S4096x1024) zero2 _ x1]
  refine (tn_matmul (M := 512) (K := 4096) (N := 1024) (φ₁ := .bf16) (φ₂ := .bf16) dot_S4096x512_S4096x1024_S512x1024_0_0_1_1_n_n_wf none x0 x1 (constant S512x1024 .f32 0x00000000#32) j).trans ?_
  rw [zero_constant, zero_add]

theorem mem2 (t : Fin cfg0.N) (i : S1024x1024.Idx) (h0 : t.val = (i 0).val / 512) : i ∈ ((cfg0.win 2).blk t).view.set := by
  show i ∈ ((View.whole main_v0).slice (win0_2.rect t)).set
  rw [View.set_slice_whole, Rect.mem_set_unit]
  intro a
  rw [xsize2]
  match a with
  | ⟨0, _⟩ =>
    show win0_2.index t 0 * 512 ≤ (i 0).val ∧ (i 0).val < win0_2.index t 0 * 512 + 512
    rw [index2]
    show t.val * 512 ≤ (i 0).val ∧ (i 0).val < t.val * 512 + 512
    omega
  | ⟨1, _⟩ =>
    have h1 : (i 1).val < 1024 := (i 1).isLt
    show win0_2.index t 1 * 1024 ≤ (i 1).val ∧ (i 1).val < win0_2.index t 1 * 1024 + 1024
    rw [index2]
    show 0 * 1024 ≤ (i 1).val ∧ (i 1).val < 0 * 1024 + 1024
    omega

/-- The whole result: the product of the operands. -/
theorem res2 (i : S1024x1024.Idx) : (dats m 0 c).arrAt 2 cfg0.N i = tn (M := 1024) (K := 4096) (N := 1024) (lhs m c) (rhs m c) (i 0) (i 1) := by
  have h0 : (i 0).val < 1024 := (i 0).isLt
  have hN : cfg0.N = 2 := N_0
  refine (dats m 0 c).arrAt_apply_of_mem 2 (fun i : S1024x1024.Idx => tn (M := 1024) (K := 4096) (N := 1024) (lhs m c) (rhs m c) (i 0) (i 1)) ?_ cfg0.N ⟨(i 0).val / 512, by omega⟩ i (by show (i 0).val / 512 < _; omega) (flush0_2 _) (mem2 _ i rfl)
  intro t _
  rw [Value.flushed2]
  funext y
  have e0 : ((win0_2.rect t).emb y 0 : ℕ) = 512 * t.val + (y 0).val := by
    rw [Pipeline.Window.rect_emb_val win0_2 t y 0 rfl, index2]
    show t.val * 512 + _ = _
    omega
  have e1 : (win0_2.rect t).emb y 1 = y 1 := by
    apply Fin.ext
    rw [Pipeline.Window.rect_emb_val win0_2 t y 1 rfl, index2]
    show 0 * 1024 + _ = _
    omega
  refine (tile (iblk m c 0 t) (iblk m c 1 t) y).trans ?_
  show _ = tn (M := 1024) (K := 4096) (N := 1024) (lhs m c) (rhs m c) ((win0_2.rect t).emb y 0) ((win0_2.rect t).emb y 1)
  rw [e1]
  refine Finset.sum_congr rfl fun k _ => congrArg₂ (· * ·) ((blk0 m c t _).trans (congrArg (lhs m c) ?_)) (blk1 m c t _)
  funext a
  apply Fin.ext
  match a with
  | ⟨0, _⟩ => rfl
  | ⟨1, _⟩ => exact e0.symm

end Cert.Kernel6Ideal.Mm

namespace Cert.Proof.Mm6

open Idealize.ShloMosaic Idealize.ShloMosaic.TcCoe Idealize.ShloMosaic.StableHlo Idealize.SL.Sem ValueIdx
open Cert.Mm

/-- The reference at an index. -/
theorem reference_apply (x0 : Cert.Reference6Ideal.S4096x1024.Idx → EReal) (x1 : Cert.Reference6Ideal.S4096x1024.Idx → EReal) (i : Cert.Reference6Ideal.S1024x1024.Idx) :
    Cert.Reference6Ideal.Read.val_main_v7 (F := Ideal) x0 x1 i = tn (M := 1024) (K := 4096) (N := 1024) x0 x1 (i 0) (i 1) := by
  rw [Cert.Reference6Ideal.Read.val_main_v7_apply, Ideal.truncf_def, Cert.Reference6Ideal.Read.val_main_v5_apply, Cert.Reference6Ideal.Read.val_main_v4_apply]
  refine Finset.sum_congr rfl fun k _ => ?_
  refine (mul_comm _ _).trans (congrArg₂ (· * ·) (congrArg x0 ?_) (congrArg x1 ?_)) <;>
  · funext a; fin_cases a <;> rfl

theorem frame_reference : Cert.quiescent_Reference6Ideal := by
  intro m ρ _
  exact (θ_run Cert.Reference6Ideal.defs _ _).mono (fun r h => ⟨fun c => (h c).2, sem_eq_zero_of_no_sems (by decide) r.2⟩)
    (Cert.Reference6Ideal.Value.run (F := Ideal) m ρ)

theorem algebraic : Cert.algebraic_Kernel6Ideal_Reference6Ideal := by
  intro m g m' g' _ ha
  refine ⟨fun c (i : Cert.Kernel6Ideal.S1024x1024.Idx) => tn (M := 1024) (K := 4096) (N := 1024) (Cert.Kernel6Ideal.Mm.lhs m c) (Cert.Kernel6Ideal.Mm.rhs m c) (i 0) (i 1), ?_, ?_⟩
  · refine (θ_run Cert.Kernel6Ideal.defs _ _).mono (fun r h c => ?_) (Cert.Kernel6Ideal.Value.run_blocks (F := Ideal) m g)
    obtain ⟨r2, hargs⟩ := h c
    exact ⟨r2.trans (funext fun i => Cert.Kernel6Ideal.Mm.res2 m c i), hargs⟩
  · refine (θ_run Cert.Reference6Ideal.defs _ _).mono (fun r h c => ?_) (Cert.Reference6Ideal.Value.run (F := Ideal) m' g')
    obtain ⟨r2, hargs⟩ := h c
    obtain ⟨a0, a1⟩ := ha c
    refine ⟨r2.trans ((Cert.Reference6Ideal.Read.val_main_v7_eq _ _).trans (funext fun i => ?_)), hargs⟩
    refine (reference_apply _ _ i).trans ?_
    rw [a0, a1]

end Cert.Proof.Mm6

end
-- ==== Proof.Mm7.lean ====
/- The gradient of the input projection weights: the tiled product and its reference are the same sums. -/
module

public import proofs.«01_k».proof.Defs
public import proofs.«01_k».proof.Proof.Gen.Kernel7Ideal.Value
public import proofs.«01_k».proof.Proof.Gen.Reference7Ideal.Run
public import proofs.«01_k».proof.Proof.Gen.Reference7Ideal.Read
public import proofs.«01_k».proof.Proof.Mm

@[expose] public section

set_option maxRecDepth 16384

noncomputable section

namespace Cert.Kernel7Ideal.Mm

open Cert.Kernel7Ideal Cert.Kernel7Ideal.Gen Idealize.ShloMosaic Idealize.ShloMosaic.TcCoe Idealize.SL.Sem ValueIdx
open Cert.Mm

variable (m : (ℓ : Loc nD τ sig) → Buf (Elt Ideal) ℓ) (c : Dev nD)

theorem index0 : ∀ t : Fin cfg0.N, win0_0.index t = ![0, t.val] :=
  (by decide +kernel : ∀ t : Fin grid0.N, win0_0.index t = ![0, t.val])
theorem index1 : ∀ t : Fin cfg0.N, win0_1.index t = ![0, 0] :=
  (by decide +kernel : ∀ t : Fin grid0.N, win0_1.index t = ![0, 0])
theorem index2 : ∀ t : Fin cfg0.N, win0_2.index t = ![t.val, 0] :=
  (by decide +kernel : ∀ t : Fin grid0.N, win0_2.index t = ![t.val, 0])
theorem xsize2 : ∀ t : Fin cfg0.N, ∀ a, win0_2.xsize (grid0.coords t) a = S640x1024.size a :=
  (by decide +kernel : ∀ t : Fin grid0.N, ∀ a, win0_2.xsize (grid0.coords t) a = S640x1024.size a)

/-- The left operand. -/
abbrev lhs : S4096x3200.Idx → EReal := V m c main_arg0
/-- The right operand. -/
abbrev rhs : S4096x1024.Idx → EReal := V m c main_arg1

theorem blk0 (t : Fin cfg0.N) (j : S4096x640.Idx) : iblk m c 0 t j = lhs m c (ix2 (j 0) ⟨640 * t.val + (j 1).val, by have := t.isLt; have h0 : (j 1).val < 640 := (j 1).isLt; have hN : cfg0.N = 5 := N_0; omega⟩) := by
  have e0 : ((win0_0.rect t).emb j 0 : ℕ) = (j 0).val := by
    rw [Pipeline.Window.rect_emb_val win0_0 t j 0 rfl, index0]
    show 0 * 4096 + _ = _
    omega
  have e1 : ((win0_0.rect t).emb j 1 : ℕ) = 640 * t.val + (j 1).val := by
    rw [Pipeline.Window.rect_emb_val win0_0 t j 1 rfl, index0]
    show t.val * 640 + _ = _
    omega
  refine congrArg (lhs m c) (funext fun a => Fin.ext ?_)
  match a with
  | ⟨0, _⟩ => exact e0
  | ⟨1, _⟩ => exact e1

theorem blk1 (t : Fin cfg0.N) (j : S4096x1024.Idx) : iblk m c 1 t j = rhs m c j := by
  refine congrArg (rhs m c) (funext fun a => Fin.ext (Pipeline.Window.rect_emb_val_of_index_zero win0_1 t a ?_ j))
  rw [index1]
  fin_cases a <;> rfl

/-- One tile: the product of its blocks. -/
theorem tile (x0 : Vec Ideal S4096x640 .bf16) (x1 : Vec Ideal S4096x1024 .bf16) (j : S640x1024.Idx) :
    out0_2 x0 x1 j = tn (M := 640) (K := 4096) (N := 1024) x0 x1 (j 0) (j 1) := by
  unfold out0_2
  refine (congrFun (View.canon_cons_unit_zero (S := S640x1024) zero2 _ _ _) j).trans ?_
  rw [show View.ld x0 r0_0 = x0 from View.ld_unit_zero (S := S4096x640) zero2 _ x0, show View.ld x1 r0_1 = x1 from View.ld_unit_zero (S := S4096x1024) zero2 _ x1]
  refine (tn_matmul (M := 640) (K := 4096) (N := 1024) (φ₁ := .bf16) (φ₂ := .bf16) dot_S4096x640_S4096x1024_S640x1024_0_0_1_1_n_n_wf none x0 x1 (constant S640x1024 .f32 0x00000000#32) j).trans ?_
  rw [zero_constant, zero_add]

theorem mem2 (t : Fin cfg0.N) (i : S3200x1024.Idx) (h0 : t.val = (i 0).val / 640) : i ∈ ((cfg0.win 2).blk t).view.set := by
  show i ∈ ((View.whole main_v0).slice (win0_2.rect t)).set
  rw [View.set_slice_whole, Rect.mem_set_unit]
  intro a
  rw [xsize2]
  match a with
  | ⟨0, _⟩ =>
    show win0_2.index t 0 * 640 ≤ (i 0).val ∧ (i 0).val < win0_2.index t 0 * 640 + 640
    rw [index2]
    show t.val * 640 ≤ (i 0).val ∧ (i 0).val < t.val * 640 + 640
    omega
  | ⟨1, _⟩ =>
    have h1 : (i 1).val < 1024 := (i 1).isLt
    show win0_2.index t 1 * 1024 ≤ (i 1).val ∧ (i 1).val < win0_2.index t 1 * 1024 + 1024
    rw [index2]
    show 0 * 1024 ≤ (i 1).val ∧ (i 1).val < 0 * 1024 + 1024
    omega

/-- The whole result: the product of the operands. -/
theorem res2 (i : S3200x1024.Idx) : (dats m 0 c).arrAt 2 cfg0.N i = tn (M := 3200) (K := 4096) (N := 1024) (lhs m c) (rhs m c) (i 0) (i 1) := by
  have h0 : (i 0).val < 3200 := (i 0).isLt
  have hN : cfg0.N = 5 := N_0
  refine (dats m 0 c).arrAt_apply_of_mem 2 (fun i : S3200x1024.Idx => tn (M := 3200) (K := 4096) (N := 1024) (lhs m c) (rhs m c) (i 0) (i 1)) ?_ cfg0.N ⟨(i 0).val / 640, by omega⟩ i (by show (i 0).val / 640 < _; omega) (flush0_2 _) (mem2 _ i rfl)
  intro t _
  rw [Value.flushed2]
  funext y
  have e0 : ((win0_2.rect t).emb y 0 : ℕ) = 640 * t.val + (y 0).val := by
    rw [Pipeline.Window.rect_emb_val win0_2 t y 0 rfl, index2]
    show t.val * 640 + _ = _
    omega
  have e1 : (win0_2.rect t).emb y 1 = y 1 := by
    apply Fin.ext
    rw [Pipeline.Window.rect_emb_val win0_2 t y 1 rfl, index2]
    show 0 * 1024 + _ = _
    omega
  refine (tile (iblk m c 0 t) (iblk m c 1 t) y).trans ?_
  show _ = tn (M := 3200) (K := 4096) (N := 1024) (lhs m c) (rhs m c) ((win0_2.rect t).emb y 0) ((win0_2.rect t).emb y 1)
  rw [e1]
  refine Finset.sum_congr rfl fun k _ => congrArg₂ (· * ·) ((blk0 m c t _).trans (congrArg (lhs m c) ?_)) (blk1 m c t _)
  funext a
  apply Fin.ext
  match a with
  | ⟨0, _⟩ => rfl
  | ⟨1, _⟩ => exact e0.symm

end Cert.Kernel7Ideal.Mm

namespace Cert.Proof.Mm7

open Idealize.ShloMosaic Idealize.ShloMosaic.TcCoe Idealize.ShloMosaic.StableHlo Idealize.SL.Sem ValueIdx
open Cert.Mm

/-- The reference at an index. -/
theorem reference_apply (x0 : Cert.Reference7Ideal.S4096x3200.Idx → EReal) (x1 : Cert.Reference7Ideal.S4096x1024.Idx → EReal) (i : Cert.Reference7Ideal.S3200x1024.Idx) :
    Cert.Reference7Ideal.Read.val_main_v8 (F := Ideal) x0 x1 i = tn (M := 3200) (K := 4096) (N := 1024) x0 x1 (i 0) (i 1) := by
  rw [Cert.Reference7Ideal.Read.val_main_v8_apply, Ideal.truncf_def, Cert.Reference7Ideal.Read.val_main_v7_apply, Cert.Reference7Ideal.Read.val_main_v5_apply, Cert.Reference7Ideal.Read.val_main_v4_apply]
  refine Finset.sum_congr rfl fun k _ => congrArg₂ (· * ·) (congrArg x0 ?_) (congrArg x1 ?_) <;>
  · funext a; fin_cases a <;> rfl

theorem frame_reference : Cert.quiescent_Reference7Ideal := by
  intro m ρ _
  exact (θ_run Cert.Reference7Ideal.defs _ _).mono (fun r h => ⟨fun c => (h c).2, sem_eq_zero_of_no_sems (by decide) r.2⟩)
    (Cert.Reference7Ideal.Value.run (F := Ideal) m ρ)

theorem algebraic : Cert.algebraic_Kernel7Ideal_Reference7Ideal := by
  intro m g m' g' _ ha
  refine ⟨fun c (i : Cert.Kernel7Ideal.S3200x1024.Idx) => tn (M := 3200) (K := 4096) (N := 1024) (Cert.Kernel7Ideal.Mm.lhs m c) (Cert.Kernel7Ideal.Mm.rhs m c) (i 0) (i 1), ?_, ?_⟩
  · refine (θ_run Cert.Kernel7Ideal.defs _ _).mono (fun r h c => ?_) (Cert.Kernel7Ideal.Value.run_blocks (F := Ideal) m g)
    obtain ⟨r2, hargs⟩ := h c
    exact ⟨r2.trans (funext fun i => Cert.Kernel7Ideal.Mm.res2 m c i), hargs⟩
  · refine (θ_run Cert.Reference7Ideal.defs _ _).mono (fun r h c => ?_) (Cert.Reference7Ideal.Value.run (F := Ideal) m' g')
    obtain ⟨r2, hargs⟩ := h c
    obtain ⟨a0, a1⟩ := ha c
    refine ⟨r2.trans ((Cert.Reference7Ideal.Read.val_main_v8_eq _ _).trans (funext fun i => ?_)), hargs⟩
    refine (reference_apply _ _ i).trans ?_
    rw [a0, a1]

end Cert.Proof.Mm7

end
-- ==== Proof.Norm.lean ====
/- The root-mean-square normalisation of a row, over the extended reals. -/
module

public import proofs.«01_k».proof.Proof.Mm
public import Idealize.ShloMosaic.Lib.Pointwise

@[expose] public section

noncomputable section

namespace Cert.Norm

open Idealize.ShloMosaic

/-- One over the root of the mean square of a row, the mean taken with the small constant added. -/
def rstd (f : Fin 1024 → EReal) : EReal :=
  Ideal.rsqrt (Ideal.div (∑ k, f k * f k) (FloatOps.ofBits (F := Ideal) .f32 0x44800000#32) + FloatOps.ofBits (F := Ideal) .f32 0x358637BD#32)

/-- Row `r` of an array. -/
def row {M : ℕ} (x : (⟨2, ![M, 1024]⟩ : Shape).Idx → EReal) (r : Fin M) : Fin 1024 → EReal := fun k => x (ValueIdx.ix2 r k)

/-- The normalised row, scaled by the gain. -/
def normed {M : ℕ} (x : (⟨2, ![M, 1024]⟩ : Shape).Idx → EReal) (g : (⟨2, ![1, 1024]⟩ : Shape).Idx → EReal) (r : Fin M) (k : Fin 1024) : EReal :=
  row x r k * rstd (row x r) * g (ValueIdx.ix2 0 k)

/-- Under two writes, a place of the earlier one which the later one leaves alone holds the earlier payload. -/
theorem canon_two {Val : EltTy → Type} {s : Shape} {e : EltTy} [∀ e, Nonempty (Val e)] (r r' : Rect s) (w : r.shape.Idx → Val e) (w' : r'.shape.Idx → Val e) (x : r'.shape.Idx) (y : s.Idx)
    (hy : y = r'.emb x) (h : y ∉ r.set) : View.canon [⟨r, w⟩, ⟨r', w'⟩] y = w' x :=
  (View.canon_cons_of_not_mem ⟨r, w⟩ _ h).trans (hy ▸ View.canon_cons_emb r' w' [] x)

/-- Under two writes, a place of the later one holds the later payload. -/
theorem canon_last {Val : EltTy → Type} {s : Shape} {e : EltTy} [∀ e, Nonempty (Val e)] (r r' : Rect s) (w : r.shape.Idx → Val e) (w' : r'.shape.Idx → Val e) (x : r.shape.Idx) (y : s.Idx)
    (hy : y = r.emb x) : View.canon [⟨r, w⟩, ⟨r', w'⟩] y = w x :=
  hy ▸ View.canon_cons_emb r w _ x

theorem inbZero (M N : ℕ) : ∀ a, (![0, 0] : Fin (⟨2, ![M, N]⟩ : Shape).rank → ℕ) a + (⟨2, ![M, N]⟩ : Shape).size a ≤ (⟨2, ![M, N]⟩ : Shape).size a := by
  intro a; fin_cases a <;> exact (Nat.zero_add _).le

section
variable {sig : RefSig} {k : Kind} {sp : Space} {M N : ℕ} {e : EltTy} {a : Memref sig k sp ⟨2, ![M, N]⟩ e}

/-- A load of a whole buffer which holds `X`. -/
abbrev whole (h : a.IsWhole) (X : Vec Ideal ⟨2, ![M, N]⟩ e) : Vec Ideal ⟨2, ![M, N]⟩ e :=
  View.readAt (Elt Ideal) a.view (Rect.unit (s := ⟨2, ![M, N]⟩) ![0, 0] (⟨2, ![M, N]⟩ : Shape).size (inbZero M N)).toLoadRect (h.unread X)

theorem whole_eq (h : a.IsWhole) (X : Vec Ideal ⟨2, ![M, N]⟩ e) : whole h X = X := by
  refine (View.readAt_eq_ld ..).trans ?_
  rw [h.read_unread]
  exact View.ld_unit_zero (S := ⟨2, ![M, N]⟩) Cert.Mm.zero2 _ X

end

end Cert.Norm

end
-- ==== Proof.NormGrad.lean ====
/- The gradient of the root-mean-square normalisation at one row: the factored form and the one of the chain rule agree,
whatever the row holds. Where an entry is infinite the row's factor is zero and both are zero. -/
module

public import proofs.«01_k».proof.Proof.Norm

@[expose] public section

noncomputable section

namespace Cert.Norm

open Idealize.ShloMosaic

theorem len_real : Ideal.ofBits .f32 0x44800000#32 = ((1024 : ℝ) : EReal) := by
  simp [Ideal.ofBits, Ideal.ieee]; rw [← EReal.coe_mul]; norm_num
theorem half_real : Ideal.ofBits .f32 0xBF000000#32 = ((-(1 / 2) : ℝ) : EReal) := by
  simp [Ideal.ofBits, Ideal.ieee, -EReal.coe_mul]; norm_num
theorem small_real : ∃ e : ℝ, 0 < e ∧ Ideal.ofBits .f32 0x358637BD#32 = (e : EReal) := by
  refine ⟨8796093 / 8796093022208, by norm_num, ?_⟩
  simp [Ideal.ofBits, Ideal.ieee]; rw [← EReal.coe_mul]; norm_num

theorem coe_total {n : ℕ} (f : Fin n → ℝ) : (∑ k, (f k : EReal)) = ((∑ k, f k : ℝ) : EReal) := by
  induction n with
  | zero => simp
  | succ n ih => rw [Fin.sum_univ_succ, Fin.sum_univ_succ, EReal.coe_add, ih]

/-- A real factor which is not negative comes out of a sum. -/
theorem total_mul {n : ℕ} (f : Fin n → EReal) {r : ℝ} (h : 0 ≤ r) : (∑ k, f k * (r : EReal)) = (∑ k, f k) * (r : EReal) := by
  have h' : (0 : EReal) ≤ (r : EReal) := EReal.coe_nonneg.mpr h
  induction n with
  | zero => simp
  | succ n ih => rw [Fin.sum_univ_succ, Fin.sum_univ_succ, EReal.right_distrib_of_nonneg_of_ne_top h' (EReal.coe_ne_top r), ih]

theorem twice (a : EReal) : a + a = ((2 : ℝ) : EReal) * a := by
  induction a with
  | bot => rw [EReal.coe_mul_bot_of_pos (by norm_num)]; rfl
  | coe a => rw [← EReal.coe_add, ← EReal.coe_mul]; congr 1; ring
  | top => rw [EReal.coe_mul_top_of_pos (by norm_num)]; rfl

theorem square_nonneg (a : EReal) : 0 ≤ a * a := by
  induction a with
  | bot => rw [EReal.bot_mul_bot]; exact le_top
  | coe a => rw [← EReal.coe_mul]; exact EReal.coe_nonneg.mpr (mul_self_nonneg a)
  | top => rw [EReal.top_mul_top]; exact le_top

/-- The mean square of a row, with the small constant. -/
def var (f : Fin 1024 → EReal) : EReal :=
  Ideal.div (∑ k, f k * f k) (FloatOps.ofBits (F := Ideal) .f32 0x44800000#32) + FloatOps.ofBits (F := Ideal) .f32 0x358637BD#32

theorem rstd_eq (f : Fin 1024 → EReal) : rstd f = Ideal.rsqrt (var f) := rfl

/-- A row of reals: its mean square is a positive real, and so is its factor, whose square is one over it. -/
theorem row_real (y : Fin 1024 → ℝ) : ∃ v r : ℝ, 0 < v ∧ 0 < r ∧ r * r = 1 / v ∧ var (fun k => (y k : EReal)) = (v : EReal) ∧ rstd (fun k => (y k : EReal)) = (r : EReal) := by
  obtain ⟨e, he, hb⟩ := small_real
  have hs : (0 : ℝ) ≤ ∑ k, y k * y k := Finset.sum_nonneg fun k _ => mul_self_nonneg (y k)
  have hv : 0 < (∑ k, y k * y k) * (1 / 1024) + e := by positivity
  have h1 : var (fun k => (y k : EReal)) = (((∑ k, y k * y k) * (1 / 1024) + e : ℝ) : EReal) := by
    unfold var
    rw [Ideal.ofBits_def, Ideal.ofBits_def, len_real, hb, Ideal.div_coe (by norm_num)]
    rw [EReal.coe_add, EReal.coe_mul, ← coe_total]
    exact congrArg (fun a : EReal => a * ((1 / 1024 : ℝ) : EReal) + (e : EReal)) (Finset.sum_congr rfl fun k _ => (EReal.coe_mul _ _).symm)
  refine ⟨_, (Real.sqrt ((∑ k, y k * y k) * (1 / 1024) + e))⁻¹, hv, inv_pos.mpr (Real.sqrt_pos.mpr hv), ?_, h1, ?_⟩
  · rw [← mul_inv, Real.mul_self_sqrt hv.le]
    exact (one_div _).symm
  · rw [rstd_eq, h1, Ideal.rsqrt_coe, if_neg (not_lt.mpr hv.le), if_neg hv.ne']

/-- A row with an infinite entry: its mean square is infinite and its factor zero. -/
theorem row_infinite (x : Fin 1024 → EReal) (k : Fin 1024) (h : x k = ⊤ ∨ x k = ⊥) : var x = ⊤ ∧ rstd x = 0 := by
  obtain ⟨e, he, hb⟩ := small_real
  have hk : x k * x k = ⊤ := by
    rcases h with h | h
    · rw [h, EReal.top_mul_top]
    · rw [h, EReal.bot_mul_bot]
  have hs : (∑ k, x k * x k) = ⊤ := by
    rw [← Finset.add_sum_erase Finset.univ (fun k => x k * x k) (Finset.mem_univ k), hk]
    refine EReal.top_add_of_ne_bot (ne_of_gt (lt_of_lt_of_le EReal.bot_lt_zero (Finset.sum_nonneg fun k _ => square_nonneg (x k))))
  have hv : var x = ⊤ := by
    unfold var
    rw [Ideal.ofBits_def, Ideal.ofBits_def, len_real, hb, hs, Ideal.div_coe (by norm_num), EReal.top_mul_coe_of_pos (by norm_num)]
    exact EReal.top_add_coe e
  exact ⟨hv, by rw [rstd_eq, hv, Ideal.rsqrt_top]⟩

/-- The gradient at entry `j` of row `x`, from the gradient `u` of the normalised row before its factor: in factored form. -/
def factored (x u : Fin 1024 → EReal) (j : Fin 1024) : EReal :=
  rstd x * (u j - x j * rstd x * Ideal.div (∑ k, u k * (x k * rstd x)) (FloatOps.ofBits (F := Ideal) .f32 0x44800000#32))

/-- The part through the mean square, by the chain rule. -/
def through (x u : Fin 1024 → EReal) : EReal :=
  Ideal.div ((∑ k, x k * u k) * (FloatOps.ofBits (F := Ideal) .f32 0xBF000000#32 * Ideal.div (rstd x) (var x))) (FloatOps.ofBits (F := Ideal) .f32 0x44800000#32)

/-- The same by the chain rule. -/
def chained (x u : Fin 1024 → EReal) (j : Fin 1024) : EReal :=
  u j * rstd x + x j * through x u + through x u * x j

theorem factored_eq (x u : Fin 1024 → EReal) (j : Fin 1024) : factored x u j = chained x u j := by
  by_cases h : ∃ k, x k = ⊤ ∨ x k = ⊥
  · obtain ⟨k, hk⟩ := h
    obtain ⟨hv, hr⟩ := row_infinite x k hk
    have ht : through x u = 0 := by
      unfold through
      rw [hr, hv, Ideal.zero_div EReal.top_ne_zero, mul_zero, mul_zero, Ideal.ofBits_def, len_real, Ideal.div_coe (by norm_num), zero_mul]
    unfold factored chained
    rw [ht, hr, zero_mul, mul_zero, mul_zero, zero_mul, add_zero, add_zero]
  · have hx : ∀ k, x k = ((x k).toReal : EReal) := fun k => (EReal.coe_toReal (fun e => h ⟨k, .inl e⟩) (fun e => h ⟨k, .inr e⟩)).symm
    generalize hy : (fun k => (x k).toReal) = y at *
    have hxy : x = fun k => (y k : EReal) := funext fun k => (hx k).trans (congrArg (fun f : Fin 1024 → ℝ => (f k : EReal)) hy)
    clear hy hx h
    subst hxy
    obtain ⟨v, r, hv, hr, hrr, ev, er⟩ := row_real y
    have hS : (∑ k, u k * ((y k : EReal) * (r : EReal))) = (∑ k, (y k : EReal) * u k) * (r : EReal) := by
      rw [← total_mul _ hr.le]
      exact Finset.sum_congr rfl fun k _ => by ac_rfl
    unfold factored chained through
    rw [ev, er]
    show (r : EReal) * (u j - (y j : EReal) * (r : EReal) * Ideal.div (∑ k, u k * ((y k : EReal) * (r : EReal))) _) = _
    rw [hS, Ideal.ofBits_def, Ideal.ofBits_def, len_real, half_real, Ideal.div_coe (by norm_num), Ideal.div_coe (by norm_num), Ideal.div_coe hv.ne']
    generalize (∑ k, (y k : EReal) * u k) = S
    have hA : (y j : EReal) * (r : EReal) * (S * (r : EReal) * ((1 / 1024 : ℝ) : EReal)) = S * ((y j * (r * r) * (1 / 1024) : ℝ) : EReal) := by
      simp only [EReal.coe_mul]; ac_rfl
    have hB : (y j : EReal) * (S * (((-(1 / 2) : ℝ) : EReal) * ((r : EReal) * ((1 / v : ℝ) : EReal))) * ((1 / 1024 : ℝ) : EReal)) = S * ((y j * (-(1 / 2) * (r * (1 / v))) * (1 / 1024) : ℝ) : EReal) := by
      simp only [EReal.coe_mul]; ac_rfl
    rw [mul_comm _ (y j : EReal), hA, hB, add_assoc, twice]
    rw [sub_eq_add_neg, EReal.left_distrib_of_nonneg_of_ne_top (EReal.coe_nonneg.mpr hr.le) (EReal.coe_ne_top r), mul_comm (r : EReal) (u j), mul_neg, ← mul_neg]
    refine congrArg (fun a : EReal => u j * (r : EReal) + a) ?_
    rw [← mul_neg, ← EReal.coe_neg, mul_left_comm, ← EReal.coe_mul, mul_left_comm ((2 : ℝ) : EReal), ← EReal.coe_mul, ← hrr]
    refine congrArg (fun a : ℝ => S * (a : EReal)) ?_
    ring

end Cert.Norm

end
-- ==== Proof.Norm8.lean ====
/- The gradient through the up projection and its normalisation: the tiled kernel and the chain rule of the forward lines. -/
module

public import proofs.«01_k».proof.Defs
public import proofs.«01_k».proof.Proof.Gen.Kernel8Ideal.Value
public import proofs.«01_k».proof.Proof.Gen.Reference8Ideal.Run
public import proofs.«01_k».proof.Proof.Gen.Reference8Ideal.Read
public import proofs.«01_k».proof.Proof.NormGrad
public import Idealize.ShloMosaic.Lib.KernelVsHost

@[expose] public section

set_option maxRecDepth 16384

noncomputable section

namespace Cert.Reference8Ideal.Norm

open Cert.Reference8Ideal Cert.Reference8Ideal.Read Idealize.ShloMosaic Idealize.ShloMosaic.TcCoe
open Cert.Norm

/-- The gradient of the normalised features: the product with the transposed weights. -/
def back (d : S4096x5632.Idx → EReal) (w : S5632x1024.Idx → EReal) (r : Fin 4096) (j : Fin 1024) : EReal := ∑ k : Fin 5632, d (ValueIdx.ix2 r k) * w (ValueIdx.ix2 k j)

/-- The gradient of the row before its normalisation and gain. -/
def scaled (d : S4096x5632.Idx → EReal) (w : S5632x1024.Idx → EReal) (g : S1x1024.Idx → EReal) (r : Fin 4096) (j : Fin 1024) : EReal := back d w r j * g (ValueIdx.ix2 0 j)

/-- The gradient of the features, the residual's gradient added. -/
def outX (d : S4096x5632.Idx → EReal) (w : S5632x1024.Idx → EReal) (x : S4096x1024.Idx → EReal) (g : S1x1024.Idx → EReal) (e : S4096x1024.Idx → EReal) (i : S4096x1024.Idx) : EReal :=
  factored (row (M := 4096) x (i 0)) (scaled d w g (i 0)) (i 1) + e i

/-- What one row adds to the gradient of the gain. -/
def share (d : S4096x5632.Idx → EReal) (w : S5632x1024.Idx → EReal) (x : S4096x1024.Idx → EReal) (r : Fin 4096) (j : Fin 1024) : EReal := back d w r j * (x (ValueIdx.ix2 r j) * rstd (row (M := 4096) x r))

/-- The gradient of the gain. -/
def outG (d : S4096x5632.Idx → EReal) (w : S5632x1024.Idx → EReal) (x : S4096x1024.Idx → EReal) (i : S1x1024.Idx) : EReal := ∑ r : Fin 4096, share d w x r (i 1)

theorem var_apply (x : S4096x1024.Idx → EReal) (i : S4096x1.Idx) : val_main_v6 (F := Ideal) x i = var (row (M := 4096) x (i 0)) := by
  rw [val_main_v6_apply, val_main_v4_apply, val_main_v2_apply, val_main_v1_apply, val_main_v3_apply, val_main_v5_apply]
  show Ideal.div (Ideal.ofBits .f32 0x00000000#32 + _) _ + _ = _
  rw [Ideal.ofBits_zero_f32, zero_add]
  refine congrArg (fun a : EReal => Ideal.div a (FloatOps.ofBits (F := Ideal) .f32 0x44800000#32) + FloatOps.ofBits (F := Ideal) .f32 0x358637BD#32) (Finset.sum_congr rfl fun k _ => ?_)
  have e : idx_main_v1 (idx_main_v2 i) k = ValueIdx.ix2 (i 0) k := by
    funext a
    match a with
    | ⟨0, _⟩ => rfl
    | ⟨1, _⟩ => rfl
  rw [e]
  rfl

theorem rms_apply (x : S4096x1024.Idx → EReal) (i : S4096x1.Idx) : val_main_v7 (F := Ideal) x i = rstd (row (M := 4096) x (i 0)) := by
  rw [val_main_v7_apply, var_apply]
  rfl

theorem xr_apply (x : S4096x1024.Idx → EReal) (i : S4096x1024.Idx) : val_main_v12 (F := Ideal) x i = x i * rstd (row (M := 4096) x (i 0)) := by
  rw [val_main_v12_apply, val_main_v11_apply, rms_apply]
  rfl

theorem slope_apply (x : S4096x1024.Idx → EReal) (i : S4096x1.Idx) : val_main_v10 (F := Ideal) x i = FloatOps.ofBits (F := Ideal) .f32 0xBF000000#32 * Ideal.div (rstd (row (M := 4096) x (i 0))) (var (row (M := 4096) x (i 0))) := by
  rw [val_main_v10_apply, val_main_v9_apply, val_main_v8_apply, rms_apply, var_apply]
  rfl

theorem back_apply (d : S4096x5632.Idx → EReal) (w : S5632x1024.Idx → EReal) (i : S4096x1024.Idx) : val_main_v19 (F := Ideal) d w i = back d w (i 0) (i 1) := by
  rw [val_main_v19_apply]
  refine Finset.sum_congr rfl fun k _ => ?_
  rw [val_main_v16_apply]
  refine congrArg₂ (fun a b : EReal => a * b) (congrArg d ?_) (congrArg w ?_)
  · funext a
    apply Fin.ext
    match a with
    | ⟨0, _⟩ => rfl
    | ⟨1, _⟩ => rfl
  · funext a
    match a with
    | ⟨0, _⟩ => rfl
    | ⟨1, _⟩ => rfl

theorem gain_apply (d : S4096x5632.Idx → EReal) (w : S5632x1024.Idx → EReal) (x : S4096x1024.Idx → EReal) (i : S1x1024.Idx) : val_main_v22 (F := Ideal) d w x i = outG d w x i := by
  rw [val_main_v22_apply, val_main_v21_apply]
  show Ideal.ofBits .f32 0x00000000#32 + _ = _
  rw [Ideal.ofBits_zero_f32, zero_add]
  refine Finset.sum_congr rfl fun r _ => ?_
  rw [val_main_v20_apply, xr_apply, back_apply]
  have e : idx_main_v21 (idx_main_v22 i) r = ValueIdx.ix2 r (i 1) := by
    funext a
    match a with
    | ⟨0, _⟩ => rfl
    | ⟨1, _⟩ =>
      apply Fin.ext
      have h0 : (i 0).val < 1 := (i 0).isLt
      show (i 0).val * 1024 + (i 1).val = (i 1).val
      omega
  rw [e]
  exact mul_comm _ _

theorem scaled_apply (d : S4096x5632.Idx → EReal) (w : S5632x1024.Idx → EReal) (g : S1x1024.Idx → EReal) (i : S4096x1024.Idx) : val_main_v24 (F := Ideal) d w g i = scaled d w g (i 0) (i 1) := by
  rw [val_main_v24_apply, val_main_v23_apply, back_apply]
  refine congrArg (fun a : EReal => back d w (i 0) (i 1) * a) (congrArg g ?_)
  funext a
  match a with
  | ⟨0, _⟩ => rfl
  | ⟨1, _⟩ => rfl

theorem through_apply (d : S4096x5632.Idx → EReal) (w : S5632x1024.Idx → EReal) (x : S4096x1024.Idx → EReal) (g : S1x1024.Idx → EReal) (i : S4096x1024.Idx) : val_main_v34 (F := Ideal) d w x g i = through (row (M := 4096) x (i 0)) (scaled d w g (i 0)) := by
  rw [val_main_v34_apply, val_main_v33_apply]
  show Ideal.ofBits .f32 0x00000000#32 + _ = _
  rw [Ideal.ofBits_zero_f32, zero_add, Fin.sum_univ_one, val_main_v32_apply, val_main_v31_apply, val_main_v30_apply, val_main_v27_apply, val_main_v26_apply, slope_apply]
  show Ideal.div ((Ideal.ofBits .f32 0x00000000#32 + _) * _) _ = _
  rw [Ideal.ofBits_zero_f32, zero_add]
  refine congrArg (fun a : EReal => Ideal.div (a * (FloatOps.ofBits (F := Ideal) .f32 0xBF000000#32 * Ideal.div (rstd (row (M := 4096) x (i 0))) (var (row (M := 4096) x (i 0))))) (FloatOps.ofBits (F := Ideal) .f32 0x44800000#32)) (Finset.sum_congr rfl fun k _ => ?_)
  rw [val_main_v25_apply, scaled_apply]
  have e : idx_main_v26 (idx_main_v27 (idx_main_v33 (idx_main_v34 i) 0)) k = ValueIdx.ix2 (i 0) k := by
    funext a
    match a with
    | ⟨0, _⟩ =>
      apply Fin.ext
      show (i 0).val * 1 + 0 = (i 0).val
      omega
    | ⟨1, _⟩ => rfl
  rw [e]
  rfl

theorem dx_apply (d : S4096x5632.Idx → EReal) (w : S5632x1024.Idx → EReal) (x : S4096x1024.Idx → EReal) (g : S1x1024.Idx → EReal) (e : S4096x1024.Idx → EReal) (i : S4096x1024.Idx) : val_main_v39 (F := Ideal) d w x g e i = outX d w x g e i := by
  rw [val_main_v39_apply, val_main_v38_apply, val_main_v37_apply, val_main_v36_apply, val_main_v35_apply, val_main_v29_apply, val_main_v28_apply, scaled_apply, through_apply, rms_apply]
  refine Eq.trans ?_ (congrArg (fun a : EReal => a + e i) (factored_eq (row (M := 4096) x (i 0)) (scaled d w g (i 0)) (i 1)).symm)
  have e1 : x i = row (M := 4096) x (i 0) (i 1) := congrArg x (by
    funext a
    match a with
    | ⟨0, _⟩ => rfl
    | ⟨1, _⟩ => rfl)
  rw [e1]
  rfl

theorem dxb_apply (d : S4096x5632.Idx → EReal) (w : S5632x1024.Idx → EReal) (x : S4096x1024.Idx → EReal) (g : S1x1024.Idx → EReal) (e : S4096x1024.Idx → EReal) (i : S4096x1024.Idx) : val_main_v41 (F := Ideal) d w x g e i = outX d w x g e i := by
  rw [val_main_v41_apply, val_main_v40_apply]
  exact dx_apply d w x g e i

end Cert.Reference8Ideal.Norm

namespace Cert.Kernel8Ideal.Norm

open Cert.Kernel8Ideal Cert.Kernel8Ideal.Gen Idealize.ShloMosaic Idealize.ShloMosaic.TcCoe Idealize.SL.Sem
open Cert.Mm Cert.Norm
open Cert.Reference8Ideal.Norm (back scaled outX share outG rms_apply)

/-- The gradient of the normalised row, in one tile. -/
def dh (v0 : Vec Ideal S256x5632 .bf16) (v1 : Vec Ideal S5632x1024 .bf16) (r : Fin 256) (j : Fin 1024) : EReal := nn (M := 256) (K := 5632) (N := 1024) v0 v1 r j

theorem dh_apply (v0 : Vec Ideal S256x5632 .bf16) (v1 : Vec Ideal S5632x1024 .bf16) (y : S256x1024.Idx) : k0_pay2 (F := Ideal) v0 v1 y = dh v0 v1 (y 0) (y 1) := by
  unfold k0_pay2
  refine (nn_matmul (M := 256) (K := 5632) (N := 1024) (φ₁ := .bf16) (φ₂ := .bf16) dot_S256x5632_S5632x1024_S256x1024_1_0_0_1_n_n_wf none v0 v1 (constant S256x1024 .f32 0x00000000#32) y).trans ?_
  rw [zero_constant, zero_add]
  rfl

theorem xr_apply (x : Vec Ideal S256x1024 .f32) (r : Vec Ideal S256x1 .f32) (y : S256x1024.Idx) : k0_pay4 (F := Ideal) x r y = x y * r (ValueIdx.ix2 (y 0) 0) := by
  pointwise [k0_pay4, k0_pay3]
  rfl

theorem part_apply (v0 : Vec Ideal S256x5632 .bf16) (v1 : Vec Ideal S5632x1024 .bf16) (x : Vec Ideal S256x1024 .f32) (r : Vec Ideal S256x1 .f32) (y : S256x1024.Idx) : k0_pay5 (F := Ideal) v0 v1 x r y = dh v0 v1 (y 0) (y 1) * (x y * r (ValueIdx.ix2 (y 0) 0)) := by
  unfold k0_pay5
  exact congrArg₂ (fun a b : EReal => a * b) (dh_apply v0 v1 y) (xr_apply x r y)

/-- One entry of the gradient of a row, at a given factor of the row. -/
def tileRow (x u : Fin 1024 → EReal) (r : EReal) (j : Fin 1024) : EReal :=
  r * (u j - x j * r * Ideal.div (∑ k, u k * (x k * r)) (FloatOps.ofBits (F := Ideal) .f32 0x44800000#32))

theorem dx_apply (v0 : Vec Ideal S256x5632 .bf16) (v1 : Vec Ideal S5632x1024 .bf16) (x : Vec Ideal S256x1024 .f32) (r : Vec Ideal S256x1 .f32) (g : Vec Ideal S1x1024 .f32) (d : Vec Ideal S256x1024 .f32) (y : S256x1024.Idx) : k0_pay6 (F := Ideal) v0 v1 x r g d y =
    tileRow (row x (y 0)) (fun k => dh v0 v1 (y 0) k * g (ValueIdx.ix2 0 k)) (r (ValueIdx.ix2 (y 0) 0)) (y 1) + d y := by
  have e : x y = x (ValueIdx.ix2 (y 0) (y 1)) := congrArg x (by
    funext a
    match a with
    | ⟨0, _⟩ => rfl
    | ⟨1, _⟩ => rfl)
  pointwise [k0_pay6, k0_pay3]
  simp only [dh_apply, xr_apply]
  unfold tileRow row
  rw [e]
  rfl

theorem dxb_apply (v0 : Vec Ideal S256x5632 .bf16) (v1 : Vec Ideal S5632x1024 .bf16) (x : Vec Ideal S256x1024 .f32) (r : Vec Ideal S256x1 .f32) (g : Vec Ideal S1x1024 .f32) (d : Vec Ideal S256x1024 .f32) (y : S256x1024.Idx) : k0_pay7 (F := Ideal) v0 v1 x r g d y =
    tileRow (row x (y 0)) (fun k => dh v0 v1 (y 0) k * g (ValueIdx.ix2 0 k)) (r (ValueIdx.ix2 (y 0) 0)) (y 1) + d y :=
  dx_apply v0 v1 x r g d y

theorem acc_apply (v : Vec Ideal S256x1024 .f32) (w : Vec Ideal S1x1024 .f32) (y : S1x1024.Idx) : k0_pay1 (F := Ideal) v (k0_pay9 w) y = w y + ∑ r : Fin 256, v (ValueIdx.ix2 r (y 1)) := by
  pointwise [k0_pay1, k0_pay9]
  rfl

theorem zero_apply (y : S1x1024.Idx) : k0_pay8 (F := Ideal) y = 0 := by pointwise [k0_pay8]

/-- One entry of the gradient of the features, from one block of each argument. -/
def tileX (x0 : Vec Ideal S256x5632 .bf16) (x1 : Vec Ideal S5632x1024 .bf16) (x2 : Vec Ideal S256x1024 .f32) (x3 : Vec Ideal S256x1 .f32) (x4 : Vec Ideal S1x1024 .f32) (x5 : Vec Ideal S256x1024 .f32) (y : S256x1024.Idx) : EReal :=
  tileRow (row x2 (y 0)) (fun k => dh x0 x1 (y 0) k * x4 (ValueIdx.ix2 0 k)) (x3 (ValueIdx.ix2 (y 0) 0)) (y 1) + x5 y

/-- What one row of a block adds to the gradient of the gain. -/
def tileG (x0 : Vec Ideal S256x5632 .bf16) (x1 : Vec Ideal S5632x1024 .bf16) (x2 : Vec Ideal S256x1024 .f32) (x3 : Vec Ideal S256x1 .f32) (x4 : Vec Ideal S1x1024 .f32) (x5 : Vec Ideal S256x1024 .f32) (r : Fin 256) (j : Fin 1024) : EReal := dh x0 x1 r j * (x2 (ValueIdx.ix2 r j) * x3 (ValueIdx.ix2 r 0))

theorem tileRow_congr {x u : Fin 1024 → EReal} {r : EReal} (x' u' : Fin 1024 → EReal) (r' : EReal) (j : Fin 1024) (h1 : x = x') (h2 : u = u') (h3 : r = r') :
    tileRow x u r j = tileRow x' u' r' j := by rw [h1, h2, h3]

section run

variable (c : Dev nD) (i : grid0.Coords)
variable (arg1 : Memref sig .tc .vmem S256x5632 .bf16) (harg1 : arg1.IsWhole)
variable (arg2 : Memref sig .tc .vmem S5632x1024 .bf16) (harg2 : arg2.IsWhole)
variable (arg3 : Memref sig .tc .vmem S256x1024 .f32) (harg3 : arg3.IsWhole)
variable (arg4 : Memref sig .tc .vmem S256x1 .f32) (harg4 : arg4.IsWhole)
variable (arg5 : Memref sig .tc .vmem S1x1024 .f32) (harg5 : arg5.IsWhole)
variable (arg6 : Memref sig .tc .vmem S256x1024 .f32) (harg6 : arg6.IsWhole)
variable (arg7 : Memref sig .tc .vmem S256x1024 .f32) (harg7 : arg7.IsWhole)
variable (arg8 : Memref sig .tc .vmem S256x1024 .bf16) (harg8 : arg8.IsWhole)
variable (arg9 : Memref sig .tc .vmem S1x1024 .f32) (harg9 : arg9.IsWhole)
variable (x0 : Vec Ideal S256x5632 .bf16) (x1 : Vec Ideal S5632x1024 .bf16) (x2 : Vec Ideal S256x1024 .f32) (x3 : Vec Ideal S256x1 .f32) (x4 : Vec Ideal S1x1024 .f32) (x5 : Vec Ideal S256x1024 .f32)

section caseA

variable (hc0 : cond0_0 i)

theorem runA6 : (kernelRun0_A c i arg1 harg1 arg2 harg2 arg3 harg3 arg4 harg4 arg5 harg5 arg6 harg6 arg7 harg7 arg8 harg8 arg9 harg9 hc0 x0 x1 x2 x3 x4 x5).1
    = [⟨(Rect.unit (s := S256x1024) ![0, 0] S256x1024.size inb_S256x1024_S256x1024_0_0), k0_pay6 (whole harg1 x0) (whole harg2 x1) (whole harg3 x2) (whole harg4 x3) (whole harg5 x4) (whole harg6 x5)⟩] := by sl_kernel_rfl
theorem outA6 (y : S256x1024.Idx) : out0_A_6 c i arg1 harg1 arg2 harg2 arg3 harg3 arg4 harg4 arg5 harg5 arg6 harg6 arg7 harg7 arg8 harg8 arg9 harg9 hc0 x0 x1 x2 x3 x4 x5 y = tileX x0 x1 x2 x3 x4 x5 y := by
  unfold out0_A_6
  rw [View.read_writes_eq_canon _ _ _ (cover0_A_6 c i arg1 harg1 arg2 harg2 arg3 harg3 arg4 harg4 arg5 harg5 arg6 harg6 arg7 harg7 arg8 harg8 arg9 harg9 hc0 x0 x1 x2 x3 x4 x5)]
  rw [runA6, whole_eq, whole_eq, whole_eq, whole_eq, whole_eq, whole_eq]
  exact (congrFun (View.canon_cons_unit_zero (S := S256x1024) zero2 _ _ _) y).trans (dx_apply x0 x1 x2 x3 x4 x5 y)
theorem runA7 : (kernelRun0_A c i arg1 harg1 arg2 harg2 arg3 harg3 arg4 harg4 arg5 harg5 arg6 harg6 arg7 harg7 arg8 harg8 arg9 harg9 hc0 x0 x1 x2 x3 x4 x5).2.1
    = [⟨(Rect.unit (s := S256x1024) ![0, 0] S256x1024.size inb_S256x1024_S256x1024_0_0), k0_pay7 (whole harg1 x0) (whole harg2 x1) (whole harg3 x2) (whole harg4 x3) (whole harg5 x4) (whole harg6 x5)⟩] := by sl_kernel_rfl
theorem outA7 (y : S256x1024.Idx) : out0_A_7 c i arg1 harg1 arg2 harg2 arg3 harg3 arg4 harg4 arg5 harg5 arg6 harg6 arg7 harg7 arg8 harg8 arg9 harg9 hc0 x0 x1 x2 x3 x4 x5 y = tileX x0 x1 x2 x3 x4 x5 y := by
  unfold out0_A_7
  rw [View.read_writes_eq_canon _ _ _ (cover0_A_7 c i arg1 harg1 arg2 harg2 arg3 harg3 arg4 harg4 arg5 harg5 arg6 harg6 arg7 harg7 arg8 harg8 arg9 harg9 hc0 x0 x1 x2 x3 x4 x5)]
  rw [runA7, whole_eq, whole_eq, whole_eq, whole_eq, whole_eq, whole_eq]
  exact (congrFun (View.canon_cons_unit_zero (S := S256x1024) zero2 _ _ _) y).trans (dxb_apply x0 x1 x2 x3 x4 x5 y)
theorem runA8 : (kernelRun0_A c i arg1 harg1 arg2 harg2 arg3 harg3 arg4 harg4 arg5 harg5 arg6 harg6 arg7 harg7 arg8 harg8 arg9 harg9 hc0 x0 x1 x2 x3 x4 x5).2.2.1
    = [⟨(Rect.unit (s := S1x1024) ![0, 0] S1x1024.size inb_S1x1024_S1x1024_0_0), k0_pay1 (k0_pay5 (whole harg1 x0) (whole harg2 x1) (whole harg3 x2) (whole harg4 x3)) (k0_pay9 (arg9.view.readCov [⟨(Rect.unit (s := S1x1024) ![0, 0] S1x1024.size inb_S1x1024_S1x1024_0_0), k0_pay8 (F := Ideal)⟩] (Rect.unit (s := S1x1024) ![0, 0] S1x1024.size inb_S1x1024_S1x1024_0_0).toLoadRect))⟩,
      ⟨(Rect.unit (s := S1x1024) ![0, 0] S1x1024.size inb_S1x1024_S1x1024_0_0), k0_pay8 (F := Ideal)⟩] := by sl_kernel_rfl
theorem outA8 (y : S1x1024.Idx) : out0_A_8 c i arg1 harg1 arg2 harg2 arg3 harg3 arg4 harg4 arg5 harg5 arg6 harg6 arg7 harg7 arg8 harg8 arg9 harg9 hc0 x0 x1 x2 x3 x4 x5 y = ∑ r : Fin 256, tileG x0 x1 x2 x3 x4 x5 r (y 1) := by
  unfold out0_A_8
  rw [View.read_writes_eq_canon _ _ _ (cover0_A_8 c i arg1 harg1 arg2 harg2 arg3 harg3 arg4 harg4 arg5 harg5 arg6 harg6 arg7 harg7 arg8 harg8 arg9 harg9 hc0 x0 x1 x2 x3 x4 x5)]
  rw [runA8, whole_eq, whole_eq, whole_eq, whole_eq, View.readCov_unit_zero _ zero2]
  refine (congrFun (View.canon_cons_unit_zero (S := S1x1024) zero2 _ _ _) y).trans ((acc_apply _ _ y).trans ?_)
  rw [zero_apply, zero_add]
  exact Finset.sum_congr rfl fun r _ => part_apply x0 x1 x2 x3 (ValueIdx.ix2 r (y 1))

end caseA

section caseB

variable (hc0 : ¬cond0_0 i) (xo8 : Vec Ideal S1x1024 .f32)

theorem runB6 : (kernelRun0_B c i arg1 harg1 arg2 harg2 arg3 harg3 arg4 harg4 arg5 harg5 arg6 harg6 arg7 harg7 arg8 harg8 arg9 harg9 hc0 x0 x1 x2 x3 x4 x5 xo8).1
    = [⟨(Rect.unit (s := S256x1024) ![0, 0] S256x1024.size inb_S256x1024_S256x1024_0_0), k0_pay6 (whole harg1 x0) (whole harg2 x1) (whole harg3 x2) (whole harg4 x3) (whole harg5 x4) (whole harg6 x5)⟩] := by sl_kernel_rfl
theorem outB6 (y : S256x1024.Idx) : out0_B_6 c i arg1 harg1 arg2 harg2 arg3 harg3 arg4 harg4 arg5 harg5 arg6 harg6 arg7 harg7 arg8 harg8 arg9 harg9 hc0 x0 x1 x2 x3 x4 x5 xo8 y = tileX x0 x1 x2 x3 x4 x5 y := by
  unfold out0_B_6
  rw [View.read_writes_eq_canon _ _ _ (cover0_B_6 c i arg1 harg1 arg2 harg2 arg3 harg3 arg4 harg4 arg5 harg5 arg6 harg6 arg7 harg7 arg8 harg8 arg9 harg9 hc0 x0 x1 x2 x3 x4 x5 xo8)]
  rw [runB6, whole_eq, whole_eq, whole_eq, whole_eq, whole_eq, whole_eq]
  exact (congrFun (View.canon_cons_unit_zero (S := S256x1024) zero2 _ _ _) y).trans (dx_apply x0 x1 x2 x3 x4 x5 y)
theorem runB7 : (kernelRun0_B c i arg1 harg1 arg2 harg2 arg3 harg3 arg4 harg4 arg5 harg5 arg6 harg6 arg7 harg7 arg8 harg8 arg9 harg9 hc0 x0 x1 x2 x3 x4 x5 xo8).2.1
    = [⟨(Rect.unit (s := S256x1024) ![0, 0] S256x1024.size inb_S256x1024_S256x1024_0_0), k0_pay7 (whole harg1 x0) (whole harg2 x1) (whole harg3 x2) (whole harg4 x3) (whole harg5 x4) (whole harg6 x5)⟩] := by sl_kernel_rfl
theorem outB7 (y : S256x1024.Idx) : out0_B_7 c i arg1 harg1 arg2 harg2 arg3 harg3 arg4 harg4 arg5 harg5 arg6 harg6 arg7 harg7 arg8 harg8 arg9 harg9 hc0 x0 x1 x2 x3 x4 x5 xo8 y = tileX x0 x1 x2 x3 x4 x5 y := by
  unfold out0_B_7
  rw [View.read_writes_eq_canon _ _ _ (cover0_B_7 c i arg1 harg1 arg2 harg2 arg3 harg3 arg4 harg4 arg5 harg5 arg6 harg6 arg7 harg7 arg8 harg8 arg9 harg9 hc0 x0 x1 x2 x3 x4 x5 xo8)]
  rw [runB7, whole_eq, whole_eq, whole_eq, whole_eq, whole_eq, whole_eq]
  exact (congrFun (View.canon_cons_unit_zero (S := S256x1024) zero2 _ _ _) y).trans (dxb_apply x0 x1 x2 x3 x4 x5 y)
theorem runB8 : (kernelRun0_B c i arg1 harg1 arg2 harg2 arg3 harg3 arg4 harg4 arg5 harg5 arg6 harg6 arg7 harg7 arg8 harg8 arg9 harg9 hc0 x0 x1 x2 x3 x4 x5 xo8).2.2.1
    = [⟨(Rect.unit (s := S1x1024) ![0, 0] S1x1024.size inb_S1x1024_S1x1024_0_0), k0_pay1 (k0_pay5 (whole harg1 x0) (whole harg2 x1) (whole harg3 x2) (whole harg4 x3)) (k0_pay9 (whole harg9 xo8))⟩] := by sl_kernel_rfl
theorem outB8 (y : S1x1024.Idx) : out0_B_8 c i arg1 harg1 arg2 harg2 arg3 harg3 arg4 harg4 arg5 harg5 arg6 harg6 arg7 harg7 arg8 harg8 arg9 harg9 hc0 x0 x1 x2 x3 x4 x5 xo8 y = xo8 y + ∑ r : Fin 256, tileG x0 x1 x2 x3 x4 x5 r (y 1) := by
  unfold out0_B_8
  rw [View.read_writes_eq_canon _ _ _ (cover0_B_8 c i arg1 harg1 arg2 harg2 arg3 harg3 arg4 harg4 arg5 harg5 arg6 harg6 arg7 harg7 arg8 harg8 arg9 harg9 hc0 x0 x1 x2 x3 x4 x5 xo8)]
  rw [runB8, whole_eq, whole_eq, whole_eq, whole_eq, whole_eq]
  refine (congrFun (View.canon_cons_unit_zero (S := S1x1024) zero2 _ _ _) y).trans ((acc_apply _ _ y).trans ?_)
  refine congrArg (fun a : EReal => xo8 y + a) ?_
  exact Finset.sum_congr rfl fun r _ => part_apply x0 x1 x2 x3 (ValueIdx.ix2 r (y 1))

end caseB

end run

variable (m : (ℓ : Loc nD τ sig) → Buf (Elt Ideal) ℓ) (c : Dev nD)

/-- The gradient coming in. -/
abbrev inc : S4096x5632.Idx → EReal := V m c main_arg0
/-- The weights. -/
abbrev wts : S5632x1024.Idx → EReal := V m c main_arg1
/-- The features. -/
abbrev feat : S4096x1024.Idx → EReal := V m c main_arg2
/-- The gain. -/
abbrev gain : S1x1024.Idx → EReal := V m c main_arg3
/-- The residual's gradient. -/
abbrev res : S4096x1024.Idx → EReal := V m c main_arg4
/-- The factors of the rows, from the host. -/
abbrev facs : S4096x1.Idx → EReal := V m c main_v7

theorem facs_eq : V m c main_v7 = Reference8Ideal.Read.val_main_v7 (F := Ideal) (V m c main_arg2) := by
  rw [V_main_arg2]
  show StableHlo.after hostOps0 (fun b => m (c, b)) _ = _
  simp only [hostOps0, StableHlo.TRef.binary, StableHlo.TRef.unary, StableHlo.TRef.toBuf, StableHlo.TRef.ofBuf, cast_eq]
  after_results_simp
  rfl

theorem facs_apply (i : S4096x1.Idx) : facs m c i = rstd (row (M := 4096) (feat m c) (i 0)) :=
  (congrFun (facs_eq m c) i).trans (rms_apply (feat m c) i)

/-- Row `r` of block `t`. -/
abbrev place (t : Fin cfg0.N) (r : Fin 256) : Fin 4096 := ⟨256 * t.val + r.val, by have := t.isLt; have := r.isLt; have hN : cfg0.N = 16 := N_0; omega⟩

theorem index0 : ∀ t : Fin cfg0.N, win0_0.index t = ![t.val, 0] :=
  (by decide +kernel : ∀ t : Fin grid0.N, win0_0.index t = ![t.val, 0])

theorem emb0 (t : Fin cfg0.N) (y : S256x5632.Idx) : (win0_0.rect t).emb y = ValueIdx.ix2 (place t (y 0)) (y 1) := by
  have e0 : ((win0_0.rect t).emb y 0 : ℕ) = 256 * t.val + (y 0).val := by
    rw [Pipeline.Window.rect_emb_val win0_0 t y 0 rfl, index0]
    show t.val * 256 + _ = _
    omega
  have e1 : ((win0_0.rect t).emb y 1 : ℕ) = (y 1).val := by
    rw [Pipeline.Window.rect_emb_val win0_0 t y 1 rfl, index0]
    show 0 * 5632 + _ = _
    omega
  funext a
  apply Fin.ext
  match a with
  | ⟨0, _⟩ => exact e0
  | ⟨1, _⟩ => exact e1

theorem blk0 (t : Fin cfg0.N) (y : S256x5632.Idx) : iblk m c 0 t y = inc m c (ValueIdx.ix2 (place t (y 0)) (y 1)) := congrArg (inc m c) (emb0 t y)

theorem index1 : ∀ t : Fin cfg0.N, win0_1.index t = ![0, 0] :=
  (by decide +kernel : ∀ t : Fin grid0.N, win0_1.index t = ![0, 0])

theorem blk1 (t : Fin cfg0.N) (j : S5632x1024.Idx) : iblk m c 1 t j = wts m c j := by
  refine congrArg (wts m c) (funext fun a => Fin.ext (Pipeline.Window.rect_emb_val_of_index_zero win0_1 t a ?_ j))
  rw [index1]
  fin_cases a <;> rfl

theorem index2 : ∀ t : Fin cfg0.N, win0_2.index t = ![t.val, 0] :=
  (by decide +kernel : ∀ t : Fin grid0.N, win0_2.index t = ![t.val, 0])

theorem emb2 (t : Fin cfg0.N) (y : S256x1024.Idx) : (win0_2.rect t).emb y = ValueIdx.ix2 (place t (y 0)) (y 1) := by
  have e0 : ((win0_2.rect t).emb y 0 : ℕ) = 256 * t.val + (y 0).val := by
    rw [Pipeline.Window.rect_emb_val win0_2 t y 0 rfl, index2]
    show t.val * 256 + _ = _
    omega
  have e1 : ((win0_2.rect t).emb y 1 : ℕ) = (y 1).val := by
    rw [Pipeline.Window.rect_emb_val win0_2 t y 1 rfl, index2]
    show 0 * 1024 + _ = _
    omega
  funext a
  apply Fin.ext
  match a with
  | ⟨0, _⟩ => exact e0
  | ⟨1, _⟩ => exact e1

theorem blk2 (t : Fin cfg0.N) (y : S256x1024.Idx) : iblk m c 2 t y = feat m c (ValueIdx.ix2 (place t (y 0)) (y 1)) := congrArg (feat m c) (emb2 t y)

theorem index3 : ∀ t : Fin cfg0.N, win0_3.index t = ![t.val, 0] :=
  (by decide +kernel : ∀ t : Fin grid0.N, win0_3.index t = ![t.val, 0])

theorem emb3 (t : Fin cfg0.N) (y : S256x1.Idx) : (win0_3.rect t).emb y = ValueIdx.ix2 (place t (y 0)) (y 1) := by
  have e0 : ((win0_3.rect t).emb y 0 : ℕ) = 256 * t.val + (y 0).val := by
    rw [Pipeline.Window.rect_emb_val win0_3 t y 0 rfl, index3]
    show t.val * 256 + _ = _
    omega
  have e1 : ((win0_3.rect t).emb y 1 : ℕ) = (y 1).val := by
    rw [Pipeline.Window.rect_emb_val win0_3 t y 1 rfl, index3]
    show 0 * 1 + _ = _
    omega
  funext a
  apply Fin.ext
  match a with
  | ⟨0, _⟩ => exact e0
  | ⟨1, _⟩ => exact e1

theorem blk3 (t : Fin cfg0.N) (y : S256x1.Idx) : iblk m c 3 t y = facs m c (ValueIdx.ix2 (place t (y 0)) (y 1)) := congrArg (facs m c) (emb3 t y)

theorem index4 : ∀ t : Fin cfg0.N, win0_4.index t = ![0, 0] :=
  (by decide +kernel : ∀ t : Fin grid0.N, win0_4.index t = ![0, 0])

theorem blk4 (t : Fin cfg0.N) (j : S1x1024.Idx) : iblk m c 4 t j = gain m c j := by
  refine congrArg (gain m c) (funext fun a => Fin.ext (Pipeline.Window.rect_emb_val_of_index_zero win0_4 t a ?_ j))
  rw [index4]
  fin_cases a <;> rfl

theorem index5 : ∀ t : Fin cfg0.N, win0_5.index t = ![t.val, 0] :=
  (by decide +kernel : ∀ t : Fin grid0.N, win0_5.index t = ![t.val, 0])

theorem emb5 (t : Fin cfg0.N) (y : S256x1024.Idx) : (win0_5.rect t).emb y = ValueIdx.ix2 (place t (y 0)) (y 1) := by
  have e0 : ((win0_5.rect t).emb y 0 : ℕ) = 256 * t.val + (y 0).val := by
    rw [Pipeline.Window.rect_emb_val win0_5 t y 0 rfl, index5]
    show t.val * 256 + _ = _
    omega
  have e1 : ((win0_5.rect t).emb y 1 : ℕ) = (y 1).val := by
    rw [Pipeline.Window.rect_emb_val win0_5 t y 1 rfl, index5]
    show 0 * 1024 + _ = _
    omega
  funext a
  apply Fin.ext
  match a with
  | ⟨0, _⟩ => exact e0
  | ⟨1, _⟩ => exact e1

theorem blk5 (t : Fin cfg0.N) (y : S256x1024.Idx) : iblk m c 5 t y = res m c (ValueIdx.ix2 (place t (y 0)) (y 1)) := congrArg (res m c) (emb5 t y)

theorem index6 : ∀ t : Fin cfg0.N, win0_6.index t = ![t.val, 0] :=
  (by decide +kernel : ∀ t : Fin grid0.N, win0_6.index t = ![t.val, 0])

theorem emb6 (t : Fin cfg0.N) (y : S256x1024.Idx) : (win0_6.rect t).emb y = ValueIdx.ix2 (place t (y 0)) (y 1) := by
  have e0 : ((win0_6.rect t).emb y 0 : ℕ) = 256 * t.val + (y 0).val := by
    rw [Pipeline.Window.rect_emb_val win0_6 t y 0 rfl, index6]
    show t.val * 256 + _ = _
    omega
  have e1 : ((win0_6.rect t).emb y 1 : ℕ) = (y 1).val := by
    rw [Pipeline.Window.rect_emb_val win0_6 t y 1 rfl, index6]
    show 0 * 1024 + _ = _
    omega
  funext a
  apply Fin.ext
  match a with
  | ⟨0, _⟩ => exact e0
  | ⟨1, _⟩ => exact e1

theorem xsize6 : ∀ t : Fin cfg0.N, ∀ a, win0_6.xsize (grid0.coords t) a = S256x1024.size a :=
  (by decide +kernel : ∀ t : Fin grid0.N, ∀ a, win0_6.xsize (grid0.coords t) a = S256x1024.size a)

theorem mem6 (t : Fin cfg0.N) (i : S4096x1024.Idx) (h0 : t.val = (i 0).val / 256) : i ∈ ((cfg0.win 6).blk t).view.set := by
  show i ∈ ((View.whole main_v8_0).slice (win0_6.rect t)).set
  rw [View.set_slice_whole, Rect.mem_set_unit]
  intro a
  rw [xsize6]
  match a with
  | ⟨0, _⟩ =>
    show win0_6.index t 0 * 256 ≤ (i 0).val ∧ (i 0).val < win0_6.index t 0 * 256 + 256
    rw [index6]
    show t.val * 256 ≤ (i 0).val ∧ (i 0).val < t.val * 256 + 256
    omega
  | ⟨1, _⟩ =>
    have h1 : (i 1).val < 1024 := (i 1).isLt
    show win0_6.index t 1 * 1024 ≤ (i 1).val ∧ (i 1).val < win0_6.index t 1 * 1024 + 1024
    rw [index6]
    show 0 * 1024 ≤ (i 1).val ∧ (i 1).val < 0 * 1024 + 1024
    omega

theorem index7 : ∀ t : Fin cfg0.N, win0_7.index t = ![t.val, 0] :=
  (by decide +kernel : ∀ t : Fin grid0.N, win0_7.index t = ![t.val, 0])

theorem emb7 (t : Fin cfg0.N) (y : S256x1024.Idx) : (win0_7.rect t).emb y = ValueIdx.ix2 (place t (y 0)) (y 1) := by
  have e0 : ((win0_7.rect t).emb y 0 : ℕ) = 256 * t.val + (y 0).val := by
    rw [Pipeline.Window.rect_emb_val win0_7 t y 0 rfl, index7]
    show t.val * 256 + _ = _
    omega
  have e1 : ((win0_7.rect t).emb y 1 : ℕ) = (y 1).val := by
    rw [Pipeline.Window.rect_emb_val win0_7 t y 1 rfl, index7]
    show 0 * 1024 + _ = _
    omega
  funext a
  apply Fin.ext
  match a with
  | ⟨0, _⟩ => exact e0
  | ⟨1, _⟩ => exact e1

theorem xsize7 : ∀ t : Fin cfg0.N, ∀ a, win0_7.xsize (grid0.coords t) a = S256x1024.size a :=
  (by decide +kernel : ∀ t : Fin grid0.N, ∀ a, win0_7.xsize (grid0.coords t) a = S256x1024.size a)

theorem mem7 (t : Fin cfg0.N) (i : S4096x1024.Idx) (h0 : t.val = (i 0).val / 256) : i ∈ ((cfg0.win 7).blk t).view.set := by
  show i ∈ ((View.whole main_v8_1).slice (win0_7.rect t)).set
  rw [View.set_slice_whole, Rect.mem_set_unit]
  intro a
  rw [xsize7]
  match a with
  | ⟨0, _⟩ =>
    show win0_7.index t 0 * 256 ≤ (i 0).val ∧ (i 0).val < win0_7.index t 0 * 256 + 256
    rw [index7]
    show t.val * 256 ≤ (i 0).val ∧ (i 0).val < t.val * 256 + 256
    omega
  | ⟨1, _⟩ =>
    have h1 : (i 1).val < 1024 := (i 1).isLt
    show win0_7.index t 1 * 1024 ≤ (i 1).val ∧ (i 1).val < win0_7.index t 1 * 1024 + 1024
    rw [index7]
    show 0 * 1024 ≤ (i 1).val ∧ (i 1).val < 0 * 1024 + 1024
    omega

theorem index8 : ∀ t : Fin cfg0.N, win0_8.index t = ![0, 0] :=
  (by decide +kernel : ∀ t : Fin grid0.N, win0_8.index t = ![0, 0])

theorem emb8 (t : Fin cfg0.N) (y : S1x1024.Idx) : (win0_8.rect t).emb y = y := by
  funext a
  refine Fin.ext (Pipeline.Window.rect_emb_val_of_index_zero win0_8 t a ?_ y)
  rw [index8]
  fin_cases a <;> rfl

theorem back_blk (t : Fin cfg0.N) (r : Fin 256) (j : Fin 1024) : dh (iblk m c 0 t) (iblk m c 1 t) r j = back (inc m c) (wts m c) (place t r) j := by
  unfold dh nn back
  exact Finset.sum_congr rfl fun k _ => congrArg₂ (fun a b : EReal => a * b) (blk0 m c t (ValueIdx.ix2 r k)) (blk1 m c t (ValueIdx.ix2 k j))

theorem row_blk (t : Fin cfg0.N) (r : Fin 256) : row (M := 256) (iblk m c 2 t : S256x1024.Idx → EReal) r = row (feat m c) (place t r) :=
  funext fun k => blk2 m c t (ValueIdx.ix2 r k)

theorem tile_blk (t : Fin cfg0.N) (y : S256x1024.Idx) :
    tileX (iblk m c 0 t) (iblk m c 1 t) (iblk m c 2 t) (iblk m c 3 t) (iblk m c 4 t) (iblk m c 5 t) y = outX (inc m c) (wts m c) (feat m c) (gain m c) (res m c) (ValueIdx.ix2 (place t (y 0)) (y 1)) := by
  unfold tileX
  refine congrArg₂ (fun a b : EReal => a + b) (tileRow_congr (row (feat m c) (place t (y 0))) (scaled (inc m c) (wts m c) (gain m c) (place t (y 0))) (rstd (row (feat m c) (place t (y 0)))) (y 1) (row_blk m c t (y 0)) (funext fun k => ?_) ?_) (blk5 m c t y)
  · exact congrArg₂ (fun a b : EReal => a * b) (back_blk m c t (y 0) k) (blk4 m c t (ValueIdx.ix2 0 k))
  · exact (blk3 m c t (ValueIdx.ix2 (y 0) 0)).trans (facs_apply m c _)

theorem share_blk (t : Fin cfg0.N) (r : Fin 256) (j : Fin 1024) :
    tileG (iblk m c 0 t) (iblk m c 1 t) (iblk m c 2 t) (iblk m c 3 t) (iblk m c 4 t) (iblk m c 5 t) r j = share (inc m c) (wts m c) (feat m c) (place t r) j := by
  unfold tileG share
  refine congrArg₂ (fun a b : EReal => a * b) (back_blk m c t r j) (congrArg₂ (fun a b : EReal => a * b) (blk2 m c t (ValueIdx.ix2 r j)) ?_)
  exact (blk3 m c t (ValueIdx.ix2 r 0)).trans (facs_apply m c _)

/-- What row `b` adds to the gradient of the gain. -/
def add (j : Fin 1024) (b : ℕ) : EReal := if h : b < 4096 then share (inc m c) (wts m c) (feat m c) ⟨b, h⟩ j else 0

theorem add_blk (t : Fin cfg0.N) (j : Fin 1024) :
    (∑ r : Fin 256, tileG (iblk m c 0 t) (iblk m c 1 t) (iblk m c 2 t) (iblk m c 3 t) (iblk m c 4 t) (iblk m c 5 t) r j) = ∑ b ∈ Finset.range 256, add m c j (256 * t.val + b) := by
  have hN : cfg0.N = 16 := N_0
  have ht := t.isLt
  rw [Finset.sum_range]
  refine Finset.sum_congr rfl fun r _ => ?_
  have hr := r.isLt
  unfold add
  rw [dif_pos (by omega)]
  exact share_blk m c t r j

theorem acc_A (t : Fin cfg0.N) (h0 : t.val % 16 = 0) (y : S1x1024.Idx) : (outsAt0 m c t.val t.isLt).2.2 y = ∑ b ∈ Finset.range 256, add m c (y 1) (256 * t.val + b) := by
  rw [outsAt0_A m c t h0]
  have e := outA8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (iblk m c 0 t) (iblk m c 1 t) (iblk m c 2 t) (iblk m c 3 t) (iblk m c 4 t) (iblk m c 5 t) ((hcond0_0 t).mpr h0) y
  have e2 := e.trans (add_blk m c t (y 1))
  dsimp only
  exact e2

theorem acc_B (t : Fin cfg0.N) (h0 : ¬t.val % 16 = 0) (y : S1x1024.Idx) : (outsAt0 m c t.val t.isLt).2.2 y = (outsAt0 m c (t.val - 1) (Nat.lt_of_le_of_lt (Nat.sub_le _ _) t.isLt)).2.2 y + ∑ b ∈ Finset.range 256, add m c (y 1) (256 * t.val + b) := by
  rw [outsAt0_B m c t h0]
  have e := outB8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (iblk m c 0 t) (iblk m c 1 t) (iblk m c 2 t) (iblk m c 3 t) (iblk m c 4 t) (iblk m c 5 t) (fun h => h0 ((hcond0_0 t).mp h)) (outsAt0 m c (t.val - 1) (Nat.lt_of_le_of_lt (Nat.sub_le _ _) t.isLt)).2.2 y
  have e2 := e.trans (congrArg (fun a : EReal => (outsAt0 m c (t.val - 1) (Nat.lt_of_le_of_lt (Nat.sub_le _ _) t.isLt)).2.2 y + a) (add_blk m c t (y 1)))
  dsimp only
  exact e2

theorem acc_outs (y : S1x1024.Idx) : ∀ (n : ℕ) (hn : n < cfg0.N), (outsAt0 m c n hn).2.2 y = ∑ b ∈ Finset.range (256 * (n + 1)), add m c (y 1) b
  | 0, hn => by
    refine (acc_A m c ⟨0, hn⟩ (Nat.zero_mod _) y).trans (Finset.sum_congr rfl fun b _ => congrArg (add m c (y 1)) ?_)
    show 256 * 0 + b = b
    omega
  | n + 1, hn => by
    have hN : cfg0.N = 16 := N_0
    refine (acc_B m c ⟨n + 1, hn⟩ (by dsimp only; omega) y).trans ?_
    rw [Nat.mul_succ 256 (n + 1), Finset.sum_range_add]
    exact congrArg (fun a : EReal => a + ∑ b ∈ Finset.range 256, add m c (y 1) (256 * (n + 1) + b)) (acc_outs y n (by omega))

theorem res6 (i : S4096x1024.Idx) : (dats m 0 c).arrAt 6 cfg0.N i = outX (inc m c) (wts m c) (feat m c) (gain m c) (res m c) i := by
  have h0 : (i 0).val < 4096 := (i 0).isLt
  have hN : cfg0.N = 16 := N_0
  refine (dats m 0 c).arrAt_apply_of_mem 6 (outX (inc m c) (wts m c) (feat m c) (gain m c) (res m c)) ?_ cfg0.N ⟨(i 0).val / 256, by omega⟩ i (by show (i 0).val / 256 < _; omega) (flush0_6 _) (mem6 _ i rfl)
  intro t _
  by_cases h0 : t.val % 16 = 0
  · rw [Value.flushed6_A m c t h0]
    funext y
    refine (outA6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (iblk m c 0 t) (iblk m c 1 t) (iblk m c 2 t) (iblk m c 3 t) (iblk m c 4 t) (iblk m c 5 t) ((hcond0_0 t).mpr h0) y).trans ((tile_blk m c t y).trans ?_)
    show _ = outX (inc m c) (wts m c) (feat m c) (gain m c) (res m c) ((win0_6.rect t).emb y)
    rw [emb6]
    rfl
  · rw [Value.flushed6_B m c t h0]
    funext y
    refine (outB6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (iblk m c 0 t) (iblk m c 1 t) (iblk m c 2 t) (iblk m c 3 t) (iblk m c 4 t) (iblk m c 5 t) (fun h => h0 ((hcond0_0 t).mp h)) (outsAt0 m c (t.val - 1) (Nat.lt_of_le_of_lt (Nat.sub_le _ _) t.isLt)).2.2 y).trans ((tile_blk m c t y).trans ?_)
    show _ = outX (inc m c) (wts m c) (feat m c) (gain m c) (res m c) ((win0_6.rect t).emb y)
    rw [emb6]
    rfl

theorem res7 (i : S4096x1024.Idx) : (dats m 0 c).arrAt 7 cfg0.N i = outX (inc m c) (wts m c) (feat m c) (gain m c) (res m c) i := by
  have h0 : (i 0).val < 4096 := (i 0).isLt
  have hN : cfg0.N = 16 := N_0
  refine (dats m 0 c).arrAt_apply_of_mem 7 (outX (inc m c) (wts m c) (feat m c) (gain m c) (res m c)) ?_ cfg0.N ⟨(i 0).val / 256, by omega⟩ i (by show (i 0).val / 256 < _; omega) (flush0_7 _) (mem7 _ i rfl)
  intro t _
  by_cases h0 : t.val % 16 = 0
  · rw [Value.flushed7_A m c t h0]
    funext y
    refine (outA7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (iblk m c 0 t) (iblk m c 1 t) (iblk m c 2 t) (iblk m c 3 t) (iblk m c 4 t) (iblk m c 5 t) ((hcond0_0 t).mpr h0) y).trans ((tile_blk m c t y).trans ?_)
    show _ = outX (inc m c) (wts m c) (feat m c) (gain m c) (res m c) ((win0_7.rect t).emb y)
    rw [emb7]
    rfl
  · rw [Value.flushed7_B m c t h0]
    funext y
    refine (outB7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (iblk m c 0 t) (iblk m c 1 t) (iblk m c 2 t) (iblk m c 3 t) (iblk m c 4 t) (iblk m c 5 t) (fun h => h0 ((hcond0_0 t).mp h)) (outsAt0 m c (t.val - 1) (Nat.lt_of_le_of_lt (Nat.sub_le _ _) t.isLt)).2.2 y).trans ((tile_blk m c t y).trans ?_)
    show _ = outX (inc m c) (wts m c) (feat m c) (gain m c) (res m c) ((win0_7.rect t).emb y)
    rw [emb7]
    rfl

/-- The last point. -/
def lastPt : Fin cfg0.N := ⟨15, by show 15 < grid0.N; rw [N_0]; norm_num⟩

theorem total (y : S1x1024.Idx) : (∑ b ∈ Finset.range 4096, add m c (y 1) b) = outG (inc m c) (wts m c) (feat m c) y := by
  rw [Finset.sum_range]
  refine Finset.sum_congr rfl fun r _ => ?_
  unfold add
  rw [dif_pos r.isLt]

theorem res8 (y : S1x1024.Idx) : (dats m 0 c).arrAt 8 cfg0.N y = outG (inc m c) (wts m c) (feat m c) y := by
  have hN : cfg0.N = 16 := N_0
  refine (dats m 0 c).arrAt_apply_of_mem 8 (outG (inc m c) (wts m c) (feat m c)) ?_ cfg0.N lastPt y (by show 15 < _; omega) ((flush0_8 _).mpr rfl) ?_
  · intro t ht
    have ht7 : t.val = 15 := by have h1 := (flush0_8 t).mp ht; have h2 := t.isLt; omega
    rw [Value.flushed8]
    funext y
    have key := acc_outs m c y t.val t.isLt
    rw [show 256 * (t.val + 1) = 4096 by rw [ht7], total] at key
    refine Eq.trans ?_ (key.trans ?_)
    · rfl
    · show _ = outG (inc m c) (wts m c) (feat m c) ((win0_8.rect t).emb y)
      rw [emb8]
  · have e := ((cfg0.win 8).blk lastPt).view.emb_mem_set y
    exact (emb8 lastPt y) ▸ e

end Cert.Kernel8Ideal.Norm

namespace Cert.Proof.Norm8

open Idealize.ShloMosaic Idealize.ShloMosaic.TcCoe Idealize.ShloMosaic.StableHlo Idealize.SL.Sem

theorem frame_reference : Cert.quiescent_Reference8Ideal := by
  intro m ρ _
  exact (θ_run Cert.Reference8Ideal.defs _ _).mono (fun r h => ⟨fun c => (h c).2.2.2, sem_eq_zero_of_no_sems (by decide) r.2⟩)
    (Cert.Reference8Ideal.Value.run (F := Ideal) m ρ)

theorem algebraic : Cert.algebraic_Kernel8Ideal_Reference8Ideal := by
  intro m g m' g' _ ha
  refine ⟨fun c (i : Cert.Kernel8Ideal.S4096x1024.Idx) => Cert.Reference8Ideal.Norm.outX (Cert.Kernel8Ideal.Norm.inc m c) (Cert.Kernel8Ideal.Norm.wts m c) (Cert.Kernel8Ideal.Norm.feat m c) (Cert.Kernel8Ideal.Norm.gain m c) (Cert.Kernel8Ideal.Norm.res m c) i,
    fun c (i : Cert.Kernel8Ideal.S4096x1024.Idx) => Cert.Reference8Ideal.Norm.outX (Cert.Kernel8Ideal.Norm.inc m c) (Cert.Kernel8Ideal.Norm.wts m c) (Cert.Kernel8Ideal.Norm.feat m c) (Cert.Kernel8Ideal.Norm.gain m c) (Cert.Kernel8Ideal.Norm.res m c) i,
    fun c (i : Cert.Kernel8Ideal.S1x1024.Idx) => Cert.Reference8Ideal.Norm.outG (Cert.Kernel8Ideal.Norm.inc m c) (Cert.Kernel8Ideal.Norm.wts m c) (Cert.Kernel8Ideal.Norm.feat m c) i, ?_, ?_⟩
  · refine (θ_run Cert.Kernel8Ideal.defs _ _).mono (fun r h c => ?_) (Cert.Kernel8Ideal.Value.run_blocks (F := Ideal) m g)
    obtain ⟨r1, r2, r3, hargs⟩ := h c
    exact ⟨r1.trans (funext fun i => Cert.Kernel8Ideal.Norm.res6 m c i), r2.trans (funext fun i => Cert.Kernel8Ideal.Norm.res7 m c i), r3.trans (funext fun i => Cert.Kernel8Ideal.Norm.res8 m c i), hargs⟩
  · refine (θ_run Cert.Reference8Ideal.defs _ _).mono (fun r h c => ?_) (Cert.Reference8Ideal.Value.run (F := Ideal) m' g')
    obtain ⟨r1, r2, r3, hargs⟩ := h c
    obtain ⟨a0, a1, a2, a3, a4⟩ := ha c
    refine ⟨r1.trans ((Cert.Reference8Ideal.Read.val_main_v39_eq _ _).trans (funext fun i => ?_)), r2.trans ((Cert.Reference8Ideal.Read.val_main_v41_eq _ _).trans (funext fun i => ?_)), r3.trans ((Cert.Reference8Ideal.Read.val_main_v22_eq _ _ _).trans (funext fun i => ?_)), hargs⟩
    · refine (Cert.Reference8Ideal.Norm.dx_apply _ _ _ _ _ i).trans ?_
      show _ = Cert.Reference8Ideal.Norm.outX (Cert.Kernel8Ideal.Gen.V m c Cert.Kernel8Ideal.main_arg0) (Cert.Kernel8Ideal.Gen.V m c Cert.Kernel8Ideal.main_arg1) (Cert.Kernel8Ideal.Gen.V m c Cert.Kernel8Ideal.main_arg2) (Cert.Kernel8Ideal.Gen.V m c Cert.Kernel8Ideal.main_arg3) (Cert.Kernel8Ideal.Gen.V m c Cert.Kernel8Ideal.main_arg4) i
      rw [Cert.Kernel8Ideal.Gen.V_main_arg0, Cert.Kernel8Ideal.Gen.V_main_arg1, Cert.Kernel8Ideal.Gen.V_main_arg2, Cert.Kernel8Ideal.Gen.V_main_arg3, Cert.Kernel8Ideal.Gen.V_main_arg4, a0, a1, a2, a3, a4]
    · refine (Cert.Reference8Ideal.Norm.dxb_apply _ _ _ _ _ i).trans ?_
      show _ = Cert.Reference8Ideal.Norm.outX (Cert.Kernel8Ideal.Gen.V m c Cert.Kernel8Ideal.main_arg0) (Cert.Kernel8Ideal.Gen.V m c Cert.Kernel8Ideal.main_arg1) (Cert.Kernel8Ideal.Gen.V m c Cert.Kernel8Ideal.main_arg2) (Cert.Kernel8Ideal.Gen.V m c Cert.Kernel8Ideal.main_arg3) (Cert.Kernel8Ideal.Gen.V m c Cert.Kernel8Ideal.main_arg4) i
      rw [Cert.Kernel8Ideal.Gen.V_main_arg0, Cert.Kernel8Ideal.Gen.V_main_arg1, Cert.Kernel8Ideal.Gen.V_main_arg2, Cert.Kernel8Ideal.Gen.V_main_arg3, Cert.Kernel8Ideal.Gen.V_main_arg4, a0, a1, a2, a3, a4]
    · refine (Cert.Reference8Ideal.Norm.gain_apply _ _ _ i).trans ?_
      show _ = Cert.Reference8Ideal.Norm.outG (Cert.Kernel8Ideal.Gen.V m c Cert.Kernel8Ideal.main_arg0) (Cert.Kernel8Ideal.Gen.V m c Cert.Kernel8Ideal.main_arg1) (Cert.Kernel8Ideal.Gen.V m c Cert.Kernel8Ideal.main_arg2) i
      rw [Cert.Kernel8Ideal.Gen.V_main_arg0, Cert.Kernel8Ideal.Gen.V_main_arg1, Cert.Kernel8Ideal.Gen.V_main_arg2, a0, a1, a2]

end Cert.Proof.Norm8

end
-- ==== Proof.Norm9.lean ====
/- The gradient through the input projection and its normalisation: the tiled kernel and the chain rule of the forward lines. -/
module

public import proofs.«01_k».proof.Defs
public import proofs.«01_k».proof.Proof.Gen.Kernel9Ideal.Value
public import proofs.«01_k».proof.Proof.Gen.Reference9Ideal.Run
public import proofs.«01_k».proof.Proof.Gen.Reference9Ideal.Read
public import proofs.«01_k».proof.Proof.NormGrad
public import Idealize.ShloMosaic.Lib.KernelVsHost

@[expose] public section

set_option maxRecDepth 16384

noncomputable section

namespace Cert.Reference9Ideal.Norm

open Cert.Reference9Ideal Cert.Reference9Ideal.Read Idealize.ShloMosaic Idealize.ShloMosaic.TcCoe
open Cert.Norm

/-- The gradient of the normalised features: the product with the transposed weights. -/
def back (d : S4096x3200.Idx → EReal) (w : S3080x1024.Idx → EReal) (r : Fin 4096) (j : Fin 1024) : EReal := ∑ k : Fin 3080, d (ValueIdx.ix2 r ⟨k.val, Nat.lt_trans k.isLt (by decide)⟩) * w (ValueIdx.ix2 k j)

/-- The gradient of the row before its normalisation and gain. -/
def scaled (d : S4096x3200.Idx → EReal) (w : S3080x1024.Idx → EReal) (g : S1x1024.Idx → EReal) (r : Fin 4096) (j : Fin 1024) : EReal := back d w r j * g (ValueIdx.ix2 0 j)

/-- The gradient of the features, the residual's gradient added. -/
def outX (d : S4096x3200.Idx → EReal) (w : S3080x1024.Idx → EReal) (x : S4096x1024.Idx → EReal) (g : S1x1024.Idx → EReal) (e : S4096x1024.Idx → EReal) (i : S4096x1024.Idx) : EReal :=
  factored (row (M := 4096) x (i 0)) (scaled d w g (i 0)) (i 1) + e i

/-- What one row adds to the gradient of the gain. -/
def share (d : S4096x3200.Idx → EReal) (w : S3080x1024.Idx → EReal) (x : S4096x1024.Idx → EReal) (r : Fin 4096) (j : Fin 1024) : EReal := back d w r j * (x (ValueIdx.ix2 r j) * rstd (row (M := 4096) x r))

/-- The gradient of the gain. -/
def outG (d : S4096x3200.Idx → EReal) (w : S3080x1024.Idx → EReal) (x : S4096x1024.Idx → EReal) (i : S1x1024.Idx) : EReal := ∑ r : Fin 4096, share d w x r (i 1)

theorem var_apply (x : S4096x1024.Idx → EReal) (i : S4096x1.Idx) : val_main_v6 (F := Ideal) x i = var (row (M := 4096) x (i 0)) := by
  rw [val_main_v6_apply, val_main_v4_apply, val_main_v2_apply, val_main_v1_apply, val_main_v3_apply, val_main_v5_apply]
  show Ideal.div (Ideal.ofBits .f32 0x00000000#32 + _) _ + _ = _
  rw [Ideal.ofBits_zero_f32, zero_add]
  refine congrArg (fun a : EReal => Ideal.div a (FloatOps.ofBits (F := Ideal) .f32 0x44800000#32) + FloatOps.ofBits (F := Ideal) .f32 0x358637BD#32) (Finset.sum_congr rfl fun k _ => ?_)
  have e : idx_main_v1 (idx_main_v2 i) k = ValueIdx.ix2 (i 0) k := by
    funext a
    match a with
    | ⟨0, _⟩ => rfl
    | ⟨1, _⟩ => rfl
  rw [e]
  rfl

theorem rms_apply (x : S4096x1024.Idx → EReal) (i : S4096x1.Idx) : val_main_v7 (F := Ideal) x i = rstd (row (M := 4096) x (i 0)) := by
  rw [val_main_v7_apply, var_apply]
  rfl

theorem xr_apply (x : S4096x1024.Idx → EReal) (i : S4096x1024.Idx) : val_main_v12 (F := Ideal) x i = x i * rstd (row (M := 4096) x (i 0)) := by
  rw [val_main_v12_apply, val_main_v11_apply, rms_apply]
  rfl

theorem slope_apply (x : S4096x1024.Idx → EReal) (i : S4096x1.Idx) : val_main_v10 (F := Ideal) x i = FloatOps.ofBits (F := Ideal) .f32 0xBF000000#32 * Ideal.div (rstd (row (M := 4096) x (i 0))) (var (row (M := 4096) x (i 0))) := by
  rw [val_main_v10_apply, val_main_v9_apply, val_main_v8_apply, rms_apply, var_apply]
  rfl

theorem back_apply (d : S4096x3200.Idx → EReal) (w : S3080x1024.Idx → EReal) (i : S4096x1024.Idx) : val_main_v20 (F := Ideal) d w i = back d w (i 0) (i 1) := by
  rw [val_main_v20_apply]
  refine Finset.sum_congr rfl fun k _ => ?_
  rw [val_main_v19_apply, val_main_v18_apply, val_main_v16_apply, val_main_v15_apply]
  refine congrArg₂ (fun a b : EReal => a * b) (congrArg d ?_) (congrArg w ?_)
  · funext a
    apply Fin.ext
    match a with
    | ⟨0, _⟩ => first | rfl | exact Nat.zero_add _
    | ⟨1, _⟩ => first | rfl | exact Nat.zero_add _
  · funext a
    match a with
    | ⟨0, _⟩ => rfl
    | ⟨1, _⟩ => rfl

theorem gain_apply (d : S4096x3200.Idx → EReal) (w : S3080x1024.Idx → EReal) (x : S4096x1024.Idx → EReal) (i : S1x1024.Idx) : val_main_v23 (F := Ideal) d w x i = outG d w x i := by
  rw [val_main_v23_apply, val_main_v22_apply]
  show Ideal.ofBits .f32 0x00000000#32 + _ = _
  rw [Ideal.ofBits_zero_f32, zero_add]
  refine Finset.sum_congr rfl fun r _ => ?_
  rw [val_main_v21_apply, xr_apply, back_apply]
  have e : idx_main_v22 (idx_main_v23 i) r = ValueIdx.ix2 r (i 1) := by
    funext a
    match a with
    | ⟨0, _⟩ => rfl
    | ⟨1, _⟩ =>
      apply Fin.ext
      have h0 : (i 0).val < 1 := (i 0).isLt
      show (i 0).val * 1024 + (i 1).val = (i 1).val
      omega
  rw [e]
  exact mul_comm _ _

theorem scaled_apply (d : S4096x3200.Idx → EReal) (w : S3080x1024.Idx → EReal) (g : S1x1024.Idx → EReal) (i : S4096x1024.Idx) : val_main_v25 (F := Ideal) d w g i = scaled d w g (i 0) (i 1) := by
  rw [val_main_v25_apply, val_main_v24_apply, back_apply]
  refine congrArg (fun a : EReal => back d w (i 0) (i 1) * a) (congrArg g ?_)
  funext a
  match a with
  | ⟨0, _⟩ => rfl
  | ⟨1, _⟩ => rfl

theorem through_apply (d : S4096x3200.Idx → EReal) (w : S3080x1024.Idx → EReal) (x : S4096x1024.Idx → EReal) (g : S1x1024.Idx → EReal) (i : S4096x1024.Idx) : val_main_v35 (F := Ideal) d w x g i = through (row (M := 4096) x (i 0)) (scaled d w g (i 0)) := by
  rw [val_main_v35_apply, val_main_v34_apply]
  show Ideal.ofBits .f32 0x00000000#32 + _ = _
  rw [Ideal.ofBits_zero_f32, zero_add, Fin.sum_univ_one, val_main_v33_apply, val_main_v32_apply, val_main_v31_apply, val_main_v28_apply, val_main_v27_apply, slope_apply]
  show Ideal.div ((Ideal.ofBits .f32 0x00000000#32 + _) * _) _ = _
  rw [Ideal.ofBits_zero_f32, zero_add]
  refine congrArg (fun a : EReal => Ideal.div (a * (FloatOps.ofBits (F := Ideal) .f32 0xBF000000#32 * Ideal.div (rstd (row (M := 4096) x (i 0))) (var (row (M := 4096) x (i 0))))) (FloatOps.ofBits (F := Ideal) .f32 0x44800000#32)) (Finset.sum_congr rfl fun k _ => ?_)
  rw [val_main_v26_apply, scaled_apply]
  have e : idx_main_v27 (idx_main_v28 (idx_main_v34 (idx_main_v35 i) 0)) k = ValueIdx.ix2 (i 0) k := by
    funext a
    match a with
    | ⟨0, _⟩ =>
      apply Fin.ext
      show (i 0).val * 1 + 0 = (i 0).val
      omega
    | ⟨1, _⟩ => rfl
  rw [e]
  rfl

theorem dx_apply (d : S4096x3200.Idx → EReal) (w : S3080x1024.Idx → EReal) (x : S4096x1024.Idx → EReal) (g : S1x1024.Idx → EReal) (e : S4096x1024.Idx → EReal) (i : S4096x1024.Idx) : val_main_v40 (F := Ideal) d w x g e i = outX d w x g e i := by
  rw [val_main_v40_apply, val_main_v39_apply, val_main_v38_apply, val_main_v37_apply, val_main_v36_apply, val_main_v30_apply, val_main_v29_apply, scaled_apply, through_apply, rms_apply]
  refine Eq.trans ?_ (congrArg (fun a : EReal => a + e i) (factored_eq (row (M := 4096) x (i 0)) (scaled d w g (i 0)) (i 1)).symm)
  have e1 : x i = row (M := 4096) x (i 0) (i 1) := congrArg x (by
    funext a
    match a with
    | ⟨0, _⟩ => rfl
    | ⟨1, _⟩ => rfl)
  rw [e1]
  rfl

theorem dxb_apply (d : S4096x3200.Idx → EReal) (w : S3080x1024.Idx → EReal) (x : S4096x1024.Idx → EReal) (g : S1x1024.Idx → EReal) (e : S4096x1024.Idx → EReal) (i : S4096x1024.Idx) : val_main_v42 (F := Ideal) d w x g e i = outX d w x g e i := by
  rw [val_main_v42_apply, val_main_v41_apply]
  exact dx_apply d w x g e i

end Cert.Reference9Ideal.Norm

namespace Cert.Kernel9Ideal.Norm

open Cert.Kernel9Ideal Cert.Kernel9Ideal.Gen Idealize.ShloMosaic Idealize.ShloMosaic.TcCoe Idealize.SL.Sem
open Cert.Mm Cert.Norm
open Cert.Reference9Ideal.Norm (back scaled outX share outG rms_apply)

/-- The gradient of the normalised row, in one tile: the first 3072 columns and the tail. -/
def dh (v0 : Vec Ideal S512x3072 .bf16) (v1 : Vec Ideal S3072x1024 .bf16) (v3 : Vec Ideal S512x128 .bf16) (v4 : Vec Ideal S128x1024 .bf16) (r : Fin 512) (j : Fin 1024) : EReal :=
  nn (M := 512) (K := 3072) (N := 1024) v0 v1 r j + nn (M := 512) (K := 128) (N := 1024) v3 v4 r j

theorem dh_apply (v0 : Vec Ideal S512x3072 .bf16) (v1 : Vec Ideal S3072x1024 .bf16) (v3 : Vec Ideal S512x128 .bf16) (v4 : Vec Ideal S128x1024 .bf16) (y : S512x1024.Idx) : k0_pay3 (F := Ideal) v0 v1 v3 v4 y = dh v0 v1 v3 v4 (y 0) (y 1) := by
  have e4 : shapeCast S128x1024 v4 shapeCasts_S128x1024_S128x1024 = v4 := by
    funext z
    pointwise
  unfold k0_pay3 dh
  refine congrArg₂ (fun a b : EReal => a + b) ?_ ?_
  · refine (nn_matmul (M := 512) (K := 3072) (N := 1024) (φ₁ := .bf16) (φ₂ := .bf16) dot_S512x3072_S3072x1024_S512x1024_1_0_0_1_n_n_wf none v0 v1 (constant S512x1024 .f32 0x00000000#32) y).trans ?_
    rw [zero_constant, zero_add]
  · refine (nn_matmul (M := 512) (K := 128) (N := 1024) (φ₁ := .bf16) (φ₂ := .bf16) dot_S512x128_S128x1024_S512x1024_1_0_0_1_n_n_wf none v3 (shapeCast S128x1024 v4 shapeCasts_S128x1024_S128x1024) (constant S512x1024 .f32 0x00000000#32) y).trans ?_
    rw [zero_constant, zero_add, e4]

theorem xr_apply (x : Vec Ideal S512x1024 .f32) (r : Vec Ideal S512x1 .f32) (y : S512x1024.Idx) : k0_pay5 (F := Ideal) x r y = x y * r (ValueIdx.ix2 (y 0) 0) := by
  pointwise [k0_pay5, k0_pay4]
  rfl

theorem part_apply (v0 : Vec Ideal S512x3072 .bf16) (v1 : Vec Ideal S3072x1024 .bf16) (v3 : Vec Ideal S512x128 .bf16) (v4 : Vec Ideal S128x1024 .bf16) (x : Vec Ideal S512x1024 .f32) (r : Vec Ideal S512x1 .f32) (y : S512x1024.Idx) : k0_pay6 (F := Ideal) v0 v1 v3 v4 x r y = dh v0 v1 v3 v4 (y 0) (y 1) * (x y * r (ValueIdx.ix2 (y 0) 0)) := by
  unfold k0_pay6
  exact congrArg₂ (fun a b : EReal => a * b) (dh_apply v0 v1 v3 v4 y) (xr_apply x r y)

/-- One entry of the gradient of a row, at a given factor of the row. -/
def tileRow (x u : Fin 1024 → EReal) (r : EReal) (j : Fin 1024) : EReal :=
  r * (u j - x j * r * Ideal.div (∑ k, u k * (x k * r)) (FloatOps.ofBits (F := Ideal) .f32 0x44800000#32))

theorem dx_apply (v0 : Vec Ideal S512x3072 .bf16) (v1 : Vec Ideal S3072x1024 .bf16) (v3 : Vec Ideal S512x128 .bf16) (v4 : Vec Ideal S128x1024 .bf16) (x : Vec Ideal S512x1024 .f32) (r : Vec Ideal S512x1 .f32) (g : Vec Ideal S1x1024 .f32) (d : Vec Ideal S512x1024 .f32) (y : S512x1024.Idx) : k0_pay7 (F := Ideal) v0 v1 v3 v4 x r g d y =
    tileRow (row x (y 0)) (fun k => dh v0 v1 v3 v4 (y 0) k * g (ValueIdx.ix2 0 k)) (r (ValueIdx.ix2 (y 0) 0)) (y 1) + d y := by
  have e : x y = x (ValueIdx.ix2 (y 0) (y 1)) := congrArg x (by
    funext a
    match a with
    | ⟨0, _⟩ => rfl
    | ⟨1, _⟩ => rfl)
  pointwise [k0_pay7, k0_pay4]
  simp only [dh_apply, xr_apply]
  unfold tileRow row
  rw [e]
  rfl

theorem dxb_apply (v0 : Vec Ideal S512x3072 .bf16) (v1 : Vec Ideal S3072x1024 .bf16) (v3 : Vec Ideal S512x128 .bf16) (v4 : Vec Ideal S128x1024 .bf16) (x : Vec Ideal S512x1024 .f32) (r : Vec Ideal S512x1 .f32) (g : Vec Ideal S1x1024 .f32) (d : Vec Ideal S512x1024 .f32) (y : S512x1024.Idx) : k0_pay8 (F := Ideal) v0 v1 v3 v4 x r g d y =
    tileRow (row x (y 0)) (fun k => dh v0 v1 v3 v4 (y 0) k * g (ValueIdx.ix2 0 k)) (r (ValueIdx.ix2 (y 0) 0)) (y 1) + d y :=
  dx_apply v0 v1 v3 v4 x r g d y

theorem acc_apply (v : Vec Ideal S512x1024 .f32) (w : Vec Ideal S1x1024 .f32) (y : S1x1024.Idx) : k0_pay2 (F := Ideal) v w y = w y + ∑ r : Fin 512, v (ValueIdx.ix2 r (y 1)) := by
  pointwise [k0_pay2]
  rfl

theorem zero_apply (y : S1x1024.Idx) : k0_pay1 (F := Ideal) y = 0 := by pointwise [k0_pay1]

/-- The first 3072 columns of a block. -/
def fore (x0 : Vec Ideal S512x3200 .bf16) : Vec Ideal S512x3072 .bf16 := fun y => x0 (ValueIdx.ix2 (y 0) ⟨(y 1).val, Nat.lt_trans (y 1).isLt (by decide)⟩)
/-- The last 128 columns of a block. -/
def aft (x0 : Vec Ideal S512x3200 .bf16) : Vec Ideal S512x128 .bf16 := fun y => x0 (ValueIdx.ix2 (y 0) ⟨3072 + (y 1).val, by have : (y 1).val < 128 := (y 1).isLt; omega⟩)

/-- One entry of the gradient of the features, from one block of each argument. -/
def tileX (x0 : Vec Ideal S512x3200 .bf16) (x1 : Vec Ideal S3072x1024 .bf16) (x2 : Vec Ideal S128x1024 .bf16) (x3 : Vec Ideal S512x1024 .f32) (x4 : Vec Ideal S512x1 .f32) (x5 : Vec Ideal S1x1024 .f32) (x6 : Vec Ideal S512x1024 .f32) (y : S512x1024.Idx) : EReal :=
  tileRow (row x3 (y 0)) (fun k => dh (fore x0) x1 (aft x0) x2 (y 0) k * x5 (ValueIdx.ix2 0 k)) (x4 (ValueIdx.ix2 (y 0) 0)) (y 1) + x6 y

/-- What one row of a block adds to the gradient of the gain. -/
def tileG (x0 : Vec Ideal S512x3200 .bf16) (x1 : Vec Ideal S3072x1024 .bf16) (x2 : Vec Ideal S128x1024 .bf16) (x3 : Vec Ideal S512x1024 .f32) (x4 : Vec Ideal S512x1 .f32) (x5 : Vec Ideal S1x1024 .f32) (x6 : Vec Ideal S512x1024 .f32) (r : Fin 512) (j : Fin 1024) : EReal := dh (fore x0) x1 (aft x0) x2 r j * (x3 (ValueIdx.ix2 r j) * x4 (ValueIdx.ix2 r 0))

theorem tileRow_congr {x u : Fin 1024 → EReal} {r : EReal} (x' u' : Fin 1024 → EReal) (r' : EReal) (j : Fin 1024) (h1 : x = x') (h2 : u = u') (h3 : r = r') :
    tileRow x u r j = tileRow x' u' r' j := by rw [h1, h2, h3]

section run

variable (c : Dev nD) (i : grid0.Coords)
variable (arg1 : Memref sig .tc .vmem S512x3200 .bf16) (harg1 : arg1.IsWhole)
variable (arg2 : Memref sig .tc .vmem S3072x1024 .bf16) (harg2 : arg2.IsWhole)
variable (arg3 : Memref sig .tc .vmem S128x1024 .bf16) (harg3 : arg3.IsWhole)
variable (arg4 : Memref sig .tc .vmem S512x1024 .f32) (harg4 : arg4.IsWhole)
variable (arg5 : Memref sig .tc .vmem S512x1 .f32) (harg5 : arg5.IsWhole)
variable (arg6 : Memref sig .tc .vmem S1x1024 .f32) (harg6 : arg6.IsWhole)
variable (arg7 : Memref sig .tc .vmem S512x1024 .f32) (harg7 : arg7.IsWhole)
variable (arg8 : Memref sig .tc .vmem S512x1024 .f32) (harg8 : arg8.IsWhole)
variable (arg9 : Memref sig .tc .vmem S512x1024 .bf16) (harg9 : arg9.IsWhole)
variable (arg10 : Memref sig .tc .vmem S1x1024 .f32) (harg10 : arg10.IsWhole)
variable (x0 : Vec Ideal S512x3200 .bf16) (x1 : Vec Ideal S3072x1024 .bf16) (x2 : Vec Ideal S128x1024 .bf16) (x3 : Vec Ideal S512x1024 .f32) (x4 : Vec Ideal S512x1 .f32) (x5 : Vec Ideal S1x1024 .f32) (x6 : Vec Ideal S512x1024 .f32)

theorem loadA : View.readAt (Elt Ideal) arg1.view (Rect.unit (s := S512x3200) ![0, 0] S512x3072.size inb_S512x3200_S512x3072_0_0).toLoadRect (harg1.unread x0) = fore x0 := by
  refine (View.readAt_eq_ld ..).trans ?_
  rw [harg1.read_unread]
  funext y
  refine congrArg x0 (funext fun a => Fin.ext ?_)
  match a with
  | ⟨0, _⟩ => exact (Nat.zero_add _).trans (Nat.one_mul _)
  | ⟨1, _⟩ => exact (Nat.zero_add _).trans (Nat.one_mul _)
theorem loadB : View.readAt (Elt Ideal) arg1.view (Rect.unit (s := S512x3200) ![0, 3072] S512x128.size inb_S512x3200_S512x128_0_3072).toLoadRect (harg1.unread x0) = aft x0 := by
  refine (View.readAt_eq_ld ..).trans ?_
  rw [harg1.read_unread]
  funext y
  refine congrArg x0 (funext fun a => Fin.ext ?_)
  match a with
  | ⟨0, _⟩ => exact (Nat.zero_add _).trans (Nat.one_mul _)
  | ⟨1, _⟩ => exact congrArg (3072 + ·) (Nat.one_mul _)

section caseA

variable (hc0 : cond0_0 i)

theorem runA7 : (kernelRun0_A c i arg1 harg1 arg2 harg2 arg3 harg3 arg4 harg4 arg5 harg5 arg6 harg6 arg7 harg7 arg8 harg8 arg9 harg9 arg10 harg10 hc0 x0 x1 x2 x3 x4 x5 x6).1
    = [⟨(Rect.unit (s := S512x1024) ![0, 0] S512x1024.size inb_S512x1024_S512x1024_0_0), k0_pay7 (View.readAt (Elt Ideal) arg1.view (Rect.unit (s := S512x3200) ![0, 0] S512x3072.size inb_S512x3200_S512x3072_0_0).toLoadRect (harg1.unread x0)) (whole harg2 x1) (View.readAt (Elt Ideal) arg1.view (Rect.unit (s := S512x3200) ![0, 3072] S512x128.size inb_S512x3200_S512x128_0_3072).toLoadRect (harg1.unread x0)) (whole harg3 x2) (whole harg4 x3) (whole harg5 x4) (whole harg6 x5) (whole harg7 x6)⟩] := by sl_kernel_rfl
theorem outA7 (y : S512x1024.Idx) : out0_A_7 c i arg1 harg1 arg2 harg2 arg3 harg3 arg4 harg4 arg5 harg5 arg6 harg6 arg7 harg7 arg8 harg8 arg9 harg9 arg10 harg10 hc0 x0 x1 x2 x3 x4 x5 x6 y = tileX x0 x1 x2 x3 x4 x5 x6 y := by
  unfold out0_A_7
  rw [View.read_writes_eq_canon _ _ _ (cover0_A_7 c i arg1 harg1 arg2 harg2 arg3 harg3 arg4 harg4 arg5 harg5 arg6 harg6 arg7 harg7 arg8 harg8 arg9 harg9 arg10 harg10 hc0 x0 x1 x2 x3 x4 x5 x6)]
  rw [runA7, loadA, loadB, whole_eq, whole_eq, whole_eq, whole_eq, whole_eq, whole_eq]
  exact (congrFun (View.canon_cons_unit_zero (S := S512x1024) zero2 _ _ _) y).trans (dx_apply (fore x0) x1 (aft x0) x2 x3 x4 x5 x6 y)
theorem runA8 : (kernelRun0_A c i arg1 harg1 arg2 harg2 arg3 harg3 arg4 harg4 arg5 harg5 arg6 harg6 arg7 harg7 arg8 harg8 arg9 harg9 arg10 harg10 hc0 x0 x1 x2 x3 x4 x5 x6).2.1
    = [⟨(Rect.unit (s := S512x1024) ![0, 0] S512x1024.size inb_S512x1024_S512x1024_0_0), k0_pay8 (View.readAt (Elt Ideal) arg1.view (Rect.unit (s := S512x3200) ![0, 0] S512x3072.size inb_S512x3200_S512x3072_0_0).toLoadRect (harg1.unread x0)) (whole harg2 x1) (View.readAt (Elt Ideal) arg1.view (Rect.unit (s := S512x3200) ![0, 3072] S512x128.size inb_S512x3200_S512x128_0_3072).toLoadRect (harg1.unread x0)) (whole harg3 x2) (whole harg4 x3) (whole harg5 x4) (whole harg6 x5) (whole harg7 x6)⟩] := by sl_kernel_rfl
theorem outA8 (y : S512x1024.Idx) : out0_A_8 c i arg1 harg1 arg2 harg2 arg3 harg3 arg4 harg4 arg5 harg5 arg6 harg6 arg7 harg7 arg8 harg8 arg9 harg9 arg10 harg10 hc0 x0 x1 x2 x3 x4 x5 x6 y = tileX x0 x1 x2 x3 x4 x5 x6 y := by
  unfold out0_A_8
  rw [View.read_writes_eq_canon _ _ _ (cover0_A_8 c i arg1 harg1 arg2 harg2 arg3 harg3 arg4 harg4 arg5 harg5 arg6 harg6 arg7 harg7 arg8 harg8 arg9 harg9 arg10 harg10 hc0 x0 x1 x2 x3 x4 x5 x6)]
  rw [runA8, loadA, loadB, whole_eq, whole_eq, whole_eq, whole_eq, whole_eq, whole_eq]
  exact (congrFun (View.canon_cons_unit_zero (S := S512x1024) zero2 _ _ _) y).trans (dxb_apply (fore x0) x1 (aft x0) x2 x3 x4 x5 x6 y)
theorem runA9 : (kernelRun0_A c i arg1 harg1 arg2 harg2 arg3 harg3 arg4 harg4 arg5 harg5 arg6 harg6 arg7 harg7 arg8 harg8 arg9 harg9 arg10 harg10 hc0 x0 x1 x2 x3 x4 x5 x6).2.2.1
    = [⟨(Rect.unit (s := S1x1024) ![0, 0] S1x1024.size inb_S1x1024_S1x1024_0_0), k0_pay2 (k0_pay6 (View.readAt (Elt Ideal) arg1.view (Rect.unit (s := S512x3200) ![0, 0] S512x3072.size inb_S512x3200_S512x3072_0_0).toLoadRect (harg1.unread x0)) (whole harg2 x1) (View.readAt (Elt Ideal) arg1.view (Rect.unit (s := S512x3200) ![0, 3072] S512x128.size inb_S512x3200_S512x128_0_3072).toLoadRect (harg1.unread x0)) (whole harg3 x2) (whole harg4 x3) (whole harg5 x4)) (arg10.view.readCov [⟨(Rect.unit (s := S1x1024) ![0, 0] S1x1024.size inb_S1x1024_S1x1024_0_0), k0_pay1 (F := Ideal)⟩] (Rect.unit (s := S1x1024) ![0, 0] S1x1024.size inb_S1x1024_S1x1024_0_0).toLoadRect)⟩,
      ⟨(Rect.unit (s := S1x1024) ![0, 0] S1x1024.size inb_S1x1024_S1x1024_0_0), k0_pay1 (F := Ideal)⟩] := by sl_kernel_rfl
theorem outA9 (y : S1x1024.Idx) : out0_A_9 c i arg1 harg1 arg2 harg2 arg3 harg3 arg4 harg4 arg5 harg5 arg6 harg6 arg7 harg7 arg8 harg8 arg9 harg9 arg10 harg10 hc0 x0 x1 x2 x3 x4 x5 x6 y = ∑ r : Fin 512, tileG x0 x1 x2 x3 x4 x5 x6 r (y 1) := by
  unfold out0_A_9
  rw [View.read_writes_eq_canon _ _ _ (cover0_A_9 c i arg1 harg1 arg2 harg2 arg3 harg3 arg4 harg4 arg5 harg5 arg6 harg6 arg7 harg7 arg8 harg8 arg9 harg9 arg10 harg10 hc0 x0 x1 x2 x3 x4 x5 x6)]
  rw [runA9, loadA, loadB, whole_eq, whole_eq, whole_eq, whole_eq, View.readCov_unit_zero _ zero2]
  refine (congrFun (View.canon_cons_unit_zero (S := S1x1024) zero2 _ _ _) y).trans ((acc_apply _ _ y).trans ?_)
  rw [zero_apply, zero_add]
  exact Finset.sum_congr rfl fun r _ => part_apply (fore x0) x1 (aft x0) x2 x3 x4 (ValueIdx.ix2 r (y 1))

end caseA

section caseB

variable (hc0 : ¬cond0_0 i) (xo9 : Vec Ideal S1x1024 .f32)

theorem runB7 : (kernelRun0_B c i arg1 harg1 arg2 harg2 arg3 harg3 arg4 harg4 arg5 harg5 arg6 harg6 arg7 harg7 arg8 harg8 arg9 harg9 arg10 harg10 hc0 x0 x1 x2 x3 x4 x5 x6 xo9).1
    = [⟨(Rect.unit (s := S512x1024) ![0, 0] S512x1024.size inb_S512x1024_S512x1024_0_0), k0_pay7 (View.readAt (Elt Ideal) arg1.view (Rect.unit (s := S512x3200) ![0, 0] S512x3072.size inb_S512x3200_S512x3072_0_0).toLoadRect (harg1.unread x0)) (whole harg2 x1) (View.readAt (Elt Ideal) arg1.view (Rect.unit (s := S512x3200) ![0, 3072] S512x128.size inb_S512x3200_S512x128_0_3072).toLoadRect (harg1.unread x0)) (whole harg3 x2) (whole harg4 x3) (whole harg5 x4) (whole harg6 x5) (whole harg7 x6)⟩] := by sl_kernel_rfl
theorem outB7 (y : S512x1024.Idx) : out0_B_7 c i arg1 harg1 arg2 harg2 arg3 harg3 arg4 harg4 arg5 harg5 arg6 harg6 arg7 harg7 arg8 harg8 arg9 harg9 arg10 harg10 hc0 x0 x1 x2 x3 x4 x5 x6 xo9 y = tileX x0 x1 x2 x3 x4 x5 x6 y := by
  unfold out0_B_7
  rw [View.read_writes_eq_canon _ _ _ (cover0_B_7 c i arg1 harg1 arg2 harg2 arg3 harg3 arg4 harg4 arg5 harg5 arg6 harg6 arg7 harg7 arg8 harg8 arg9 harg9 arg10 harg10 hc0 x0 x1 x2 x3 x4 x5 x6 xo9)]
  rw [runB7, loadA, loadB, whole_eq, whole_eq, whole_eq, whole_eq, whole_eq, whole_eq]
  exact (congrFun (View.canon_cons_unit_zero (S := S512x1024) zero2 _ _ _) y).trans (dx_apply (fore x0) x1 (aft x0) x2 x3 x4 x5 x6 y)
theorem runB8 : (kernelRun0_B c i arg1 harg1 arg2 harg2 arg3 harg3 arg4 harg4 arg5 harg5 arg6 harg6 arg7 harg7 arg8 harg8 arg9 harg9 arg10 harg10 hc0 x0 x1 x2 x3 x4 x5 x6 xo9).2.1
    = [⟨(Rect.unit (s := S512x1024) ![0, 0] S512x1024.size inb_S512x1024_S512x1024_0_0), k0_pay8 (View.readAt (Elt Ideal) arg1.view (Rect.unit (s := S512x3200) ![0, 0] S512x3072.size inb_S512x3200_S512x3072_0_0).toLoadRect (harg1.unread x0)) (whole harg2 x1) (View.readAt (Elt Ideal) arg1.view (Rect.unit (s := S512x3200) ![0, 3072] S512x128.size inb_S512x3200_S512x128_0_3072).toLoadRect (harg1.unread x0)) (whole harg3 x2) (whole harg4 x3) (whole harg5 x4) (whole harg6 x5) (whole harg7 x6)⟩] := by sl_kernel_rfl
theorem outB8 (y : S512x1024.Idx) : out0_B_8 c i arg1 harg1 arg2 harg2 arg3 harg3 arg4 harg4 arg5 harg5 arg6 harg6 arg7 harg7 arg8 harg8 arg9 harg9 arg10 harg10 hc0 x0 x1 x2 x3 x4 x5 x6 xo9 y = tileX x0 x1 x2 x3 x4 x5 x6 y := by
  unfold out0_B_8
  rw [View.read_writes_eq_canon _ _ _ (cover0_B_8 c i arg1 harg1 arg2 harg2 arg3 harg3 arg4 harg4 arg5 harg5 arg6 harg6 arg7 harg7 arg8 harg8 arg9 harg9 arg10 harg10 hc0 x0 x1 x2 x3 x4 x5 x6 xo9)]
  rw [runB8, loadA, loadB, whole_eq, whole_eq, whole_eq, whole_eq, whole_eq, whole_eq]
  exact (congrFun (View.canon_cons_unit_zero (S := S512x1024) zero2 _ _ _) y).trans (dxb_apply (fore x0) x1 (aft x0) x2 x3 x4 x5 x6 y)
theorem runB9 : (kernelRun0_B c i arg1 harg1 arg2 harg2 arg3 harg3 arg4 harg4 arg5 harg5 arg6 harg6 arg7 harg7 arg8 harg8 arg9 harg9 arg10 harg10 hc0 x0 x1 x2 x3 x4 x5 x6 xo9).2.2.1
    = [⟨(Rect.unit (s := S1x1024) ![0, 0] S1x1024.size inb_S1x1024_S1x1024_0_0), k0_pay2 (k0_pay6 (View.readAt (Elt Ideal) arg1.view (Rect.unit (s := S512x3200) ![0, 0] S512x3072.size inb_S512x3200_S512x3072_0_0).toLoadRect (harg1.unread x0)) (whole harg2 x1) (View.readAt (Elt Ideal) arg1.view (Rect.unit (s := S512x3200) ![0, 3072] S512x128.size inb_S512x3200_S512x128_0_3072).toLoadRect (harg1.unread x0)) (whole harg3 x2) (whole harg4 x3) (whole harg5 x4)) (whole harg10 xo9)⟩] := by sl_kernel_rfl
theorem outB9 (y : S1x1024.Idx) : out0_B_9 c i arg1 harg1 arg2 harg2 arg3 harg3 arg4 harg4 arg5 harg5 arg6 harg6 arg7 harg7 arg8 harg8 arg9 harg9 arg10 harg10 hc0 x0 x1 x2 x3 x4 x5 x6 xo9 y = xo9 y + ∑ r : Fin 512, tileG x0 x1 x2 x3 x4 x5 x6 r (y 1) := by
  unfold out0_B_9
  rw [View.read_writes_eq_canon _ _ _ (cover0_B_9 c i arg1 harg1 arg2 harg2 arg3 harg3 arg4 harg4 arg5 harg5 arg6 harg6 arg7 harg7 arg8 harg8 arg9 harg9 arg10 harg10 hc0 x0 x1 x2 x3 x4 x5 x6 xo9)]
  rw [runB9, loadA, loadB, whole_eq, whole_eq, whole_eq, whole_eq, whole_eq]
  refine (congrFun (View.canon_cons_unit_zero (S := S1x1024) zero2 _ _ _) y).trans ((acc_apply _ _ y).trans ?_)
  refine congrArg (fun a : EReal => xo9 y + a) ?_
  exact Finset.sum_congr rfl fun r _ => part_apply (fore x0) x1 (aft x0) x2 x3 x4 (ValueIdx.ix2 r (y 1))

end caseB

end run

variable (m : (ℓ : Loc nD τ sig) → Buf (Elt Ideal) ℓ) (c : Dev nD)

/-- The gradient coming in. -/
abbrev inc : S4096x3200.Idx → EReal := V m c main_arg0
/-- The weights. -/
abbrev wts : S3080x1024.Idx → EReal := V m c main_arg1
/-- The features. -/
abbrev feat : S4096x1024.Idx → EReal := V m c main_arg2
/-- The gain. -/
abbrev gain : S1x1024.Idx → EReal := V m c main_arg3
/-- The residual's gradient. -/
abbrev res : S4096x1024.Idx → EReal := V m c main_arg4
/-- The factors of the rows, from the host. -/
abbrev facs : S4096x1.Idx → EReal := V m c main_v9

theorem facs_eq : V m c main_v9 = Reference9Ideal.Read.val_main_v7 (F := Ideal) (V m c main_arg2) := by
  rw [V_main_arg2]
  show StableHlo.after (List.flatten [hostOps0, hostOps0_1, hostOps0_2]) (fun b => m (c, b)) _ = _
  simp only [hostOps0, hostOps0_1, hostOps0_2, StableHlo.TRef.binary, StableHlo.TRef.unary, StableHlo.TRef.toBuf, StableHlo.TRef.ofBuf, cast_eq, List.flatten_cons, List.flatten_nil, List.append_nil, List.cons_append, List.nil_append]
  after_results_simp
  rfl

theorem facs_apply (i : S4096x1.Idx) : facs m c i = rstd (row (M := 4096) (feat m c) (i 0)) :=
  (congrFun (facs_eq m c) i).trans (rms_apply (feat m c) i)

/-- Row `r` of block `t`. -/
abbrev place (t : Fin cfg0.N) (r : Fin 512) : Fin 4096 := ⟨512 * t.val + r.val, by have := t.isLt; have := r.isLt; have hN : cfg0.N = 8 := N_0; omega⟩

theorem index0 : ∀ t : Fin cfg0.N, win0_0.index t = ![t.val, 0] :=
  (by decide +kernel : ∀ t : Fin grid0.N, win0_0.index t = ![t.val, 0])

theorem emb0 (t : Fin cfg0.N) (y : S512x3200.Idx) : (win0_0.rect t).emb y = ValueIdx.ix2 (place t (y 0)) (y 1) := by
  have e0 : ((win0_0.rect t).emb y 0 : ℕ) = 512 * t.val + (y 0).val := by
    rw [Pipeline.Window.rect_emb_val win0_0 t y 0 rfl, index0]
    show t.val * 512 + _ = _
    omega
  have e1 : ((win0_0.rect t).emb y 1 : ℕ) = (y 1).val := by
    rw [Pipeline.Window.rect_emb_val win0_0 t y 1 rfl, index0]
    show 0 * 3200 + _ = _
    omega
  funext a
  apply Fin.ext
  match a with
  | ⟨0, _⟩ => exact e0
  | ⟨1, _⟩ => exact e1

theorem blk0 (t : Fin cfg0.N) (y : S512x3200.Idx) : iblk m c 0 t y = inc m c (ValueIdx.ix2 (place t (y 0)) (y 1)) := congrArg (inc m c) (emb0 t y)

theorem index1 : ∀ t : Fin cfg0.N, win0_1.index t = ![0, 0] :=
  (by decide +kernel : ∀ t : Fin grid0.N, win0_1.index t = ![0, 0])

theorem blk1 (t : Fin cfg0.N) (j : S3072x1024.Idx) : X0_1 m c t j = wts m c (ValueIdx.ix2 ⟨(j 0).val, Nat.lt_trans (j 0).isLt (by decide)⟩ (j 1)) := by
  have e : X0_1 m c t j = iblk m c 1 t (fun a => ⟨(j a).val, ((cfg0.win 1).moved_iff _ j).mp (moved0_1 t j) a⟩) := by
    unfold X0_1 Pipeline.Window.fill
    exact dif_pos (moved0_1 t j)
  rw [e]
  generalize hy : (fun a => (⟨(j a).val, ((cfg0.win 1).moved_iff _ j).mp (moved0_1 t j) a⟩ : Fin _)) = y
  have hy0 : (y 0 : ℕ) = (j 0).val := by rw [← hy]
  have hy1 : (y 1 : ℕ) = (j 1).val := by rw [← hy]
  have e0 : ((win0_1.rect t).emb y 0 : ℕ) = (j 0).val := by
    rw [Pipeline.Window.rect_emb_val win0_1 t y 0 rfl, index1, hy0]
    exact Nat.zero_add _
  have e1 : ((win0_1.rect t).emb y 1 : ℕ) = (j 1).val := by
    rw [Pipeline.Window.rect_emb_val win0_1 t y 1 rfl, index1, hy1]
    exact Nat.zero_add _
  refine congrArg (wts m c) (funext fun a => Fin.ext ?_)
  match a with
  | ⟨0, _⟩ => exact e0
  | ⟨1, _⟩ => exact e1

/-- The tail's rows are the last eight rows of the weights, then nothing. -/
abbrev tl : S128x1024.Idx → EReal := V m c main_v1

theorem tail_eq : V m c main_v1 = pad S128x1024 ![0, 0] ![120, 0] ![0, 0] (extractStridedSlice S8x1024 ![3072, 0] (V m c main_arg1 : Vec Ideal S3080x1024 .bf16) slices_S3080x1024_S8x1024_3072_0) (sitofp (F := Ideal) .bf16 (constantI S_ 32 0#32)) pads_S8x1024_S128x1024_01200_000 h_S_ := by
  rw [V_main_arg1]
  show StableHlo.after (List.flatten [hostOps0, hostOps0_1, hostOps0_2]) (fun b => m (c, b)) _ = _
  simp only [hostOps0, hostOps0_1, hostOps0_2, StableHlo.TRef.binary, StableHlo.TRef.unary, StableHlo.TRef.toBuf, StableHlo.TRef.ofBuf, cast_eq, List.flatten_cons, List.flatten_nil, List.append_nil, List.cons_append, List.nil_append]
  after_results_simp

theorem tail_in (i : S128x1024.Idx) (hc : (i 0).val < 8) : tl m c i = wts m c (ValueIdx.ix2 ⟨3072 + (i 0).val, by omega⟩ (i 1)) := by
  show V m c main_v1 i = _
  rw [tail_eq]
  refine (pad_apply_of_inside _ _ _ _ _ _ _ i (ValueIdx.ix2 ⟨(i 0).val, hc⟩ (i 1) : S8x1024.Idx) ?_).trans ?_
  · intro a
    match a with
    | ⟨0, _⟩ => show (i 0).val = 0 + (i 0).val * (0 + 1); omega
    | ⟨1, _⟩ => show (i 1).val = 0 + (i 1).val * (0 + 1); omega
  refine congrArg (wts m c) (funext fun a => Fin.ext ?_)
  match a with
  | ⟨0, _⟩ => rfl
  | ⟨1, _⟩ => exact Nat.zero_add _

theorem tail_out (i : S128x1024.Idx) (hc : ¬(i 0).val < 8) : tl m c i = 0 := by
  show V m c main_v1 i = _
  rw [tail_eq]
  refine (pad_apply_of_not_inside _ _ _ _ _ _ _ i (0 : Fin 2) (fun hh => hc ?_)).trans ?_
  · have h2 := hh.2.2
    have h3 : ((i 0).val - 0) / (0 + 1) < 8 := h2
    omega
  show ((((0#32 : BitVec 32).toInt : ℝ)) : EReal) = _
  simp

theorem index2 : ∀ t : Fin cfg0.N, win0_2.index t = ![0, 0] :=
  (by decide +kernel : ∀ t : Fin grid0.N, win0_2.index t = ![0, 0])

theorem blk2 (t : Fin cfg0.N) (j : S128x1024.Idx) : iblk m c 2 t j = tl m c j := by
  refine congrArg (tl m c) (funext fun a => Fin.ext (Pipeline.Window.rect_emb_val_of_index_zero win0_2 t a ?_ j))
  rw [index2]
  fin_cases a <;> rfl

theorem index3 : ∀ t : Fin cfg0.N, win0_3.index t = ![t.val, 0] :=
  (by decide +kernel : ∀ t : Fin grid0.N, win0_3.index t = ![t.val, 0])

theorem emb3 (t : Fin cfg0.N) (y : S512x1024.Idx) : (win0_3.rect t).emb y = ValueIdx.ix2 (place t (y 0)) (y 1) := by
  have e0 : ((win0_3.rect t).emb y 0 : ℕ) = 512 * t.val + (y 0).val := by
    rw [Pipeline.Window.rect_emb_val win0_3 t y 0 rfl, index3]
    show t.val * 512 + _ = _
    omega
  have e1 : ((win0_3.rect t).emb y 1 : ℕ) = (y 1).val := by
    rw [Pipeline.Window.rect_emb_val win0_3 t y 1 rfl, index3]
    show 0 * 1024 + _ = _
    omega
  funext a
  apply Fin.ext
  match a with
  | ⟨0, _⟩ => exact e0
  | ⟨1, _⟩ => exact e1

theorem blk3 (t : Fin cfg0.N) (y : S512x1024.Idx) : iblk m c 3 t y = feat m c (ValueIdx.ix2 (place t (y 0)) (y 1)) := congrArg (feat m c) (emb3 t y)

theorem index4 : ∀ t : Fin cfg0.N, win0_4.index t = ![t.val, 0] :=
  (by decide +kernel : ∀ t : Fin grid0.N, win0_4.index t = ![t.val, 0])

theorem emb4 (t : Fin cfg0.N) (y : S512x1.Idx) : (win0_4.rect t).emb y = ValueIdx.ix2 (place t (y 0)) (y 1) := by
  have e0 : ((win0_4.rect t).emb y 0 : ℕ) = 512 * t.val + (y 0).val := by
    rw [Pipeline.Window.rect_emb_val win0_4 t y 0 rfl, index4]
    show t.val * 512 + _ = _
    omega
  have e1 : ((win0_4.rect t).emb y 1 : ℕ) = (y 1).val := by
    rw [Pipeline.Window.rect_emb_val win0_4 t y 1 rfl, index4]
    show 0 * 1 + _ = _
    omega
  funext a
  apply Fin.ext
  match a with
  | ⟨0, _⟩ => exact e0
  | ⟨1, _⟩ => exact e1

theorem blk4 (t : Fin cfg0.N) (y : S512x1.Idx) : iblk m c 4 t y = facs m c (ValueIdx.ix2 (place t (y 0)) (y 1)) := congrArg (facs m c) (emb4 t y)

theorem index5 : ∀ t : Fin cfg0.N, win0_5.index t = ![0, 0] :=
  (by decide +kernel : ∀ t : Fin grid0.N, win0_5.index t = ![0, 0])

theorem blk5 (t : Fin cfg0.N) (j : S1x1024.Idx) : iblk m c 5 t j = gain m c j := by
  refine congrArg (gain m c) (funext fun a => Fin.ext (Pipeline.Window.rect_emb_val_of_index_zero win0_5 t a ?_ j))
  rw [index5]
  fin_cases a <;> rfl

theorem index6 : ∀ t : Fin cfg0.N, win0_6.index t = ![t.val, 0] :=
  (by decide +kernel : ∀ t : Fin grid0.N, win0_6.index t = ![t.val, 0])

theorem emb6 (t : Fin cfg0.N) (y : S512x1024.Idx) : (win0_6.rect t).emb y = ValueIdx.ix2 (place t (y 0)) (y 1) := by
  have e0 : ((win0_6.rect t).emb y 0 : ℕ) = 512 * t.val + (y 0).val := by
    rw [Pipeline.Window.rect_emb_val win0_6 t y 0 rfl, index6]
    show t.val * 512 + _ = _
    omega
  have e1 : ((win0_6.rect t).emb y 1 : ℕ) = (y 1).val := by
    rw [Pipeline.Window.rect_emb_val win0_6 t y 1 rfl, index6]
    show 0 * 1024 + _ = _
    omega
  funext a
  apply Fin.ext
  match a with
  | ⟨0, _⟩ => exact e0
  | ⟨1, _⟩ => exact e1

theorem blk6 (t : Fin cfg0.N) (y : S512x1024.Idx) : iblk m c 6 t y = res m c (ValueIdx.ix2 (place t (y 0)) (y 1)) := congrArg (res m c) (emb6 t y)

theorem index7 : ∀ t : Fin cfg0.N, win0_7.index t = ![t.val, 0] :=
  (by decide +kernel : ∀ t : Fin grid0.N, win0_7.index t = ![t.val, 0])

theorem emb7 (t : Fin cfg0.N) (y : S512x1024.Idx) : (win0_7.rect t).emb y = ValueIdx.ix2 (place t (y 0)) (y 1) := by
  have e0 : ((win0_7.rect t).emb y 0 : ℕ) = 512 * t.val + (y 0).val := by
    rw [Pipeline.Window.rect_emb_val win0_7 t y 0 rfl, index7]
    show t.val * 512 + _ = _
    omega
  have e1 : ((win0_7.rect t).emb y 1 : ℕ) = (y 1).val := by
    rw [Pipeline.Window.rect_emb_val win0_7 t y 1 rfl, index7]
    show 0 * 1024 + _ = _
    omega
  funext a
  apply Fin.ext
  match a with
  | ⟨0, _⟩ => exact e0
  | ⟨1, _⟩ => exact e1

theorem xsize7 : ∀ t : Fin cfg0.N, ∀ a, win0_7.xsize (grid0.coords t) a = S512x1024.size a :=
  (by decide +kernel : ∀ t : Fin grid0.N, ∀ a, win0_7.xsize (grid0.coords t) a = S512x1024.size a)

theorem mem7 (t : Fin cfg0.N) (i : S4096x1024.Idx) (h0 : t.val = (i 0).val / 512) : i ∈ ((cfg0.win 7).blk t).view.set := by
  show i ∈ ((View.whole main_v10_0).slice (win0_7.rect t)).set
  rw [View.set_slice_whole, Rect.mem_set_unit]
  intro a
  rw [xsize7]
  match a with
  | ⟨0, _⟩ =>
    show win0_7.index t 0 * 512 ≤ (i 0).val ∧ (i 0).val < win0_7.index t 0 * 512 + 512
    rw [index7]
    show t.val * 512 ≤ (i 0).val ∧ (i 0).val < t.val * 512 + 512
    omega
  | ⟨1, _⟩ =>
    have h1 : (i 1).val < 1024 := (i 1).isLt
    show win0_7.index t 1 * 1024 ≤ (i 1).val ∧ (i 1).val < win0_7.index t 1 * 1024 + 1024
    rw [index7]
    show 0 * 1024 ≤ (i 1).val ∧ (i 1).val < 0 * 1024 + 1024
    omega

theorem index8 : ∀ t : Fin cfg0.N, win0_8.index t = ![t.val, 0] :=
  (by decide +kernel : ∀ t : Fin grid0.N, win0_8.index t = ![t.val, 0])

theorem emb8 (t : Fin cfg0.N) (y : S512x1024.Idx) : (win0_8.rect t).emb y = ValueIdx.ix2 (place t (y 0)) (y 1) := by
  have e0 : ((win0_8.rect t).emb y 0 : ℕ) = 512 * t.val + (y 0).val := by
    rw [Pipeline.Window.rect_emb_val win0_8 t y 0 rfl, index8]
    show t.val * 512 + _ = _
    omega
  have e1 : ((win0_8.rect t).emb y 1 : ℕ) = (y 1).val := by
    rw [Pipeline.Window.rect_emb_val win0_8 t y 1 rfl, index8]
    show 0 * 1024 + _ = _
    omega
  funext a
  apply Fin.ext
  match a with
  | ⟨0, _⟩ => exact e0
  | ⟨1, _⟩ => exact e1

theorem xsize8 : ∀ t : Fin cfg0.N, ∀ a, win0_8.xsize (grid0.coords t) a = S512x1024.size a :=
  (by decide +kernel : ∀ t : Fin grid0.N, ∀ a, win0_8.xsize (grid0.coords t) a = S512x1024.size a)

theorem mem8 (t : Fin cfg0.N) (i : S4096x1024.Idx) (h0 : t.val = (i 0).val / 512) : i ∈ ((cfg0.win 8).blk t).view.set := by
  show i ∈ ((View.whole main_v10_1).slice (win0_8.rect t)).set
  rw [View.set_slice_whole, Rect.mem_set_unit]
  intro a
  rw [xsize8]
  match a with
  | ⟨0, _⟩ =>
    show win0_8.index t 0 * 512 ≤ (i 0).val ∧ (i 0).val < win0_8.index t 0 * 512 + 512
    rw [index8]
    show t.val * 512 ≤ (i 0).val ∧ (i 0).val < t.val * 512 + 512
    omega
  | ⟨1, _⟩ =>
    have h1 : (i 1).val < 1024 := (i 1).isLt
    show win0_8.index t 1 * 1024 ≤ (i 1).val ∧ (i 1).val < win0_8.index t 1 * 1024 + 1024
    rw [index8]
    show 0 * 1024 ≤ (i 1).val ∧ (i 1).val < 0 * 1024 + 1024
    omega

theorem index9 : ∀ t : Fin cfg0.N, win0_9.index t = ![0, 0] :=
  (by decide +kernel : ∀ t : Fin grid0.N, win0_9.index t = ![0, 0])

theorem emb9 (t : Fin cfg0.N) (y : S1x1024.Idx) : (win0_9.rect t).emb y = y := by
  funext a
  refine Fin.ext (Pipeline.Window.rect_emb_val_of_index_zero win0_9 t a ?_ y)
  rw [index9]
  fin_cases a <;> rfl

/-- The term of column `k` in the product with the transposed weights; none beyond the weights' rows. -/
def term (p : Fin 4096) (j : Fin 1024) (k : ℕ) : EReal :=
  if h : k < 3080 then inc m c (ValueIdx.ix2 p ⟨k, Nat.lt_trans h (by decide)⟩) * wts m c (ValueIdx.ix2 ⟨k, h⟩ j) else 0

theorem back_term (p : Fin 4096) (j : Fin 1024) : back (inc m c) (wts m c) p j = ∑ k ∈ Finset.range 3080, term m c p j k := by
  rw [Finset.sum_range]
  refine Finset.sum_congr rfl fun k _ => ?_
  unfold term
  rw [dif_pos k.isLt]

theorem back_blk (t : Fin cfg0.N) (r : Fin 512) (j : Fin 1024) : dh (fore (iblk m c 0 t)) (X0_1 m c t) (aft (iblk m c 0 t)) (iblk m c 2 t) r j = back (inc m c) (wts m c) (place t r) j := by
  have h1 : nn (M := 512) (K := 3072) (N := 1024) (fore (iblk m c 0 t)) (X0_1 m c t) r j = ∑ k ∈ Finset.range 3072, term m c (place t r) j k := by
    rw [Finset.sum_range]
    refine Finset.sum_congr rfl fun k _ => ?_
    have hk := k.isLt
    unfold term
    rw [dif_pos (by omega)]
    exact congrArg₂ (fun a b : EReal => a * b) (blk0 m c t (ValueIdx.ix2 r ⟨k.val, Nat.lt_trans k.isLt (by decide)⟩)) (blk1 m c t (ValueIdx.ix2 k j))
  have h2 : nn (M := 512) (K := 128) (N := 1024) (aft (iblk m c 0 t)) (iblk m c 2 t) r j = ∑ k ∈ Finset.range 128, term m c (place t r) j (3072 + k) := by
    rw [Finset.sum_range]
    refine Finset.sum_congr rfl fun k _ => ?_
    have hk := k.isLt
    unfold term
    by_cases hc : k.val < 8
    · rw [dif_pos (by omega)]
      exact congrArg₂ (fun a b : EReal => a * b) (blk0 m c t (ValueIdx.ix2 r ⟨3072 + k.val, by omega⟩)) ((blk2 m c t (ValueIdx.ix2 k j)).trans (tail_in m c (ValueIdx.ix2 k j) hc))
    · rw [dif_neg (by omega)]
      have e : iblk m c 2 t (ValueIdx.ix2 k j : S128x1024.Idx) = (0 : EReal) := (blk2 m c t (ValueIdx.ix2 k j)).trans (tail_out m c (ValueIdx.ix2 k j) hc)
      exact (congrArg (fun a : EReal => aft (iblk m c 0 t) (ValueIdx.ix2 r k) * a) e).trans (mul_zero _)
  have h3 : ∑ k ∈ Finset.range 120, term m c (place t r) j (3080 + k) = 0 :=
    Finset.sum_eq_zero fun k _ => by
      unfold term
      rw [dif_neg (by omega)]
  unfold dh
  rw [h1, h2, back_term, ← Finset.sum_range_add (fun k => term m c (place t r) j k) 3072 128]
  rw [show 3072 + 128 = 3080 + 120 from rfl, Finset.sum_range_add, h3, add_zero]

theorem row_blk (t : Fin cfg0.N) (r : Fin 512) : row (M := 512) (iblk m c 3 t : S512x1024.Idx → EReal) r = row (feat m c) (place t r) :=
  funext fun k => blk3 m c t (ValueIdx.ix2 r k)

theorem tile_blk (t : Fin cfg0.N) (y : S512x1024.Idx) :
    tileX (iblk m c 0 t) (X0_1 m c t) (iblk m c 2 t) (iblk m c 3 t) (iblk m c 4 t) (iblk m c 5 t) (iblk m c 6 t) y = outX (inc m c) (wts m c) (feat m c) (gain m c) (res m c) (ValueIdx.ix2 (place t (y 0)) (y 1)) := by
  unfold tileX
  refine congrArg₂ (fun a b : EReal => a + b) (tileRow_congr (row (feat m c) (place t (y 0))) (scaled (inc m c) (wts m c) (gain m c) (place t (y 0))) (rstd (row (feat m c) (place t (y 0)))) (y 1) (row_blk m c t (y 0)) (funext fun k => ?_) ?_) (blk6 m c t y)
  · exact congrArg₂ (fun a b : EReal => a * b) (back_blk m c t (y 0) k) (blk5 m c t (ValueIdx.ix2 0 k))
  · exact (blk4 m c t (ValueIdx.ix2 (y 0) 0)).trans (facs_apply m c _)

theorem share_blk (t : Fin cfg0.N) (r : Fin 512) (j : Fin 1024) :
    tileG (iblk m c 0 t) (X0_1 m c t) (iblk m c 2 t) (iblk m c 3 t) (iblk m c 4 t) (iblk m c 5 t) (iblk m c 6 t) r j = share (inc m c) (wts m c) (feat m c) (place t r) j := by
  unfold tileG share
  refine congrArg₂ (fun a b : EReal => a * b) (back_blk m c t r j) (congrArg₂ (fun a b : EReal => a * b) (blk3 m c t (ValueIdx.ix2 r j)) ?_)
  exact (blk4 m c t (ValueIdx.ix2 r 0)).trans (facs_apply m c _)

/-- What row `b` adds to the gradient of the gain. -/
def add (j : Fin 1024) (b : ℕ) : EReal := if h : b < 4096 then share (inc m c) (wts m c) (feat m c) ⟨b, h⟩ j else 0

theorem add_blk (t : Fin cfg0.N) (j : Fin 1024) :
    (∑ r : Fin 512, tileG (iblk m c 0 t) (X0_1 m c t) (iblk m c 2 t) (iblk m c 3 t) (iblk m c 4 t) (iblk m c 5 t) (iblk m c 6 t) r j) = ∑ b ∈ Finset.range 512, add m c j (512 * t.val + b) := by
  have hN : cfg0.N = 8 := N_0
  have ht := t.isLt
  rw [Finset.sum_range]
  refine Finset.sum_congr rfl fun r _ => ?_
  have hr := r.isLt
  unfold add
  rw [dif_pos (by omega)]
  exact share_blk m c t r j

theorem acc_A (t : Fin cfg0.N) (h0 : t.val % 8 = 0) (y : S1x1024.Idx) : (outsAt0 m c t.val t.isLt).2.2 y = ∑ b ∈ Finset.range 512, add m c (y 1) (512 * t.val + b) := by
  rw [outsAt0_A m c t h0]
  have e := outA9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (iblk m c 0 t) (X0_1 m c t) (iblk m c 2 t) (iblk m c 3 t) (iblk m c 4 t) (iblk m c 5 t) (iblk m c 6 t) ((hcond0_0 t).mpr h0) y
  have e2 := e.trans (add_blk m c t (y 1))
  dsimp only
  exact e2

theorem acc_B (t : Fin cfg0.N) (h0 : ¬t.val % 8 = 0) (y : S1x1024.Idx) : (outsAt0 m c t.val t.isLt).2.2 y = (outsAt0 m c (t.val - 1) (Nat.lt_of_le_of_lt (Nat.sub_le _ _) t.isLt)).2.2 y + ∑ b ∈ Finset.range 512, add m c (y 1) (512 * t.val + b) := by
  rw [outsAt0_B m c t h0]
  have e := outB9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (iblk m c 0 t) (X0_1 m c t) (iblk m c 2 t) (iblk m c 3 t) (iblk m c 4 t) (iblk m c 5 t) (iblk m c 6 t) (fun h => h0 ((hcond0_0 t).mp h)) (outsAt0 m c (t.val - 1) (Nat.lt_of_le_of_lt (Nat.sub_le _ _) t.isLt)).2.2 y
  have e2 := e.trans (congrArg (fun a : EReal => (outsAt0 m c (t.val - 1) (Nat.lt_of_le_of_lt (Nat.sub_le _ _) t.isLt)).2.2 y + a) (add_blk m c t (y 1)))
  dsimp only
  exact e2

theorem acc_outs (y : S1x1024.Idx) : ∀ (n : ℕ) (hn : n < cfg0.N), (outsAt0 m c n hn).2.2 y = ∑ b ∈ Finset.range (512 * (n + 1)), add m c (y 1) b
  | 0, hn => by
    refine (acc_A m c ⟨0, hn⟩ (Nat.zero_mod _) y).trans (Finset.sum_congr rfl fun b _ => congrArg (add m c (y 1)) ?_)
    show 512 * 0 + b = b
    omega
  | n + 1, hn => by
    have hN : cfg0.N = 8 := N_0
    refine (acc_B m c ⟨n + 1, hn⟩ (by dsimp only; omega) y).trans ?_
    rw [Nat.mul_succ 512 (n + 1), Finset.sum_range_add]
    exact congrArg (fun a : EReal => a + ∑ b ∈ Finset.range 512, add m c (y 1) (512 * (n + 1) + b)) (acc_outs y n (by omega))

theorem res7 (i : S4096x1024.Idx) : (dats m 0 c).arrAt 7 cfg0.N i = outX (inc m c) (wts m c) (feat m c) (gain m c) (res m c) i := by
  have h0 : (i 0).val < 4096 := (i 0).isLt
  have hN : cfg0.N = 8 := N_0
  refine (dats m 0 c).arrAt_apply_of_mem 7 (outX (inc m c) (wts m c) (feat m c) (gain m c) (res m c)) ?_ cfg0.N ⟨(i 0).val / 512, by omega⟩ i (by show (i 0).val / 512 < _; omega) (flush0_7 _) (mem7 _ i rfl)
  intro t _
  by_cases h0 : t.val % 8 = 0
  · rw [Value.flushed7_A m c t h0]
    funext y
    refine (outA7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (iblk m c 0 t) (X0_1 m c t) (iblk m c 2 t) (iblk m c 3 t) (iblk m c 4 t) (iblk m c 5 t) (iblk m c 6 t) ((hcond0_0 t).mpr h0) y).trans ((tile_blk m c t y).trans ?_)
    show _ = outX (inc m c) (wts m c) (feat m c) (gain m c) (res m c) ((win0_7.rect t).emb y)
    rw [emb7]
    rfl
  · rw [Value.flushed7_B m c t h0]
    funext y
    refine (outB7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (iblk m c 0 t) (X0_1 m c t) (iblk m c 2 t) (iblk m c 3 t) (iblk m c 4 t) (iblk m c 5 t) (iblk m c 6 t) (fun h => h0 ((hcond0_0 t).mp h)) (outsAt0 m c (t.val - 1) (Nat.lt_of_le_of_lt (Nat.sub_le _ _) t.isLt)).2.2 y).trans ((tile_blk m c t y).trans ?_)
    show _ = outX (inc m c) (wts m c) (feat m c) (gain m c) (res m c) ((win0_7.rect t).emb y)
    rw [emb7]
    rfl

theorem res8 (i : S4096x1024.Idx) : (dats m 0 c).arrAt 8 cfg0.N i = outX (inc m c) (wts m c) (feat m c) (gain m c) (res m c) i := by
  have h0 : (i 0).val < 4096 := (i 0).isLt
  have hN : cfg0.N = 8 := N_0
  refine (dats m 0 c).arrAt_apply_of_mem 8 (outX (inc m c) (wts m c) (feat m c) (gain m c) (res m c)) ?_ cfg0.N ⟨(i 0).val / 512, by omega⟩ i (by show (i 0).val / 512 < _; omega) (flush0_8 _) (mem8 _ i rfl)
  intro t _
  by_cases h0 : t.val % 8 = 0
  · rw [Value.flushed8_A m c t h0]
    funext y
    refine (outA8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (iblk m c 0 t) (X0_1 m c t) (iblk m c 2 t) (iblk m c 3 t) (iblk m c 4 t) (iblk m c 5 t) (iblk m c 6 t) ((hcond0_0 t).mpr h0) y).trans ((tile_blk m c t y).trans ?_)
    show _ = outX (inc m c) (wts m c) (feat m c) (gain m c) (res m c) ((win0_8.rect t).emb y)
    rw [emb8]
    rfl
  · rw [Value.flushed8_B m c t h0]
    funext y
    refine (outB8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (iblk m c 0 t) (X0_1 m c t) (iblk m c 2 t) (iblk m c 3 t) (iblk m c 4 t) (iblk m c 5 t) (iblk m c 6 t) (fun h => h0 ((hcond0_0 t).mp h)) (outsAt0 m c (t.val - 1) (Nat.lt_of_le_of_lt (Nat.sub_le _ _) t.isLt)).2.2 y).trans ((tile_blk m c t y).trans ?_)
    show _ = outX (inc m c) (wts m c) (feat m c) (gain m c) (res m c) ((win0_8.rect t).emb y)
    rw [emb8]
    rfl

/-- The last point. -/
def lastPt : Fin cfg0.N := ⟨7, by show 7 < grid0.N; rw [N_0]; norm_num⟩

theorem total (y : S1x1024.Idx) : (∑ b ∈ Finset.range 4096, add m c (y 1) b) = outG (inc m c) (wts m c) (feat m c) y := by
  rw [Finset.sum_range]
  refine Finset.sum_congr rfl fun r _ => ?_
  unfold add
  rw [dif_pos r.isLt]

theorem res9 (y : S1x1024.Idx) : (dats m 0 c).arrAt 9 cfg0.N y = outG (inc m c) (wts m c) (feat m c) y := by
  have hN : cfg0.N = 8 := N_0
  refine (dats m 0 c).arrAt_apply_of_mem 9 (outG (inc m c) (wts m c) (feat m c)) ?_ cfg0.N lastPt y (by show 7 < _; omega) ((flush0_9 _).mpr rfl) ?_
  · intro t ht
    have ht7 : t.val = 7 := by have h1 := (flush0_9 t).mp ht; have h2 := t.isLt; omega
    rw [Value.flushed9]
    funext y
    have key := acc_outs m c y t.val t.isLt
    rw [show 512 * (t.val + 1) = 4096 by rw [ht7], total] at key
    refine Eq.trans ?_ (key.trans ?_)
    · rfl
    · show _ = outG (inc m c) (wts m c) (feat m c) ((win0_9.rect t).emb y)
      rw [emb9]
  · have e := ((cfg0.win 9).blk lastPt).view.emb_mem_set y
    exact (emb9 lastPt y) ▸ e

end Cert.Kernel9Ideal.Norm

namespace Cert.Proof.Norm9

open Idealize.ShloMosaic Idealize.ShloMosaic.TcCoe Idealize.ShloMosaic.StableHlo Idealize.SL.Sem

theorem frame_reference : Cert.quiescent_Reference9Ideal := by
  intro m ρ _
  exact (θ_run Cert.Reference9Ideal.defs _ _).mono (fun r h => ⟨fun c => (h c).2.2.2, sem_eq_zero_of_no_sems (by decide) r.2⟩)
    (Cert.Reference9Ideal.Value.run (F := Ideal) m ρ)

theorem algebraic : Cert.algebraic_Kernel9Ideal_Reference9Ideal := by
  intro m g m' g' _ ha
  refine ⟨fun c (i : Cert.Kernel9Ideal.S4096x1024.Idx) => Cert.Reference9Ideal.Norm.outX (Cert.Kernel9Ideal.Norm.inc m c) (Cert.Kernel9Ideal.Norm.wts m c) (Cert.Kernel9Ideal.Norm.feat m c) (Cert.Kernel9Ideal.Norm.gain m c) (Cert.Kernel9Ideal.Norm.res m c) i,
    fun c (i : Cert.Kernel9Ideal.S4096x1024.Idx) => Cert.Reference9Ideal.Norm.outX (Cert.Kernel9Ideal.Norm.inc m c) (Cert.Kernel9Ideal.Norm.wts m c) (Cert.Kernel9Ideal.Norm.feat m c) (Cert.Kernel9Ideal.Norm.gain m c) (Cert.Kernel9Ideal.Norm.res m c) i,
    fun c (i : Cert.Kernel9Ideal.S1x1024.Idx) => Cert.Reference9Ideal.Norm.outG (Cert.Kernel9Ideal.Norm.inc m c) (Cert.Kernel9Ideal.Norm.wts m c) (Cert.Kernel9Ideal.Norm.feat m c) i, ?_, ?_⟩
  · refine (θ_run Cert.Kernel9Ideal.defs _ _).mono (fun r h c => ?_) (Cert.Kernel9Ideal.Value.run_blocks (F := Ideal) m g)
    obtain ⟨r1, r2, r3, hargs⟩ := h c
    exact ⟨r1.trans (funext fun i => Cert.Kernel9Ideal.Norm.res7 m c i), r2.trans (funext fun i => Cert.Kernel9Ideal.Norm.res8 m c i), r3.trans (funext fun i => Cert.Kernel9Ideal.Norm.res9 m c i), hargs⟩
  · refine (θ_run Cert.Reference9Ideal.defs _ _).mono (fun r h c => ?_) (Cert.Reference9Ideal.Value.run (F := Ideal) m' g')
    obtain ⟨r1, r2, r3, hargs⟩ := h c
    obtain ⟨a0, a1, a2, a3, a4⟩ := ha c
    refine ⟨r1.trans ((Cert.Reference9Ideal.Read.val_main_v40_eq _ _).trans (funext fun i => ?_)), r2.trans ((Cert.Reference9Ideal.Read.val_main_v42_eq _ _).trans (funext fun i => ?_)), r3.trans ((Cert.Reference9Ideal.Read.val_main_v23_eq _ _ _).trans (funext fun i => ?_)), hargs⟩
    · refine (Cert.Reference9Ideal.Norm.dx_apply _ _ _ _ _ i).trans ?_
      show _ = Cert.Reference9Ideal.Norm.outX (Cert.Kernel9Ideal.Gen.V m c Cert.Kernel9Ideal.main_arg0) (Cert.Kernel9Ideal.Gen.V m c Cert.Kernel9Ideal.main_arg1) (Cert.Kernel9Ideal.Gen.V m c Cert.Kernel9Ideal.main_arg2) (Cert.Kernel9Ideal.Gen.V m c Cert.Kernel9Ideal.main_arg3) (Cert.Kernel9Ideal.Gen.V m c Cert.Kernel9Ideal.main_arg4) i
      rw [Cert.Kernel9Ideal.Gen.V_main_arg0, Cert.Kernel9Ideal.Gen.V_main_arg1, Cert.Kernel9Ideal.Gen.V_main_arg2, Cert.Kernel9Ideal.Gen.V_main_arg3, Cert.Kernel9Ideal.Gen.V_main_arg4, a0, a1, a2, a3, a4]
    · refine (Cert.Reference9Ideal.Norm.dxb_apply _ _ _ _ _ i).trans ?_
      show _ = Cert.Reference9Ideal.Norm.outX (Cert.Kernel9Ideal.Gen.V m c Cert.Kernel9Ideal.main_arg0) (Cert.Kernel9Ideal.Gen.V m c Cert.Kernel9Ideal.main_arg1) (Cert.Kernel9Ideal.Gen.V m c Cert.Kernel9Ideal.main_arg2) (Cert.Kernel9Ideal.Gen.V m c Cert.Kernel9Ideal.main_arg3) (Cert.Kernel9Ideal.Gen.V m c Cert.Kernel9Ideal.main_arg4) i
      rw [Cert.Kernel9Ideal.Gen.V_main_arg0, Cert.Kernel9Ideal.Gen.V_main_arg1, Cert.Kernel9Ideal.Gen.V_main_arg2, Cert.Kernel9Ideal.Gen.V_main_arg3, Cert.Kernel9Ideal.Gen.V_main_arg4, a0, a1, a2, a3, a4]
    · refine (Cert.Reference9Ideal.Norm.gain_apply _ _ _ i).trans ?_
      show _ = Cert.Reference9Ideal.Norm.outG (Cert.Kernel9Ideal.Gen.V m c Cert.Kernel9Ideal.main_arg0) (Cert.Kernel9Ideal.Gen.V m c Cert.Kernel9Ideal.main_arg1) (Cert.Kernel9Ideal.Gen.V m c Cert.Kernel9Ideal.main_arg2) i
      rw [Cert.Kernel9Ideal.Gen.V_main_arg0, Cert.Kernel9Ideal.Gen.V_main_arg1, Cert.Kernel9Ideal.Gen.V_main_arg2, a0, a1, a2]

end Cert.Proof.Norm9

end
-- ==== Proof.Norm10.lean ====
/- The normalisation and the input projection of the mixer, forward: the tiled kernel and its reference are the same sums. -/
module

public import proofs.«01_k».proof.Defs
public import proofs.«01_k».proof.Proof.Gen.Kernel10Ideal.Value
public import proofs.«01_k».proof.Proof.Gen.Reference10Ideal.Run
public import proofs.«01_k».proof.Proof.Gen.Reference10Ideal.Read
public import proofs.«01_k».proof.Proof.Norm
public import Idealize.ShloMosaic.Lib.KernelVsHost

@[expose] public section

set_option maxRecDepth 16384

noncomputable section

namespace Cert.Kernel10Ideal.Norm

open Cert.Kernel10Ideal Cert.Kernel10Ideal.Gen Idealize.ShloMosaic Idealize.ShloMosaic.TcCoe Idealize.SL.Sem
open Cert.Mm Cert.Norm

theorem pay1_apply (x : Vec Ideal S512x1024 .f32) (y : S512x1.Idx) : k0_pay1 (F := Ideal) x y = rstd (row x (y 0)) := by
  pointwise [k0_pay1]
  rfl

theorem pay2_apply (x : Vec Ideal S512x1024 .f32) (g : Vec Ideal S1x1024 .f32) (y : S512x1024.Idx) : k0_pay2 (F := Ideal) x g y = normed x g (y 0) (y 1) := by
  pointwise [k0_pay2]
  rw [pay1_apply]
  have e : y = ValueIdx.ix2 (y 0) (y 1) := by
    funext a
    match a with
    | ⟨0, _⟩ => rfl
    | ⟨1, _⟩ => rfl
  exact congrArg (fun a : EReal => a * rstd (row x (y 0)) * g (ValueIdx.ix2 0 (y 1))) (congrArg x e)

theorem pay3_apply (x : Vec Ideal S512x1024 .f32) (g : Vec Ideal S1x1024 .f32) (w : Vec Ideal S3072x1024 .bf16) (y : S512x3072.Idx) :
    k0_pay3 (F := Ideal) x g w y = ∑ k : Fin 1024, normed x g (y 0) k * w (ValueIdx.ix2 (y 1) k) := by
  unfold k0_pay3
  refine (nt_matmul (M := 512) (K := 1024) (N := 3072) (φ₁ := .bf16) (φ₂ := .bf16) dot_S512x1024_S3072x1024_S512x3072_1_1_0_0_n_n_wf none (k0_pay2 x g) w (constant S512x3072 .f32 0x00000000#32) y).trans ?_
  rw [zero_constant, zero_add]
  exact Finset.sum_congr rfl fun k _ => congrArg (fun a : EReal => a * w (ValueIdx.ix2 (y 1) k)) (pay2_apply x g _)

theorem pay4_apply (x : Vec Ideal S512x1024 .f32) (g : Vec Ideal S1x1024 .f32) (w : Vec Ideal S128x1024 .bf16) (y : S512x128.Idx) :
    k0_pay4 (F := Ideal) x g w y = ∑ k : Fin 1024, normed x g (y 0) k * w (ValueIdx.ix2 (y 1) k) := by
  unfold k0_pay4
  refine (nt_matmul (M := 512) (K := 1024) (N := 128) (φ₁ := .bf16) (φ₂ := .bf16) dot_S512x1024_S128x1024_S512x128_1_1_0_0_n_n_wf none (k0_pay2 x g) (shapeCast S128x1024 w shapeCasts_S128x1024_S128x1024) (constant S512x128 .f32 0x00000000#32) y).trans ?_
  rw [zero_constant, zero_add]
  refine Finset.sum_congr rfl fun k _ => congrArg₂ (fun a b : EReal => a * b) (pay2_apply x g _) ?_
  pointwise

section
variable (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S3072x1024 .bf16) (harg3 : arg3.IsWhole) (arg4 : Memref sig .tc .vmem S128x1024 .bf16) (harg4 : arg4.IsWhole) (arg5 : Memref sig .tc .vmem S512x3200 .f32) (harg5 : arg5.IsWhole) (arg6 : Memref sig .tc .vmem S512x1024 .bf16) (harg6 : arg6.IsWhole) (arg7 : Memref sig .tc .vmem S512x1 .f32) (harg7 : arg7.IsWhole)
  (x0 : Vec Ideal S512x1024 .f32) (x1 : Vec Ideal S1x1024 .f32) (x2 : Vec Ideal S3072x1024 .bf16) (x3 : Vec Ideal S128x1024 .bf16)

theorem runA4 : (kernelRun0_A c i arg1 harg1 arg2 harg2 arg3 harg3 arg4 harg4 arg5 harg5 arg6 harg6 arg7 harg7 x0 x1 x2 x3).1
    = [⟨Rect.unit (s := S512x3200) ![0, 3072] S512x128.size inb_S512x3200_S512x128_0_3072, k0_pay4 (whole harg1 x0) (whole harg2 x1) (whole harg4 x3)⟩,
      ⟨Rect.unit (s := S512x3200) ![0, 0] S512x3072.size inb_S512x3200_S512x3072_0_0, k0_pay3 (whole harg1 x0) (whole harg2 x1) (whole harg3 x2)⟩] := by sl_kernel_rfl
theorem runA5 : (kernelRun0_A c i arg1 harg1 arg2 harg2 arg3 harg3 arg4 harg4 arg5 harg5 arg6 harg6 arg7 harg7 x0 x1 x2 x3).2.1
    = [⟨Rect.unit (s := S512x1024) ![0, 0] S512x1024.size inb_S512x1024_S512x1024_0_0, k0_pay2 (whole harg1 x0) (whole harg2 x1)⟩] := by sl_kernel_rfl
theorem runA6 : (kernelRun0_A c i arg1 harg1 arg2 harg2 arg3 harg3 arg4 harg4 arg5 harg5 arg6 harg6 arg7 harg7 x0 x1 x2 x3).2.2.1
    = [⟨Rect.unit (s := S512x1) ![0, 0] S512x1.size inb_S512x1_S512x1_0_0, k0_pay1 (whole harg1 x0)⟩] := by sl_kernel_rfl

theorem outA5 (y : S512x1024.Idx) : out0_A_5 c i arg1 harg1 arg2 harg2 arg3 harg3 arg4 harg4 arg5 harg5 arg6 harg6 arg7 harg7 x0 x1 x2 x3 y = normed x0 x1 (y 0) (y 1) := by
  unfold out0_A_5
  rw [View.read_writes_eq_canon _ _ _ (cover0_A_5 c i arg1 harg1 arg2 harg2 arg3 harg3 arg4 harg4 arg5 harg5 arg6 harg6 arg7 harg7 x0 x1 x2 x3)]
  rw [runA5, whole_eq, whole_eq]
  exact (congrFun (View.canon_cons_unit_zero (S := S512x1024) zero2 _ _ _) y).trans (pay2_apply x0 x1 y)

theorem outA6 (y : S512x1.Idx) : out0_A_6 c i arg1 harg1 arg2 harg2 arg3 harg3 arg4 harg4 arg5 harg5 arg6 harg6 arg7 harg7 x0 x1 x2 x3 y = rstd (row x0 (y 0)) := by
  unfold out0_A_6
  rw [View.read_writes_eq_canon _ _ _ (cover0_A_6 c i arg1 harg1 arg2 harg2 arg3 harg3 arg4 harg4 arg5 harg5 arg6 harg6 arg7 harg7 x0 x1 x2 x3)]
  rw [runA6, whole_eq]
  exact (congrFun (View.canon_cons_unit_zero (S := S512x1) zero2 _ _ _) y).trans (pay1_apply x0 y)

/-- The weights of one output column, in the block of the first 3072 or in the tail. -/
def column (y : Fin 3200) (k : Fin 1024) : EReal :=
  if h : y.val < 3072 then x2 (ValueIdx.ix2 ⟨y.val, h⟩ k) else x3 (ValueIdx.ix2 ⟨y.val - 3072, by have := y.isLt; omega⟩ k)

/-- The place of a column among the first 3072. -/
def placeMain (y : S512x3200.Idx) (h : (y 1).val < 3072) : S512x3072.Idx := ValueIdx.ix2 (y 0) ⟨(y 1).val, h⟩
/-- The place of a column in the tail. -/
def placeTail (y : S512x3200.Idx) : S512x128.Idx := ValueIdx.ix2 (y 0) ⟨(y 1).val - 3072, by have : (y 1).val < 3200 := (y 1).isLt; omega⟩

theorem canon_main (w1 : Vec Ideal S512x128 .f32) (w0 : Vec Ideal S512x3072 .f32) (y : S512x3200.Idx) (hc : (y 1).val < 3072) :
    View.canon (Val := Elt Ideal) (e := .f32) [⟨(Rect.unit (s := S512x3200) ![0, 3072] S512x128.size inb_S512x3200_S512x128_0_3072), w1⟩, ⟨(Rect.unit (s := S512x3200) ![0, 0] S512x3072.size inb_S512x3200_S512x3072_0_0), w0⟩] y = w0 (placeMain y hc) := by
  refine canon_two (Val := Elt Ideal) (e := .f32) (Rect.unit (s := S512x3200) ![0, 3072] S512x128.size inb_S512x3200_S512x128_0_3072) (Rect.unit (s := S512x3200) ![0, 0] S512x3072.size inb_S512x3200_S512x3072_0_0) w1 w0 (placeMain y hc) y ?_ ?_
  · funext a
    apply Fin.ext
    match a with
    | ⟨0, _⟩ => exact ((Nat.zero_add _).trans (Nat.one_mul _)).symm
    | ⟨1, _⟩ => exact ((Nat.zero_add _).trans (Nat.one_mul _)).symm
  · rw [Rect.mem_set_unit]
    intro hh
    have h2 : 3072 ≤ (y 1).val := (hh 1).1
    omega

theorem canon_tail (w1 : Vec Ideal S512x128 .f32) (w0 : Vec Ideal S512x3072 .f32) (y : S512x3200.Idx) (hc : ¬(y 1).val < 3072) :
    View.canon (Val := Elt Ideal) (e := .f32) [⟨(Rect.unit (s := S512x3200) ![0, 3072] S512x128.size inb_S512x3200_S512x128_0_3072), w1⟩, ⟨(Rect.unit (s := S512x3200) ![0, 0] S512x3072.size inb_S512x3200_S512x3072_0_0), w0⟩] y = w1 (placeTail y) := by
  refine canon_last (Val := Elt Ideal) (e := .f32) (Rect.unit (s := S512x3200) ![0, 3072] S512x128.size inb_S512x3200_S512x128_0_3072) (Rect.unit (s := S512x3200) ![0, 0] S512x3072.size inb_S512x3200_S512x3072_0_0) w1 w0 (placeTail y) y ?_
  funext a
  apply Fin.ext
  match a with
  | ⟨0, _⟩ => exact ((Nat.zero_add _).trans (Nat.one_mul _)).symm
  | ⟨1, _⟩ =>
    have h2 : (y 1).val = 3072 + ((y 1).val - 3072) := by omega
    exact h2.trans (congrArg (3072 + ·) (Nat.one_mul _).symm)

theorem outA4 (y : S512x3200.Idx) : out0_A_4 c i arg1 harg1 arg2 harg2 arg3 harg3 arg4 harg4 arg5 harg5 arg6 harg6 arg7 harg7 x0 x1 x2 x3 y = ∑ k : Fin 1024, normed x0 x1 (y 0) k * column x2 x3 (y 1) k := by
  unfold out0_A_4
  rw [View.read_writes_eq_canon _ _ _ (cover0_A_4 c i arg1 harg1 arg2 harg2 arg3 harg3 arg4 harg4 arg5 harg5 arg6 harg6 arg7 harg7 x0 x1 x2 x3)]
  rw [runA4, whole_eq, whole_eq, whole_eq, whole_eq]
  by_cases hc : (y 1).val < 3072
  · refine (canon_main _ _ y hc).trans ((pay3_apply x0 x1 x2 _).trans ?_)
    refine Finset.sum_congr rfl fun k _ => congrArg (fun a : EReal => normed x0 x1 (y 0) k * a) ?_
    unfold column
    rw [dif_pos hc]
    rfl
  · refine (canon_tail _ _ y hc).trans ((pay4_apply x0 x1 x3 _).trans ?_)
    refine Finset.sum_congr rfl fun k _ => congrArg (fun a : EReal => normed x0 x1 (y 0) k * a) ?_
    unfold column
    rw [dif_neg hc]
    rfl

end

variable (m : (ℓ : Loc nD τ sig) → Buf (Elt Ideal) ℓ) (c : Dev nD)

theorem tail_eq : V m c main_v1 = pad S128x1024 ![0, 0] ![120, 0] ![0, 0] (extractStridedSlice S8x1024 ![3072, 0] (V m c main_arg2 : Vec Ideal S3080x1024 .bf16) slices_S3080x1024_S8x1024_3072_0) (sitofp (F := Ideal) .bf16 (constantI S_ 32 0#32)) pads_S8x1024_S128x1024_01200_000 h_S_ := by
  rw [V_main_arg2]
  show StableHlo.after (List.flatten [hostOps0, hostOps0_1]) (fun b => m (c, b)) _ = _
  simp only [hostOps0, hostOps0_1, StableHlo.TRef.binary, StableHlo.TRef.unary, StableHlo.TRef.toBuf, StableHlo.TRef.ofBuf, cast_eq, List.flatten_cons, List.flatten_nil, List.append_nil, List.cons_append, List.nil_append]
  after_results_simp

/-- The features. -/
abbrev feat : S4096x1024.Idx → EReal := V m c main_arg0
/-- The gain. -/
abbrev gain : S1x1024.Idx → EReal := V m c main_arg1
/-- The weights, row by row. -/
abbrev wts : S3080x1024.Idx → EReal := V m c main_arg2

/-- The weights of one output column; the padded columns have none. -/
def padded (w : S3080x1024.Idx → EReal) (j : Fin 3200) (k : Fin 1024) : EReal :=
  if h : j.val < 3080 then w (ValueIdx.ix2 ⟨j.val, h⟩ k) else 0

/-- The tail's rows are the last eight rows of the weights, then nothing. -/
theorem tail_apply (i : S128x1024.Idx) : (V m c main_v1 : Vec Ideal S128x1024 .bf16) i = padded (wts m c) ⟨3072 + (i 0).val, by have : (i 0).val < 128 := (i 0).isLt; omega⟩ (i 1) := by
  have i0 : (i 0).val < 128 := (i 0).isLt
  rw [tail_eq]
  unfold padded
  by_cases hc : (i 0).val < 8
  · rw [dif_pos (by show 3072 + (i 0).val < 3080; omega)]
    refine (pad_apply_of_inside _ _ _ _ _ _ _ i (ValueIdx.ix2 ⟨(i 0).val, hc⟩ (i 1) : S8x1024.Idx) ?_).trans ?_
    · intro a
      match a with
      | ⟨0, _⟩ => show (i 0).val = 0 + (i 0).val * (0 + 1); omega
      | ⟨1, _⟩ => show (i 1).val = 0 + (i 1).val * (0 + 1); omega
    refine congrArg (wts m c) (funext fun a => Fin.ext ?_)
    match a with
    | ⟨0, _⟩ => rfl
    | ⟨1, _⟩ => exact Nat.zero_add _
  · rw [dif_neg (by show ¬3072 + (i 0).val < 3080; omega)]
    refine (pad_apply_of_not_inside _ _ _ _ _ _ _ i (0 : Fin 2) (fun hh => hc ?_)).trans ?_
    · have h2 := hh.2.2
      have h3 : ((i 0).val - 0) / (0 + 1) < 8 := h2
      omega
    show ((((0#32 : BitVec 32).toInt : ℝ)) : EReal) = _
    simp

/-- Row `r` of block `t`. -/
abbrev place (t : Fin cfg0.N) (r : Fin 512) : Fin 4096 := ⟨512 * t.val + r.val, by have := t.isLt; have := r.isLt; have hN : cfg0.N = 8 := N_0; omega⟩

theorem index0 : ∀ t : Fin cfg0.N, win0_0.index t = ![t.val, 0] :=
  (by decide +kernel : ∀ t : Fin grid0.N, win0_0.index t = ![t.val, 0])

theorem emb0 (t : Fin cfg0.N) (y : S512x1024.Idx) : (win0_0.rect t).emb y = ValueIdx.ix2 (place t (y 0)) (y 1) := by
  have e0 : ((win0_0.rect t).emb y 0 : ℕ) = 512 * t.val + (y 0).val := by
    rw [Pipeline.Window.rect_emb_val win0_0 t y 0 rfl, index0]
    show t.val * 512 + _ = _
    omega
  have e1 : ((win0_0.rect t).emb y 1 : ℕ) = (y 1).val := by
    rw [Pipeline.Window.rect_emb_val win0_0 t y 1 rfl, index0]
    show 0 * 1024 + _ = _
    omega
  funext a
  apply Fin.ext
  match a with
  | ⟨0, _⟩ => exact e0
  | ⟨1, _⟩ => exact e1

theorem blk0 (t : Fin cfg0.N) (y : S512x1024.Idx) : iblk m c 0 t y = feat m c (ValueIdx.ix2 (place t (y 0)) (y 1)) := congrArg (feat m c) (emb0 t y)

theorem index1 : ∀ t : Fin cfg0.N, win0_1.index t = ![0, 0] :=
  (by decide +kernel : ∀ t : Fin grid0.N, win0_1.index t = ![0, 0])

theorem blk1 (t : Fin cfg0.N) (j : S1x1024.Idx) : iblk m c 1 t j = gain m c j := by
  refine congrArg (gain m c) (funext fun a => Fin.ext (Pipeline.Window.rect_emb_val_of_index_zero win0_1 t a ?_ j))
  rw [index1]
  fin_cases a <;> rfl

theorem index2 : ∀ t : Fin cfg0.N, win0_2.index t = ![0, 0] :=
  (by decide +kernel : ∀ t : Fin grid0.N, win0_2.index t = ![0, 0])

theorem blk2 (t : Fin cfg0.N) (j : S3072x1024.Idx) : X0_2 m c t j = wts m c (ValueIdx.ix2 ⟨(j 0).val, Nat.lt_trans (j 0).isLt (by decide)⟩ (j 1)) := by
  have e : X0_2 m c t j = iblk m c 2 t (fun a => ⟨(j a).val, ((cfg0.win 2).moved_iff _ j).mp (moved0_2 t j) a⟩) := by
    unfold X0_2 Pipeline.Window.fill
    exact dif_pos (moved0_2 t j)
  rw [e]
  generalize hy : (fun a => (⟨(j a).val, ((cfg0.win 2).moved_iff _ j).mp (moved0_2 t j) a⟩ : Fin _)) = y
  have hy0 : (y 0 : ℕ) = (j 0).val := by rw [← hy]
  have hy1 : (y 1 : ℕ) = (j 1).val := by rw [← hy]
  have e0 : ((win0_2.rect t).emb y 0 : ℕ) = (j 0).val := by
    rw [Pipeline.Window.rect_emb_val win0_2 t y 0 rfl, index2, hy0]
    exact Nat.zero_add _
  have e1 : ((win0_2.rect t).emb y 1 : ℕ) = (j 1).val := by
    rw [Pipeline.Window.rect_emb_val win0_2 t y 1 rfl, index2, hy1]
    exact Nat.zero_add _
  refine congrArg (wts m c) (funext fun a => Fin.ext ?_)
  match a with
  | ⟨0, _⟩ => exact e0
  | ⟨1, _⟩ => exact e1

/-- The tail. -/
abbrev tl : S128x1024.Idx → EReal := V m c main_v1
theorem index3 : ∀ t : Fin cfg0.N, win0_3.index t = ![0, 0] :=
  (by decide +kernel : ∀ t : Fin grid0.N, win0_3.index t = ![0, 0])

theorem blk3 (t : Fin cfg0.N) (j : S128x1024.Idx) : iblk m c 3 t j = tl m c j := by
  refine congrArg (tl m c) (funext fun a => Fin.ext (Pipeline.Window.rect_emb_val_of_index_zero win0_3 t a ?_ j))
  rw [index3]
  fin_cases a <;> rfl

theorem index4 : ∀ t : Fin cfg0.N, win0_4.index t = ![t.val, 0] :=
  (by decide +kernel : ∀ t : Fin grid0.N, win0_4.index t = ![t.val, 0])

theorem emb4 (t : Fin cfg0.N) (y : S512x3200.Idx) : (win0_4.rect t).emb y = ValueIdx.ix2 (place t (y 0)) (y 1) := by
  have e0 : ((win0_4.rect t).emb y 0 : ℕ) = 512 * t.val + (y 0).val := by
    rw [Pipeline.Window.rect_emb_val win0_4 t y 0 rfl, index4]
    show t.val * 512 + _ = _
    omega
  have e1 : ((win0_4.rect t).emb y 1 : ℕ) = (y 1).val := by
    rw [Pipeline.Window.rect_emb_val win0_4 t y 1 rfl, index4]
    show 0 * 3200 + _ = _
    omega
  funext a
  apply Fin.ext
  match a with
  | ⟨0, _⟩ => exact e0
  | ⟨1, _⟩ => exact e1

theorem xsize4 : ∀ t : Fin cfg0.N, ∀ a, win0_4.xsize (grid0.coords t) a = S512x3200.size a :=
  (by decide +kernel : ∀ t : Fin grid0.N, ∀ a, win0_4.xsize (grid0.coords t) a = S512x3200.size a)

theorem mem4 (t : Fin cfg0.N) (i : S4096x3200.Idx) (h0 : t.val = (i 0).val / 512) : i ∈ ((cfg0.win 4).blk t).view.set := by
  show i ∈ ((View.whole main_v2_0).slice (win0_4.rect t)).set
  rw [View.set_slice_whole, Rect.mem_set_unit]
  intro a
  rw [xsize4]
  match a with
  | ⟨0, _⟩ =>
    show win0_4.index t 0 * 512 ≤ (i 0).val ∧ (i 0).val < win0_4.index t 0 * 512 + 512
    rw [index4]
    show t.val * 512 ≤ (i 0).val ∧ (i 0).val < t.val * 512 + 512
    omega
  | ⟨1, _⟩ =>
    have h1 : (i 1).val < 3200 := (i 1).isLt
    show win0_4.index t 1 * 3200 ≤ (i 1).val ∧ (i 1).val < win0_4.index t 1 * 3200 + 3200
    rw [index4]
    show 0 * 3200 ≤ (i 1).val ∧ (i 1).val < 0 * 3200 + 3200
    omega

theorem index5 : ∀ t : Fin cfg0.N, win0_5.index t = ![t.val, 0] :=
  (by decide +kernel : ∀ t : Fin grid0.N, win0_5.index t = ![t.val, 0])

theorem emb5 (t : Fin cfg0.N) (y : S512x1024.Idx) : (win0_5.rect t).emb y = ValueIdx.ix2 (place t (y 0)) (y 1) := by
  have e0 : ((win0_5.rect t).emb y 0 : ℕ) = 512 * t.val + (y 0).val := by
    rw [Pipeline.Window.rect_emb_val win0_5 t y 0 rfl, index5]
    show t.val * 512 + _ = _
    omega
  have e1 : ((win0_5.rect t).emb y 1 : ℕ) = (y 1).val := by
    rw [Pipeline.Window.rect_emb_val win0_5 t y 1 rfl, index5]
    show 0 * 1024 + _ = _
    omega
  funext a
  apply Fin.ext
  match a with
  | ⟨0, _⟩ => exact e0
  | ⟨1, _⟩ => exact e1

theorem xsize5 : ∀ t : Fin cfg0.N, ∀ a, win0_5.xsize (grid0.coords t) a = S512x1024.size a :=
  (by decide +kernel : ∀ t : Fin grid0.N, ∀ a, win0_5.xsize (grid0.coords t) a = S512x1024.size a)

theorem mem5 (t : Fin cfg0.N) (i : S4096x1024.Idx) (h0 : t.val = (i 0).val / 512) : i ∈ ((cfg0.win 5).blk t).view.set := by
  show i ∈ ((View.whole main_v2_1).slice (win0_5.rect t)).set
  rw [View.set_slice_whole, Rect.mem_set_unit]
  intro a
  rw [xsize5]
  match a with
  | ⟨0, _⟩ =>
    show win0_5.index t 0 * 512 ≤ (i 0).val ∧ (i 0).val < win0_5.index t 0 * 512 + 512
    rw [index5]
    show t.val * 512 ≤ (i 0).val ∧ (i 0).val < t.val * 512 + 512
    omega
  | ⟨1, _⟩ =>
    have h1 : (i 1).val < 1024 := (i 1).isLt
    show win0_5.index t 1 * 1024 ≤ (i 1).val ∧ (i 1).val < win0_5.index t 1 * 1024 + 1024
    rw [index5]
    show 0 * 1024 ≤ (i 1).val ∧ (i 1).val < 0 * 1024 + 1024
    omega

theorem index6 : ∀ t : Fin cfg0.N, win0_6.index t = ![t.val, 0] :=
  (by decide +kernel : ∀ t : Fin grid0.N, win0_6.index t = ![t.val, 0])

theorem emb6 (t : Fin cfg0.N) (y : S512x1.Idx) : (win0_6.rect t).emb y = ValueIdx.ix2 (place t (y 0)) (y 1) := by
  have e0 : ((win0_6.rect t).emb y 0 : ℕ) = 512 * t.val + (y 0).val := by
    rw [Pipeline.Window.rect_emb_val win0_6 t y 0 rfl, index6]
    show t.val * 512 + _ = _
    omega
  have e1 : ((win0_6.rect t).emb y 1 : ℕ) = (y 1).val := by
    rw [Pipeline.Window.rect_emb_val win0_6 t y 1 rfl, index6]
    show 0 * 1 + _ = _
    omega
  funext a
  apply Fin.ext
  match a with
  | ⟨0, _⟩ => exact e0
  | ⟨1, _⟩ => exact e1

theorem xsize6 : ∀ t : Fin cfg0.N, ∀ a, win0_6.xsize (grid0.coords t) a = S512x1.size a :=
  (by decide +kernel : ∀ t : Fin grid0.N, ∀ a, win0_6.xsize (grid0.coords t) a = S512x1.size a)

theorem mem6 (t : Fin cfg0.N) (i : S4096x1.Idx) (h0 : t.val = (i 0).val / 512) : i ∈ ((cfg0.win 6).blk t).view.set := by
  show i ∈ ((View.whole main_v2_2).slice (win0_6.rect t)).set
  rw [View.set_slice_whole, Rect.mem_set_unit]
  intro a
  rw [xsize6]
  match a with
  | ⟨0, _⟩ =>
    show win0_6.index t 0 * 512 ≤ (i 0).val ∧ (i 0).val < win0_6.index t 0 * 512 + 512
    rw [index6]
    show t.val * 512 ≤ (i 0).val ∧ (i 0).val < t.val * 512 + 512
    omega
  | ⟨1, _⟩ =>
    have h1 : (i 1).val < 1 := (i 1).isLt
    show win0_6.index t 1 * 1 ≤ (i 1).val ∧ (i 1).val < win0_6.index t 1 * 1 + 1
    rw [index6]
    show 0 * 1 ≤ (i 1).val ∧ (i 1).val < 0 * 1 + 1
    omega

/-- The normalised features. -/
def outH (x : S4096x1024.Idx → EReal) (g : S1x1024.Idx → EReal) (i : S4096x1024.Idx) : EReal := normed x g (i 0) (i 1)
/-- The factors of the rows. -/
def outR (x : S4096x1024.Idx → EReal) (i : S4096x1.Idx) : EReal := rstd (row (M := 4096) x (i 0))
/-- The projection, its padded columns zero. -/
def outP (x : S4096x1024.Idx → EReal) (g : S1x1024.Idx → EReal) (w : S3080x1024.Idx → EReal) (i : S4096x3200.Idx) : EReal :=
  ∑ k : Fin 1024, normed x g (i 0) k * padded w (i 1) k

theorem row_blk (t : Fin cfg0.N) (r : Fin 512) : row (M := 512) (iblk m c 0 t : S512x1024.Idx → EReal) r = row (feat m c) (place t r) :=
  funext fun k => blk0 m c t (ValueIdx.ix2 r k)

theorem normed_blk (t : Fin cfg0.N) (r : Fin 512) (k : Fin 1024) :
    normed (M := 512) (iblk m c 0 t : S512x1024.Idx → EReal) (iblk m c 1 t : S1x1024.Idx → EReal) r k = normed (feat m c) (gain m c) (place t r) k := by
  unfold normed
  rw [row_blk, blk1]

theorem column_blk (t : Fin cfg0.N) (j : Fin 3200) (k : Fin 1024) : column (X0_2 m c t) (iblk m c 3 t) j k = padded (wts m c) j k := by
  unfold column
  by_cases hc : j.val < 3072
  · rw [dif_pos hc, blk2]
    unfold padded
    rw [dif_pos (by omega)]
  · rw [dif_neg hc]
    refine (blk3 m c t _).trans ((tail_apply m c _).trans (congrArg (fun j => padded (wts m c) j k) (Fin.ext ?_)))
    show 3072 + (j.val - 3072) = j.val
    omega

theorem res4 (i : S4096x3200.Idx) : (dats m 0 c).arrAt 4 cfg0.N i = outP (feat m c) (gain m c) (wts m c) i := by
  have h0 : (i 0).val < 4096 := (i 0).isLt
  have hN : cfg0.N = 8 := N_0
  refine (dats m 0 c).arrAt_apply_of_mem 4 (outP (feat m c) (gain m c) (wts m c)) ?_ cfg0.N ⟨(i 0).val / 512, by omega⟩ i (by show (i 0).val / 512 < _; omega) (flush0_4 _) (mem4 _ i rfl)
  intro t _
  rw [Value.flushed4_A]
  funext y
  refine (outA4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk m c 0 t) (iblk m c 1 t) (X0_2 m c t) (iblk m c 3 t) y).trans ?_
  show _ = outP (feat m c) (gain m c) (wts m c) ((win0_4.rect t).emb y)
  rw [emb4]
  exact Finset.sum_congr rfl fun k _ => congrArg₂ (fun a b : EReal => a * b) (normed_blk m c t (y 0) k) (column_blk m c t (y 1) k)

theorem res5 (i : S4096x1024.Idx) : (dats m 0 c).arrAt 5 cfg0.N i = outH (feat m c) (gain m c) i := by
  have h0 : (i 0).val < 4096 := (i 0).isLt
  have hN : cfg0.N = 8 := N_0
  refine (dats m 0 c).arrAt_apply_of_mem 5 (outH (feat m c) (gain m c)) ?_ cfg0.N ⟨(i 0).val / 512, by omega⟩ i (by show (i 0).val / 512 < _; omega) (flush0_5 _) (mem5 _ i rfl)
  intro t _
  rw [Value.flushed5_A]
  funext y
  refine (outA5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk m c 0 t) (iblk m c 1 t) (X0_2 m c t) (iblk m c 3 t) y).trans ?_
  show _ = outH (feat m c) (gain m c) ((win0_5.rect t).emb y)
  rw [emb5]
  exact normed_blk m c t (y 0) (y 1)

theorem res6 (i : S4096x1.Idx) : (dats m 0 c).arrAt 6 cfg0.N i = outR (feat m c) i := by
  have h0 : (i 0).val < 4096 := (i 0).isLt
  have hN : cfg0.N = 8 := N_0
  refine (dats m 0 c).arrAt_apply_of_mem 6 (outR (feat m c)) ?_ cfg0.N ⟨(i 0).val / 512, by omega⟩ i (by show (i 0).val / 512 < _; omega) (flush0_6 _) (mem6 _ i rfl)
  intro t _
  rw [Value.flushed6_A]
  funext y
  refine (outA6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk m c 0 t) (iblk m c 1 t) (X0_2 m c t) (iblk m c 3 t) y).trans ?_
  show _ = outR (feat m c) ((win0_6.rect t).emb y)
  rw [emb6]
  exact congrArg rstd (row_blk m c t (y 0))

end Cert.Kernel10Ideal.Norm

namespace Cert.Reference10Ideal.Norm

open Cert.Reference10Ideal Cert.Reference10Ideal.Read Idealize.ShloMosaic Idealize.ShloMosaic.TcCoe
open Cert.Norm

theorem rms_apply (x : S4096x1024.Idx → EReal) (i : S4096x1.Idx) : val_main_v7 (F := Ideal) x i = rstd (row (M := 4096) x (i 0)) := by
  rw [val_main_v7_apply, val_main_v6_apply, val_main_v4_apply, val_main_v2_apply, val_main_v1_apply, val_main_v3_apply, val_main_v5_apply]
  show Ideal.rsqrt (Ideal.div (Ideal.ofBits .f32 0x00000000#32 + _) _ + _) = _
  rw [Ideal.ofBits_zero_f32, zero_add]
  refine congrArg (fun a : EReal => Ideal.rsqrt (Ideal.div a (FloatOps.ofBits (F := Ideal) .f32 0x44800000#32) + FloatOps.ofBits (F := Ideal) .f32 0x358637BD#32)) (Finset.sum_congr rfl fun k _ => ?_)
  have e : idx_main_v1 (idx_main_v2 i) k = ValueIdx.ix2 (i 0) k := by
    funext a
    match a with
    | ⟨0, _⟩ => rfl
    | ⟨1, _⟩ => rfl
  rw [e]
  rfl

theorem normed_apply (x : S4096x1024.Idx → EReal) (g : S1x1024.Idx → EReal) (i : S4096x1024.Idx) : val_main_v11 (F := Ideal) x g i = normed x g (i 0) (i 1) := by
  rw [val_main_v11_apply, val_main_v9_apply, val_main_v8_apply, val_main_v10_apply, rms_apply]
  have e : i = ValueIdx.ix2 (i 0) (i 1) := by
    funext a
    match a with
    | ⟨0, _⟩ => rfl
    | ⟨1, _⟩ => rfl
  have e2 : idx_main_v10 i = ValueIdx.ix2 0 (i 1) := by
    funext a
    match a with
    | ⟨0, _⟩ => rfl
    | ⟨1, _⟩ => rfl
  rw [e2]
  exact congrArg (fun a : EReal => a * rstd (row (M := 4096) x (i 0)) * g (ValueIdx.ix2 0 (i 1))) (congrArg x e)

theorem h_apply (x : S4096x1024.Idx → EReal) (g : S1x1024.Idx → EReal) (i : S4096x1024.Idx) : val_main_v16 (F := Ideal) x g i = Kernel10Ideal.Norm.outH x g i := normed_apply x g i

theorem r_apply (x : S4096x1024.Idx → EReal) (i : S4096x1.Idx) : val_main_v24 (F := Ideal) x i = Kernel10Ideal.Norm.outR x i := rms_apply x i

theorem p_apply (x : S4096x1024.Idx → EReal) (g : S1x1024.Idx → EReal) (w : S3080x1024.Idx → EReal) (i : S4096x3200.Idx) : val_main_v15 (F := Ideal) x g w i = Kernel10Ideal.Norm.outP x g w i := by
  have i1 : (i 1).val < 3200 := (i 1).isLt
  unfold Kernel10Ideal.Norm.outP Kernel10Ideal.Norm.padded val_main_v15
  by_cases hc : (i 1).val < 3080
  · refine (pad_apply_of_inside _ _ _ _ _ _ _ i (ValueIdx.ix2 (i 0) ⟨(i 1).val, hc⟩ : S4096x3080.Idx) ?_).trans ?_
    · intro a
      match a with
      | ⟨0, _⟩ => show (i 0).val = 0 + (i 0).val * (0 + 1); omega
      | ⟨1, _⟩ => show (i 1).val = 0 + (i 1).val * (0 + 1); omega
    rw [val_main_v14_apply]
    refine Finset.sum_congr rfl fun k _ => ?_
    rw [dif_pos hc, normed_apply, val_main_v13_apply, val_main_v12_apply]
    refine congrArg (fun a : EReal => normed x g (i 0) k * a) (congrArg w ?_)
    funext a
    match a with
    | ⟨0, _⟩ => rfl
    | ⟨1, _⟩ => rfl
  · refine (pad_apply_of_not_inside _ _ _ _ _ _ _ i (1 : Fin 2) (fun hh => hc ?_)).trans ?_
    · have h2 := hh.2.2
      have h3 : ((i 1).val - 0) / (0 + 1) < 3080 := h2
      omega
    refine Eq.trans ?_ (Finset.sum_eq_zero fun k _ => by rw [dif_neg hc, mul_zero]).symm
    show ((((0#32 : BitVec 32).toInt : ℝ)) : EReal) = _
    simp

end Cert.Reference10Ideal.Norm

namespace Cert.Proof.Norm10

open Idealize.ShloMosaic Idealize.ShloMosaic.TcCoe Idealize.ShloMosaic.StableHlo Idealize.SL.Sem

theorem frame_reference : Cert.quiescent_Reference10Ideal := by
  intro m ρ _
  exact (θ_run Cert.Reference10Ideal.defs _ _).mono (fun r h => ⟨fun c => (h c).2.2.2, sem_eq_zero_of_no_sems (by decide) r.2⟩)
    (Cert.Reference10Ideal.Value.run (F := Ideal) m ρ)

theorem algebraic : Cert.algebraic_Kernel10Ideal_Reference10Ideal := by
  intro m g m' g' _ ha
  refine ⟨fun c (i : Cert.Kernel10Ideal.S4096x3200.Idx) => Cert.Kernel10Ideal.Norm.outP (Cert.Kernel10Ideal.Norm.feat m c) (Cert.Kernel10Ideal.Norm.gain m c) (Cert.Kernel10Ideal.Norm.wts m c) i,
    fun c (i : Cert.Kernel10Ideal.S4096x1024.Idx) => Cert.Kernel10Ideal.Norm.outH (Cert.Kernel10Ideal.Norm.feat m c) (Cert.Kernel10Ideal.Norm.gain m c) i,
    fun c (i : Cert.Kernel10Ideal.S4096x1.Idx) => Cert.Kernel10Ideal.Norm.outR (Cert.Kernel10Ideal.Norm.feat m c) i, ?_, ?_⟩
  · refine (θ_run Cert.Kernel10Ideal.defs _ _).mono (fun r h c => ?_) (Cert.Kernel10Ideal.Value.run_blocks (F := Ideal) m g)
    obtain ⟨r4, r5, r6, hargs⟩ := h c
    exact ⟨r4.trans (funext fun i => Cert.Kernel10Ideal.Norm.res4 m c i), r5.trans (funext fun i => Cert.Kernel10Ideal.Norm.res5 m c i), r6.trans (funext fun i => Cert.Kernel10Ideal.Norm.res6 m c i), hargs⟩
  · refine (θ_run Cert.Reference10Ideal.defs _ _).mono (fun r h c => ?_) (Cert.Reference10Ideal.Value.run (F := Ideal) m' g')
    obtain ⟨r4, r5, r6, hargs⟩ := h c
    obtain ⟨a0, a1, a2⟩ := ha c
    refine ⟨r4.trans ((Cert.Reference10Ideal.Read.val_main_v15_eq _ _ _).trans (funext fun i => ?_)), r5.trans ((Cert.Reference10Ideal.Read.val_main_v16_eq _ _).trans (funext fun i => ?_)), r6.trans ((Cert.Reference10Ideal.Read.val_main_v24_eq _).trans (funext fun i => ?_)), hargs⟩
    · refine (Cert.Reference10Ideal.Norm.p_apply _ _ _ i).trans ?_
      show _ = Cert.Kernel10Ideal.Norm.outP (Cert.Kernel10Ideal.Gen.V m c Cert.Kernel10Ideal.main_arg0) (Cert.Kernel10Ideal.Gen.V m c Cert.Kernel10Ideal.main_arg1) (Cert.Kernel10Ideal.Gen.V m c Cert.Kernel10Ideal.main_arg2) i
      rw [Cert.Kernel10Ideal.Gen.V_main_arg0, Cert.Kernel10Ideal.Gen.V_main_arg1, Cert.Kernel10Ideal.Gen.V_main_arg2, a0, a1, a2]
    · refine (Cert.Reference10Ideal.Norm.h_apply _ _ i).trans ?_
      show _ = Cert.Kernel10Ideal.Norm.outH (Cert.Kernel10Ideal.Gen.V m c Cert.Kernel10Ideal.main_arg0) (Cert.Kernel10Ideal.Gen.V m c Cert.Kernel10Ideal.main_arg1) i
      rw [Cert.Kernel10Ideal.Gen.V_main_arg0, Cert.Kernel10Ideal.Gen.V_main_arg1, a0, a1]
    · refine (Cert.Reference10Ideal.Norm.r_apply _ i).trans ?_
      show _ = Cert.Kernel10Ideal.Norm.outR (Cert.Kernel10Ideal.Gen.V m c Cert.Kernel10Ideal.main_arg0) i
      rw [Cert.Kernel10Ideal.Gen.V_main_arg0, a0]

end Cert.Proof.Norm10

end
-- ==== Proof.Mm11.lean ====
/- The output projection and its residual: the tiled product plus the block of the residual is the reference's sum. -/
module

public import proofs.«01_k».proof.Defs
public import proofs.«01_k».proof.Proof.Gen.Kernel11Ideal.Value
public import proofs.«01_k».proof.Proof.Gen.Reference11Ideal.Run
public import proofs.«01_k».proof.Proof.Gen.Reference11Ideal.Read
public import proofs.«01_k».proof.Proof.Mm

@[expose] public section

set_option maxRecDepth 16384

noncomputable section

namespace Cert.Kernel11Ideal.Mm

open Cert.Kernel11Ideal Cert.Kernel11Ideal.Gen Idealize.ShloMosaic Idealize.ShloMosaic.TcCoe Idealize.SL.Sem ValueIdx
open Cert.Mm

variable (m : (ℓ : Loc nD τ sig) → Buf (Elt Ideal) ℓ) (c : Dev nD)

theorem index0 : ∀ t : Fin cfg0.N, win0_0.index t = ![t.val, 0] :=
  (by decide +kernel : ∀ t : Fin grid0.N, win0_0.index t = ![t.val, 0])
theorem index1 : ∀ t : Fin cfg0.N, win0_1.index t = ![0, 0] :=
  (by decide +kernel : ∀ t : Fin grid0.N, win0_1.index t = ![0, 0])
theorem index2 : ∀ t : Fin cfg0.N, win0_2.index t = ![t.val, 0] :=
  (by decide +kernel : ∀ t : Fin grid0.N, win0_2.index t = ![t.val, 0])
theorem index3 : ∀ t : Fin cfg0.N, win0_3.index t = ![t.val, 0] :=
  (by decide +kernel : ∀ t : Fin grid0.N, win0_3.index t = ![t.val, 0])
theorem xsize3 : ∀ t : Fin cfg0.N, ∀ a, win0_3.xsize (grid0.coords t) a = S1024x1024.size a :=
  (by decide +kernel : ∀ t : Fin grid0.N, ∀ a, win0_3.xsize (grid0.coords t) a = S1024x1024.size a)

/-- The mixed features. -/
abbrev lhs : S4096x1024.Idx → EReal := V m c main_arg0
/-- The weights. -/
abbrev rhs : S1024x1024.Idx → EReal := V m c main_arg1
/-- The residual. -/
abbrev skip : S4096x1024.Idx → EReal := V m c main_arg2

/-- Where index `y` of block `t` lies in the whole array. -/
abbrev place (t : Fin cfg0.N) (y : S1024x1024.Idx) : S4096x1024.Idx :=
  ix2 ⟨1024 * t.val + (y 0).val, by have := t.isLt; have h0 : (y 0).val < 1024 := (y 0).isLt; have hN : cfg0.N = 4 := N_0; omega⟩ (y 1)

theorem emb0 (t : Fin cfg0.N) (y : S1024x1024.Idx) : (win0_0.rect t).emb y = place t y := by
  have e0 : ((win0_0.rect t).emb y 0 : ℕ) = 1024 * t.val + (y 0).val := by
    rw [Pipeline.Window.rect_emb_val win0_0 t y 0 rfl, index0]
    show t.val * 1024 + _ = _
    omega
  have e1 : ((win0_0.rect t).emb y 1 : ℕ) = (y 1).val := by
    rw [Pipeline.Window.rect_emb_val win0_0 t y 1 rfl, index0]
    show 0 * 1024 + _ = _
    omega
  funext a
  apply Fin.ext
  match a with
  | ⟨0, _⟩ => exact e0
  | ⟨1, _⟩ => exact e1

theorem emb2 (t : Fin cfg0.N) (y : S1024x1024.Idx) : (win0_2.rect t).emb y = place t y := by
  have e0 : ((win0_2.rect t).emb y 0 : ℕ) = 1024 * t.val + (y 0).val := by
    rw [Pipeline.Window.rect_emb_val win0_2 t y 0 rfl, index2]
    show t.val * 1024 + _ = _
    omega
  have e1 : ((win0_2.rect t).emb y 1 : ℕ) = (y 1).val := by
    rw [Pipeline.Window.rect_emb_val win0_2 t y 1 rfl, index2]
    show 0 * 1024 + _ = _
    omega
  funext a
  apply Fin.ext
  match a with
  | ⟨0, _⟩ => exact e0
  | ⟨1, _⟩ => exact e1

theorem emb3 (t : Fin cfg0.N) (y : S1024x1024.Idx) : (win0_3.rect t).emb y = place t y := by
  have e0 : ((win0_3.rect t).emb y 0 : ℕ) = 1024 * t.val + (y 0).val := by
    rw [Pipeline.Window.rect_emb_val win0_3 t y 0 rfl, index3]
    show t.val * 1024 + _ = _
    omega
  have e1 : ((win0_3.rect t).emb y 1 : ℕ) = (y 1).val := by
    rw [Pipeline.Window.rect_emb_val win0_3 t y 1 rfl, index3]
    show 0 * 1024 + _ = _
    omega
  funext a
  apply Fin.ext
  match a with
  | ⟨0, _⟩ => exact e0
  | ⟨1, _⟩ => exact e1

theorem blk0 (t : Fin cfg0.N) (y : S1024x1024.Idx) : iblk m c 0 t y = lhs m c (place t y) := congrArg (lhs m c) (emb0 t y)
theorem blk2 (t : Fin cfg0.N) (y : S1024x1024.Idx) : iblk m c 2 t y = skip m c (place t y) := congrArg (skip m c) (emb2 t y)
theorem blk1 (t : Fin cfg0.N) (j : S1024x1024.Idx) : iblk m c 1 t j = rhs m c j := by
  refine congrArg (rhs m c) (funext fun a => Fin.ext (Pipeline.Window.rect_emb_val_of_index_zero win0_1 t a ?_ j))
  rw [index1]
  fin_cases a <;> rfl

/-- One tile: the product of its blocks, and the block of the residual. -/
theorem tile (x0 : Vec Ideal S1024x1024 .bf16) (x1 : Vec Ideal S1024x1024 .bf16) (x2 : Vec Ideal S1024x1024 .f32) (j : S1024x1024.Idx) :
    out0_3 x0 x1 x2 j = nn (M := 1024) (K := 1024) (N := 1024) x0 x1 (j 0) (j 1) + x2 j := by
  unfold out0_3
  refine (congrFun (View.canon_cons_unit_zero (S := S1024x1024) zero2 _ _ _) j).trans ?_
  rw [show View.ld x0 r0_0 = x0 from View.ld_unit_zero (S := S1024x1024) zero2 _ x0, show View.ld x1 r0_0 = x1 from View.ld_unit_zero (S := S1024x1024) zero2 _ x1,
    show View.ld x2 r0_0 = x2 from View.ld_unit_zero (S := S1024x1024) zero2 _ x2]
  refine (congrArg (fun a : EReal => a + x2 j) (nn_matmul (M := 1024) (K := 1024) (N := 1024) (φ₁ := .bf16) (φ₂ := .bf16) dot_S1024x1024_S1024x1024_S1024x1024_1_0_0_1_n_n_wf none x0 x1 (constant S1024x1024 .f32 0x00000000#32) j)).trans ?_
  rw [zero_constant, zero_add]

theorem mem3 (t : Fin cfg0.N) (i : S4096x1024.Idx) (h0 : t.val = (i 0).val / 1024) : i ∈ ((cfg0.win 3).blk t).view.set := by
  show i ∈ ((View.whole main_v0).slice (win0_3.rect t)).set
  rw [View.set_slice_whole, Rect.mem_set_unit]
  intro a
  rw [xsize3]
  match a with
  | ⟨0, _⟩ =>
    show win0_3.index t 0 * 1024 ≤ (i 0).val ∧ (i 0).val < win0_3.index t 0 * 1024 + 1024
    rw [index3]
    show t.val * 1024 ≤ (i 0).val ∧ (i 0).val < t.val * 1024 + 1024
    omega
  | ⟨1, _⟩ =>
    have h1 : (i 1).val < 1024 := (i 1).isLt
    show win0_3.index t 1 * 1024 ≤ (i 1).val ∧ (i 1).val < win0_3.index t 1 * 1024 + 1024
    rw [index3]
    show 0 * 1024 ≤ (i 1).val ∧ (i 1).val < 0 * 1024 + 1024
    omega

/-- The projection and the residual, at one index. -/
def out (A : S4096x1024.Idx → EReal) (B : S1024x1024.Idx → EReal) (x : S4096x1024.Idx → EReal) (i : S4096x1024.Idx) : EReal :=
  x i + nn (M := 4096) (K := 1024) (N := 1024) A B (i 0) (i 1)

/-- The whole result. -/
theorem res3 (i : S4096x1024.Idx) : (dats m 0 c).arrAt 3 cfg0.N i = out (lhs m c) (rhs m c) (skip m c) i := by
  have h0 : (i 0).val < 4096 := (i 0).isLt
  have hN : cfg0.N = 4 := N_0
  refine (dats m 0 c).arrAt_apply_of_mem 3 (fun i : S4096x1024.Idx => out (lhs m c) (rhs m c) (skip m c) i) ?_ cfg0.N ⟨(i 0).val / 1024, by omega⟩ i (by show (i 0).val / 1024 < _; omega) (flush0_3 _) (mem3 _ i rfl)
  intro t _
  rw [Value.flushed3]
  funext y
  refine (tile (iblk m c 0 t) (iblk m c 1 t) (iblk m c 2 t) y).trans ?_
  show _ = (fun i : S4096x1024.Idx => out (lhs m c) (rhs m c) (skip m c) i) ((win0_3.rect t).emb y)
  rw [emb3, blk2, add_comm]
  refine congrArg (fun a : EReal => skip m c (place t y) + a) ?_
  exact Finset.sum_congr rfl fun k _ => congrArg₂ (· * ·) (blk0 m c t _) (blk1 m c t _)

end Cert.Kernel11Ideal.Mm

namespace Cert.Proof.Mm11

open Idealize.ShloMosaic Idealize.ShloMosaic.TcCoe Idealize.ShloMosaic.StableHlo Idealize.SL.Sem ValueIdx
open Cert.Mm

/-- The reference at an index. -/
theorem reference_apply (x0 : Cert.Reference11Ideal.S4096x1024.Idx → EReal) (x1 : Cert.Reference11Ideal.S1024x1024.Idx → EReal) (x2 : Cert.Reference11Ideal.S4096x1024.Idx → EReal) (i : Cert.Reference11Ideal.S4096x1024.Idx) :
    Cert.Reference11Ideal.Read.val_main_v3 (F := Ideal) x0 x1 x2 i = Cert.Kernel11Ideal.Mm.out x0 x1 x2 i := by
  rw [Cert.Reference11Ideal.Read.val_main_v3_apply, Cert.Reference11Ideal.Read.val_main_v2_apply]
  refine congrArg (fun a : EReal => x2 i + a) ?_
  refine Finset.sum_congr rfl fun k _ => congrArg₂ (· * ·) (congrArg x0 ?_) (congrArg x1 ?_) <;>
  · funext a; fin_cases a <;> rfl

theorem frame_reference : Cert.quiescent_Reference11Ideal := by
  intro m ρ _
  exact (θ_run Cert.Reference11Ideal.defs _ _).mono (fun r h => ⟨fun c => (h c).2, sem_eq_zero_of_no_sems (by decide) r.2⟩)
    (Cert.Reference11Ideal.Value.run (F := Ideal) m ρ)

theorem algebraic : Cert.algebraic_Kernel11Ideal_Reference11Ideal := by
  intro m g m' g' _ ha
  refine ⟨fun c (i : Cert.Kernel11Ideal.S4096x1024.Idx) => Cert.Kernel11Ideal.Mm.out (Cert.Kernel11Ideal.Mm.lhs m c) (Cert.Kernel11Ideal.Mm.rhs m c) (Cert.Kernel11Ideal.Mm.skip m c) i, ?_, ?_⟩
  · refine (θ_run Cert.Kernel11Ideal.defs _ _).mono (fun r h c => ?_) (Cert.Kernel11Ideal.Value.run_blocks (F := Ideal) m g)
    obtain ⟨r3, hargs⟩ := h c
    exact ⟨r3.trans (funext fun i => Cert.Kernel11Ideal.Mm.res3 m c i), hargs⟩
  · refine (θ_run Cert.Reference11Ideal.defs _ _).mono (fun r h c => ?_) (Cert.Reference11Ideal.Value.run (F := Ideal) m' g')
    obtain ⟨r3, hargs⟩ := h c
    obtain ⟨a0, a1, a2⟩ := ha c
    refine ⟨r3.trans ((Cert.Reference11Ideal.Read.val_main_v3_eq _ _ _).trans (funext fun i => ?_)), hargs⟩
    refine (reference_apply _ _ _ i).trans ?_
    rw [a0, a1, a2]

end Cert.Proof.Mm11

end
-- ==== Proof.Ad.lean ====
/- The optimiser at one weight: what it makes of the gradient, the weight and the two moments, over the extended reals. -/
module

public import proofs.«01_k».proof.Proof.Mm

@[expose] public section

noncomputable section

namespace Cert.Ad

open Idealize.ShloMosaic ValueIdx

/-- A constant of the optimiser, from its float word. -/
abbrev lit (w : BitVec 32) : EReal := FloatOps.ofBits (F := Ideal) .f32 w

/-- The first moment after the step. -/
def moment (g m : EReal) : EReal := lit 0x3F666666#32 * m + lit 0x3DCCCCCD#32 * g
/-- The second moment after the step. -/
def square (g v : EReal) : EReal := lit 0x3F7FBE77#32 * v + lit 0x3A83126F#32 * (g * g)
/-- What the step adds to the weight. -/
def change (g w m v : EReal) : EReal :=
  lit 0xBA83126F#32 * (Ideal.div (Ideal.div (moment g m) (lit 0x3F26BD02#32)) (Ideal.sqrt (Ideal.div (square g v) (lit 0x3C231ACC#32)) + lit 0x322BCC77#32) + lit 0x3C23D70A#32 * w)

theorem zero3 : (![0, 0, 0] : Fin 3 → ℕ) = fun _ => 0 := by
  funext a
  fin_cases a <;> rfl

/-- Two places of an array of three axes are one if their coordinates are. -/
theorem eq3 {A B C : ℕ} {i j : (⟨3, ![A, B, C]⟩ : Shape).Idx} (h0 : (i 0).val = (j 0).val) (h1 : (i 1).val = (j 1).val) (h2 : (i 2).val = (j 2).val) : i = j := by
  funext a
  match a with
  | ⟨0, _⟩ => exact Fin.ext h0
  | ⟨1, _⟩ => exact Fin.ext h1
  | ⟨2, _⟩ => exact Fin.ext h2

theorem unit_val (n : ℕ) : 0 + 1 * n = n := (Nat.zero_add _).trans (Nat.one_mul _)

end Cert.Ad

end
-- ==== Proof.Ad12.lean ====
/- The optimiser step of the feed-forward output weights: the kernel sums the eight received pieces one after the other, the reference sums them at once. -/
module

public import proofs.«01_k».proof.Defs
public import proofs.«01_k».proof.Proof.Gen.Kernel12Ideal.Value
public import proofs.«01_k».proof.Proof.Gen.Reference12Ideal.Run
public import proofs.«01_k».proof.Proof.Gen.Reference12Ideal.Read
public import proofs.«01_k».proof.Proof.Ad

@[expose] public section

set_option maxRecDepth 16384

noncomputable section

namespace Cert.Kernel12Ideal.Ad

open Cert.Kernel12Ideal Cert.Kernel12Ideal.Gen Idealize.ShloMosaic Idealize.ShloMosaic.TcCoe Idealize.SL.Sem ValueIdx
open Cert.Ad Cert.Mm

variable (m : (ℓ : Loc nD τ sig) → Buf (Elt Ideal) ℓ) (c : Dev nD)

theorem index0 : ∀ t : Fin cfg0.N, win0_0.index t = ![0, t.val, 0] :=
  (by decide +kernel : ∀ t : Fin grid0.N, win0_0.index t = ![0, t.val, 0])
theorem index1 : ∀ t : Fin cfg0.N, win0_1.index t = ![0, t.val, 0] :=
  (by decide +kernel : ∀ t : Fin grid0.N, win0_1.index t = ![0, t.val, 0])
theorem index4 : ∀ t : Fin cfg0.N, win0_4.index t = ![0, t.val, 0] :=
  (by decide +kernel : ∀ t : Fin grid0.N, win0_4.index t = ![0, t.val, 0])
theorem xsize4 : ∀ t : Fin cfg0.N, ∀ a, win0_4.xsize (grid0.coords t) a = S1x176x1024.size a :=
  (by decide +kernel : ∀ t : Fin grid0.N, ∀ a, win0_4.xsize (grid0.coords t) a = S1x176x1024.size a)

/-- The pieces received from the devices. -/
abbrev pieces : S8x352x1024.Idx → EReal := V m c main_arg0
/-- The weights. -/
abbrev weight : S1x352x1024.Idx → EReal := V m c main_arg1
/-- The first moments. -/
abbrev first : S1x352x1024.Idx → EReal := V m c main_arg2
/-- The second moments. -/
abbrev second : S1x352x1024.Idx → EReal := V m c main_arg3

/-- The sum of the received pieces at one weight. -/
def total (x : S8x352x1024.Idx → EReal) (i : S1x352x1024.Idx) : EReal := ∑ d : Fin 8, x (ix3 d (i 1) (i 2))

/-- The weight that index `y` of block `t` holds. -/
abbrev place (t : Fin cfg0.N) (y : S1x176x1024.Idx) : S1x352x1024.Idx := ix3 (y 0) ⟨176 * t.val + (y 1).val, by have := t.isLt; have h0 : (y 1).val < 176 := (y 1).isLt; have hN : cfg0.N = 2 := N_0; omega⟩ (y 2)

theorem emb1 (t : Fin cfg0.N) (y : S1x176x1024.Idx) : (win0_1.rect t).emb y = place t y := by
  have e0 : ((win0_1.rect t).emb y 0 : ℕ) = (y 0).val := by
    rw [Pipeline.Window.rect_emb_val win0_1 t y 0 rfl, index1]
    show 0 * 1 + _ = _
    omega
  have e1 : ((win0_1.rect t).emb y 1 : ℕ) = 176 * t.val + (y 1).val := by
    rw [Pipeline.Window.rect_emb_val win0_1 t y 1 rfl, index1]
    show t.val * 176 + _ = _
    omega
  have e2 : ((win0_1.rect t).emb y 2 : ℕ) = (y 2).val := by
    rw [Pipeline.Window.rect_emb_val win0_1 t y 2 rfl, index1]
    show 0 * 1024 + _ = _
    omega
  funext a
  apply Fin.ext
  match a with
  | ⟨0, _⟩ => exact e0
  | ⟨1, _⟩ => exact e1
  | ⟨2, _⟩ => exact e2

theorem emb2 (t : Fin cfg0.N) (y : S1x176x1024.Idx) : (win0_2.rect t).emb y = place t y := emb1 t y

theorem emb3 (t : Fin cfg0.N) (y : S1x176x1024.Idx) : (win0_3.rect t).emb y = place t y := emb1 t y

theorem emb4 (t : Fin cfg0.N) (y : S1x176x1024.Idx) : (win0_4.rect t).emb y = place t y := emb1 t y

theorem emb5 (t : Fin cfg0.N) (y : S1x176x1024.Idx) : (win0_5.rect t).emb y = place t y := emb1 t y

theorem emb6 (t : Fin cfg0.N) (y : S1x176x1024.Idx) : (win0_6.rect t).emb y = place t y := emb1 t y

theorem emb7 (t : Fin cfg0.N) (y : S1x176x1024.Idx) : (win0_7.rect t).emb y = place t y := emb1 t y

theorem blk0 (t : Fin cfg0.N) (d : Fin 8) (y : S1x176x1024.Idx) : iblk m c 0 t (ix3 d (y 1) (y 2) : S8x176x1024.Idx) = pieces m c (ix3 d (place t y 1) (place t y 2)) := by
  have e0 : ((win0_0.rect t).emb (ix3 d (y 1) (y 2) : S8x176x1024.Idx) 0 : ℕ) = d.val := by
    rw [Pipeline.Window.rect_emb_val win0_0 t _ 0 rfl, index0]
    show 0 * 8 + d.val = _
    omega
  have e1 : ((win0_0.rect t).emb (ix3 d (y 1) (y 2) : S8x176x1024.Idx) 1 : ℕ) = 176 * t.val + (y 1).val := by
    rw [Pipeline.Window.rect_emb_val win0_0 t _ 1 rfl, index0]
    show t.val * 176 + (y 1).val = _
    omega
  have e2 : ((win0_0.rect t).emb (ix3 d (y 1) (y 2) : S8x176x1024.Idx) 2 : ℕ) = (y 2).val := by
    rw [Pipeline.Window.rect_emb_val win0_0 t _ 2 rfl, index0]
    show 0 * 1024 + (y 2).val = _
    omega
  refine congrArg (pieces m c) (funext fun a => Fin.ext ?_)
  match a with
  | ⟨0, _⟩ => exact e0
  | ⟨1, _⟩ => exact e1
  | ⟨2, _⟩ => exact e2

theorem blk1 (t : Fin cfg0.N) (y : S1x176x1024.Idx) : iblk m c 1 t y = weight m c (place t y) := congrArg (weight m c) (emb1 t y)
theorem blk2 (t : Fin cfg0.N) (y : S1x176x1024.Idx) : iblk m c 2 t y = first m c (place t y) := congrArg (first m c) (emb2 t y)
theorem blk3 (t : Fin cfg0.N) (y : S1x176x1024.Idx) : iblk m c 3 t y = second m c (place t y) := congrArg (second m c) (emb3 t y)

/-- The sum of the pieces within one block. -/
def part (x : S8x176x1024.Idx → EReal) (y : S1x176x1024.Idx) : EReal := ∑ d : Fin 8, x (ix3 d (y 1) (y 2))

theorem part_blk (t : Fin cfg0.N) (y : S1x176x1024.Idx) : part (iblk m c 0 t) y = total (pieces m c) (place t y) :=
  Finset.sum_congr rfl fun d _ => blk0 m c t d y

theorem load0 (x : Vec Ideal S8x176x1024 .bf16) (y : S1x176x1024.Idx) : View.ld x r0_0 (Value.ix4_0 y) = x (ix3 (0 : Fin 8) (y 1) (y 2)) :=
  congrArg x (eq3 rfl (unit_val _) (unit_val _))
theorem load1 (x : Vec Ideal S8x176x1024 .bf16) (y : S1x176x1024.Idx) : View.ld x r0_1 (Value.ix4_1 y) = x (ix3 (1 : Fin 8) (y 1) (y 2)) :=
  congrArg x (eq3 rfl (unit_val _) (unit_val _))
theorem load2 (x : Vec Ideal S8x176x1024 .bf16) (y : S1x176x1024.Idx) : View.ld x r0_2 (Value.ix4_2 y) = x (ix3 (2 : Fin 8) (y 1) (y 2)) :=
  congrArg x (eq3 rfl (unit_val _) (unit_val _))
theorem load3 (x : Vec Ideal S8x176x1024 .bf16) (y : S1x176x1024.Idx) : View.ld x r0_3 (Value.ix4_3 y) = x (ix3 (3 : Fin 8) (y 1) (y 2)) :=
  congrArg x (eq3 rfl (unit_val _) (unit_val _))
theorem load4 (x : Vec Ideal S8x176x1024 .bf16) (y : S1x176x1024.Idx) : View.ld x r0_4 (Value.ix4_4 y) = x (ix3 (4 : Fin 8) (y 1) (y 2)) :=
  congrArg x (eq3 rfl (unit_val _) (unit_val _))
theorem load5 (x : Vec Ideal S8x176x1024 .bf16) (y : S1x176x1024.Idx) : View.ld x r0_5 (Value.ix4_5 y) = x (ix3 (5 : Fin 8) (y 1) (y 2)) :=
  congrArg x (eq3 rfl (unit_val _) (unit_val _))
theorem load6 (x : Vec Ideal S8x176x1024 .bf16) (y : S1x176x1024.Idx) : View.ld x r0_6 (Value.ix4_6 y) = x (ix3 (6 : Fin 8) (y 1) (y 2)) :=
  congrArg x (eq3 rfl (unit_val _) (unit_val _))
theorem load7 (x : Vec Ideal S8x176x1024 .bf16) (y : S1x176x1024.Idx) : View.ld x r0_7 (Value.ix4_7 y) = x (ix3 (7 : Fin 8) (y 1) (y 2)) :=
  congrArg x (eq3 rfl (unit_val _) (unit_val _))

theorem sum_loads (x : Vec Ideal S8x176x1024 .bf16) (y : S1x176x1024.Idx) : Value.E4 (F := Ideal) (View.ld x r0_0) (View.ld x r0_1) (View.ld x r0_2) (View.ld x r0_3) (View.ld x r0_4) (View.ld x r0_5) (View.ld x r0_6) (View.ld x r0_7) y = part x y := by
  have h01 := congrArg₂ (fun a b : EReal => a + b) (load0 x y) (load1 x y)
  have h02 := congrArg₂ (fun a b : EReal => a + b) h01 (load2 x y)
  have h03 := congrArg₂ (fun a b : EReal => a + b) h02 (load3 x y)
  have h04 := congrArg₂ (fun a b : EReal => a + b) h03 (load4 x y)
  have h05 := congrArg₂ (fun a b : EReal => a + b) h04 (load5 x y)
  have h06 := congrArg₂ (fun a b : EReal => a + b) h05 (load6 x y)
  have h07 := congrArg₂ (fun a b : EReal => a + b) h06 (load7 x y)
  exact h07.trans (Fin.sum_univ_eight (fun d : Fin 8 => x (ix3 d (y 1) (y 2)))).symm

theorem same (y : S1x176x1024.Idx) : Value.ix5_0 y = y := by
  funext a
  apply Fin.ext
  match a with
  | ⟨0, _⟩ => have h : (y 0).val < 1 := (y 0).isLt; show 0 = (y 0).val; omega
  | ⟨1, _⟩ => rfl
  | ⟨2, _⟩ => rfl

theorem tile4 (x0 : Vec Ideal S8x176x1024 .bf16) (x1 x2 x3 : Vec Ideal S1x176x1024 .f32) (y : S1x176x1024.Idx) : out0_4 x0 x1 x2 x3 y = part x0 y := by
  unfold out0_4 k0_pay8
  exact (Value.canon4_eq (F := Ideal) (View.ld x0 r0_0) (View.ld x0 r0_1) (View.ld x0 r0_2) (View.ld x0 r0_3) (View.ld x0 r0_4) (View.ld x0 r0_5) (View.ld x0 r0_6) (View.ld x0 r0_7) y).trans (sum_loads x0 y)

theorem tile5 (x0 : Vec Ideal S8x176x1024 .bf16) (x1 x2 x3 : Vec Ideal S1x176x1024 .f32) (y : S1x176x1024.Idx) : out0_5 x0 x1 x2 x3 y = change (part x0 y) (x1 y) (x2 y) (x3 y) := by
  unfold out0_5
  rw [show View.ld x1 r0_8 = x1 from View.ld_unit_zero (S := S1x176x1024) Cert.Ad.zero3 _ x1, show View.ld x2 r0_8 = x2 from View.ld_unit_zero (S := S1x176x1024) Cert.Ad.zero3 _ x2, show View.ld x3 r0_8 = x3 from View.ld_unit_zero (S := S1x176x1024) Cert.Ad.zero3 _ x3]
  unfold k0_pay8
  refine (Value.canon5_eq (F := Ideal) x2 (View.ld x0 r0_0) (View.ld x0 r0_1) (View.ld x0 r0_2) (View.ld x0 r0_3) (View.ld x0 r0_4) (View.ld x0 r0_5) (View.ld x0 r0_6) (View.ld x0 r0_7) x3 x1 y).trans ?_
  show change (Value.E4 (F := Ideal) (View.ld x0 r0_0) (View.ld x0 r0_1) (View.ld x0 r0_2) (View.ld x0 r0_3) (View.ld x0 r0_4) (View.ld x0 r0_5) (View.ld x0 r0_6) (View.ld x0 r0_7) y) (x1 (Value.ix5_0 y)) (x2 (Value.ix5_0 y)) (x3 (Value.ix5_0 y)) = _
  rw [sum_loads, same]

theorem tile6 (x0 : Vec Ideal S8x176x1024 .bf16) (x1 x2 x3 : Vec Ideal S1x176x1024 .f32) (y : S1x176x1024.Idx) : out0_6 x0 x1 x2 x3 y = moment (part x0 y) (x2 y) := by
  unfold out0_6
  rw [show View.ld x2 r0_8 = x2 from View.ld_unit_zero (S := S1x176x1024) Cert.Ad.zero3 _ x2]
  unfold k0_pay8
  refine (Value.canon6_eq (F := Ideal) x2 (View.ld x0 r0_0) (View.ld x0 r0_1) (View.ld x0 r0_2) (View.ld x0 r0_3) (View.ld x0 r0_4) (View.ld x0 r0_5) (View.ld x0 r0_6) (View.ld x0 r0_7) y).trans ?_
  show moment (Value.E4 (F := Ideal) (View.ld x0 r0_0) (View.ld x0 r0_1) (View.ld x0 r0_2) (View.ld x0 r0_3) (View.ld x0 r0_4) (View.ld x0 r0_5) (View.ld x0 r0_6) (View.ld x0 r0_7) y) (x2 (Value.ix5_0 y)) = _
  rw [sum_loads, same]

theorem tile7 (x0 : Vec Ideal S8x176x1024 .bf16) (x1 x2 x3 : Vec Ideal S1x176x1024 .f32) (y : S1x176x1024.Idx) : out0_7 x0 x1 x2 x3 y = square (part x0 y) (x3 y) := by
  unfold out0_7
  rw [show View.ld x3 r0_8 = x3 from View.ld_unit_zero (S := S1x176x1024) Cert.Ad.zero3 _ x3]
  unfold k0_pay8
  refine (Value.canon7_eq (F := Ideal) x3 (View.ld x0 r0_0) (View.ld x0 r0_1) (View.ld x0 r0_2) (View.ld x0 r0_3) (View.ld x0 r0_4) (View.ld x0 r0_5) (View.ld x0 r0_6) (View.ld x0 r0_7) y).trans ?_
  show square (Value.E4 (F := Ideal) (View.ld x0 r0_0) (View.ld x0 r0_1) (View.ld x0 r0_2) (View.ld x0 r0_3) (View.ld x0 r0_4) (View.ld x0 r0_5) (View.ld x0 r0_6) (View.ld x0 r0_7) y) (x3 (Value.ix5_0 y)) = _
  rw [sum_loads, same]

theorem mem4 (t : Fin cfg0.N) (i : S1x352x1024.Idx) (h0 : t.val = (i 1).val / 176) : i ∈ ((cfg0.win 4).blk t).view.set := by
  show i ∈ ((View.whole main_v0_0).slice (win0_4.rect t)).set
  rw [View.set_slice_whole, Rect.mem_set_unit]
  intro a
  rw [xsize4]
  match a with
  | ⟨0, _⟩ =>
    have h1 : (i 0).val < 1 := (i 0).isLt
    show win0_4.index t 0 * 1 ≤ (i 0).val ∧ (i 0).val < win0_4.index t 0 * 1 + 1
    rw [index4]
    show 0 * 1 ≤ (i 0).val ∧ (i 0).val < 0 * 1 + 1
    omega
  | ⟨1, _⟩ =>
    show win0_4.index t 1 * 176 ≤ (i 1).val ∧ (i 1).val < win0_4.index t 1 * 176 + 176
    rw [index4]
    show t.val * 176 ≤ (i 1).val ∧ (i 1).val < t.val * 176 + 176
    omega
  | ⟨2, _⟩ =>
    have h1 : (i 2).val < 1024 := (i 2).isLt
    show win0_4.index t 2 * 1024 ≤ (i 2).val ∧ (i 2).val < win0_4.index t 2 * 1024 + 1024
    rw [index4]
    show 0 * 1024 ≤ (i 2).val ∧ (i 2).val < 0 * 1024 + 1024
    omega

/-- The whole result: the summed gradient. -/
theorem res4 (i : S1x352x1024.Idx) : (dats m 0 c).arrAt 4 cfg0.N i = total (pieces m c) i := by
  have h0 : (i 1).val < 352 := (i 1).isLt
  have hN : cfg0.N = 2 := N_0
  refine (dats m 0 c).arrAt_apply_of_mem 4 (fun i : S1x352x1024.Idx => total (pieces m c) i) ?_ cfg0.N ⟨(i 1).val / 176, by omega⟩ i (by show (i 1).val / 176 < _; omega) (flush0_4 _) (mem4 _ i rfl)
  intro t _
  rw [Value.flushed4]
  funext y
  refine (tile4 (iblk m c 0 t) (iblk m c 1 t) (iblk m c 2 t) (iblk m c 3 t) y).trans ?_
  show _ = (fun i : S1x352x1024.Idx => total (pieces m c) i) ((win0_4.rect t).emb y)
  rw [emb4, part_blk]

theorem mem5 (t : Fin cfg0.N) (i : S1x352x1024.Idx) (h0 : t.val = (i 1).val / 176) : i ∈ ((cfg0.win 5).blk t).view.set := by
  show i ∈ ((View.whole main_v0_1).slice (win0_5.rect t)).set
  rw [View.set_slice_whole]
  have h : i ∈ ((View.whole main_v0_0).slice (win0_4.rect t)).set := mem4 t i h0
  rw [View.set_slice_whole] at h
  exact h

/-- The whole result: what is added to the weights. -/
theorem res5 (i : S1x352x1024.Idx) : (dats m 0 c).arrAt 5 cfg0.N i = change (total (pieces m c) i) (weight m c i) (first m c i) (second m c i) := by
  have h0 : (i 1).val < 352 := (i 1).isLt
  have hN : cfg0.N = 2 := N_0
  refine (dats m 0 c).arrAt_apply_of_mem 5 (fun i : S1x352x1024.Idx => change (total (pieces m c) i) (weight m c i) (first m c i) (second m c i)) ?_ cfg0.N ⟨(i 1).val / 176, by omega⟩ i (by show (i 1).val / 176 < _; omega) (flush0_5 _) (mem5 _ i rfl)
  intro t _
  rw [Value.flushed5]
  funext y
  refine (tile5 (iblk m c 0 t) (iblk m c 1 t) (iblk m c 2 t) (iblk m c 3 t) y).trans ?_
  show _ = (fun i : S1x352x1024.Idx => change (total (pieces m c) i) (weight m c i) (first m c i) (second m c i)) ((win0_5.rect t).emb y)
  rw [emb5, part_blk, blk1, blk2, blk3]

theorem mem6 (t : Fin cfg0.N) (i : S1x352x1024.Idx) (h0 : t.val = (i 1).val / 176) : i ∈ ((cfg0.win 6).blk t).view.set := by
  show i ∈ ((View.whole main_v0_2).slice (win0_6.rect t)).set
  rw [View.set_slice_whole]
  have h : i ∈ ((View.whole main_v0_0).slice (win0_4.rect t)).set := mem4 t i h0
  rw [View.set_slice_whole] at h
  exact h

/-- The whole result: the first moments. -/
theorem res6 (i : S1x352x1024.Idx) : (dats m 0 c).arrAt 6 cfg0.N i = moment (total (pieces m c) i) (first m c i) := by
  have h0 : (i 1).val < 352 := (i 1).isLt
  have hN : cfg0.N = 2 := N_0
  refine (dats m 0 c).arrAt_apply_of_mem 6 (fun i : S1x352x1024.Idx => moment (total (pieces m c) i) (first m c i)) ?_ cfg0.N ⟨(i 1).val / 176, by omega⟩ i (by show (i 1).val / 176 < _; omega) (flush0_6 _) (mem6 _ i rfl)
  intro t _
  rw [Value.flushed6]
  funext y
  refine (tile6 (iblk m c 0 t) (iblk m c 1 t) (iblk m c 2 t) (iblk m c 3 t) y).trans ?_
  show _ = (fun i : S1x352x1024.Idx => moment (total (pieces m c) i) (first m c i)) ((win0_6.rect t).emb y)
  rw [emb6, part_blk, blk2]

theorem mem7 (t : Fin cfg0.N) (i : S1x352x1024.Idx) (h0 : t.val = (i 1).val / 176) : i ∈ ((cfg0.win 7).blk t).view.set := by
  show i ∈ ((View.whole main_v0_3).slice (win0_7.rect t)).set
  rw [View.set_slice_whole]
  have h : i ∈ ((View.whole main_v0_0).slice (win0_4.rect t)).set := mem4 t i h0
  rw [View.set_slice_whole] at h
  exact h

/-- The whole result: the second moments. -/
theorem res7 (i : S1x352x1024.Idx) : (dats m 0 c).arrAt 7 cfg0.N i = square (total (pieces m c) i) (second m c i) := by
  have h0 : (i 1).val < 352 := (i 1).isLt
  have hN : cfg0.N = 2 := N_0
  refine (dats m 0 c).arrAt_apply_of_mem 7 (fun i : S1x352x1024.Idx => square (total (pieces m c) i) (second m c i)) ?_ cfg0.N ⟨(i 1).val / 176, by omega⟩ i (by show (i 1).val / 176 < _; omega) (flush0_7 _) (mem7 _ i rfl)
  intro t _
  rw [Value.flushed7]
  funext y
  refine (tile7 (iblk m c 0 t) (iblk m c 1 t) (iblk m c 2 t) (iblk m c 3 t) y).trans ?_
  show _ = (fun i : S1x352x1024.Idx => square (total (pieces m c) i) (second m c i)) ((win0_7.rect t).emb y)
  rw [emb7, part_blk, blk3]

end Cert.Kernel12Ideal.Ad

namespace Cert.Proof.Ad12

open Idealize.ShloMosaic Idealize.ShloMosaic.TcCoe Idealize.ShloMosaic.StableHlo Idealize.SL.Sem ValueIdx
open Cert.Ad Cert.Mm

theorem sum_apply (x0 : Cert.Reference12Ideal.S8x352x1024.Idx → EReal) (i : Cert.Reference12Ideal.S1x352x1024.Idx) : Cert.Reference12Ideal.Read.val_main_v2 (F := Ideal) x0 i = Cert.Kernel12Ideal.Ad.total x0 i := by
  rw [Cert.Reference12Ideal.Read.val_main_v2_apply, Cert.Reference12Ideal.Read.val_main_v1_apply, Cert.Reference12Ideal.Read.val_main_cst_apply, Ideal.ofBits_def, Ideal.ofBits_zero_f32, zero_add]
  refine Finset.sum_congr rfl fun d _ => congrArg x0 (funext fun a => Fin.ext ?_)
  match a with
  | ⟨0, _⟩ => rfl
  | ⟨1, _⟩ =>
    have h0 : (i 0).val < 1 := (i 0).isLt
    have h2 : (i 2).val < 1024 := (i 2).isLt
    show (((i 0).val * 352 + (i 1).val) * 1024 + (i 2).val) / 1024 = (i 1).val
    omega
  | ⟨2, _⟩ =>
    have h2 : (i 2).val < 1024 := (i 2).isLt
    show (((i 0).val * 352 + (i 1).val) * 1024 + (i 2).val) % 1024 = (i 2).val
    omega

theorem moment_apply (x0 : Cert.Reference12Ideal.S8x352x1024.Idx → EReal) (x2 : Cert.Reference12Ideal.S1x352x1024.Idx → EReal) (i : Cert.Reference12Ideal.S1x352x1024.Idx) :
    Cert.Reference12Ideal.Read.val_main_v7 (F := Ideal) x0 x2 i = moment (Cert.Kernel12Ideal.Ad.total x0 i) (x2 i) := by
  rw [Cert.Reference12Ideal.Read.val_main_v7_apply, Cert.Reference12Ideal.Read.val_main_v4_apply, Cert.Reference12Ideal.Read.val_main_v6_apply, Cert.Reference12Ideal.Read.val_main_v3_apply, Cert.Reference12Ideal.Read.val_main_v5_apply, Cert.Reference12Ideal.Read.val_main_cst_0_apply, Cert.Reference12Ideal.Read.val_main_cst_1_apply, sum_apply]
  rfl

theorem square_apply (x0 : Cert.Reference12Ideal.S8x352x1024.Idx → EReal) (x3 : Cert.Reference12Ideal.S1x352x1024.Idx → EReal) (i : Cert.Reference12Ideal.S1x352x1024.Idx) :
    Cert.Reference12Ideal.Read.val_main_v13 (F := Ideal) x0 x3 i = square (Cert.Kernel12Ideal.Ad.total x0 i) (x3 i) := by
  rw [Cert.Reference12Ideal.Read.val_main_v13_apply, Cert.Reference12Ideal.Read.val_main_v9_apply, Cert.Reference12Ideal.Read.val_main_v12_apply, Cert.Reference12Ideal.Read.val_main_v8_apply, Cert.Reference12Ideal.Read.val_main_v11_apply, Cert.Reference12Ideal.Read.val_main_v10_apply, Cert.Reference12Ideal.Read.val_main_cst_2_apply, Cert.Reference12Ideal.Read.val_main_cst_3_apply, sum_apply]
  rfl

theorem change_apply (x0 : Cert.Reference12Ideal.S8x352x1024.Idx → EReal) (x1 x2 x3 : Cert.Reference12Ideal.S1x352x1024.Idx → EReal) (i : Cert.Reference12Ideal.S1x352x1024.Idx) :
    Cert.Reference12Ideal.Read.val_main_v26 (F := Ideal) x0 x1 x2 x3 i = change (Cert.Kernel12Ideal.Ad.total x0 i) (x1 i) (x2 i) (x3 i) := by
  rw [Cert.Reference12Ideal.Read.val_main_v26_apply, Cert.Reference12Ideal.Read.val_main_v25_apply, Cert.Reference12Ideal.Read.val_main_v24_apply, Cert.Reference12Ideal.Read.val_main_v23_apply, Cert.Reference12Ideal.Read.val_main_v22_apply, Cert.Reference12Ideal.Read.val_main_v21_apply, Cert.Reference12Ideal.Read.val_main_v20_apply, Cert.Reference12Ideal.Read.val_main_v19_apply, Cert.Reference12Ideal.Read.val_main_v18_apply, Cert.Reference12Ideal.Read.val_main_v17_apply, Cert.Reference12Ideal.Read.val_main_v16_apply, Cert.Reference12Ideal.Read.val_main_v15_apply, Cert.Reference12Ideal.Read.val_main_v14_apply, Cert.Reference12Ideal.Read.val_main_cst_4_apply, Cert.Reference12Ideal.Read.val_main_cst_5_apply, Cert.Reference12Ideal.Read.val_main_cst_6_apply, Cert.Reference12Ideal.Read.val_main_cst_7_apply, Cert.Reference12Ideal.Read.val_main_cst_8_apply, moment_apply, square_apply]
  rfl

theorem frame_reference : Cert.quiescent_Reference12Ideal := by
  intro m ρ _
  exact (θ_run Cert.Reference12Ideal.defs _ _).mono (fun r h => ⟨fun c => (h c).2.2.2.2, sem_eq_zero_of_no_sems (by decide) r.2⟩)
    (Cert.Reference12Ideal.Value.run (F := Ideal) m ρ)

theorem algebraic : Cert.algebraic_Kernel12Ideal_Reference12Ideal := by
  intro m g m' g' _ ha
  refine ⟨fun c (i : Cert.Kernel12Ideal.S1x352x1024.Idx) => Cert.Kernel12Ideal.Ad.total (Cert.Kernel12Ideal.Ad.pieces m c) i,
    fun c (i : Cert.Kernel12Ideal.S1x352x1024.Idx) => change (Cert.Kernel12Ideal.Ad.total (Cert.Kernel12Ideal.Ad.pieces m c) i) (Cert.Kernel12Ideal.Ad.weight m c i) (Cert.Kernel12Ideal.Ad.first m c i) (Cert.Kernel12Ideal.Ad.second m c i),
    fun c (i : Cert.Kernel12Ideal.S1x352x1024.Idx) => moment (Cert.Kernel12Ideal.Ad.total (Cert.Kernel12Ideal.Ad.pieces m c) i) (Cert.Kernel12Ideal.Ad.first m c i),
    fun c (i : Cert.Kernel12Ideal.S1x352x1024.Idx) => square (Cert.Kernel12Ideal.Ad.total (Cert.Kernel12Ideal.Ad.pieces m c) i) (Cert.Kernel12Ideal.Ad.second m c i), ?_, ?_⟩
  · refine (θ_run Cert.Kernel12Ideal.defs _ _).mono (fun r h c => ?_) (Cert.Kernel12Ideal.Value.run_blocks (F := Ideal) m g)
    obtain ⟨r4, r5, r6, r7, hargs⟩ := h c
    exact ⟨r4.trans (funext fun i => Cert.Kernel12Ideal.Ad.res4 m c i), r5.trans (funext fun i => Cert.Kernel12Ideal.Ad.res5 m c i), r6.trans (funext fun i => Cert.Kernel12Ideal.Ad.res6 m c i), r7.trans (funext fun i => Cert.Kernel12Ideal.Ad.res7 m c i), hargs⟩
  · refine (θ_run Cert.Reference12Ideal.defs _ _).mono (fun r h c => ?_) (Cert.Reference12Ideal.Value.run (F := Ideal) m' g')
    obtain ⟨r4, r5, r6, r7, hargs⟩ := h c
    obtain ⟨a0, a1, a2, a3⟩ := ha c
    refine ⟨r4.trans ((Cert.Reference12Ideal.Read.val_main_v2_eq _).trans (funext fun i => ?_)), r5.trans ((Cert.Reference12Ideal.Read.val_main_v26_eq _ _ _ _).trans (funext fun i => ?_)),
      r6.trans ((Cert.Reference12Ideal.Read.val_main_v7_eq _ _).trans (funext fun i => ?_)), r7.trans ((Cert.Reference12Ideal.Read.val_main_v13_eq _ _).trans (funext fun i => ?_)), hargs⟩
    · refine (sum_apply _ i).trans ?_
      rw [a0]
    · refine (change_apply _ _ _ _ i).trans ?_
      rw [a0, a1, a2, a3]
    · refine (moment_apply _ _ i).trans ?_
      rw [a0, a2]
    · refine (square_apply _ _ i).trans ?_
      rw [a0, a3]

end Cert.Proof.Ad12

end
-- ==== Proof.Ad13.lean ====
/- The optimiser step of the feed-forward input weights: the kernel sums the eight received pieces one after the other, the reference sums them at once. -/
module

public import proofs.«01_k».proof.Defs
public import proofs.«01_k».proof.Proof.Gen.Kernel13Ideal.Value
public import proofs.«01_k».proof.Proof.Gen.Reference13Ideal.Run
public import proofs.«01_k».proof.Proof.Gen.Reference13Ideal.Read
public import proofs.«01_k».proof.Proof.Ad

@[expose] public section

set_option maxRecDepth 16384

noncomputable section

namespace Cert.Kernel13Ideal.Ad

open Cert.Kernel13Ideal Cert.Kernel13Ideal.Gen Idealize.ShloMosaic Idealize.ShloMosaic.TcCoe Idealize.SL.Sem ValueIdx
open Cert.Ad Cert.Mm

variable (m : (ℓ : Loc nD τ sig) → Buf (Elt Ideal) ℓ) (c : Dev nD)

theorem index0 : ∀ t : Fin cfg0.N, win0_0.index t = ![0, t.val, 0] :=
  (by decide +kernel : ∀ t : Fin grid0.N, win0_0.index t = ![0, t.val, 0])
theorem index1 : ∀ t : Fin cfg0.N, win0_1.index t = ![0, t.val, 0] :=
  (by decide +kernel : ∀ t : Fin grid0.N, win0_1.index t = ![0, t.val, 0])
theorem index4 : ∀ t : Fin cfg0.N, win0_4.index t = ![0, t.val, 0] :=
  (by decide +kernel : ∀ t : Fin grid0.N, win0_4.index t = ![0, t.val, 0])
theorem xsize4 : ∀ t : Fin cfg0.N, ∀ a, win0_4.xsize (grid0.coords t) a = S1x176x1024.size a :=
  (by decide +kernel : ∀ t : Fin grid0.N, ∀ a, win0_4.xsize (grid0.coords t) a = S1x176x1024.size a)

/-- The pieces received from the devices. -/
abbrev pieces : S8x704x1024.Idx → EReal := V m c main_arg0
/-- The weights. -/
abbrev weight : S1x704x1024.Idx → EReal := V m c main_arg1
/-- The first moments. -/
abbrev first : S1x704x1024.Idx → EReal := V m c main_arg2
/-- The second moments. -/
abbrev second : S1x704x1024.Idx → EReal := V m c main_arg3

/-- The sum of the received pieces at one weight. -/
def total (x : S8x704x1024.Idx → EReal) (i : S1x704x1024.Idx) : EReal := ∑ d : Fin 8, x (ix3 d (i 1) (i 2))

/-- The weight that index `y` of block `t` holds. -/
abbrev place (t : Fin cfg0.N) (y : S1x176x1024.Idx) : S1x704x1024.Idx := ix3 (y 0) ⟨176 * t.val + (y 1).val, by have := t.isLt; have h0 : (y 1).val < 176 := (y 1).isLt; have hN : cfg0.N = 4 := N_0; omega⟩ (y 2)

theorem emb1 (t : Fin cfg0.N) (y : S1x176x1024.Idx) : (win0_1.rect t).emb y = place t y := by
  have e0 : ((win0_1.rect t).emb y 0 : ℕ) = (y 0).val := by
    rw [Pipeline.Window.rect_emb_val win0_1 t y 0 rfl, index1]
    show 0 * 1 + _ = _
    omega
  have e1 : ((win0_1.rect t).emb y 1 : ℕ) = 176 * t.val + (y 1).val := by
    rw [Pipeline.Window.rect_emb_val win0_1 t y 1 rfl, index1]
    show t.val * 176 + _ = _
    omega
  have e2 : ((win0_1.rect t).emb y 2 : ℕ) = (y 2).val := by
    rw [Pipeline.Window.rect_emb_val win0_1 t y 2 rfl, index1]
    show 0 * 1024 + _ = _
    omega
  funext a
  apply Fin.ext
  match a with
  | ⟨0, _⟩ => exact e0
  | ⟨1, _⟩ => exact e1
  | ⟨2, _⟩ => exact e2

theorem emb2 (t : Fin cfg0.N) (y : S1x176x1024.Idx) : (win0_2.rect t).emb y = place t y := emb1 t y

theorem emb3 (t : Fin cfg0.N) (y : S1x176x1024.Idx) : (win0_3.rect t).emb y = place t y := emb1 t y

theorem emb4 (t : Fin cfg0.N) (y : S1x176x1024.Idx) : (win0_4.rect t).emb y = place t y := emb1 t y

theorem emb5 (t : Fin cfg0.N) (y : S1x176x1024.Idx) : (win0_5.rect t).emb y = place t y := emb1 t y

theorem emb6 (t : Fin cfg0.N) (y : S1x176x1024.Idx) : (win0_6.rect t).emb y = place t y := emb1 t y

theorem emb7 (t : Fin cfg0.N) (y : S1x176x1024.Idx) : (win0_7.rect t).emb y = place t y := emb1 t y

theorem blk0 (t : Fin cfg0.N) (d : Fin 8) (y : S1x176x1024.Idx) : iblk m c 0 t (ix3 d (y 1) (y 2) : S8x176x1024.Idx) = pieces m c (ix3 d (place t y 1) (place t y 2)) := by
  have e0 : ((win0_0.rect t).emb (ix3 d (y 1) (y 2) : S8x176x1024.Idx) 0 : ℕ) = d.val := by
    rw [Pipeline.Window.rect_emb_val win0_0 t _ 0 rfl, index0]
    show 0 * 8 + d.val = _
    omega
  have e1 : ((win0_0.rect t).emb (ix3 d (y 1) (y 2) : S8x176x1024.Idx) 1 : ℕ) = 176 * t.val + (y 1).val := by
    rw [Pipeline.Window.rect_emb_val win0_0 t _ 1 rfl, index0]
    show t.val * 176 + (y 1).val = _
    omega
  have e2 : ((win0_0.rect t).emb (ix3 d (y 1) (y 2) : S8x176x1024.Idx) 2 : ℕ) = (y 2).val := by
    rw [Pipeline.Window.rect_emb_val win0_0 t _ 2 rfl, index0]
    show 0 * 1024 + (y 2).val = _
    omega
  refine congrArg (pieces m c) (funext fun a => Fin.ext ?_)
  match a with
  | ⟨0, _⟩ => exact e0
  | ⟨1, _⟩ => exact e1
  | ⟨2, _⟩ => exact e2

theorem blk1 (t : Fin cfg0.N) (y : S1x176x1024.Idx) : iblk m c 1 t y = weight m c (place t y) := congrArg (weight m c) (emb1 t y)
theorem blk2 (t : Fin cfg0.N) (y : S1x176x1024.Idx) : iblk m c 2 t y = first m c (place t y) := congrArg (first m c) (emb2 t y)
theorem blk3 (t : Fin cfg0.N) (y : S1x176x1024.Idx) : iblk m c 3 t y = second m c (place t y) := congrArg (second m c) (emb3 t y)

/-- The sum of the pieces within one block. -/
def part (x : S8x176x1024.Idx → EReal) (y : S1x176x1024.Idx) : EReal := ∑ d : Fin 8, x (ix3 d (y 1) (y 2))

theorem part_blk (t : Fin cfg0.N) (y : S1x176x1024.Idx) : part (iblk m c 0 t) y = total (pieces m c) (place t y) :=
  Finset.sum_congr rfl fun d _ => blk0 m c t d y

theorem load0 (x : Vec Ideal S8x176x1024 .bf16) (y : S1x176x1024.Idx) : View.ld x r0_0 (Value.ix4_0 y) = x (ix3 (0 : Fin 8) (y 1) (y 2)) :=
  congrArg x (eq3 rfl (unit_val _) (unit_val _))
theorem load1 (x : Vec Ideal S8x176x1024 .bf16) (y : S1x176x1024.Idx) : View.ld x r0_1 (Value.ix4_1 y) = x (ix3 (1 : Fin 8) (y 1) (y 2)) :=
  congrArg x (eq3 rfl (unit_val _) (unit_val _))
theorem load2 (x : Vec Ideal S8x176x1024 .bf16) (y : S1x176x1024.Idx) : View.ld x r0_2 (Value.ix4_2 y) = x (ix3 (2 : Fin 8) (y 1) (y 2)) :=
  congrArg x (eq3 rfl (unit_val _) (unit_val _))
theorem load3 (x : Vec Ideal S8x176x1024 .bf16) (y : S1x176x1024.Idx) : View.ld x r0_3 (Value.ix4_3 y) = x (ix3 (3 : Fin 8) (y 1) (y 2)) :=
  congrArg x (eq3 rfl (unit_val _) (unit_val _))
theorem load4 (x : Vec Ideal S8x176x1024 .bf16) (y : S1x176x1024.Idx) : View.ld x r0_4 (Value.ix4_4 y) = x (ix3 (4 : Fin 8) (y 1) (y 2)) :=
  congrArg x (eq3 rfl (unit_val _) (unit_val _))
theorem load5 (x : Vec Ideal S8x176x1024 .bf16) (y : S1x176x1024.Idx) : View.ld x r0_5 (Value.ix4_5 y) = x (ix3 (5 : Fin 8) (y 1) (y 2)) :=
  congrArg x (eq3 rfl (unit_val _) (unit_val _))
theorem load6 (x : Vec Ideal S8x176x1024 .bf16) (y : S1x176x1024.Idx) : View.ld x r0_6 (Value.ix4_6 y) = x (ix3 (6 : Fin 8) (y 1) (y 2)) :=
  congrArg x (eq3 rfl (unit_val _) (unit_val _))
theorem load7 (x : Vec Ideal S8x176x1024 .bf16) (y : S1x176x1024.Idx) : View.ld x r0_7 (Value.ix4_7 y) = x (ix3 (7 : Fin 8) (y 1) (y 2)) :=
  congrArg x (eq3 rfl (unit_val _) (unit_val _))

theorem sum_loads (x : Vec Ideal S8x176x1024 .bf16) (y : S1x176x1024.Idx) : Value.E4 (F := Ideal) (View.ld x r0_0) (View.ld x r0_1) (View.ld x r0_2) (View.ld x r0_3) (View.ld x r0_4) (View.ld x r0_5) (View.ld x r0_6) (View.ld x r0_7) y = part x y := by
  have h01 := congrArg₂ (fun a b : EReal => a + b) (load0 x y) (load1 x y)
  have h02 := congrArg₂ (fun a b : EReal => a + b) h01 (load2 x y)
  have h03 := congrArg₂ (fun a b : EReal => a + b) h02 (load3 x y)
  have h04 := congrArg₂ (fun a b : EReal => a + b) h03 (load4 x y)
  have h05 := congrArg₂ (fun a b : EReal => a + b) h04 (load5 x y)
  have h06 := congrArg₂ (fun a b : EReal => a + b) h05 (load6 x y)
  have h07 := congrArg₂ (fun a b : EReal => a + b) h06 (load7 x y)
  exact h07.trans (Fin.sum_univ_eight (fun d : Fin 8 => x (ix3 d (y 1) (y 2)))).symm

theorem same (y : S1x176x1024.Idx) : Value.ix5_0 y = y := by
  funext a
  apply Fin.ext
  match a with
  | ⟨0, _⟩ => have h : (y 0).val < 1 := (y 0).isLt; show 0 = (y 0).val; omega
  | ⟨1, _⟩ => rfl
  | ⟨2, _⟩ => rfl

theorem tile4 (x0 : Vec Ideal S8x176x1024 .bf16) (x1 x2 x3 : Vec Ideal S1x176x1024 .f32) (y : S1x176x1024.Idx) : out0_4 x0 x1 x2 x3 y = part x0 y := by
  unfold out0_4 k0_pay8
  exact (Value.canon4_eq (F := Ideal) (View.ld x0 r0_0) (View.ld x0 r0_1) (View.ld x0 r0_2) (View.ld x0 r0_3) (View.ld x0 r0_4) (View.ld x0 r0_5) (View.ld x0 r0_6) (View.ld x0 r0_7) y).trans (sum_loads x0 y)

theorem tile5 (x0 : Vec Ideal S8x176x1024 .bf16) (x1 x2 x3 : Vec Ideal S1x176x1024 .f32) (y : S1x176x1024.Idx) : out0_5 x0 x1 x2 x3 y = change (part x0 y) (x1 y) (x2 y) (x3 y) := by
  unfold out0_5
  rw [show View.ld x1 r0_8 = x1 from View.ld_unit_zero (S := S1x176x1024) Cert.Ad.zero3 _ x1, show View.ld x2 r0_8 = x2 from View.ld_unit_zero (S := S1x176x1024) Cert.Ad.zero3 _ x2, show View.ld x3 r0_8 = x3 from View.ld_unit_zero (S := S1x176x1024) Cert.Ad.zero3 _ x3]
  unfold k0_pay8
  refine (Value.canon5_eq (F := Ideal) x2 (View.ld x0 r0_0) (View.ld x0 r0_1) (View.ld x0 r0_2) (View.ld x0 r0_3) (View.ld x0 r0_4) (View.ld x0 r0_5) (View.ld x0 r0_6) (View.ld x0 r0_7) x3 x1 y).trans ?_
  show change (Value.E4 (F := Ideal) (View.ld x0 r0_0) (View.ld x0 r0_1) (View.ld x0 r0_2) (View.ld x0 r0_3) (View.ld x0 r0_4) (View.ld x0 r0_5) (View.ld x0 r0_6) (View.ld x0 r0_7) y) (x1 (Value.ix5_0 y)) (x2 (Value.ix5_0 y)) (x3 (Value.ix5_0 y)) = _
  rw [sum_loads, same]

theorem tile6 (x0 : Vec Ideal S8x176x1024 .bf16) (x1 x2 x3 : Vec Ideal S1x176x1024 .f32) (y : S1x176x1024.Idx) : out0_6 x0 x1 x2 x3 y = moment (part x0 y) (x2 y) := by
  unfold out0_6
  rw [show View.ld x2 r0_8 = x2 from View.ld_unit_zero (S := S1x176x1024) Cert.Ad.zero3 _ x2]
  unfold k0_pay8
  refine (Value.canon6_eq (F := Ideal) x2 (View.ld x0 r0_0) (View.ld x0 r0_1) (View.ld x0 r0_2) (View.ld x0 r0_3) (View.ld x0 r0_4) (View.ld x0 r0_5) (View.ld x0 r0_6) (View.ld x0 r0_7) y).trans ?_
  show moment (Value.E4 (F := Ideal) (View.ld x0 r0_0) (View.ld x0 r0_1) (View.ld x0 r0_2) (View.ld x0 r0_3) (View.ld x0 r0_4) (View.ld x0 r0_5) (View.ld x0 r0_6) (View.ld x0 r0_7) y) (x2 (Value.ix5_0 y)) = _
  rw [sum_loads, same]

theorem tile7 (x0 : Vec Ideal S8x176x1024 .bf16) (x1 x2 x3 : Vec Ideal S1x176x1024 .f32) (y : S1x176x1024.Idx) : out0_7 x0 x1 x2 x3 y = square (part x0 y) (x3 y) := by
  unfold out0_7
  rw [show View.ld x3 r0_8 = x3 from View.ld_unit_zero (S := S1x176x1024) Cert.Ad.zero3 _ x3]
  unfold k0_pay8
  refine (Value.canon7_eq (F := Ideal) x3 (View.ld x0 r0_0) (View.ld x0 r0_1) (View.ld x0 r0_2) (View.ld x0 r0_3) (View.ld x0 r0_4) (View.ld x0 r0_5) (View.ld x0 r0_6) (View.ld x0 r0_7) y).trans ?_
  show square (Value.E4 (F := Ideal) (View.ld x0 r0_0) (View.ld x0 r0_1) (View.ld x0 r0_2) (View.ld x0 r0_3) (View.ld x0 r0_4) (View.ld x0 r0_5) (View.ld x0 r0_6) (View.ld x0 r0_7) y) (x3 (Value.ix5_0 y)) = _
  rw [sum_loads, same]

theorem mem4 (t : Fin cfg0.N) (i : S1x704x1024.Idx) (h0 : t.val = (i 1).val / 176) : i ∈ ((cfg0.win 4).blk t).view.set := by
  show i ∈ ((View.whole main_v0_0).slice (win0_4.rect t)).set
  rw [View.set_slice_whole, Rect.mem_set_unit]
  intro a
  rw [xsize4]
  match a with
  | ⟨0, _⟩ =>
    have h1 : (i 0).val < 1 := (i 0).isLt
    show win0_4.index t 0 * 1 ≤ (i 0).val ∧ (i 0).val < win0_4.index t 0 * 1 + 1
    rw [index4]
    show 0 * 1 ≤ (i 0).val ∧ (i 0).val < 0 * 1 + 1
    omega
  | ⟨1, _⟩ =>
    show win0_4.index t 1 * 176 ≤ (i 1).val ∧ (i 1).val < win0_4.index t 1 * 176 + 176
    rw [index4]
    show t.val * 176 ≤ (i 1).val ∧ (i 1).val < t.val * 176 + 176
    omega
  | ⟨2, _⟩ =>
    have h1 : (i 2).val < 1024 := (i 2).isLt
    show win0_4.index t 2 * 1024 ≤ (i 2).val ∧ (i 2).val < win0_4.index t 2 * 1024 + 1024
    rw [index4]
    show 0 * 1024 ≤ (i 2).val ∧ (i 2).val < 0 * 1024 + 1024
    omega

/-- The whole result: the summed gradient. -/
theorem res4 (i : S1x704x1024.Idx) : (dats m 0 c).arrAt 4 cfg0.N i = total (pieces m c) i := by
  have h0 : (i 1).val < 704 := (i 1).isLt
  have hN : cfg0.N = 4 := N_0
  refine (dats m 0 c).arrAt_apply_of_mem 4 (fun i : S1x704x1024.Idx => total (pieces m c) i) ?_ cfg0.N ⟨(i 1).val / 176, by omega⟩ i (by show (i 1).val / 176 < _; omega) (flush0_4 _) (mem4 _ i rfl)
  intro t _
  rw [Value.flushed4]
  funext y
  refine (tile4 (iblk m c 0 t) (iblk m c 1 t) (iblk m c 2 t) (iblk m c 3 t) y).trans ?_
  show _ = (fun i : S1x704x1024.Idx => total (pieces m c) i) ((win0_4.rect t).emb y)
  rw [emb4, part_blk]

theorem mem5 (t : Fin cfg0.N) (i : S1x704x1024.Idx) (h0 : t.val = (i 1).val / 176) : i ∈ ((cfg0.win 5).blk t).view.set := by
  show i ∈ ((View.whole main_v0_1).slice (win0_5.rect t)).set
  rw [View.set_slice_whole]
  have h : i ∈ ((View.whole main_v0_0).slice (win0_4.rect t)).set := mem4 t i h0
  rw [View.set_slice_whole] at h
  exact h

/-- The whole result: what is added to the weights. -/
theorem res5 (i : S1x704x1024.Idx) : (dats m 0 c).arrAt 5 cfg0.N i = change (total (pieces m c) i) (weight m c i) (first m c i) (second m c i) := by
  have h0 : (i 1).val < 704 := (i 1).isLt
  have hN : cfg0.N = 4 := N_0
  refine (dats m 0 c).arrAt_apply_of_mem 5 (fun i : S1x704x1024.Idx => change (total (pieces m c) i) (weight m c i) (first m c i) (second m c i)) ?_ cfg0.N ⟨(i 1).val / 176, by omega⟩ i (by show (i 1).val / 176 < _; omega) (flush0_5 _) (mem5 _ i rfl)
  intro t _
  rw [Value.flushed5]
  funext y
  refine (tile5 (iblk m c 0 t) (iblk m c 1 t) (iblk m c 2 t) (iblk m c 3 t) y).trans ?_
  show _ = (fun i : S1x704x1024.Idx => change (total (pieces m c) i) (weight m c i) (first m c i) (second m c i)) ((win0_5.rect t).emb y)
  rw [emb5, part_blk, blk1, blk2, blk3]

theorem mem6 (t : Fin cfg0.N) (i : S1x704x1024.Idx) (h0 : t.val = (i 1).val / 176) : i ∈ ((cfg0.win 6).blk t).view.set := by
  show i ∈ ((View.whole main_v0_2).slice (win0_6.rect t)).set
  rw [View.set_slice_whole]
  have h : i ∈ ((View.whole main_v0_0).slice (win0_4.rect t)).set := mem4 t i h0
  rw [View.set_slice_whole] at h
  exact h

/-- The whole result: the first moments. -/
theorem res6 (i : S1x704x1024.Idx) : (dats m 0 c).arrAt 6 cfg0.N i = moment (total (pieces m c) i) (first m c i) := by
  have h0 : (i 1).val < 704 := (i 1).isLt
  have hN : cfg0.N = 4 := N_0
  refine (dats m 0 c).arrAt_apply_of_mem 6 (fun i : S1x704x1024.Idx => moment (total (pieces m c) i) (first m c i)) ?_ cfg0.N ⟨(i 1).val / 176, by omega⟩ i (by show (i 1).val / 176 < _; omega) (flush0_6 _) (mem6 _ i rfl)
  intro t _
  rw [Value.flushed6]
  funext y
  refine (tile6 (iblk m c 0 t) (iblk m c 1 t) (iblk m c 2 t) (iblk m c 3 t) y).trans ?_
  show _ = (fun i : S1x704x1024.Idx => moment (total (pieces m c) i) (first m c i)) ((win0_6.rect t).emb y)
  rw [emb6, part_blk, blk2]

theorem mem7 (t : Fin cfg0.N) (i : S1x704x1024.Idx) (h0 : t.val = (i 1).val / 176) : i ∈ ((cfg0.win 7).blk t).view.set := by
  show i ∈ ((View.whole main_v0_3).slice (win0_7.rect t)).set
  rw [View.set_slice_whole]
  have h : i ∈ ((View.whole main_v0_0).slice (win0_4.rect t)).set := mem4 t i h0
  rw [View.set_slice_whole] at h
  exact h

/-- The whole result: the second moments. -/
theorem res7 (i : S1x704x1024.Idx) : (dats m 0 c).arrAt 7 cfg0.N i = square (total (pieces m c) i) (second m c i) := by
  have h0 : (i 1).val < 704 := (i 1).isLt
  have hN : cfg0.N = 4 := N_0
  refine (dats m 0 c).arrAt_apply_of_mem 7 (fun i : S1x704x1024.Idx => square (total (pieces m c) i) (second m c i)) ?_ cfg0.N ⟨(i 1).val / 176, by omega⟩ i (by show (i 1).val / 176 < _; omega) (flush0_7 _) (mem7 _ i rfl)
  intro t _
  rw [Value.flushed7]
  funext y
  refine (tile7 (iblk m c 0 t) (iblk m c 1 t) (iblk m c 2 t) (iblk m c 3 t) y).trans ?_
  show _ = (fun i : S1x704x1024.Idx => square (total (pieces m c) i) (second m c i)) ((win0_7.rect t).emb y)
  rw [emb7, part_blk, blk3]

end Cert.Kernel13Ideal.Ad

namespace Cert.Proof.Ad13

open Idealize.ShloMosaic Idealize.ShloMosaic.TcCoe Idealize.ShloMosaic.StableHlo Idealize.SL.Sem ValueIdx
open Cert.Ad Cert.Mm

theorem sum_apply (x0 : Cert.Reference13Ideal.S8x704x1024.Idx → EReal) (i : Cert.Reference13Ideal.S1x704x1024.Idx) : Cert.Reference13Ideal.Read.val_main_v2 (F := Ideal) x0 i = Cert.Kernel13Ideal.Ad.total x0 i := by
  rw [Cert.Reference13Ideal.Read.val_main_v2_apply, Cert.Reference13Ideal.Read.val_main_v1_apply, Cert.Reference13Ideal.Read.val_main_cst_apply, Ideal.ofBits_def, Ideal.ofBits_zero_f32, zero_add]
  refine Finset.sum_congr rfl fun d _ => congrArg x0 (funext fun a => Fin.ext ?_)
  match a with
  | ⟨0, _⟩ => rfl
  | ⟨1, _⟩ =>
    have h0 : (i 0).val < 1 := (i 0).isLt
    have h2 : (i 2).val < 1024 := (i 2).isLt
    show (((i 0).val * 704 + (i 1).val) * 1024 + (i 2).val) / 1024 = (i 1).val
    omega
  | ⟨2, _⟩ =>
    have h2 : (i 2).val < 1024 := (i 2).isLt
    show (((i 0).val * 704 + (i 1).val) * 1024 + (i 2).val) % 1024 = (i 2).val
    omega

theorem moment_apply (x0 : Cert.Reference13Ideal.S8x704x1024.Idx → EReal) (x2 : Cert.Reference13Ideal.S1x704x1024.Idx → EReal) (i : Cert.Reference13Ideal.S1x704x1024.Idx) :
    Cert.Reference13Ideal.Read.val_main_v7 (F := Ideal) x0 x2 i = moment (Cert.Kernel13Ideal.Ad.total x0 i) (x2 i) := by
  rw [Cert.Reference13Ideal.Read.val_main_v7_apply, Cert.Reference13Ideal.Read.val_main_v4_apply, Cert.Reference13Ideal.Read.val_main_v6_apply, Cert.Reference13Ideal.Read.val_main_v3_apply, Cert.Reference13Ideal.Read.val_main_v5_apply, Cert.Reference13Ideal.Read.val_main_cst_0_apply, Cert.Reference13Ideal.Read.val_main_cst_1_apply, sum_apply]
  rfl

theorem square_apply (x0 : Cert.Reference13Ideal.S8x704x1024.Idx → EReal) (x3 : Cert.Reference13Ideal.S1x704x1024.Idx → EReal) (i : Cert.Reference13Ideal.S1x704x1024.Idx) :
    Cert.Reference13Ideal.Read.val_main_v13 (F := Ideal) x0 x3 i = square (Cert.Kernel13Ideal.Ad.total x0 i) (x3 i) := by
  rw [Cert.Reference13Ideal.Read.val_main_v13_apply, Cert.Reference13Ideal.Read.val_main_v9_apply, Cert.Reference13Ideal.Read.val_main_v12_apply, Cert.Reference13Ideal.Read.val_main_v8_apply, Cert.Reference13Ideal.Read.val_main_v11_apply, Cert.Reference13Ideal.Read.val_main_v10_apply, Cert.Reference13Ideal.Read.val_main_cst_2_apply, Cert.Reference13Ideal.Read.val_main_cst_3_apply, sum_apply]
  rfl

theorem change_apply (x0 : Cert.Reference13Ideal.S8x704x1024.Idx → EReal) (x1 x2 x3 : Cert.Reference13Ideal.S1x704x1024.Idx → EReal) (i : Cert.Reference13Ideal.S1x704x1024.Idx) :
    Cert.Reference13Ideal.Read.val_main_v26 (F := Ideal) x0 x1 x2 x3 i = change (Cert.Kernel13Ideal.Ad.total x0 i) (x1 i) (x2 i) (x3 i) := by
  rw [Cert.Reference13Ideal.Read.val_main_v26_apply, Cert.Reference13Ideal.Read.val_main_v25_apply, Cert.Reference13Ideal.Read.val_main_v24_apply, Cert.Reference13Ideal.Read.val_main_v23_apply, Cert.Reference13Ideal.Read.val_main_v22_apply, Cert.Reference13Ideal.Read.val_main_v21_apply, Cert.Reference13Ideal.Read.val_main_v20_apply, Cert.Reference13Ideal.Read.val_main_v19_apply, Cert.Reference13Ideal.Read.val_main_v18_apply, Cert.Reference13Ideal.Read.val_main_v17_apply, Cert.Reference13Ideal.Read.val_main_v16_apply, Cert.Reference13Ideal.Read.val_main_v15_apply, Cert.Reference13Ideal.Read.val_main_v14_apply, Cert.Reference13Ideal.Read.val_main_cst_4_apply, Cert.Reference13Ideal.Read.val_main_cst_5_apply, Cert.Reference13Ideal.Read.val_main_cst_6_apply, Cert.Reference13Ideal.Read.val_main_cst_7_apply, Cert.Reference13Ideal.Read.val_main_cst_8_apply, moment_apply, square_apply]
  rfl

theorem frame_reference : Cert.quiescent_Reference13Ideal := by
  intro m ρ _
  exact (θ_run Cert.Reference13Ideal.defs _ _).mono (fun r h => ⟨fun c => (h c).2.2.2.2, sem_eq_zero_of_no_sems (by decide) r.2⟩)
    (Cert.Reference13Ideal.Value.run (F := Ideal) m ρ)

theorem algebraic : Cert.algebraic_Kernel13Ideal_Reference13Ideal := by
  intro m g m' g' _ ha
  refine ⟨fun c (i : Cert.Kernel13Ideal.S1x704x1024.Idx) => Cert.Kernel13Ideal.Ad.total (Cert.Kernel13Ideal.Ad.pieces m c) i,
    fun c (i : Cert.Kernel13Ideal.S1x704x1024.Idx) => change (Cert.Kernel13Ideal.Ad.total (Cert.Kernel13Ideal.Ad.pieces m c) i) (Cert.Kernel13Ideal.Ad.weight m c i) (Cert.Kernel13Ideal.Ad.first m c i) (Cert.Kernel13Ideal.Ad.second m c i),
    fun c (i : Cert.Kernel13Ideal.S1x704x1024.Idx) => moment (Cert.Kernel13Ideal.Ad.total (Cert.Kernel13Ideal.Ad.pieces m c) i) (Cert.Kernel13Ideal.Ad.first m c i),
    fun c (i : Cert.Kernel13Ideal.S1x704x1024.Idx) => square (Cert.Kernel13Ideal.Ad.total (Cert.Kernel13Ideal.Ad.pieces m c) i) (Cert.Kernel13Ideal.Ad.second m c i), ?_, ?_⟩
  · refine (θ_run Cert.Kernel13Ideal.defs _ _).mono (fun r h c => ?_) (Cert.Kernel13Ideal.Value.run_blocks (F := Ideal) m g)
    obtain ⟨r4, r5, r6, r7, hargs⟩ := h c
    exact ⟨r4.trans (funext fun i => Cert.Kernel13Ideal.Ad.res4 m c i), r5.trans (funext fun i => Cert.Kernel13Ideal.Ad.res5 m c i), r6.trans (funext fun i => Cert.Kernel13Ideal.Ad.res6 m c i), r7.trans (funext fun i => Cert.Kernel13Ideal.Ad.res7 m c i), hargs⟩
  · refine (θ_run Cert.Reference13Ideal.defs _ _).mono (fun r h c => ?_) (Cert.Reference13Ideal.Value.run (F := Ideal) m' g')
    obtain ⟨r4, r5, r6, r7, hargs⟩ := h c
    obtain ⟨a0, a1, a2, a3⟩ := ha c
    refine ⟨r4.trans ((Cert.Reference13Ideal.Read.val_main_v2_eq _).trans (funext fun i => ?_)), r5.trans ((Cert.Reference13Ideal.Read.val_main_v26_eq _ _ _ _).trans (funext fun i => ?_)),
      r6.trans ((Cert.Reference13Ideal.Read.val_main_v7_eq _ _).trans (funext fun i => ?_)), r7.trans ((Cert.Reference13Ideal.Read.val_main_v13_eq _ _).trans (funext fun i => ?_)), hargs⟩
    · refine (sum_apply _ i).trans ?_
      rw [a0]
    · refine (change_apply _ _ _ _ i).trans ?_
      rw [a0, a1, a2, a3]
    · refine (moment_apply _ _ i).trans ?_
      rw [a0, a2]
    · refine (square_apply _ _ i).trans ?_
      rw [a0, a3]

end Cert.Proof.Ad13

end
-- ==== Proof.Ad14.lean ====
/- The optimiser step of the mixer output weights: the kernel sums the eight received pieces one after the other, the reference sums them at once. -/
module

public import proofs.«01_k».proof.Defs
public import proofs.«01_k».proof.Proof.Gen.Kernel14Ideal.Value
public import proofs.«01_k».proof.Proof.Gen.Reference14Ideal.Run
public import proofs.«01_k».proof.Proof.Gen.Reference14Ideal.Read
public import proofs.«01_k».proof.Proof.Ad

@[expose] public section

set_option maxRecDepth 16384

noncomputable section

namespace Cert.Kernel14Ideal.Ad

open Cert.Kernel14Ideal Cert.Kernel14Ideal.Gen Idealize.ShloMosaic Idealize.ShloMosaic.TcCoe Idealize.SL.Sem ValueIdx
open Cert.Ad Cert.Mm

variable (m : (ℓ : Loc nD τ sig) → Buf (Elt Ideal) ℓ) (c : Dev nD)

theorem index0 : ∀ t : Fin cfg0.N, win0_0.index t = ![0, t.val, 0] :=
  (by decide +kernel : ∀ t : Fin grid0.N, win0_0.index t = ![0, t.val, 0])
theorem index1 : ∀ t : Fin cfg0.N, win0_1.index t = ![0, t.val, 0] :=
  (by decide +kernel : ∀ t : Fin grid0.N, win0_1.index t = ![0, t.val, 0])
theorem index4 : ∀ t : Fin cfg0.N, win0_4.index t = ![0, t.val, 0] :=
  (by decide +kernel : ∀ t : Fin grid0.N, win0_4.index t = ![0, t.val, 0])
theorem xsize4 : ∀ t : Fin cfg0.N, ∀ a, win0_4.xsize (grid0.coords t) a = S1x128x1024.size a :=
  (by decide +kernel : ∀ t : Fin grid0.N, ∀ a, win0_4.xsize (grid0.coords t) a = S1x128x1024.size a)

/-- The pieces received from the devices. -/
abbrev pieces : S8x128x1024.Idx → EReal := V m c main_arg0
/-- The weights. -/
abbrev weight : S1x128x1024.Idx → EReal := V m c main_arg1
/-- The first moments. -/
abbrev first : S1x128x1024.Idx → EReal := V m c main_arg2
/-- The second moments. -/
abbrev second : S1x128x1024.Idx → EReal := V m c main_arg3

/-- The sum of the received pieces at one weight. -/
def total (x : S8x128x1024.Idx → EReal) (i : S1x128x1024.Idx) : EReal := ∑ d : Fin 8, x (ix3 d (i 1) (i 2))

/-- The weight that index `y` of block `t` holds. -/
abbrev place (t : Fin cfg0.N) (y : S1x128x1024.Idx) : S1x128x1024.Idx := ix3 (y 0) ⟨128 * t.val + (y 1).val, by have := t.isLt; have h0 : (y 1).val < 128 := (y 1).isLt; have hN : cfg0.N = 1 := N_0; omega⟩ (y 2)

theorem emb1 (t : Fin cfg0.N) (y : S1x128x1024.Idx) : (win0_1.rect t).emb y = place t y := by
  have e0 : ((win0_1.rect t).emb y 0 : ℕ) = (y 0).val := by
    rw [Pipeline.Window.rect_emb_val win0_1 t y 0 rfl, index1]
    show 0 * 1 + _ = _
    omega
  have e1 : ((win0_1.rect t).emb y 1 : ℕ) = 128 * t.val + (y 1).val := by
    rw [Pipeline.Window.rect_emb_val win0_1 t y 1 rfl, index1]
    show t.val * 128 + _ = _
    omega
  have e2 : ((win0_1.rect t).emb y 2 : ℕ) = (y 2).val := by
    rw [Pipeline.Window.rect_emb_val win0_1 t y 2 rfl, index1]
    show 0 * 1024 + _ = _
    omega
  funext a
  apply Fin.ext
  match a with
  | ⟨0, _⟩ => exact e0
  | ⟨1, _⟩ => exact e1
  | ⟨2, _⟩ => exact e2

theorem emb2 (t : Fin cfg0.N) (y : S1x128x1024.Idx) : (win0_2.rect t).emb y = place t y := emb1 t y

theorem emb3 (t : Fin cfg0.N) (y : S1x128x1024.Idx) : (win0_3.rect t).emb y = place t y := emb1 t y

theorem emb4 (t : Fin cfg0.N) (y : S1x128x1024.Idx) : (win0_4.rect t).emb y = place t y := emb1 t y

theorem emb5 (t : Fin cfg0.N) (y : S1x128x1024.Idx) : (win0_5.rect t).emb y = place t y := emb1 t y

theorem emb6 (t : Fin cfg0.N) (y : S1x128x1024.Idx) : (win0_6.rect t).emb y = place t y := emb1 t y

theorem emb7 (t : Fin cfg0.N) (y : S1x128x1024.Idx) : (win0_7.rect t).emb y = place t y := emb1 t y

theorem blk0 (t : Fin cfg0.N) (d : Fin 8) (y : S1x128x1024.Idx) : iblk m c 0 t (ix3 d (y 1) (y 2) : S8x128x1024.Idx) = pieces m c (ix3 d (place t y 1) (place t y 2)) := by
  have e0 : ((win0_0.rect t).emb (ix3 d (y 1) (y 2) : S8x128x1024.Idx) 0 : ℕ) = d.val := by
    rw [Pipeline.Window.rect_emb_val win0_0 t _ 0 rfl, index0]
    show 0 * 8 + d.val = _
    omega
  have e1 : ((win0_0.rect t).emb (ix3 d (y 1) (y 2) : S8x128x1024.Idx) 1 : ℕ) = 128 * t.val + (y 1).val := by
    rw [Pipeline.Window.rect_emb_val win0_0 t _ 1 rfl, index0]
    show t.val * 128 + (y 1).val = _
    omega
  have e2 : ((win0_0.rect t).emb (ix3 d (y 1) (y 2) : S8x128x1024.Idx) 2 : ℕ) = (y 2).val := by
    rw [Pipeline.Window.rect_emb_val win0_0 t _ 2 rfl, index0]
    show 0 * 1024 + (y 2).val = _
    omega
  refine congrArg (pieces m c) (funext fun a => Fin.ext ?_)
  match a with
  | ⟨0, _⟩ => exact e0
  | ⟨1, _⟩ => exact e1
  | ⟨2, _⟩ => exact e2

theorem blk1 (t : Fin cfg0.N) (y : S1x128x1024.Idx) : iblk m c 1 t y = weight m c (place t y) := congrArg (weight m c) (emb1 t y)
theorem blk2 (t : Fin cfg0.N) (y : S1x128x1024.Idx) : iblk m c 2 t y = first m c (place t y) := congrArg (first m c) (emb2 t y)
theorem blk3 (t : Fin cfg0.N) (y : S1x128x1024.Idx) : iblk m c 3 t y = second m c (place t y) := congrArg (second m c) (emb3 t y)

/-- The sum of the pieces within one block. -/
def part (x : S8x128x1024.Idx → EReal) (y : S1x128x1024.Idx) : EReal := ∑ d : Fin 8, x (ix3 d (y 1) (y 2))

theorem part_blk (t : Fin cfg0.N) (y : S1x128x1024.Idx) : part (iblk m c 0 t) y = total (pieces m c) (place t y) :=
  Finset.sum_congr rfl fun d _ => blk0 m c t d y

theorem load0 (x : Vec Ideal S8x128x1024 .bf16) (y : S1x128x1024.Idx) : View.ld x r0_0 (Value.ix4_0 y) = x (ix3 (0 : Fin 8) (y 1) (y 2)) :=
  congrArg x (eq3 rfl (unit_val _) (unit_val _))
theorem load1 (x : Vec Ideal S8x128x1024 .bf16) (y : S1x128x1024.Idx) : View.ld x r0_1 (Value.ix4_1 y) = x (ix3 (1 : Fin 8) (y 1) (y 2)) :=
  congrArg x (eq3 rfl (unit_val _) (unit_val _))
theorem load2 (x : Vec Ideal S8x128x1024 .bf16) (y : S1x128x1024.Idx) : View.ld x r0_2 (Value.ix4_2 y) = x (ix3 (2 : Fin 8) (y 1) (y 2)) :=
  congrArg x (eq3 rfl (unit_val _) (unit_val _))
theorem load3 (x : Vec Ideal S8x128x1024 .bf16) (y : S1x128x1024.Idx) : View.ld x r0_3 (Value.ix4_3 y) = x (ix3 (3 : Fin 8) (y 1) (y 2)) :=
  congrArg x (eq3 rfl (unit_val _) (unit_val _))
theorem load4 (x : Vec Ideal S8x128x1024 .bf16) (y : S1x128x1024.Idx) : View.ld x r0_4 (Value.ix4_4 y) = x (ix3 (4 : Fin 8) (y 1) (y 2)) :=
  congrArg x (eq3 rfl (unit_val _) (unit_val _))
theorem load5 (x : Vec Ideal S8x128x1024 .bf16) (y : S1x128x1024.Idx) : View.ld x r0_5 (Value.ix4_5 y) = x (ix3 (5 : Fin 8) (y 1) (y 2)) :=
  congrArg x (eq3 rfl (unit_val _) (unit_val _))
theorem load6 (x : Vec Ideal S8x128x1024 .bf16) (y : S1x128x1024.Idx) : View.ld x r0_6 (Value.ix4_6 y) = x (ix3 (6 : Fin 8) (y 1) (y 2)) :=
  congrArg x (eq3 rfl (unit_val _) (unit_val _))
theorem load7 (x : Vec Ideal S8x128x1024 .bf16) (y : S1x128x1024.Idx) : View.ld x r0_7 (Value.ix4_7 y) = x (ix3 (7 : Fin 8) (y 1) (y 2)) :=
  congrArg x (eq3 rfl (unit_val _) (unit_val _))

theorem sum_loads (x : Vec Ideal S8x128x1024 .bf16) (y : S1x128x1024.Idx) : Value.E4 (F := Ideal) (View.ld x r0_0) (View.ld x r0_1) (View.ld x r0_2) (View.ld x r0_3) (View.ld x r0_4) (View.ld x r0_5) (View.ld x r0_6) (View.ld x r0_7) y = part x y := by
  have h01 := congrArg₂ (fun a b : EReal => a + b) (load0 x y) (load1 x y)
  have h02 := congrArg₂ (fun a b : EReal => a + b) h01 (load2 x y)
  have h03 := congrArg₂ (fun a b : EReal => a + b) h02 (load3 x y)
  have h04 := congrArg₂ (fun a b : EReal => a + b) h03 (load4 x y)
  have h05 := congrArg₂ (fun a b : EReal => a + b) h04 (load5 x y)
  have h06 := congrArg₂ (fun a b : EReal => a + b) h05 (load6 x y)
  have h07 := congrArg₂ (fun a b : EReal => a + b) h06 (load7 x y)
  exact h07.trans (Fin.sum_univ_eight (fun d : Fin 8 => x (ix3 d (y 1) (y 2)))).symm

theorem same (y : S1x128x1024.Idx) : Value.ix5_0 y = y := by
  funext a
  apply Fin.ext
  match a with
  | ⟨0, _⟩ => have h : (y 0).val < 1 := (y 0).isLt; show 0 = (y 0).val; omega
  | ⟨1, _⟩ => rfl
  | ⟨2, _⟩ => rfl

theorem tile4 (x0 : Vec Ideal S8x128x1024 .bf16) (x1 x2 x3 : Vec Ideal S1x128x1024 .f32) (y : S1x128x1024.Idx) : out0_4 x0 x1 x2 x3 y = part x0 y := by
  unfold out0_4 k0_pay8
  exact (Value.canon4_eq (F := Ideal) (View.ld x0 r0_0) (View.ld x0 r0_1) (View.ld x0 r0_2) (View.ld x0 r0_3) (View.ld x0 r0_4) (View.ld x0 r0_5) (View.ld x0 r0_6) (View.ld x0 r0_7) y).trans (sum_loads x0 y)

theorem tile5 (x0 : Vec Ideal S8x128x1024 .bf16) (x1 x2 x3 : Vec Ideal S1x128x1024 .f32) (y : S1x128x1024.Idx) : out0_5 x0 x1 x2 x3 y = change (part x0 y) (x1 y) (x2 y) (x3 y) := by
  unfold out0_5
  rw [show View.ld x1 r0_8 = x1 from View.ld_unit_zero (S := S1x128x1024) Cert.Ad.zero3 _ x1, show View.ld x2 r0_8 = x2 from View.ld_unit_zero (S := S1x128x1024) Cert.Ad.zero3 _ x2, show View.ld x3 r0_8 = x3 from View.ld_unit_zero (S := S1x128x1024) Cert.Ad.zero3 _ x3]
  unfold k0_pay8
  refine (Value.canon5_eq (F := Ideal) x2 (View.ld x0 r0_0) (View.ld x0 r0_1) (View.ld x0 r0_2) (View.ld x0 r0_3) (View.ld x0 r0_4) (View.ld x0 r0_5) (View.ld x0 r0_6) (View.ld x0 r0_7) x3 x1 y).trans ?_
  show change (Value.E4 (F := Ideal) (View.ld x0 r0_0) (View.ld x0 r0_1) (View.ld x0 r0_2) (View.ld x0 r0_3) (View.ld x0 r0_4) (View.ld x0 r0_5) (View.ld x0 r0_6) (View.ld x0 r0_7) y) (x1 (Value.ix5_0 y)) (x2 (Value.ix5_0 y)) (x3 (Value.ix5_0 y)) = _
  rw [sum_loads, same]

theorem tile6 (x0 : Vec Ideal S8x128x1024 .bf16) (x1 x2 x3 : Vec Ideal S1x128x1024 .f32) (y : S1x128x1024.Idx) : out0_6 x0 x1 x2 x3 y = moment (part x0 y) (x2 y) := by
  unfold out0_6
  rw [show View.ld x2 r0_8 = x2 from View.ld_unit_zero (S := S1x128x1024) Cert.Ad.zero3 _ x2]
  unfold k0_pay8
  refine (Value.canon6_eq (F := Ideal) x2 (View.ld x0 r0_0) (View.ld x0 r0_1) (View.ld x0 r0_2) (View.ld x0 r0_3) (View.ld x0 r0_4) (View.ld x0 r0_5) (View.ld x0 r0_6) (View.ld x0 r0_7) y).trans ?_
  show moment (Value.E4 (F := Ideal) (View.ld x0 r0_0) (View.ld x0 r0_1) (View.ld x0 r0_2) (View.ld x0 r0_3) (View.ld x0 r0_4) (View.ld x0 r0_5) (View.ld x0 r0_6) (View.ld x0 r0_7) y) (x2 (Value.ix5_0 y)) = _
  rw [sum_loads, same]

theorem tile7 (x0 : Vec Ideal S8x128x1024 .bf16) (x1 x2 x3 : Vec Ideal S1x128x1024 .f32) (y : S1x128x1024.Idx) : out0_7 x0 x1 x2 x3 y = square (part x0 y) (x3 y) := by
  unfold out0_7
  rw [show View.ld x3 r0_8 = x3 from View.ld_unit_zero (S := S1x128x1024) Cert.Ad.zero3 _ x3]
  unfold k0_pay8
  refine (Value.canon7_eq (F := Ideal) x3 (View.ld x0 r0_0) (View.ld x0 r0_1) (View.ld x0 r0_2) (View.ld x0 r0_3) (View.ld x0 r0_4) (View.ld x0 r0_5) (View.ld x0 r0_6) (View.ld x0 r0_7) y).trans ?_
  show square (Value.E4 (F := Ideal) (View.ld x0 r0_0) (View.ld x0 r0_1) (View.ld x0 r0_2) (View.ld x0 r0_3) (View.ld x0 r0_4) (View.ld x0 r0_5) (View.ld x0 r0_6) (View.ld x0 r0_7) y) (x3 (Value.ix5_0 y)) = _
  rw [sum_loads, same]

theorem mem4 (t : Fin cfg0.N) (i : S1x128x1024.Idx) (h0 : t.val = (i 1).val / 128) : i ∈ ((cfg0.win 4).blk t).view.set := by
  show i ∈ ((View.whole main_v0_0).slice (win0_4.rect t)).set
  rw [View.set_slice_whole, Rect.mem_set_unit]
  intro a
  rw [xsize4]
  match a with
  | ⟨0, _⟩ =>
    have h1 : (i 0).val < 1 := (i 0).isLt
    show win0_4.index t 0 * 1 ≤ (i 0).val ∧ (i 0).val < win0_4.index t 0 * 1 + 1
    rw [index4]
    show 0 * 1 ≤ (i 0).val ∧ (i 0).val < 0 * 1 + 1
    omega
  | ⟨1, _⟩ =>
    show win0_4.index t 1 * 128 ≤ (i 1).val ∧ (i 1).val < win0_4.index t 1 * 128 + 128
    rw [index4]
    show t.val * 128 ≤ (i 1).val ∧ (i 1).val < t.val * 128 + 128
    omega
  | ⟨2, _⟩ =>
    have h1 : (i 2).val < 1024 := (i 2).isLt
    show win0_4.index t 2 * 1024 ≤ (i 2).val ∧ (i 2).val < win0_4.index t 2 * 1024 + 1024
    rw [index4]
    show 0 * 1024 ≤ (i 2).val ∧ (i 2).val < 0 * 1024 + 1024
    omega

/-- The whole result: the summed gradient. -/
theorem res4 (i : S1x128x1024.Idx) : (dats m 0 c).arrAt 4 cfg0.N i = total (pieces m c) i := by
  have h0 : (i 1).val < 128 := (i 1).isLt
  have hN : cfg0.N = 1 := N_0
  refine (dats m 0 c).arrAt_apply_of_mem 4 (fun i : S1x128x1024.Idx => total (pieces m c) i) ?_ cfg0.N ⟨(i 1).val / 128, by omega⟩ i (by show (i 1).val / 128 < _; omega) (flush0_4 _) (mem4 _ i rfl)
  intro t _
  rw [Value.flushed4]
  funext y
  refine (tile4 (iblk m c 0 t) (iblk m c 1 t) (iblk m c 2 t) (iblk m c 3 t) y).trans ?_
  show _ = (fun i : S1x128x1024.Idx => total (pieces m c) i) ((win0_4.rect t).emb y)
  rw [emb4, part_blk]

theorem mem5 (t : Fin cfg0.N) (i : S1x128x1024.Idx) (h0 : t.val = (i 1).val / 128) : i ∈ ((cfg0.win 5).blk t).view.set := by
  show i ∈ ((View.whole main_v0_1).slice (win0_5.rect t)).set
  rw [View.set_slice_whole]
  have h : i ∈ ((View.whole main_v0_0).slice (win0_4.rect t)).set := mem4 t i h0
  rw [View.set_slice_whole] at h
  exact h

/-- The whole result: what is added to the weights. -/
theorem res5 (i : S1x128x1024.Idx) : (dats m 0 c).arrAt 5 cfg0.N i = change (total (pieces m c) i) (weight m c i) (first m c i) (second m c i) := by
  have h0 : (i 1).val < 128 := (i 1).isLt
  have hN : cfg0.N = 1 := N_0
  refine (dats m 0 c).arrAt_apply_of_mem 5 (fun i : S1x128x1024.Idx => change (total (pieces m c) i) (weight m c i) (first m c i) (second m c i)) ?_ cfg0.N ⟨(i 1).val / 128, by omega⟩ i (by show (i 1).val / 128 < _; omega) (flush0_5 _) (mem5 _ i rfl)
  intro t _
  rw [Value.flushed5]
  funext y
  refine (tile5 (iblk m c 0 t) (iblk m c 1 t) (iblk m c 2 t) (iblk m c 3 t) y).trans ?_
  show _ = (fun i : S1x128x1024.Idx => change (total (pieces m c) i) (weight m c i) (first m c i) (second m c i)) ((win0_5.rect t).emb y)
  rw [emb5, part_blk, blk1, blk2, blk3]

theorem mem6 (t : Fin cfg0.N) (i : S1x128x1024.Idx) (h0 : t.val = (i 1).val / 128) : i ∈ ((cfg0.win 6).blk t).view.set := by
  show i ∈ ((View.whole main_v0_2).slice (win0_6.rect t)).set
  rw [View.set_slice_whole]
  have h : i ∈ ((View.whole main_v0_0).slice (win0_4.rect t)).set := mem4 t i h0
  rw [View.set_slice_whole] at h
  exact h

/-- The whole result: the first moments. -/
theorem res6 (i : S1x128x1024.Idx) : (dats m 0 c).arrAt 6 cfg0.N i = moment (total (pieces m c) i) (first m c i) := by
  have h0 : (i 1).val < 128 := (i 1).isLt
  have hN : cfg0.N = 1 := N_0
  refine (dats m 0 c).arrAt_apply_of_mem 6 (fun i : S1x128x1024.Idx => moment (total (pieces m c) i) (first m c i)) ?_ cfg0.N ⟨(i 1).val / 128, by omega⟩ i (by show (i 1).val / 128 < _; omega) (flush0_6 _) (mem6 _ i rfl)
  intro t _
  rw [Value.flushed6]
  funext y
  refine (tile6 (iblk m c 0 t) (iblk m c 1 t) (iblk m c 2 t) (iblk m c 3 t) y).trans ?_
  show _ = (fun i : S1x128x1024.Idx => moment (total (pieces m c) i) (first m c i)) ((win0_6.rect t).emb y)
  rw [emb6, part_blk, blk2]

theorem mem7 (t : Fin cfg0.N) (i : S1x128x1024.Idx) (h0 : t.val = (i 1).val / 128) : i ∈ ((cfg0.win 7).blk t).view.set := by
  show i ∈ ((View.whole main_v0_3).slice (win0_7.rect t)).set
  rw [View.set_slice_whole]
  have h : i ∈ ((View.whole main_v0_0).slice (win0_4.rect t)).set := mem4 t i h0
  rw [View.set_slice_whole] at h
  exact h

/-- The whole result: the second moments. -/
theorem res7 (i : S1x128x1024.Idx) : (dats m 0 c).arrAt 7 cfg0.N i = square (total (pieces m c) i) (second m c i) := by
  have h0 : (i 1).val < 128 := (i 1).isLt
  have hN : cfg0.N = 1 := N_0
  refine (dats m 0 c).arrAt_apply_of_mem 7 (fun i : S1x128x1024.Idx => square (total (pieces m c) i) (second m c i)) ?_ cfg0.N ⟨(i 1).val / 128, by omega⟩ i (by show (i 1).val / 128 < _; omega) (flush0_7 _) (mem7 _ i rfl)
  intro t _
  rw [Value.flushed7]
  funext y
  refine (tile7 (iblk m c 0 t) (iblk m c 1 t) (iblk m c 2 t) (iblk m c 3 t) y).trans ?_
  show _ = (fun i : S1x128x1024.Idx => square (total (pieces m c) i) (second m c i)) ((win0_7.rect t).emb y)
  rw [emb7, part_blk, blk3]

end Cert.Kernel14Ideal.Ad

namespace Cert.Proof.Ad14

open Idealize.ShloMosaic Idealize.ShloMosaic.TcCoe Idealize.ShloMosaic.StableHlo Idealize.SL.Sem ValueIdx
open Cert.Ad Cert.Mm

theorem sum_apply (x0 : Cert.Reference14Ideal.S8x128x1024.Idx → EReal) (i : Cert.Reference14Ideal.S1x128x1024.Idx) : Cert.Reference14Ideal.Read.val_main_v2 (F := Ideal) x0 i = Cert.Kernel14Ideal.Ad.total x0 i := by
  rw [Cert.Reference14Ideal.Read.val_main_v2_apply, Cert.Reference14Ideal.Read.val_main_v1_apply, Cert.Reference14Ideal.Read.val_main_cst_apply, Ideal.ofBits_def, Ideal.ofBits_zero_f32, zero_add]
  refine Finset.sum_congr rfl fun d _ => congrArg x0 (funext fun a => Fin.ext ?_)
  match a with
  | ⟨0, _⟩ => rfl
  | ⟨1, _⟩ =>
    have h0 : (i 0).val < 1 := (i 0).isLt
    have h2 : (i 2).val < 1024 := (i 2).isLt
    show (((i 0).val * 128 + (i 1).val) * 1024 + (i 2).val) / 1024 = (i 1).val
    omega
  | ⟨2, _⟩ =>
    have h2 : (i 2).val < 1024 := (i 2).isLt
    show (((i 0).val * 128 + (i 1).val) * 1024 + (i 2).val) % 1024 = (i 2).val
    omega

theorem moment_apply (x0 : Cert.Reference14Ideal.S8x128x1024.Idx → EReal) (x2 : Cert.Reference14Ideal.S1x128x1024.Idx → EReal) (i : Cert.Reference14Ideal.S1x128x1024.Idx) :
    Cert.Reference14Ideal.Read.val_main_v7 (F := Ideal) x0 x2 i = moment (Cert.Kernel14Ideal.Ad.total x0 i) (x2 i) := by
  rw [Cert.Reference14Ideal.Read.val_main_v7_apply, Cert.Reference14Ideal.Read.val_main_v4_apply, Cert.Reference14Ideal.Read.val_main_v6_apply, Cert.Reference14Ideal.Read.val_main_v3_apply, Cert.Reference14Ideal.Read.val_main_v5_apply, Cert.Reference14Ideal.Read.val_main_cst_0_apply, Cert.Reference14Ideal.Read.val_main_cst_1_apply, sum_apply]
  rfl

theorem square_apply (x0 : Cert.Reference14Ideal.S8x128x1024.Idx → EReal) (x3 : Cert.Reference14Ideal.S1x128x1024.Idx → EReal) (i : Cert.Reference14Ideal.S1x128x1024.Idx) :
    Cert.Reference14Ideal.Read.val_main_v13 (F := Ideal) x0 x3 i = square (Cert.Kernel14Ideal.Ad.total x0 i) (x3 i) := by
  rw [Cert.Reference14Ideal.Read.val_main_v13_apply, Cert.Reference14Ideal.Read.val_main_v9_apply, Cert.Reference14Ideal.Read.val_main_v12_apply, Cert.Reference14Ideal.Read.val_main_v8_apply, Cert.Reference14Ideal.Read.val_main_v11_apply, Cert.Reference14Ideal.Read.val_main_v10_apply, Cert.Reference14Ideal.Read.val_main_cst_2_apply, Cert.Reference14Ideal.Read.val_main_cst_3_apply, sum_apply]
  rfl

theorem change_apply (x0 : Cert.Reference14Ideal.S8x128x1024.Idx → EReal) (x1 x2 x3 : Cert.Reference14Ideal.S1x128x1024.Idx → EReal) (i : Cert.Reference14Ideal.S1x128x1024.Idx) :
    Cert.Reference14Ideal.Read.val_main_v26 (F := Ideal) x0 x1 x2 x3 i = change (Cert.Kernel14Ideal.Ad.total x0 i) (x1 i) (x2 i) (x3 i) := by
  rw [Cert.Reference14Ideal.Read.val_main_v26_apply, Cert.Reference14Ideal.Read.val_main_v25_apply, Cert.Reference14Ideal.Read.val_main_v24_apply, Cert.Reference14Ideal.Read.val_main_v23_apply, Cert.Reference14Ideal.Read.val_main_v22_apply, Cert.Reference14Ideal.Read.val_main_v21_apply, Cert.Reference14Ideal.Read.val_main_v20_apply, Cert.Reference14Ideal.Read.val_main_v19_apply, Cert.Reference14Ideal.Read.val_main_v18_apply, Cert.Reference14Ideal.Read.val_main_v17_apply, Cert.Reference14Ideal.Read.val_main_v16_apply, Cert.Reference14Ideal.Read.val_main_v15_apply, Cert.Reference14Ideal.Read.val_main_v14_apply, Cert.Reference14Ideal.Read.val_main_cst_4_apply, Cert.Reference14Ideal.Read.val_main_cst_5_apply, Cert.Reference14Ideal.Read.val_main_cst_6_apply, Cert.Reference14Ideal.Read.val_main_cst_7_apply, Cert.Reference14Ideal.Read.val_main_cst_8_apply, moment_apply, square_apply]
  rfl

theorem frame_reference : Cert.quiescent_Reference14Ideal := by
  intro m ρ _
  exact (θ_run Cert.Reference14Ideal.defs _ _).mono (fun r h => ⟨fun c => (h c).2.2.2.2, sem_eq_zero_of_no_sems (by decide) r.2⟩)
    (Cert.Reference14Ideal.Value.run (F := Ideal) m ρ)

theorem algebraic : Cert.algebraic_Kernel14Ideal_Reference14Ideal := by
  intro m g m' g' _ ha
  refine ⟨fun c (i : Cert.Kernel14Ideal.S1x128x1024.Idx) => Cert.Kernel14Ideal.Ad.total (Cert.Kernel14Ideal.Ad.pieces m c) i,
    fun c (i : Cert.Kernel14Ideal.S1x128x1024.Idx) => change (Cert.Kernel14Ideal.Ad.total (Cert.Kernel14Ideal.Ad.pieces m c) i) (Cert.Kernel14Ideal.Ad.weight m c i) (Cert.Kernel14Ideal.Ad.first m c i) (Cert.Kernel14Ideal.Ad.second m c i),
    fun c (i : Cert.Kernel14Ideal.S1x128x1024.Idx) => moment (Cert.Kernel14Ideal.Ad.total (Cert.Kernel14Ideal.Ad.pieces m c) i) (Cert.Kernel14Ideal.Ad.first m c i),
    fun c (i : Cert.Kernel14Ideal.S1x128x1024.Idx) => square (Cert.Kernel14Ideal.Ad.total (Cert.Kernel14Ideal.Ad.pieces m c) i) (Cert.Kernel14Ideal.Ad.second m c i), ?_, ?_⟩
  · refine (θ_run Cert.Kernel14Ideal.defs _ _).mono (fun r h c => ?_) (Cert.Kernel14Ideal.Value.run_blocks (F := Ideal) m g)
    obtain ⟨r4, r5, r6, r7, hargs⟩ := h c
    exact ⟨r4.trans (funext fun i => Cert.Kernel14Ideal.Ad.res4 m c i), r5.trans (funext fun i => Cert.Kernel14Ideal.Ad.res5 m c i), r6.trans (funext fun i => Cert.Kernel14Ideal.Ad.res6 m c i), r7.trans (funext fun i => Cert.Kernel14Ideal.Ad.res7 m c i), hargs⟩
  · refine (θ_run Cert.Reference14Ideal.defs _ _).mono (fun r h c => ?_) (Cert.Reference14Ideal.Value.run (F := Ideal) m' g')
    obtain ⟨r4, r5, r6, r7, hargs⟩ := h c
    obtain ⟨a0, a1, a2, a3⟩ := ha c
    refine ⟨r4.trans ((Cert.Reference14Ideal.Read.val_main_v2_eq _).trans (funext fun i => ?_)), r5.trans ((Cert.Reference14Ideal.Read.val_main_v26_eq _ _ _ _).trans (funext fun i => ?_)),
      r6.trans ((Cert.Reference14Ideal.Read.val_main_v7_eq _ _).trans (funext fun i => ?_)), r7.trans ((Cert.Reference14Ideal.Read.val_main_v13_eq _ _).trans (funext fun i => ?_)), hargs⟩
    · refine (sum_apply _ i).trans ?_
      rw [a0]
    · refine (change_apply _ _ _ _ i).trans ?_
      rw [a0, a1, a2, a3]
    · refine (moment_apply _ _ i).trans ?_
      rw [a0, a2]
    · refine (square_apply _ _ i).trans ?_
      rw [a0, a3]

end Cert.Proof.Ad14

end
-- ==== Proof.Ad15.lean ====
/- The optimiser step of the mixer input weights: the kernel sums the eight received pieces one after the other, the reference sums them at once. -/
module

public import proofs.«01_k».proof.Defs
public import proofs.«01_k».proof.Proof.Gen.Kernel15Ideal.Value
public import proofs.«01_k».proof.Proof.Gen.Reference15Ideal.Run
public import proofs.«01_k».proof.Proof.Gen.Reference15Ideal.Read
public import proofs.«01_k».proof.Proof.Ad

@[expose] public section

set_option maxRecDepth 16384

noncomputable section

namespace Cert.Kernel15Ideal.Ad

open Cert.Kernel15Ideal Cert.Kernel15Ideal.Gen Idealize.ShloMosaic Idealize.ShloMosaic.TcCoe Idealize.SL.Sem ValueIdx
open Cert.Ad Cert.Mm

variable (m : (ℓ : Loc nD τ sig) → Buf (Elt Ideal) ℓ) (c : Dev nD)

theorem index0 : ∀ t : Fin cfg0.N, win0_0.index t = ![0, t.val, 0] :=
  (by decide +kernel : ∀ t : Fin grid0.N, win0_0.index t = ![0, t.val, 0])
theorem index1 : ∀ t : Fin cfg0.N, win0_1.index t = ![0, t.val, 0] :=
  (by decide +kernel : ∀ t : Fin grid0.N, win0_1.index t = ![0, t.val, 0])
theorem index4 : ∀ t : Fin cfg0.N, win0_4.index t = ![0, t.val, 0] :=
  (by decide +kernel : ∀ t : Fin grid0.N, win0_4.index t = ![0, t.val, 0])
theorem xsize4 : ∀ t : Fin cfg0.N, ∀ a, win0_4.xsize (grid0.coords t) a = S1x385x1024.size a :=
  (by decide +kernel : ∀ t : Fin grid0.N, ∀ a, win0_4.xsize (grid0.coords t) a = S1x385x1024.size a)

/-- The pieces received from the devices. -/
abbrev pieces : S8x385x1024.Idx → EReal := V m c main_arg0
/-- The weights. -/
abbrev weight : S1x385x1024.Idx → EReal := V m c main_arg1
/-- The first moments. -/
abbrev first : S1x385x1024.Idx → EReal := V m c main_arg2
/-- The second moments. -/
abbrev second : S1x385x1024.Idx → EReal := V m c main_arg3

/-- The sum of the received pieces at one weight. -/
def total (x : S8x385x1024.Idx → EReal) (i : S1x385x1024.Idx) : EReal := ∑ d : Fin 8, x (ix3 d (i 1) (i 2))

/-- The weight that index `y` of block `t` holds. -/
abbrev place (t : Fin cfg0.N) (y : S1x385x1024.Idx) : S1x385x1024.Idx := ix3 (y 0) ⟨385 * t.val + (y 1).val, by have := t.isLt; have h0 : (y 1).val < 385 := (y 1).isLt; have hN : cfg0.N = 1 := N_0; omega⟩ (y 2)

theorem emb1 (t : Fin cfg0.N) (y : S1x385x1024.Idx) : (win0_1.rect t).emb y = place t y := by
  have e0 : ((win0_1.rect t).emb y 0 : ℕ) = (y 0).val := by
    rw [Pipeline.Window.rect_emb_val win0_1 t y 0 rfl, index1]
    show 0 * 1 + _ = _
    omega
  have e1 : ((win0_1.rect t).emb y 1 : ℕ) = 385 * t.val + (y 1).val := by
    rw [Pipeline.Window.rect_emb_val win0_1 t y 1 rfl, index1]
    show t.val * 385 + _ = _
    omega
  have e2 : ((win0_1.rect t).emb y 2 : ℕ) = (y 2).val := by
    rw [Pipeline.Window.rect_emb_val win0_1 t y 2 rfl, index1]
    show 0 * 1024 + _ = _
    omega
  funext a
  apply Fin.ext
  match a with
  | ⟨0, _⟩ => exact e0
  | ⟨1, _⟩ => exact e1
  | ⟨2, _⟩ => exact e2

theorem emb2 (t : Fin cfg0.N) (y : S1x385x1024.Idx) : (win0_2.rect t).emb y = place t y := emb1 t y

theorem emb3 (t : Fin cfg0.N) (y : S1x385x1024.Idx) : (win0_3.rect t).emb y = place t y := emb1 t y

theorem emb4 (t : Fin cfg0.N) (y : S1x385x1024.Idx) : (win0_4.rect t).emb y = place t y := emb1 t y

theorem emb5 (t : Fin cfg0.N) (y : S1x385x1024.Idx) : (win0_5.rect t).emb y = place t y := emb1 t y

theorem emb6 (t : Fin cfg0.N) (y : S1x385x1024.Idx) : (win0_6.rect t).emb y = place t y := emb1 t y

theorem emb7 (t : Fin cfg0.N) (y : S1x385x1024.Idx) : (win0_7.rect t).emb y = place t y := emb1 t y

theorem blk0 (t : Fin cfg0.N) (d : Fin 8) (y : S1x385x1024.Idx) : iblk m c 0 t (ix3 d (y 1) (y 2) : S8x385x1024.Idx) = pieces m c (ix3 d (place t y 1) (place t y 2)) := by
  have e0 : ((win0_0.rect t).emb (ix3 d (y 1) (y 2) : S8x385x1024.Idx) 0 : ℕ) = d.val := by
    rw [Pipeline.Window.rect_emb_val win0_0 t _ 0 rfl, index0]
    show 0 * 8 + d.val = _
    omega
  have e1 : ((win0_0.rect t).emb (ix3 d (y 1) (y 2) : S8x385x1024.Idx) 1 : ℕ) = 385 * t.val + (y 1).val := by
    rw [Pipeline.Window.rect_emb_val win0_0 t _ 1 rfl, index0]
    show t.val * 385 + (y 1).val = _
    omega
  have e2 : ((win0_0.rect t).emb (ix3 d (y 1) (y 2) : S8x385x1024.Idx) 2 : ℕ) = (y 2).val := by
    rw [Pipeline.Window.rect_emb_val win0_0 t _ 2 rfl, index0]
    show 0 * 1024 + (y 2).val = _
    omega
  refine congrArg (pieces m c) (funext fun a => Fin.ext ?_)
  match a with
  | ⟨0, _⟩ => exact e0
  | ⟨1, _⟩ => exact e1
  | ⟨2, _⟩ => exact e2

theorem blk1 (t : Fin cfg0.N) (y : S1x385x1024.Idx) : iblk m c 1 t y = weight m c (place t y) := congrArg (weight m c) (emb1 t y)
theorem blk2 (t : Fin cfg0.N) (y : S1x385x1024.Idx) : iblk m c 2 t y = first m c (place t y) := congrArg (first m c) (emb2 t y)
theorem blk3 (t : Fin cfg0.N) (y : S1x385x1024.Idx) : iblk m c 3 t y = second m c (place t y) := congrArg (second m c) (emb3 t y)

/-- The sum of the pieces within one block. -/
def part (x : S8x385x1024.Idx → EReal) (y : S1x385x1024.Idx) : EReal := ∑ d : Fin 8, x (ix3 d (y 1) (y 2))

theorem part_blk (t : Fin cfg0.N) (y : S1x385x1024.Idx) : part (iblk m c 0 t) y = total (pieces m c) (place t y) :=
  Finset.sum_congr rfl fun d _ => blk0 m c t d y

theorem load0 (x : Vec Ideal S8x385x1024 .bf16) (y : S1x385x1024.Idx) : View.ld x r0_0 (Value.ix4_0 y) = x (ix3 (0 : Fin 8) (y 1) (y 2)) :=
  congrArg x (eq3 rfl (unit_val _) (unit_val _))
theorem load1 (x : Vec Ideal S8x385x1024 .bf16) (y : S1x385x1024.Idx) : View.ld x r0_1 (Value.ix4_1 y) = x (ix3 (1 : Fin 8) (y 1) (y 2)) :=
  congrArg x (eq3 rfl (unit_val _) (unit_val _))
theorem load2 (x : Vec Ideal S8x385x1024 .bf16) (y : S1x385x1024.Idx) : View.ld x r0_2 (Value.ix4_2 y) = x (ix3 (2 : Fin 8) (y 1) (y 2)) :=
  congrArg x (eq3 rfl (unit_val _) (unit_val _))
theorem load3 (x : Vec Ideal S8x385x1024 .bf16) (y : S1x385x1024.Idx) : View.ld x r0_3 (Value.ix4_3 y) = x (ix3 (3 : Fin 8) (y 1) (y 2)) :=
  congrArg x (eq3 rfl (unit_val _) (unit_val _))
theorem load4 (x : Vec Ideal S8x385x1024 .bf16) (y : S1x385x1024.Idx) : View.ld x r0_4 (Value.ix4_4 y) = x (ix3 (4 : Fin 8) (y 1) (y 2)) :=
  congrArg x (eq3 rfl (unit_val _) (unit_val _))
theorem load5 (x : Vec Ideal S8x385x1024 .bf16) (y : S1x385x1024.Idx) : View.ld x r0_5 (Value.ix4_5 y) = x (ix3 (5 : Fin 8) (y 1) (y 2)) :=
  congrArg x (eq3 rfl (unit_val _) (unit_val _))
theorem load6 (x : Vec Ideal S8x385x1024 .bf16) (y : S1x385x1024.Idx) : View.ld x r0_6 (Value.ix4_6 y) = x (ix3 (6 : Fin 8) (y 1) (y 2)) :=
  congrArg x (eq3 rfl (unit_val _) (unit_val _))
theorem load7 (x : Vec Ideal S8x385x1024 .bf16) (y : S1x385x1024.Idx) : View.ld x r0_7 (Value.ix4_7 y) = x (ix3 (7 : Fin 8) (y 1) (y 2)) :=
  congrArg x (eq3 rfl (unit_val _) (unit_val _))

theorem sum_loads (x : Vec Ideal S8x385x1024 .bf16) (y : S1x385x1024.Idx) : Value.E4 (F := Ideal) (View.ld x r0_0) (View.ld x r0_1) (View.ld x r0_2) (View.ld x r0_3) (View.ld x r0_4) (View.ld x r0_5) (View.ld x r0_6) (View.ld x r0_7) y = part x y := by
  have h01 := congrArg₂ (fun a b : EReal => a + b) (load0 x y) (load1 x y)
  have h02 := congrArg₂ (fun a b : EReal => a + b) h01 (load2 x y)
  have h03 := congrArg₂ (fun a b : EReal => a + b) h02 (load3 x y)
  have h04 := congrArg₂ (fun a b : EReal => a + b) h03 (load4 x y)
  have h05 := congrArg₂ (fun a b : EReal => a + b) h04 (load5 x y)
  have h06 := congrArg₂ (fun a b : EReal => a + b) h05 (load6 x y)
  have h07 := congrArg₂ (fun a b : EReal => a + b) h06 (load7 x y)
  exact h07.trans (Fin.sum_univ_eight (fun d : Fin 8 => x (ix3 d (y 1) (y 2)))).symm

theorem same (y : S1x385x1024.Idx) : Value.ix5_0 y = y := by
  funext a
  apply Fin.ext
  match a with
  | ⟨0, _⟩ => have h : (y 0).val < 1 := (y 0).isLt; show 0 = (y 0).val; omega
  | ⟨1, _⟩ => rfl
  | ⟨2, _⟩ => rfl

theorem tile4 (x0 : Vec Ideal S8x385x1024 .bf16) (x1 x2 x3 : Vec Ideal S1x385x1024 .f32) (y : S1x385x1024.Idx) : out0_4 x0 x1 x2 x3 y = part x0 y := by
  unfold out0_4 k0_pay8
  exact (Value.canon4_eq (F := Ideal) (View.ld x0 r0_0) (View.ld x0 r0_1) (View.ld x0 r0_2) (View.ld x0 r0_3) (View.ld x0 r0_4) (View.ld x0 r0_5) (View.ld x0 r0_6) (View.ld x0 r0_7) y).trans (sum_loads x0 y)

theorem tile5 (x0 : Vec Ideal S8x385x1024 .bf16) (x1 x2 x3 : Vec Ideal S1x385x1024 .f32) (y : S1x385x1024.Idx) : out0_5 x0 x1 x2 x3 y = change (part x0 y) (x1 y) (x2 y) (x3 y) := by
  unfold out0_5
  rw [show View.ld x1 r0_8 = x1 from View.ld_unit_zero (S := S1x385x1024) Cert.Ad.zero3 _ x1, show View.ld x2 r0_8 = x2 from View.ld_unit_zero (S := S1x385x1024) Cert.Ad.zero3 _ x2, show View.ld x3 r0_8 = x3 from View.ld_unit_zero (S := S1x385x1024) Cert.Ad.zero3 _ x3]
  unfold k0_pay8
  refine (Value.canon5_eq (F := Ideal) x2 (View.ld x0 r0_0) (View.ld x0 r0_1) (View.ld x0 r0_2) (View.ld x0 r0_3) (View.ld x0 r0_4) (View.ld x0 r0_5) (View.ld x0 r0_6) (View.ld x0 r0_7) x3 x1 y).trans ?_
  show change (Value.E4 (F := Ideal) (View.ld x0 r0_0) (View.ld x0 r0_1) (View.ld x0 r0_2) (View.ld x0 r0_3) (View.ld x0 r0_4) (View.ld x0 r0_5) (View.ld x0 r0_6) (View.ld x0 r0_7) y) (x1 (Value.ix5_0 y)) (x2 (Value.ix5_0 y)) (x3 (Value.ix5_0 y)) = _
  rw [sum_loads, same]

theorem tile6 (x0 : Vec Ideal S8x385x1024 .bf16) (x1 x2 x3 : Vec Ideal S1x385x1024 .f32) (y : S1x385x1024.Idx) : out0_6 x0 x1 x2 x3 y = moment (part x0 y) (x2 y) := by
  unfold out0_6
  rw [show View.ld x2 r0_8 = x2 from View.ld_unit_zero (S := S1x385x1024) Cert.Ad.zero3 _ x2]
  unfold k0_pay8
  refine (Value.canon6_eq (F := Ideal) x2 (View.ld x0 r0_0) (View.ld x0 r0_1) (View.ld x0 r0_2) (View.ld x0 r0_3) (View.ld x0 r0_4) (View.ld x0 r0_5) (View.ld x0 r0_6) (View.ld x0 r0_7) y).trans ?_
  show moment (Value.E4 (F := Ideal) (View.ld x0 r0_0) (View.ld x0 r0_1) (View.ld x0 r0_2) (View.ld x0 r0_3) (View.ld x0 r0_4) (View.ld x0 r0_5) (View.ld x0 r0_6) (View.ld x0 r0_7) y) (x2 (Value.ix5_0 y)) = _
  rw [sum_loads, same]

theorem tile7 (x0 : Vec Ideal S8x385x1024 .bf16) (x1 x2 x3 : Vec Ideal S1x385x1024 .f32) (y : S1x385x1024.Idx) : out0_7 x0 x1 x2 x3 y = square (part x0 y) (x3 y) := by
  unfold out0_7
  rw [show View.ld x3 r0_8 = x3 from View.ld_unit_zero (S := S1x385x1024) Cert.Ad.zero3 _ x3]
  unfold k0_pay8
  refine (Value.canon7_eq (F := Ideal) x3 (View.ld x0 r0_0) (View.ld x0 r0_1) (View.ld x0 r0_2) (View.ld x0 r0_3) (View.ld x0 r0_4) (View.ld x0 r0_5) (View.ld x0 r0_6) (View.ld x0 r0_7) y).trans ?_
  show square (Value.E4 (F := Ideal) (View.ld x0 r0_0) (View.ld x0 r0_1) (View.ld x0 r0_2) (View.ld x0 r0_3) (View.ld x0 r0_4) (View.ld x0 r0_5) (View.ld x0 r0_6) (View.ld x0 r0_7) y) (x3 (Value.ix5_0 y)) = _
  rw [sum_loads, same]

theorem mem4 (t : Fin cfg0.N) (i : S1x385x1024.Idx) (h0 : t.val = (i 1).val / 385) : i ∈ ((cfg0.win 4).blk t).view.set := by
  show i ∈ ((View.whole main_v0_0).slice (win0_4.rect t)).set
  rw [View.set_slice_whole, Rect.mem_set_unit]
  intro a
  rw [xsize4]
  match a with
  | ⟨0, _⟩ =>
    have h1 : (i 0).val < 1 := (i 0).isLt
    show win0_4.index t 0 * 1 ≤ (i 0).val ∧ (i 0).val < win0_4.index t 0 * 1 + 1
    rw [index4]
    show 0 * 1 ≤ (i 0).val ∧ (i 0).val < 0 * 1 + 1
    omega
  | ⟨1, _⟩ =>
    show win0_4.index t 1 * 385 ≤ (i 1).val ∧ (i 1).val < win0_4.index t 1 * 385 + 385
    rw [index4]
    show t.val * 385 ≤ (i 1).val ∧ (i 1).val < t.val * 385 + 385
    omega
  | ⟨2, _⟩ =>
    have h1 : (i 2).val < 1024 := (i 2).isLt
    show win0_4.index t 2 * 1024 ≤ (i 2).val ∧ (i 2).val < win0_4.index t 2 * 1024 + 1024
    rw [index4]
    show 0 * 1024 ≤ (i 2).val ∧ (i 2).val < 0 * 1024 + 1024
    omega

/-- The whole result: the summed gradient. -/
theorem res4 (i : S1x385x1024.Idx) : (dats m 0 c).arrAt 4 cfg0.N i = total (pieces m c) i := by
  have h0 : (i 1).val < 385 := (i 1).isLt
  have hN : cfg0.N = 1 := N_0
  refine (dats m 0 c).arrAt_apply_of_mem 4 (fun i : S1x385x1024.Idx => total (pieces m c) i) ?_ cfg0.N ⟨(i 1).val / 385, by omega⟩ i (by show (i 1).val / 385 < _; omega) (flush0_4 _) (mem4 _ i rfl)
  intro t _
  rw [Value.flushed4]
  funext y
  refine (tile4 (iblk m c 0 t) (iblk m c 1 t) (iblk m c 2 t) (iblk m c 3 t) y).trans ?_
  show _ = (fun i : S1x385x1024.Idx => total (pieces m c) i) ((win0_4.rect t).emb y)
  rw [emb4, part_blk]

theorem mem5 (t : Fin cfg0.N) (i : S1x385x1024.Idx) (h0 : t.val = (i 1).val / 385) : i ∈ ((cfg0.win 5).blk t).view.set := by
  show i ∈ ((View.whole main_v0_1).slice (win0_5.rect t)).set
  rw [View.set_slice_whole]
  have h : i ∈ ((View.whole main_v0_0).slice (win0_4.rect t)).set := mem4 t i h0
  rw [View.set_slice_whole] at h
  exact h

/-- The whole result: what is added to the weights. -/
theorem res5 (i : S1x385x1024.Idx) : (dats m 0 c).arrAt 5 cfg0.N i = change (total (pieces m c) i) (weight m c i) (first m c i) (second m c i) := by
  have h0 : (i 1).val < 385 := (i 1).isLt
  have hN : cfg0.N = 1 := N_0
  refine (dats m 0 c).arrAt_apply_of_mem 5 (fun i : S1x385x1024.Idx => change (total (pieces m c) i) (weight m c i) (first m c i) (second m c i)) ?_ cfg0.N ⟨(i 1).val / 385, by omega⟩ i (by show (i 1).val / 385 < _; omega) (flush0_5 _) (mem5 _ i rfl)
  intro t _
  rw [Value.flushed5]
  funext y
  refine (tile5 (iblk m c 0 t) (iblk m c 1 t) (iblk m c 2 t) (iblk m c 3 t) y).trans ?_
  show _ = (fun i : S1x385x1024.Idx => change (total (pieces m c) i) (weight m c i) (first m c i) (second m c i)) ((win0_5.rect t).emb y)
  rw [emb5, part_blk, blk1, blk2, blk3]

theorem mem6 (t : Fin cfg0.N) (i : S1x385x1024.Idx) (h0 : t.val = (i 1).val / 385) : i ∈ ((cfg0.win 6).blk t).view.set := by
  show i ∈ ((View.whole main_v0_2).slice (win0_6.rect t)).set
  rw [View.set_slice_whole]
  have h : i ∈ ((View.whole main_v0_0).slice (win0_4.rect t)).set := mem4 t i h0
  rw [View.set_slice_whole] at h
  exact h

/-- The whole result: the first moments. -/
theorem res6 (i : S1x385x1024.Idx) : (dats m 0 c).arrAt 6 cfg0.N i = moment (total (pieces m c) i) (first m c i) := by
  have h0 : (i 1).val < 385 := (i 1).isLt
  have hN : cfg0.N = 1 := N_0
  refine (dats m 0 c).arrAt_apply_of_mem 6 (fun i : S1x385x1024.Idx => moment (total (pieces m c) i) (first m c i)) ?_ cfg0.N ⟨(i 1).val / 385, by omega⟩ i (by show (i 1).val / 385 < _; omega) (flush0_6 _) (mem6 _ i rfl)
  intro t _
  rw [Value.flushed6]
  funext y
  refine (tile6 (iblk m c 0 t) (iblk m c 1 t) (iblk m c 2 t) (iblk m c 3 t) y).trans ?_
  show _ = (fun i : S1x385x1024.Idx => moment (total (pieces m c) i) (first m c i)) ((win0_6.rect t).emb y)
  rw [emb6, part_blk, blk2]

theorem mem7 (t : Fin cfg0.N) (i : S1x385x1024.Idx) (h0 : t.val = (i 1).val / 385) : i ∈ ((cfg0.win 7).blk t).view.set := by
  show i ∈ ((View.whole main_v0_3).slice (win0_7.rect t)).set
  rw [View.set_slice_whole]
  have h : i ∈ ((View.whole main_v0_0).slice (win0_4.rect t)).set := mem4 t i h0
  rw [View.set_slice_whole] at h
  exact h

/-- The whole result: the second moments. -/
theorem res7 (i : S1x385x1024.Idx) : (dats m 0 c).arrAt 7 cfg0.N i = square (total (pieces m c) i) (second m c i) := by
  have h0 : (i 1).val < 385 := (i 1).isLt
  have hN : cfg0.N = 1 := N_0
  refine (dats m 0 c).arrAt_apply_of_mem 7 (fun i : S1x385x1024.Idx => square (total (pieces m c) i) (second m c i)) ?_ cfg0.N ⟨(i 1).val / 385, by omega⟩ i (by show (i 1).val / 385 < _; omega) (flush0_7 _) (mem7 _ i rfl)
  intro t _
  rw [Value.flushed7]
  funext y
  refine (tile7 (iblk m c 0 t) (iblk m c 1 t) (iblk m c 2 t) (iblk m c 3 t) y).trans ?_
  show _ = (fun i : S1x385x1024.Idx => square (total (pieces m c) i) (second m c i)) ((win0_7.rect t).emb y)
  rw [emb7, part_blk, blk3]

end Cert.Kernel15Ideal.Ad

namespace Cert.Proof.Ad15

open Idealize.ShloMosaic Idealize.ShloMosaic.TcCoe Idealize.ShloMosaic.StableHlo Idealize.SL.Sem ValueIdx
open Cert.Ad Cert.Mm

theorem sum_apply (x0 : Cert.Reference15Ideal.S8x385x1024.Idx → EReal) (i : Cert.Reference15Ideal.S1x385x1024.Idx) : Cert.Reference15Ideal.Read.val_main_v2 (F := Ideal) x0 i = Cert.Kernel15Ideal.Ad.total x0 i := by
  rw [Cert.Reference15Ideal.Read.val_main_v2_apply, Cert.Reference15Ideal.Read.val_main_v1_apply, Cert.Reference15Ideal.Read.val_main_cst_apply, Ideal.ofBits_def, Ideal.ofBits_zero_f32, zero_add]
  refine Finset.sum_congr rfl fun d _ => congrArg x0 (funext fun a => Fin.ext ?_)
  match a with
  | ⟨0, _⟩ => rfl
  | ⟨1, _⟩ =>
    have h0 : (i 0).val < 1 := (i 0).isLt
    have h2 : (i 2).val < 1024 := (i 2).isLt
    show (((i 0).val * 385 + (i 1).val) * 1024 + (i 2).val) / 1024 = (i 1).val
    omega
  | ⟨2, _⟩ =>
    have h2 : (i 2).val < 1024 := (i 2).isLt
    show (((i 0).val * 385 + (i 1).val) * 1024 + (i 2).val) % 1024 = (i 2).val
    omega

theorem moment_apply (x0 : Cert.Reference15Ideal.S8x385x1024.Idx → EReal) (x2 : Cert.Reference15Ideal.S1x385x1024.Idx → EReal) (i : Cert.Reference15Ideal.S1x385x1024.Idx) :
    Cert.Reference15Ideal.Read.val_main_v7 (F := Ideal) x0 x2 i = moment (Cert.Kernel15Ideal.Ad.total x0 i) (x2 i) := by
  rw [Cert.Reference15Ideal.Read.val_main_v7_apply, Cert.Reference15Ideal.Read.val_main_v4_apply, Cert.Reference15Ideal.Read.val_main_v6_apply, Cert.Reference15Ideal.Read.val_main_v3_apply, Cert.Reference15Ideal.Read.val_main_v5_apply, Cert.Reference15Ideal.Read.val_main_cst_0_apply, Cert.Reference15Ideal.Read.val_main_cst_1_apply, sum_apply]
  rfl

theorem square_apply (x0 : Cert.Reference15Ideal.S8x385x1024.Idx → EReal) (x3 : Cert.Reference15Ideal.S1x385x1024.Idx → EReal) (i : Cert.Reference15Ideal.S1x385x1024.Idx) :
    Cert.Reference15Ideal.Read.val_main_v13 (F := Ideal) x0 x3 i = square (Cert.Kernel15Ideal.Ad.total x0 i) (x3 i) := by
  rw [Cert.Reference15Ideal.Read.val_main_v13_apply, Cert.Reference15Ideal.Read.val_main_v9_apply, Cert.Reference15Ideal.Read.val_main_v12_apply, Cert.Reference15Ideal.Read.val_main_v8_apply, Cert.Reference15Ideal.Read.val_main_v11_apply, Cert.Reference15Ideal.Read.val_main_v10_apply, Cert.Reference15Ideal.Read.val_main_cst_2_apply, Cert.Reference15Ideal.Read.val_main_cst_3_apply, sum_apply]
  rfl

theorem change_apply (x0 : Cert.Reference15Ideal.S8x385x1024.Idx → EReal) (x1 x2 x3 : Cert.Reference15Ideal.S1x385x1024.Idx → EReal) (i : Cert.Reference15Ideal.S1x385x1024.Idx) :
    Cert.Reference15Ideal.Read.val_main_v26 (F := Ideal) x0 x1 x2 x3 i = change (Cert.Kernel15Ideal.Ad.total x0 i) (x1 i) (x2 i) (x3 i) := by
  rw [Cert.Reference15Ideal.Read.val_main_v26_apply, Cert.Reference15Ideal.Read.val_main_v25_apply, Cert.Reference15Ideal.Read.val_main_v24_apply, Cert.Reference15Ideal.Read.val_main_v23_apply, Cert.Reference15Ideal.Read.val_main_v22_apply, Cert.Reference15Ideal.Read.val_main_v21_apply, Cert.Reference15Ideal.Read.val_main_v20_apply, Cert.Reference15Ideal.Read.val_main_v19_apply, Cert.Reference15Ideal.Read.val_main_v18_apply, Cert.Reference15Ideal.Read.val_main_v17_apply, Cert.Reference15Ideal.Read.val_main_v16_apply, Cert.Reference15Ideal.Read.val_main_v15_apply, Cert.Reference15Ideal.Read.val_main_v14_apply, Cert.Reference15Ideal.Read.val_main_cst_4_apply, Cert.Reference15Ideal.Read.val_main_cst_5_apply, Cert.Reference15Ideal.Read.val_main_cst_6_apply, Cert.Reference15Ideal.Read.val_main_cst_7_apply, Cert.Reference15Ideal.Read.val_main_cst_8_apply, moment_apply, square_apply]
  rfl

theorem frame_reference : Cert.quiescent_Reference15Ideal := by
  intro m ρ _
  exact (θ_run Cert.Reference15Ideal.defs _ _).mono (fun r h => ⟨fun c => (h c).2.2.2.2, sem_eq_zero_of_no_sems (by decide) r.2⟩)
    (Cert.Reference15Ideal.Value.run (F := Ideal) m ρ)

theorem algebraic : Cert.algebraic_Kernel15Ideal_Reference15Ideal := by
  intro m g m' g' _ ha
  refine ⟨fun c (i : Cert.Kernel15Ideal.S1x385x1024.Idx) => Cert.Kernel15Ideal.Ad.total (Cert.Kernel15Ideal.Ad.pieces m c) i,
    fun c (i : Cert.Kernel15Ideal.S1x385x1024.Idx) => change (Cert.Kernel15Ideal.Ad.total (Cert.Kernel15Ideal.Ad.pieces m c) i) (Cert.Kernel15Ideal.Ad.weight m c i) (Cert.Kernel15Ideal.Ad.first m c i) (Cert.Kernel15Ideal.Ad.second m c i),
    fun c (i : Cert.Kernel15Ideal.S1x385x1024.Idx) => moment (Cert.Kernel15Ideal.Ad.total (Cert.Kernel15Ideal.Ad.pieces m c) i) (Cert.Kernel15Ideal.Ad.first m c i),
    fun c (i : Cert.Kernel15Ideal.S1x385x1024.Idx) => square (Cert.Kernel15Ideal.Ad.total (Cert.Kernel15Ideal.Ad.pieces m c) i) (Cert.Kernel15Ideal.Ad.second m c i), ?_, ?_⟩
  · refine (θ_run Cert.Kernel15Ideal.defs _ _).mono (fun r h c => ?_) (Cert.Kernel15Ideal.Value.run_blocks (F := Ideal) m g)
    obtain ⟨r4, r5, r6, r7, hargs⟩ := h c
    exact ⟨r4.trans (funext fun i => Cert.Kernel15Ideal.Ad.res4 m c i), r5.trans (funext fun i => Cert.Kernel15Ideal.Ad.res5 m c i), r6.trans (funext fun i => Cert.Kernel15Ideal.Ad.res6 m c i), r7.trans (funext fun i => Cert.Kernel15Ideal.Ad.res7 m c i), hargs⟩
  · refine (θ_run Cert.Reference15Ideal.defs _ _).mono (fun r h c => ?_) (Cert.Reference15Ideal.Value.run (F := Ideal) m' g')
    obtain ⟨r4, r5, r6, r7, hargs⟩ := h c
    obtain ⟨a0, a1, a2, a3⟩ := ha c
    refine ⟨r4.trans ((Cert.Reference15Ideal.Read.val_main_v2_eq _).trans (funext fun i => ?_)), r5.trans ((Cert.Reference15Ideal.Read.val_main_v26_eq _ _ _ _).trans (funext fun i => ?_)),
      r6.trans ((Cert.Reference15Ideal.Read.val_main_v7_eq _ _).trans (funext fun i => ?_)), r7.trans ((Cert.Reference15Ideal.Read.val_main_v13_eq _ _).trans (funext fun i => ?_)), hargs⟩
    · refine (sum_apply _ i).trans ?_
      rw [a0]
    · refine (change_apply _ _ _ _ i).trans ?_
      rw [a0, a1, a2, a3]
    · refine (moment_apply _ _ i).trans ?_
      rw [a0, a2]
    · refine (square_apply _ _ i).trans ?_
      rw [a0, a3]

end Cert.Proof.Ad15

end
-- ==== Proof.Ad16.lean ====
/- The optimiser step of the packed small weights: the kernel sums the eight received pieces one after the other, the reference sums them at once. -/
module

public import proofs.«01_k».proof.Defs
public import proofs.«01_k».proof.Proof.Gen.Kernel16Ideal.Value
public import proofs.«01_k».proof.Proof.Gen.Reference16Ideal.Run
public import proofs.«01_k».proof.Proof.Gen.Reference16Ideal.Read
public import proofs.«01_k».proof.Proof.Ad

@[expose] public section

set_option maxRecDepth 16384

noncomputable section

namespace Cert.Kernel16Ideal.Ad

open Cert.Kernel16Ideal Cert.Kernel16Ideal.Gen Idealize.ShloMosaic Idealize.ShloMosaic.TcCoe Idealize.SL.Sem ValueIdx
open Cert.Ad Cert.Mm

variable (m : (ℓ : Loc nD τ sig) → Buf (Elt Ideal) ℓ) (c : Dev nD)

theorem index0 : ∀ t : Fin cfg0.N, win0_0.index t = ![0, t.val, 0] :=
  (by decide +kernel : ∀ t : Fin grid0.N, win0_0.index t = ![0, t.val, 0])
theorem index1 : ∀ t : Fin cfg0.N, win0_1.index t = ![t.val, 0] :=
  (by decide +kernel : ∀ t : Fin grid0.N, win0_1.index t = ![t.val, 0])
theorem index4 : ∀ t : Fin cfg0.N, win0_4.index t = ![t.val, 0] :=
  (by decide +kernel : ∀ t : Fin grid0.N, win0_4.index t = ![t.val, 0])
theorem xsize4 : ∀ t : Fin cfg0.N, ∀ a, win0_4.xsize (grid0.coords t) a = S80x1024.size a :=
  (by decide +kernel : ∀ t : Fin grid0.N, ∀ a, win0_4.xsize (grid0.coords t) a = S80x1024.size a)

/-- The pieces received from the devices. -/
abbrev pieces : S8x80x1024.Idx → EReal := V m c main_arg0
/-- The weights. -/
abbrev weight : S80x1024.Idx → EReal := V m c main_arg1
/-- The first moments. -/
abbrev first : S80x1024.Idx → EReal := V m c main_arg2
/-- The second moments. -/
abbrev second : S80x1024.Idx → EReal := V m c main_arg3

/-- The sum of the received pieces at one weight. -/
def total (x : S8x80x1024.Idx → EReal) (i : S80x1024.Idx) : EReal := ∑ d : Fin 8, x (ix3 d (i 0) (i 1))

/-- The weight that index `y` of block `t` holds. -/
abbrev place (t : Fin cfg0.N) (y : S80x1024.Idx) : S80x1024.Idx := ix2 ⟨80 * t.val + (y 0).val, by have := t.isLt; have h0 : (y 0).val < 80 := (y 0).isLt; have hN : cfg0.N = 1 := N_0; omega⟩ (y 1)

theorem emb1 (t : Fin cfg0.N) (y : S80x1024.Idx) : (win0_1.rect t).emb y = place t y := by
  have e0 : ((win0_1.rect t).emb y 0 : ℕ) = 80 * t.val + (y 0).val := by
    rw [Pipeline.Window.rect_emb_val win0_1 t y 0 rfl, index1]
    show t.val * 80 + _ = _
    omega
  have e1 : ((win0_1.rect t).emb y 1 : ℕ) = (y 1).val := by
    rw [Pipeline.Window.rect_emb_val win0_1 t y 1 rfl, index1]
    show 0 * 1024 + _ = _
    omega
  funext a
  apply Fin.ext
  match a with
  | ⟨0, _⟩ => exact e0
  | ⟨1, _⟩ => exact e1

theorem emb2 (t : Fin cfg0.N) (y : S80x1024.Idx) : (win0_2.rect t).emb y = place t y := emb1 t y

theorem emb3 (t : Fin cfg0.N) (y : S80x1024.Idx) : (win0_3.rect t).emb y = place t y := emb1 t y

theorem emb4 (t : Fin cfg0.N) (y : S80x1024.Idx) : (win0_4.rect t).emb y = place t y := emb1 t y

theorem emb5 (t : Fin cfg0.N) (y : S80x1024.Idx) : (win0_5.rect t).emb y = place t y := emb1 t y

theorem emb6 (t : Fin cfg0.N) (y : S80x1024.Idx) : (win0_6.rect t).emb y = place t y := emb1 t y

theorem emb7 (t : Fin cfg0.N) (y : S80x1024.Idx) : (win0_7.rect t).emb y = place t y := emb1 t y

theorem blk0 (t : Fin cfg0.N) (d : Fin 8) (y : S80x1024.Idx) : iblk m c 0 t (ix3 d (y 0) (y 1) : S8x80x1024.Idx) = pieces m c (ix3 d (place t y 0) (place t y 1)) := by
  have e0 : ((win0_0.rect t).emb (ix3 d (y 0) (y 1) : S8x80x1024.Idx) 0 : ℕ) = d.val := by
    rw [Pipeline.Window.rect_emb_val win0_0 t _ 0 rfl, index0]
    show 0 * 8 + d.val = _
    omega
  have e1 : ((win0_0.rect t).emb (ix3 d (y 0) (y 1) : S8x80x1024.Idx) 1 : ℕ) = 80 * t.val + (y 0).val := by
    rw [Pipeline.Window.rect_emb_val win0_0 t _ 1 rfl, index0]
    show t.val * 80 + (y 0).val = _
    omega
  have e2 : ((win0_0.rect t).emb (ix3 d (y 0) (y 1) : S8x80x1024.Idx) 2 : ℕ) = (y 1).val := by
    rw [Pipeline.Window.rect_emb_val win0_0 t _ 2 rfl, index0]
    show 0 * 1024 + (y 1).val = _
    omega
  refine congrArg (pieces m c) (funext fun a => Fin.ext ?_)
  match a with
  | ⟨0, _⟩ => exact e0
  | ⟨1, _⟩ => exact e1
  | ⟨2, _⟩ => exact e2

theorem blk1 (t : Fin cfg0.N) (y : S80x1024.Idx) : iblk m c 1 t y = weight m c (place t y) := congrArg (weight m c) (emb1 t y)
theorem blk2 (t : Fin cfg0.N) (y : S80x1024.Idx) : iblk m c 2 t y = first m c (place t y) := congrArg (first m c) (emb2 t y)
theorem blk3 (t : Fin cfg0.N) (y : S80x1024.Idx) : iblk m c 3 t y = second m c (place t y) := congrArg (second m c) (emb3 t y)

/-- The sum of the pieces within one block. -/
def part (x : S8x80x1024.Idx → EReal) (y : S80x1024.Idx) : EReal := ∑ d : Fin 8, x (ix3 d (y 0) (y 1))

theorem part_blk (t : Fin cfg0.N) (y : S80x1024.Idx) : part (iblk m c 0 t) y = total (pieces m c) (place t y) :=
  Finset.sum_congr rfl fun d _ => blk0 m c t d y

theorem load0 (x : Vec Ideal S8x80x1024 .f32) (y : S80x1024.Idx) : View.ld x r0_0 (Value.ix4_0 y) = x (ix3 (0 : Fin 8) (y 0) (y 1)) :=
  congrArg x (eq3 rfl (unit_val _) (unit_val _))
theorem load1 (x : Vec Ideal S8x80x1024 .f32) (y : S80x1024.Idx) : View.ld x r0_1 (Value.ix4_1 y) = x (ix3 (1 : Fin 8) (y 0) (y 1)) :=
  congrArg x (eq3 rfl (unit_val _) (unit_val _))
theorem load2 (x : Vec Ideal S8x80x1024 .f32) (y : S80x1024.Idx) : View.ld x r0_2 (Value.ix4_2 y) = x (ix3 (2 : Fin 8) (y 0) (y 1)) :=
  congrArg x (eq3 rfl (unit_val _) (unit_val _))
theorem load3 (x : Vec Ideal S8x80x1024 .f32) (y : S80x1024.Idx) : View.ld x r0_3 (Value.ix4_3 y) = x (ix3 (3 : Fin 8) (y 0) (y 1)) :=
  congrArg x (eq3 rfl (unit_val _) (unit_val _))
theorem load4 (x : Vec Ideal S8x80x1024 .f32) (y : S80x1024.Idx) : View.ld x r0_4 (Value.ix4_4 y) = x (ix3 (4 : Fin 8) (y 0) (y 1)) :=
  congrArg x (eq3 rfl (unit_val _) (unit_val _))
theorem load5 (x : Vec Ideal S8x80x1024 .f32) (y : S80x1024.Idx) : View.ld x r0_5 (Value.ix4_5 y) = x (ix3 (5 : Fin 8) (y 0) (y 1)) :=
  congrArg x (eq3 rfl (unit_val _) (unit_val _))
theorem load6 (x : Vec Ideal S8x80x1024 .f32) (y : S80x1024.Idx) : View.ld x r0_6 (Value.ix4_6 y) = x (ix3 (6 : Fin 8) (y 0) (y 1)) :=
  congrArg x (eq3 rfl (unit_val _) (unit_val _))
theorem load7 (x : Vec Ideal S8x80x1024 .f32) (y : S80x1024.Idx) : View.ld x r0_7 (Value.ix4_7 y) = x (ix3 (7 : Fin 8) (y 0) (y 1)) :=
  congrArg x (eq3 rfl (unit_val _) (unit_val _))

theorem sum_loads (x : Vec Ideal S8x80x1024 .f32) (y : S80x1024.Idx) : Value.E4 (F := Ideal) (View.ld x r0_0) (View.ld x r0_1) (View.ld x r0_2) (View.ld x r0_3) (View.ld x r0_4) (View.ld x r0_5) (View.ld x r0_6) (View.ld x r0_7) y = part x y := by
  have h01 := congrArg₂ (fun a b : EReal => a + b) (load0 x y) (load1 x y)
  have h02 := congrArg₂ (fun a b : EReal => a + b) h01 (load2 x y)
  have h03 := congrArg₂ (fun a b : EReal => a + b) h02 (load3 x y)
  have h04 := congrArg₂ (fun a b : EReal => a + b) h03 (load4 x y)
  have h05 := congrArg₂ (fun a b : EReal => a + b) h04 (load5 x y)
  have h06 := congrArg₂ (fun a b : EReal => a + b) h05 (load6 x y)
  have h07 := congrArg₂ (fun a b : EReal => a + b) h06 (load7 x y)
  exact h07.trans (Fin.sum_univ_eight (fun d : Fin 8 => x (ix3 d (y 0) (y 1)))).symm

theorem same (y : S80x1024.Idx) : Value.ix5_0 y = y := by
  funext a
  apply Fin.ext
  match a with
  | ⟨0, _⟩ => rfl
  | ⟨1, _⟩ => rfl

theorem tile4 (x0 : Vec Ideal S8x80x1024 .f32) (x1 x2 x3 : Vec Ideal S80x1024 .f32) (y : S80x1024.Idx) : out0_4 x0 x1 x2 x3 y = part x0 y := by
  unfold out0_4 k0_pay5
  exact (Value.canon4_eq (F := Ideal) (View.ld x0 r0_0) (View.ld x0 r0_1) (View.ld x0 r0_2) (View.ld x0 r0_3) (View.ld x0 r0_4) (View.ld x0 r0_5) (View.ld x0 r0_6) (View.ld x0 r0_7) y).trans (sum_loads x0 y)

theorem tile5 (x0 : Vec Ideal S8x80x1024 .f32) (x1 x2 x3 : Vec Ideal S80x1024 .f32) (y : S80x1024.Idx) : out0_5 x0 x1 x2 x3 y = change (part x0 y) (x1 y) (x2 y) (x3 y) := by
  unfold out0_5 k0_pay6
  rw [show View.ld x1 r0_8 = x1 from View.ld_unit_zero (S := S80x1024) zero2 _ x1, show View.ld x2 r0_8 = x2 from View.ld_unit_zero (S := S80x1024) zero2 _ x2, show View.ld x3 r0_8 = x3 from View.ld_unit_zero (S := S80x1024) zero2 _ x3]
  unfold k0_pay5
  refine (Value.canon5_eq (F := Ideal) x2 (View.ld x0 r0_0) (View.ld x0 r0_1) (View.ld x0 r0_2) (View.ld x0 r0_3) (View.ld x0 r0_4) (View.ld x0 r0_5) (View.ld x0 r0_6) (View.ld x0 r0_7) x3 x1 y).trans ?_
  show change (Value.E4 (F := Ideal) (View.ld x0 r0_0) (View.ld x0 r0_1) (View.ld x0 r0_2) (View.ld x0 r0_3) (View.ld x0 r0_4) (View.ld x0 r0_5) (View.ld x0 r0_6) (View.ld x0 r0_7) y) (x1 (Value.ix5_0 y)) (x2 (Value.ix5_0 y)) (x3 (Value.ix5_0 y)) = _
  rw [sum_loads, same]

theorem tile6 (x0 : Vec Ideal S8x80x1024 .f32) (x1 x2 x3 : Vec Ideal S80x1024 .f32) (y : S80x1024.Idx) : out0_6 x0 x1 x2 x3 y = moment (part x0 y) (x2 y) := by
  unfold out0_6 k0_pay6
  rw [show View.ld x2 r0_8 = x2 from View.ld_unit_zero (S := S80x1024) zero2 _ x2]
  refine (Value.canon6_eq (F := Ideal) x2 (View.ld x0 r0_0) (View.ld x0 r0_1) (View.ld x0 r0_2) (View.ld x0 r0_3) (View.ld x0 r0_4) (View.ld x0 r0_5) (View.ld x0 r0_6) (View.ld x0 r0_7) y).trans ?_
  show moment (Value.E4 (F := Ideal) (View.ld x0 r0_0) (View.ld x0 r0_1) (View.ld x0 r0_2) (View.ld x0 r0_3) (View.ld x0 r0_4) (View.ld x0 r0_5) (View.ld x0 r0_6) (View.ld x0 r0_7) y) (x2 (Value.ix5_0 y)) = _
  rw [sum_loads, same]

theorem tile7 (x0 : Vec Ideal S8x80x1024 .f32) (x1 x2 x3 : Vec Ideal S80x1024 .f32) (y : S80x1024.Idx) : out0_7 x0 x1 x2 x3 y = square (part x0 y) (x3 y) := by
  unfold out0_7
  rw [show View.ld x3 r0_8 = x3 from View.ld_unit_zero (S := S80x1024) zero2 _ x3]
  unfold k0_pay5
  refine (Value.canon7_eq (F := Ideal) x3 (View.ld x0 r0_0) (View.ld x0 r0_1) (View.ld x0 r0_2) (View.ld x0 r0_3) (View.ld x0 r0_4) (View.ld x0 r0_5) (View.ld x0 r0_6) (View.ld x0 r0_7) y).trans ?_
  show square (Value.E4 (F := Ideal) (View.ld x0 r0_0) (View.ld x0 r0_1) (View.ld x0 r0_2) (View.ld x0 r0_3) (View.ld x0 r0_4) (View.ld x0 r0_5) (View.ld x0 r0_6) (View.ld x0 r0_7) y) (x3 (Value.ix5_0 y)) = _
  rw [sum_loads, same]

theorem mem4 (t : Fin cfg0.N) (i : S80x1024.Idx) (h0 : t.val = (i 0).val / 80) : i ∈ ((cfg0.win 4).blk t).view.set := by
  show i ∈ ((View.whole main_v0_0).slice (win0_4.rect t)).set
  rw [View.set_slice_whole, Rect.mem_set_unit]
  intro a
  rw [xsize4]
  match a with
  | ⟨0, _⟩ =>
    show win0_4.index t 0 * 80 ≤ (i 0).val ∧ (i 0).val < win0_4.index t 0 * 80 + 80
    rw [index4]
    show t.val * 80 ≤ (i 0).val ∧ (i 0).val < t.val * 80 + 80
    omega
  | ⟨1, _⟩ =>
    have h1 : (i 1).val < 1024 := (i 1).isLt
    show win0_4.index t 1 * 1024 ≤ (i 1).val ∧ (i 1).val < win0_4.index t 1 * 1024 + 1024
    rw [index4]
    show 0 * 1024 ≤ (i 1).val ∧ (i 1).val < 0 * 1024 + 1024
    omega

/-- The whole result: the summed gradient. -/
theorem res4 (i : S80x1024.Idx) : (dats m 0 c).arrAt 4 cfg0.N i = total (pieces m c) i := by
  have h0 : (i 0).val < 80 := (i 0).isLt
  have hN : cfg0.N = 1 := N_0
  refine (dats m 0 c).arrAt_apply_of_mem 4 (fun i : S80x1024.Idx => total (pieces m c) i) ?_ cfg0.N ⟨(i 0).val / 80, by omega⟩ i (by show (i 0).val / 80 < _; omega) (flush0_4 _) (mem4 _ i rfl)
  intro t _
  rw [Value.flushed4]
  funext y
  refine (tile4 (iblk m c 0 t) (iblk m c 1 t) (iblk m c 2 t) (iblk m c 3 t) y).trans ?_
  show _ = (fun i : S80x1024.Idx => total (pieces m c) i) ((win0_4.rect t).emb y)
  rw [emb4, part_blk]

theorem mem5 (t : Fin cfg0.N) (i : S80x1024.Idx) (h0 : t.val = (i 0).val / 80) : i ∈ ((cfg0.win 5).blk t).view.set := by
  show i ∈ ((View.whole main_v0_1).slice (win0_5.rect t)).set
  rw [View.set_slice_whole]
  have h : i ∈ ((View.whole main_v0_0).slice (win0_4.rect t)).set := mem4 t i h0
  rw [View.set_slice_whole] at h
  exact h

/-- The whole result: what is added to the weights. -/
theorem res5 (i : S80x1024.Idx) : (dats m 0 c).arrAt 5 cfg0.N i = change (total (pieces m c) i) (weight m c i) (first m c i) (second m c i) := by
  have h0 : (i 0).val < 80 := (i 0).isLt
  have hN : cfg0.N = 1 := N_0
  refine (dats m 0 c).arrAt_apply_of_mem 5 (fun i : S80x1024.Idx => change (total (pieces m c) i) (weight m c i) (first m c i) (second m c i)) ?_ cfg0.N ⟨(i 0).val / 80, by omega⟩ i (by show (i 0).val / 80 < _; omega) (flush0_5 _) (mem5 _ i rfl)
  intro t _
  rw [Value.flushed5]
  funext y
  refine (tile5 (iblk m c 0 t) (iblk m c 1 t) (iblk m c 2 t) (iblk m c 3 t) y).trans ?_
  show _ = (fun i : S80x1024.Idx => change (total (pieces m c) i) (weight m c i) (first m c i) (second m c i)) ((win0_5.rect t).emb y)
  rw [emb5, part_blk, blk1, blk2, blk3]

theorem mem6 (t : Fin cfg0.N) (i : S80x1024.Idx) (h0 : t.val = (i 0).val / 80) : i ∈ ((cfg0.win 6).blk t).view.set := by
  show i ∈ ((View.whole main_v0_2).slice (win0_6.rect t)).set
  rw [View.set_slice_whole]
  have h : i ∈ ((View.whole main_v0_0).slice (win0_4.rect t)).set := mem4 t i h0
  rw [View.set_slice_whole] at h
  exact h

/-- The whole result: the first moments. -/
theorem res6 (i : S80x1024.Idx) : (dats m 0 c).arrAt 6 cfg0.N i = moment (total (pieces m c) i) (first m c i) := by
  have h0 : (i 0).val < 80 := (i 0).isLt
  have hN : cfg0.N = 1 := N_0
  refine (dats m 0 c).arrAt_apply_of_mem 6 (fun i : S80x1024.Idx => moment (total (pieces m c) i) (first m c i)) ?_ cfg0.N ⟨(i 0).val / 80, by omega⟩ i (by show (i 0).val / 80 < _; omega) (flush0_6 _) (mem6 _ i rfl)
  intro t _
  rw [Value.flushed6]
  funext y
  refine (tile6 (iblk m c 0 t) (iblk m c 1 t) (iblk m c 2 t) (iblk m c 3 t) y).trans ?_
  show _ = (fun i : S80x1024.Idx => moment (total (pieces m c) i) (first m c i)) ((win0_6.rect t).emb y)
  rw [emb6, part_blk, blk2]

theorem mem7 (t : Fin cfg0.N) (i : S80x1024.Idx) (h0 : t.val = (i 0).val / 80) : i ∈ ((cfg0.win 7).blk t).view.set := by
  show i ∈ ((View.whole main_v0_3).slice (win0_7.rect t)).set
  rw [View.set_slice_whole]
  have h : i ∈ ((View.whole main_v0_0).slice (win0_4.rect t)).set := mem4 t i h0
  rw [View.set_slice_whole] at h
  exact h

/-- The whole result: the second moments. -/
theorem res7 (i : S80x1024.Idx) : (dats m 0 c).arrAt 7 cfg0.N i = square (total (pieces m c) i) (second m c i) := by
  have h0 : (i 0).val < 80 := (i 0).isLt
  have hN : cfg0.N = 1 := N_0
  refine (dats m 0 c).arrAt_apply_of_mem 7 (fun i : S80x1024.Idx => square (total (pieces m c) i) (second m c i)) ?_ cfg0.N ⟨(i 0).val / 80, by omega⟩ i (by show (i 0).val / 80 < _; omega) (flush0_7 _) (mem7 _ i rfl)
  intro t _
  rw [Value.flushed7]
  funext y
  refine (tile7 (iblk m c 0 t) (iblk m c 1 t) (iblk m c 2 t) (iblk m c 3 t) y).trans ?_
  show _ = (fun i : S80x1024.Idx => square (total (pieces m c) i) (second m c i)) ((win0_7.rect t).emb y)
  rw [emb7, part_blk, blk3]

end Cert.Kernel16Ideal.Ad

namespace Cert.Proof.Ad16

open Idealize.ShloMosaic Idealize.ShloMosaic.TcCoe Idealize.ShloMosaic.StableHlo Idealize.SL.Sem ValueIdx
open Cert.Ad Cert.Mm

theorem sum_apply (x0 : Cert.Reference16Ideal.S8x80x1024.Idx → EReal) (i : Cert.Reference16Ideal.S80x1024.Idx) : Cert.Reference16Ideal.Read.val_main_v0 (F := Ideal) x0 i = Cert.Kernel16Ideal.Ad.total x0 i := by
  rw [Cert.Reference16Ideal.Read.val_main_v0_apply, Cert.Reference16Ideal.Read.val_main_cst_apply, Ideal.ofBits_def, Ideal.ofBits_zero_f32, zero_add]
  refine Finset.sum_congr rfl fun d _ => congrArg x0 (funext fun a => Fin.ext ?_)
  match a with
  | ⟨0, _⟩ => rfl
  | ⟨1, _⟩ => rfl
  | ⟨2, _⟩ => rfl

theorem moment_apply (x0 : Cert.Reference16Ideal.S8x80x1024.Idx → EReal) (x2 : Cert.Reference16Ideal.S80x1024.Idx → EReal) (i : Cert.Reference16Ideal.S80x1024.Idx) :
    Cert.Reference16Ideal.Read.val_main_v5 (F := Ideal) x0 x2 i = moment (Cert.Kernel16Ideal.Ad.total x0 i) (x2 i) := by
  rw [Cert.Reference16Ideal.Read.val_main_v5_apply, Cert.Reference16Ideal.Read.val_main_v2_apply, Cert.Reference16Ideal.Read.val_main_v4_apply, Cert.Reference16Ideal.Read.val_main_v1_apply, Cert.Reference16Ideal.Read.val_main_v3_apply, Cert.Reference16Ideal.Read.val_main_cst_0_apply, Cert.Reference16Ideal.Read.val_main_cst_1_apply, sum_apply]
  rfl

theorem square_apply (x0 : Cert.Reference16Ideal.S8x80x1024.Idx → EReal) (x3 : Cert.Reference16Ideal.S80x1024.Idx → EReal) (i : Cert.Reference16Ideal.S80x1024.Idx) :
    Cert.Reference16Ideal.Read.val_main_v11 (F := Ideal) x0 x3 i = square (Cert.Kernel16Ideal.Ad.total x0 i) (x3 i) := by
  rw [Cert.Reference16Ideal.Read.val_main_v11_apply, Cert.Reference16Ideal.Read.val_main_v7_apply, Cert.Reference16Ideal.Read.val_main_v10_apply, Cert.Reference16Ideal.Read.val_main_v6_apply, Cert.Reference16Ideal.Read.val_main_v9_apply, Cert.Reference16Ideal.Read.val_main_v8_apply, Cert.Reference16Ideal.Read.val_main_cst_2_apply, Cert.Reference16Ideal.Read.val_main_cst_3_apply, sum_apply]
  rfl

theorem change_apply (x0 : Cert.Reference16Ideal.S8x80x1024.Idx → EReal) (x1 x2 x3 : Cert.Reference16Ideal.S80x1024.Idx → EReal) (i : Cert.Reference16Ideal.S80x1024.Idx) :
    Cert.Reference16Ideal.Read.val_main_v24 (F := Ideal) x0 x1 x2 x3 i = change (Cert.Kernel16Ideal.Ad.total x0 i) (x1 i) (x2 i) (x3 i) := by
  rw [Cert.Reference16Ideal.Read.val_main_v24_apply, Cert.Reference16Ideal.Read.val_main_v23_apply, Cert.Reference16Ideal.Read.val_main_v22_apply, Cert.Reference16Ideal.Read.val_main_v21_apply, Cert.Reference16Ideal.Read.val_main_v20_apply, Cert.Reference16Ideal.Read.val_main_v19_apply, Cert.Reference16Ideal.Read.val_main_v18_apply, Cert.Reference16Ideal.Read.val_main_v17_apply, Cert.Reference16Ideal.Read.val_main_v16_apply, Cert.Reference16Ideal.Read.val_main_v15_apply, Cert.Reference16Ideal.Read.val_main_v14_apply, Cert.Reference16Ideal.Read.val_main_v13_apply, Cert.Reference16Ideal.Read.val_main_v12_apply, Cert.Reference16Ideal.Read.val_main_cst_4_apply, Cert.Reference16Ideal.Read.val_main_cst_5_apply, Cert.Reference16Ideal.Read.val_main_cst_6_apply, Cert.Reference16Ideal.Read.val_main_cst_7_apply, Cert.Reference16Ideal.Read.val_main_cst_8_apply, moment_apply, square_apply]
  rfl

theorem frame_reference : Cert.quiescent_Reference16Ideal := by
  intro m ρ _
  exact (θ_run Cert.Reference16Ideal.defs _ _).mono (fun r h => ⟨fun c => (h c).2.2.2.2, sem_eq_zero_of_no_sems (by decide) r.2⟩)
    (Cert.Reference16Ideal.Value.run (F := Ideal) m ρ)

theorem algebraic : Cert.algebraic_Kernel16Ideal_Reference16Ideal := by
  intro m g m' g' _ ha
  refine ⟨fun c (i : Cert.Kernel16Ideal.S80x1024.Idx) => Cert.Kernel16Ideal.Ad.total (Cert.Kernel16Ideal.Ad.pieces m c) i,
    fun c (i : Cert.Kernel16Ideal.S80x1024.Idx) => change (Cert.Kernel16Ideal.Ad.total (Cert.Kernel16Ideal.Ad.pieces m c) i) (Cert.Kernel16Ideal.Ad.weight m c i) (Cert.Kernel16Ideal.Ad.first m c i) (Cert.Kernel16Ideal.Ad.second m c i),
    fun c (i : Cert.Kernel16Ideal.S80x1024.Idx) => moment (Cert.Kernel16Ideal.Ad.total (Cert.Kernel16Ideal.Ad.pieces m c) i) (Cert.Kernel16Ideal.Ad.first m c i),
    fun c (i : Cert.Kernel16Ideal.S80x1024.Idx) => square (Cert.Kernel16Ideal.Ad.total (Cert.Kernel16Ideal.Ad.pieces m c) i) (Cert.Kernel16Ideal.Ad.second m c i), ?_, ?_⟩
  · refine (θ_run Cert.Kernel16Ideal.defs _ _).mono (fun r h c => ?_) (Cert.Kernel16Ideal.Value.run_blocks (F := Ideal) m g)
    obtain ⟨r4, r5, r6, r7, hargs⟩ := h c
    exact ⟨r4.trans (funext fun i => Cert.Kernel16Ideal.Ad.res4 m c i), r5.trans (funext fun i => Cert.Kernel16Ideal.Ad.res5 m c i), r6.trans (funext fun i => Cert.Kernel16Ideal.Ad.res6 m c i), r7.trans (funext fun i => Cert.Kernel16Ideal.Ad.res7 m c i), hargs⟩
  · refine (θ_run Cert.Reference16Ideal.defs _ _).mono (fun r h c => ?_) (Cert.Reference16Ideal.Value.run (F := Ideal) m' g')
    obtain ⟨r4, r5, r6, r7, hargs⟩ := h c
    obtain ⟨a0, a1, a2, a3⟩ := ha c
    refine ⟨r4.trans ((Cert.Reference16Ideal.Read.val_main_v0_eq _).trans (funext fun i => ?_)), r5.trans ((Cert.Reference16Ideal.Read.val_main_v24_eq _ _ _ _).trans (funext fun i => ?_)),
      r6.trans ((Cert.Reference16Ideal.Read.val_main_v5_eq _ _).trans (funext fun i => ?_)), r7.trans ((Cert.Reference16Ideal.Read.val_main_v11_eq _ _).trans (funext fun i => ?_)), hargs⟩
    · refine (sum_apply _ i).trans ?_
      rw [a0]
    · refine (change_apply _ _ _ _ i).trans ?_
      rw [a0, a1, a2, a3]
    · refine (moment_apply _ _ i).trans ?_
      rw [a0, a2]
    · refine (square_apply _ _ i).trans ?_
      rw [a0, a3]

end Cert.Proof.Ad16

end
-- ==== Proof.Ad17.lean ====
/- The optimiser step of the gain of the first normalisation: the kernel sums the eight received pieces one after the other, the reference sums them at once. -/
module

public import proofs.«01_k».proof.Defs
public import proofs.«01_k».proof.Proof.Gen.Kernel17Ideal.Value
public import proofs.«01_k».proof.Proof.Gen.Reference17Ideal.Run
public import proofs.«01_k».proof.Proof.Gen.Reference17Ideal.Read
public import proofs.«01_k».proof.Proof.Ad

@[expose] public section

set_option maxRecDepth 16384

noncomputable section

namespace Cert.Kernel17Ideal.Ad

open Cert.Kernel17Ideal Cert.Kernel17Ideal.Gen Idealize.ShloMosaic Idealize.ShloMosaic.TcCoe Idealize.SL.Sem ValueIdx
open Cert.Ad Cert.Mm

variable (m : (ℓ : Loc nD τ sig) → Buf (Elt Ideal) ℓ) (c : Dev nD)

theorem index0 : ∀ t : Fin cfg0.N, win0_0.index t = ![0, t.val, 0] :=
  (by decide +kernel : ∀ t : Fin grid0.N, win0_0.index t = ![0, t.val, 0])
theorem index1 : ∀ t : Fin cfg0.N, win0_1.index t = ![t.val, 0] :=
  (by decide +kernel : ∀ t : Fin grid0.N, win0_1.index t = ![t.val, 0])
theorem index4 : ∀ t : Fin cfg0.N, win0_4.index t = ![t.val, 0] :=
  (by decide +kernel : ∀ t : Fin grid0.N, win0_4.index t = ![t.val, 0])
theorem xsize4 : ∀ t : Fin cfg0.N, ∀ a, win0_4.xsize (grid0.coords t) a = S8x128.size a :=
  (by decide +kernel : ∀ t : Fin grid0.N, ∀ a, win0_4.xsize (grid0.coords t) a = S8x128.size a)

/-- The pieces received from the devices. -/
abbrev pieces : S8x8x128.Idx → EReal := V m c main_arg0
/-- The weights. -/
abbrev weight : S8x128.Idx → EReal := V m c main_arg1
/-- The first moments. -/
abbrev first : S8x128.Idx → EReal := V m c main_arg2
/-- The second moments. -/
abbrev second : S8x128.Idx → EReal := V m c main_arg3

/-- The sum of the received pieces at one weight. -/
def total (x : S8x8x128.Idx → EReal) (i : S8x128.Idx) : EReal := ∑ d : Fin 8, x (ix3 d (i 0) (i 1))

/-- The weight that index `y` of block `t` holds. -/
abbrev place (t : Fin cfg0.N) (y : S8x128.Idx) : S8x128.Idx := ix2 ⟨8 * t.val + (y 0).val, by have := t.isLt; have h0 : (y 0).val < 8 := (y 0).isLt; have hN : cfg0.N = 1 := N_0; omega⟩ (y 1)

theorem emb1 (t : Fin cfg0.N) (y : S8x128.Idx) : (win0_1.rect t).emb y = place t y := by
  have e0 : ((win0_1.rect t).emb y 0 : ℕ) = 8 * t.val + (y 0).val := by
    rw [Pipeline.Window.rect_emb_val win0_1 t y 0 rfl, index1]
    show t.val * 8 + _ = _
    omega
  have e1 : ((win0_1.rect t).emb y 1 : ℕ) = (y 1).val := by
    rw [Pipeline.Window.rect_emb_val win0_1 t y 1 rfl, index1]
    show 0 * 128 + _ = _
    omega
  funext a
  apply Fin.ext
  match a with
  | ⟨0, _⟩ => exact e0
  | ⟨1, _⟩ => exact e1

theorem emb2 (t : Fin cfg0.N) (y : S8x128.Idx) : (win0_2.rect t).emb y = place t y := emb1 t y

theorem emb3 (t : Fin cfg0.N) (y : S8x128.Idx) : (win0_3.rect t).emb y = place t y := emb1 t y

theorem emb4 (t : Fin cfg0.N) (y : S8x128.Idx) : (win0_4.rect t).emb y = place t y := emb1 t y

theorem emb5 (t : Fin cfg0.N) (y : S8x128.Idx) : (win0_5.rect t).emb y = place t y := emb1 t y

theorem emb6 (t : Fin cfg0.N) (y : S8x128.Idx) : (win0_6.rect t).emb y = place t y := emb1 t y

theorem emb7 (t : Fin cfg0.N) (y : S8x128.Idx) : (win0_7.rect t).emb y = place t y := emb1 t y

theorem blk0 (t : Fin cfg0.N) (d : Fin 8) (y : S8x128.Idx) : iblk m c 0 t (ix3 d (y 0) (y 1) : S8x8x128.Idx) = pieces m c (ix3 d (place t y 0) (place t y 1)) := by
  have e0 : ((win0_0.rect t).emb (ix3 d (y 0) (y 1) : S8x8x128.Idx) 0 : ℕ) = d.val := by
    rw [Pipeline.Window.rect_emb_val win0_0 t _ 0 rfl, index0]
    show 0 * 8 + d.val = _
    omega
  have e1 : ((win0_0.rect t).emb (ix3 d (y 0) (y 1) : S8x8x128.Idx) 1 : ℕ) = 8 * t.val + (y 0).val := by
    rw [Pipeline.Window.rect_emb_val win0_0 t _ 1 rfl, index0]
    show t.val * 8 + (y 0).val = _
    omega
  have e2 : ((win0_0.rect t).emb (ix3 d (y 0) (y 1) : S8x8x128.Idx) 2 : ℕ) = (y 1).val := by
    rw [Pipeline.Window.rect_emb_val win0_0 t _ 2 rfl, index0]
    show 0 * 128 + (y 1).val = _
    omega
  refine congrArg (pieces m c) (funext fun a => Fin.ext ?_)
  match a with
  | ⟨0, _⟩ => exact e0
  | ⟨1, _⟩ => exact e1
  | ⟨2, _⟩ => exact e2

theorem blk1 (t : Fin cfg0.N) (y : S8x128.Idx) : iblk m c 1 t y = weight m c (place t y) := congrArg (weight m c) (emb1 t y)
theorem blk2 (t : Fin cfg0.N) (y : S8x128.Idx) : iblk m c 2 t y = first m c (place t y) := congrArg (first m c) (emb2 t y)
theorem blk3 (t : Fin cfg0.N) (y : S8x128.Idx) : iblk m c 3 t y = second m c (place t y) := congrArg (second m c) (emb3 t y)

/-- The sum of the pieces within one block. -/
def part (x : S8x8x128.Idx → EReal) (y : S8x128.Idx) : EReal := ∑ d : Fin 8, x (ix3 d (y 0) (y 1))

theorem part_blk (t : Fin cfg0.N) (y : S8x128.Idx) : part (iblk m c 0 t) y = total (pieces m c) (place t y) :=
  Finset.sum_congr rfl fun d _ => blk0 m c t d y

theorem load0 (x : Vec Ideal S8x8x128 .f32) (y : S8x128.Idx) : View.ld x r0_0 (Value.ix4_0 y) = x (ix3 (0 : Fin 8) (y 0) (y 1)) :=
  congrArg x (eq3 rfl (unit_val _) (unit_val _))
theorem load1 (x : Vec Ideal S8x8x128 .f32) (y : S8x128.Idx) : View.ld x r0_1 (Value.ix4_1 y) = x (ix3 (1 : Fin 8) (y 0) (y 1)) :=
  congrArg x (eq3 rfl (unit_val _) (unit_val _))
theorem load2 (x : Vec Ideal S8x8x128 .f32) (y : S8x128.Idx) : View.ld x r0_2 (Value.ix4_2 y) = x (ix3 (2 : Fin 8) (y 0) (y 1)) :=
  congrArg x (eq3 rfl (unit_val _) (unit_val _))
theorem load3 (x : Vec Ideal S8x8x128 .f32) (y : S8x128.Idx) : View.ld x r0_3 (Value.ix4_3 y) = x (ix3 (3 : Fin 8) (y 0) (y 1)) :=
  congrArg x (eq3 rfl (unit_val _) (unit_val _))
theorem load4 (x : Vec Ideal S8x8x128 .f32) (y : S8x128.Idx) : View.ld x r0_4 (Value.ix4_4 y) = x (ix3 (4 : Fin 8) (y 0) (y 1)) :=
  congrArg x (eq3 rfl (unit_val _) (unit_val _))
theorem load5 (x : Vec Ideal S8x8x128 .f32) (y : S8x128.Idx) : View.ld x r0_5 (Value.ix4_5 y) = x (ix3 (5 : Fin 8) (y 0) (y 1)) :=
  congrArg x (eq3 rfl (unit_val _) (unit_val _))
theorem load6 (x : Vec Ideal S8x8x128 .f32) (y : S8x128.Idx) : View.ld x r0_6 (Value.ix4_6 y) = x (ix3 (6 : Fin 8) (y 0) (y 1)) :=
  congrArg x (eq3 rfl (unit_val _) (unit_val _))
theorem load7 (x : Vec Ideal S8x8x128 .f32) (y : S8x128.Idx) : View.ld x r0_7 (Value.ix4_7 y) = x (ix3 (7 : Fin 8) (y 0) (y 1)) :=
  congrArg x (eq3 rfl (unit_val _) (unit_val _))

theorem sum_loads (x : Vec Ideal S8x8x128 .f32) (y : S8x128.Idx) : Value.E4 (F := Ideal) (View.ld x r0_0) (View.ld x r0_1) (View.ld x r0_2) (View.ld x r0_3) (View.ld x r0_4) (View.ld x r0_5) (View.ld x r0_6) (View.ld x r0_7) y = part x y := by
  have h01 := congrArg₂ (fun a b : EReal => a + b) (load0 x y) (load1 x y)
  have h02 := congrArg₂ (fun a b : EReal => a + b) h01 (load2 x y)
  have h03 := congrArg₂ (fun a b : EReal => a + b) h02 (load3 x y)
  have h04 := congrArg₂ (fun a b : EReal => a + b) h03 (load4 x y)
  have h05 := congrArg₂ (fun a b : EReal => a + b) h04 (load5 x y)
  have h06 := congrArg₂ (fun a b : EReal => a + b) h05 (load6 x y)
  have h07 := congrArg₂ (fun a b : EReal => a + b) h06 (load7 x y)
  exact h07.trans (Fin.sum_univ_eight (fun d : Fin 8 => x (ix3 d (y 0) (y 1)))).symm

theorem same (y : S8x128.Idx) : Value.ix5_0 y = y := by
  funext a
  apply Fin.ext
  match a with
  | ⟨0, _⟩ => rfl
  | ⟨1, _⟩ => rfl

theorem tile4 (x0 : Vec Ideal S8x8x128 .f32) (x1 x2 x3 : Vec Ideal S8x128 .f32) (y : S8x128.Idx) : out0_4 x0 x1 x2 x3 y = part x0 y := by
  unfold out0_4 k0_pay5
  exact (Value.canon4_eq (F := Ideal) (View.ld x0 r0_0) (View.ld x0 r0_1) (View.ld x0 r0_2) (View.ld x0 r0_3) (View.ld x0 r0_4) (View.ld x0 r0_5) (View.ld x0 r0_6) (View.ld x0 r0_7) y).trans (sum_loads x0 y)

theorem tile5 (x0 : Vec Ideal S8x8x128 .f32) (x1 x2 x3 : Vec Ideal S8x128 .f32) (y : S8x128.Idx) : out0_5 x0 x1 x2 x3 y = change (part x0 y) (x1 y) (x2 y) (x3 y) := by
  unfold out0_5 k0_pay6
  rw [show View.ld x1 r0_8 = x1 from View.ld_unit_zero (S := S8x128) zero2 _ x1, show View.ld x2 r0_8 = x2 from View.ld_unit_zero (S := S8x128) zero2 _ x2, show View.ld x3 r0_8 = x3 from View.ld_unit_zero (S := S8x128) zero2 _ x3]
  unfold k0_pay5
  refine (Value.canon5_eq (F := Ideal) x2 (View.ld x0 r0_0) (View.ld x0 r0_1) (View.ld x0 r0_2) (View.ld x0 r0_3) (View.ld x0 r0_4) (View.ld x0 r0_5) (View.ld x0 r0_6) (View.ld x0 r0_7) x3 x1 y).trans ?_
  show change (Value.E4 (F := Ideal) (View.ld x0 r0_0) (View.ld x0 r0_1) (View.ld x0 r0_2) (View.ld x0 r0_3) (View.ld x0 r0_4) (View.ld x0 r0_5) (View.ld x0 r0_6) (View.ld x0 r0_7) y) (x1 (Value.ix5_0 y)) (x2 (Value.ix5_0 y)) (x3 (Value.ix5_0 y)) = _
  rw [sum_loads, same]

theorem tile6 (x0 : Vec Ideal S8x8x128 .f32) (x1 x2 x3 : Vec Ideal S8x128 .f32) (y : S8x128.Idx) : out0_6 x0 x1 x2 x3 y = moment (part x0 y) (x2 y) := by
  unfold out0_6 k0_pay6
  rw [show View.ld x2 r0_8 = x2 from View.ld_unit_zero (S := S8x128) zero2 _ x2]
  refine (Value.canon6_eq (F := Ideal) x2 (View.ld x0 r0_0) (View.ld x0 r0_1) (View.ld x0 r0_2) (View.ld x0 r0_3) (View.ld x0 r0_4) (View.ld x0 r0_5) (View.ld x0 r0_6) (View.ld x0 r0_7) y).trans ?_
  show moment (Value.E4 (F := Ideal) (View.ld x0 r0_0) (View.ld x0 r0_1) (View.ld x0 r0_2) (View.ld x0 r0_3) (View.ld x0 r0_4) (View.ld x0 r0_5) (View.ld x0 r0_6) (View.ld x0 r0_7) y) (x2 (Value.ix5_0 y)) = _
  rw [sum_loads, same]

theorem tile7 (x0 : Vec Ideal S8x8x128 .f32) (x1 x2 x3 : Vec Ideal S8x128 .f32) (y : S8x128.Idx) : out0_7 x0 x1 x2 x3 y = square (part x0 y) (x3 y) := by
  unfold out0_7
  rw [show View.ld x3 r0_8 = x3 from View.ld_unit_zero (S := S8x128) zero2 _ x3]
  unfold k0_pay5
  refine (Value.canon7_eq (F := Ideal) x3 (View.ld x0 r0_0) (View.ld x0 r0_1) (View.ld x0 r0_2) (View.ld x0 r0_3) (View.ld x0 r0_4) (View.ld x0 r0_5) (View.ld x0 r0_6) (View.ld x0 r0_7) y).trans ?_
  show square (Value.E4 (F := Ideal) (View.ld x0 r0_0) (View.ld x0 r0_1) (View.ld x0 r0_2) (View.ld x0 r0_3) (View.ld x0 r0_4) (View.ld x0 r0_5) (View.ld x0 r0_6) (View.ld x0 r0_7) y) (x3 (Value.ix5_0 y)) = _
  rw [sum_loads, same]

theorem mem4 (t : Fin cfg0.N) (i : S8x128.Idx) (h0 : t.val = (i 0).val / 8) : i ∈ ((cfg0.win 4).blk t).view.set := by
  show i ∈ ((View.whole main_v0_0).slice (win0_4.rect t)).set
  rw [View.set_slice_whole, Rect.mem_set_unit]
  intro a
  rw [xsize4]
  match a with
  | ⟨0, _⟩ =>
    show win0_4.index t 0 * 8 ≤ (i 0).val ∧ (i 0).val < win0_4.index t 0 * 8 + 8
    rw [index4]
    show t.val * 8 ≤ (i 0).val ∧ (i 0).val < t.val * 8 + 8
    omega
  | ⟨1, _⟩ =>
    have h1 : (i 1).val < 128 := (i 1).isLt
    show win0_4.index t 1 * 128 ≤ (i 1).val ∧ (i 1).val < win0_4.index t 1 * 128 + 128
    rw [index4]
    show 0 * 128 ≤ (i 1).val ∧ (i 1).val < 0 * 128 + 128
    omega

/-- The whole result: the summed gradient. -/
theorem res4 (i : S8x128.Idx) : (dats m 0 c).arrAt 4 cfg0.N i = total (pieces m c) i := by
  have h0 : (i 0).val < 8 := (i 0).isLt
  have hN : cfg0.N = 1 := N_0
  refine (dats m 0 c).arrAt_apply_of_mem 4 (fun i : S8x128.Idx => total (pieces m c) i) ?_ cfg0.N ⟨(i 0).val / 8, by omega⟩ i (by show (i 0).val / 8 < _; omega) (flush0_4 _) (mem4 _ i rfl)
  intro t _
  rw [Value.flushed4]
  funext y
  refine (tile4 (iblk m c 0 t) (iblk m c 1 t) (iblk m c 2 t) (iblk m c 3 t) y).trans ?_
  show _ = (fun i : S8x128.Idx => total (pieces m c) i) ((win0_4.rect t).emb y)
  rw [emb4, part_blk]

theorem mem5 (t : Fin cfg0.N) (i : S8x128.Idx) (h0 : t.val = (i 0).val / 8) : i ∈ ((cfg0.win 5).blk t).view.set := by
  show i ∈ ((View.whole main_v0_1).slice (win0_5.rect t)).set
  rw [View.set_slice_whole]
  have h : i ∈ ((View.whole main_v0_0).slice (win0_4.rect t)).set := mem4 t i h0
  rw [View.set_slice_whole] at h
  exact h

/-- The whole result: what is added to the weights. -/
theorem res5 (i : S8x128.Idx) : (dats m 0 c).arrAt 5 cfg0.N i = change (total (pieces m c) i) (weight m c i) (first m c i) (second m c i) := by
  have h0 : (i 0).val < 8 := (i 0).isLt
  have hN : cfg0.N = 1 := N_0
  refine (dats m 0 c).arrAt_apply_of_mem 5 (fun i : S8x128.Idx => change (total (pieces m c) i) (weight m c i) (first m c i) (second m c i)) ?_ cfg0.N ⟨(i 0).val / 8, by omega⟩ i (by show (i 0).val / 8 < _; omega) (flush0_5 _) (mem5 _ i rfl)
  intro t _
  rw [Value.flushed5]
  funext y
  refine (tile5 (iblk m c 0 t) (iblk m c 1 t) (iblk m c 2 t) (iblk m c 3 t) y).trans ?_
  show _ = (fun i : S8x128.Idx => change (total (pieces m c) i) (weight m c i) (first m c i) (second m c i)) ((win0_5.rect t).emb y)
  rw [emb5, part_blk, blk1, blk2, blk3]

theorem mem6 (t : Fin cfg0.N) (i : S8x128.Idx) (h0 : t.val = (i 0).val / 8) : i ∈ ((cfg0.win 6).blk t).view.set := by
  show i ∈ ((View.whole main_v0_2).slice (win0_6.rect t)).set
  rw [View.set_slice_whole]
  have h : i ∈ ((View.whole main_v0_0).slice (win0_4.rect t)).set := mem4 t i h0
  rw [View.set_slice_whole] at h
  exact h

/-- The whole result: the first moments. -/
theorem res6 (i : S8x128.Idx) : (dats m 0 c).arrAt 6 cfg0.N i = moment (total (pieces m c) i) (first m c i) := by
  have h0 : (i 0).val < 8 := (i 0).isLt
  have hN : cfg0.N = 1 := N_0
  refine (dats m 0 c).arrAt_apply_of_mem 6 (fun i : S8x128.Idx => moment (total (pieces m c) i) (first m c i)) ?_ cfg0.N ⟨(i 0).val / 8, by omega⟩ i (by show (i 0).val / 8 < _; omega) (flush0_6 _) (mem6 _ i rfl)
  intro t _
  rw [Value.flushed6]
  funext y
  refine (tile6 (iblk m c 0 t) (iblk m c 1 t) (iblk m c 2 t) (iblk m c 3 t) y).trans ?_
  show _ = (fun i : S8x128.Idx => moment (total (pieces m c) i) (first m c i)) ((win0_6.rect t).emb y)
  rw [emb6, part_blk, blk2]

theorem mem7 (t : Fin cfg0.N) (i : S8x128.Idx) (h0 : t.val = (i 0).val / 8) : i ∈ ((cfg0.win 7).blk t).view.set := by
  show i ∈ ((View.whole main_v0_3).slice (win0_7.rect t)).set
  rw [View.set_slice_whole]
  have h : i ∈ ((View.whole main_v0_0).slice (win0_4.rect t)).set := mem4 t i h0
  rw [View.set_slice_whole] at h
  exact h

/-- The whole result: the second moments. -/
theorem res7 (i : S8x128.Idx) : (dats m 0 c).arrAt 7 cfg0.N i = square (total (pieces m c) i) (second m c i) := by
  have h0 : (i 0).val < 8 := (i 0).isLt
  have hN : cfg0.N = 1 := N_0
  refine (dats m 0 c).arrAt_apply_of_mem 7 (fun i : S8x128.Idx => square (total (pieces m c) i) (second m c i)) ?_ cfg0.N ⟨(i 0).val / 8, by omega⟩ i (by show (i 0).val / 8 < _; omega) (flush0_7 _) (mem7 _ i rfl)
  intro t _
  rw [Value.flushed7]
  funext y
  refine (tile7 (iblk m c 0 t) (iblk m c 1 t) (iblk m c 2 t) (iblk m c 3 t) y).trans ?_
  show _ = (fun i : S8x128.Idx => square (total (pieces m c) i) (second m c i)) ((win0_7.rect t).emb y)
  rw [emb7, part_blk, blk3]

end Cert.Kernel17Ideal.Ad

namespace Cert.Proof.Ad17

open Idealize.ShloMosaic Idealize.ShloMosaic.TcCoe Idealize.ShloMosaic.StableHlo Idealize.SL.Sem ValueIdx
open Cert.Ad Cert.Mm

theorem sum_apply (x0 : Cert.Reference17Ideal.S8x8x128.Idx → EReal) (i : Cert.Reference17Ideal.S8x128.Idx) : Cert.Reference17Ideal.Read.val_main_v0 (F := Ideal) x0 i = Cert.Kernel17Ideal.Ad.total x0 i := by
  rw [Cert.Reference17Ideal.Read.val_main_v0_apply, Cert.Reference17Ideal.Read.val_main_cst_apply, Ideal.ofBits_def, Ideal.ofBits_zero_f32, zero_add]
  refine Finset.sum_congr rfl fun d _ => congrArg x0 (funext fun a => Fin.ext ?_)
  match a with
  | ⟨0, _⟩ => rfl
  | ⟨1, _⟩ => rfl
  | ⟨2, _⟩ => rfl

theorem moment_apply (x0 : Cert.Reference17Ideal.S8x8x128.Idx → EReal) (x2 : Cert.Reference17Ideal.S8x128.Idx → EReal) (i : Cert.Reference17Ideal.S8x128.Idx) :
    Cert.Reference17Ideal.Read.val_main_v5 (F := Ideal) x0 x2 i = moment (Cert.Kernel17Ideal.Ad.total x0 i) (x2 i) := by
  rw [Cert.Reference17Ideal.Read.val_main_v5_apply, Cert.Reference17Ideal.Read.val_main_v2_apply, Cert.Reference17Ideal.Read.val_main_v4_apply, Cert.Reference17Ideal.Read.val_main_v1_apply, Cert.Reference17Ideal.Read.val_main_v3_apply, Cert.Reference17Ideal.Read.val_main_cst_0_apply, Cert.Reference17Ideal.Read.val_main_cst_1_apply, sum_apply]
  rfl

theorem square_apply (x0 : Cert.Reference17Ideal.S8x8x128.Idx → EReal) (x3 : Cert.Reference17Ideal.S8x128.Idx → EReal) (i : Cert.Reference17Ideal.S8x128.Idx) :
    Cert.Reference17Ideal.Read.val_main_v11 (F := Ideal) x0 x3 i = square (Cert.Kernel17Ideal.Ad.total x0 i) (x3 i) := by
  rw [Cert.Reference17Ideal.Read.val_main_v11_apply, Cert.Reference17Ideal.Read.val_main_v7_apply, Cert.Reference17Ideal.Read.val_main_v10_apply, Cert.Reference17Ideal.Read.val_main_v6_apply, Cert.Reference17Ideal.Read.val_main_v9_apply, Cert.Reference17Ideal.Read.val_main_v8_apply, Cert.Reference17Ideal.Read.val_main_cst_2_apply, Cert.Reference17Ideal.Read.val_main_cst_3_apply, sum_apply]
  rfl

theorem change_apply (x0 : Cert.Reference17Ideal.S8x8x128.Idx → EReal) (x1 x2 x3 : Cert.Reference17Ideal.S8x128.Idx → EReal) (i : Cert.Reference17Ideal.S8x128.Idx) :
    Cert.Reference17Ideal.Read.val_main_v24 (F := Ideal) x0 x1 x2 x3 i = change (Cert.Kernel17Ideal.Ad.total x0 i) (x1 i) (x2 i) (x3 i) := by
  rw [Cert.Reference17Ideal.Read.val_main_v24_apply, Cert.Reference17Ideal.Read.val_main_v23_apply, Cert.Reference17Ideal.Read.val_main_v22_apply, Cert.Reference17Ideal.Read.val_main_v21_apply, Cert.Reference17Ideal.Read.val_main_v20_apply, Cert.Reference17Ideal.Read.val_main_v19_apply, Cert.Reference17Ideal.Read.val_main_v18_apply, Cert.Reference17Ideal.Read.val_main_v17_apply, Cert.Reference17Ideal.Read.val_main_v16_apply, Cert.Reference17Ideal.Read.val_main_v15_apply, Cert.Reference17Ideal.Read.val_main_v14_apply, Cert.Reference17Ideal.Read.val_main_v13_apply, Cert.Reference17Ideal.Read.val_main_v12_apply, Cert.Reference17Ideal.Read.val_main_cst_4_apply, Cert.Reference17Ideal.Read.val_main_cst_5_apply, Cert.Reference17Ideal.Read.val_main_cst_6_apply, Cert.Reference17Ideal.Read.val_main_cst_7_apply, Cert.Reference17Ideal.Read.val_main_cst_8_apply, moment_apply, square_apply]
  rfl

theorem frame_reference : Cert.quiescent_Reference17Ideal := by
  intro m ρ _
  exact (θ_run Cert.Reference17Ideal.defs _ _).mono (fun r h => ⟨fun c => (h c).2.2.2.2, sem_eq_zero_of_no_sems (by decide) r.2⟩)
    (Cert.Reference17Ideal.Value.run (F := Ideal) m ρ)

theorem algebraic : Cert.algebraic_Kernel17Ideal_Reference17Ideal := by
  intro m g m' g' _ ha
  refine ⟨fun c (i : Cert.Kernel17Ideal.S8x128.Idx) => Cert.Kernel17Ideal.Ad.total (Cert.Kernel17Ideal.Ad.pieces m c) i,
    fun c (i : Cert.Kernel17Ideal.S8x128.Idx) => change (Cert.Kernel17Ideal.Ad.total (Cert.Kernel17Ideal.Ad.pieces m c) i) (Cert.Kernel17Ideal.Ad.weight m c i) (Cert.Kernel17Ideal.Ad.first m c i) (Cert.Kernel17Ideal.Ad.second m c i),
    fun c (i : Cert.Kernel17Ideal.S8x128.Idx) => moment (Cert.Kernel17Ideal.Ad.total (Cert.Kernel17Ideal.Ad.pieces m c) i) (Cert.Kernel17Ideal.Ad.first m c i),
    fun c (i : Cert.Kernel17Ideal.S8x128.Idx) => square (Cert.Kernel17Ideal.Ad.total (Cert.Kernel17Ideal.Ad.pieces m c) i) (Cert.Kernel17Ideal.Ad.second m c i), ?_, ?_⟩
  · refine (θ_run Cert.Kernel17Ideal.defs _ _).mono (fun r h c => ?_) (Cert.Kernel17Ideal.Value.run_blocks (F := Ideal) m g)
    obtain ⟨r4, r5, r6, r7, hargs⟩ := h c
    exact ⟨r4.trans (funext fun i => Cert.Kernel17Ideal.Ad.res4 m c i), r5.trans (funext fun i => Cert.Kernel17Ideal.Ad.res5 m c i), r6.trans (funext fun i => Cert.Kernel17Ideal.Ad.res6 m c i), r7.trans (funext fun i => Cert.Kernel17Ideal.Ad.res7 m c i), hargs⟩
  · refine (θ_run Cert.Reference17Ideal.defs _ _).mono (fun r h c => ?_) (Cert.Reference17Ideal.Value.run (F := Ideal) m' g')
    obtain ⟨r4, r5, r6, r7, hargs⟩ := h c
    obtain ⟨a0, a1, a2, a3⟩ := ha c
    refine ⟨r4.trans ((Cert.Reference17Ideal.Read.val_main_v0_eq _).trans (funext fun i => ?_)), r5.trans ((Cert.Reference17Ideal.Read.val_main_v24_eq _ _ _ _).trans (funext fun i => ?_)),
      r6.trans ((Cert.Reference17Ideal.Read.val_main_v5_eq _ _).trans (funext fun i => ?_)), r7.trans ((Cert.Reference17Ideal.Read.val_main_v11_eq _ _).trans (funext fun i => ?_)), hargs⟩
    · refine (sum_apply _ i).trans ?_
      rw [a0]
    · refine (change_apply _ _ _ _ i).trans ?_
      rw [a0, a1, a2, a3]
    · refine (moment_apply _ _ i).trans ?_
      rw [a0, a2]
    · refine (square_apply _ _ i).trans ?_
      rw [a0, a3]

end Cert.Proof.Ad17

end
-- ==== Proof.Norm18.lean ====
/- The down projection with the loss head and its gradient: the tiled kernel and the chain rule of the forward lines. -/
module

public import proofs.«01_k».proof.Defs
public import proofs.«01_k».proof.Proof.Gen.Kernel18Ideal.Value
public import proofs.«01_k».proof.Proof.Gen.Reference18Ideal.Run
public import proofs.«01_k».proof.Proof.Gen.Reference18Ideal.Read
public import proofs.«01_k».proof.Proof.NormGrad
public import Idealize.ShloMosaic.Lib.KernelVsHost

@[expose] public section

set_option maxRecDepth 16384

noncomputable section

namespace Cert.Reference18Ideal.Norm

open Cert.Reference18Ideal Cert.Reference18Ideal.Read Idealize.ShloMosaic Idealize.ShloMosaic.TcCoe
open Cert.Norm Cert.Mm

theorem half_val : Ideal.ofBits .f32 0x3F000000#32 = ((1 / 2 : ℝ) : EReal) := by
  simp [Ideal.ofBits, Ideal.ieee, -EReal.coe_mul]; norm_num
theorem one_val : Ideal.ofBits .f32 0x3F800000#32 = ((1 : ℝ) : EReal) := by
  simp [Ideal.ofBits, Ideal.ieee]; rw [← EReal.coe_mul]; norm_num
theorem two_val : Ideal.ofBits .f32 0x40000000#32 = ((2 : ℝ) : EReal) := by
  simp [Ideal.ofBits, Ideal.ieee]; rw [← EReal.coe_mul]; norm_num
theorem part_val : Ideal.ofBits .f32 0x3A800000#32 = ((1 / 1024 : ℝ) : EReal) := by
  simp [Ideal.ofBits, Ideal.ieee, -EReal.coe_mul]; norm_num

/-- The constants before an error's gradient come to one over the length of a row. -/
theorem part_eq (e : EReal) : Ideal.div (FloatOps.ofBits (F := Ideal) .f32 0x3F000000#32 * FloatOps.ofBits (F := Ideal) .f32 0x3F800000#32) (FloatOps.ofBits (F := Ideal) .f32 0x44800000#32) * (FloatOps.ofBits (F := Ideal) .f32 0x40000000#32 * e) = e * FloatOps.ofBits (F := Ideal) .f32 0x3A800000#32 := by
  rw [Ideal.ofBits_def, Ideal.ofBits_def, Ideal.ofBits_def, Ideal.ofBits_def, Ideal.ofBits_def, half_val, one_val, two_val, part_val, len_real, Ideal.div_coe (by norm_num), ← EReal.coe_mul, ← EReal.coe_mul, ← mul_assoc, ← EReal.coe_mul, mul_comm]
  refine congrArg (fun a : ℝ => e * (a : EReal)) ?_
  norm_num

/-- One half of a sum is the sum of the halves. -/
theorem half_total {n : ℕ} (f : Fin n → EReal) : FloatOps.ofBits (F := Ideal) .f32 0x3F000000#32 * (∑ k, f k) = ∑ k, FloatOps.ofBits (F := Ideal) .f32 0x3F000000#32 * f k := by
  rw [Ideal.ofBits_def, half_val, mul_comm, ← total_mul f (by norm_num)]
  exact Finset.sum_congr rfl fun k _ => mul_comm _ _

/-- A row of the features: the residual with the down projection added. -/
def feat {M : ℕ} (a : (⟨2, ![M, 2816]⟩ : Shape).Idx → EReal) (w : (⟨2, ![2816, 1024]⟩ : Shape).Idx → EReal) (x : (⟨2, ![M, 1024]⟩ : Shape).Idx → EReal) (r : Fin M) (j : Fin 1024) : EReal :=
  x (ValueIdx.ix2 r j) + nn a w r j

/-- A row of the errors: the normalised row, scaled by the gain, less the target. -/
def err {M : ℕ} (a : (⟨2, ![M, 2816]⟩ : Shape).Idx → EReal) (w : (⟨2, ![2816, 1024]⟩ : Shape).Idx → EReal) (x t : (⟨2, ![M, 1024]⟩ : Shape).Idx → EReal) (g : (⟨2, ![1, 1024]⟩ : Shape).Idx → EReal) (r : Fin M) (j : Fin 1024) : EReal :=
  feat a w x r j * rstd (feat a w x r) * g (ValueIdx.ix2 0 j) - t (ValueIdx.ix2 r j)

/-- The mean square of a row of errors. -/
def lossRow (e : Fin 1024 → EReal) : EReal := Ideal.div (∑ k, e k * e k) (FloatOps.ofBits (F := Ideal) .f32 0x44800000#32)

/-- The gradient of a row of features, from its row of errors. -/
def gradRow (f e : Fin 1024 → EReal) (g : (⟨2, ![1, 1024]⟩ : Shape).Idx → EReal) (j : Fin 1024) : EReal :=
  factored f (fun k => e k * FloatOps.ofBits (F := Ideal) .f32 0x3A800000#32 * g (ValueIdx.ix2 0 k)) j

/-- What a row adds to the gradient of the gain. -/
def gainRow (f e : Fin 1024 → EReal) (j : Fin 1024) : EReal := e j * FloatOps.ofBits (F := Ideal) .f32 0x3A800000#32 * (f j * rstd f)

/-- The loss, in every lane. -/
def outL (a : S4096x2816.Idx → EReal) (w : S2816x1024.Idx → EReal) (x t : S4096x1024.Idx → EReal) (g : S1x1024.Idx → EReal) (_ : S1x128.Idx) : EReal := FloatOps.ofBits (F := Ideal) .f32 0x3F000000#32 * ∑ r : Fin 4096, lossRow (err (M := 4096) a w x t g r)

/-- The gradient of the features. -/
def outX (a : S4096x2816.Idx → EReal) (w : S2816x1024.Idx → EReal) (x t : S4096x1024.Idx → EReal) (g : S1x1024.Idx → EReal) (i : S4096x1024.Idx) : EReal := gradRow (feat (M := 4096) a w x (i 0)) (err (M := 4096) a w x t g (i 0)) g (i 1)

/-- The gradient of the gain. -/
def outG (a : S4096x2816.Idx → EReal) (w : S2816x1024.Idx → EReal) (x t : S4096x1024.Idx → EReal) (g : S1x1024.Idx → EReal) (i : S1x1024.Idx) : EReal := ∑ r : Fin 4096, gainRow (feat (M := 4096) a w x r) (err (M := 4096) a w x t g r) (i 1)

theorem feat_apply (a : S4096x2816.Idx → EReal) (w : S2816x1024.Idx → EReal) (x : S4096x1024.Idx → EReal) (i : S4096x1024.Idx) : val_main_v3 (F := Ideal) a w x i = feat (M := 4096) a w x (i 0) (i 1) := by
  rw [val_main_v3_apply, val_main_v2_apply]
  unfold feat nn
  refine congrArg₂ (fun p q : EReal => p + q) (congrArg x ?_) (Finset.sum_congr rfl fun k _ => ?_)
  · funext a
    match a with
    | ⟨0, _⟩ => rfl
    | ⟨1, _⟩ => rfl
  rw [val_main_v0_apply, val_main_v1_apply]
  refine congrArg₂ (fun p q : EReal => p * q) (congrArg a ?_) (congrArg w ?_)
  · funext a
    match a with
    | ⟨0, _⟩ => rfl
    | ⟨1, _⟩ => rfl
  · funext a
    match a with
    | ⟨0, _⟩ => rfl
    | ⟨1, _⟩ => rfl

theorem var_apply (a : S4096x2816.Idx → EReal) (w : S2816x1024.Idx → EReal) (x : S4096x1024.Idx → EReal) (i : S4096x1.Idx) : val_main_v10 (F := Ideal) a w x i = var (feat (M := 4096) a w x (i 0)) := by
  rw [val_main_v10_apply, val_main_v8_apply, val_main_v6_apply, val_main_v5_apply, val_main_v7_apply, val_main_v9_apply]
  show Ideal.div (Ideal.ofBits .f32 0x00000000#32 + _) _ + _ = _
  rw [Ideal.ofBits_zero_f32, zero_add]
  refine congrArg (fun a : EReal => Ideal.div a (FloatOps.ofBits (F := Ideal) .f32 0x44800000#32) + FloatOps.ofBits (F := Ideal) .f32 0x358637BD#32) (Finset.sum_congr rfl fun k _ => ?_)
  rw [val_main_v4_apply, feat_apply]
  rfl

theorem rms_apply (a : S4096x2816.Idx → EReal) (w : S2816x1024.Idx → EReal) (x : S4096x1024.Idx → EReal) (i : S4096x1.Idx) : val_main_v11 (F := Ideal) a w x i = rstd (feat (M := 4096) a w x (i 0)) := by
  rw [val_main_v11_apply, var_apply]
  rfl

theorem xr_apply (a : S4096x2816.Idx → EReal) (w : S2816x1024.Idx → EReal) (x : S4096x1024.Idx → EReal) (i : S4096x1024.Idx) : val_main_v16 (F := Ideal) a w x i = feat (M := 4096) a w x (i 0) (i 1) * rstd (feat (M := 4096) a w x (i 0)) := by
  rw [val_main_v16_apply, val_main_v15_apply, rms_apply, feat_apply]
  rfl

theorem slope_apply (a : S4096x2816.Idx → EReal) (w : S2816x1024.Idx → EReal) (x : S4096x1024.Idx → EReal) (i : S4096x1.Idx) : val_main_v14 (F := Ideal) a w x i = FloatOps.ofBits (F := Ideal) .f32 0xBF000000#32 * Ideal.div (rstd (feat (M := 4096) a w x (i 0))) (var (feat (M := 4096) a w x (i 0))) := by
  rw [val_main_v14_apply, val_main_v13_apply, val_main_v12_apply, rms_apply, var_apply]
  rfl

theorem err_apply (a : S4096x2816.Idx → EReal) (w : S2816x1024.Idx → EReal) (x t : S4096x1024.Idx → EReal) (g : S1x1024.Idx → EReal) (i : S4096x1024.Idx) : val_main_v19 (F := Ideal) a w x t g i = err (M := 4096) a w x t g (i 0) (i 1) := by
  rw [val_main_v19_apply, val_main_v18_apply, val_main_v17_apply, xr_apply]
  unfold err
  refine congrArg₂ (fun p q : EReal => feat (M := 4096) a w x (i 0) (i 1) * rstd (feat (M := 4096) a w x (i 0)) * p - q) (congrArg g ?_) (congrArg t ?_)
  · funext a
    match a with
    | ⟨0, _⟩ => rfl
    | ⟨1, _⟩ => rfl
  · funext a
    match a with
    | ⟨0, _⟩ => rfl
    | ⟨1, _⟩ => rfl

theorem loss_apply (a : S4096x2816.Idx → EReal) (w : S2816x1024.Idx → EReal) (x t : S4096x1024.Idx → EReal) (g : S1x1024.Idx → EReal) (i : S1x128.Idx) : val_main_v53 (F := Ideal) a w x t g i = outL a w x t g i := by
  rw [val_main_v53_apply, val_main_v27_apply, val_main_v26_apply]
  show _ * (Ideal.ofBits .f32 0x00000000#32 + _) = _
  rw [Ideal.ofBits_zero_f32, zero_add]
  refine congrArg (fun p : EReal => FloatOps.ofBits (F := Ideal) .f32 0x3F000000#32 * p) ((sum_idx1 _).trans (Finset.sum_congr rfl fun r _ => ?_))
  rw [val_main_v25_apply, val_main_v24_apply, val_main_v23_apply]
  show Ideal.div (Ideal.ofBits .f32 0x00000000#32 + _) _ = _
  rw [Ideal.ofBits_zero_f32, zero_add]
  refine congrArg (fun p : EReal => Ideal.div p (FloatOps.ofBits (F := Ideal) .f32 0x44800000#32)) (Finset.sum_congr rfl fun k _ => ?_)
  rw [val_main_v20_apply, err_apply]
  rfl

theorem part_apply (a : S4096x2816.Idx → EReal) (w : S2816x1024.Idx → EReal) (x t : S4096x1024.Idx → EReal) (g : S1x1024.Idx → EReal) (i : S4096x1024.Idx) : val_main_v33 (F := Ideal) a w x t g i = err (M := 4096) a w x t g (i 0) (i 1) * FloatOps.ofBits (F := Ideal) .f32 0x3A800000#32 := by
  rw [val_main_v33_apply, val_main_v32_apply, val_main_v31_apply, val_main_v30_apply, val_main_v29_apply, val_main_v28_apply, val_main_v22_apply, val_main_v21_apply, err_apply]
  exact part_eq _

theorem gain_apply (a : S4096x2816.Idx → EReal) (w : S2816x1024.Idx → EReal) (x t : S4096x1024.Idx → EReal) (g : S1x1024.Idx → EReal) (i : S1x1024.Idx) : val_main_v36 (F := Ideal) a w x t g i = outG a w x t g i := by
  rw [val_main_v36_apply, val_main_v35_apply]
  show Ideal.ofBits .f32 0x00000000#32 + _ = _
  rw [Ideal.ofBits_zero_f32, zero_add]
  refine Finset.sum_congr rfl fun r _ => ?_
  have e : idx_main_v35 (idx_main_v36 i) r = ValueIdx.ix2 r (i 1) := by
    funext a
    match a with
    | ⟨0, _⟩ => rfl
    | ⟨1, _⟩ =>
      apply Fin.ext
      have h0 : (i 0).val < 1 := (i 0).isLt
      show (i 0).val * 1024 + (i 1).val = (i 1).val
      omega
  rw [val_main_v34_apply, xr_apply, part_apply, e]
  exact mul_comm _ _

theorem pull_apply (a : S4096x2816.Idx → EReal) (w : S2816x1024.Idx → EReal) (x t : S4096x1024.Idx → EReal) (g : S1x1024.Idx → EReal) (i : S4096x1024.Idx) : val_main_v38 (F := Ideal) a w x t g i = err (M := 4096) a w x t g (i 0) (i 1) * FloatOps.ofBits (F := Ideal) .f32 0x3A800000#32 * g (ValueIdx.ix2 0 (i 1)) := by
  rw [val_main_v38_apply, val_main_v37_apply, part_apply]
  refine congrArg (fun p : EReal => err (M := 4096) a w x t g (i 0) (i 1) * FloatOps.ofBits (F := Ideal) .f32 0x3A800000#32 * p) (congrArg g ?_)
  funext a
  match a with
  | ⟨0, _⟩ => rfl
  | ⟨1, _⟩ => rfl

theorem through_apply (a : S4096x2816.Idx → EReal) (w : S2816x1024.Idx → EReal) (x t : S4096x1024.Idx → EReal) (g : S1x1024.Idx → EReal) (i : S4096x1024.Idx) : val_main_v48 (F := Ideal) a w x t g i = through (feat (M := 4096) a w x (i 0)) (fun k => err (M := 4096) a w x t g (i 0) k * FloatOps.ofBits (F := Ideal) .f32 0x3A800000#32 * g (ValueIdx.ix2 0 k)) := by
  rw [val_main_v48_apply, val_main_v47_apply]
  show Ideal.ofBits .f32 0x00000000#32 + _ = _
  rw [Ideal.ofBits_zero_f32, zero_add, Fin.sum_univ_one, val_main_v46_apply, val_main_v45_apply, val_main_v44_apply, val_main_v41_apply, val_main_v40_apply, slope_apply]
  show Ideal.div ((Ideal.ofBits .f32 0x00000000#32 + _) * _) _ = _
  rw [Ideal.ofBits_zero_f32, zero_add]
  refine congrArg (fun p : EReal => Ideal.div (p * (FloatOps.ofBits (F := Ideal) .f32 0xBF000000#32 * Ideal.div (rstd (feat (M := 4096) a w x (i 0))) (var (feat (M := 4096) a w x (i 0))))) (FloatOps.ofBits (F := Ideal) .f32 0x44800000#32)) (Finset.sum_congr rfl fun k _ => ?_)
  have e : idx_main_v40 (idx_main_v41 (idx_main_v47 (idx_main_v48 i) 0)) k = ValueIdx.ix2 (i 0) k := by
    funext a
    match a with
    | ⟨0, _⟩ =>
      apply Fin.ext
      show (i 0).val * 1 + 0 = (i 0).val
      omega
    | ⟨1, _⟩ => rfl
  rw [val_main_v39_apply, pull_apply, feat_apply, e]
  rfl

theorem dx_apply (a : S4096x2816.Idx → EReal) (w : S2816x1024.Idx → EReal) (x t : S4096x1024.Idx → EReal) (g : S1x1024.Idx → EReal) (i : S4096x1024.Idx) : val_main_v52 (F := Ideal) a w x t g i = outX a w x t g i := by
  rw [val_main_v52_apply, val_main_v51_apply, val_main_v50_apply, val_main_v49_apply, val_main_v43_apply, val_main_v42_apply, pull_apply, through_apply, rms_apply, feat_apply]
  exact (factored_eq (feat (M := 4096) a w x (i 0)) (fun k => err (M := 4096) a w x t g (i 0) k * FloatOps.ofBits (F := Ideal) .f32 0x3A800000#32 * g (ValueIdx.ix2 0 k)) (i 1)).symm

theorem dxb_apply (a : S4096x2816.Idx → EReal) (w : S2816x1024.Idx → EReal) (x t : S4096x1024.Idx → EReal) (g : S1x1024.Idx → EReal) (i : S4096x1024.Idx) : val_main_v54 (F := Ideal) a w x t g i = outX a w x t g i := by
  rw [val_main_v54_apply]
  exact dx_apply a w x t g i

end Cert.Reference18Ideal.Norm

namespace Cert.Kernel18Ideal.Norm

open Cert.Kernel18Ideal Cert.Kernel18Ideal.Gen Idealize.ShloMosaic Idealize.ShloMosaic.TcCoe Idealize.SL.Sem
open Cert.Mm Cert.Norm
open Cert.Reference18Ideal.Norm (feat err lossRow gradRow gainRow outL outX outG half_total)

theorem feat_apply (v0 : Vec Ideal S512x2816 .bf16) (v1 : Vec Ideal S2816x1024 .bf16) (v2 : Vec Ideal S512x1024 .f32) (y : S512x1024.Idx) : k0_pay8 (F := Ideal) v0 v1 v2 y = feat (M := 512) v0 v1 v2 (y 0) (y 1) := by
  have e := nn_matmul (M := 512) (K := 2816) (N := 1024) (φ₁ := .bf16) (φ₂ := .bf16) dot_S512x2816_S2816x1024_S512x1024_1_0_0_1_n_n_wf none v0 v1 (constant S512x1024 .f32 0x00000000#32) y
  rw [zero_constant, zero_add] at e
  have e2 : v2 y = v2 (ValueIdx.ix2 (y 0) (y 1)) := congrArg v2 (by
    funext a
    match a with
    | ⟨0, _⟩ => rfl
    | ⟨1, _⟩ => rfl)
  unfold k0_pay8
  exact (congrArg₂ (fun p q : EReal => p + q) e e2).trans (add_comm _ _)

theorem rms_apply (v0 : Vec Ideal S512x2816 .bf16) (v1 : Vec Ideal S2816x1024 .bf16) (v2 : Vec Ideal S512x1024 .f32) (y : S512x1.Idx) : k0_pay9 (F := Ideal) v0 v1 v2 y = rstd (feat (M := 512) v0 v1 v2 (y 0)) := by
  pointwise [k0_pay9]
  simp only [feat_apply]
  rfl

theorem err_apply (v0 : Vec Ideal S512x2816 .bf16) (v1 : Vec Ideal S2816x1024 .bf16) (v2 v3 : Vec Ideal S512x1024 .f32) (v4 : Vec Ideal S1x1024 .f32) (y : S512x1024.Idx) : k0_pay10 (F := Ideal) v0 v1 v2 v4 v3 y = err (M := 512) v0 v1 v2 v3 v4 (y 0) (y 1) := by
  have e2 : v3 y = v3 (ValueIdx.ix2 (y 0) (y 1)) := congrArg v3 (by
    funext a
    match a with
    | ⟨0, _⟩ => rfl
    | ⟨1, _⟩ => rfl)
  pointwise [k0_pay10]
  simp only [feat_apply, rms_apply]
  rw [e2]
  rfl

theorem loss_apply (v0 : Vec Ideal S512x2816 .bf16) (v1 : Vec Ideal S2816x1024 .bf16) (v2 v3 : Vec Ideal S512x1024 .f32) (v4 : Vec Ideal S1x1024 .f32) (w : Vec Ideal S1x128 .f32) (y : S1x128.Idx) : k0_pay11 (F := Ideal) v0 v1 v2 v4 v3 w y = w y + ∑ r : Fin 512, FloatOps.ofBits (F := Ideal) .f32 0x3F000000#32 * lossRow (err (M := 512) v0 v1 v2 v3 v4 r) := by
  rw [← half_total]
  pointwise [k0_pay11]
  simp only [err_apply]
  rfl

theorem dx_apply (v0 : Vec Ideal S512x2816 .bf16) (v1 : Vec Ideal S2816x1024 .bf16) (v2 v3 : Vec Ideal S512x1024 .f32) (v4 : Vec Ideal S1x1024 .f32) (y : S512x1024.Idx) : k0_pay3 (F := Ideal) (k0_pay8 v0 v1 v2) (k0_pay9 v0 v1 v2) (k0_pay10 v0 v1 v2 v4 v3) v4 y = gradRow (feat (M := 512) v0 v1 v2 (y 0)) (err (M := 512) v0 v1 v2 v3 v4 (y 0)) v4 (y 1) := by
  pointwise [k0_pay3, k0_pay1, k0_pay2]
  simp only [feat_apply, rms_apply, err_apply]
  rfl

theorem dxb_apply (v0 : Vec Ideal S512x2816 .bf16) (v1 : Vec Ideal S2816x1024 .bf16) (v2 v3 : Vec Ideal S512x1024 .f32) (v4 : Vec Ideal S1x1024 .f32) (y : S512x1024.Idx) : k0_pay4 (F := Ideal) (k0_pay8 v0 v1 v2) (k0_pay9 v0 v1 v2) (k0_pay10 v0 v1 v2 v4 v3) v4 y = gradRow (feat (M := 512) v0 v1 v2 (y 0)) (err (M := 512) v0 v1 v2 v3 v4 (y 0)) v4 (y 1) :=
  dx_apply v0 v1 v2 v3 v4 y

theorem gain_apply (v0 : Vec Ideal S512x2816 .bf16) (v1 : Vec Ideal S2816x1024 .bf16) (v2 v3 : Vec Ideal S512x1024 .f32) (v4 : Vec Ideal S1x1024 .f32) (w : Vec Ideal S1x1024 .f32) (y : S1x1024.Idx) : k0_pay5 (F := Ideal) (k0_pay8 v0 v1 v2) (k0_pay9 v0 v1 v2) (k0_pay10 v0 v1 v2 v4 v3) w y = w y + ∑ r : Fin 512, gainRow (feat (M := 512) v0 v1 v2 r) (err (M := 512) v0 v1 v2 v3 v4 r) (y 1) := by
  pointwise [k0_pay5, k0_pay1, k0_pay2]
  simp only [feat_apply, rms_apply, err_apply]
  rfl

theorem zero5_apply (y : S1x128.Idx) : k0_pay6 (F := Ideal) y = 0 := by pointwise [k0_pay6]
theorem zero8_apply (y : S1x1024.Idx) : k0_pay7 (F := Ideal) y = 0 := by pointwise [k0_pay7]

section run

variable (c : Dev nD) (i : grid0.Coords)
variable (arg1 : Memref sig .tc .vmem S512x2816 .bf16) (harg1 : arg1.IsWhole)
variable (arg2 : Memref sig .tc .vmem S2816x1024 .bf16) (harg2 : arg2.IsWhole)
variable (arg3 : Memref sig .tc .vmem S512x1024 .f32) (harg3 : arg3.IsWhole)
variable (arg4 : Memref sig .tc .vmem S512x1024 .f32) (harg4 : arg4.IsWhole)
variable (arg5 : Memref sig .tc .vmem S1x1024 .f32) (harg5 : arg5.IsWhole)
variable (arg6 : Memref sig .tc .vmem S1x128 .f32) (harg6 : arg6.IsWhole)
variable (arg7 : Memref sig .tc .vmem S512x1024 .f32) (harg7 : arg7.IsWhole)
variable (arg8 : Memref sig .tc .vmem S512x1024 .bf16) (harg8 : arg8.IsWhole)
variable (arg9 : Memref sig .tc .vmem S1x1024 .f32) (harg9 : arg9.IsWhole)
variable (x0 : Vec Ideal S512x2816 .bf16) (x1 : Vec Ideal S2816x1024 .bf16) (x2 : Vec Ideal S512x1024 .f32) (x3 : Vec Ideal S512x1024 .f32) (x4 : Vec Ideal S1x1024 .f32)

section caseA

variable (hc0 : cond0_0 i)

theorem runA5 : (kernelRun0_A c i arg1 harg1 arg2 harg2 arg3 harg3 arg4 harg4 arg5 harg5 arg6 harg6 arg7 harg7 arg8 harg8 arg9 harg9 hc0 x0 x1 x2 x3 x4).1
    = [⟨(Rect.unit (s := S1x128) ![0, 0] S1x128.size inb_S1x128_S1x128_0_0), k0_pay11 (whole harg1 x0) (whole harg2 x1) (whole harg3 x2) (whole harg5 x4) (whole harg4 x3) (arg6.view.readCov [⟨(Rect.unit (s := S1x128) ![0, 0] S1x128.size inb_S1x128_S1x128_0_0), k0_pay6 (F := Ideal)⟩] (Rect.unit (s := S1x128) ![0, 0] S1x128.size inb_S1x128_S1x128_0_0).toLoadRect)⟩,
      ⟨(Rect.unit (s := S1x128) ![0, 0] S1x128.size inb_S1x128_S1x128_0_0), k0_pay6 (F := Ideal)⟩] := by sl_kernel_rfl
theorem outA5 (y : S1x128.Idx) : out0_A_5 c i arg1 harg1 arg2 harg2 arg3 harg3 arg4 harg4 arg5 harg5 arg6 harg6 arg7 harg7 arg8 harg8 arg9 harg9 hc0 x0 x1 x2 x3 x4 y = ∑ r : Fin 512, FloatOps.ofBits (F := Ideal) .f32 0x3F000000#32 * lossRow (err (M := 512) x0 x1 x2 x3 x4 r) := by
  unfold out0_A_5
  rw [View.read_writes_eq_canon _ _ _ (cover0_A_5 c i arg1 harg1 arg2 harg2 arg3 harg3 arg4 harg4 arg5 harg5 arg6 harg6 arg7 harg7 arg8 harg8 arg9 harg9 hc0 x0 x1 x2 x3 x4)]
  rw [runA5, whole_eq, whole_eq, whole_eq, whole_eq, whole_eq, View.readCov_unit_zero _ zero2]
  refine (congrFun (View.canon_cons_unit_zero (S := S1x128) zero2 _ _ _) y).trans ((loss_apply x0 x1 x2 x3 x4 _ y).trans ?_)
  rw [zero5_apply, zero_add]
theorem runA6 : (kernelRun0_A c i arg1 harg1 arg2 harg2 arg3 harg3 arg4 harg4 arg5 harg5 arg6 harg6 arg7 harg7 arg8 harg8 arg9 harg9 hc0 x0 x1 x2 x3 x4).2.1
    = [⟨(Rect.unit (s := S512x1024) ![0, 0] S512x1024.size inb_S512x1024_S512x1024_0_0), k0_pay3 (k0_pay8 (whole harg1 x0) (whole harg2 x1) (whole harg3 x2)) (k0_pay9 (whole harg1 x0) (whole harg2 x1) (whole harg3 x2)) (k0_pay10 (whole harg1 x0) (whole harg2 x1) (whole harg3 x2) (whole harg5 x4) (whole harg4 x3)) (whole harg5 x4)⟩] := by sl_kernel_rfl
theorem outA6 (y : S512x1024.Idx) : out0_A_6 c i arg1 harg1 arg2 harg2 arg3 harg3 arg4 harg4 arg5 harg5 arg6 harg6 arg7 harg7 arg8 harg8 arg9 harg9 hc0 x0 x1 x2 x3 x4 y = gradRow (feat (M := 512) x0 x1 x2 (y 0)) (err (M := 512) x0 x1 x2 x3 x4 (y 0)) x4 (y 1) := by
  unfold out0_A_6
  rw [View.read_writes_eq_canon _ _ _ (cover0_A_6 c i arg1 harg1 arg2 harg2 arg3 harg3 arg4 harg4 arg5 harg5 arg6 harg6 arg7 harg7 arg8 harg8 arg9 harg9 hc0 x0 x1 x2 x3 x4)]
  rw [runA6, whole_eq, whole_eq, whole_eq, whole_eq, whole_eq]
  exact (congrFun (View.canon_cons_unit_zero (S := S512x1024) zero2 _ _ _) y).trans (dx_apply x0 x1 x2 x3 x4 y)
theorem runA7 : (kernelRun0_A c i arg1 harg1 arg2 harg2 arg3 harg3 arg4 harg4 arg5 harg5 arg6 harg6 arg7 harg7 arg8 harg8 arg9 harg9 hc0 x0 x1 x2 x3 x4).2.2.1
    = [⟨(Rect.unit (s := S512x1024) ![0, 0] S512x1024.size inb_S512x1024_S512x1024_0_0), k0_pay4 (k0_pay8 (whole harg1 x0) (whole harg2 x1) (whole harg3 x2)) (k0_pay9 (whole harg1 x0) (whole harg2 x1) (whole harg3 x2)) (k0_pay10 (whole harg1 x0) (whole harg2 x1) (whole harg3 x2) (whole harg5 x4) (whole harg4 x3)) (whole harg5 x4)⟩] := by sl_kernel_rfl
theorem outA7 (y : S512x1024.Idx) : out0_A_7 c i arg1 harg1 arg2 harg2 arg3 harg3 arg4 harg4 arg5 harg5 arg6 harg6 arg7 harg7 arg8 harg8 arg9 harg9 hc0 x0 x1 x2 x3 x4 y = gradRow (feat (M := 512) x0 x1 x2 (y 0)) (err (M := 512) x0 x1 x2 x3 x4 (y 0)) x4 (y 1) := by
  unfold out0_A_7
  rw [View.read_writes_eq_canon _ _ _ (cover0_A_7 c i arg1 harg1 arg2 harg2 arg3 harg3 arg4 harg4 arg5 harg5 arg6 harg6 arg7 harg7 arg8 harg8 arg9 harg9 hc0 x0 x1 x2 x3 x4)]
  rw [runA7, whole_eq, whole_eq, whole_eq, whole_eq, whole_eq]
  exact (congrFun (View.canon_cons_unit_zero (S := S512x1024) zero2 _ _ _) y).trans (dxb_apply x0 x1 x2 x3 x4 y)
theorem runA8 : (kernelRun0_A c i arg1 harg1 arg2 harg2 arg3 harg3 arg4 harg4 arg5 harg5 arg6 harg6 arg7 harg7 arg8 harg8 arg9 harg9 hc0 x0 x1 x2 x3 x4).2.2.2.1
    = [⟨(Rect.unit (s := S1x1024) ![0, 0] S1x1024.size inb_S1x1024_S1x1024_0_0), k0_pay5 (k0_pay8 (whole harg1 x0) (whole harg2 x1) (whole harg3 x2)) (k0_pay9 (whole harg1 x0) (whole harg2 x1) (whole harg3 x2)) (k0_pay10 (whole harg1 x0) (whole harg2 x1) (whole harg3 x2) (whole harg5 x4) (whole harg4 x3)) (arg9.view.readCov [⟨(Rect.unit (s := S1x1024) ![0, 0] S1x1024.size inb_S1x1024_S1x1024_0_0), k0_pay7 (F := Ideal)⟩] (Rect.unit (s := S1x1024) ![0, 0] S1x1024.size inb_S1x1024_S1x1024_0_0).toLoadRect)⟩,
      ⟨(Rect.unit (s := S1x1024) ![0, 0] S1x1024.size inb_S1x1024_S1x1024_0_0), k0_pay7 (F := Ideal)⟩] := by sl_kernel_rfl
theorem outA8 (y : S1x1024.Idx) : out0_A_8 c i arg1 harg1 arg2 harg2 arg3 harg3 arg4 harg4 arg5 harg5 arg6 harg6 arg7 harg7 arg8 harg8 arg9 harg9 hc0 x0 x1 x2 x3 x4 y = ∑ r : Fin 512, gainRow (feat (M := 512) x0 x1 x2 r) (err (M := 512) x0 x1 x2 x3 x4 r) (y 1) := by
  unfold out0_A_8
  rw [View.read_writes_eq_canon _ _ _ (cover0_A_8 c i arg1 harg1 arg2 harg2 arg3 harg3 arg4 harg4 arg5 harg5 arg6 harg6 arg7 harg7 arg8 harg8 arg9 harg9 hc0 x0 x1 x2 x3 x4)]
  rw [runA8, whole_eq, whole_eq, whole_eq, whole_eq, whole_eq, View.readCov_unit_zero _ zero2]
  refine (congrFun (View.canon_cons_unit_zero (S := S1x1024) zero2 _ _ _) y).trans ((gain_apply x0 x1 x2 x3 x4 _ y).trans ?_)
  rw [zero8_apply, zero_add]

end caseA

section caseB

variable (hc0 : ¬cond0_0 i) (xo5 : Vec Ideal S1x128 .f32) (xo8 : Vec Ideal S1x1024 .f32)

theorem runB5 : (kernelRun0_B c i arg1 harg1 arg2 harg2 arg3 harg3 arg4 harg4 arg5 harg5 arg6 harg6 arg7 harg7 arg8 harg8 arg9 harg9 hc0 x0 x1 x2 x3 x4 xo5 xo8).1
    = [⟨(Rect.unit (s := S1x128) ![0, 0] S1x128.size inb_S1x128_S1x128_0_0), k0_pay11 (whole harg1 x0) (whole harg2 x1) (whole harg3 x2) (whole harg5 x4) (whole harg4 x3) (whole harg6 xo5)⟩] := by sl_kernel_rfl
theorem outB5 (y : S1x128.Idx) : out0_B_5 c i arg1 harg1 arg2 harg2 arg3 harg3 arg4 harg4 arg5 harg5 arg6 harg6 arg7 harg7 arg8 harg8 arg9 harg9 hc0 x0 x1 x2 x3 x4 xo5 xo8 y = xo5 y + ∑ r : Fin 512, FloatOps.ofBits (F := Ideal) .f32 0x3F000000#32 * lossRow (err (M := 512) x0 x1 x2 x3 x4 r) := by
  unfold out0_B_5
  rw [View.read_writes_eq_canon _ _ _ (cover0_B_5 c i arg1 harg1 arg2 harg2 arg3 harg3 arg4 harg4 arg5 harg5 arg6 harg6 arg7 harg7 arg8 harg8 arg9 harg9 hc0 x0 x1 x2 x3 x4 xo5 xo8)]
  rw [runB5, whole_eq, whole_eq, whole_eq, whole_eq, whole_eq, whole_eq]
  refine (congrFun (View.canon_cons_unit_zero (S := S1x128) zero2 _ _ _) y).trans ((loss_apply x0 x1 x2 x3 x4 _ y).trans ?_)
  rfl
theorem runB6 : (kernelRun0_B c i arg1 harg1 arg2 harg2 arg3 harg3 arg4 harg4 arg5 harg5 arg6 harg6 arg7 harg7 arg8 harg8 arg9 harg9 hc0 x0 x1 x2 x3 x4 xo5 xo8).2.1
    = [⟨(Rect.unit (s := S512x1024) ![0, 0] S512x1024.size inb_S512x1024_S512x1024_0_0), k0_pay3 (k0_pay8 (whole harg1 x0) (whole harg2 x1) (whole harg3 x2)) (k0_pay9 (whole harg1 x0) (whole harg2 x1) (whole harg3 x2)) (k0_pay10 (whole harg1 x0) (whole harg2 x1) (whole harg3 x2) (whole harg5 x4) (whole harg4 x3)) (whole harg5 x4)⟩] := by sl_kernel_rfl
theorem outB6 (y : S512x1024.Idx) : out0_B_6 c i arg1 harg1 arg2 harg2 arg3 harg3 arg4 harg4 arg5 harg5 arg6 harg6 arg7 harg7 arg8 harg8 arg9 harg9 hc0 x0 x1 x2 x3 x4 xo5 xo8 y = gradRow (feat (M := 512) x0 x1 x2 (y 0)) (err (M := 512) x0 x1 x2 x3 x4 (y 0)) x4 (y 1) := by
  unfold out0_B_6
  rw [View.read_writes_eq_canon _ _ _ (cover0_B_6 c i arg1 harg1 arg2 harg2 arg3 harg3 arg4 harg4 arg5 harg5 arg6 harg6 arg7 harg7 arg8 harg8 arg9 harg9 hc0 x0 x1 x2 x3 x4 xo5 xo8)]
  rw [runB6, whole_eq, whole_eq, whole_eq, whole_eq, whole_eq]
  exact (congrFun (View.canon_cons_unit_zero (S := S512x1024) zero2 _ _ _) y).trans (dx_apply x0 x1 x2 x3 x4 y)
theorem runB7 : (kernelRun0_B c i arg1 harg1 arg2 harg2 arg3 harg3 arg4 harg4 arg5 harg5 arg6 harg6 arg7 harg7 arg8 harg8 arg9 harg9 hc0 x0 x1 x2 x3 x4 xo5 xo8).2.2.1
    = [⟨(Rect.unit (s := S512x1024) ![0, 0] S512x1024.size inb_S512x1024_S512x1024_0_0), k0_pay4 (k0_pay8 (whole harg1 x0) (whole harg2 x1) (whole harg3 x2)) (k0_pay9 (whole harg1 x0) (whole harg2 x1) (whole harg3 x2)) (k0_pay10 (whole harg1 x0) (whole harg2 x1) (whole harg3 x2) (whole harg5 x4) (whole harg4 x3)) (whole harg5 x4)⟩] := by sl_kernel_rfl
theorem outB7 (y : S512x1024.Idx) : out0_B_7 c i arg1 harg1 arg2 harg2 arg3 harg3 arg4 harg4 arg5 harg5 arg6 harg6 arg7 harg7 arg8 harg8 arg9 harg9 hc0 x0 x1 x2 x3 x4 xo5 xo8 y = gradRow (feat (M := 512) x0 x1 x2 (y 0)) (err (M := 512) x0 x1 x2 x3 x4 (y 0)) x4 (y 1) := by
  unfold out0_B_7
  rw [View.read_writes_eq_canon _ _ _ (cover0_B_7 c i arg1 harg1 arg2 harg2 arg3 harg3 arg4 harg4 arg5 harg5 arg6 harg6 arg7 harg7 arg8 harg8 arg9 harg9 hc0 x0 x1 x2 x3 x4 xo5 xo8)]
  rw [runB7, whole_eq, whole_eq, whole_eq, whole_eq, whole_eq]
  exact (congrFun (View.canon_cons_unit_zero (S := S512x1024) zero2 _ _ _) y).trans (dxb_apply x0 x1 x2 x3 x4 y)
theorem runB8 : (kernelRun0_B c i arg1 harg1 arg2 harg2 arg3 harg3 arg4 harg4 arg5 harg5 arg6 harg6 arg7 harg7 arg8 harg8 arg9 harg9 hc0 x0 x1 x2 x3 x4 xo5 xo8).2.2.2.1
    = [⟨(Rect.unit (s := S1x1024) ![0, 0] S1x1024.size inb_S1x1024_S1x1024_0_0), k0_pay5 (k0_pay8 (whole harg1 x0) (whole harg2 x1) (whole harg3 x2)) (k0_pay9 (whole harg1 x0) (whole harg2 x1) (whole harg3 x2)) (k0_pay10 (whole harg1 x0) (whole harg2 x1) (whole harg3 x2) (whole harg5 x4) (whole harg4 x3)) (whole harg9 xo8)⟩] := by sl_kernel_rfl
theorem outB8 (y : S1x1024.Idx) : out0_B_8 c i arg1 harg1 arg2 harg2 arg3 harg3 arg4 harg4 arg5 harg5 arg6 harg6 arg7 harg7 arg8 harg8 arg9 harg9 hc0 x0 x1 x2 x3 x4 xo5 xo8 y = xo8 y + ∑ r : Fin 512, gainRow (feat (M := 512) x0 x1 x2 r) (err (M := 512) x0 x1 x2 x3 x4 r) (y 1) := by
  unfold out0_B_8
  rw [View.read_writes_eq_canon _ _ _ (cover0_B_8 c i arg1 harg1 arg2 harg2 arg3 harg3 arg4 harg4 arg5 harg5 arg6 harg6 arg7 harg7 arg8 harg8 arg9 harg9 hc0 x0 x1 x2 x3 x4 xo5 xo8)]
  rw [runB8, whole_eq, whole_eq, whole_eq, whole_eq, whole_eq, whole_eq]
  refine (congrFun (View.canon_cons_unit_zero (S := S1x1024) zero2 _ _ _) y).trans ((gain_apply x0 x1 x2 x3 x4 _ y).trans ?_)
  rfl

end caseB

end run

variable (m : (ℓ : Loc nD τ sig) → Buf (Elt Ideal) ℓ) (c : Dev nD)

/-- The activations. -/
abbrev act : S4096x2816.Idx → EReal := V m c main_arg0
/-- The weights. -/
abbrev wts : S2816x1024.Idx → EReal := V m c main_arg1
/-- The residual. -/
abbrev resi : S4096x1024.Idx → EReal := V m c main_arg2
/-- The target. -/
abbrev tgt : S4096x1024.Idx → EReal := V m c main_arg3
/-- The gain. -/
abbrev gain : S1x1024.Idx → EReal := V m c main_arg4

/-- Row `r` of block `t`. -/
abbrev place (t : Fin cfg0.N) (r : Fin 512) : Fin 4096 := ⟨512 * t.val + r.val, by have := t.isLt; have := r.isLt; have hN : cfg0.N = 8 := N_0; omega⟩

theorem index0 : ∀ t : Fin cfg0.N, win0_0.index t = ![t.val, 0] :=
  (by decide +kernel : ∀ t : Fin grid0.N, win0_0.index t = ![t.val, 0])

theorem emb0 (t : Fin cfg0.N) (y : S512x2816.Idx) : (win0_0.rect t).emb y = ValueIdx.ix2 (place t (y 0)) (y 1) := by
  have e0 : ((win0_0.rect t).emb y 0 : ℕ) = 512 * t.val + (y 0).val := by
    rw [Pipeline.Window.rect_emb_val win0_0 t y 0 rfl, index0]
    show t.val * 512 + _ = _
    omega
  have e1 : ((win0_0.rect t).emb y 1 : ℕ) = (y 1).val := by
    rw [Pipeline.Window.rect_emb_val win0_0 t y 1 rfl, index0]
    show 0 * 2816 + _ = _
    omega
  funext a
  apply Fin.ext
  match a with
  | ⟨0, _⟩ => exact e0
  | ⟨1, _⟩ => exact e1

theorem blk0 (t : Fin cfg0.N) (y : S512x2816.Idx) : iblk m c 0 t y = act m c (ValueIdx.ix2 (place t (y 0)) (y 1)) := congrArg (act m c) (emb0 t y)

theorem index1 : ∀ t : Fin cfg0.N, win0_1.index t = ![0, 0] :=
  (by decide +kernel : ∀ t : Fin grid0.N, win0_1.index t = ![0, 0])

theorem blk1 (t : Fin cfg0.N) (j : S2816x1024.Idx) : iblk m c 1 t j = wts m c j := by
  refine congrArg (wts m c) (funext fun a => Fin.ext (Pipeline.Window.rect_emb_val_of_index_zero win0_1 t a ?_ j))
  rw [index1]
  fin_cases a <;> rfl

theorem index2 : ∀ t : Fin cfg0.N, win0_2.index t = ![t.val, 0] :=
  (by decide +kernel : ∀ t : Fin grid0.N, win0_2.index t = ![t.val, 0])

theorem emb2 (t : Fin cfg0.N) (y : S512x1024.Idx) : (win0_2.rect t).emb y = ValueIdx.ix2 (place t (y 0)) (y 1) := by
  have e0 : ((win0_2.rect t).emb y 0 : ℕ) = 512 * t.val + (y 0).val := by
    rw [Pipeline.Window.rect_emb_val win0_2 t y 0 rfl, index2]
    show t.val * 512 + _ = _
    omega
  have e1 : ((win0_2.rect t).emb y 1 : ℕ) = (y 1).val := by
    rw [Pipeline.Window.rect_emb_val win0_2 t y 1 rfl, index2]
    show 0 * 1024 + _ = _
    omega
  funext a
  apply Fin.ext
  match a with
  | ⟨0, _⟩ => exact e0
  | ⟨1, _⟩ => exact e1

theorem blk2 (t : Fin cfg0.N) (y : S512x1024.Idx) : iblk m c 2 t y = resi m c (ValueIdx.ix2 (place t (y 0)) (y 1)) := congrArg (resi m c) (emb2 t y)

theorem index3 : ∀ t : Fin cfg0.N, win0_3.index t = ![t.val, 0] :=
  (by decide +kernel : ∀ t : Fin grid0.N, win0_3.index t = ![t.val, 0])

theorem emb3 (t : Fin cfg0.N) (y : S512x1024.Idx) : (win0_3.rect t).emb y = ValueIdx.ix2 (place t (y 0)) (y 1) := by
  have e0 : ((win0_3.rect t).emb y 0 : ℕ) = 512 * t.val + (y 0).val := by
    rw [Pipeline.Window.rect_emb_val win0_3 t y 0 rfl, index3]
    show t.val * 512 + _ = _
    omega
  have e1 : ((win0_3.rect t).emb y 1 : ℕ) = (y 1).val := by
    rw [Pipeline.Window.rect_emb_val win0_3 t y 1 rfl, index3]
    show 0 * 1024 + _ = _
    omega
  funext a
  apply Fin.ext
  match a with
  | ⟨0, _⟩ => exact e0
  | ⟨1, _⟩ => exact e1

theorem blk3 (t : Fin cfg0.N) (y : S512x1024.Idx) : iblk m c 3 t y = tgt m c (ValueIdx.ix2 (place t (y 0)) (y 1)) := congrArg (tgt m c) (emb3 t y)

theorem index4 : ∀ t : Fin cfg0.N, win0_4.index t = ![0, 0] :=
  (by decide +kernel : ∀ t : Fin grid0.N, win0_4.index t = ![0, 0])

theorem blk4 (t : Fin cfg0.N) (j : S1x1024.Idx) : iblk m c 4 t j = gain m c j := by
  refine congrArg (gain m c) (funext fun a => Fin.ext (Pipeline.Window.rect_emb_val_of_index_zero win0_4 t a ?_ j))
  rw [index4]
  fin_cases a <;> rfl

theorem index6 : ∀ t : Fin cfg0.N, win0_6.index t = ![t.val, 0] :=
  (by decide +kernel : ∀ t : Fin grid0.N, win0_6.index t = ![t.val, 0])

theorem emb6 (t : Fin cfg0.N) (y : S512x1024.Idx) : (win0_6.rect t).emb y = ValueIdx.ix2 (place t (y 0)) (y 1) := by
  have e0 : ((win0_6.rect t).emb y 0 : ℕ) = 512 * t.val + (y 0).val := by
    rw [Pipeline.Window.rect_emb_val win0_6 t y 0 rfl, index6]
    show t.val * 512 + _ = _
    omega
  have e1 : ((win0_6.rect t).emb y 1 : ℕ) = (y 1).val := by
    rw [Pipeline.Window.rect_emb_val win0_6 t y 1 rfl, index6]
    show 0 * 1024 + _ = _
    omega
  funext a
  apply Fin.ext
  match a with
  | ⟨0, _⟩ => exact e0
  | ⟨1, _⟩ => exact e1

theorem xsize6 : ∀ t : Fin cfg0.N, ∀ a, win0_6.xsize (grid0.coords t) a = S512x1024.size a :=
  (by decide +kernel : ∀ t : Fin grid0.N, ∀ a, win0_6.xsize (grid0.coords t) a = S512x1024.size a)

theorem mem6 (t : Fin cfg0.N) (i : S4096x1024.Idx) (h0 : t.val = (i 0).val / 512) : i ∈ ((cfg0.win 6).blk t).view.set := by
  show i ∈ ((View.whole main_v0_1).slice (win0_6.rect t)).set
  rw [View.set_slice_whole, Rect.mem_set_unit]
  intro a
  rw [xsize6]
  match a with
  | ⟨0, _⟩ =>
    show win0_6.index t 0 * 512 ≤ (i 0).val ∧ (i 0).val < win0_6.index t 0 * 512 + 512
    rw [index6]
    show t.val * 512 ≤ (i 0).val ∧ (i 0).val < t.val * 512 + 512
    omega
  | ⟨1, _⟩ =>
    have h1 : (i 1).val < 1024 := (i 1).isLt
    show win0_6.index t 1 * 1024 ≤ (i 1).val ∧ (i 1).val < win0_6.index t 1 * 1024 + 1024
    rw [index6]
    show 0 * 1024 ≤ (i 1).val ∧ (i 1).val < 0 * 1024 + 1024
    omega

theorem index7 : ∀ t : Fin cfg0.N, win0_7.index t = ![t.val, 0] :=
  (by decide +kernel : ∀ t : Fin grid0.N, win0_7.index t = ![t.val, 0])

theorem emb7 (t : Fin cfg0.N) (y : S512x1024.Idx) : (win0_7.rect t).emb y = ValueIdx.ix2 (place t (y 0)) (y 1) := by
  have e0 : ((win0_7.rect t).emb y 0 : ℕ) = 512 * t.val + (y 0).val := by
    rw [Pipeline.Window.rect_emb_val win0_7 t y 0 rfl, index7]
    show t.val * 512 + _ = _
    omega
  have e1 : ((win0_7.rect t).emb y 1 : ℕ) = (y 1).val := by
    rw [Pipeline.Window.rect_emb_val win0_7 t y 1 rfl, index7]
    show 0 * 1024 + _ = _
    omega
  funext a
  apply Fin.ext
  match a with
  | ⟨0, _⟩ => exact e0
  | ⟨1, _⟩ => exact e1

theorem xsize7 : ∀ t : Fin cfg0.N, ∀ a, win0_7.xsize (grid0.coords t) a = S512x1024.size a :=
  (by decide +kernel : ∀ t : Fin grid0.N, ∀ a, win0_7.xsize (grid0.coords t) a = S512x1024.size a)

theorem mem7 (t : Fin cfg0.N) (i : S4096x1024.Idx) (h0 : t.val = (i 0).val / 512) : i ∈ ((cfg0.win 7).blk t).view.set := by
  show i ∈ ((View.whole main_v0_2).slice (win0_7.rect t)).set
  rw [View.set_slice_whole, Rect.mem_set_unit]
  intro a
  rw [xsize7]
  match a with
  | ⟨0, _⟩ =>
    show win0_7.index t 0 * 512 ≤ (i 0).val ∧ (i 0).val < win0_7.index t 0 * 512 + 512
    rw [index7]
    show t.val * 512 ≤ (i 0).val ∧ (i 0).val < t.val * 512 + 512
    omega
  | ⟨1, _⟩ =>
    have h1 : (i 1).val < 1024 := (i 1).isLt
    show win0_7.index t 1 * 1024 ≤ (i 1).val ∧ (i 1).val < win0_7.index t 1 * 1024 + 1024
    rw [index7]
    show 0 * 1024 ≤ (i 1).val ∧ (i 1).val < 0 * 1024 + 1024
    omega

theorem index5 : ∀ t : Fin cfg0.N, win0_5.index t = ![0, 0] :=
  (by decide +kernel : ∀ t : Fin grid0.N, win0_5.index t = ![0, 0])

theorem emb5 (t : Fin cfg0.N) (y : S1x128.Idx) : (win0_5.rect t).emb y = y := by
  funext a
  refine Fin.ext (Pipeline.Window.rect_emb_val_of_index_zero win0_5 t a ?_ y)
  rw [index5]
  fin_cases a <;> rfl

theorem index8 : ∀ t : Fin cfg0.N, win0_8.index t = ![0, 0] :=
  (by decide +kernel : ∀ t : Fin grid0.N, win0_8.index t = ![0, 0])

theorem emb8 (t : Fin cfg0.N) (y : S1x1024.Idx) : (win0_8.rect t).emb y = y := by
  funext a
  refine Fin.ext (Pipeline.Window.rect_emb_val_of_index_zero win0_8 t a ?_ y)
  rw [index8]
  fin_cases a <;> rfl

theorem feat_blk (t : Fin cfg0.N) (r : Fin 512) : feat (M := 512) (iblk m c 0 t) (iblk m c 1 t) (iblk m c 2 t) r = feat (M := 4096) (act m c) (wts m c) (resi m c) (place t r) := by
  funext j
  unfold feat nn
  exact congrArg₂ (fun p q : EReal => p + q) (blk2 m c t (ValueIdx.ix2 r j)) (Finset.sum_congr rfl fun k _ => congrArg₂ (fun p q : EReal => p * q) (blk0 m c t (ValueIdx.ix2 r k)) (blk1 m c t (ValueIdx.ix2 k j)))

theorem err_blk (t : Fin cfg0.N) (r : Fin 512) : err (M := 512) (iblk m c 0 t) (iblk m c 1 t) (iblk m c 2 t) (iblk m c 3 t) (iblk m c 4 t) r = err (M := 4096) (act m c) (wts m c) (resi m c) (tgt m c) (gain m c) (place t r) := by
  funext j
  unfold err
  rw [feat_blk]
  exact congrArg₂ (fun p q : EReal => feat (M := 4096) (act m c) (wts m c) (resi m c) (place t r) j * rstd (feat (M := 4096) (act m c) (wts m c) (resi m c) (place t r)) * p - q) (blk4 m c t (ValueIdx.ix2 0 j)) (blk3 m c t (ValueIdx.ix2 r j))

theorem gain_blk (t : Fin cfg0.N) : (iblk m c 4 t : S1x1024.Idx → EReal) = gain m c := funext fun j => blk4 m c t j

theorem grad_congr (f e f' e' : Fin 1024 → EReal) (g g' : S1x1024.Idx → EReal) (j : Fin 1024) (h1 : f = f') (h2 : e = e') (h3 : g = g') : gradRow f e g j = gradRow f' e' g' j := by rw [h1, h2, h3]

theorem tile_blk (t : Fin cfg0.N) (y : S512x1024.Idx) : gradRow (feat (M := 512) (iblk m c 0 t) (iblk m c 1 t) (iblk m c 2 t) (y 0)) (err (M := 512) (iblk m c 0 t) (iblk m c 1 t) (iblk m c 2 t) (iblk m c 3 t) (iblk m c 4 t) (y 0)) (iblk m c 4 t) (y 1) = outX (act m c) (wts m c) (resi m c) (tgt m c) (gain m c) (ValueIdx.ix2 (place t (y 0)) (y 1)) :=
  grad_congr _ _ _ _ _ _ (y 1) (feat_blk m c t (y 0)) (err_blk m c t (y 0)) (gain_blk m c t)

/-- What row `b` adds to the loss. -/
def addL (b : ℕ) : EReal := if h : b < 4096 then FloatOps.ofBits (F := Ideal) .f32 0x3F000000#32 * lossRow (err (M := 4096) (act m c) (wts m c) (resi m c) (tgt m c) (gain m c) ⟨b, h⟩) else 0

/-- What row `b` adds to the gradient of the gain. -/
def addG (j : Fin 1024) (b : ℕ) : EReal := if h : b < 4096 then gainRow (feat (M := 4096) (act m c) (wts m c) (resi m c) ⟨b, h⟩) (err (M := 4096) (act m c) (wts m c) (resi m c) (tgt m c) (gain m c) ⟨b, h⟩) j else 0

theorem addL_blk (t : Fin cfg0.N) : (∑ r : Fin 512, FloatOps.ofBits (F := Ideal) .f32 0x3F000000#32 * lossRow (err (M := 512) (iblk m c 0 t) (iblk m c 1 t) (iblk m c 2 t) (iblk m c 3 t) (iblk m c 4 t) r)) = ∑ b ∈ Finset.range 512, addL m c (512 * t.val + b) := by
  have hN : cfg0.N = 8 := N_0
  have ht := t.isLt
  rw [Finset.sum_range]
  refine Finset.sum_congr rfl fun r _ => ?_
  have hr := r.isLt
  unfold addL
  rw [dif_pos (by omega)]
  exact congrArg (fun e : Fin 1024 → EReal => FloatOps.ofBits (F := Ideal) .f32 0x3F000000#32 * lossRow e) (err_blk m c t r)

theorem addG_blk (t : Fin cfg0.N) (j : Fin 1024) : (∑ r : Fin 512, gainRow (feat (M := 512) (iblk m c 0 t) (iblk m c 1 t) (iblk m c 2 t) r) (err (M := 512) (iblk m c 0 t) (iblk m c 1 t) (iblk m c 2 t) (iblk m c 3 t) (iblk m c 4 t) r) j) = ∑ b ∈ Finset.range 512, addG m c j (512 * t.val + b) := by
  have hN : cfg0.N = 8 := N_0
  have ht := t.isLt
  rw [Finset.sum_range]
  refine Finset.sum_congr rfl fun r _ => ?_
  have hr := r.isLt
  unfold addG
  rw [dif_pos (by omega)]
  exact congrArg₂ (fun f e : Fin 1024 → EReal => gainRow f e j) (feat_blk m c t r) (err_blk m c t r)

theorem accL_A (t : Fin cfg0.N) (h0 : t.val % 8 = 0) (y : S1x128.Idx) : (outsAt0 m c t.val t.isLt).1 y = ∑ b ∈ Finset.range 512, addL m c (512 * t.val + b) := by
  rw [outsAt0_A m c t h0]
  have e := outA5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (iblk m c 0 t) (iblk m c 1 t) (iblk m c 2 t) (iblk m c 3 t) (iblk m c 4 t) ((hcond0_0 t).mpr h0) y
  have e2 := e.trans (addL_blk m c t)
  dsimp only
  exact e2

theorem accL_B (t : Fin cfg0.N) (h0 : ¬t.val % 8 = 0) (y : S1x128.Idx) : (outsAt0 m c t.val t.isLt).1 y = (outsAt0 m c (t.val - 1) (Nat.lt_of_le_of_lt (Nat.sub_le _ _) t.isLt)).1 y + ∑ b ∈ Finset.range 512, addL m c (512 * t.val + b) := by
  rw [outsAt0_B m c t h0]
  have e := outB5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (iblk m c 0 t) (iblk m c 1 t) (iblk m c 2 t) (iblk m c 3 t) (iblk m c 4 t) (fun h => h0 ((hcond0_0 t).mp h)) (outsAt0 m c (t.val - 1) (Nat.lt_of_le_of_lt (Nat.sub_le _ _) t.isLt)).1 (outsAt0 m c (t.val - 1) (Nat.lt_of_le_of_lt (Nat.sub_le _ _) t.isLt)).2.2.2 y
  have e2 := e.trans (congrArg (fun a : EReal => (outsAt0 m c (t.val - 1) (Nat.lt_of_le_of_lt (Nat.sub_le _ _) t.isLt)).1 y + a) (addL_blk m c t))
  dsimp only
  exact e2

theorem accL_outs (y : S1x128.Idx) : ∀ (n : ℕ) (hn : n < cfg0.N), (outsAt0 m c n hn).1 y = ∑ b ∈ Finset.range (512 * (n + 1)), addL m c b
  | 0, hn => by
    refine (accL_A m c ⟨0, hn⟩ (Nat.zero_mod _) y).trans (Finset.sum_congr rfl fun b _ => congrArg (addL m c) ?_)
    show 512 * 0 + b = b
    omega
  | n + 1, hn => by
    have hN : cfg0.N = 8 := N_0
    refine (accL_B m c ⟨n + 1, hn⟩ (by dsimp only; omega) y).trans ?_
    rw [Nat.mul_succ 512 (n + 1), Finset.sum_range_add]
    exact congrArg (fun a : EReal => a + ∑ b ∈ Finset.range 512, addL m c (512 * (n + 1) + b)) (accL_outs y n (by omega))

theorem accG_A (t : Fin cfg0.N) (h0 : t.val % 8 = 0) (y : S1x1024.Idx) : (outsAt0 m c t.val t.isLt).2.2.2 y = ∑ b ∈ Finset.range 512, addG m c (y 1) (512 * t.val + b) := by
  rw [outsAt0_A m c t h0]
  have e := outA8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (iblk m c 0 t) (iblk m c 1 t) (iblk m c 2 t) (iblk m c 3 t) (iblk m c 4 t) ((hcond0_0 t).mpr h0) y
  have e2 := e.trans (addG_blk m c t (y 1))
  dsimp only
  exact e2

theorem accG_B (t : Fin cfg0.N) (h0 : ¬t.val % 8 = 0) (y : S1x1024.Idx) : (outsAt0 m c t.val t.isLt).2.2.2 y = (outsAt0 m c (t.val - 1) (Nat.lt_of_le_of_lt (Nat.sub_le _ _) t.isLt)).2.2.2 y + ∑ b ∈ Finset.range 512, addG m c (y 1) (512 * t.val + b) := by
  rw [outsAt0_B m c t h0]
  have e := outB8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (iblk m c 0 t) (iblk m c 1 t) (iblk m c 2 t) (iblk m c 3 t) (iblk m c 4 t) (fun h => h0 ((hcond0_0 t).mp h)) (outsAt0 m c (t.val - 1) (Nat.lt_of_le_of_lt (Nat.sub_le _ _) t.isLt)).1 (outsAt0 m c (t.val - 1) (Nat.lt_of_le_of_lt (Nat.sub_le _ _) t.isLt)).2.2.2 y
  have e2 := e.trans (congrArg (fun a : EReal => (outsAt0 m c (t.val - 1) (Nat.lt_of_le_of_lt (Nat.sub_le _ _) t.isLt)).2.2.2 y + a) (addG_blk m c t (y 1)))
  dsimp only
  exact e2

theorem accG_outs (y : S1x1024.Idx) : ∀ (n : ℕ) (hn : n < cfg0.N), (outsAt0 m c n hn).2.2.2 y = ∑ b ∈ Finset.range (512 * (n + 1)), addG m c (y 1) b
  | 0, hn => by
    refine (accG_A m c ⟨0, hn⟩ (Nat.zero_mod _) y).trans (Finset.sum_congr rfl fun b _ => congrArg (addG m c (y 1)) ?_)
    show 512 * 0 + b = b
    omega
  | n + 1, hn => by
    have hN : cfg0.N = 8 := N_0
    refine (accG_B m c ⟨n + 1, hn⟩ (by dsimp only; omega) y).trans ?_
    rw [Nat.mul_succ 512 (n + 1), Finset.sum_range_add]
    exact congrArg (fun a : EReal => a + ∑ b ∈ Finset.range 512, addG m c (y 1) (512 * (n + 1) + b)) (accG_outs y n (by omega))

theorem res6 (i : S4096x1024.Idx) : (dats m 0 c).arrAt 6 cfg0.N i = outX (act m c) (wts m c) (resi m c) (tgt m c) (gain m c) i := by
  have h0 : (i 0).val < 4096 := (i 0).isLt
  have hN : cfg0.N = 8 := N_0
  refine (dats m 0 c).arrAt_apply_of_mem 6 (outX (act m c) (wts m c) (resi m c) (tgt m c) (gain m c)) ?_ cfg0.N ⟨(i 0).val / 512, by omega⟩ i (by show (i 0).val / 512 < _; omega) (flush0_6 _) (mem6 _ i rfl)
  intro t _
  by_cases h0 : t.val % 8 = 0
  · rw [Value.flushed6_A m c t h0]
    funext y
    refine (outA6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (iblk m c 0 t) (iblk m c 1 t) (iblk m c 2 t) (iblk m c 3 t) (iblk m c 4 t) ((hcond0_0 t).mpr h0) y).trans ((tile_blk m c t y).trans ?_)
    show _ = outX (act m c) (wts m c) (resi m c) (tgt m c) (gain m c) ((win0_6.rect t).emb y)
    rw [emb6]
    rfl
  · rw [Value.flushed6_B m c t h0]
    funext y
    refine (outB6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (iblk m c 0 t) (iblk m c 1 t) (iblk m c 2 t) (iblk m c 3 t) (iblk m c 4 t) (fun h => h0 ((hcond0_0 t).mp h)) (outsAt0 m c (t.val - 1) (Nat.lt_of_le_of_lt (Nat.sub_le _ _) t.isLt)).1 (outsAt0 m c (t.val - 1) (Nat.lt_of_le_of_lt (Nat.sub_le _ _) t.isLt)).2.2.2 y).trans ((tile_blk m c t y).trans ?_)
    show _ = outX (act m c) (wts m c) (resi m c) (tgt m c) (gain m c) ((win0_6.rect t).emb y)
    rw [emb6]
    rfl

theorem res7 (i : S4096x1024.Idx) : (dats m 0 c).arrAt 7 cfg0.N i = outX (act m c) (wts m c) (resi m c) (tgt m c) (gain m c) i := by
  have h0 : (i 0).val < 4096 := (i 0).isLt
  have hN : cfg0.N = 8 := N_0
  refine (dats m 0 c).arrAt_apply_of_mem 7 (outX (act m c) (wts m c) (resi m c) (tgt m c) (gain m c)) ?_ cfg0.N ⟨(i 0).val / 512, by omega⟩ i (by show (i 0).val / 512 < _; omega) (flush0_7 _) (mem7 _ i rfl)
  intro t _
  by_cases h0 : t.val % 8 = 0
  · rw [Value.flushed7_A m c t h0]
    funext y
    refine (outA7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (iblk m c 0 t) (iblk m c 1 t) (iblk m c 2 t) (iblk m c 3 t) (iblk m c 4 t) ((hcond0_0 t).mpr h0) y).trans ((tile_blk m c t y).trans ?_)
    show _ = outX (act m c) (wts m c) (resi m c) (tgt m c) (gain m c) ((win0_7.rect t).emb y)
    rw [emb7]
    rfl
  · rw [Value.flushed7_B m c t h0]
    funext y
    refine (outB7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (iblk m c 0 t) (iblk m c 1 t) (iblk m c 2 t) (iblk m c 3 t) (iblk m c 4 t) (fun h => h0 ((hcond0_0 t).mp h)) (outsAt0 m c (t.val - 1) (Nat.lt_of_le_of_lt (Nat.sub_le _ _) t.isLt)).1 (outsAt0 m c (t.val - 1) (Nat.lt_of_le_of_lt (Nat.sub_le _ _) t.isLt)).2.2.2 y).trans ((tile_blk m c t y).trans ?_)
    show _ = outX (act m c) (wts m c) (resi m c) (tgt m c) (gain m c) ((win0_7.rect t).emb y)
    rw [emb7]
    rfl

/-- The last point. -/
def lastPt : Fin cfg0.N := ⟨7, by show 7 < grid0.N; rw [N_0]; norm_num⟩

theorem totalL (y : S1x128.Idx) : (∑ b ∈ Finset.range 4096, addL m c b) = outL (act m c) (wts m c) (resi m c) (tgt m c) (gain m c) y := by
  unfold outL
  rw [Finset.sum_range, half_total]
  refine Finset.sum_congr rfl fun r _ => ?_
  unfold addL
  rw [dif_pos r.isLt]

theorem totalG (y : S1x1024.Idx) : (∑ b ∈ Finset.range 4096, addG m c (y 1) b) = outG (act m c) (wts m c) (resi m c) (tgt m c) (gain m c) y := by
  rw [Finset.sum_range]
  refine Finset.sum_congr rfl fun r _ => ?_
  unfold addG
  rw [dif_pos r.isLt]

theorem res5 (y : S1x128.Idx) : (dats m 0 c).arrAt 5 cfg0.N y = outL (act m c) (wts m c) (resi m c) (tgt m c) (gain m c) y := by
  have hN : cfg0.N = 8 := N_0
  refine (dats m 0 c).arrAt_apply_of_mem 5 (outL (act m c) (wts m c) (resi m c) (tgt m c) (gain m c)) ?_ cfg0.N lastPt y (by show 7 < _; omega) ((flush0_5 _).mpr rfl) ?_
  · intro t ht
    have ht7 : t.val = 7 := by have h1 := (flush0_5 t).mp ht; have h2 := t.isLt; omega
    rw [Value.flushed5]
    funext y
    have key := accL_outs m c y t.val t.isLt
    rw [show 512 * (t.val + 1) = 4096 by rw [ht7], totalL m c y] at key
    refine Eq.trans ?_ (key.trans ?_)
    · rfl
    · show _ = outL (act m c) (wts m c) (resi m c) (tgt m c) (gain m c) ((win0_5.rect t).emb y)
      rw [emb5]
  · have e := ((cfg0.win 5).blk lastPt).view.emb_mem_set y
    exact (emb5 lastPt y) ▸ e

theorem res8 (y : S1x1024.Idx) : (dats m 0 c).arrAt 8 cfg0.N y = outG (act m c) (wts m c) (resi m c) (tgt m c) (gain m c) y := by
  have hN : cfg0.N = 8 := N_0
  refine (dats m 0 c).arrAt_apply_of_mem 8 (outG (act m c) (wts m c) (resi m c) (tgt m c) (gain m c)) ?_ cfg0.N lastPt y (by show 7 < _; omega) ((flush0_8 _).mpr rfl) ?_
  · intro t ht
    have ht7 : t.val = 7 := by have h1 := (flush0_8 t).mp ht; have h2 := t.isLt; omega
    rw [Value.flushed8]
    funext y
    have key := accG_outs m c y t.val t.isLt
    rw [show 512 * (t.val + 1) = 4096 by rw [ht7], totalG] at key
    refine Eq.trans ?_ (key.trans ?_)
    · rfl
    · show _ = outG (act m c) (wts m c) (resi m c) (tgt m c) (gain m c) ((win0_8.rect t).emb y)
      rw [emb8]
  · have e := ((cfg0.win 8).blk lastPt).view.emb_mem_set y
    exact (emb8 lastPt y) ▸ e

end Cert.Kernel18Ideal.Norm

namespace Cert.Proof.Norm18

open Idealize.ShloMosaic Idealize.ShloMosaic.TcCoe Idealize.ShloMosaic.StableHlo Idealize.SL.Sem

theorem frame_reference : Cert.quiescent_Reference18Ideal := by
  intro m ρ _
  exact (θ_run Cert.Reference18Ideal.defs _ _).mono (fun r h => ⟨fun c => (h c).2.2.2.2, sem_eq_zero_of_no_sems (by decide) r.2⟩)
    (Cert.Reference18Ideal.Value.run (F := Ideal) m ρ)

theorem algebraic : Cert.algebraic_Kernel18Ideal_Reference18Ideal := by
  intro m g m' g' _ ha
  refine ⟨fun c (i : Cert.Kernel18Ideal.S1x128.Idx) => Cert.Reference18Ideal.Norm.outL (Cert.Kernel18Ideal.Norm.act m c) (Cert.Kernel18Ideal.Norm.wts m c) (Cert.Kernel18Ideal.Norm.resi m c) (Cert.Kernel18Ideal.Norm.tgt m c) (Cert.Kernel18Ideal.Norm.gain m c) i,
    fun c (i : Cert.Kernel18Ideal.S4096x1024.Idx) => Cert.Reference18Ideal.Norm.outX (Cert.Kernel18Ideal.Norm.act m c) (Cert.Kernel18Ideal.Norm.wts m c) (Cert.Kernel18Ideal.Norm.resi m c) (Cert.Kernel18Ideal.Norm.tgt m c) (Cert.Kernel18Ideal.Norm.gain m c) i,
    fun c (i : Cert.Kernel18Ideal.S4096x1024.Idx) => Cert.Reference18Ideal.Norm.outX (Cert.Kernel18Ideal.Norm.act m c) (Cert.Kernel18Ideal.Norm.wts m c) (Cert.Kernel18Ideal.Norm.resi m c) (Cert.Kernel18Ideal.Norm.tgt m c) (Cert.Kernel18Ideal.Norm.gain m c) i,
    fun c (i : Cert.Kernel18Ideal.S1x1024.Idx) => Cert.Reference18Ideal.Norm.outG (Cert.Kernel18Ideal.Norm.act m c) (Cert.Kernel18Ideal.Norm.wts m c) (Cert.Kernel18Ideal.Norm.resi m c) (Cert.Kernel18Ideal.Norm.tgt m c) (Cert.Kernel18Ideal.Norm.gain m c) i, ?_, ?_⟩
  · refine (θ_run Cert.Kernel18Ideal.defs _ _).mono (fun r h c => ?_) (Cert.Kernel18Ideal.Value.run_blocks (F := Ideal) m g)
    obtain ⟨r1, r2, r3, r4, hargs⟩ := h c
    exact ⟨r1.trans (funext fun i => Cert.Kernel18Ideal.Norm.res5 m c i), r2.trans (funext fun i => Cert.Kernel18Ideal.Norm.res6 m c i), r3.trans (funext fun i => Cert.Kernel18Ideal.Norm.res7 m c i), r4.trans (funext fun i => Cert.Kernel18Ideal.Norm.res8 m c i), hargs⟩
  · refine (θ_run Cert.Reference18Ideal.defs _ _).mono (fun r h c => ?_) (Cert.Reference18Ideal.Value.run (F := Ideal) m' g')
    obtain ⟨r1, r2, r3, r4, hargs⟩ := h c
    obtain ⟨a0, a1, a2, a3, a4⟩ := ha c
    refine ⟨r1.trans ((Cert.Reference18Ideal.Read.val_main_v53_eq _ _ _ _ _).trans (funext fun i => ?_)), r2.trans ((Cert.Reference18Ideal.Read.val_main_v52_eq _ _).trans (funext fun i => ?_)), r3.trans ((Cert.Reference18Ideal.Read.val_main_v54_eq _ _).trans (funext fun i => ?_)), r4.trans ((Cert.Reference18Ideal.Read.val_main_v36_eq _ _ _ _ _).trans (funext fun i => ?_)), hargs⟩
    · refine (Cert.Reference18Ideal.Norm.loss_apply _ _ _ _ _ i).trans ?_
      show _ = Cert.Reference18Ideal.Norm.outL (Cert.Kernel18Ideal.Gen.V m c Cert.Kernel18Ideal.main_arg0) (Cert.Kernel18Ideal.Gen.V m c Cert.Kernel18Ideal.main_arg1) (Cert.Kernel18Ideal.Gen.V m c Cert.Kernel18Ideal.main_arg2) (Cert.Kernel18Ideal.Gen.V m c Cert.Kernel18Ideal.main_arg3) (Cert.Kernel18Ideal.Gen.V m c Cert.Kernel18Ideal.main_arg4) i
      rw [Cert.Kernel18Ideal.Gen.V_main_arg0, Cert.Kernel18Ideal.Gen.V_main_arg1, Cert.Kernel18Ideal.Gen.V_main_arg2, Cert.Kernel18Ideal.Gen.V_main_arg3, Cert.Kernel18Ideal.Gen.V_main_arg4, a0, a1, a2, a3, a4]
    · refine (Cert.Reference18Ideal.Norm.dx_apply _ _ _ _ _ i).trans ?_
      show _ = Cert.Reference18Ideal.Norm.outX (Cert.Kernel18Ideal.Gen.V m c Cert.Kernel18Ideal.main_arg0) (Cert.Kernel18Ideal.Gen.V m c Cert.Kernel18Ideal.main_arg1) (Cert.Kernel18Ideal.Gen.V m c Cert.Kernel18Ideal.main_arg2) (Cert.Kernel18Ideal.Gen.V m c Cert.Kernel18Ideal.main_arg3) (Cert.Kernel18Ideal.Gen.V m c Cert.Kernel18Ideal.main_arg4) i
      rw [Cert.Kernel18Ideal.Gen.V_main_arg0, Cert.Kernel18Ideal.Gen.V_main_arg1, Cert.Kernel18Ideal.Gen.V_main_arg2, Cert.Kernel18Ideal.Gen.V_main_arg3, Cert.Kernel18Ideal.Gen.V_main_arg4, a0, a1, a2, a3, a4]
    · refine (Cert.Reference18Ideal.Norm.dxb_apply _ _ _ _ _ i).trans ?_
      show _ = Cert.Reference18Ideal.Norm.outX (Cert.Kernel18Ideal.Gen.V m c Cert.Kernel18Ideal.main_arg0) (Cert.Kernel18Ideal.Gen.V m c Cert.Kernel18Ideal.main_arg1) (Cert.Kernel18Ideal.Gen.V m c Cert.Kernel18Ideal.main_arg2) (Cert.Kernel18Ideal.Gen.V m c Cert.Kernel18Ideal.main_arg3) (Cert.Kernel18Ideal.Gen.V m c Cert.Kernel18Ideal.main_arg4) i
      rw [Cert.Kernel18Ideal.Gen.V_main_arg0, Cert.Kernel18Ideal.Gen.V_main_arg1, Cert.Kernel18Ideal.Gen.V_main_arg2, Cert.Kernel18Ideal.Gen.V_main_arg3, Cert.Kernel18Ideal.Gen.V_main_arg4, a0, a1, a2, a3, a4]
    · refine (Cert.Reference18Ideal.Norm.gain_apply _ _ _ _ _ i).trans ?_
      show _ = Cert.Reference18Ideal.Norm.outG (Cert.Kernel18Ideal.Gen.V m c Cert.Kernel18Ideal.main_arg0) (Cert.Kernel18Ideal.Gen.V m c Cert.Kernel18Ideal.main_arg1) (Cert.Kernel18Ideal.Gen.V m c Cert.Kernel18Ideal.main_arg2) (Cert.Kernel18Ideal.Gen.V m c Cert.Kernel18Ideal.main_arg3) (Cert.Kernel18Ideal.Gen.V m c Cert.Kernel18Ideal.main_arg4) i
      rw [Cert.Kernel18Ideal.Gen.V_main_arg0, Cert.Kernel18Ideal.Gen.V_main_arg1, Cert.Kernel18Ideal.Gen.V_main_arg2, Cert.Kernel18Ideal.Gen.V_main_arg3, Cert.Kernel18Ideal.Gen.V_main_arg4, a0, a1, a2, a3, a4]

end Cert.Proof.Norm18

end
-- ==== Proof.SgFwd.lean ====
/- The gMLP, forward: the tiled kernel and its reference are the same function of the extended reals. -/
module

public import proofs.«01_k».proof.Defs
public import proofs.«01_k».proof.Proof.Gen.Kernel19Ideal.Value
public import proofs.«01_k».proof.Proof.Gen.Reference19Ideal.Run
public import proofs.«01_k».proof.Proof.Gen.Reference19Ideal.Read
public import proofs.«01_k».proof.Proof.SgRef

@[expose] public section

set_option maxRecDepth 16384
set_option maxHeartbeats 2000000

noncomputable section

namespace Cert.SgF

open Idealize.ShloMosaic

/-- The gelu. -/
def gel (x : EReal) : EReal :=
  Ideal.ofBits .f32 0x3F000000#32 * x * (1 + Ideal.tanh (Ideal.ofBits .f32 0x3F4C422A#32 * (x + ((8943 / 200000 : ℝ) : EReal) * x * x * x)))
/-- One over the root of the mean square of a row. -/
def rs (f : Fin 128 → EReal) : EReal :=
  Ideal.rsqrt (Ideal.div (∑ k, f k * f k) (Ideal.ofBits .f32 0x43000000#32) + Ideal.ofBits .f32 0x358637BD#32)

/-- The projection, the norm's gain, the mixing matrices, the transposed bias and the mixed heads before the call. -/
structure Inp where
  P : ℕ → ℕ → EReal
  G : ℕ → EReal
  W : ℕ → ℕ → ℕ → EReal
  B : ℕ → ℕ → EReal
  M : ℕ → ℕ → EReal

namespace Inp
variable (I : Inp)
/-- The block-causal mixing matrix of group `g`. -/
def wm (g i j : ℕ) : EReal := if j / 64 ≤ i / 64 then I.W g i j else 0
def vg (r c : ℕ) : EReal := gel (I.P r (2560 + c))
/-- The normalised input at row `r` and column `128 g + k`. -/
def vn (r g k : ℕ) : EReal := I.vg r (128 * g + k) * rs (fun l => I.vg r (128 * g + l.val)) * I.G (128 * g + k)
/-- The output at row `i` of block `n` and column `k` of group `g`. -/
def out (n i g k : ℕ) : EReal :=
  gel (I.P (128 * n + i) (2048 + (128 * g + k))) * ((∑ j : Fin 128, I.wm g i j.val * I.vn (128 * n + j.val) g k) + I.B i g)
/-- What the call leaves: the first half of the columns as it was. -/
def mix (r c : ℕ) : EReal := if c < 512 then I.M r c else I.out (r / 128) (r % 128) ((c - 512) / 128) ((c - 512) % 128)
end Inp

end Cert.SgF

namespace Cert.Kernel19Ideal.SgF

open Cert.Kernel19Ideal Cert.Kernel19Ideal.Gen Idealize.ShloMosaic Idealize.ShloMosaic.TcCoe Idealize.SL.Sem
open Cert.SgF
open Cert.Real (msk)

/-! ## One tile -/

abbrev Tl := FVec Ideal S128x128 .f32
def tGelu (x : Tl) : Tl :=
  mulf (mulf (broadcast S128x128 (Scalar.ofBits .f32 0x3F000000#32)) x) (addf (broadcast S128x128 (Scalar.ofBits .f32 0x3F800000#32))
    (tanh (mulf (broadcast S128x128 (Scalar.ofBits .f32 0x3F4C422A#32)) (addf x (mulf (mulf (mulf (broadcast S128x128 (Named.named κ "gelu_cubic" 0x3D372713#32)) x) x) x)))))
def tRs (v : Tl) : FVec Ideal S128x1 .f32 :=
  rsqrt (addf (divf (shapeCast S128x1 (multiReduction .add [1] S128 (mulf v v) 0x00000000#32 reduces_S128x128_S128 (.inl rfl) rfl) shapeCasts_S128_S128x1)
    (broadcast S128x1 (Scalar.ofBits .f32 0x43000000#32))) (broadcast S128x1 (Scalar.ofBits .f32 0x358637BD#32)))
def tVn (v : Tl) (ng : FVec Ideal S1x128 .f32) : Tl :=
  mulf (mulf v (broadcastTo S128x128 (tRs v) broadcasts_S128x1_S128x128)) (broadcastTo S128x128 ng broadcasts_S1x128_S128x128)
def tMask : IVec S128x128 1 := k0_pay6 k0_pay2 k0_pay3 k0_pay4 k0_pay5
def tW (w : FVec Ideal S1x128x128 .f32) : Tl :=
  select tMask (shapeCast S128x128 w shapeCasts_S1x128x128_S128x128) (broadcast S128x128 (Scalar.ofBits .f32 0x00000000#32))
def tS (w vn : Tl) (b : FVec Ideal S128x1 .f32) : Tl :=
  addf (matmul dot_S128x128_S128x128_S128x128_1_0_0_1_n_n none (truncf .bf16 w bitsLt_bf16_f32) (truncf .bf16 vn bitsLt_bf16_f32) (constant S128x128 .f32 0x00000000#32))
    (broadcastTo S128x128 b broadcasts_S128x1_S128x128)
def tOut (u v : Tl) (ng : FVec Ideal S1x128 .f32) (w : FVec Ideal S1x128x128 .f32) (b : FVec Ideal S128x1 .f32) : FVec Ideal S128x128 .bf16 :=
  truncf .bf16 (mulf (tGelu u) (tS (tW w) (tVn (tGelu v) ng) b)) bitsLt_bf16_f32

theorem named_cubic : Named.named (F := Ideal) κ "gelu_cubic" (φ := .f32) 0x3D372713#32 = ((8943 / 200000 : ℝ) : EReal) := by
  simp [Named.named, κ]

theorem tGelu_apply (x : Tl) (j : S128x128.Idx) : tGelu x j = gel (x j) := by
  pointwise [tGelu]
  rw [named_cubic]
  rfl

theorem tRs_apply (v : Tl) (j : S128x1.Idx) : tRs v j = rs (fun k => v (ix2 (j 0) k)) := by
  pointwise [tRs]
  rfl

theorem tVn_apply (v : Tl) (ng : FVec Ideal S1x128 .f32) (i k : Fin 128) : tVn v ng (ix2 i k) = v (ix2 i k) * rs (fun l => v (ix2 i l)) * ng (ix2 0 k) := by
  pointwise [tVn]
  rw [tRs_apply]
  rfl

/-- The row's quotient by 64 as the mask computes it. -/
def rowQ : IVec S128x128 32 := select (andi k0_pay4 k0_pay5) (subi k0_pay3 (broadcast S128x128 1#32)) k0_pay3
theorem rowQ_apply : ∀ i : Fin 128, rowQ (ix2 i (0 : Fin 128)) = BitVec.ofNat 32 (i.val / 64) := by decide +kernel
theorem colQ_apply : ∀ j : Fin 128, k0_pay2 (ix2 (0 : Fin 128) j) = BitVec.ofNat 32 (j.val / 64) := by decide +kernel
theorem tMask_apply (i j : Fin 128) : tMask (ix2 i j) = if msk i j then 1#1 else 0#1 := by
  have h : tMask (ix2 i j) = IntOp.cmpi .sle (k0_pay2 (ix2 (0 : Fin 128) j)) (rowQ (ix2 i (0 : Fin 128))) := rfl
  rw [h, rowQ_apply, colQ_apply]
  exact Cert.KernelIdeal.Sg.cmpi_quot ⟨i.val / 64, by omega⟩ ⟨j.val / 64, by omega⟩

theorem tW_apply (w : FVec Ideal S1x128x128 .f32) (i j : Fin 128) : tW w (ix2 i j) = if msk i j then w (ix3 0 i j) else 0 := by
  pointwise [tW]
  rw [tMask_apply, Cert.KernelIdeal.Sg.select_mask]

theorem tS_apply (w vn : Tl) (b : FVec Ideal S128x1 .f32) (i k : Fin 128) :
    tS w vn b (ix2 i k) = (∑ j : Fin 128, w (ix2 i j) * vn (ix2 j k)) + b (ix2 i 0) := by
  pointwise [tS]

/-! ## One grid point -/

/-- What the body loads: the tiles (block, group) of the two inputs, and per group the gain, the mixing matrix and the bias. -/
structure Leaves where
  U : Fin 4 → Fin 4 → Tl
  V : Fin 4 → Fin 4 → Tl
  NG : Fin 4 → FVec Ideal S1x128 .f32
  W : Fin 4 → FVec Ideal S1x128x128 .f32
  B : Fin 4 → FVec Ideal S128x1 .f32

/-- The leaves of point `t`. -/
structure IsPoint (L : Leaves) (I : Inp) (t : ℕ) : Prop where
  U : ∀ b g (j : S128x128.Idx), L.U b g j = I.P (128 * (4 * t + b.val) + (j 0).val) (2048 + (128 * g.val + (j 1).val))
  V : ∀ b g (j : S128x128.Idx), L.V b g j = I.P (128 * (4 * t + b.val) + (j 0).val) (2560 + (128 * g.val + (j 1).val))
  NG : ∀ g (j : S1x128.Idx), L.NG g j = I.G (128 * g.val + (j 1).val)
  W : ∀ g (j : S1x128x128.Idx), L.W g j = I.W g.val (j 1).val (j 2).val
  B : ∀ g (j : S128x1.Idx), L.B g j = I.B (j 0).val g.val

def tile (L : Leaves) (p : Fin 4 × Fin 4) : FVec Ideal S128x128 .bf16 := tOut (L.U p.1 p.2) (L.V p.1 p.2) (L.NG p.2) (L.W p.2) (L.B p.2)

theorem tile_at {L : Leaves} {I : Inp} {t : ℕ} (h : IsPoint L I t) (p : Fin 4 × Fin 4) (i k : Fin 128) :
    tile L p (ix2 i k) = I.out (4 * t + p.1.val) i.val p.2.val k.val := by
  show tGelu (L.U p.1 p.2) (ix2 i k) * tS (tW (L.W p.2)) (tVn (tGelu (L.V p.1 p.2)) (L.NG p.2)) (L.B p.2) (ix2 i k) = _
  rw [tGelu_apply, tS_apply, h.U, h.B]
  refine congrArg (fun a : EReal => _ * (a + _)) (Finset.sum_congr rfl fun j _ => congrArg₂ (fun a b : EReal => a * b) ?_ ?_)
  · rw [tW_apply, h.W]
    rfl
  · simp only [tVn_apply, tGelu_apply, h.V, h.NG]
    rfl

theorem tile_apply {L : Leaves} {I : Inp} {t : ℕ} (h : IsPoint L I t) (p : Fin 4 × Fin 4) (x : S128x128.Idx) :
    tile L p x = I.out (4 * t + p.1.val) (x 0).val p.2.val (x 1).val := by
  have ex : x = ix2 (x 0) (x 1) := by
    funext a
    match a with
    | ⟨0, _⟩ => rfl
    | ⟨1, _⟩ => rfl
  exact (congrArg (tile L p) ex).trans (tile_at h p (x 0) (x 1))

def pairs : List (Fin 4 × Fin 4) :=
  [(3,3),(3,2),(3,1),(3,0),(2,3),(2,2),(2,1),(2,0),(1,3),(1,2),(1,1),(1,0),(0,3),(0,2),(0,1),(0,0)]

theorem inbG (g : Fin 4) : ∀ a, (![0, 128 * g.val] : Fin S1x512.rank → ℕ) a + S1x128.size a ≤ S1x512.size a := by
  intro a; fin_cases a <;> simp [S1x128, S1x512] <;> omega
theorem inbW (g : Fin 4) : ∀ a, (![g.val, 0, 0] : Fin S4x128x128.rank → ℕ) a + S1x128x128.size a ≤ S4x128x128.size a := by
  intro a; fin_cases a <;> simp [S1x128x128, S4x128x128] <;> omega
theorem inbB (g : Fin 4) : ∀ a, (![0, g.val] : Fin S128x4.rank → ℕ) a + S128x1.size a ≤ S128x4.size a := by
  intro a; fin_cases a <;> simp [S128x1, S128x4] <;> omega
theorem inbT (b g : Fin 4) : ∀ a, (![128 * b.val, 128 * g.val] : Fin S512x512.rank → ℕ) a + S128x128.size a ≤ S512x512.size a := by
  intro a; fin_cases a <;> simp [S128x128, S512x512] <;> omega
abbrev rectG (g : Fin 4) : Rect S1x512 := Rect.unit ![0, 128 * g.val] S1x128.size (inbG g)
abbrev rectT (b g : Fin 4) : Rect S512x512 := Rect.unit ![128 * b.val, 128 * g.val] S128x128.size (inbT b g)
abbrev rectB (g : Fin 4) : Rect S128x4 := Rect.unit ![0, g.val] S128x1.size (inbB g)
abbrev rectW (g : Fin 4) : Rect S4x128x128 := Rect.unit ![g.val, 0, 0] S1x128x128.size (inbW g)

/-- The stores of one point, last first. -/
def pieces (L : Leaves) : List (View.Piece (Elt Ideal) S512x512 .bf16) := pairs.map fun p => ⟨rectT p.1 p.2, tile L p⟩

theorem pieces_apply {L : Leaves} {I : Inp} {t : ℕ} (h : IsPoint L I t) (y : S512x512.Idx) (hy : ∃ p ∈ pieces L, y ∈ p.1.set) :
    View.canon (pieces L) y = I.out (4 * t + (y 0).val / 128) ((y 0).val % 128) ((y 1).val / 128) ((y 1).val % 128) := by
  refine View.canon_apply_of_pieces (fun y => I.out (4 * t + (y 0).val / 128) ((y 0).val % 128) ((y 1).val / 128) ((y 1).val % 128)) _ ?_ y hy
  intro p hp
  unfold pieces at hp
  rw [List.mem_map] at hp
  obtain ⟨q, _, rfl⟩ := hp
  intro x
  have h0 : (x 0).val < 128 := (x 0).isLt
  have h1 : (x 1).val < 128 := (x 1).isLt
  have e0 : ((rectT q.1 q.2).emb x 0).val = 128 * q.1.val + 1 * (x 0).val := rfl
  have e1 : ((rectT q.1 q.2).emb x 1).val = 128 * q.2.val + 1 * (x 1).val := rfl
  show tile L q x = _
  rw [tile_apply h, e0, e1, show (128 * q.1.val + 1 * (x 0).val) / 128 = q.1.val by omega, show (128 * q.1.val + 1 * (x 0).val) % 128 = (x 0).val by omega,
    show (128 * q.2.val + 1 * (x 1).val) / 128 = q.2.val by omega, show (128 * q.2.val + 1 * (x 1).val) % 128 = (x 1).val by omega]

theorem ld_tile {k : Kind} {sp : Space} {S : Shape} (a : Memref sig k sp S .f32) (h : a.IsWhole) (X : Vec Ideal S .f32) (r : Rect S) (x : r.shape.Idx) :
    View.readAt (Elt Ideal) a.view r.toLoadRect (h.unread X) x = X (r.emb x) := by
  show a.view.read (Elt Ideal) (h.unread X) (r.emb x) = _
  rw [h.read_unread]

section
variable (arg1 : Memref sig .tc .vmem S512x512 .f32) (harg1 : arg1.IsWhole) (arg2 : Memref sig .tc .vmem S512x512 .f32) (harg2 : arg2.IsWhole) (arg3 : Memref sig .tc .vmem S1x512 .f32) (harg3 : arg3.IsWhole) (arg4 : Memref sig .tc .vmem S4x128x128 .f32) (harg4 : arg4.IsWhole) (arg5 : Memref sig .tc .vmem S128x4 .f32) (harg5 : arg5.IsWhole)
  (x0 : Vec Ideal S512x512 .f32) (x1 : Vec Ideal S512x512 .f32) (x2 : Vec Ideal S1x512 .f32) (x3 : Vec Ideal S4x128x128 .f32) (x4 : Vec Ideal S128x4 .f32)

/-- What the body loads of buffers holding `x0` … `x4`. -/
def loads : Leaves where
  U b g := View.readAt (Elt Ideal) arg1.view (rectT b g).toLoadRect (harg1.unread x0)
  V b g := View.readAt (Elt Ideal) arg2.view (rectT b g).toLoadRect (harg2.unread x1)
  NG g := View.readAt (Elt Ideal) arg3.view (rectG g).toLoadRect (harg3.unread x2)
  W g := View.readAt (Elt Ideal) arg4.view (rectW g).toLoadRect (harg4.unread x3)
  B g := View.readAt (Elt Ideal) arg5.view (rectB g).toLoadRect (harg5.unread x4)

theorem loads_isPoint (I : Inp) (t : ℕ)
    (h0 : ∀ j : S512x512.Idx, x0 j = I.P (512 * t + (j 0).val) (2048 + (j 1).val))
    (h1 : ∀ j : S512x512.Idx, x1 j = I.P (512 * t + (j 0).val) (2560 + (j 1).val))
    (h2 : ∀ j : S1x512.Idx, x2 j = I.G (j 1).val)
    (h3 : ∀ j : S4x128x128.Idx, x3 j = I.W (j 0).val (j 1).val (j 2).val)
    (h4 : ∀ j : S128x4.Idx, x4 j = I.B (j 0).val (j 1).val) :
    IsPoint (loads arg1 harg1 arg2 harg2 arg3 harg3 arg4 harg4 arg5 harg5 x0 x1 x2 x3 x4) I t where
  U b g j := by
    have e0 : ((rectT b g).emb j 0).val = 128 * b.val + 1 * (j 0).val := rfl
    have e1 : ((rectT b g).emb j 1).val = 128 * g.val + 1 * (j 1).val := rfl
    refine (ld_tile arg1 harg1 x0 (rectT b g) j).trans ?_
    rw [h0, e0, e1, one_mul, one_mul, show 512 * t + (128 * b.val + (j 0).val) = 128 * (4 * t + b.val) + (j 0).val by ring]
  V b g j := by
    have e0 : ((rectT b g).emb j 0).val = 128 * b.val + 1 * (j 0).val := rfl
    have e1 : ((rectT b g).emb j 1).val = 128 * g.val + 1 * (j 1).val := rfl
    refine (ld_tile arg2 harg2 x1 (rectT b g) j).trans ?_
    rw [h1, e0, e1, one_mul, one_mul, show 512 * t + (128 * b.val + (j 0).val) = 128 * (4 * t + b.val) + (j 0).val by ring]
  NG g j := by
    have e1 : ((rectG g).emb j 1).val = 128 * g.val + 1 * (j 1).val := rfl
    refine (ld_tile arg3 harg3 x2 (rectG g) j).trans ?_
    rw [h2, e1, one_mul]
  W g j := by
    have e0 : ((rectW g).emb j 0).val = g.val + 1 * (j 0).val := rfl
    have e1 : ((rectW g).emb j 1).val = 0 + 1 * (j 1).val := rfl
    have e2 : ((rectW g).emb j 2).val = 0 + 1 * (j 2).val := rfl
    have hj : (j 0).val < 1 := (j 0).isLt
    refine (ld_tile arg4 harg4 x3 (rectW g) j).trans ?_
    rw [h3, e0, e1, e2, one_mul, one_mul, one_mul, zero_add, zero_add, show (j 0).val = 0 by omega, add_zero]
  B g j := by
    have e0 : ((rectB g).emb j 0).val = 0 + 1 * (j 0).val := rfl
    have e1 : ((rectB g).emb j 1).val = g.val + 1 * (j 1).val := rfl
    have hj : (j 1).val < 1 := (j 1).isLt
    refine (ld_tile arg5 harg5 x4 (rectB g) j).trans ?_
    rw [h4, e0, e1, one_mul, one_mul, zero_add, show (j 1).val = 0 by omega, add_zero]

variable (c : Dev nD) (i : grid0.Coords) (arg7 : Memref sig .tc .vmem S512x512 .bf16) (harg7 : arg7.IsWhole)

theorem runA5 : (kernelRun0_A c i arg1 harg1 arg2 harg2 arg3 harg3 arg4 harg4 arg5 harg5 arg7 harg7 x0 x1 x2 x3 x4).1 = pieces (loads arg1 harg1 arg2 harg2 arg3 harg3 arg4 harg4 arg5 harg5 x0 x1 x2 x3 x4) := by sl_kernel_rfl

theorem outA5 {I : Inp} {t : ℕ} (h : IsPoint (loads arg1 harg1 arg2 harg2 arg3 harg3 arg4 harg4 arg5 harg5 x0 x1 x2 x3 x4) I t) (y : S512x512.Idx) : out0_A_5 c i arg1 harg1 arg2 harg2 arg3 harg3 arg4 harg4 arg5 harg5 arg7 harg7 x0 x1 x2 x3 x4 y
    = I.out (4 * t + (y 0).val / 128) ((y 0).val % 128) ((y 1).val / 128) ((y 1).val % 128) := by
  unfold out0_A_5
  rw [View.read_writes_eq_canon _ _ _ (cover0_A_5 c i arg1 harg1 arg2 harg2 arg3 harg3 arg4 harg4 arg5 harg5 arg7 harg7 x0 x1 x2 x3 x4)]
  have hy := cover0_A_5 c i arg1 harg1 arg2 harg2 arg3 harg3 arg4 harg4 arg5 harg5 arg7 harg7 x0 x1 x2 x3 x4 y
  rw [runA5] at hy ⊢
  exact pieces_apply h y hy

end

/-! ## The run -/

variable (m : (ℓ : Loc nD τ sig) → Buf (Elt Ideal) ℓ)

/-- The arguments on device `c` are `I`. -/
structure IsArgs (I : Inp) (c : Dev nD) : Prop where
  P : ∀ j : S4096x3200.Idx, m ((c : Thread nD τ).loc main_arg0) j = I.P (j 0).val (j 1).val
  G : ∀ j : S1x512.Idx, m ((c : Thread nD τ).loc main_arg1) j = I.G (j 1).val
  W : ∀ j : S4x128x128.Idx, m ((c : Thread nD τ).loc main_arg2) j = I.W (j 0).val (j 1).val (j 2).val
  B : ∀ j : S128x4.Idx, m ((c : Thread nD τ).loc main_arg3) j = I.B (j 0).val (j 1).val
  M : ∀ j : S4096x1024.Idx, m ((c : Thread nD τ).loc main_arg4) j = I.M (j 0).val (j 1).val

theorem index0 : ∀ t : Fin cfg0.N, win0_0.index t = ![t.val, 4] :=
  (by decide +kernel : ∀ t : Fin grid0.N, win0_0.index t = ![t.val, 4])
theorem index1 : ∀ t : Fin cfg0.N, win0_1.index t = ![t.val, 5] :=
  (by decide +kernel : ∀ t : Fin grid0.N, win0_1.index t = ![t.val, 5])
theorem index2 : ∀ t : Fin cfg0.N, win0_2.index t = ![0, 0] :=
  (by decide +kernel : ∀ t : Fin grid0.N, win0_2.index t = ![0, 0])
theorem index3 : ∀ t : Fin cfg0.N, win0_3.index t = ![0, 0, 0] :=
  (by decide +kernel : ∀ t : Fin grid0.N, win0_3.index t = ![0, 0, 0])
theorem index4 : ∀ t : Fin cfg0.N, win0_4.index t = ![0, 0] :=
  (by decide +kernel : ∀ t : Fin grid0.N, win0_4.index t = ![0, 0])
theorem index5 : ∀ t : Fin cfg0.N, win0_5.index t = ![t.val, 1] :=
  (by decide +kernel : ∀ t : Fin grid0.N, win0_5.index t = ![t.val, 1])

variable {m} {I : Inp} {c : Dev nD} (h : IsArgs m I c) (t : Fin cfg0.N)
include h

theorem blk0 (j : S512x512.Idx) : X0_0 m c t j = I.P (512 * t.val + (j 0).val) (2048 + (j 1).val) := by
  have e : X0_0 m c t j = iblk m c 0 t (fun a => ⟨(j a).val, ((cfg0.win 0).moved_iff _ j).mp (moved0_0 t j) a⟩) := dif_pos (moved0_0 t j)
  rw [e]
  generalize hy : (fun a => (⟨(j a).val, ((cfg0.win 0).moved_iff _ j).mp (moved0_0 t j) a⟩ : Fin _)) = y
  have hy0 : (y 0 : ℕ) = (j 0).val := by rw [← hy]
  have hy1 : (y 1 : ℕ) = (j 1).val := by rw [← hy]
  have e0 : ((win0_0.rect t).emb y 0 : ℕ) = 512 * t.val + (j 0).val := by
    rw [Pipeline.Window.rect_emb_val win0_0 t y 0 rfl, index0, hy0]
    show t.val * 512 + _ = _
    omega
  have e1 : ((win0_0.rect t).emb y 1 : ℕ) = 2048 + (j 1).val := by
    rw [Pipeline.Window.rect_emb_val win0_0 t y 1 rfl, index0, hy1]
    show 4 * 512 + _ = _
    omega
  refine (h.P ((win0_0.rect t).emb y)).trans ?_
  rw [e0, e1]

theorem blk1 (j : S512x512.Idx) : X0_1 m c t j = I.P (512 * t.val + (j 0).val) (2560 + (j 1).val) := by
  have e : X0_1 m c t j = iblk m c 1 t (fun a => ⟨(j a).val, ((cfg0.win 1).moved_iff _ j).mp (moved0_1 t j) a⟩) := dif_pos (moved0_1 t j)
  rw [e]
  generalize hy : (fun a => (⟨(j a).val, ((cfg0.win 1).moved_iff _ j).mp (moved0_1 t j) a⟩ : Fin _)) = y
  have hy0 : (y 0 : ℕ) = (j 0).val := by rw [← hy]
  have hy1 : (y 1 : ℕ) = (j 1).val := by rw [← hy]
  have e0 : ((win0_1.rect t).emb y 0 : ℕ) = 512 * t.val + (j 0).val := by
    rw [Pipeline.Window.rect_emb_val win0_1 t y 0 rfl, index1, hy0]
    show t.val * 512 + _ = _
    omega
  have e1 : ((win0_1.rect t).emb y 1 : ℕ) = 2560 + (j 1).val := by
    rw [Pipeline.Window.rect_emb_val win0_1 t y 1 rfl, index1, hy1]
    show 5 * 512 + _ = _
    omega
  refine (h.P ((win0_1.rect t).emb y)).trans ?_
  rw [e0, e1]

theorem blk2 (j : S1x512.Idx) : iblk m c 2 t j = I.G (j 1).val := by
  have e : (win0_2.rect t).emb j = j := by
    funext a
    refine Fin.ext (Pipeline.Window.rect_emb_val_of_index_zero win0_2 t a ?_ j)
    rw [index2]
    fin_cases a <;> rfl
  refine (h.G ((win0_2.rect t).emb j)).trans ?_
  rw [e]

theorem blk3 (j : S4x128x128.Idx) : iblk m c 3 t j = I.W (j 0).val (j 1).val (j 2).val := by
  have e : (win0_3.rect t).emb j = j := by
    funext a
    refine Fin.ext (Pipeline.Window.rect_emb_val_of_index_zero win0_3 t a ?_ j)
    rw [index3]
    fin_cases a <;> rfl
  refine (h.W ((win0_3.rect t).emb j)).trans ?_
  rw [e]

theorem blk4 (j : S128x4.Idx) : iblk m c 4 t j = I.B (j 0).val (j 1).val := by
  have e : (win0_4.rect t).emb j = j := by
    funext a
    refine Fin.ext (Pipeline.Window.rect_emb_val_of_index_zero win0_4 t a ?_ j)
    rw [index4]
    fin_cases a <;> rfl
  refine (h.B ((win0_4.rect t).emb j)).trans ?_
  rw [e]

omit h in
theorem xsize5 : ∀ t : Fin cfg0.N, ∀ a, win0_5.xsize (grid0.coords t) a = S512x512.size a :=
  (by decide +kernel : ∀ t : Fin grid0.N, ∀ a, win0_5.xsize (grid0.coords t) a = S512x512.size a)

omit h in
theorem mem5 (i : S4096x1024.Idx) : i ∈ ((cfg0.win 5).blk t).view.set ↔ t.val = (i 0).val / 512 ∧ 512 ≤ (i 1).val := by
  have h1 : (i 1).val < 1024 := (i 1).isLt
  show i ∈ ((View.whole main_v0).slice (win0_5.rect t)).set ↔ _
  rw [View.set_slice_whole, Rect.mem_set_unit]
  constructor
  · intro hh
    have a0 := hh 0
    have a1 := hh 1
    rw [xsize5] at a0 a1
    have b0 : win0_5.index t 0 * 512 ≤ (i 0).val ∧ (i 0).val < win0_5.index t 0 * 512 + 512 := a0
    have b1 : win0_5.index t 1 * 512 ≤ (i 1).val ∧ (i 1).val < win0_5.index t 1 * 512 + 512 := a1
    rw [index5] at b0 b1
    have c0 : t.val * 512 ≤ (i 0).val ∧ (i 0).val < t.val * 512 + 512 := b0
    have c1 : 1 * 512 ≤ (i 1).val ∧ (i 1).val < 1 * 512 + 512 := b1
    omega
  · intro hh a
    rw [xsize5]
    match a with
    | ⟨0, _⟩ =>
      show win0_5.index t 0 * 512 ≤ (i 0).val ∧ (i 0).val < win0_5.index t 0 * 512 + 512
      rw [index5]
      show t.val * 512 ≤ (i 0).val ∧ (i 0).val < t.val * 512 + 512
      omega
    | ⟨1, _⟩ =>
      show win0_5.index t 1 * 512 ≤ (i 1).val ∧ (i 1).val < win0_5.index t 1 * 512 + 512
      rw [index5]
      show 1 * 512 ≤ (i 1).val ∧ (i 1).val < 1 * 512 + 512
      omega

omit h in
/-- The call's result starts as the mixed heads it was given. -/
theorem start_eq : V m c main_v0 = m ((c : Thread nD τ).loc main_arg4) := by
  show StableHlo.after hostOps0 (fun b => m (c, b)) _ = _
  simp only [hostOps0, StableHlo.TRef.binary, StableHlo.TRef.unary, StableHlo.TRef.toBuf, StableHlo.TRef.ofBuf, cast_eq]
  after_results_simp
  rfl

theorem res (i : S4096x1024.Idx) : (dats m 0 c).arrAt 5 cfg0.N i = I.mix (i 0).val (i 1).val := by
  have h0 : (i 0).val < 4096 := (i 0).isLt
  have h1 : (i 1).val < 1024 := (i 1).isLt
  have hN : cfg0.N = 8 := N_0
  by_cases hc : (i 1).val < 512
  · refine (Value.entry5 m c i fun t _ hh => ?_).trans ?_
    · have := ((mem5 t i).mp hh).2
      omega
    · refine (congrFun start_eq i).trans ((h.M i).trans ?_)
      unfold Inp.mix
      rw [if_pos hc]
  · refine (dats m 0 c).arrAt_apply_of_mem 5 (fun i : S4096x1024.Idx => I.mix (i 0).val (i 1).val) ?_ cfg0.N ⟨(i 0).val / 512, by omega⟩ i (by show (i 0).val / 512 < _; omega) (flush0_5 _)
      ((mem5 _ i).mpr ⟨rfl, by omega⟩)
    intro t _
    rw [Value.flushed5_A]
    funext y
    have y0 : (y 0).val < 512 := (y 0).isLt
    have e0 : ((win0_5.rect t).emb y 0 : ℕ) = 512 * t.val + (y 0).val := by
      rw [Pipeline.Window.rect_emb_val win0_5 t y 0 rfl, index5]
      show t.val * 512 + _ = _
      omega
    have e1 : ((win0_5.rect t).emb y 1 : ℕ) = 512 + (y 1).val := by
      rw [Pipeline.Window.rect_emb_val win0_5 t y 1 rfl, index5]
      show 1 * 512 + _ = _
      omega
    show _ = I.mix ((win0_5.rect t).emb y 0).val ((win0_5.rect t).emb y 1).val
    rw [e0, e1]
    refine (outA5 (ms0_0 t) (hs0_0 t) (ms0_1 t) (hs0_1 t) (ms0_2 t) (hs0_2 t) (ms0_3 t) (hs0_3 t) (ms0_4 t) (hs0_4 t) (X0_0 m c t) (X0_1 m c t) (iblk m c 2 t) (iblk m c 3 t) (iblk m c 4 t) c (grid0.coords t) (ms0_5 t) (hs0_5 t) (loads_isPoint (ms0_0 t) (hs0_0 t) (ms0_1 t) (hs0_1 t) (ms0_2 t) (hs0_2 t) (ms0_3 t) (hs0_3 t) (ms0_4 t) (hs0_4 t) (X0_0 m c t) (X0_1 m c t) (iblk m c 2 t) (iblk m c 3 t) (iblk m c 4 t) I t.val (blk0 h t) (blk1 h t) (blk2 h t) (blk3 h t) (blk4 h t)) _).trans ?_
    unfold Inp.mix
    rw [if_neg (by omega), show (512 * t.val + (y 0).val) / 128 = 4 * t.val + (y 0).val / 128 by omega, show (512 * t.val + (y 0).val) % 128 = (y 0).val % 128 by omega,
      Nat.add_sub_cancel_left]

end Cert.Kernel19Ideal.SgF

namespace Cert.Reference19Ideal.SgF

open Cert.Reference19Ideal Cert.Reference19Ideal.Gen Cert.Reference19Ideal.Read Idealize.ShloMosaic Idealize.ShloMosaic.TcCoe Idealize.SL.Sem
open Cert.SgF
open Cert.Real (ofBits_num ofBits_den ofBits_one)

/-- The gelu as the reference writes it. -/
theorem gel_eq (x : EReal) : x * (Ideal.ofBits .f32 0x3F000000#32 * (Ideal.ofBits .f32 0x3F800000#32 + Ideal.tanh (Ideal.ofBits .f32 0x3F4C422A#32 *
    (x + Ideal.div (Ideal.ofBits .f32 0x472EAB00#32 * (x * x * x)) (Ideal.ofBits .f32 0x49742400#32))))) = gel x := by
  have e : Ideal.div (Ideal.ofBits .f32 0x472EAB00#32 * (x * x * x)) (Ideal.ofBits .f32 0x49742400#32) = ((8943 / 200000 : ℝ) : EReal) * x * x * x := by
    rw [ofBits_num, ofBits_den, Ideal.div_coe (by norm_num), show (8943 / 200000 : ℝ) = 44715 * (1 / 1000000) by norm_num, EReal.coe_mul]
    ac_rfl
  unfold gel
  rw [e, ofBits_one, EReal.coe_one, ← mul_assoc, mul_comm x]

variable {I : Inp} {x0 : (⟨S4096x3200, .f32⟩ : BufTy).Contents (Elt Ideal)} {x1 : (⟨S1x512, .f32⟩ : BufTy).Contents (Elt Ideal)}
  {x2 : (⟨S4x128x128, .f32⟩ : BufTy).Contents (Elt Ideal)} {x3 : (⟨S128x4, .f32⟩ : BufTy).Contents (Elt Ideal)} {x4 : (⟨S4096x1024, .bf16⟩ : BufTy).Contents (Elt Ideal)}

section
variable (hP : ∀ j, x0 j = I.P (j 0).val (j 1).val)
include hP

theorem u_apply (i : S4096x512.Idx) : val_main_v18 x0 i = gel (I.P (i 0).val (2048 + (i 1).val)) := by
  rw [← gel_eq]
  have e : val_main_v0 x0 i = I.P (i 0).val (2048 + (i 1).val) := by rw [val_main_v0_apply, hP]
  rw [← e]
  rfl

theorem v_apply (i : S4096x512.Idx) : val_main_v33 x0 i = I.vg (i 0).val (i 1).val := by
  unfold Inp.vg
  rw [← gel_eq]
  have e : val_main_v1 x0 i = I.P (i 0).val (2560 + (i 1).val) := by rw [val_main_v1_apply, hP]
  rw [← e]
  rfl

theorem v34 (i : S4096x4x128.Idx) : val_main_v34 x0 i = I.vg (i 0).val (128 * (i 1).val + (i 2).val) := by
  have h1 : (i 1).val < 4 := (i 1).isLt
  have h2 : (i 2).val < 128 := (i 2).isLt
  rw [val_main_v34_apply, v_apply hP]
  refine congrArg₂ I.vg ?_ ?_
  · show (((i 0).val * 4 + (i 1).val) * 128 + (i 2).val) / 512 = _; omega
  · show (((i 0).val * 4 + (i 1).val) * 128 + (i 2).val) % 512 = _; omega

theorem v42 (i : S4096x4x1.Idx) : val_main_v42 x0 i = rs (fun l => I.vg (i 0).val (128 * (i 1).val + l.val)) := by
  rw [val_main_v42_apply, val_main_v41_apply, val_main_v39_apply, val_main_v37_apply, val_main_v36_apply, val_main_cst_9_apply, Ideal.ofBits_def, Ideal.ofBits_zero_f32, zero_add]
  have e : (∑ k : Fin 128, val_main_v35 (F := Ideal) x0 (idx_main_v36 (idx_main_v37 i) k)) = ∑ k : Fin 128, I.vg (i 0).val (128 * (i 1).val + k.val) * I.vg (i 0).val (128 * (i 1).val + k.val) := by
    refine Finset.sum_congr rfl fun k _ => ?_
    rw [val_main_v35_apply, v34 hP]
    rfl
  rw [e]
  rfl

theorem v48 (hG : ∀ j, x1 j = I.G (j 1).val) (i : S4096x4x128.Idx) : val_main_v48 x0 x1 i = I.vn (i 0).val (i 1).val (i 2).val := by
  have h1 : (i 1).val < 4 := (i 1).isLt
  have h2 : (i 2).val < 128 := (i 2).isLt
  rw [val_main_v48_apply, val_main_v44_apply, val_main_v43_apply, v34 hP, v42 hP, val_main_v47_apply, val_main_v46_apply, val_main_v45_apply, val_main_v2_apply, hG]
  refine congrArg (fun c : ℕ => I.vg (i 0).val (128 * (i 1).val + (i 2).val) * rs (fun l => I.vg (i 0).val (128 * (i 1).val + l.val)) * I.G c) ?_
  show ((i 1).val * 128 + (i 2).val) % 512 = _
  omega

theorem v49 (hG : ∀ j, x1 j = I.G (j 1).val) (i : S32x128x4x128.Idx) : val_main_v49 x0 x1 i = I.vn (128 * (i 0).val + (i 1).val) (i 2).val (i 3).val := by
  have h1 : (i 1).val < 128 := (i 1).isLt
  have h2 : (i 2).val < 4 := (i 2).isLt
  have h3 : (i 3).val < 128 := (i 3).isLt
  rw [val_main_v49_apply, v48 hP hG]
  refine congr (congrArg₂ I.vn ?_ ?_) ?_
  · show ((((i 0).val * 128 + (i 1).val) * 4 + (i 2).val) * 128 + (i 3).val) / 512 = _; omega
  · show ((((i 0).val * 128 + (i 1).val) * 4 + (i 2).val) * 128 + (i 3).val) / 128 % 4 = _; omega
  · show ((((i 0).val * 128 + (i 1).val) * 4 + (i 2).val) * 128 + (i 3).val) % 128 = _; omega
end

theorem w_apply (hW : ∀ j, x2 j = I.W (j 0).val (j 1).val (j 2).val) (i : S4x128x128.Idx) : val_main_v58 x2 i = I.wm (i 0).val (i 1).val (i 2).val := by
  have h1 : (i 1).val < 128 := (i 1).isLt
  have h2 : (i 2).val < 128 := (i 2).isLt
  have hq : ∀ k : S128.Idx, val_main_v52 (F := Ideal) k = BitVec.ofNat 32 ((k 0).val / 64) := by
    intro k
    rw [val_main_v52_apply]
    exact Cert.ReferenceIdeal.Sg.quot_word (k 0)
  have hm : val_main_call0_v1 (F := Ideal) i = if (i 2).val / 64 ≤ (i 1).val / 64 then 1#1 else 0#1 := by
    rw [val_main_call0_v1_apply, val_main_v57_apply, val_main_v55_apply, val_main_v56_apply, val_main_v53_apply, val_main_v54_apply, hq, hq]
    exact Cert.KernelIdeal.Sg.cmpi_quot ⟨(i 1).val / 64, by omega⟩ ⟨(i 2).val / 64, by omega⟩
  have hz : val_main_call0_v2 (F := Ideal) i = 0 := by
    rw [val_main_call0_v2_apply, val_main_call0_v0_apply, val_main_cst_12_apply]; exact Ideal.ofBits_zero_f32
  rw [val_main_v58_apply, hm, hz, hW]
  unfold Inp.wm
  split <;> rfl

theorem out_apply (hP : ∀ j, x0 j = I.P (j 0).val (j 1).val) (hG : ∀ j, x1 j = I.G (j 1).val) (hW : ∀ j, x2 j = I.W (j 0).val (j 1).val (j 2).val) (hB : ∀ j, x3 j = I.B (j 0).val (j 1).val)
    (i : S4096x512.Idx) : val_main_v70 x0 x1 x2 x3 i = I.out ((i 0).val / 128) ((i 0).val % 128) ((i 1).val / 128) ((i 1).val % 128) := by
  have h0 : (i 0).val < 4096 := (i 0).isLt
  have h1 : (i 1).val < 512 := (i 1).isLt
  rw [val_main_v70_apply, val_main_v68_apply, u_apply hP, val_main_v67_apply, val_main_v66_apply, val_main_v60_apply, val_main_v59_apply,
    val_main_v65_apply, val_main_v64_apply, val_main_v63_apply, val_main_v62_apply, val_main_v61_apply, val_main_v3_apply, hB]
  have a0 : ((i 0).val * 512 + (i 1).val) / 65536 = (i 0).val / 128 := by omega
  have a1 : ((i 0).val * 512 + (i 1).val) / 512 % 128 = (i 0).val % 128 := by omega
  have a2 : ((i 0).val * 512 + (i 1).val) / 128 % 4 = (i 1).val / 128 := by omega
  have a3 : ((i 0).val * 512 + (i 1).val) % 128 = (i 1).val % 128 := by omega
  unfold Inp.out
  rw [show 128 * ((i 0).val / 128) + (i 0).val % 128 = (i 0).val by omega, show 128 * ((i 1).val / 128) + (i 1).val % 128 = (i 1).val by omega]
  refine congrArg (fun a : EReal => gel (I.P (i 0).val (2048 + (i 1).val)) * a) (congrArg₂ (fun a b : EReal => a + b) (Finset.sum_congr rfl fun j _ => ?_) ?_)
  · rw [v49 hP hG, w_apply hW, mul_comm]
    show I.wm (((i 0).val * 512 + (i 1).val) / 128 % 4) (((i 0).val * 512 + (i 1).val) / 512 % 128) j.val * I.vn (128 * (((i 0).val * 512 + (i 1).val) / 65536) + j.val) (((i 0).val * 512 + (i 1).val) / 128 % 4) (((i 0).val * 512 + (i 1).val) % 128) = _
    rw [a0, a1, a2, a3]
  · show I.B (((i 0).val * 512 + (i 1).val) / 512 % 128) (((i 0).val * 512 + (i 1).val) / 128 % 4) = _
    rw [a1, a2]

theorem res (hP : ∀ j, x0 j = I.P (j 0).val (j 1).val) (hG : ∀ j, x1 j = I.G (j 1).val) (hW : ∀ j, x2 j = I.W (j 0).val (j 1).val (j 2).val) (hB : ∀ j, x3 j = I.B (j 0).val (j 1).val)
    (hM : ∀ j, x4 j = I.M (j 0).val (j 1).val) (i : S4096x1024.Idx) : val_main_v71 x0 x1 x2 x3 x4 i = I.mix (i 0).val (i 1).val := by
  have h1 : (i 1).val < 1024 := (i 1).isLt
  unfold val_main_v71 Inp.mix
  by_cases hc : (i 1).val < 512
  · rw [if_pos hc]
    let j : S4096x512.Idx := fun a => match a with
      | ⟨0, _⟩ => ⟨(i 0).val, (i 0).isLt⟩
      | ⟨1, _⟩ => ⟨(i 1).val, hc⟩
    rw [concatenate_apply_piece 1 _ _ i 0 (by show 0 < 2; omega) S4096x512 (val_main_v69 x4) rfl rfl 0 rfl j
      (fun b hb => match b, hb with
        | ⟨0, _⟩, _ => rfl
        | ⟨1, _⟩, hb => absurd rfl hb)
      (Nat.zero_add _), val_main_v69_apply, hM]
  · rw [if_neg hc]
    let j : S4096x512.Idx := fun a => match a with
      | ⟨0, _⟩ => ⟨(i 0).val, (i 0).isLt⟩
      | ⟨1, _⟩ => ⟨(i 1).val - 512, by show (i 1).val - 512 < 512; omega⟩
    rw [concatenate_apply_piece 1 _ _ i 1 (by show 1 < 2; omega) S4096x512 (val_main_v70 x0 x1 x2 x3) rfl rfl 512 rfl j
      (fun b hb => match b, hb with
        | ⟨0, _⟩, _ => rfl
        | ⟨1, _⟩, hb => absurd rfl hb)
      (by show 512 + ((i 1).val - 512) = (i 1).val; omega), out_apply hP hG hW hB]

end Cert.Reference19Ideal.SgF

namespace Cert.Proof.SgFwd

open Idealize.ShloMosaic Idealize.ShloMosaic.TcCoe Idealize.SL.Sem
open Cert.SgF

/-- An array as a function of natural numbers. -/
def at2 {M N : ℕ} (x : (⟨2, ![M, N]⟩ : Shape).Idx → EReal) (r c : ℕ) : EReal := if h : r < M ∧ c < N then x (ix2 ⟨r, h.1⟩ ⟨c, h.2⟩) else 0
def at3 {K M N : ℕ} (x : (⟨3, ![K, M, N]⟩ : Shape).Idx → EReal) (g r c : ℕ) : EReal := if h : g < K ∧ r < M ∧ c < N then x (ix3 ⟨g, h.1⟩ ⟨r, h.2.1⟩ ⟨c, h.2.2⟩) else 0

theorem at2_eq {M N : ℕ} (x : (⟨2, ![M, N]⟩ : Shape).Idx → EReal) (j : (⟨2, ![M, N]⟩ : Shape).Idx) : x j = at2 x (j 0).val (j 1).val := by
  have e : (j 0).val < M ∧ (j 1).val < N := ⟨(j 0).isLt, (j 1).isLt⟩
  unfold at2
  rw [dif_pos e]
  refine congrArg x (funext fun a => ?_)
  match a with
  | ⟨0, _⟩ => rfl
  | ⟨1, _⟩ => rfl
theorem at3_eq {K M N : ℕ} (x : (⟨3, ![K, M, N]⟩ : Shape).Idx → EReal) (j : (⟨3, ![K, M, N]⟩ : Shape).Idx) : x j = at3 x (j 0).val (j 1).val (j 2).val := by
  have e : (j 0).val < K ∧ (j 1).val < M ∧ (j 2).val < N := ⟨(j 0).isLt, (j 1).isLt, (j 2).isLt⟩
  unfold at3
  rw [dif_pos e]
  refine congrArg x (funext fun a => ?_)
  match a with
  | ⟨0, _⟩ => rfl
  | ⟨1, _⟩ => rfl
  | ⟨2, _⟩ => rfl

section
open Cert.Kernel19Ideal
/-- The inputs on device `c`. -/
def inp (m : (ℓ : Loc nD τ sig) → Buf (Elt Ideal) ℓ) (c : Dev nD) : Inp where
  P := at2 (M := 4096) (N := 3200) (m ((c : Thread nD τ).loc main_arg0))
  G := at2 (M := 1) (N := 512) (m ((c : Thread nD τ).loc main_arg1)) 0
  W := at3 (K := 4) (M := 128) (N := 128) (m ((c : Thread nD τ).loc main_arg2))
  B := at2 (M := 128) (N := 4) (m ((c : Thread nD τ).loc main_arg3))
  M := at2 (M := 4096) (N := 1024) (m ((c : Thread nD τ).loc main_arg4))

theorem isArgs (m : (ℓ : Loc nD τ sig) → Buf (Elt Ideal) ℓ) (c : Dev nD) : Cert.Kernel19Ideal.SgF.IsArgs m (inp m c) c where
  P j := at2_eq (M := 4096) (N := 3200) _ j
  G j := (at2_eq (M := 1) (N := 512) _ j).trans (by
    have h : (j 0).val < 1 := (j 0).isLt
    exact congrArg (fun a : ℕ => at2 (M := 1) (N := 512) (m ((c : Thread nD τ).loc main_arg1)) a (j 1).val) (by omega))
  W j := at3_eq (K := 4) (M := 128) (N := 128) _ j
  B j := at2_eq (M := 128) (N := 4) _ j
  M j := at2_eq (M := 4096) (N := 1024) _ j
end

theorem frame_reference : Cert.quiescent_Reference19Ideal := by
  intro m ρ _
  exact (θ_run Cert.Reference19Ideal.defs _ _).mono (fun r h => ⟨fun c => (h c).2, sem_eq_zero_of_no_sems (by decide) r.2⟩)
    (Cert.Reference19Ideal.Value.run (F := Ideal) m ρ)

theorem preserves : Cert.preserves_Kernel19_Kernel19Ideal := IdealRules.named_const.statement _ _ _ _ _ rfl

theorem algebraic : Cert.algebraic_Kernel19Ideal_Reference19Ideal := by
  intro m g m' g' _ ha
  refine ⟨fun c (i : Cert.Kernel19Ideal.S4096x1024.Idx) => (inp m c).mix (i 0).val (i 1).val, ?_, ?_⟩
  · refine (θ_run Cert.Kernel19Ideal.defs _ _).mono (fun r h c => ?_) (Cert.Kernel19Ideal.Value.run_blocks (F := Ideal) m g)
    obtain ⟨r5, hargs⟩ := h c
    exact ⟨r5.trans (funext fun i => Cert.Kernel19Ideal.SgF.res (isArgs m c) i), hargs⟩
  · refine (θ_run Cert.Reference19Ideal.defs _ _).mono (fun r h c => ?_) (Cert.Reference19Ideal.Value.run (F := Ideal) m' g')
    obtain ⟨r5, hargs⟩ := h c
    obtain ⟨a0, a1, a2, a3, a4⟩ := ha c
    have hr := isArgs m c
    refine ⟨r5.trans ((Cert.Reference19Ideal.Read.val_main_v71_eq m' c).trans (funext fun i => ?_)), hargs⟩
    exact Cert.Reference19Ideal.SgF.res (fun j => (congrFun a0 j).trans (hr.P j)) (fun j => (congrFun a1 j).trans (hr.G j)) (fun j => (congrFun a2 j).trans (hr.W j))
      (fun j => (congrFun a3 j).trans (hr.B j)) (fun j => (congrFun a4 j).trans (hr.M j)) i

end Cert.Proof.SgFwd

end
-- ==== Proof.ConvBwd.lean ====
/- The gradient of the causal convolution through its input: the kernel's strips and the reference's padded sums are the
same function of the extended reals. -/
module

public import proofs.«01_k».proof.Defs
public import proofs.«01_k».proof.Proof.Gen.Kernel20Ideal.Value
public import proofs.«01_k».proof.Proof.Gen.Reference20Ideal.Run
public import proofs.«01_k».proof.Proof.Gen.Reference20Ideal.Read
public import proofs.«01_k».proof.Proof.SgFwd

@[expose] public section

set_option maxRecDepth 16384
set_option maxHeartbeats 2000000

noncomputable section

namespace Cert.Conv

/-- The gradient of the convolution's result, the taps, and the buffer before the call. -/
structure Inp where
  D : ℕ → ℕ → EReal
  W : ℕ → ℕ → EReal
  P : ℕ → ℕ → EReal

namespace Inp
variable (I : Inp)
/-- The gradient, with zeros past the last row. -/
def d (r c : ℕ) : EReal := if r < 4096 then I.D r c else 0
/-- The gradient of the convolution's input. -/
def dx (r c : ℕ) : EReal := I.d r c * I.W 3 c + I.d (r + 1) c * I.W 2 c + I.d (r + 2) c * I.W 1 c + I.d (r + 3) c * I.W 0 c
/-- What the call leaves: the columns from 1536 on as they were. -/
def out (r c : ℕ) : EReal := if c < 1536 then I.dx r c else I.P r c
end Inp

end Cert.Conv

namespace Cert.Kernel20Ideal.Conv

open Cert.Kernel20Ideal Cert.Kernel20Ideal.Gen Idealize.ShloMosaic Idealize.ShloMosaic.TcCoe Idealize.SL.Sem
open Cert.Conv

/-! ## One strip -/

/-- One strip of 32 rows: from the taps and 40 rows. -/
def strip (w : FVec Ideal S4x128 .f32) (e : FVec Ideal S40x128 .f32) : FVec Ideal S32x128 .bf16 := k0_pay2 w e
/-- The last 40 rows of a block: 32 of its own, then 8 of the next block, or zeros. -/
def ext (z : BitVec 1) (a : FVec Ideal S32x128 .f32) (b : FVec Ideal S8x128 .f32) : FVec Ideal S40x128 .f32 :=
  concatenate S40x128 0 [⟨S32x128, a⟩, ⟨S8x128, Scalar.select z (broadcast S8x128 (Scalar.ofBits .f32 0x00000000#32)) b⟩] concatenates_S32x128_S8x128_S40x128_d0

theorem strip_apply (w : FVec Ideal S4x128 .f32) (e : FVec Ideal S40x128 .f32) (i : Fin 32) (k : Fin 128) :
    strip w e (ix2 i k) = e (ix2 ⟨i.val, by omega⟩ k) * w (ix2 3 k) + e (ix2 ⟨i.val + 1, by omega⟩ k) * w (ix2 2 k)
      + e (ix2 ⟨i.val + 2, by omega⟩ k) * w (ix2 1 k) + e (ix2 ⟨i.val + 3, by omega⟩ k) * w (ix2 0 k) := by
  have h : ∀ (n : BitVec 32) (j : ℕ), n.toNat = 40 - j → 0 < j → ∀ hj : i.val + j < 40, ∀ q : Fin 40, q.val = i.val → dynamicRotate 0 n none e rotates_S40x128_d0 (ix2 q k) = e (ix2 ⟨i.val + j, hj⟩ k) := by
    intro n j hn h0 hj q hq
    unfold dynamicRotate
    refine congrArg e (funext fun a => ?_)
    match a with
    | ⟨0, _⟩ =>
      refine Fin.ext ?_
      show (q.val + 40 - (n.toNat + 0) % 40) % 40 = i.val + j
      rw [hn, hq]
      omega
    | ⟨1, _⟩ => rfl
  have e0 : extractStridedSlice S32x128 ![0, 0] e slices_S40x128_o0_0_S32x128 (ix2 i k) = e (ix2 ⟨i.val, by omega⟩ k) := by
    pointwise []
  have e1 : ∀ y : FVec Ideal S40x128 .f32, extractStridedSlice S32x128 ![0, 0] y slices_S40x128_o0_0_S32x128 (ix2 i k) = y (ix2 ⟨i.val, by omega⟩ k) := by
    intro y
    pointwise []
  have w3 : ∀ y : FVec Ideal S1x128 .f32, broadcastTo S32x128 y broadcasts_S1x128_S32x128 (ix2 i k) = y (ix2 0 k) := by
    intro y
    pointwise []
  show extractStridedSlice S32x128 ![0, 0] e slices_S40x128_o0_0_S32x128 (ix2 i k) * broadcastTo S32x128 (extractStridedSlice S1x128 ![3, 0] w slices_S4x128_o3_0_S1x128) broadcasts_S1x128_S32x128 (ix2 i k)
    + extractStridedSlice S32x128 ![0, 0] (dynamicRotate 0 39#32 none e rotates_S40x128_d0) slices_S40x128_o0_0_S32x128 (ix2 i k) * broadcastTo S32x128 (extractStridedSlice S1x128 ![2, 0] w slices_S4x128_o2_0_S1x128) broadcasts_S1x128_S32x128 (ix2 i k)
    + extractStridedSlice S32x128 ![0, 0] (dynamicRotate 0 38#32 none e rotates_S40x128_d0) slices_S40x128_o0_0_S32x128 (ix2 i k) * broadcastTo S32x128 (extractStridedSlice S1x128 ![1, 0] w slices_S4x128_o1_0_S1x128) broadcasts_S1x128_S32x128 (ix2 i k)
    + extractStridedSlice S32x128 ![0, 0] (dynamicRotate 0 37#32 none e rotates_S40x128_d0) slices_S40x128_o0_0_S32x128 (ix2 i k) * broadcastTo S32x128 (extractStridedSlice S1x128 ![0, 0] w slices_S4x128_o0_0_S1x128) broadcasts_S1x128_S32x128 (ix2 i k) = _
  rw [e1, e1, e1, e1, w3, w3, w3, w3, h 39#32 1 rfl (by omega) (by omega) _ rfl, h 38#32 2 rfl (by omega) (by omega) _ rfl, h 37#32 3 rfl (by omega) (by omega) _ rfl]
  refine congrArg₂ (fun a b : EReal => a + b) (congrArg₂ (fun a b : EReal => a + b) (congrArg₂ (fun a b : EReal => a + b) ?_ ?_) ?_) ?_ <;>
    refine congrArg (fun a : EReal => _ * a) ?_ <;> pointwise []

theorem ext_row (z : BitVec 1) (a : FVec Ideal S32x128 .f32) (b : FVec Ideal S8x128 .f32) (j : S40x128.Idx) (h : (j 0).val < 32) : ext z a b j = a (ix2 ⟨(j 0).val, h⟩ (j 1)) := by
  unfold ext
  exact concatenate_apply_piece 0 _ _ j 0 (by show 0 < 2; omega) S32x128 a rfl rfl 0 rfl (ix2 ⟨(j 0).val, h⟩ (j 1))
    (fun b hb => match b, hb with
      | ⟨0, _⟩, hb => absurd rfl hb
      | ⟨1, _⟩, _ => rfl) (Nat.zero_add _)

theorem ext_next (z : BitVec 1) (a : FVec Ideal S32x128 .f32) (b : FVec Ideal S8x128 .f32) (j : S40x128.Idx) (h : 32 ≤ (j 0).val) :
    ext z a b j = if z = 1#1 then 0 else b (ix2 ⟨(j 0).val - 32, by have h0 : (j 0).val < 40 := (j 0).isLt; omega⟩ (j 1)) := by
  have h0 : (j 0).val < 40 := (j 0).isLt
  unfold ext
  refine (concatenate_apply_piece 0 _ _ j 1 (by show 1 < 2; omega) S8x128 (Scalar.select z (broadcast S8x128 (Scalar.ofBits .f32 0x00000000#32)) b) rfl rfl 32 rfl (ix2 ⟨(j 0).val - 32, by omega⟩ (j 1))
    (fun b hb => match b, hb with
      | ⟨0, _⟩, hb => absurd rfl hb
      | ⟨1, _⟩, _ => rfl) (by show 32 + ((j 0).val - 32) = _; omega)).trans ?_
  by_cases hz : z = 1#1
  · rw [if_pos hz, hz]
    exact Ideal.ofBits_zero_f32
  · have e : z = 0#1 := by
      revert hz
      revert z
      decide
    rw [if_neg hz, e]
    rfl

/-! ## One grid point -/

/-- What the body computes with: per 128 columns the taps, and per strip and 128 columns the 40 rows. -/
structure Leaves where
  W : Fin 12 → FVec Ideal S4x128 .f32
  E : Fin 8 → Fin 12 → FVec Ideal S40x128 .f32

structure IsPoint (L : Leaves) (I : Inp) (t : ℕ) : Prop where
  W : ∀ q (x : S4x128.Idx), L.W q x = I.W (x 0).val (128 * q.val + (x 1).val)
  E : ∀ r q (x : S40x128.Idx), L.E r q x = I.d (256 * t + (32 * r.val + (x 0).val)) (128 * q.val + (x 1).val)

theorem strip_point {L : Leaves} {I : Inp} {t : ℕ} (h : IsPoint L I t) (r : Fin 8) (q : Fin 12) (x : S32x128.Idx) :
    strip (L.W q) (L.E r q) x = I.dx (256 * t + (32 * r.val + (x 0).val)) (128 * q.val + (x 1).val) := by
  have ex : x = ix2 (x 0) (x 1) := by
    funext a
    match a with
    | ⟨0, _⟩ => rfl
    | ⟨1, _⟩ => rfl
  refine (congrArg (strip (L.W q) (L.E r q)) ex).trans ((strip_apply _ _ (x 0) (x 1)).trans ?_)
  rw [h.E, h.E, h.E, h.E, h.W, h.W, h.W, h.W]
  rfl

theorem inbO (r : Fin 8) (q : Fin 12) : ∀ a, (![32 * r.val, 128 * q.val] : Fin S256x1536.rank → ℕ) a + S32x128.size a ≤ S256x1536.size a := by
  intro a; fin_cases a <;> simp [S32x128, S256x1536] <;> omega
theorem inbE (r : Fin 7) (q : Fin 12) : ∀ a, (![32 * r.val, 128 * q.val] : Fin S256x1536.rank → ℕ) a + S40x128.size a ≤ S256x1536.size a := by
  intro a; fin_cases a <;> simp [S40x128, S256x1536] <;> omega
theorem inbN (q : Fin 12) : ∀ a, (![0, 128 * q.val] : Fin S8x1536.rank → ℕ) a + S8x128.size a ≤ S8x1536.size a := by
  intro a; fin_cases a <;> simp [S8x128, S8x1536] <;> omega
theorem inbW (q : Fin 12) : ∀ a, (![0, 128 * q.val] : Fin S4x1536.rank → ℕ) a + S4x128.size a ≤ S4x1536.size a := by
  intro a; fin_cases a <;> simp [S4x128, S4x1536] <;> omega
abbrev rectO (r : Fin 8) (q : Fin 12) : Rect S256x1536 := Rect.unit ![32 * r.val, 128 * q.val] S32x128.size (inbO r q)
abbrev rectE (r : Fin 7) (q : Fin 12) : Rect S256x1536 := Rect.unit ![32 * r.val, 128 * q.val] S40x128.size (inbE r q)
abbrev rectN (q : Fin 12) : Rect S8x1536 := Rect.unit ![0, 128 * q.val] S8x128.size (inbN q)
abbrev rectW (q : Fin 12) : Rect S4x1536 := Rect.unit ![0, 128 * q.val] S4x128.size (inbW q)

def rowsOf : List (Fin 8) := [7, 6, 5, 4, 3, 2, 1, 0]
def colsOf : List (Fin 12) := [11, 10, 9, 8, 7, 6, 5, 4, 3, 2, 1, 0]

/-- The stores of one point, last first. -/
def pieces (L : Leaves) : List (View.Piece (Elt Ideal) S256x1536 .bf16) :=
  rowsOf.flatMap fun r => colsOf.map fun q => ⟨rectO r q, strip (L.W q) (L.E r q)⟩

theorem pieces_apply {L : Leaves} {I : Inp} {t : ℕ} (h : IsPoint L I t) (y : S256x1536.Idx) (hy : ∃ p ∈ pieces L, y ∈ p.1.set) :
    View.canon (pieces L) y = I.dx (256 * t + (y 0).val) (y 1).val := by
  refine View.canon_apply_of_pieces (fun y => I.dx (256 * t + (y 0).val) (y 1).val) _ ?_ y hy
  intro p hp
  unfold pieces at hp
  rw [List.mem_flatMap] at hp
  obtain ⟨r, _, hp⟩ := hp
  rw [List.mem_map] at hp
  obtain ⟨q, _, rfl⟩ := hp
  intro x
  have e0 : ((rectO r q).emb x 0).val = 32 * r.val + 1 * (x 0).val := rfl
  have e1 : ((rectO r q).emb x 1).val = 128 * q.val + 1 * (x 1).val := rfl
  show strip (L.W q) (L.E r q) x = _
  rw [strip_point h, e0, e1, one_mul, one_mul]

theorem ld_tile {k : Kind} {sp : Space} {S : Shape} (a : Memref sig k sp S .f32) (h : a.IsWhole) (X : Vec Ideal S .f32) (r : Rect S) (x : r.shape.Idx) :
    View.readAt (Elt Ideal) a.view r.toLoadRect (h.unread X) x = X (r.emb x) := by
  show a.view.read (Elt Ideal) (h.unread X) (r.emb x) = _
  rw [h.read_unread]

section
variable (i : grid0.Coords) (arg2 : Memref sig .tc .vmem S256x1536 .f32) (harg2 : arg2.IsWhole) (arg3 : Memref sig .tc .vmem S8x1536 .f32) (harg3 : arg3.IsWhole) (arg4 : Memref sig .tc .vmem S4x1536 .f32) (harg4 : arg4.IsWhole)
  (x0 : Vec Ideal S256x1536 .f32) (x1 : Vec Ideal S8x1536 .f32) (x2 : Vec Ideal S4x1536 .f32)

/-- What the body loads of buffers holding `x0`, `x1`, `x2`. -/
def loads : Leaves where
  W q := View.readAt (Elt Ideal) arg4.view (rectW q).toLoadRect (harg4.unread x2)
  E r q := if h : r.val < 7 then View.readAt (Elt Ideal) arg2.view (rectE ⟨r.val, h⟩ q).toLoadRect (harg2.unread x0) else
    ext (Scalar.cmpi .eq (BitVec.ofNat 32 (i 0).val) 15#32) (View.readAt (Elt Ideal) arg2.view (rectO 7 q).toLoadRect (harg2.unread x0))
      (View.readAt (Elt Ideal) arg3.view (rectN q).toLoadRect (harg3.unread x1))

variable (c : Dev nD) (arg6 : Memref sig .tc .vmem S256x1536 .bf16) (harg6 : arg6.IsWhole)

theorem run3 : (kernelRun0_A c i arg2 harg2 arg3 harg3 arg4 harg4 arg6 harg6 x0 x1 x2).1 = pieces (loads i arg2 harg2 arg3 harg3 arg4 harg4 x0 x1 x2) := by sl_kernel_rfl

theorem last_word : ∀ t : Fin 16, Scalar.cmpi .eq (BitVec.ofNat 32 t.val) 15#32 = if t.val = 15 then 1#1 else 0#1 := by decide

theorem loads_isPoint (I : Inp) (t : ℕ) (ht : t < 16) (hi : (i 0).val = t)
    (h0 : ∀ j : S256x1536.Idx, x0 j = I.D (256 * t + (j 0).val) (j 1).val)
    (h1 : t < 15 → ∀ j : S8x1536.Idx, x1 j = I.D (256 * (t + 1) + (j 0).val) (j 1).val)
    (h2 : ∀ j : S4x1536.Idx, x2 j = I.W (j 0).val (j 1).val) :
    IsPoint (loads i arg2 harg2 arg3 harg3 arg4 harg4 x0 x1 x2) I t where
  W q x := by
    have e0 : ((rectW q).emb x 0).val = 0 + 1 * (x 0).val := rfl
    have e1 : ((rectW q).emb x 1).val = 128 * q.val + 1 * (x 1).val := rfl
    refine (ld_tile arg4 harg4 x2 (rectW q) x).trans ?_
    rw [h2, e0, e1, one_mul, one_mul, zero_add]
  E r q x := by
    have hx : (x 0).val < 40 := (x 0).isLt
    have hr : r.val < 8 := r.isLt
    unfold Inp.d
    show (if h : r.val < 7 then _ else _ : FVec Ideal S40x128 .f32) x = _
    by_cases h : r.val < 7
    · have e0 : ((rectE ⟨r.val, h⟩ q).emb x 0).val = 32 * r.val + 1 * (x 0).val := rfl
      have e1 : ((rectE ⟨r.val, h⟩ q).emb x 1).val = 128 * q.val + 1 * (x 1).val := rfl
      rw [dif_pos h, if_pos (by omega)]
      refine (ld_tile arg2 harg2 x0 (rectE ⟨r.val, h⟩ q) x).trans ?_
      rw [h0, e0, e1, one_mul, one_mul]
    · rw [dif_neg h]
      have h7 : r.val = 7 := by omega
      by_cases hc : (x 0).val < 32
      · refine (ext_row _ _ _ x hc).trans ((ld_tile arg2 harg2 x0 (rectO 7 q) _).trans ?_)
        have e0 : ((rectO 7 q).emb (ix2 ⟨(x 0).val, hc⟩ (x 1)) 0).val = 32 * 7 + 1 * (x 0).val := rfl
        have e1 : ((rectO 7 q).emb (ix2 ⟨(x 0).val, hc⟩ (x 1)) 1).val = 128 * q.val + 1 * (x 1).val := rfl
        rw [h0, e0, e1, one_mul, one_mul, h7, if_pos (by omega)]
      · refine (ext_next _ _ _ x (by omega)).trans ?_
        rw [hi, last_word ⟨t, ht⟩]
        by_cases hl : t = 15
        · rw [if_pos (by show (if t = 15 then 1#1 else 0#1) = 1#1; rw [if_pos hl]), if_neg (by omega)]
        · rw [if_neg (by show ¬(if t = 15 then 1#1 else 0#1) = 1#1; rw [if_neg hl]; decide), if_pos (by omega)]
          have hq : (x 0).val - 32 < 8 := by omega
          have e0 : ((rectN q).emb (ix2 ⟨(x 0).val - 32, hq⟩ (x 1)) 0).val = 0 + 1 * ((x 0).val - 32) := rfl
          have e1 : ((rectN q).emb (ix2 ⟨(x 0).val - 32, hq⟩ (x 1)) 1).val = 128 * q.val + 1 * (x 1).val := rfl
          refine (ld_tile arg3 harg3 x1 (rectN q) (ix2 ⟨(x 0).val - 32, hq⟩ (x 1))).trans ?_
          rw [h1 (by omega), e0, e1, one_mul, one_mul, zero_add, h7]
          exact congrArg (fun a => I.D a (128 * q.val + (x 1).val)) (by omega)

theorem out3 {I : Inp} {t : ℕ} (h : IsPoint (loads i arg2 harg2 arg3 harg3 arg4 harg4 x0 x1 x2) I t) (y : S256x1536.Idx) :
    out0_A_3 c i arg2 harg2 arg3 harg3 arg4 harg4 arg6 harg6 x0 x1 x2 y = I.dx (256 * t + (y 0).val) (y 1).val := by
  unfold out0_A_3
  rw [View.read_writes_eq_canon _ _ _ (cover0_A_3 c i arg2 harg2 arg3 harg3 arg4 harg4 arg6 harg6 x0 x1 x2)]
  have hy := cover0_A_3 c i arg2 harg2 arg3 harg3 arg4 harg4 arg6 harg6 x0 x1 x2 y
  rw [run3] at hy ⊢
  exact pieces_apply h y hy

end

/-! ## The run -/

variable (m : (ℓ : Loc nD τ sig) → Buf (Elt Ideal) ℓ)

/-- The arguments on device `c` are `I`. -/
structure IsArgs (I : Inp) (c : Dev nD) : Prop where
  D : ∀ j : S4096x1536.Idx, m ((c : Thread nD τ).loc main_arg0) j = I.D (j 0).val (j 1).val
  W : ∀ j : S4x1536.Idx, m ((c : Thread nD τ).loc main_arg1) j = I.W (j 0).val (j 1).val
  P : ∀ j : S4096x3200.Idx, m ((c : Thread nD τ).loc main_arg2) j = I.P (j 0).val (j 1).val

theorem index0 : ∀ t : Fin cfg0.N, win0_0.index t = ![t.val, 0] :=
  (by decide +kernel : ∀ t : Fin grid0.N, win0_0.index t = ![t.val, 0])
theorem index1 : ∀ t : Fin cfg0.N, t.val < 15 → win0_1.index t = ![32 * (t.val + 1), 0] :=
  (by decide +kernel : ∀ t : Fin grid0.N, t.val < 15 → win0_1.index t = ![32 * (t.val + 1), 0])
theorem index2 : ∀ t : Fin cfg0.N, win0_2.index t = ![0, 0] :=
  (by decide +kernel : ∀ t : Fin grid0.N, win0_2.index t = ![0, 0])
theorem index3 : ∀ t : Fin cfg0.N, win0_3.index t = ![t.val, 0] :=
  (by decide +kernel : ∀ t : Fin grid0.N, win0_3.index t = ![t.val, 0])
theorem coord0 : ∀ t : Fin cfg0.N, (grid0.coords t 0).val = t.val :=
  (by decide +kernel : ∀ t : Fin grid0.N, (grid0.coords t 0).val = t.val)
theorem xsize3 : ∀ t : Fin cfg0.N, ∀ a, win0_3.xsize (grid0.coords t) a = S256x1536.size a :=
  (by decide +kernel : ∀ t : Fin grid0.N, ∀ a, win0_3.xsize (grid0.coords t) a = S256x1536.size a)

variable {m} {I : Inp} {c : Dev nD} (h : IsArgs m I c) (t : Fin cfg0.N)
include h

theorem blk0 (j : S256x1536.Idx) : iblk m c 0 t j = I.D (256 * t.val + (j 0).val) (j 1).val := by
  have e0 : ((win0_0.rect t).emb j 0 : ℕ) = 256 * t.val + (j 0).val := by
    rw [Pipeline.Window.rect_emb_val win0_0 t j 0 rfl, index0]
    show t.val * 256 + _ = _
    omega
  have e1 : ((win0_0.rect t).emb j 1 : ℕ) = (j 1).val := by
    rw [Pipeline.Window.rect_emb_val win0_0 t j 1 rfl, index0]
    show 0 * 1536 + _ = _
    omega
  refine (h.D ((win0_0.rect t).emb j)).trans ?_
  rw [e0, e1]

theorem blk1 (ht : t.val < 15) (j : S8x1536.Idx) : iblk m c 1 t j = I.D (256 * (t.val + 1) + (j 0).val) (j 1).val := by
  have e0 : ((win0_1.rect t).emb j 0 : ℕ) = 256 * (t.val + 1) + (j 0).val := by
    rw [Pipeline.Window.rect_emb_val win0_1 t j 0 rfl, index1 t ht]
    show 32 * (t.val + 1) * 8 + _ = _
    omega
  have e1 : ((win0_1.rect t).emb j 1 : ℕ) = (j 1).val := by
    rw [Pipeline.Window.rect_emb_val win0_1 t j 1 rfl, index1 t ht]
    show 0 * 1536 + _ = _
    omega
  refine (h.D ((win0_1.rect t).emb j)).trans ?_
  rw [e0, e1]

theorem blk2 (j : S4x1536.Idx) : iblk m c 2 t j = I.W (j 0).val (j 1).val := by
  have e : (win0_2.rect t).emb j = j := by
    funext a
    refine Fin.ext (Pipeline.Window.rect_emb_val_of_index_zero win0_2 t a ?_ j)
    rw [index2]
    fin_cases a <;> rfl
  refine (h.W ((win0_2.rect t).emb j)).trans ?_
  rw [e]

omit h in
theorem mem3 (i : S4096x3200.Idx) : i ∈ ((cfg0.win 3).blk t).view.set ↔ t.val = (i 0).val / 256 ∧ (i 1).val < 1536 := by
  show i ∈ ((View.whole main_v0).slice (win0_3.rect t)).set ↔ _
  rw [View.set_slice_whole, Rect.mem_set_unit]
  constructor
  · intro hh
    have a0 := hh 0
    have a1 := hh 1
    rw [xsize3] at a0 a1
    have b0 : win0_3.index t 0 * 256 ≤ (i 0).val ∧ (i 0).val < win0_3.index t 0 * 256 + 256 := a0
    have b1 : win0_3.index t 1 * 1536 ≤ (i 1).val ∧ (i 1).val < win0_3.index t 1 * 1536 + 1536 := a1
    rw [index3] at b0 b1
    have c0 : t.val * 256 ≤ (i 0).val ∧ (i 0).val < t.val * 256 + 256 := b0
    have c1 : 0 * 1536 ≤ (i 1).val ∧ (i 1).val < 0 * 1536 + 1536 := b1
    omega
  · intro hh a
    rw [xsize3]
    match a with
    | ⟨0, _⟩ =>
      show win0_3.index t 0 * 256 ≤ (i 0).val ∧ (i 0).val < win0_3.index t 0 * 256 + 256
      rw [index3]
      show t.val * 256 ≤ (i 0).val ∧ (i 0).val < t.val * 256 + 256
      omega
    | ⟨1, _⟩ =>
      show win0_3.index t 1 * 1536 ≤ (i 1).val ∧ (i 1).val < win0_3.index t 1 * 1536 + 1536
      rw [index3]
      show 0 * 1536 ≤ (i 1).val ∧ (i 1).val < 0 * 1536 + 1536
      omega

omit h in
/-- The call's result starts as the buffer it was given. -/
theorem start_eq : V m c main_v0 = m ((c : Thread nD τ).loc main_arg2) := by
  show StableHlo.after hostOps0 (fun b => m (c, b)) _ = _
  simp only [hostOps0, StableHlo.TRef.binary, StableHlo.TRef.unary, StableHlo.TRef.toBuf, StableHlo.TRef.ofBuf, cast_eq]
  after_results_simp
  rfl

theorem res (i : S4096x3200.Idx) : (dats m 0 c).arrAt 3 cfg0.N i = I.out (i 0).val (i 1).val := by
  have h0 : (i 0).val < 4096 := (i 0).isLt
  have hN : cfg0.N = 16 := N_0
  by_cases hc : (i 1).val < 1536
  · refine (dats m 0 c).arrAt_apply_of_mem 3 (fun i : S4096x3200.Idx => I.out (i 0).val (i 1).val) ?_ cfg0.N ⟨(i 0).val / 256, by omega⟩ i (by show (i 0).val / 256 < _; omega) (flush0_3 _)
      ((mem3 _ i).mpr ⟨rfl, hc⟩)
    intro t _
    rw [Value.flushed3_A]
    funext y
    have y1 : (y 1).val < 1536 := lt_of_lt_of_eq (y 1).isLt (xsize3 t 1)
    have e0 : ((win0_3.rect t).emb y 0 : ℕ) = 256 * t.val + (y 0).val := by
      rw [Pipeline.Window.rect_emb_val win0_3 t y 0 rfl, index3]
      show t.val * 256 + _ = _
      omega
    have e1 : ((win0_3.rect t).emb y 1 : ℕ) = (y 1).val := by
      rw [Pipeline.Window.rect_emb_val win0_3 t y 1 rfl, index3]
      show 0 * 1536 + _ = _
      omega
    show _ = I.out ((win0_3.rect t).emb y 0).val ((win0_3.rect t).emb y 1).val
    rw [e0, e1]
    unfold Inp.out
    rw [if_pos y1]
    exact out3 (grid0.coords t) (ms0_0 t) (hs0_0 t) (ms0_1 t) (hs0_1 t) (ms0_2 t) (hs0_2 t) (iblk m c 0 t) (iblk m c 1 t) (iblk m c 2 t) c (ms0_3 t) (hs0_3 t)
      (loads_isPoint (grid0.coords t) (ms0_0 t) (hs0_0 t) (ms0_1 t) (hs0_1 t) (ms0_2 t) (hs0_2 t) (iblk m c 0 t) (iblk m c 1 t) (iblk m c 2 t) I t.val (lt_of_lt_of_eq t.isLt N_0) (coord0 t) (blk0 h t) (blk1 h t) (blk2 h t)) _
  · refine (Value.entry3 m c i fun t _ hh => hc ((mem3 t i).mp hh).2).trans ((congrFun start_eq i).trans ((h.P i).trans ?_))
    unfold Inp.out
    rw [if_neg hc]

end Cert.Kernel20Ideal.Conv

namespace Cert.Reference20Ideal.Conv

open Cert.Reference20Ideal Cert.Reference20Ideal.Gen Cert.Reference20Ideal.Read Idealize.ShloMosaic Idealize.ShloMosaic.TcCoe Idealize.SL.Sem
open Cert.Conv

/-- The padded rows at `j` rows past a row: those of the operand, then zeros. -/
theorem pad_at (lo hi j : ℕ) (hj : lo + j = 3) (y : S4096x1536.Idx → EReal) (g : ℕ → ℕ → EReal) (hy : ∀ k, y k = g (k 0).val (k 1).val) (v : S_.Idx → EReal) (hv : ∀ k, v k = 0)
    (h1 : S4096x1536.Pads ![lo, 0] ![hi, 0] ![0, 0] S4099x1536) (h2 : 0 < S_.numel) (i : S4099x1536.Idx) (r : ℕ) (hr : (i 0).val = 3 + r) :
    pad S4099x1536 ![lo, 0] ![hi, 0] ![0, 0] y v h1 h2 i = if r + j < 4096 then g (r + j) (i 1).val else 0 := by
  by_cases hc : r + j < 4096
  · rw [if_pos hc]
    refine (pad_apply_of_inside _ _ _ _ _ _ _ i (ix2 ⟨r + j, hc⟩ (i 1) : S4096x1536.Idx) ?_).trans (hy _)
    intro a
    match a with
    | ⟨0, _⟩ => show (i 0).val = lo + (r + j) * (0 + 1); omega
    | ⟨1, _⟩ => show (i 1).val = 0 + (i 1).val * (0 + 1); omega
  · rw [if_neg hc]
    refine (pad_apply_of_not_inside _ _ _ _ _ _ _ i (0 : Fin 2) (fun hh => hc ?_)).trans (hv _)
    have h3 : ((i 0).val - lo) / (0 + 1) < 4096 := hh.2.2
    omega

theorem tap (I : Inp) (r c k : ℕ) : (if r < 4096 then I.D r c * I.W k c else 0) = I.d r c * I.W k c := by
  unfold Inp.d
  split
  · rfl
  · exact (zero_mul _).symm

variable {I : Inp} {x0 : (⟨S4096x1536, .f32⟩ : BufTy).Contents (Elt Ideal)} {x1 : (⟨S4x1536, .f32⟩ : BufTy).Contents (Elt Ideal)} {x2 : (⟨S4096x3200, .bf16⟩ : BufTy).Contents (Elt Ideal)}

section
variable (hD : ∀ j, x0 j = I.D (j 0).val (j 1).val) (hW : ∀ j, x1 j = I.W (j 0).val (j 1).val)
include hD hW

theorem v48 (i : S4096x1536.Idx) : val_main_v48 x0 x1 i = I.d ((i 0).val + 0) (i 1).val * I.W 3 (i 1).val := by
  rw [val_main_v48_apply, ← tap]
  refine pad_at 3 0 0 rfl (val_main_v45 x0 x1) (fun r c => I.D r c * I.W 3 c) (fun i => ?_) _ (fun i => Ideal.ofBits_zero_f32) _ _ (idx_main_v48 i) (i 0).val rfl
  have h1 : (i 1).val < 1536 := (i 1).isLt
  rw [val_main_v45_apply, val_main_v43_apply, hD, val_main_v44_apply, val_main_v38_apply, val_main_v37_apply, val_main_v36_apply, hW]
  refine congrArg₂ (fun a b : EReal => a * b) (congrArg₂ I.D ?_ ?_) (congrArg₂ I.W ?_ ?_)
  · show ((i 0).val * 1536 + (i 1).val) / 1536 = _; omega
  · show ((i 0).val * 1536 + (i 1).val) % 1536 = _; omega
  · rfl
  · show (i 1).val % 1536 = _; omega

theorem v53 (i : S4096x1536.Idx) : val_main_v53 x0 x1 i = I.d ((i 0).val + 1) (i 1).val * I.W 2 (i 1).val := by
  rw [val_main_v53_apply, ← tap]
  refine pad_at 2 1 1 rfl (val_main_v50 x0 x1) (fun r c => I.D r c * I.W 2 c) (fun i => ?_) _ (fun i => Ideal.ofBits_zero_f32) _ _ (idx_main_v53 i) (i 0).val rfl
  have h1 : (i 1).val < 1536 := (i 1).isLt
  rw [val_main_v50_apply, val_main_v42_apply, hD, val_main_v49_apply, val_main_v28_apply, val_main_v27_apply, val_main_v26_apply, hW]
  refine congrArg₂ (fun a b : EReal => a * b) (congrArg₂ I.D ?_ ?_) (congrArg₂ I.W ?_ ?_)
  · show ((i 0).val * 1536 + (i 1).val) / 1536 = _; omega
  · show ((i 0).val * 1536 + (i 1).val) % 1536 = _; omega
  · rfl
  · show (i 1).val % 1536 = _; omega

theorem v59 (i : S4096x1536.Idx) : val_main_v59 x0 x1 i = I.d ((i 0).val + 2) (i 1).val * I.W 1 (i 1).val := by
  rw [val_main_v59_apply, ← tap]
  refine pad_at 1 2 2 rfl (val_main_v56 x0 x1) (fun r c => I.D r c * I.W 1 c) (fun i => ?_) _ (fun i => Ideal.ofBits_zero_f32) _ _ (idx_main_v59 i) (i 0).val rfl
  have h1 : (i 1).val < 1536 := (i 1).isLt
  rw [val_main_v56_apply, val_main_v42_apply, hD, val_main_v55_apply, val_main_v18_apply, val_main_v17_apply, val_main_v16_apply, hW]
  refine congrArg₂ (fun a b : EReal => a * b) (congrArg₂ I.D ?_ ?_) (congrArg₂ I.W ?_ ?_)
  · show ((i 0).val * 1536 + (i 1).val) / 1536 = _; omega
  · show ((i 0).val * 1536 + (i 1).val) % 1536 = _; omega
  · rfl
  · show (i 1).val % 1536 = _; omega

theorem v65 (i : S4096x1536.Idx) : val_main_v65 x0 x1 i = I.d ((i 0).val + 3) (i 1).val * I.W 0 (i 1).val := by
  rw [val_main_v65_apply, ← tap]
  refine pad_at 0 3 3 rfl (val_main_v62 x0 x1) (fun r c => I.D r c * I.W 0 c) (fun i => ?_) _ (fun i => Ideal.ofBits_zero_f32) _ _ (idx_main_v65 i) (i 0).val rfl
  have h1 : (i 1).val < 1536 := (i 1).isLt
  rw [val_main_v62_apply, val_main_v42_apply, hD, val_main_v61_apply, val_main_v7_apply, val_main_v6_apply, val_main_v5_apply, hW]
  refine congrArg₂ (fun a b : EReal => a * b) (congrArg₂ I.D ?_ ?_) (congrArg₂ I.W ?_ ?_)
  · show ((i 0).val * 1536 + (i 1).val) / 1536 = _; omega
  · show ((i 0).val * 1536 + (i 1).val) % 1536 = _; omega
  · rfl
  · show (i 1).val % 1536 = _; omega

theorem dx_apply (i : S4096x1536.Idx) : val_main_v67 x0 x1 i = I.dx (i 0).val (i 1).val := by
  rw [val_main_v67_apply, val_main_v66_apply, val_main_v60_apply, val_main_v54_apply, v48 hD hW, v53 hD hW, v59 hD hW, v65 hD hW]
  rfl

theorem res (hP : ∀ j, x2 j = I.P (j 0).val (j 1).val) (i : S4096x3200.Idx) : val_main_v69 x0 x1 x2 i = I.out (i 0).val (i 1).val := by
  have h1 : (i 1).val < 3200 := (i 1).isLt
  unfold val_main_v69 Inp.out
  by_cases hc : (i 1).val < 1536
  · rw [if_pos hc]
    refine (concatenate_apply_piece 1 _ _ i 0 (by show 0 < 2; omega) S4096x1536 (val_main_v67 x0 x1) rfl rfl 0 rfl (ix2 (i 0) ⟨(i 1).val, hc⟩)
      (fun b hb => match b, hb with
        | ⟨0, _⟩, _ => rfl
        | ⟨1, _⟩, hb => absurd rfl hb) (Nat.zero_add _)).trans ?_
    rw [dx_apply hD hW]
    rfl
  · rw [if_neg hc]
    refine (concatenate_apply_piece 1 _ _ i 1 (by show 1 < 2; omega) S4096x1664 (val_main_v68 x2) rfl rfl 1536 rfl (ix2 (i 0) ⟨(i 1).val - 1536, by omega⟩)
      (fun b hb => match b, hb with
        | ⟨0, _⟩, _ => rfl
        | ⟨1, _⟩, hb => absurd rfl hb) (by show 1536 + ((i 1).val - 1536) = (i 1).val; omega)).trans ?_
    rw [val_main_v68_apply, hP]
    refine congrArg₂ I.P rfl ?_
    show 1536 + ((i 1).val - 1536) = (i 1).val
    omega
end

end Cert.Reference20Ideal.Conv

namespace Cert.Proof.ConvBwd

open Idealize.ShloMosaic Idealize.ShloMosaic.TcCoe Idealize.SL.Sem
open Cert.Conv Cert.Proof.SgFwd

section
open Cert.Kernel20Ideal
/-- The inputs on device `c`. -/
def inp (m : (ℓ : Loc nD τ sig) → Buf (Elt Ideal) ℓ) (c : Dev nD) : Inp where
  D := at2 (M := 4096) (N := 1536) (m ((c : Thread nD τ).loc main_arg0))
  W := at2 (M := 4) (N := 1536) (m ((c : Thread nD τ).loc main_arg1))
  P := at2 (M := 4096) (N := 3200) (m ((c : Thread nD τ).loc main_arg2))

theorem isArgs (m : (ℓ : Loc nD τ sig) → Buf (Elt Ideal) ℓ) (c : Dev nD) : Cert.Kernel20Ideal.Conv.IsArgs m (inp m c) c where
  D j := at2_eq (M := 4096) (N := 1536) _ j
  W j := at2_eq (M := 4) (N := 1536) _ j
  P j := at2_eq (M := 4096) (N := 3200) _ j
end

theorem frame_reference : Cert.quiescent_Reference20Ideal := by
  intro m ρ _
  exact (θ_run Cert.Reference20Ideal.defs _ _).mono (fun r h => ⟨fun c => (h c).2, sem_eq_zero_of_no_sems (by decide) r.2⟩)
    (Cert.Reference20Ideal.Value.run (F := Ideal) m ρ)

theorem algebraic : Cert.algebraic_Kernel20Ideal_Reference20Ideal := by
  intro m g m' g' _ ha
  refine ⟨fun c (i : Cert.Kernel20Ideal.S4096x3200.Idx) => (inp m c).out (i 0).val (i 1).val, ?_, ?_⟩
  · refine (θ_run Cert.Kernel20Ideal.defs _ _).mono (fun r h c => ?_) (Cert.Kernel20Ideal.Value.run_blocks (F := Ideal) m g)
    obtain ⟨r3, hargs⟩ := h c
    exact ⟨r3.trans (funext fun i => Cert.Kernel20Ideal.Conv.res (isArgs m c) i), hargs⟩
  · refine (θ_run Cert.Reference20Ideal.defs _ _).mono (fun r h c => ?_) (Cert.Reference20Ideal.Value.run (F := Ideal) m' g')
    obtain ⟨r3, hargs⟩ := h c
    obtain ⟨a0, a1, a2⟩ := ha c
    have hr := isArgs m c
    refine ⟨r3.trans ((Cert.Reference20Ideal.Read.val_main_v69_eq _ _ _).trans (funext fun i => ?_)), hargs⟩
    exact Cert.Reference20Ideal.Conv.res (fun j => (congrFun a0 j).trans (hr.D j)) (fun j => (congrFun a1 j).trans (hr.W j)) (fun j => (congrFun a2 j).trans (hr.P j)) i

end Cert.Proof.ConvBwd

end
-- ==== Proof.NormUp.lean ====
/- The normalisation and the two input projections of the feed-forward layer, forward: the tiled kernel and its
reference are the same sums. -/
module

public import proofs.«01_k».proof.Defs
public import proofs.«01_k».proof.Proof.Gen.Kernel21Ideal.Value
public import proofs.«01_k».proof.Proof.Gen.Reference21Ideal.Run
public import proofs.«01_k».proof.Proof.Gen.Reference21Ideal.Read
public import proofs.«01_k».proof.Proof.Norm
public import Idealize.ShloMosaic.Lib.KernelVsHost

@[expose] public section

set_option maxRecDepth 16384
set_option maxHeartbeats 2000000

noncomputable section

namespace Cert.Kernel21Ideal.Norm

open Cert.Kernel21Ideal Cert.Kernel21Ideal.Gen Idealize.ShloMosaic Idealize.ShloMosaic.TcCoe Idealize.SL.Sem
open Cert.Mm Cert.Norm

theorem pay3_apply (x : Vec Ideal S256x1024 .f32) (y : S256x1.Idx) : k0_pay3 (F := Ideal) x y = rstd (row x (y 0)) := by
  pointwise [k0_pay3]
  rfl

theorem pay4_apply (x : Vec Ideal S256x1024 .f32) (g : Vec Ideal S1x1024 .f32) (y : S256x1024.Idx) : k0_pay4 (F := Ideal) x g y = normed x g (y 0) (y 1) := by
  pointwise [k0_pay4]
  rw [pay3_apply]
  have e : y = ValueIdx.ix2 (y 0) (y 1) := by
    funext a
    match a with
    | ⟨0, _⟩ => rfl
    | ⟨1, _⟩ => rfl
  exact congrArg (fun a : EReal => a * rstd (row x (y 0)) * g (ValueIdx.ix2 0 (y 1))) (congrArg x e)

/-- The product of the normalised block with 256 rows of the weights. -/
def prod (h : Vec Ideal S256x1024 .bf16) (w : Vec Ideal S256x1024 .bf16) : FVec Ideal S256x256 .f32 :=
  matmul (φ₁ := .bf16) (φ₂ := .bf16) dot_S256x1024_S256x1024_S256x256_1_1_0_0_n_n none h w (constant S256x256 .f32 0x00000000#32)

theorem prod_apply (x : Vec Ideal S256x1024 .f32) (g : Vec Ideal S1x1024 .f32) (w : Vec Ideal S256x1024 .bf16) (y : S256x256.Idx) :
    prod (k0_pay4 x g) w y = ∑ k : Fin 1024, normed x g (y 0) k * w (ValueIdx.ix2 (y 1) k) := by
  unfold prod
  refine (nt_matmul (M := 256) (K := 1024) (N := 256) (φ₁ := .bf16) (φ₂ := .bf16) dot_S256x1024_S256x1024_S256x256_1_1_0_0_n_n_wf none (k0_pay4 x g) w (constant S256x256 .f32 0x00000000#32) y).trans ?_
  rw [zero_constant, zero_add]
  exact Finset.sum_congr rfl fun k _ => congrArg (fun a : EReal => a * w (ValueIdx.ix2 (y 1) k)) (pay4_apply x g _)

theorem inbO (q : Fin 22) : ∀ a, (![0, 256 * q.val] : Fin S256x5632.rank → ℕ) a + S256x256.size a ≤ S256x5632.size a := by
  intro a; fin_cases a <;> simp [S256x256, S256x5632] <;> omega
theorem inbW (q : Fin 22) : ∀ a, (![256 * q.val, 0] : Fin S5632x1024.rank → ℕ) a + S256x1024.size a ≤ S5632x1024.size a := by
  intro a; fin_cases a <;> simp [S256x1024, S5632x1024] <;> omega
abbrev rectO (q : Fin 22) : Rect S256x5632 := Rect.unit ![0, 256 * q.val] S256x256.size (inbO q)
abbrev rectW (q : Fin 22) : Rect S5632x1024 := Rect.unit ![256 * q.val, 0] S256x1024.size (inbW q)

/-- The column blocks, last stored first. -/
def colsOf : List (Fin 22) := [21, 10, 20, 9, 19, 8, 18, 7, 17, 6, 16, 5, 15, 4, 14, 3, 13, 2, 12, 1, 11, 0]
/-- The stores of the projection at one point. -/
def pieces (h : Vec Ideal S256x1024 .bf16) (W : Fin 22 → Vec Ideal S256x1024 .bf16) : List (View.Piece (Elt Ideal) S256x5632 .f32) :=
  colsOf.map fun q => ⟨rectO q, prod h (W q)⟩

theorem pieces_apply (x : Vec Ideal S256x1024 .f32) (g : Vec Ideal S1x1024 .f32) (w : Vec Ideal S5632x1024 .bf16) (W : Fin 22 → Vec Ideal S256x1024 .bf16)
    (hW : ∀ q z, W q z = w ((rectW q).emb z)) (y : S256x5632.Idx) (hy : ∃ p ∈ pieces (k0_pay4 x g) W, y ∈ p.1.set) :
    View.canon (pieces (k0_pay4 x g) W) y = ∑ k : Fin 1024, normed x g (y 0) k * w (ValueIdx.ix2 (y 1) k) := by
  refine View.canon_apply_of_pieces (fun y : S256x5632.Idx => (∑ k : Fin 1024, normed x g (y 0) k * w (ValueIdx.ix2 (y 1) k) : EReal)) _ ?_ y hy
  intro p hp
  unfold pieces at hp
  rw [List.mem_map] at hp
  obtain ⟨q, _, rfl⟩ := hp
  intro z
  refine (prod_apply x g (W q) z).trans (Finset.sum_congr rfl fun k _ => ?_)
  refine congrArg₂ (fun a b : EReal => a * b) (congrArg (fun r => normed x g r k) (Fin.ext ?_)) ((hW q _).trans (congrArg w (funext fun a => Fin.ext ?_)))
  · show (z 0).val = 0 + 1 * (z 0).val
    omega
  · match a with
    | ⟨0, _⟩ => rfl
    | ⟨1, _⟩ =>
      show 0 + 1 * k.val = k.val
      omega

theorem ld_tile {k : Kind} {sp : Space} {S : Shape} {e : EltTy} (a : Memref sig k sp S e) (h : a.IsWhole) (X : Vec Ideal S e) (r : Rect S) (x : r.shape.Idx) :
    View.readAt (Elt Ideal) a.view r.toLoadRect (h.unread X) x = X (r.emb x) := by
  show a.view.read (Elt Ideal) (h.unread X) (r.emb x) = _
  rw [h.read_unread]

section
variable (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S5632x1024 .bf16) (harg3 : arg3.IsWhole) (arg4 : Memref sig .tc .vmem S3x5632 .f32) (harg4 : arg4.IsWhole) (arg5 : Memref sig .tc .vmem S1x5632 .f32) (harg5 : arg5.IsWhole) (arg6 : Memref sig .tc .vmem S256x5632 .f32) (harg6 : arg6.IsWhole) (arg7 : Memref sig .tc .vmem S256x2816 .bf16) (harg7 : arg7.IsWhole) (arg8 : Memref sig .tc .vmem S256x1024 .bf16) (harg8 : arg8.IsWhole) (arg9 : Memref sig .tc .vmem S256x1 .f32) (harg9 : arg9.IsWhole) (arg10 : Memref sig .tc .vmem S8x5632 .f32) (harg10 : arg10.IsWhole) (arg11 : Memref sig .tc .vmem S8x5632 .f32) (harg11 : arg11.IsWhole)
  (x0 : Vec Ideal S256x1024 .f32) (x1 : Vec Ideal S1x1024 .f32) (x2 : Vec Ideal S5632x1024 .bf16) (x3 : Vec Ideal S3x5632 .f32) (x4 : Vec Ideal S1x5632 .f32)

/-- The rows of the weights which the body loads. -/
def rowsOf (q : Fin 22) : Vec Ideal S256x1024 .bf16 := View.readAt (Elt Ideal) arg3.view (rectW q).toLoadRect (harg3.unread x2)

theorem runA5 (hc0 : cond0_0 i) : (kernelRun0_A c i arg1 harg1 arg2 harg2 arg3 harg3 arg4 harg4 arg5 harg5 arg6 harg6 arg7 harg7 arg8 harg8 arg9 harg9 arg10 harg10 arg11 harg11 hc0 x0 x1 x2 x3 x4).1 = pieces (k0_pay4 (whole harg1 x0) (whole harg2 x1)) (rowsOf arg3 harg3 x2) := by sl_kernel_rfl
theorem runA7 (hc0 : cond0_0 i) : (kernelRun0_A c i arg1 harg1 arg2 harg2 arg3 harg3 arg4 harg4 arg5 harg5 arg6 harg6 arg7 harg7 arg8 harg8 arg9 harg9 arg10 harg10 arg11 harg11 hc0 x0 x1 x2 x3 x4).2.2.1 = [⟨Rect.unit (s := S256x1024) ![0, 0] S256x1024.size inb_S256x1024_S256x1024_0_0, k0_pay4 (whole harg1 x0) (whole harg2 x1)⟩] := by sl_kernel_rfl
theorem runA8 (hc0 : cond0_0 i) : (kernelRun0_A c i arg1 harg1 arg2 harg2 arg3 harg3 arg4 harg4 arg5 harg5 arg6 harg6 arg7 harg7 arg8 harg8 arg9 harg9 arg10 harg10 arg11 harg11 hc0 x0 x1 x2 x3 x4).2.2.2.1 = [⟨Rect.unit (s := S256x1) ![0, 0] S256x1.size inb_S256x1_S256x1_0_0, k0_pay3 (whole harg1 x0)⟩] := by sl_kernel_rfl

theorem outA5 (hc0 : cond0_0 i) (y : S256x5632.Idx) : out0_A_5 c i arg1 harg1 arg2 harg2 arg3 harg3 arg4 harg4 arg5 harg5 arg6 harg6 arg7 harg7 arg8 harg8 arg9 harg9 arg10 harg10 arg11 harg11 hc0 x0 x1 x2 x3 x4 y = ∑ k : Fin 1024, normed x0 x1 (y 0) k * x2 (ValueIdx.ix2 (y 1) k) := by
  unfold out0_A_5
  rw [View.read_writes_eq_canon _ _ _ (cover0_A_5 c i arg1 harg1 arg2 harg2 arg3 harg3 arg4 harg4 arg5 harg5 arg6 harg6 arg7 harg7 arg8 harg8 arg9 harg9 arg10 harg10 arg11 harg11 hc0 x0 x1 x2 x3 x4)]
  have hy := cover0_A_5 c i arg1 harg1 arg2 harg2 arg3 harg3 arg4 harg4 arg5 harg5 arg6 harg6 arg7 harg7 arg8 harg8 arg9 harg9 arg10 harg10 arg11 harg11 hc0 x0 x1 x2 x3 x4 y
  rw [runA5, whole_eq, whole_eq] at hy ⊢
  exact pieces_apply x0 x1 x2 _ (fun q z => ld_tile arg3 harg3 x2 (rectW q) z) y hy

theorem outA7 (hc0 : cond0_0 i) (y : S256x1024.Idx) : out0_A_7 c i arg1 harg1 arg2 harg2 arg3 harg3 arg4 harg4 arg5 harg5 arg6 harg6 arg7 harg7 arg8 harg8 arg9 harg9 arg10 harg10 arg11 harg11 hc0 x0 x1 x2 x3 x4 y = normed x0 x1 (y 0) (y 1) := by
  unfold out0_A_7
  rw [View.read_writes_eq_canon _ _ _ (cover0_A_7 c i arg1 harg1 arg2 harg2 arg3 harg3 arg4 harg4 arg5 harg5 arg6 harg6 arg7 harg7 arg8 harg8 arg9 harg9 arg10 harg10 arg11 harg11 hc0 x0 x1 x2 x3 x4)]
  rw [runA7, whole_eq, whole_eq]
  exact (congrFun (View.canon_cons_unit_zero (S := S256x1024) zero2 _ _ _) y).trans (pay4_apply x0 x1 y)

theorem outA8 (hc0 : cond0_0 i) (y : S256x1.Idx) : out0_A_8 c i arg1 harg1 arg2 harg2 arg3 harg3 arg4 harg4 arg5 harg5 arg6 harg6 arg7 harg7 arg8 harg8 arg9 harg9 arg10 harg10 arg11 harg11 hc0 x0 x1 x2 x3 x4 y = rstd (row x0 (y 0)) := by
  unfold out0_A_8
  rw [View.read_writes_eq_canon _ _ _ (cover0_A_8 c i arg1 harg1 arg2 harg2 arg3 harg3 arg4 harg4 arg5 harg5 arg6 harg6 arg7 harg7 arg8 harg8 arg9 harg9 arg10 harg10 arg11 harg11 hc0 x0 x1 x2 x3 x4)]
  rw [runA8, whole_eq]
  exact (congrFun (View.canon_cons_unit_zero (S := S256x1) zero2 _ _ _) y).trans (pay3_apply x0 y)

theorem runB5 (hc0 : ¬cond0_0 i) (xs0 : Vec Ideal S8x5632 .f32) : (kernelRun0_B c i arg1 harg1 arg2 harg2 arg3 harg3 arg4 harg4 arg5 harg5 arg6 harg6 arg7 harg7 arg8 harg8 arg9 harg9 arg10 harg10 arg11 harg11 hc0 x0 x1 x2 x3 x4 xs0).1 = pieces (k0_pay4 (whole harg1 x0) (whole harg2 x1)) (rowsOf arg3 harg3 x2) := by sl_kernel_rfl
theorem runB7 (hc0 : ¬cond0_0 i) (xs0 : Vec Ideal S8x5632 .f32) : (kernelRun0_B c i arg1 harg1 arg2 harg2 arg3 harg3 arg4 harg4 arg5 harg5 arg6 harg6 arg7 harg7 arg8 harg8 arg9 harg9 arg10 harg10 arg11 harg11 hc0 x0 x1 x2 x3 x4 xs0).2.2.1 = [⟨Rect.unit (s := S256x1024) ![0, 0] S256x1024.size inb_S256x1024_S256x1024_0_0, k0_pay4 (whole harg1 x0) (whole harg2 x1)⟩] := by sl_kernel_rfl
theorem runB8 (hc0 : ¬cond0_0 i) (xs0 : Vec Ideal S8x5632 .f32) : (kernelRun0_B c i arg1 harg1 arg2 harg2 arg3 harg3 arg4 harg4 arg5 harg5 arg6 harg6 arg7 harg7 arg8 harg8 arg9 harg9 arg10 harg10 arg11 harg11 hc0 x0 x1 x2 x3 x4 xs0).2.2.2.1 = [⟨Rect.unit (s := S256x1) ![0, 0] S256x1.size inb_S256x1_S256x1_0_0, k0_pay3 (whole harg1 x0)⟩] := by sl_kernel_rfl

theorem outB5 (hc0 : ¬cond0_0 i) (xs0 : Vec Ideal S8x5632 .f32) (y : S256x5632.Idx) : out0_B_5 c i arg1 harg1 arg2 harg2 arg3 harg3 arg4 harg4 arg5 harg5 arg6 harg6 arg7 harg7 arg8 harg8 arg9 harg9 arg10 harg10 arg11 harg11 hc0 x0 x1 x2 x3 x4 xs0 y = ∑ k : Fin 1024, normed x0 x1 (y 0) k * x2 (ValueIdx.ix2 (y 1) k) := by
  unfold out0_B_5
  rw [View.read_writes_eq_canon _ _ _ (cover0_B_5 c i arg1 harg1 arg2 harg2 arg3 harg3 arg4 harg4 arg5 harg5 arg6 harg6 arg7 harg7 arg8 harg8 arg9 harg9 arg10 harg10 arg11 harg11 hc0 x0 x1 x2 x3 x4 xs0)]
  have hy := cover0_B_5 c i arg1 harg1 arg2 harg2 arg3 harg3 arg4 harg4 arg5 harg5 arg6 harg6 arg7 harg7 arg8 harg8 arg9 harg9 arg10 harg10 arg11 harg11 hc0 x0 x1 x2 x3 x4 xs0 y
  rw [runB5, whole_eq, whole_eq] at hy ⊢
  exact pieces_apply x0 x1 x2 _ (fun q z => ld_tile arg3 harg3 x2 (rectW q) z) y hy

theorem outB7 (hc0 : ¬cond0_0 i) (xs0 : Vec Ideal S8x5632 .f32) (y : S256x1024.Idx) : out0_B_7 c i arg1 harg1 arg2 harg2 arg3 harg3 arg4 harg4 arg5 harg5 arg6 harg6 arg7 harg7 arg8 harg8 arg9 harg9 arg10 harg10 arg11 harg11 hc0 x0 x1 x2 x3 x4 xs0 y = normed x0 x1 (y 0) (y 1) := by
  unfold out0_B_7
  rw [View.read_writes_eq_canon _ _ _ (cover0_B_7 c i arg1 harg1 arg2 harg2 arg3 harg3 arg4 harg4 arg5 harg5 arg6 harg6 arg7 harg7 arg8 harg8 arg9 harg9 arg10 harg10 arg11 harg11 hc0 x0 x1 x2 x3 x4 xs0)]
  rw [runB7, whole_eq, whole_eq]
  exact (congrFun (View.canon_cons_unit_zero (S := S256x1024) zero2 _ _ _) y).trans (pay4_apply x0 x1 y)

theorem outB8 (hc0 : ¬cond0_0 i) (xs0 : Vec Ideal S8x5632 .f32) (y : S256x1.Idx) : out0_B_8 c i arg1 harg1 arg2 harg2 arg3 harg3 arg4 harg4 arg5 harg5 arg6 harg6 arg7 harg7 arg8 harg8 arg9 harg9 arg10 harg10 arg11 harg11 hc0 x0 x1 x2 x3 x4 xs0 y = rstd (row x0 (y 0)) := by
  unfold out0_B_8
  rw [View.read_writes_eq_canon _ _ _ (cover0_B_8 c i arg1 harg1 arg2 harg2 arg3 harg3 arg4 harg4 arg5 harg5 arg6 harg6 arg7 harg7 arg8 harg8 arg9 harg9 arg10 harg10 arg11 harg11 hc0 x0 x1 x2 x3 x4 xs0)]
  rw [runB8, whole_eq]
  exact (congrFun (View.canon_cons_unit_zero (S := S256x1) zero2 _ _ _) y).trans (pay3_apply x0 y)

end

variable (m : (ℓ : Loc nD τ sig) → Buf (Elt Ideal) ℓ) (c : Dev nD)

/-- The features. -/
abbrev feat : S4096x1024.Idx → EReal := V m c main_arg0
/-- The gain. -/
abbrev gain : S1x1024.Idx → EReal := V m c main_arg1
/-- The weights, row by row. -/
abbrev wts : S5632x1024.Idx → EReal := V m c main_arg2

/-- Row `r` of block `t`. -/
abbrev place (t : Fin cfg0.N) (r : Fin 256) : Fin 4096 := ⟨256 * t.val + r.val, by have := t.isLt; have := r.isLt; have hN : cfg0.N = 16 := N_0; omega⟩

theorem index0 : ∀ t : Fin cfg0.N, win0_0.index t = ![t.val, 0] :=
  (by decide +kernel : ∀ t : Fin grid0.N, win0_0.index t = ![t.val, 0])

theorem emb0 (t : Fin cfg0.N) (y : S256x1024.Idx) : (win0_0.rect t).emb y = ValueIdx.ix2 (place t (y 0)) (y 1) := by
  have e0 : ((win0_0.rect t).emb y 0 : ℕ) = 256 * t.val + (y 0).val := by
    rw [Pipeline.Window.rect_emb_val win0_0 t y 0 rfl, index0]
    show t.val * 256 + _ = _
    omega
  have e1 : ((win0_0.rect t).emb y 1 : ℕ) = (y 1).val := by
    rw [Pipeline.Window.rect_emb_val win0_0 t y 1 rfl, index0]
    show 0 * 1024 + _ = _
    omega
  funext a
  apply Fin.ext
  match a with
  | ⟨0, _⟩ => exact e0
  | ⟨1, _⟩ => exact e1

theorem blk0 (t : Fin cfg0.N) (y : S256x1024.Idx) : iblk m c 0 t y = feat m c (ValueIdx.ix2 (place t (y 0)) (y 1)) := congrArg (feat m c) (emb0 t y)

theorem index1 : ∀ t : Fin cfg0.N, win0_1.index t = ![0, 0] :=
  (by decide +kernel : ∀ t : Fin grid0.N, win0_1.index t = ![0, 0])

theorem blk1 (t : Fin cfg0.N) (j : S1x1024.Idx) : iblk m c 1 t j = gain m c j := by
  refine congrArg (gain m c) (funext fun a => Fin.ext (Pipeline.Window.rect_emb_val_of_index_zero win0_1 t a ?_ j))
  rw [index1]
  fin_cases a <;> rfl

theorem index2 : ∀ t : Fin cfg0.N, win0_2.index t = ![0, 0] :=
  (by decide +kernel : ∀ t : Fin grid0.N, win0_2.index t = ![0, 0])

theorem blk2 (t : Fin cfg0.N) (j : S5632x1024.Idx) : iblk m c 2 t j = wts m c j := by
  refine congrArg (wts m c) (funext fun a => Fin.ext (Pipeline.Window.rect_emb_val_of_index_zero win0_2 t a ?_ j))
  rw [index2]
  fin_cases a <;> rfl

theorem index5 : ∀ t : Fin cfg0.N, win0_5.index t = ![t.val, 0] :=
  (by decide +kernel : ∀ t : Fin grid0.N, win0_5.index t = ![t.val, 0])

theorem emb5 (t : Fin cfg0.N) (y : S256x5632.Idx) : (win0_5.rect t).emb y = ValueIdx.ix2 (place t (y 0)) (y 1) := by
  have e0 : ((win0_5.rect t).emb y 0 : ℕ) = 256 * t.val + (y 0).val := by
    rw [Pipeline.Window.rect_emb_val win0_5 t y 0 rfl, index5]
    show t.val * 256 + _ = _
    omega
  have e1 : ((win0_5.rect t).emb y 1 : ℕ) = (y 1).val := by
    rw [Pipeline.Window.rect_emb_val win0_5 t y 1 rfl, index5]
    show 0 * 5632 + _ = _
    omega
  funext a
  apply Fin.ext
  match a with
  | ⟨0, _⟩ => exact e0
  | ⟨1, _⟩ => exact e1

theorem xsize5 : ∀ t : Fin cfg0.N, ∀ a, win0_5.xsize (grid0.coords t) a = S256x5632.size a :=
  (by decide +kernel : ∀ t : Fin grid0.N, ∀ a, win0_5.xsize (grid0.coords t) a = S256x5632.size a)

theorem mem5 (t : Fin cfg0.N) (i : S4096x5632.Idx) (h0 : t.val = (i 0).val / 256) : i ∈ ((cfg0.win 5).blk t).view.set := by
  show i ∈ ((View.whole main_v0_0).slice (win0_5.rect t)).set
  rw [View.set_slice_whole, Rect.mem_set_unit]
  intro a
  rw [xsize5]
  match a with
  | ⟨0, _⟩ =>
    show win0_5.index t 0 * 256 ≤ (i 0).val ∧ (i 0).val < win0_5.index t 0 * 256 + 256
    rw [index5]
    show t.val * 256 ≤ (i 0).val ∧ (i 0).val < t.val * 256 + 256
    omega
  | ⟨1, _⟩ =>
    have h1 : (i 1).val < 5632 := (i 1).isLt
    show win0_5.index t 1 * 5632 ≤ (i 1).val ∧ (i 1).val < win0_5.index t 1 * 5632 + 5632
    rw [index5]
    show 0 * 5632 ≤ (i 1).val ∧ (i 1).val < 0 * 5632 + 5632
    omega

theorem index7 : ∀ t : Fin cfg0.N, win0_7.index t = ![t.val, 0] :=
  (by decide +kernel : ∀ t : Fin grid0.N, win0_7.index t = ![t.val, 0])

theorem emb7 (t : Fin cfg0.N) (y : S256x1024.Idx) : (win0_7.rect t).emb y = ValueIdx.ix2 (place t (y 0)) (y 1) := by
  have e0 : ((win0_7.rect t).emb y 0 : ℕ) = 256 * t.val + (y 0).val := by
    rw [Pipeline.Window.rect_emb_val win0_7 t y 0 rfl, index7]
    show t.val * 256 + _ = _
    omega
  have e1 : ((win0_7.rect t).emb y 1 : ℕ) = (y 1).val := by
    rw [Pipeline.Window.rect_emb_val win0_7 t y 1 rfl, index7]
    show 0 * 1024 + _ = _
    omega
  funext a
  apply Fin.ext
  match a with
  | ⟨0, _⟩ => exact e0
  | ⟨1, _⟩ => exact e1

theorem xsize7 : ∀ t : Fin cfg0.N, ∀ a, win0_7.xsize (grid0.coords t) a = S256x1024.size a :=
  (by decide +kernel : ∀ t : Fin grid0.N, ∀ a, win0_7.xsize (grid0.coords t) a = S256x1024.size a)

theorem mem7 (t : Fin cfg0.N) (i : S4096x1024.Idx) (h0 : t.val = (i 0).val / 256) : i ∈ ((cfg0.win 7).blk t).view.set := by
  show i ∈ ((View.whole main_v0_2).slice (win0_7.rect t)).set
  rw [View.set_slice_whole, Rect.mem_set_unit]
  intro a
  rw [xsize7]
  match a with
  | ⟨0, _⟩ =>
    show win0_7.index t 0 * 256 ≤ (i 0).val ∧ (i 0).val < win0_7.index t 0 * 256 + 256
    rw [index7]
    show t.val * 256 ≤ (i 0).val ∧ (i 0).val < t.val * 256 + 256
    omega
  | ⟨1, _⟩ =>
    have h1 : (i 1).val < 1024 := (i 1).isLt
    show win0_7.index t 1 * 1024 ≤ (i 1).val ∧ (i 1).val < win0_7.index t 1 * 1024 + 1024
    rw [index7]
    show 0 * 1024 ≤ (i 1).val ∧ (i 1).val < 0 * 1024 + 1024
    omega

theorem index8 : ∀ t : Fin cfg0.N, win0_8.index t = ![t.val, 0] :=
  (by decide +kernel : ∀ t : Fin grid0.N, win0_8.index t = ![t.val, 0])

theorem emb8 (t : Fin cfg0.N) (y : S256x1.Idx) : (win0_8.rect t).emb y = ValueIdx.ix2 (place t (y 0)) (y 1) := by
  have e0 : ((win0_8.rect t).emb y 0 : ℕ) = 256 * t.val + (y 0).val := by
    rw [Pipeline.Window.rect_emb_val win0_8 t y 0 rfl, index8]
    show t.val * 256 + _ = _
    omega
  have e1 : ((win0_8.rect t).emb y 1 : ℕ) = (y 1).val := by
    rw [Pipeline.Window.rect_emb_val win0_8 t y 1 rfl, index8]
    show 0 * 1 + _ = _
    omega
  funext a
  apply Fin.ext
  match a with
  | ⟨0, _⟩ => exact e0
  | ⟨1, _⟩ => exact e1

theorem xsize8 : ∀ t : Fin cfg0.N, ∀ a, win0_8.xsize (grid0.coords t) a = S256x1.size a :=
  (by decide +kernel : ∀ t : Fin grid0.N, ∀ a, win0_8.xsize (grid0.coords t) a = S256x1.size a)

theorem mem8 (t : Fin cfg0.N) (i : S4096x1.Idx) (h0 : t.val = (i 0).val / 256) : i ∈ ((cfg0.win 8).blk t).view.set := by
  show i ∈ ((View.whole main_v0_3).slice (win0_8.rect t)).set
  rw [View.set_slice_whole, Rect.mem_set_unit]
  intro a
  rw [xsize8]
  match a with
  | ⟨0, _⟩ =>
    show win0_8.index t 0 * 256 ≤ (i 0).val ∧ (i 0).val < win0_8.index t 0 * 256 + 256
    rw [index8]
    show t.val * 256 ≤ (i 0).val ∧ (i 0).val < t.val * 256 + 256
    omega
  | ⟨1, _⟩ =>
    have h1 : (i 1).val < 1 := (i 1).isLt
    show win0_8.index t 1 * 1 ≤ (i 1).val ∧ (i 1).val < win0_8.index t 1 * 1 + 1
    rw [index8]
    show 0 * 1 ≤ (i 1).val ∧ (i 1).val < 0 * 1 + 1
    omega

/-- The normalised features. -/
def outH (x : S4096x1024.Idx → EReal) (g : S1x1024.Idx → EReal) (i : S4096x1024.Idx) : EReal := normed x g (i 0) (i 1)
/-- The factors of the rows. -/
def outR (x : S4096x1024.Idx → EReal) (i : S4096x1.Idx) : EReal := rstd (row (M := 4096) x (i 0))
/-- The projection. -/
def outP (x : S4096x1024.Idx → EReal) (g : S1x1024.Idx → EReal) (w : S5632x1024.Idx → EReal) (i : S4096x5632.Idx) : EReal :=
  ∑ k : Fin 1024, normed x g (i 0) k * w (ValueIdx.ix2 (i 1) k)

theorem row_blk (t : Fin cfg0.N) (r : Fin 256) : row (M := 256) (iblk m c 0 t : S256x1024.Idx → EReal) r = row (feat m c) (place t r) :=
  funext fun k => blk0 m c t (ValueIdx.ix2 r k)

theorem normed_blk (t : Fin cfg0.N) (r : Fin 256) (k : Fin 1024) :
    normed (M := 256) (iblk m c 0 t : S256x1024.Idx → EReal) (iblk m c 1 t : S1x1024.Idx → EReal) r k = normed (feat m c) (gain m c) (place t r) k := by
  unfold normed
  rw [row_blk, blk1]

theorem res5 (i : S4096x5632.Idx) : (dats m 0 c).arrAt 5 cfg0.N i = outP (feat m c) (gain m c) (wts m c) i := by
  have h0 : (i 0).val < 4096 := (i 0).isLt
  have hN : cfg0.N = 16 := N_0
  refine (dats m 0 c).arrAt_apply_of_mem 5 (outP (feat m c) (gain m c) (wts m c)) ?_ cfg0.N ⟨(i 0).val / 256, by omega⟩ i (by show (i 0).val / 256 < _; omega) (flush0_5 _) (mem5 _ i rfl)
  intro t _
  funext y
  have e : outP (feat m c) (gain m c) (wts m c) ((win0_5.rect t).emb y) = outP (feat m c) (gain m c) (wts m c) (ValueIdx.ix2 (place t (y 0)) (y 1)) := congrArg _ (emb5 t y)
  refine Eq.trans ?_ e.symm
  by_cases h0 : t.val % 16 = 0
  · rw [Value.flushed5_A m c t h0]
    refine (outA5 (y := y) ..).trans ?_
    exact Finset.sum_congr rfl fun k _ => congrArg₂ (fun a b : EReal => a * b) (normed_blk m c t (y 0) k) (blk2 m c t (ValueIdx.ix2 (y 1) k))
  · rw [Value.flushed5_B m c t h0]
    refine (outB5 (y := y) ..).trans ?_
    exact Finset.sum_congr rfl fun k _ => congrArg₂ (fun a b : EReal => a * b) (normed_blk m c t (y 0) k) (blk2 m c t (ValueIdx.ix2 (y 1) k))

theorem res7 (i : S4096x1024.Idx) : (dats m 0 c).arrAt 7 cfg0.N i = outH (feat m c) (gain m c) i := by
  have h0 : (i 0).val < 4096 := (i 0).isLt
  have hN : cfg0.N = 16 := N_0
  refine (dats m 0 c).arrAt_apply_of_mem 7 (outH (feat m c) (gain m c)) ?_ cfg0.N ⟨(i 0).val / 256, by omega⟩ i (by show (i 0).val / 256 < _; omega) (flush0_7 _) (mem7 _ i rfl)
  intro t _
  funext y
  have e : outH (feat m c) (gain m c) ((win0_7.rect t).emb y) = outH (feat m c) (gain m c) (ValueIdx.ix2 (place t (y 0)) (y 1)) := congrArg _ (emb7 t y)
  refine Eq.trans ?_ e.symm
  by_cases h0 : t.val % 16 = 0
  · rw [Value.flushed7_A m c t h0]
    refine (outA7 (y := y) ..).trans ?_
    exact normed_blk m c t (y 0) (y 1)
  · rw [Value.flushed7_B m c t h0]
    refine (outB7 (y := y) ..).trans ?_
    exact normed_blk m c t (y 0) (y 1)

theorem res8 (i : S4096x1.Idx) : (dats m 0 c).arrAt 8 cfg0.N i = outR (feat m c) i := by
  have h0 : (i 0).val < 4096 := (i 0).isLt
  have hN : cfg0.N = 16 := N_0
  refine (dats m 0 c).arrAt_apply_of_mem 8 (outR (feat m c)) ?_ cfg0.N ⟨(i 0).val / 256, by omega⟩ i (by show (i 0).val / 256 < _; omega) (flush0_8 _) (mem8 _ i rfl)
  intro t _
  funext y
  have e : outR (feat m c) ((win0_8.rect t).emb y) = outR (feat m c) (ValueIdx.ix2 (place t (y 0)) (y 1)) := congrArg _ (emb8 t y)
  refine Eq.trans ?_ e.symm
  by_cases h0 : t.val % 16 = 0
  · rw [Value.flushed8_A m c t h0]
    refine (outA8 (y := y) ..).trans ?_
    exact congrArg rstd (row_blk m c t (y 0))
  · rw [Value.flushed8_B m c t h0]
    refine (outB8 (y := y) ..).trans ?_
    exact congrArg rstd (row_blk m c t (y 0))

end Cert.Kernel21Ideal.Norm

namespace Cert.Reference21Ideal.Norm

open Cert.Reference21Ideal Cert.Reference21Ideal.Read Idealize.ShloMosaic Idealize.ShloMosaic.TcCoe
open Cert.Norm

theorem rms_apply (x : S4096x1024.Idx → EReal) (i : S4096x1.Idx) : val_main_v7 (F := Ideal) x i = rstd (row (M := 4096) x (i 0)) := by
  rw [val_main_v7_apply, val_main_v6_apply, val_main_v4_apply, val_main_v2_apply, val_main_v1_apply, val_main_v3_apply, val_main_v5_apply]
  show Ideal.rsqrt (Ideal.div (Ideal.ofBits .f32 0x00000000#32 + _) _ + _) = _
  rw [Ideal.ofBits_zero_f32, zero_add]
  refine congrArg (fun a : EReal => Ideal.rsqrt (Ideal.div a (FloatOps.ofBits (F := Ideal) .f32 0x44800000#32) + FloatOps.ofBits (F := Ideal) .f32 0x358637BD#32)) (Finset.sum_congr rfl fun k _ => ?_)
  have e : idx_main_v1 (idx_main_v2 i) k = ValueIdx.ix2 (i 0) k := by
    funext a
    match a with
    | ⟨0, _⟩ => rfl
    | ⟨1, _⟩ => rfl
  rw [e]
  rfl

theorem normed_apply (x : S4096x1024.Idx → EReal) (g : S1x1024.Idx → EReal) (i : S4096x1024.Idx) : val_main_v11 (F := Ideal) x g i = normed x g (i 0) (i 1) := by
  rw [val_main_v11_apply, val_main_v9_apply, val_main_v8_apply, val_main_v10_apply, rms_apply]
  have e : i = ValueIdx.ix2 (i 0) (i 1) := by
    funext a
    match a with
    | ⟨0, _⟩ => rfl
    | ⟨1, _⟩ => rfl
  have e2 : idx_main_v10 i = ValueIdx.ix2 0 (i 1) := by
    funext a
    match a with
    | ⟨0, _⟩ => rfl
    | ⟨1, _⟩ => rfl
  rw [e2]
  exact congrArg (fun a : EReal => a * rstd (row (M := 4096) x (i 0)) * g (ValueIdx.ix2 0 (i 1))) (congrArg x e)

theorem h_apply (x : S4096x1024.Idx → EReal) (g : S1x1024.Idx → EReal) (i : S4096x1024.Idx) : val_main_v44 (F := Ideal) x g i = Kernel21Ideal.Norm.outH x g i := normed_apply x g i

theorem r_apply (x : S4096x1024.Idx → EReal) (i : S4096x1.Idx) : val_main_v52 (F := Ideal) x i = Kernel21Ideal.Norm.outR x i := rms_apply x i

theorem p_apply (x : S4096x1024.Idx → EReal) (g : S1x1024.Idx → EReal) (w : S5632x1024.Idx → EReal) (i : S4096x5632.Idx) : val_main_v14 (F := Ideal) x g w i = Kernel21Ideal.Norm.outP x g w i := by
  rw [val_main_v14_apply]
  refine Finset.sum_congr rfl fun k _ => ?_
  rw [normed_apply, val_main_v13_apply, val_main_v12_apply]
  refine congrArg (fun a : EReal => normed x g (i 0) k * a) (congrArg w ?_)
  funext a
  match a with
  | ⟨0, _⟩ => rfl
  | ⟨1, _⟩ => rfl

end Cert.Reference21Ideal.Norm

instance Cert.On_up_results.Norm.facts : Cert.On_up_results.Facts := ⟨by decide, by decide, by decide, by decide⟩

namespace Cert.Proof.NormUp

open Idealize.ShloMosaic Idealize.ShloMosaic.TcCoe Idealize.ShloMosaic.StableHlo Idealize.SL.Sem

theorem frame_reference : Cert.quiescent_Reference21Ideal := by
  intro m ρ _
  exact (θ_run Cert.Reference21Ideal.defs _ _).mono (fun r h => ⟨fun c => (h c).2.2.2.2, sem_eq_zero_of_no_sems (by decide) r.2⟩)
    (Cert.Reference21Ideal.Value.run (F := Ideal) m ρ)

theorem algebraic : Cert.algebraic_Kernel21Ideal_Reference21Ideal_on_up_results := by
  intro m g m' g' _ ha
  refine ⟨fun c (i : Cert.Kernel21Ideal.S4096x5632.Idx) => Cert.Kernel21Ideal.Norm.outP (Cert.Kernel21Ideal.Norm.feat m c) (Cert.Kernel21Ideal.Norm.gain m c) (Cert.Kernel21Ideal.Norm.wts m c) i,
    fun c (_ : Cert.Kernel21Ideal.S4096x2816.Idx) => (0 : EReal),
    fun c (i : Cert.Kernel21Ideal.S4096x1024.Idx) => Cert.Kernel21Ideal.Norm.outH (Cert.Kernel21Ideal.Norm.feat m c) (Cert.Kernel21Ideal.Norm.gain m c) i,
    fun c (i : Cert.Kernel21Ideal.S4096x1.Idx) => Cert.Kernel21Ideal.Norm.outR (Cert.Kernel21Ideal.Norm.feat m c) i, ?_, ?_⟩
  · refine (θ_run Cert.Kernel21Ideal.defs _ _).mono (fun r h c => ?_) (Cert.Kernel21Ideal.Value.run_blocks (F := Ideal) m g)
    obtain ⟨r5, r6, r7, r8, hargs⟩ := h c
    refine ⟨fun i _ => ?_, fun i hi => absurd (show (0#1 : BitVec 1) = 1#1 from hi) (by decide), fun i _ => ?_, fun i _ => ?_, hargs⟩
    · exact (congrFun r5 i).trans (Cert.Kernel21Ideal.Norm.res5 m c i)
    · exact (congrFun r7 i).trans (Cert.Kernel21Ideal.Norm.res7 m c i)
    · exact (congrFun r8 i).trans (Cert.Kernel21Ideal.Norm.res8 m c i)
  · refine (θ_run Cert.Reference21Ideal.defs _ _).mono (fun r h c => ?_) (Cert.Reference21Ideal.Value.run (F := Ideal) m' g')
    obtain ⟨r5, r6, r7, r8, hargs⟩ := h c
    obtain ⟨a0, a1, a2, -, -⟩ := ha c
    refine ⟨fun i _ => ?_, fun i hi => absurd (show (0#1 : BitVec 1) = 1#1 from hi) (by decide), fun i _ => ?_, fun i _ => ?_, hargs⟩
    · refine (congrFun (r5.trans (Cert.Reference21Ideal.Read.val_main_v14_eq _ _ _)) i).trans ((Cert.Reference21Ideal.Norm.p_apply _ _ _ i).trans ?_)
      show _ = Cert.Kernel21Ideal.Norm.outP (Cert.Kernel21Ideal.Gen.V m c Cert.Kernel21Ideal.main_arg0) (Cert.Kernel21Ideal.Gen.V m c Cert.Kernel21Ideal.main_arg1) (Cert.Kernel21Ideal.Gen.V m c Cert.Kernel21Ideal.main_arg2) i
      rw [Cert.Kernel21Ideal.Gen.V_main_arg0, Cert.Kernel21Ideal.Gen.V_main_arg1, Cert.Kernel21Ideal.Gen.V_main_arg2, a0, a1, a2]
    · refine (congrFun (r7.trans (Cert.Reference21Ideal.Read.val_main_v44_eq _ _)) i).trans ((Cert.Reference21Ideal.Norm.h_apply _ _ i).trans ?_)
      show _ = Cert.Kernel21Ideal.Norm.outH (Cert.Kernel21Ideal.Gen.V m c Cert.Kernel21Ideal.main_arg0) (Cert.Kernel21Ideal.Gen.V m c Cert.Kernel21Ideal.main_arg1) i
      rw [Cert.Kernel21Ideal.Gen.V_main_arg0, Cert.Kernel21Ideal.Gen.V_main_arg1, a0, a1]
    · refine (congrFun (r8.trans (Cert.Reference21Ideal.Read.val_main_v52_eq _)) i).trans ((Cert.Reference21Ideal.Norm.r_apply _ i).trans ?_)
      show _ = Cert.Kernel21Ideal.Norm.outR (Cert.Kernel21Ideal.Gen.V m c Cert.Kernel21Ideal.main_arg0) i
      rw [Cert.Kernel21Ideal.Gen.V_main_arg0, a0]

end Cert.Proof.NormUp

end
-- ==== Proof.lean ====
module

public import proofs.«01_k».proof.Defs
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel5.Frame
public import proofs.«01_k».proof.Proof.Gen.Kernel5Ideal.Frame
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Kernel6.Frame
public import proofs.«01_k».proof.Proof.Gen.Kernel6Ideal.Frame
public import proofs.«01_k».proof.Proof.Gen.Kernel6Ideal.Value
public import proofs.«01_k».proof.Proof.Gen.Reference6Ideal.Run
public import proofs.«01_k».proof.Proof.Gen.Reference6Ideal.Read
public import proofs.«01_k».proof.Proof.Gen.Kernel7.Frame
public import proofs.«01_k».proof.Proof.Gen.Kernel7Ideal.Frame
public import proofs.«01_k».proof.Proof.Gen.Kernel7Ideal.Value
public import proofs.«01_k».proof.Proof.Gen.Reference7Ideal.Run
public import proofs.«01_k».proof.Proof.Gen.Reference7Ideal.Read
public import proofs.«01_k».proof.Proof.Gen.Kernel8.Frame
public import proofs.«01_k».proof.Proof.Gen.Kernel8Ideal.Frame
public import proofs.«01_k».proof.Proof.Gen.Kernel8Ideal.Value
public import proofs.«01_k».proof.Proof.Gen.Reference8Ideal.Run
public import proofs.«01_k».proof.Proof.Gen.Reference8Ideal.Read
public import proofs.«01_k».proof.Proof.Gen.Kernel9.Frame
public import proofs.«01_k».proof.Proof.Gen.Kernel9Ideal.Frame
public import proofs.«01_k».proof.Proof.Gen.Kernel9Ideal.Value
public import proofs.«01_k».proof.Proof.Gen.Reference9Ideal.Run
public import proofs.«01_k».proof.Proof.Gen.Reference9Ideal.Read
public import proofs.«01_k».proof.Proof.Gen.Kernel10.Frame
public import proofs.«01_k».proof.Proof.Gen.Kernel10Ideal.Frame
public import proofs.«01_k».proof.Proof.Gen.Kernel10Ideal.Value
public import proofs.«01_k».proof.Proof.Gen.Reference10Ideal.Run
public import proofs.«01_k».proof.Proof.Gen.Reference10Ideal.Read
public import proofs.«01_k».proof.Proof.Gen.Kernel11.Frame
public import proofs.«01_k».proof.Proof.Gen.Kernel11Ideal.Frame
public import proofs.«01_k».proof.Proof.Gen.Kernel11Ideal.Value
public import proofs.«01_k».proof.Proof.Gen.Reference11Ideal.Run
public import proofs.«01_k».proof.Proof.Gen.Reference11Ideal.Read
public import proofs.«01_k».proof.Proof.Gen.Kernel12.Frame
public import proofs.«01_k».proof.Proof.Gen.Kernel12Ideal.Frame
public import proofs.«01_k».proof.Proof.Gen.Kernel12Ideal.Value
public import proofs.«01_k».proof.Proof.Gen.Reference12Ideal.Run
public import proofs.«01_k».proof.Proof.Gen.Reference12Ideal.Read
public import proofs.«01_k».proof.Proof.Gen.Kernel13.Frame
public import proofs.«01_k».proof.Proof.Gen.Kernel13Ideal.Frame
public import proofs.«01_k».proof.Proof.Gen.Kernel13Ideal.Value
public import proofs.«01_k».proof.Proof.Gen.Reference13Ideal.Run
public import proofs.«01_k».proof.Proof.Gen.Reference13Ideal.Read
public import proofs.«01_k».proof.Proof.Gen.Kernel14.Frame
public import proofs.«01_k».proof.Proof.Gen.Kernel14Ideal.Frame
public import proofs.«01_k».proof.Proof.Gen.Kernel14Ideal.Value
public import proofs.«01_k».proof.Proof.Gen.Reference14Ideal.Run
public import proofs.«01_k».proof.Proof.Gen.Reference14Ideal.Read
public import proofs.«01_k».proof.Proof.Gen.Kernel15.Frame
public import proofs.«01_k».proof.Proof.Gen.Kernel15Ideal.Frame
public import proofs.«01_k».proof.Proof.Gen.Kernel15Ideal.Value
public import proofs.«01_k».proof.Proof.Gen.Reference15Ideal.Run
public import proofs.«01_k».proof.Proof.Gen.Reference15Ideal.Read
public import proofs.«01_k».proof.Proof.Gen.Kernel16.Frame
public import proofs.«01_k».proof.Proof.Gen.Kernel16Ideal.Frame
public import proofs.«01_k».proof.Proof.Gen.Kernel16Ideal.Value
public import proofs.«01_k».proof.Proof.Gen.Reference16Ideal.Run
public import proofs.«01_k».proof.Proof.Gen.Reference16Ideal.Read
public import proofs.«01_k».proof.Proof.Gen.Kernel17.Frame
public import proofs.«01_k».proof.Proof.Gen.Kernel17Ideal.Frame
public import proofs.«01_k».proof.Proof.Gen.Kernel17Ideal.Value
public import proofs.«01_k».proof.Proof.Gen.Reference17Ideal.Run
public import proofs.«01_k».proof.Proof.Gen.Reference17Ideal.Read
public import proofs.«01_k».proof.Proof.Gen.Kernel18.Frame
public import proofs.«01_k».proof.Proof.Gen.Kernel18Ideal.Frame
public import proofs.«01_k».proof.Proof.Gen.Kernel18Ideal.Value
public import proofs.«01_k».proof.Proof.Gen.Reference18Ideal.Run
public import proofs.«01_k».proof.Proof.Gen.Reference18Ideal.Read
public import proofs.«01_k».proof.Proof.Gen.Kernel19.Frame
public import proofs.«01_k».proof.Proof.Gen.Kernel19Ideal.Frame
public import proofs.«01_k».proof.Proof.Gen.Kernel19Ideal.Value
public import proofs.«01_k».proof.Proof.Gen.Reference19Ideal.Run
public import proofs.«01_k».proof.Proof.Gen.Reference19Ideal.Read
public import proofs.«01_k».proof.Proof.Gen.Kernel20.Frame
public import proofs.«01_k».proof.Proof.Gen.Kernel20Ideal.Frame
public import proofs.«01_k».proof.Proof.Gen.Kernel20Ideal.Value
public import proofs.«01_k».proof.Proof.Gen.Reference20Ideal.Run
public import proofs.«01_k».proof.Proof.Gen.Reference20Ideal.Read
public import proofs.«01_k».proof.Proof.Gen.Kernel21.Frame
public import proofs.«01_k».proof.Proof.Gen.Kernel21Ideal.Frame
public import proofs.«01_k».proof.Proof.Gen.Kernel21Ideal.Value
public import proofs.«01_k».proof.Proof.Gen.Reference21Ideal.Run
public import proofs.«01_k».proof.Proof.Gen.Reference21Ideal.Read
public import proofs.«01_k».proof.Proof.SgClaim
public import proofs.«01_k».proof.Proof.Mm2
public import proofs.«01_k».proof.Proof.Mm3
public import proofs.«01_k».proof.Proof.Mm4
public import proofs.«01_k».proof.Proof.Mm5
public import proofs.«01_k».proof.Proof.Mm6
public import proofs.«01_k».proof.Proof.Mm7
public import proofs.«01_k».proof.Proof.Norm8
public import proofs.«01_k».proof.Proof.Norm9
public import proofs.«01_k».proof.Proof.Norm10
public import proofs.«01_k».proof.Proof.Mm11
public import proofs.«01_k».proof.Proof.Ad12
public import proofs.«01_k».proof.Proof.Ad13
public import proofs.«01_k».proof.Proof.Ad14
public import proofs.«01_k».proof.Proof.Ad15
public import proofs.«01_k».proof.Proof.Ad16
public import proofs.«01_k».proof.Proof.Ad17
public import proofs.«01_k».proof.Proof.Norm18
public import proofs.«01_k».proof.Proof.SgFwd
public import proofs.«01_k».proof.Proof.ConvBwd
public import proofs.«01_k».proof.Proof.NormUp

@[expose] public section

namespace Cert.Proof

/-- Everything the statement claims. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Kernel15.Gen.facts, Cert.Kernel15Ideal.Gen.facts, Cert.Reference15Ideal.Gen.facts,
    Cert.Kernel16.Gen.facts, Cert.Kernel16Ideal.Gen.facts, Cert.Reference16Ideal.Gen.facts,
    Cert.Kernel17.Gen.facts, Cert.Kernel17Ideal.Gen.facts, Cert.Reference17Ideal.Gen.facts,
    Cert.Kernel18.Gen.facts, Cert.Kernel18Ideal.Gen.facts, Cert.Reference18Ideal.Gen.facts,
    Cert.Kernel19.Gen.facts, Cert.Kernel19Ideal.Gen.facts, Cert.Reference19Ideal.Gen.facts,
    Cert.Kernel20.Gen.facts, Cert.Kernel20Ideal.Gen.facts, Cert.Reference20Ideal.Gen.facts,
    Cert.Kernel21.Gen.facts, Cert.Kernel21Ideal.Gen.facts, Cert.Reference21Ideal.Gen.facts,
    Cert.Pre_finite.Sg.facts, Cert.On_gmlp_columns.Sg.facts, Cert.On_up_results.Norm.facts,
    fun m ρ _ => Cert.Kernel.Gen.frame m ρ,
    fun m ρ _ => Cert.KernelIdeal.Gen.frame m ρ,
    fun m ρ _ => Cert.KernelIdeal.Gen.frame m ρ,
    Sg.frame_reference,
    fun m ρ _ => Sg.frame_reference m ρ trivial,
    fun m ρ _ => Cert.Kernel2.Gen.frame m ρ,
    fun m ρ _ => Cert.Kernel2Ideal.Gen.frame m ρ,
    Mm2.frame_reference,
    fun m ρ _ => Cert.Kernel3.Gen.frame m ρ,
    fun m ρ _ => Cert.Kernel3Ideal.Gen.frame m ρ,
    Mm3.frame_reference,
    fun m ρ _ => Cert.Kernel4.Gen.frame m ρ,
    fun m ρ _ => Cert.Kernel4Ideal.Gen.frame m ρ,
    Mm4.frame_reference,
    fun m ρ _ => Cert.Kernel5.Gen.frame m ρ,
    fun m ρ _ => Cert.Kernel5Ideal.Gen.frame m ρ,
    Mm5.frame_reference,
    fun m ρ _ => Cert.Kernel6.Gen.frame m ρ,
    fun m ρ _ => Cert.Kernel6Ideal.Gen.frame m ρ,
    Mm6.frame_reference,
    fun m ρ _ => Cert.Kernel7.Gen.frame m ρ,
    fun m ρ _ => Cert.Kernel7Ideal.Gen.frame m ρ,
    Mm7.frame_reference,
    fun m ρ _ => Cert.Kernel8.Gen.frame m ρ,
    fun m ρ _ => Cert.Kernel8Ideal.Gen.frame m ρ,
    Norm8.frame_reference,
    fun m ρ _ => Cert.Kernel9.Gen.frame m ρ,
    fun m ρ _ => Cert.Kernel9Ideal.Gen.frame m ρ,
    Norm9.frame_reference,
    fun m ρ _ => Cert.Kernel10.Gen.frame m ρ,
    fun m ρ _ => Cert.Kernel10Ideal.Gen.frame m ρ,
    Norm10.frame_reference,
    fun m ρ _ => Cert.Kernel11.Gen.frame m ρ,
    fun m ρ _ => Cert.Kernel11Ideal.Gen.frame m ρ,
    Mm11.frame_reference,
    fun m ρ _ => Cert.Kernel12.Gen.frame m ρ,
    fun m ρ _ => Cert.Kernel12Ideal.Gen.frame m ρ,
    Ad12.frame_reference,
    fun m ρ _ => Cert.Kernel13.Gen.frame m ρ,
    fun m ρ _ => Cert.Kernel13Ideal.Gen.frame m ρ,
    Ad13.frame_reference,
    fun m ρ _ => Cert.Kernel14.Gen.frame m ρ,
    fun m ρ _ => Cert.Kernel14Ideal.Gen.frame m ρ,
    Ad14.frame_reference,
    fun m ρ _ => Cert.Kernel15.Gen.frame m ρ,
    fun m ρ _ => Cert.Kernel15Ideal.Gen.frame m ρ,
    Ad15.frame_reference,
    fun m ρ _ => Cert.Kernel16.Gen.frame m ρ,
    fun m ρ _ => Cert.Kernel16Ideal.Gen.frame m ρ,
    Ad16.frame_reference,
    fun m ρ _ => Cert.Kernel17.Gen.frame m ρ,
    fun m ρ _ => Cert.Kernel17Ideal.Gen.frame m ρ,
    Ad17.frame_reference,
    fun m ρ _ => Cert.Kernel18.Gen.frame m ρ,
    fun m ρ _ => Cert.Kernel18Ideal.Gen.frame m ρ,
    Norm18.frame_reference,
    fun m ρ _ => Cert.Kernel19.Gen.frame m ρ,
    fun m ρ _ => Cert.Kernel19Ideal.Gen.frame m ρ,
    SgFwd.frame_reference,
    fun m ρ _ => Cert.Kernel20.Gen.frame m ρ,
    fun m ρ _ => Cert.Kernel20Ideal.Gen.frame m ρ,
    ConvBwd.frame_reference,
    fun m ρ _ => Cert.Kernel21.Gen.frame m ρ,
    fun m ρ _ => Cert.Kernel21Ideal.Gen.frame m ρ,
    NormUp.frame_reference,
    Sg.preserves,
    Sg.algebraic,
    trivial,
    Mm2.algebraic,
    trivial,
    Mm3.algebraic,
    trivial,
    Mm4.algebraic,
    trivial,
    Mm5.algebraic,
    trivial,
    Mm6.algebraic,
    trivial,
    Mm7.algebraic,
    trivial,
    Norm8.algebraic,
    trivial,
    Norm9.algebraic,
    trivial,
    Norm10.algebraic,
    trivial,
    Mm11.algebraic,
    trivial,
    Ad12.algebraic,
    trivial,
    Ad13.algebraic,
    trivial,
    Ad14.algebraic,
    trivial,
    Ad15.algebraic,
    trivial,
    Ad16.algebraic,
    trivial,
    Ad17.algebraic,
    trivial,
    Norm18.algebraic,
    SgFwd.preserves,
    SgFwd.algebraic,
    trivial,
    ConvBwd.algebraic,
    trivial,
    NormUp.algebraic⟩

end Cert.Proof

end
